-- ==== Defs.lean ====
def Pre_Kernel [hPre_attention_inputs : Cert.Pre_attention_inputs.Facts] (m : (ℓ : Loc Cert.Kernel.nD Cert.Kernel.τ Cert.Kernel.sig) → Buf (Elt Bits) ℓ) : Prop :=
  ∀ c : Dev Cert.Kernel.nD,
    (Cert.Pre_attention_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_attention_inputs : Cert.Pre_attention_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_attention_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_attention_inputs : Cert.Pre_attention_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attention_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_window_inputs : Cert.Pre_window_inputs.Facts] (m : (ℓ : Loc Cert.Kernel4.nD Cert.Kernel4.τ Cert.Kernel4.sig) → Buf (Elt Bits) ℓ) : Prop :=
  ∀ c : Dev Cert.Kernel4.nD,
    (Cert.Pre_window_inputs.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3))) = (fun _ => 1#1)

def Pre_Kernel4Ideal [hPre_window_inputs : Cert.Pre_window_inputs.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_window_inputs.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal [hPre_window_inputs : Cert.Pre_window_inputs.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_window_inputs.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def quiescent_Kernel [hKernel : Cert.Kernel.Facts] [hPre_attention_inputs : Cert.Pre_attention_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_attention_inputs : Cert.Pre_attention_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_attention_inputs : Cert.Pre_attention_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] [hPre_window_inputs : Cert.Pre_window_inputs.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] [hPre_window_inputs : Cert.Pre_window_inputs.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] [hPre_window_inputs : Cert.Pre_window_inputs.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_attention_inputs : Cert.Pre_attention_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v30_0)) (v1 : (c : Dev Cert.Kernel3Ideal.nD) → Buf (Elt Ideal) ((c.tc : Thread Cert.Kernel3Ideal.nD Cert.Kernel3Ideal.τ).loc Cert.Kernel3Ideal.main_v30_1)) (v2 : (c : Dev Cert.Kernel3Ideal.nD) → Buf (Elt Ideal) ((c.tc : Thread Cert.Kernel3Ideal.nD Cert.Kernel3Ideal.τ).loc Cert.Kernel3Ideal.main_v30_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v30_0) = v0 c
          ∧ r.2.mem ((c.tc : Thread Cert.Kernel3Ideal.nD Cert.Kernel3Ideal.τ).loc Cert.Kernel3Ideal.main_v30_1) = v1 c
          ∧ r.2.mem ((c.tc : Thread Cert.Kernel3Ideal.nD Cert.Kernel3Ideal.τ).loc Cert.Kernel3Ideal.main_v30_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v92) = v0 c
          ∧ r.2.mem ((c.tc : Thread Cert.Reference3Ideal.nD Cert.Reference3Ideal.τ).loc Cert.Reference3Ideal.main_v95) = v1 c
          ∧ r.2.mem ((c.tc : Thread Cert.Reference3Ideal.nD Cert.Reference3Ideal.τ).loc Cert.Reference3Ideal.main_v98) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.named_const.Statement Cert.Kernel4Ideal.κ "mask" .f32 0xF149F2CA#32 ⊥

def algebraic_Kernel4Ideal_Reference4Ideal [hKernel4Ideal : Cert.Kernel4Ideal.Facts] [hReference4Ideal : Cert.Reference4Ideal.Facts] [hPre_window_inputs : Cert.Pre_window_inputs.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v76) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_attention_inputs : Cert.Pre_attention_inputs.Facts) (hPre_window_inputs : Cert.Pre_window_inputs.Facts),
    quiescent_Kernel (hKernel := hKernel) (hPre_attention_inputs := hPre_attention_inputs)
    ∧ quiescent_KernelIdeal (hKernelIdeal := hKernelIdeal) (hPre_attention_inputs := hPre_attention_inputs)
    ∧ quiescent_ReferenceIdeal (hReferenceIdeal := hReferenceIdeal) (hPre_attention_inputs := hPre_attention_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_window_inputs := hPre_window_inputs)
    ∧ quiescent_Kernel4Ideal (hKernel4Ideal := hKernel4Ideal) (hPre_window_inputs := hPre_window_inputs)
    ∧ quiescent_Reference4Ideal (hReference4Ideal := hReference4Ideal) (hPre_window_inputs := hPre_window_inputs)
    ∧ preserves_Kernel_KernelIdeal
    ∧ algebraic_KernelIdeal_ReferenceIdeal (hKernelIdeal := hKernelIdeal) (hReferenceIdeal := hReferenceIdeal) (hPre_attention_inputs := hPre_attention_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_window_inputs := hPre_window_inputs)
-- ==== Pre_attention_inputs.lean ====
abbrev S1024 : Shape := ⟨1, ![1024]⟩
abbrev S32 : Shape := ⟨1, ![32]⟩
abbrev S2x16384x2048 : Shape := ⟨3, ![2, 16384, 2048]⟩
abbrev S2x16x32 : Shape := ⟨3, ![2, 16, 32]⟩
abbrev S2x32x16 : Shape := ⟨3, ![2, 32, 16]⟩
abbrev S2x32x1x16x1 : Shape := ⟨5, ![2, 32, 1, 16, 1]⟩
abbrev S_ : Shape := ⟨0, ![]⟩
abbrev S1x32x1x1x1 : Shape := ⟨5, ![1, 32, 1, 1, 1]⟩
abbrev S128 : Shape := ⟨1, ![128]⟩
abbrev S2x32x512x16x128 : Shape := ⟨5, ![2, 32, 512, 16, 128]⟩
abbrev S1x1x1x1x128 : Shape := ⟨5, ![1, 1, 1, 1, 128]⟩
abbrev S2x1x1x16x1 : Shape := ⟨5, ![2, 1, 1, 16, 1]⟩

class Facts : Prop where
  shapeCasts_S1024_S2x16x32 : S1024.ShapeCasts S2x16x32
  transposes_S2x16x32_S2x32x16_0_2_1 : S2x16x32.Transposes [0, 2, 1] S2x32x16
  bcast_S2x32x16_S2x32x1x16x1_0_1_3 : S2x32x16.BroadcastsInDim S2x32x1x16x1 (![0, 1, 3] : Fin 3 → Fin S2x32x1x16x1.rank)
  bcast_S_S2x32x1x16x1 : S_.BroadcastsInDim S2x32x1x16x1 (![] : Fin 0 → Fin S2x32x1x16x1.rank)
  bcast_S32_S1x32x1x1x1_1 : S32.BroadcastsInDim S1x32x1x1x1 (![1] : Fin 1 → Fin S1x32x1x1x1.rank)
  bcast_S1x32x1x1x1_S2x32x1x16x1_0_1_2_3_4 : S1x32x1x1x1.BroadcastsInDim S2x32x1x16x1 (![0, 1, 2, 3, 4] : Fin 5 → Fin S2x32x1x16x1.rank)
  bcast_S_S128 : S_.BroadcastsInDim S128 (![] : Fin 0 → Fin S128.rank)
  shapeCasts_S2x16384x2048_S2x32x512x16x128 : S2x16384x2048.ShapeCasts S2x32x512x16x128
  bcast_S_S2x32x512x16x128 : S_.BroadcastsInDim S2x32x512x16x128 (![] : Fin 0 → Fin S2x32x512x16x128.rank)
  bcast_S128_S1x1x1x1x128_4 : S128.BroadcastsInDim S1x1x1x1x128 (![4] : Fin 1 → Fin S1x1x1x1x128.rank)
  bcast_S1x1x1x1x128_S2x32x512x16x128_0_1_2_3_4 : S1x1x1x1x128.BroadcastsInDim S2x32x512x16x128 (![0, 1, 2, 3, 4] : Fin 5 → Fin S2x32x512x16x128.rank)
  shapeCasts_S32_S2x1x1x16x1 : S32.ShapeCasts S2x1x1x16x1
  bcast_S_S2x1x1x16x1 : S_.BroadcastsInDim S2x1x1x16x1 (![] : Fin 0 → Fin S2x1x1x16x1.rank)
  bcast_S2x1x1x16x1_S2x32x512x16x128_0_1_2_3_4 : S2x1x1x16x1.BroadcastsInDim S2x32x512x16x128 (![0, 1, 2, 3, 4] : Fin 5 → Fin S2x32x512x16x128.rank)
  bcast_S2x32x1x16x1_S2x32x512x16x128_0_1_2_3_4 : S2x32x1x16x1.BroadcastsInDim S2x32x512x16x128 (![0, 1, 2, 3, 4] : Fin 5 → Fin S2x32x512x16x128.rank)

variable [Facts]

def fn_part1 {F : FTy → Type} [FloatOps F] (main_arg1 : FVec F S32 .f32) (main_arg3 : FVec F S2x16384x2048 .bf16) (main_v9 : IVec S2x32x1x16x1 1) (main_v18 : IVec S2x32x512x16x128 1) (main_v20 : FVec F S2x32x512x16x128 .bf16) : IVec S2x32x512x16x128 1 :=
  let main_cst_1 : FVec F S_ .bf16 := constant S_ .bf16 0x7F80#16
  let main_v21 : FVec F S2x32x512x16x128 .bf16 := broadcastInDim S2x32x512x16x128 ![] bcast_S_S2x32x512x16x128 main_cst_1
  let main_v22 : IVec S2x32x512x16x128 1 := cmpf .olt main_v20 main_v21
  let main_v23 : FVec F S2x32x512x16x128 .bf16 := shapeCast S2x32x512x16x128 main_arg3 shapeCasts_S2x16384x2048_S2x32x512x16x128
  let main_v24 : FVec F S2x32x512x16x128 .bf16 := Host.absf main_v23
  let main_cst_2 : FVec F S_ .bf16 := constant S_ .bf16 0x7F80#16
  let main_v25 : FVec F S2x32x512x16x128 .bf16 := broadcastInDim S2x32x512x16x128 ![] bcast_S_S2x32x512x16x128 main_cst_2
  let main_v26 : IVec S2x32x512x16x128 1 := cmpf .olt main_v24 main_v25
  let main_v27 : IVec S2x32x512x16x128 1 := andi main_v22 main_v26
  let main_v28 : FVec F S2x1x1x16x1 .f32 := shapeCast S2x1x1x16x1 main_arg1 shapeCasts_S32_S2x1x1x16x1
  let main_v29 : FVec F S2x1x1x16x1 .f32 := Host.absf main_v28
  let main_cst_3 : FVec F S_ .f32 := constant S_ .f32 0x7F800000#32
  let main_v30 : FVec F S2x1x1x16x1 .f32 := broadcastInDim S2x1x1x16x1 ![] bcast_S_S2x1x1x16x1 main_cst_3
  let main_v31 : IVec S2x1x1x16x1 1 := cmpf .olt main_v29 main_v30
  let main_v32 : IVec S2x32x512x16x128 1 := broadcastInDim S2x32x512x16x128 ![0, 1, 2, 3, 4] bcast_S2x1x1x16x1_S2x32x512x16x128_0_1_2_3_4 main_v31
  let main_v33 : IVec S2x32x512x16x128 1 := andi main_v27 main_v32
  let main_v34 : IVec S2x32x512x16x128 1 := broadcastInDim S2x32x512x16x128 ![0, 1, 2, 3, 4] bcast_S2x32x1x16x1_S2x32x512x16x128_0_1_2_3_4 main_v9
  let main_v35 : IVec S2x32x512x16x128 1 := andi main_v33 main_v34
  let main_v36 : IVec S2x32x512x16x128 1 := andi main_v35 main_v18
  main_v36

def fn {F : FTy → Type} [FloatOps F] (main_arg0 : IVec S1024 32) (main_arg1 : FVec F S32 .f32) (main_arg2 : FVec F S2x16384x2048 .bf16) (main_arg3 : FVec F S2x16384x2048 .bf16) (main_arg4 : FVec F S2x16384x2048 .bf16) : IVec S2x32x512x16x128 1 :=
  let main_v0 : IVec S2x16x32 32 := shapeCast S2x16x32 main_arg0 shapeCasts_S1024_S2x16x32
  let main_v1 : IVec S2x32x16 32 := (transpose S2x32x16 [0, 2, 1] · transposes_S2x16x32_S2x32x16_0_2_1) main_v0
  let main_v2 : IVec S2x32x1x16x1 32 := broadcastInDim S2x32x1x16x1 ![0, 1, 3] bcast_S2x32x16_S2x32x1x16x1_0_1_3 main_v1
  let main_c : IVec S_ 32 := constantI S_ 32 0#32
  let main_v3 : IVec S2x32x1x16x1 32 := broadcastInDim S2x32x1x16x1 ![] bcast_S_S2x32x1x16x1 main_c
  let main_v4 : IVec S2x32x1x16x1 1 := cmpi .sge main_v2 main_v3
  let main_v5 : IVec S32 32 := iotaInDim S32 32 0
  let main_v6 : IVec S1x32x1x1x1 32 := broadcastInDim S1x32x1x1x1 ![1] bcast_S32_S1x32x1x1x1_1 main_v5
  let main_v7 : IVec S2x32x1x16x1 32 := broadcastInDim S2x32x1x16x1 ![0, 1, 2, 3, 4] bcast_S1x32x1x1x1_S2x32x1x16x1_0_1_2_3_4 main_v6
  let main_v8 : IVec S2x32x1x16x1 1 := cmpi .sle main_v2 main_v7
  let main_v9 : IVec S2x32x1x16x1 1 := andi main_v4 main_v8
  let main_v10 : IVec S128 32 := iotaInDim S128 32 0
  let main_c_0 : IVec S_ 32 := constantI S_ 32 64#32
  let main_v11 : IVec S128 32 := broadcastInDim S128 ![] bcast_S_S128 main_c_0
  let main_v12 : IVec S128 1 := cmpi .ne main_v10 main_v11
  let main_v13 : FVec F S2x32x512x16x128 .bf16 := shapeCast S2x32x512x16x128 main_arg4 shapeCasts_S2x16384x2048_S2x32x512x16x128
  let main_cst : FVec F S_ .bf16 := constant S_ .bf16 0x3F80#16
  let main_v14 : FVec F S2x32x512x16x128 .bf16 := broadcastInDim S2x32x512x16x128 ![] bcast_S_S2x32x512x16x128 main_cst
  let main_v15 : IVec S2x32x512x16x128 1 := cmpf .oeq main_v13 main_v14
  let main_v16 : IVec S1x1x1x1x128 1 := broadcastInDim S1x1x1x1x128 ![4] bcast_S128_S1x1x1x1x128_4 main_v12
  let main_v17 : IVec S2x32x512x16x128 1 := broadcastInDim S2x32x512x16x128 ![0, 1, 2, 3, 4] bcast_S1x1x1x1x128_S2x32x512x16x128_0_1_2_3_4 main_v16
  let main_v18 : IVec S2x32x512x16x128 1 := ori main_v17 main_v15
  let main_v19 : FVec F S2x32x512x16x128 .bf16 := shapeCast S2x32x512x16x128 main_arg2 shapeCasts_S2x16384x2048_S2x32x512x16x128
  let main_v20 : FVec F S2x32x512x16x128 .bf16 := Host.absf main_v19
  fn_part1 (F := F) main_arg1 main_arg3 main_v9 main_v18 main_v20
-- ==== Pre_window_inputs.lean ====
abbrev S2x16384x1024 : Shape := ⟨3, ![2, 16384, 1024]⟩
abbrev S2x16384x256 : Shape := ⟨3, ![2, 16384, 256]⟩
abbrev S16 : Shape := ⟨1, ![16]⟩
abbrev S1x1x4x4x1 : Shape := ⟨5, ![1, 1, 4, 4, 1]⟩
abbrev S_ : Shape := ⟨0, ![]⟩
abbrev S2x16384x4x4x64 : Shape := ⟨5, ![2, 16384, 4, 4, 64]⟩
abbrev S2x16384x4x1x64 : Shape := ⟨5, ![2, 16384, 4, 1, 64]⟩

class Facts : Prop where
  shapeCasts_S16_S1x1x4x4x1 : S16.ShapeCasts S1x1x4x4x1
  bcast_S_S1x1x4x4x1 : S_.BroadcastsInDim S1x1x4x4x1 (![] : Fin 0 → Fin S1x1x4x4x1.rank)
  shapeCasts_S2x16384x1024_S2x16384x4x4x64 : S2x16384x1024.ShapeCasts S2x16384x4x4x64
  bcast_S_S2x16384x4x4x64 : S_.BroadcastsInDim S2x16384x4x4x64 (![] : Fin 0 → Fin S2x16384x4x4x64.rank)
  shapeCasts_S2x16384x256_S2x16384x4x1x64 : S2x16384x256.ShapeCasts S2x16384x4x1x64
  bcast_S_S2x16384x4x1x64 : S_.BroadcastsInDim S2x16384x4x1x64 (![] : Fin 0 → Fin S2x16384x4x1x64.rank)
  bcast_S2x16384x4x1x64_S2x16384x4x4x64_0_1_2_3_4 : S2x16384x4x1x64.BroadcastsInDim S2x16384x4x4x64 (![0, 1, 2, 3, 4] : Fin 5 → Fin S2x16384x4x4x64.rank)
  bcast_S1x1x4x4x1_S2x16384x4x4x64_0_1_2_3_4 : S1x1x4x4x1.BroadcastsInDim S2x16384x4x4x64 (![0, 1, 2, 3, 4] : Fin 5 → Fin S2x16384x4x4x64.rank)

variable [Facts]

def fn {F : FTy → Type} [FloatOps F] (main_arg0 : FVec F S2x16384x1024 .bf16) (main_arg1 : FVec F S2x16384x256 .bf16) (main_arg2 : FVec F S2x16384x256 .bf16) (main_arg3 : FVec F S16 .f32) : IVec S2x16384x4x4x64 1 :=
  let main_v0 : FVec F S1x1x4x4x1 .f32 := shapeCast S1x1x4x4x1 main_arg3 shapeCasts_S16_S1x1x4x4x1
  let main_cst : FVec F S_ .f32 := constant S_ .f32 0x7F800000#32
  let main_v1 : FVec F S1x1x4x4x1 .f32 := broadcastInDim S1x1x4x4x1 ![] bcast_S_S1x1x4x4x1 main_cst
  let main_v2 : IVec S1x1x4x4x1 1 := cmpf .olt main_v0 main_v1
  let main_v3 : FVec F S2x16384x4x4x64 .bf16 := shapeCast S2x16384x4x4x64 main_arg0 shapeCasts_S2x16384x1024_S2x16384x4x4x64
  let main_v4 : FVec F S2x16384x4x4x64 .bf16 := Host.absf main_v3
  let main_cst_0 : FVec F S_ .bf16 := constant S_ .bf16 0x7F80#16
  let main_v5 : FVec F S2x16384x4x4x64 .bf16 := broadcastInDim S2x16384x4x4x64 ![] bcast_S_S2x16384x4x4x64 main_cst_0
  let main_v6 : IVec S2x16384x4x4x64 1 := cmpf .olt main_v4 main_v5
  let main_v7 : FVec F S2x16384x4x1x64 .bf16 := shapeCast S2x16384x4x1x64 main_arg1 shapeCasts_S2x16384x256_S2x16384x4x1x64
  let main_v8 : FVec F S2x16384x4x1x64 .bf16 := Host.absf main_v7
  let main_cst_1 : FVec F S_ .bf16 := constant S_ .bf16 0x7F80#16
  let main_v9 : FVec F S2x16384x4x1x64 .bf16 := broadcastInDim S2x16384x4x1x64 ![] bcast_S_S2x16384x4x1x64 main_cst_1
  let main_v10 : IVec S2x16384x4x1x64 1 := cmpf .olt main_v8 main_v9
  let main_v11 : IVec S2x16384x4x4x64 1 := broadcastInDim S2x16384x4x4x64 ![0, 1, 2, 3, 4] bcast_S2x16384x4x1x64_S2x16384x4x4x64_0_1_2_3_4 main_v10
  let main_v12 : IVec S2x16384x4x4x64 1 := andi main_v6 main_v11
  let main_v13 : IVec S2x16384x4x4x64 1 := broadcastInDim S2x16384x4x4x64 ![0, 1, 2, 3, 4] bcast_S1x1x4x4x1_S2x16384x4x4x64_0_1_2_3_4 main_v2
  let main_v14 : IVec S2x16384x4x4x64 1 := andi main_v12 main_v13
  main_v14
-- ==== Kernel.lean ====
abbrev S1024 : Shape := ⟨1, ![1024]⟩
abbrev S32 : Shape := ⟨1, ![32]⟩
abbrev S2x16384x2048 : Shape := ⟨3, ![2, 16384, 2048]⟩
abbrev S2x16384x1024 : Shape := ⟨3, ![2, 16384, 1024]⟩
abbrev S1x2048x256 : Shape := ⟨3, ![1, 2048, 256]⟩
abbrev S1x16384x256 : Shape := ⟨3, ![1, 16384, 256]⟩
abbrev S1x2048x128 : Shape := ⟨3, ![1, 2048, 128]⟩
abbrev S256x16384 : Shape := ⟨2, ![256, 16384]⟩
abbrev S256x512 : Shape := ⟨2, ![256, 512]⟩
abbrev S2x1x512 : Shape := ⟨3, ![2, 1, 512]⟩
abbrev S2x128x512 : Shape := ⟨3, ![2, 128, 512]⟩
abbrev S2x2048x512 : Shape := ⟨3, ![2, 2048, 512]⟩
abbrev S1 : Shape := ⟨1, ![1]⟩
abbrev S1x512x256 : Shape := ⟨3, ![1, 512, 256]⟩
abbrev S512x256 : Shape := ⟨2, ![512, 256]⟩
abbrev S64x512 : Shape := ⟨2, ![64, 512]⟩
abbrev S512 : Shape := ⟨1, ![512]⟩
abbrev S1x512 : Shape := ⟨2, ![1, 512]⟩
abbrev S1x1x512 : Shape := ⟨3, ![1, 1, 512]⟩
abbrev S1x512x128 : Shape := ⟨3, ![1, 512, 128]⟩
abbrev S512x128 : Shape := ⟨2, ![512, 128]⟩
abbrev S128x512 : Shape := ⟨2, ![128, 512]⟩
abbrev S512x512 : Shape := ⟨2, ![512, 512]⟩
abbrev S1x512x512 : Shape := ⟨3, ![1, 512, 512]⟩
abbrev S128x2048 : Shape := ⟨2, ![128, 2048]⟩
abbrev S1x128x512 : Shape := ⟨3, ![1, 128, 512]⟩
abbrev S1x2048x512 : Shape := ⟨3, ![1, 2048, 512]⟩
abbrev S2048x512 : Shape := ⟨2, ![2048, 512]⟩
abbrev S128x1024 : Shape := ⟨2, ![128, 1024]⟩
abbrev S1x1024x512 : Shape := ⟨3, ![1, 1024, 512]⟩
abbrev S1024x512 : Shape := ⟨2, ![1024, 512]⟩
abbrev S128x1536 : Shape := ⟨2, ![128, 1536]⟩
abbrev S1x1536x512 : Shape := ⟨3, ![1, 1536, 512]⟩
abbrev S1536x512 : Shape := ⟨2, ![1536, 512]⟩

abbrev nBuf : Space → Nat
  | .hbm => 5
  | .vmem => 13
  | .smem => 2
  | _ => 0

abbrev bufTy : (tb : Table) → Fin (tcTables nBuf tb) → BufTy
  | .hbm, ⟨0, _⟩ => ⟨S32, .f32⟩
  | .hbm, ⟨1, _⟩ => ⟨S2x16384x2048, .bf16⟩
  | .hbm, ⟨2, _⟩ => ⟨S2x16384x2048, .bf16⟩
  | .hbm, ⟨3, _⟩ => ⟨S2x16384x2048, .bf16⟩
  | .hbm, ⟨4, _⟩ => ⟨S2x16384x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x16384x256, .bf16⟩
  | .local _ .vmem, ⟨3, _⟩ => ⟨S1x16384x256, .bf16⟩
  | .local _ .vmem, ⟨4, _⟩ => ⟨S1x16384x256, .bf16⟩
  | .local _ .vmem, ⟨5, _⟩ => ⟨S1x16384x256, .bf16⟩
  | .local _ .vmem, ⟨6, _⟩ => ⟨S1x2048x128, .bf16⟩
  | .local _ .vmem, ⟨7, _⟩ => ⟨S1x2048x128, .bf16⟩
  | .local _ .vmem, ⟨8, _⟩ => ⟨S256x16384, .bf16⟩
  | .local _ .vmem, ⟨9, _⟩ => ⟨S256x512, .bf16⟩
  | .local _ .vmem, ⟨10, _⟩ => ⟨S2x1x512, .f32⟩
  | .local _ .vmem, ⟨11, _⟩ => ⟨S2x128x512, .f32⟩
  | .local _ .vmem, ⟨12, _⟩ => ⟨S2x2048x512, .bf16⟩
  | .local _ .smem, ⟨0, _⟩ => ⟨S1024, .i32⟩
  | .local _ .smem, ⟨1, _⟩ => ⟨S32, .f32⟩
  | _, _ => ⟨S32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 8, 8], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32 : BitVec 32 := 512#32
  let v1 : BitVec 32 := Scalar.muli arg14 c512_i32
  v1
def k0_off1 (i : grid0.Coords) (k0_t1 : Fin k0_t1_loop.trips) : Fin 1 → Nat :=
  let arg0 : BitVec 32 := BitVec.ofNat 32 (i 0).val
  let c16_i32 : BitVec 32 := 16#32
  let v5 : BitVec 32 := Scalar.muli arg0 c16_i32
  let c2_i32 : BitVec 32 := 2#32
  let arg1 : BitVec 32 := BitVec.ofNat 32 (i 1).val
  let v6 : BitVec 32 := Scalar.muli c2_i32 arg1
  let v7 : BitVec 32 := Scalar.addi v5 v6
  let c32_i32 : BitVec 32 := 32#32
  let v8 : BitVec 32 := Scalar.muli v7 c32_i32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let v9 : BitVec 32 := Scalar.addi v8 v4
  let v10 : Index := Scalar.indexCast v9
  ![v10.toNat]
def k0_off2 (i : grid0.Coords) (k0_t1 : Fin k0_t1_loop.trips) : Fin 1 → Nat :=
  let arg0 : BitVec 32 := BitVec.ofNat 32 (i 0).val
  let c16_i32 : BitVec 32 := 16#32
  let v5 : BitVec 32 := Scalar.muli arg0 c16_i32
  let c2_i32 : BitVec 32 := 2#32
  let arg1 : BitVec 32 := BitVec.ofNat 32 (i 1).val
  let v6 : BitVec 32 := Scalar.muli c2_i32 arg1
  let v7 : BitVec 32 := Scalar.addi v5 v6
  let c32_i32 : BitVec 32 := 32#32
  let v8 : BitVec 32 := Scalar.muli v7 c32_i32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let v9 : BitVec 32 := Scalar.addi v8 v4
  let c32_i32_2 : BitVec 32 := 32#32
  let v12 : BitVec 32 := Scalar.addi v9 c32_i32_2
  let v13 : Index := Scalar.indexCast v12
  ![v13.toNat]
def k0_off3 (k0_t1 : Fin k0_t1_loop.trips) : Fin 3 → Nat :=
  let c0 : Index := 0#32
  let c0_i32 : BitVec 32 := 0#32
  let c1_i32 : BitVec 32 := 1#32
  let arg14 : BitVec 32 := Scf.iv c0_i32 c1_i32 k0_t1
  let c512_i32 : BitVec 32 := 512#32
  let v1 : BitVec 32 := Scalar.muli arg14 c512_i32
  let v2 : BitVec 32 := v1
  let v19 : Index := Scalar.indexCast v2
  let c0_5 : Index := 0#32
  ![0, v19.toNat, 0]
def k0_off4 (i : grid0.Coords) (c0_i32_16 : BitVec 32) : Fin 1 → Nat :=
  let arg0 : BitVec 32 := BitVec.ofNat 32 (i 0).val
  let c16_i32_14 : BitVec 32 := 16#32
  let v36 : BitVec 32 := Scalar.muli arg0 c16_i32_14
  let c2_i32_15 : BitVec 32 := 2#32
  let arg1 : BitVec 32 := BitVec.ofNat 32 (i 1).val
  let v37 : BitVec 32 := Scalar.muli c2_i32_15 arg1
  let v38 : BitVec 32 := Scalar.addi v36 v37
  let v39 : BitVec 32 := Scalar.addi v38 c0_i32_16
  let v40 : Index := Scalar.indexCast v39
  ![v40.toNat]
@[reducible] def k0_t2_loop (v11 : BitVec 32) (v14 : BitVec 32) : Scf.Loop 32 :=
  let c0_i32_72 : BitVec 32 := 0#32
  let v15 : BitVec 32 := Scalar.maxsi v11 v14
  let v138 : BitVec 32 := Scalar.subi v15 v11
  let c0_i32_65 : BitVec 32 := 0#32
  let v140 : BitVec 1 := Scalar.cmpi .sgt v138 c0_i32_65
  let v141 : BitVec 32 := Scalar.extui v140
  let c0_i32_66 : BitVec 32 := 0#32
  let v142 : BitVec 1 := Scalar.cmpi .slt v138 c0_i32_66
  let v143 : BitVec 32 := Scalar.extui v142
  let v144 : BitVec 32 := Scalar.subi v141 v143
  let c4_i32_64 : BitVec 32 := 4#32
  let c0_i32_67 : BitVec 32 := 0#32
  let v145 : BitVec 1 := Scalar.cmpi .sgt c4_i32_64 c0_i32_67
  let v146 : BitVec 32 := Scalar.extui v145
  let c0_i32_68 : BitVec 32 := 0#32
  let v147 : BitVec 1 := Scalar.cmpi .slt c4_i32_64 c0_i32_68
  let v148 : BitVec 32 := Scalar.extui v147
  let v149 : BitVec 32 := Scalar.subi v146 v148
  let v150 : BitVec 1 := Scalar.cmpi .ne v144 v149
  let v151 : BitVec 32 := Scalar.remsi v138 c4_i32_64
  let c0_i32_69 : BitVec 32 := 0#32
  let v152 : BitVec 1 := Scalar.cmpi .ne v151 c0_i32_69
  let v153 : BitVec 1 := Scalar.andi v150 v152
  let v139 : BitVec 32 := Scalar.divsi v138 c4_i32_64
  let c1_i32_70 : BitVec 32 := 1#32
  let v154 : BitVec 32 := Scalar.subi v139 c1_i32_70
  let v155 : BitVec 32 := Scalar.select v153 v154 v139
  let v156 : BitVec 32 := Scalar.subi v155 c0_i32_72
  let c1_i32_73 : BitVec 32 := 1#32
  let v158 : BitVec 32 := Scalar.divsi v156 c1_i32_73
  let v159 : BitVec 32 := Scalar.muli v158 c1_i32_73
  let v160 : BitVec 32 := Scalar.addi c0_i32_72 v159
  let c1_i32_74 : BitVec 32 := 1#32
  ⟨c0_i32_72, v160, c1_i32_74⟩
def k0_cond2 (v11 : BitVec 32) (v14 : BitVec 32) : BitVec 1 :=
  let v15 : BitVec 32 := Scalar.maxsi v11 v14
  let v66 : BitVec 1 := Scalar.cmpi .slt v11 v15
  let v67 : BitVec 32 := Scalar.extui v66
  let c0_i32_29 : BitVec 32 := 0#32
  let v68 : BitVec 1 := Scalar.cmpi .ne v67 c0_i32_29
  v68

def k0_mult2 (v11 : BitVec 32) (v14 : BitVec 32) (k0_t2 : Fin (k0_t2_loop v11 v14).trips) : BitVec 32 :=
  let c4_i32_100 : BitVec 32 := 4#32
  let c0_i32_72 : BitVec 32 := 0#32
  let c1_i32_74 : BitVec 32 := 1#32
  let arg15 : BitVec 32 := Scf.iv c0_i32_72 c1_i32_74 k0_t2
  let v200 : BitVec 32 := Scalar.muli c4_i32_100 arg15
  let v201 : BitVec 32 := Scalar.addi v11 v200
  let c512_i32_101 : BitVec 32 := 512#32
  let v202 : BitVec 32 := Scalar.muli v201 c512_i32_101
  v202
def k0_off5 (v11 : BitVec 32) (v14 : BitVec 32) (k0_t2 : Fin (k0_t2_loop v11 v14).trips) (c0_i32_102 : BitVec 32) : Fin 3 → Nat :=
  let c0_103 : Index := 0#32
  let c4_i32_100 : BitVec 32 := 4#32
  let c0_i32_72 : BitVec 32 := 0#32
  let c1_i32_74 : BitVec 32 := 1#32
  let arg15 : BitVec 32 := Scf.iv c0_i32_72 c1_i32_74 k0_t2
  let v200 : BitVec 32 := Scalar.muli c4_i32_100 arg15
  let v201 : BitVec 32 := Scalar.addi v11 v200
  let c512_i32_101 : BitVec 32 := 512#32
  let v202 : BitVec 32 := Scalar.muli v201 c512_i32_101
  let v203 : BitVec 32 := v202
  let v204 : BitVec 32 := Scalar.addi v203 c0_i32_102
  let v205 : Index := Scalar.indexCast v204
  let c0_104 : Index := 0#32
  ![0, v205.toNat, 0]
def k0_off6 (v11 : BitVec 32) (v14 : BitVec 32) (k0_t2 : Fin (k0_t2_loop v11 v14).trips) : Fin 2 → Nat :=
  let c0_145 : Index := 0#32
  let c4_i32_100 : BitVec 32 := 4#32
  let c0_i32_72 : BitVec 32 := 0#32
  let c1_i32_74 : BitVec 32 := 1#32
  let arg15 : BitVec 32 := Scf.iv c0_i32_72 c1_i32_74 k0_t2
  let v200 : BitVec 32 := Scalar.muli c4_i32_100 arg15
  let v201 : BitVec 32 := Scalar.addi v11 v200
  let c512_i32_101 : BitVec 32 := 512#32
  let v202 : BitVec 32 := Scalar.muli v201 c512_i32_101
  let v203 : BitVec 32 := v202
  let v264 : Index := Scalar.indexCast v203
  ![0, v264.toNat]
@[reducible] def k0_t3_loop (v11 : BitVec 32) (v14 : BitVec 32) : Scf.Loop 32 :=
  let c0_i32_72 : BitVec 32 := 0#32
  let v15 : BitVec 32 := Scalar.maxsi v11 v14
  let v138 : BitVec 32 := Scalar.subi v15 v11
  let c0_i32_65 : BitVec 32 := 0#32
  let v140 : BitVec 1 := Scalar.cmpi .sgt v138 c0_i32_65
  let v141 : BitVec 32 := Scalar.extui v140
  let c0_i32_66 : BitVec 32 := 0#32
  let v142 : BitVec 1 := Scalar.cmpi .slt v138 c0_i32_66
  let v143 : BitVec 32 := Scalar.extui v142
  let v144 : BitVec 32 := Scalar.subi v141 v143
  let c4_i32_64 : BitVec 32 := 4#32
  let c0_i32_67 : BitVec 32 := 0#32
  let v145 : BitVec 1 := Scalar.cmpi .sgt c4_i32_64 c0_i32_67
  let v146 : BitVec 32 := Scalar.extui v145
  let c0_i32_68 : BitVec 32 := 0#32
  let v147 : BitVec 1 := Scalar.cmpi .slt c4_i32_64 c0_i32_68
  let v148 : BitVec 32 := Scalar.extui v147
  let v149 : BitVec 32 := Scalar.subi v146 v148
  let v150 : BitVec 1 := Scalar.cmpi .ne v144 v149
  let v151 : BitVec 32 := Scalar.remsi v138 c4_i32_64
  let c0_i32_69 : BitVec 32 := 0#32
  let v152 : BitVec 1 := Scalar.cmpi .ne v151 c0_i32_69
  let v153 : BitVec 1 := Scalar.andi v150 v152
  let v139 : BitVec 32 := Scalar.divsi v138 c4_i32_64
  let c1_i32_70 : BitVec 32 := 1#32
  let v154 : BitVec 32 := Scalar.subi v139 c1_i32_70
  let v155 : BitVec 32 := Scalar.select v153 v154 v139
  let v156 : BitVec 32 := Scalar.subi v155 c0_i32_72
  let c1_i32_73 : BitVec 32 := 1#32
  let v158 : BitVec 32 := Scalar.divsi v156 c1_i32_73
  let v159 : BitVec 32 := Scalar.muli v158 c1_i32_73
  let v160 : BitVec 32 := Scalar.addi c0_i32_72 v159
  let v157 : BitVec 32 := Scalar.addi c0_i32_72 v156
  let c1_i32_75 : BitVec 32 := 1#32
  ⟨v160, v157, c1_i32_75⟩
def k0_mult3 (v11 : BitVec 32) (v14 : BitVec 32) (k0_t3 : Fin (k0_t3_loop v11 v14).trips) : BitVec 32 :=
  let c4_i32_100 : BitVec 32 := 4#32
  let c0_i32_72 : BitVec 32 := 0#32
  let v15 : BitVec 32 := Scalar.maxsi v11 v14
  let v138 : BitVec 32 := Scalar.subi v15 v11
  let c0_i32_65 : BitVec 32 := 0#32
  let v140 : BitVec 1 := Scalar.cmpi .sgt v138 c0_i32_65
  let v141 : BitVec 32 := Scalar.extui v140
  let c0_i32_66 : BitVec 32 := 0#32
  let v142 : BitVec 1 := Scalar.cmpi .slt v138 c0_i32_66
  let v143 : BitVec 32 := Scalar.extui v142
  let v144 : BitVec 32 := Scalar.subi v141 v143
  let c4_i32_64 : BitVec 32 := 4#32
  let c0_i32_67 : BitVec 32 := 0#32
  let v145 : BitVec 1 := Scalar.cmpi .sgt c4_i32_64 c0_i32_67
  let v146 : BitVec 32 := Scalar.extui v145
  let c0_i32_68 : BitVec 32 := 0#32
  let v147 : BitVec 1 := Scalar.cmpi .slt c4_i32_64 c0_i32_68
  let v148 : BitVec 32 := Scalar.extui v147
  let v149 : BitVec 32 := Scalar.subi v146 v148
  let v150 : BitVec 1 := Scalar.cmpi .ne v144 v149
  let v151 : BitVec 32 := Scalar.remsi v138 c4_i32_64
  let c0_i32_69 : BitVec 32 := 0#32
  let v152 : BitVec 1 := Scalar.cmpi .ne v151 c0_i32_69
  let v153 : BitVec 1 := Scalar.andi v150 v152
  let v139 : BitVec 32 := Scalar.divsi v138 c4_i32_64
  let c1_i32_70 : BitVec 32 := 1#32
  let v154 : BitVec 32 := Scalar.subi v139 c1_i32_70
  let v155 : BitVec 32 := Scalar.select v153 v154 v139
  let v156 : BitVec 32 := Scalar.subi v155 c0_i32_72
  let c1_i32_73 : BitVec 32 := 1#32
  let v158 : BitVec 32 := Scalar.divsi v156 c1_i32_73
  let v159 : BitVec 32 := Scalar.muli v158 c1_i32_73
  let v160 : BitVec 32 := Scalar.addi c0_i32_72 v159
  let c1_i32_75 : BitVec 32 := 1#32
  let arg15 : BitVec 32 := Scf.iv v160 c1_i32_75 k0_t3
  let v200 : BitVec 32 := Scalar.muli c4_i32_100 arg15
  let v201 : BitVec 32 := Scalar.addi v11 v200
  let c512_i32_101 : BitVec 32 := 512#32
  let v202 : BitVec 32 := Scalar.muli v201 c512_i32_101
  v202
def k0_off7 (v11 : BitVec 32) (v14 : BitVec 32) (k0_t3 : Fin (k0_t3_loop v11 v14).trips) (c0_i32_102 : BitVec 32) : Fin 3 → Nat :=
  let c0_103 : Index := 0#32
  let c4_i32_100 : BitVec 32 := 4#32
  let c0_i32_72 : BitVec 32 := 0#32
  let v15 : BitVec 32 := Scalar.maxsi v11 v14
  let v138 : BitVec 32 := Scalar.subi v15 v11
  let c0_i32_65 : BitVec 32 := 0#32
  let v140 : BitVec 1 := Scalar.cmpi .sgt v138 c0_i32_65
  let v141 : BitVec 32 := Scalar.extui v140
  let c0_i32_66 : BitVec 32 := 0#32
  let v142 : BitVec 1 := Scalar.cmpi .slt v138 c0_i32_66
  let v143 : BitVec 32 := Scalar.extui v142
  let v144 : BitVec 32 := Scalar.subi v141 v143
  let c4_i32_64 : BitVec 32 := 4#32
  let c0_i32_67 : BitVec 32 := 0#32
  let v145 : BitVec 1 := Scalar.cmpi .sgt c4_i32_64 c0_i32_67
  let v146 : BitVec 32 := Scalar.extui v145
  let c0_i32_68 : BitVec 32 := 0#32
  let v147 : BitVec 1 := Scalar.cmpi .slt c4_i32_64 c0_i32_68
  let v148 : BitVec 32 := Scalar.extui v147
  let v149 : BitVec 32 := Scalar.subi v146 v148
  let v150 : BitVec 1 := Scalar.cmpi .ne v144 v149
  let v151 : BitVec 32 := Scalar.remsi v138 c4_i32_64
  let c0_i32_69 : BitVec 32 := 0#32
  let v152 : BitVec 1 := Scalar.cmpi .ne v151 c0_i32_69
  let v153 : BitVec 1 := Scalar.andi v150 v152
  let v139 : BitVec 32 := Scalar.divsi v138 c4_i32_64
  let c1_i32_70 : BitVec 32 := 1#32
  let v154 : BitVec 32 := Scalar.subi v139 c1_i32_70
  let v155 : BitVec 32 := Scalar.select v153 v154 v139
  let v156 : BitVec 32 := Scalar.subi v155 c0_i32_72
  let c1_i32_73 : BitVec 32 := 1#32
  let v158 : BitVec 32 := Scalar.divsi v156 c1_i32_73
  let v159 : BitVec 32 := Scalar.muli v158 c1_i32_73
  let v160 : BitVec 32 := Scalar.addi c0_i32_72 v159
  let c1_i32_75 : BitVec 32 := 1#32
  let arg15 : BitVec 32 := Scf.iv v160 c1_i32_75 k0_t3
  let v200 : BitVec 32 := Scalar.muli c4_i32_100 arg15
  let v201 : BitVec 32 := Scalar.addi v11 v200
  let c512_i32_101 : BitVec 32 := 512#32
  let v202 : BitVec 32 := Scalar.muli v201 c512_i32_101
  let v203 : BitVec 32 := v202
  let v204 : BitVec 32 := Scalar.addi v203 c0_i32_102
  let v205 : Index := Scalar.indexCast v204
  let c0_104 : Index := 0#32
  ![0, v205.toNat, 0]
def k0_off8 (v11 : BitVec 32) (v14 : BitVec 32) (k0_t3 : Fin (k0_t3_loop v11 v14).trips) : Fin 2 → Nat :=
  let c0_145 : Index := 0#32
  let c4_i32_100 : BitVec 32 := 4#32
  let c0_i32_72 : BitVec 32 := 0#32
  let v15 : BitVec 32 := Scalar.maxsi v11 v14
  let v138 : BitVec 32 := Scalar.subi v15 v11
  let c0_i32_65 : BitVec 32 := 0#32
  let v140 : BitVec 1 := Scalar.cmpi .sgt v138 c0_i32_65
  let v141 : BitVec 32 := Scalar.extui v140
  let c0_i32_66 : BitVec 32 := 0#32
  let v142 : BitVec 1 := Scalar.cmpi .slt v138 c0_i32_66
  let v143 : BitVec 32 := Scalar.extui v142
  let v144 : BitVec 32 := Scalar.subi v141 v143
  let c4_i32_64 : BitVec 32 := 4#32
  let c0_i32_67 : BitVec 32 := 0#32
  let v145 : BitVec 1 := Scalar.cmpi .sgt c4_i32_64 c0_i32_67
  let v146 : BitVec 32 := Scalar.extui v145
  let c0_i32_68 : BitVec 32 := 0#32
  let v147 : BitVec 1 := Scalar.cmpi .slt c4_i32_64 c0_i32_68
  let v148 : BitVec 32 := Scalar.extui v147
  let v149 : BitVec 32 := Scalar.subi v146 v148
  let v150 : BitVec 1 := Scalar.cmpi .ne v144 v149
  let v151 : BitVec 32 := Scalar.remsi v138 c4_i32_64
  let c0_i32_69 : BitVec 32 := 0#32
  let v152 : BitVec 1 := Scalar.cmpi .ne v151 c0_i32_69
  let v153 : BitVec 1 := Scalar.andi v150 v152
  let v139 : BitVec 32 := Scalar.divsi v138 c4_i32_64
  let c1_i32_70 : BitVec 32 := 1#32
  let v154 : BitVec 32 := Scalar.subi v139 c1_i32_70
  let v155 : BitVec 32 := Scalar.select v153 v154 v139
  let v156 : BitVec 32 := Scalar.subi v155 c0_i32_72
  let c1_i32_73 : BitVec 32 := 1#32
  let v158 : BitVec 32 := Scalar.divsi v156 c1_i32_73
  let v159 : BitVec 32 := Scalar.muli v158 c1_i32_73
  let v160 : BitVec 32 := Scalar.addi c0_i32_72 v159
  let c1_i32_75 : BitVec 32 := 1#32
  let arg15 : BitVec 32 := Scf.iv v160 c1_i32_75 k0_t3
  let v200 : BitVec 32 := Scalar.muli c4_i32_100 arg15
  let v201 : BitVec 32 := Scalar.addi v11 v200
  let c512_i32_101 : BitVec 32 := 512#32
  let v202 : BitVec 32 := Scalar.muli v201 c512_i32_101
  let v203 : BitVec 32 := v202
  let v264 : Index := Scalar.indexCast v203
  ![0, v264.toNat]
def k0_mult4 (v11 : BitVec 32) (v14 : BitVec 32) : BitVec 32 :=
  let v15 : BitVec 32 := Scalar.maxsi v11 v14
  let c1_i32_100 : BitVec 32 := 1#32
  let v200 : BitVec 32 := Scalar.subi v15 c1_i32_100
  let c512_i32_101 : BitVec 32 := 512#32
  let v201 : BitVec 32 := Scalar.muli v200 c512_i32_101
  v201
def k0_cond3 (v11 : BitVec 32) (v14 : BitVec 32) : BitVec 1 :=
  let v15 : BitVec 32 := Scalar.maxsi v11 v14
  let v138 : BitVec 32 := Scalar.subi v15 v11
  let c4_i32_76 : BitVec 32 := 4#32
  let c0_i32_77 : BitVec 32 := 0#32
  let v161 : BitVec 1 := Scalar.cmpi .eq c4_i32_76 c0_i32_77
  let c1_i32_78 : BitVec 32 := 1#32
  let v162 : BitVec 32 := Scalar.select v161 c1_i32_78 c4_i32_76
  let v163 : BitVec 32 := Scalar.remsi v138 v162
  let c0_i32_80 : BitVec 32 := 0#32
  let v165 : BitVec 1 := Scalar.cmpi .slt v163 c0_i32_80
  let c0_i32_81 : BitVec 32 := 0#32
  let v166 : BitVec 1 := Scalar.cmpi .slt v162 c0_i32_81
  let v167 : BitVec 1 := Scalar.xori v165 v166
  let c0_i32_79 : BitVec 32 := 0#32
  let v164 : BitVec 1 := Scalar.cmpi .ne v163 c0_i32_79
  let v168 : BitVec 1 := Scalar.andi v167 v164
  let v169 : BitVec 32 := Scalar.addi v163 v162
  let v170 : BitVec 32 := Scalar.select v168 v169 v163
  let c1_i32_82 : BitVec 32 := 1#32
  let v171 : BitVec 1 := Scalar.cmpi .eq v170 c1_i32_82
  let v172 : BitVec 32 := Scalar.extui v171
  let c0_i32_83 : BitVec 32 := 0#32
  let v173 : BitVec 1 := Scalar.cmpi .ne v172 c0_i32_83
  v173

def k0_off9 (v11 : BitVec 32) (v14 : BitVec 32) : Fin 3 → Nat :=
  let c0_103 : Index := 0#32
  let v15 : BitVec 32 := Scalar.maxsi v11 v14
  let c1_i32_100 : BitVec 32 := 1#32
  let v200 : BitVec 32 := Scalar.subi v15 c1_i32_100
  let c512_i32_101 : BitVec 32 := 512#32
  let v201 : BitVec 32 := Scalar.muli v200 c512_i32_101
  let v202 : BitVec 32 := v201
  let c0_i32_102 : BitVec 32 := 0#32
  let v203 : BitVec 32 := Scalar.addi v202 c0_i32_102
  let v204 : Index := Scalar.indexCast v203
  let c0_104 : Index := 0#32
  ![0, v204.toNat, 0]
def k0_off10 (v11 : BitVec 32) (v14 : BitVec 32) : Fin 2 → Nat :=
  let c0_114 : Index := 0#32
  let v15 : BitVec 32 := Scalar.maxsi v11 v14
  let c1_i32_100 : BitVec 32 := 1#32
  let v200 : BitVec 32 := Scalar.subi v15 c1_i32_100
  let c512_i32_101 : BitVec 32 := 512#32
  let v201 : BitVec 32 := Scalar.muli v200 c512_i32_101
  let v202 : BitVec 32 := v201
  let v218 : Index := Scalar.indexCast v202
  ![0, v218.toNat]
def k0_mult5 (v11 : BitVec 32) (v14 : BitVec 32) : BitVec 32 :=
  let v15 : BitVec 32 := Scalar.maxsi v11 v14
  let c2_i32_100 : BitVec 32 := 2#32
  let v200 : BitVec 32 := Scalar.subi v15 c2_i32_100
  let c512_i32_101 : BitVec 32 := 512#32
  let v201 : BitVec 32 := Scalar.muli v200 c512_i32_101
  v201
def k0_cond4 (v11 : BitVec 32) (v14 : BitVec 32) : BitVec 1 :=
  let v15 : BitVec 32 := Scalar.maxsi v11 v14
  let v138 : BitVec 32 := Scalar.subi v15 v11
  let c4_i32_84 : BitVec 32 := 4#32
  let c0_i32_85 : BitVec 32 := 0#32
  let v174 : BitVec 1 := Scalar.cmpi .eq c4_i32_84 c0_i32_85
  let c1_i32_86 : BitVec 32 := 1#32
  let v175 : BitVec 32 := Scalar.select v174 c1_i32_86 c4_i32_84
  let v176 : BitVec 32 := Scalar.remsi v138 v175
  let c0_i32_88 : BitVec 32 := 0#32
  let v178 : BitVec 1 := Scalar.cmpi .slt v176 c0_i32_88
  let c0_i32_89 : BitVec 32 := 0#32
  let v179 : BitVec 1 := Scalar.cmpi .slt v175 c0_i32_89
  let v180 : BitVec 1 := Scalar.xori v178 v179
  let c0_i32_87 : BitVec 32 := 0#32
  let v177 : BitVec 1 := Scalar.cmpi .ne v176 c0_i32_87
  let v181 : BitVec 1 := Scalar.andi v180 v177
  let v182 : BitVec 32 := Scalar.addi v176 v175
  let v183 : BitVec 32 := Scalar.select v181 v182 v176
  let c2_i32_90 : BitVec 32 := 2#32
  let v184 : BitVec 1 := Scalar.cmpi .eq v183 c2_i32_90
  let v185 : BitVec 32 := Scalar.extui v184
  let c0_i32_91 : BitVec 32 := 0#32
  let v186 : BitVec 1 := Scalar.cmpi .ne v185 c0_i32_91
  v186

def k0_off11 (v11 : BitVec 32) (v14 : BitVec 32) (c0_i32_102 : BitVec 32) : Fin 3 → Nat :=
  let c0_103 : Index := 0#32
  let v15 : BitVec 32 := Scalar.maxsi v11 v14
  let c2_i32_100 : BitVec 32 := 2#32
  let v200 : BitVec 32 := Scalar.subi v15 c2_i32_100
  let c512_i32_101 : BitVec 32 := 512#32
  let v201 : BitVec 32 := Scalar.muli v200 c512_i32_101
  let v202 : BitVec 32 := v201
  let v203 : BitVec 32 := Scalar.addi v202 c0_i32_102
  let v204 : Index := Scalar.indexCast v203
  let c0_104 : Index := 0#32
  ![0, v204.toNat, 0]
def k0_off12 (v11 : BitVec 32) (v14 : BitVec 32) : Fin 2 → Nat :=
  let c0_125 : Index := 0#32
  let v15 : BitVec 32 := Scalar.maxsi v11 v14
  let c2_i32_100 : BitVec 32 := 2#32
  let v200 : BitVec 32 := Scalar.subi v15 c2_i32_100
  let c512_i32_101 : BitVec 32 := 512#32
  let v201 : BitVec 32 := Scalar.muli v200 c512_i32_101
  let v202 : BitVec 32 := v201
  let v233 : Index := Scalar.indexCast v202
  ![0, v233.toNat]
def k0_mult6 (v11 : BitVec 32) (v14 : BitVec 32) : BitVec 32 :=
  let v15 : BitVec 32 := Scalar.maxsi v11 v14
  let c3_i32_100 : BitVec 32 := 3#32
  let v200 : BitVec 32 := Scalar.subi v15 c3_i32_100
  let c512_i32_101 : BitVec 32 := 512#32
  let v201 : BitVec 32 := Scalar.muli v200 c512_i32_101
  v201
def k0_cond5 (v11 : BitVec 32) (v14 : BitVec 32) : BitVec 1 :=
  let v15 : BitVec 32 := Scalar.maxsi v11 v14
  let v138 : BitVec 32 := Scalar.subi v15 v11
  let c4_i32_92 : BitVec 32 := 4#32
  let c0_i32_93 : BitVec 32 := 0#32
  let v187 : BitVec 1 := Scalar.cmpi .eq c4_i32_92 c0_i32_93
  let c1_i32_94 : BitVec 32 := 1#32
  let v188 : BitVec 32 := Scalar.select v187 c1_i32_94 c4_i32_92
  let v189 : BitVec 32 := Scalar.remsi v138 v188
  let c0_i32_96 : BitVec 32 := 0#32
  let v191 : BitVec 1 := Scalar.cmpi .slt v189 c0_i32_96
  let c0_i32_97 : BitVec 32 := 0#32
  let v192 : BitVec 1 := Scalar.cmpi .slt v188 c0_i32_97
  let v193 : BitVec 1 := Scalar.xori v191 v192
  let c0_i32_95 : BitVec 32 := 0#32
  let v190 : BitVec 1 := Scalar.cmpi .ne v189 c0_i32_95
  let v194 : BitVec 1 := Scalar.andi v193 v190
  let v195 : BitVec 32 := Scalar.addi v189 v188
  let v196 : BitVec 32 := Scalar.select v194 v195 v189
  let c3_i32_98 : BitVec 32 := 3#32
  let v197 : BitVec 1 := Scalar.cmpi .eq v196 c3_i32_98
  let v198 : BitVec 32 := Scalar.extui v197
  let c0_i32_99 : BitVec 32 := 0#32
  let v199 : BitVec 1 := Scalar.cmpi .ne v198 c0_i32_99
  v199

def k0_off13 (v11 : BitVec 32) (v14 : BitVec 32) (c0_i32_102 : BitVec 32) : Fin 3 → Nat :=
  let c0_103 : Index := 0#32
  let v15 : BitVec 32 := Scalar.maxsi v11 v14
  let c3_i32_100 : BitVec 32 := 3#32
  let v200 : BitVec 32 := Scalar.subi v15 c3_i32_100
  let c512_i32_101 : BitVec 32 := 512#32
  let v201 : BitVec 32 := Scalar.muli v200 c512_i32_101
  let v202 : BitVec 32 := v201
  let v203 : BitVec 32 := Scalar.addi v202 c0_i32_102
  let v204 : Index := Scalar.indexCast v203
  let c0_104 : Index := 0#32
  ![0, v204.toNat, 0]
def k0_off14 (v11 : BitVec 32) (v14 : BitVec 32) : Fin 2 → Nat :=
  let c0_135 : Index := 0#32
  let v15 : BitVec 32 := Scalar.maxsi v11 v14
  let c3_i32_100 : BitVec 32 := 3#32
  let v200 : BitVec 32 := Scalar.subi v15 c3_i32_100
  let c512_i32_101 : BitVec 32 := 512#32
  let v201 : BitVec 32 := Scalar.muli v200 c512_i32_101
  let v202 : BitVec 32 := v201
  let v248 : Index := Scalar.indexCast v202
  ![0, v248.toNat]
@[reducible] def k0_t4_loop (v11 : BitVec 32) (v14 : BitVec 32) : Scf.Loop 32 :=
  let c0_i32_72 : BitVec 32 := 0#32
  let v15 : BitVec 32 := Scalar.maxsi v11 v14
  let v138 : BitVec 32 := Scalar.subi v15 v14
  let c0_i32_65 : BitVec 32 := 0#32
  let v140 : BitVec 1 := Scalar.cmpi .sgt v138 c0_i32_65
  let v141 : BitVec 32 := Scalar.extui v140
  let c0_i32_66 : BitVec 32 := 0#32
  let v142 : BitVec 1 := Scalar.cmpi .slt v138 c0_i32_66
  let v143 : BitVec 32 := Scalar.extui v142
  let v144 : BitVec 32 := Scalar.subi v141 v143
  let c4_i32_64 : BitVec 32 := 4#32
  let c0_i32_67 : BitVec 32 := 0#32
  let v145 : BitVec 1 := Scalar.cmpi .sgt c4_i32_64 c0_i32_67
  let v146 : BitVec 32 := Scalar.extui v145
  let c0_i32_68 : BitVec 32 := 0#32
  let v147 : BitVec 1 := Scalar.cmpi .slt c4_i32_64 c0_i32_68
  let v148 : BitVec 32 := Scalar.extui v147
  let v149 : BitVec 32 := Scalar.subi v146 v148
  let v150 : BitVec 1 := Scalar.cmpi .ne v144 v149
  let v151 : BitVec 32 := Scalar.remsi v138 c4_i32_64
  let c0_i32_69 : BitVec 32 := 0#32
  let v152 : BitVec 1 := Scalar.cmpi .ne v151 c0_i32_69
  let v153 : BitVec 1 := Scalar.andi v150 v152
  let v139 : BitVec 32 := Scalar.divsi v138 c4_i32_64
  let c1_i32_70 : BitVec 32 := 1#32
  let v154 : BitVec 32 := Scalar.subi v139 c1_i32_70
  let v155 : BitVec 32 := Scalar.select v153 v154 v139
  let v156 : BitVec 32 := Scalar.subi v155 c0_i32_72
  let c1_i32_73 : BitVec 32 := 1#32
  let v158 : BitVec 32 := Scalar.divsi v156 c1_i32_73
  let v159 : BitVec 32 := Scalar.muli v158 c1_i32_73
  let v160 : BitVec 32 := Scalar.addi c0_i32_72 v159
  let c1_i32_74 : BitVec 32 := 1#32
  ⟨c0_i32_72, v160, c1_i32_74⟩
def k0_cond6 (v11 : BitVec 32) (v14 : BitVec 32) : BitVec 1 :=
  let v15 : BitVec 32 := Scalar.maxsi v11 v14
  let v69 : BitVec 1 := Scalar.cmpi .slt v14 v15
  let v70 : BitVec 32 := Scalar.extui v69
  let c0_i32_30 : BitVec 32 := 0#32
  let v71 : BitVec 1 := Scalar.cmpi .ne v70 c0_i32_30
  v71

def k0_mult7 (v11 : BitVec 32) (v14 : BitVec 32) (k0_t4 : Fin (k0_t4_loop v11 v14).trips) : BitVec 32 :=
  let c4_i32_100 : BitVec 32 := 4#32
  let c0_i32_72 : BitVec 32 := 0#32
  let c1_i32_74 : BitVec 32 := 1#32
  let arg15 : BitVec 32 := Scf.iv c0_i32_72 c1_i32_74 k0_t4
  let v200 : BitVec 32 := Scalar.muli c4_i32_100 arg15
  let v201 : BitVec 32 := Scalar.addi v14 v200
  let c512_i32_101 : BitVec 32 := 512#32
  let v202 : BitVec 32 := Scalar.muli v201 c512_i32_101
  v202
def k0_off15 (v11 : BitVec 32) (v14 : BitVec 32) (k0_t4 : Fin (k0_t4_loop v11 v14).trips) (c0_i32_102 : BitVec 32) : Fin 3 → Nat :=
  let c0_103 : Index := 0#32
  let c4_i32_100 : BitVec 32 := 4#32
  let c0_i32_72 : BitVec 32 := 0#32
  let c1_i32_74 : BitVec 32 := 1#32
  let arg15 : BitVec 32 := Scf.iv c0_i32_72 c1_i32_74 k0_t4
  let v200 : BitVec 32 := Scalar.muli c4_i32_100 arg15
  let v201 : BitVec 32 := Scalar.addi v14 v200
  let c512_i32_101 : BitVec 32 := 512#32
  let v202 : BitVec 32 := Scalar.muli v201 c512_i32_101
  let v203 : BitVec 32 := v202
  let v204 : BitVec 32 := Scalar.addi v203 c0_i32_102
  let v205 : Index := Scalar.indexCast v204
  let c128_104 : Index := 128#32
  ![0, v205.toNat, 128]
def k0_off16 (v11 : BitVec 32) (v14 : BitVec 32) (k0_t4 : Fin (k0_t4_loop v11 v14).trips) : Fin 2 → Nat :=
  let c128_145 : Index := 128#32
  let c4_i32_100 : BitVec 32 := 4#32
  let c0_i32_72 : BitVec 32 := 0#32
  let c1_i32_74 : BitVec 32 := 1#32
  let arg15 : BitVec 32 := Scf.iv c0_i32_72 c1_i32_74 k0_t4
  let v200 : BitVec 32 := Scalar.muli c4_i32_100 arg15
  let v201 : BitVec 32 := Scalar.addi v14 v200
  let c512_i32_101 : BitVec 32 := 512#32
  let v202 : BitVec 32 := Scalar.muli v201 c512_i32_101
  let v203 : BitVec 32 := v202
  let v264 : Index := Scalar.indexCast v203
  ![128, v264.toNat]
@[reducible] def k0_t5_loop (v11 : BitVec 32) (v14 : BitVec 32) : Scf.Loop 32 :=
  let c0_i32_72 : BitVec 32 := 0#32
  let v15 : BitVec 32 := Scalar.maxsi v11 v14
  let v138 : BitVec 32 := Scalar.subi v15 v14
  let c0_i32_65 : BitVec 32 := 0#32
  let v140 : BitVec 1 := Scalar.cmpi .sgt v138 c0_i32_65
  let v141 : BitVec 32 := Scalar.extui v140
  let c0_i32_66 : BitVec 32 := 0#32
  let v142 : BitVec 1 := Scalar.cmpi .slt v138 c0_i32_66
  let v143 : BitVec 32 := Scalar.extui v142
  let v144 : BitVec 32 := Scalar.subi v141 v143
  let c4_i32_64 : BitVec 32 := 4#32
  let c0_i32_67 : BitVec 32 := 0#32
  let v145 : BitVec 1 := Scalar.cmpi .sgt c4_i32_64 c0_i32_67
  let v146 : BitVec 32 := Scalar.extui v145
  let c0_i32_68 : BitVec 32 := 0#32
  let v147 : BitVec 1 := Scalar.cmpi .slt c4_i32_64 c0_i32_68
  let v148 : BitVec 32 := Scalar.extui v147
  let v149 : BitVec 32 := Scalar.subi v146 v148
  let v150 : BitVec 1 := Scalar.cmpi .ne v144 v149
  let v151 : BitVec 32 := Scalar.remsi v138 c4_i32_64
  let c0_i32_69 : BitVec 32 := 0#32
  let v152 : BitVec 1 := Scalar.cmpi .ne v151 c0_i32_69
  let v153 : BitVec 1 := Scalar.andi v150 v152
  let v139 : BitVec 32 := Scalar.divsi v138 c4_i32_64
  let c1_i32_70 : BitVec 32 := 1#32
  let v154 : BitVec 32 := Scalar.subi v139 c1_i32_70
  let v155 : BitVec 32 := Scalar.select v153 v154 v139
  let v156 : BitVec 32 := Scalar.subi v155 c0_i32_72
  let c1_i32_73 : BitVec 32 := 1#32
  let v158 : BitVec 32 := Scalar.divsi v156 c1_i32_73
  let v159 : BitVec 32 := Scalar.muli v158 c1_i32_73
  let v160 : BitVec 32 := Scalar.addi c0_i32_72 v159
  let v157 : BitVec 32 := Scalar.addi c0_i32_72 v156
  let c1_i32_75 : BitVec 32 := 1#32
  ⟨v160, v157, c1_i32_75⟩
def k0_mult8 (v11 : BitVec 32) (v14 : BitVec 32) (k0_t5 : Fin (k0_t5_loop v11 v14).trips) : BitVec 32 :=
  let c4_i32_100 : BitVec 32 := 4#32
  let c0_i32_72 : BitVec 32 := 0#32
  let v15 : BitVec 32 := Scalar.maxsi v11 v14
  let v138 : BitVec 32 := Scalar.subi v15 v14
  let c0_i32_65 : BitVec 32 := 0#32
  let v140 : BitVec 1 := Scalar.cmpi .sgt v138 c0_i32_65
  let v141 : BitVec 32 := Scalar.extui v140
  let c0_i32_66 : BitVec 32 := 0#32
  let v142 : BitVec 1 := Scalar.cmpi .slt v138 c0_i32_66
  let v143 : BitVec 32 := Scalar.extui v142
  let v144 : BitVec 32 := Scalar.subi v141 v143
  let c4_i32_64 : BitVec 32 := 4#32
  let c0_i32_67 : BitVec 32 := 0#32
  let v145 : BitVec 1 := Scalar.cmpi .sgt c4_i32_64 c0_i32_67
  let v146 : BitVec 32 := Scalar.extui v145
  let c0_i32_68 : BitVec 32 := 0#32
  let v147 : BitVec 1 := Scalar.cmpi .slt c4_i32_64 c0_i32_68
  let v148 : BitVec 32 := Scalar.extui v147
  let v149 : BitVec 32 := Scalar.subi v146 v148
  let v150 : BitVec 1 := Scalar.cmpi .ne v144 v149
  let v151 : BitVec 32 := Scalar.remsi v138 c4_i32_64
  let c0_i32_69 : BitVec 32 := 0#32
  let v152 : BitVec 1 := Scalar.cmpi .ne v151 c0_i32_69
  let v153 : BitVec 1 := Scalar.andi v150 v152
  let v139 : BitVec 32 := Scalar.divsi v138 c4_i32_64
  let c1_i32_70 : BitVec 32 := 1#32
  let v154 : BitVec 32 := Scalar.subi v139 c1_i32_70
  let v155 : BitVec 32 := Scalar.select v153 v154 v139
  let v156 : BitVec 32 := Scalar.subi v155 c0_i32_72
  let c1_i32_73 : BitVec 32 := 1#32
  let v158 : BitVec 32 := Scalar.divsi v156 c1_i32_73
  let v159 : BitVec 32 := Scalar.muli v158 c1_i32_73
  let v160 : BitVec 32 := Scalar.addi c0_i32_72 v159
  let c1_i32_75 : BitVec 32 := 1#32
  let arg15 : BitVec 32 := Scf.iv v160 c1_i32_75 k0_t5
  let v200 : BitVec 32 := Scalar.muli c4_i32_100 arg15
  let v201 : BitVec 32 := Scalar.addi v14 v200
  let c512_i32_101 : BitVec 32 := 512#32
  let v202 : BitVec 32 := Scalar.muli v201 c512_i32_101
  v202
def k0_off17 (v11 : BitVec 32) (v14 : BitVec 32) (k0_t5 : Fin (k0_t5_loop v11 v14).trips) (c0_i32_102 : BitVec 32) : Fin 3 → Nat :=
  let c0_103 : Index := 0#32
  let c4_i32_100 : BitVec 32 := 4#32
  let c0_i32_72 : BitVec 32 := 0#32
  let v15 : BitVec 32 := Scalar.maxsi v11 v14
  let v138 : BitVec 32 := Scalar.subi v15 v14
  let c0_i32_65 : BitVec 32 := 0#32
  let v140 : BitVec 1 := Scalar.cmpi .sgt v138 c0_i32_65
  let v141 : BitVec 32 := Scalar.extui v140
  let c0_i32_66 : BitVec 32 := 0#32
  let v142 : BitVec 1 := Scalar.cmpi .slt v138 c0_i32_66
  let v143 : BitVec 32 := Scalar.extui v142
  let v144 : BitVec 32 := Scalar.subi v141 v143
  let c4_i32_64 : BitVec 32 := 4#32
  let c0_i32_67 : BitVec 32 := 0#32
  let v145 : BitVec 1 := Scalar.cmpi .sgt c4_i32_64 c0_i32_67
  let v146 : BitVec 32 := Scalar.extui v145
  let c0_i32_68 : BitVec 32 := 0#32
  let v147 : BitVec 1 := Scalar.cmpi .slt c4_i32_64 c0_i32_68
  let v148 : BitVec 32 := Scalar.extui v147
  let v149 : BitVec 32 := Scalar.subi v146 v148
  let v150 : BitVec 1 := Scalar.cmpi .ne v144 v149
  let v151 : BitVec 32 := Scalar.remsi v138 c4_i32_64
  let c0_i32_69 : BitVec 32 := 0#32
  let v152 : BitVec 1 := Scalar.cmpi .ne v151 c0_i32_69
  let v153 : BitVec 1 := Scalar.andi v150 v152
  let v139 : BitVec 32 := Scalar.divsi v138 c4_i32_64
  let c1_i32_70 : BitVec 32 := 1#32
  let v154 : BitVec 32 := Scalar.subi v139 c1_i32_70
  let v155 : BitVec 32 := Scalar.select v153 v154 v139
  let v156 : BitVec 32 := Scalar.subi v155 c0_i32_72
  let c1_i32_73 : BitVec 32 := 1#32
  let v158 : BitVec 32 := Scalar.divsi v156 c1_i32_73
  let v159 : BitVec 32 := Scalar.muli v158 c1_i32_73
  let v160 : BitVec 32 := Scalar.addi c0_i32_72 v159
  let c1_i32_75 : BitVec 32 := 1#32
  let arg15 : BitVec 32 := Scf.iv v160 c1_i32_75 k0_t5
  let v200 : BitVec 32 := Scalar.muli c4_i32_100 arg15
  let v201 : BitVec 32 := Scalar.addi v14 v200
  let c512_i32_101 : BitVec 32 := 512#32
  let v202 : BitVec 32 := Scalar.muli v201 c512_i32_101
  let v203 : BitVec 32 := v202
  let v204 : BitVec 32 := Scalar.addi v203 c0_i32_102
  let v205 : Index := Scalar.indexCast v204
  let c128_104 : Index := 128#32
  ![0, v205.toNat, 128]
def k0_off18 (v11 : BitVec 32) (v14 : BitVec 32) (k0_t5 : Fin (k0_t5_loop v11 v14).trips) : Fin 2 → Nat :=
  let c128_145 : Index := 128#32
  let c4_i32_100 : BitVec 32 := 4#32
  let c0_i32_72 : BitVec 32 := 0#32
  let v15 : BitVec 32 := Scalar.maxsi v11 v14
  let v138 : BitVec 32 := Scalar.subi v15 v14
  let c0_i32_65 : BitVec 32 := 0#32
  let v140 : BitVec 1 := Scalar.cmpi .sgt v138 c0_i32_65
  let v141 : BitVec 32 := Scalar.extui v140
  let c0_i32_66 : BitVec 32 := 0#32
  let v142 : BitVec 1 := Scalar.cmpi .slt v138 c0_i32_66
  let v143 : BitVec 32 := Scalar.extui v142
  let v144 : BitVec 32 := Scalar.subi v141 v143
  let c4_i32_64 : BitVec 32 := 4#32
  let c0_i32_67 : BitVec 32 := 0#32
  let v145 : BitVec 1 := Scalar.cmpi .sgt c4_i32_64 c0_i32_67
  let v146 : BitVec 32 := Scalar.extui v145
  let c0_i32_68 : BitVec 32 := 0#32
  let v147 : BitVec 1 := Scalar.cmpi .slt c4_i32_64 c0_i32_68
  let v148 : BitVec 32 := Scalar.extui v147
  let v149 : BitVec 32 := Scalar.subi v146 v148
  let v150 : BitVec 1 := Scalar.cmpi .ne v144 v149
  let v151 : BitVec 32 := Scalar.remsi v138 c4_i32_64
  let c0_i32_69 : BitVec 32 := 0#32
  let v152 : BitVec 1 := Scalar.cmpi .ne v151 c0_i32_69
  let v153 : BitVec 1 := Scalar.andi v150 v152
  let v139 : BitVec 32 := Scalar.divsi v138 c4_i32_64
  let c1_i32_70 : BitVec 32 := 1#32
  let v154 : BitVec 32 := Scalar.subi v139 c1_i32_70
  let v155 : BitVec 32 := Scalar.select v153 v154 v139
  let v156 : BitVec 32 := Scalar.subi v155 c0_i32_72
  let c1_i32_73 : BitVec 32 := 1#32
  let v158 : BitVec 32 := Scalar.divsi v156 c1_i32_73
  let v159 : BitVec 32 := Scalar.muli v158 c1_i32_73
  let v160 : BitVec 32 := Scalar.addi c0_i32_72 v159
  let c1_i32_75 : BitVec 32 := 1#32
  let arg15 : BitVec 32 := Scf.iv v160 c1_i32_75 k0_t5
  let v200 : BitVec 32 := Scalar.muli c4_i32_100 arg15
  let v201 : BitVec 32 := Scalar.addi v14 v200
  let c512_i32_101 : BitVec 32 := 512#32
  let v202 : BitVec 32 := Scalar.muli v201 c512_i32_101
  let v203 : BitVec 32 := v202
  let v264 : Index := Scalar.indexCast v203
  ![128, v264.toNat]
def k0_mult9 (v11 : BitVec 32) (v14 : BitVec 32) : BitVec 32 :=
  let v15 : BitVec 32 := Scalar.maxsi v11 v14
  let c1_i32_100 : BitVec 32 := 1#32
  let v200 : BitVec 32 := Scalar.subi v15 c1_i32_100
  let c512_i32_101 : BitVec 32 := 512#32
  let v201 : BitVec 32 := Scalar.muli v200 c512_i32_101
  v201
def k0_cond7 (v11 : BitVec 32) (v14 : BitVec 32) : BitVec 1 :=
  let v15 : BitVec 32 := Scalar.maxsi v11 v14
  let v138 : BitVec 32 := Scalar.subi v15 v14
  let c4_i32_76 : BitVec 32 := 4#32
  let c0_i32_77 : BitVec 32 := 0#32
  let v161 : BitVec 1 := Scalar.cmpi .eq c4_i32_76 c0_i32_77
  let c1_i32_78 : BitVec 32 := 1#32
  let v162 : BitVec 32 := Scalar.select v161 c1_i32_78 c4_i32_76
  let v163 : BitVec 32 := Scalar.remsi v138 v162
  let c0_i32_80 : BitVec 32 := 0#32
  let v165 : BitVec 1 := Scalar.cmpi .slt v163 c0_i32_80
  let c0_i32_81 : BitVec 32 := 0#32
  let v166 : BitVec 1 := Scalar.cmpi .slt v162 c0_i32_81
  let v167 : BitVec 1 := Scalar.xori v165 v166
  let c0_i32_79 : BitVec 32 := 0#32
  let v164 : BitVec 1 := Scalar.cmpi .ne v163 c0_i32_79
  let v168 : BitVec 1 := Scalar.andi v167 v164
  let v169 : BitVec 32 := Scalar.addi v163 v162
  let v170 : BitVec 32 := Scalar.select v168 v169 v163
  let c1_i32_82 : BitVec 32 := 1#32
  let v171 : BitVec 1 := Scalar.cmpi .eq v170 c1_i32_82
  let v172 : BitVec 32 := Scalar.extui v171
  let c0_i32_83 : BitVec 32 := 0#32
  let v173 : BitVec 1 := Scalar.cmpi .ne v172 c0_i32_83
  v173

def k0_off19 (v11 : BitVec 32) (v14 : BitVec 32) : Fin 3 → Nat :=
  let c0_103 : Index := 0#32
  let v15 : BitVec 32 := Scalar.maxsi v11 v14
  let c1_i32_100 : BitVec 32 := 1#32
  let v200 : BitVec 32 := Scalar.subi v15 c1_i32_100
  let c512_i32_101 : BitVec 32 := 512#32
  let v201 : BitVec 32 := Scalar.muli v200 c512_i32_101
  let v202 : BitVec 32 := v201
  let c0_i32_102 : BitVec 32 := 0#32
  let v203 : BitVec 32 := Scalar.addi v202 c0_i32_102
  let v204 : Index := Scalar.indexCast v203
  let c128_104 : Index := 128#32
  ![0, v204.toNat, 128]
def k0_off20 (v11 : BitVec 32) (v14 : BitVec 32) : Fin 2 → Nat :=
  let c128_114 : Index := 128#32
  let v15 : BitVec 32 := Scalar.maxsi v11 v14
  let c1_i32_100 : BitVec 32 := 1#32
  let v200 : BitVec 32 := Scalar.subi v15 c1_i32_100
  let c512_i32_101 : BitVec 32 := 512#32
  let v201 : BitVec 32 := Scalar.muli v200 c512_i32_101
  let v202 : BitVec 32 := v201
  let v218 : Index := Scalar.indexCast v202
  ![128, v218.toNat]
def k0_mult10 (v11 : BitVec 32) (v14 : BitVec 32) : BitVec 32 :=
  let v15 : BitVec 32 := Scalar.maxsi v11 v14
  let c2_i32_100 : BitVec 32 := 2#32
  let v200 : BitVec 32 := Scalar.subi v15 c2_i32_100
  let c512_i32_101 : BitVec 32 := 512#32
  let v201 : BitVec 32 := Scalar.muli v200 c512_i32_101
  v201
def k0_cond8 (v11 : BitVec 32) (v14 : BitVec 32) : BitVec 1 :=
  let v15 : BitVec 32 := Scalar.maxsi v11 v14
  let v138 : BitVec 32 := Scalar.subi v15 v14
  let c4_i32_84 : BitVec 32 := 4#32
  let c0_i32_85 : BitVec 32 := 0#32
  let v174 : BitVec 1 := Scalar.cmpi .eq c4_i32_84 c0_i32_85
  let c1_i32_86 : BitVec 32 := 1#32
  let v175 : BitVec 32 := Scalar.select v174 c1_i32_86 c4_i32_84
  let v176 : BitVec 32 := Scalar.remsi v138 v175
  let c0_i32_88 : BitVec 32 := 0#32
  let v178 : BitVec 1 := Scalar.cmpi .slt v176 c0_i32_88
  let c0_i32_89 : BitVec 32 := 0#32
  let v179 : BitVec 1 := Scalar.cmpi .slt v175 c0_i32_89
  let v180 : BitVec 1 := Scalar.xori v178 v179
  let c0_i32_87 : BitVec 32 := 0#32
  let v177 : BitVec 1 := Scalar.cmpi .ne v176 c0_i32_87
  let v181 : BitVec 1 := Scalar.andi v180 v177
  let v182 : BitVec 32 := Scalar.addi v176 v175
  let v183 : BitVec 32 := Scalar.select v181 v182 v176
  let c2_i32_90 : BitVec 32 := 2#32
  let v184 : BitVec 1 := Scalar.cmpi .eq v183 c2_i32_90
  let v185 : BitVec 32 := Scalar.extui v184
  let c0_i32_91 : BitVec 32 := 0#32
  let v186 : BitVec 1 := Scalar.cmpi .ne v185 c0_i32_91
  v186

def k0_off21 (v11 : BitVec 32) (v14 : BitVec 32) (c0_i32_102 : BitVec 32) : Fin 3 → Nat :=
  let c0_103 : Index := 0#32
  let v15 : BitVec 32 := Scalar.maxsi v11 v14
  let c2_i32_100 : BitVec 32 := 2#32
  let v200 : BitVec 32 := Scalar.subi v15 c2_i32_100
  let c512_i32_101 : BitVec 32 := 512#32
  let v201 : BitVec 32 := Scalar.muli v200 c512_i32_101
  let v202 : BitVec 32 := v201
  let v203 : BitVec 32 := Scalar.addi v202 c0_i32_102
  let v204 : Index := Scalar.indexCast v203
  let c128_104 : Index := 128#32
  ![0, v204.toNat, 128]
def k0_off22 (v11 : BitVec 32) (v14 : BitVec 32) : Fin 2 → Nat :=
  let c128_125 : Index := 128#32
  let v15 : BitVec 32 := Scalar.maxsi v11 v14
  let c2_i32_100 : BitVec 32 := 2#32
  let v200 : BitVec 32 := Scalar.subi v15 c2_i32_100
  let c512_i32_101 : BitVec 32 := 512#32
  let v201 : BitVec 32 := Scalar.muli v200 c512_i32_101
  let v202 : BitVec 32 := v201
  let v233 : Index := Scalar.indexCast v202
  ![128, v233.toNat]
def k0_mult11 (v11 : BitVec 32) (v14 : BitVec 32) : BitVec 32 :=
  let v15 : BitVec 32 := Scalar.maxsi v11 v14
  let c3_i32_100 : BitVec 32 := 3#32
  let v200 : BitVec 32 := Scalar.subi v15 c3_i32_100
  let c512_i32_101 : BitVec 32 := 512#32
  let v201 : BitVec 32 := Scalar.muli v200 c512_i32_101
  v201
def k0_cond9 (v11 : BitVec 32) (v14 : BitVec 32) : BitVec 1 :=
  let v15 : BitVec 32 := Scalar.maxsi v11 v14
  let v138 : BitVec 32 := Scalar.subi v15 v14
  let c4_i32_92 : BitVec 32 := 4#32
  let c0_i32_93 : BitVec 32 := 0#32
  let v187 : BitVec 1 := Scalar.cmpi .eq c4_i32_92 c0_i32_93
  let c1_i32_94 : BitVec 32 := 1#32
  let v188 : BitVec 32 := Scalar.select v187 c1_i32_94 c4_i32_92
  let v189 : BitVec 32 := Scalar.remsi v138 v188
  let c0_i32_96 : BitVec 32 := 0#32
  let v191 : BitVec 1 := Scalar.cmpi .slt v189 c0_i32_96
  let c0_i32_97 : BitVec 32 := 0#32
  let v192 : BitVec 1 := Scalar.cmpi .slt v188 c0_i32_97
  let v193 : BitVec 1 := Scalar.xori v191 v192
  let c0_i32_95 : BitVec 32 := 0#32
  let v190 : BitVec 1 := Scalar.cmpi .ne v189 c0_i32_95
  let v194 : BitVec 1 := Scalar.andi v193 v190
  let v195 : BitVec 32 := Scalar.addi v189 v188
  let v196 : BitVec 32 := Scalar.select v194 v195 v189
  let c3_i32_98 : BitVec 32 := 3#32
  let v197 : BitVec 1 := Scalar.cmpi .eq v196 c3_i32_98
  let v198 : BitVec 32 := Scalar.extui v197
  let c0_i32_99 : BitVec 32 := 0#32
  let v199 : BitVec 1 := Scalar.cmpi .ne v198 c0_i32_99
  v199

def k0_off23 (v11 : BitVec 32) (v14 : BitVec 32) (c0_i32_102 : BitVec 32) : Fin 3 → Nat :=
  let c0_103 : Index := 0#32
  let v15 : BitVec 32 := Scalar.maxsi v11 v14
  let c3_i32_100 : BitVec 32 := 3#32
  let v200 : BitVec 32 := Scalar.subi v15 c3_i32_100
  let c512_i32_101 : BitVec 32 := 512#32
  let v201 : BitVec 32 := Scalar.muli v200 c512_i32_101
  let v202 : BitVec 32 := v201
  let v203 : BitVec 32 := Scalar.addi v202 c0_i32_102
  let v204 : Index := Scalar.indexCast v203
  let c128_104 : Index := 128#32
  ![0, v204.toNat, 128]
def k0_off24 (v11 : BitVec 32) (v14 : BitVec 32) : Fin 2 → Nat :=
  let c128_135 : Index := 128#32
  let v15 : BitVec 32 := Scalar.maxsi v11 v14
  let c3_i32_100 : BitVec 32 := 3#32
  let v200 : BitVec 32 := Scalar.subi v15 c3_i32_100
  let c512_i32_101 : BitVec 32 := 512#32
  let v201 : BitVec 32 := Scalar.muli v200 c512_i32_101
  let v202 : BitVec 32 := v201
  let v248 : Index := Scalar.indexCast v202
  ![128, v248.toNat]
@[reducible] def k0_t6_loop (i : grid0.Coords) (k0_t1 : Fin k0_t1_loop.trips) (v11 : BitVec 32) (v14 : BitVec 32) : Scf.Loop 32 :=
  let c0_i32_39 : BitVec 32 := 0#32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let v15 : BitVec 32 := Scalar.maxsi v11 v14
  let v72 : BitVec 32 := Scalar.subi v4 v15
  let c0_i32_32 : BitVec 32 := 0#32
  let v74 : BitVec 1 := Scalar.cmpi .sgt v72 c0_i32_32
  let v75 : BitVec 32 := Scalar.extui v74
  let c0_i32_33 : BitVec 32 := 0#32
  let v76 : BitVec 1 := Scalar.cmpi .slt v72 c0_i32_33
  let v77 : BitVec 32 := Scalar.extui v76
  let v78 : BitVec 32 := Scalar.subi v75 v77
  let c4_i32_31 : BitVec 32 := 4#32
  let c0_i32_34 : BitVec 32 := 0#32
  let v79 : BitVec 1 := Scalar.cmpi .sgt c4_i32_31 c0_i32_34
  let v80 : BitVec 32 := Scalar.extui v79
  let c0_i32_35 : BitVec 32 := 0#32
  let v81 : BitVec 1 := Scalar.cmpi .slt c4_i32_31 c0_i32_35
  let v82 : BitVec 32 := Scalar.extui v81
  let v83 : BitVec 32 := Scalar.subi v80 v82
  let v84 : BitVec 1 := Scalar.cmpi .ne v78 v83
  let v85 : BitVec 32 := Scalar.remsi v72 c4_i32_31
  let c0_i32_36 : BitVec 32 := 0#32
  let v86 : BitVec 1 := Scalar.cmpi .ne v85 c0_i32_36
  let v87 : BitVec 1 := Scalar.andi v84 v86
  let v73 : BitVec 32 := Scalar.divsi v72 c4_i32_31
  let c1_i32_37 : BitVec 32 := 1#32
  let v88 : BitVec 32 := Scalar.subi v73 c1_i32_37
  let v89 : BitVec 32 := Scalar.select v87 v88 v73
  let v90 : BitVec 32 := Scalar.subi v89 c0_i32_39
  let c1_i32_40 : BitVec 32 := 1#32
  let v92 : BitVec 32 := Scalar.divsi v90 c1_i32_40
  let v93 : BitVec 32 := Scalar.muli v92 c1_i32_40
  let v94 : BitVec 32 := Scalar.addi c0_i32_39 v93
  let c1_i32_41 : BitVec 32 := 1#32
  ⟨c0_i32_39, v94, c1_i32_41⟩
def k0_mult12 (i : grid0.Coords) (k0_t1 : Fin k0_t1_loop.trips) (v11 : BitVec 32) (v14 : BitVec 32) (k0_t6 : Fin (k0_t6_loop i k0_t1 v11 v14).trips) : BitVec 32 :=
  let v15 : BitVec 32 := Scalar.maxsi v11 v14
  let c4_i32_64 : BitVec 32 := 4#32
  let c0_i32_39 : BitVec 32 := 0#32
  let c1_i32_41 : BitVec 32 := 1#32
  let arg15 : BitVec 32 := Scf.iv c0_i32_39 c1_i32_41 k0_t6
  let v138 : BitVec 32 := Scalar.muli c4_i32_64 arg15
  let v139 : BitVec 32 := Scalar.addi v15 v138
  let c512_i32_65 : BitVec 32 := 512#32
  let v140 : BitVec 32 := Scalar.muli v139 c512_i32_65
  v140
def k0_off25 (i : grid0.Coords) (k0_t1 : Fin k0_t1_loop.trips) (v11 : BitVec 32) (v14 : BitVec 32) (k0_t6 : Fin (k0_t6_loop i k0_t1 v11 v14).trips) (c0_i32_66 : BitVec 32) : Fin 3 → Nat :=
  let c0_67 : Index := 0#32
  let v15 : BitVec 32 := Scalar.maxsi v11 v14
  let c4_i32_64 : BitVec 32 := 4#32
  let c0_i32_39 : BitVec 32 := 0#32
  let c1_i32_41 : BitVec 32 := 1#32
  let arg15 : BitVec 32 := Scf.iv c0_i32_39 c1_i32_41 k0_t6
  let v138 : BitVec 32 := Scalar.muli c4_i32_64 arg15
  let v139 : BitVec 32 := Scalar.addi v15 v138
  let c512_i32_65 : BitVec 32 := 512#32
  let v140 : BitVec 32 := Scalar.muli v139 c512_i32_65
  let v141 : BitVec 32 := v140
  let v142 : BitVec 32 := Scalar.addi v141 c0_i32_66
  let v143 : Index := Scalar.indexCast v142
  let c0_68 : Index := 0#32
  ![0, v143.toNat, 0]
def k0_off26 (i : grid0.Coords) (k0_t1 : Fin k0_t1_loop.trips) (v11 : BitVec 32) (v14 : BitVec 32) (k0_t6 : Fin (k0_t6_loop i k0_t1 v11 v14).trips) (c0_i32_109 : BitVec 32) : Fin 3 → Nat :=
  let c0_110 : Index := 0#32
  let v15 : BitVec 32 := Scalar.maxsi v11 v14
  let c4_i32_64 : BitVec 32 := 4#32
  let c0_i32_39 : BitVec 32 := 0#32
  let c1_i32_41 : BitVec 32 := 1#32
  let arg15 : BitVec 32 := Scf.iv c0_i32_39 c1_i32_41 k0_t6
  let v138 : BitVec 32 := Scalar.muli c4_i32_64 arg15
  let v139 : BitVec 32 := Scalar.addi v15 v138
  let c512_i32_65 : BitVec 32 := 512#32
  let v140 : BitVec 32 := Scalar.muli v139 c512_i32_65
  let v141 : BitVec 32 := v140
  let v202 : BitVec 32 := Scalar.addi v141 c0_i32_109
  let v203 : Index := Scalar.indexCast v202
  let c128_111 : Index := 128#32
  ![0, v203.toNat, 128]
def k0_off27 (i : grid0.Coords) (k0_t1 : Fin k0_t1_loop.trips) (v11 : BitVec 32) (v14 : BitVec 32) (k0_t6 : Fin (k0_t6_loop i k0_t1 v11 v14).trips) : Fin 2 → Nat :=
  let c0_157 : Index := 0#32
  let v15 : BitVec 32 := Scalar.maxsi v11 v14
  let c4_i32_64 : BitVec 32 := 4#32
  let c0_i32_39 : BitVec 32 := 0#32
  let c1_i32_41 : BitVec 32 := 1#32
  let arg15 : BitVec 32 := Scf.iv c0_i32_39 c1_i32_41 k0_t6
  let v138 : BitVec 32 := Scalar.muli c4_i32_64 arg15
  let v139 : BitVec 32 := Scalar.addi v15 v138
  let c512_i32_65 : BitVec 32 := 512#32
  let v140 : BitVec 32 := Scalar.muli v139 c512_i32_65
  let v141 : BitVec 32 := v140
  let v262 : Index := Scalar.indexCast v141
  ![0, v262.toNat]
def k0_off28 (i : grid0.Coords) (k0_t1 : Fin k0_t1_loop.trips) (v11 : BitVec 32) (v14 : BitVec 32) (k0_t6 : Fin (k0_t6_loop i k0_t1 v11 v14).trips) : Fin 2 → Nat :=
  let c128_168 : Index := 128#32
  let v15 : BitVec 32 := Scalar.maxsi v11 v14
  let c4_i32_64 : BitVec 32 := 4#32
  let c0_i32_39 : BitVec 32 := 0#32
  let c1_i32_41 : BitVec 32 := 1#32
  let arg15 : BitVec 32 := Scf.iv c0_i32_39 c1_i32_41 k0_t6
  let v138 : BitVec 32 := Scalar.muli c4_i32_64 arg15
  let v139 : BitVec 32 := Scalar.addi v15 v138
  let c512_i32_65 : BitVec 32 := 512#32
  let v140 : BitVec 32 := Scalar.muli v139 c512_i32_65
  let v141 : BitVec 32 := v140
  let v273 : Index := Scalar.indexCast v141
  ![128, v273.toNat]
@[reducible] def k0_t7_loop (i : grid0.Coords) (k0_t1 : Fin k0_t1_loop.trips) (v11 : BitVec 32) (v14 : BitVec 32) : Scf.Loop 32 :=
  let c0_i32_39 : BitVec 32 := 0#32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let v15 : BitVec 32 := Scalar.maxsi v11 v14
  let v72 : BitVec 32 := Scalar.subi v4 v15
  let c0_i32_32 : BitVec 32 := 0#32
  let v74 : BitVec 1 := Scalar.cmpi .sgt v72 c0_i32_32
  let v75 : BitVec 32 := Scalar.extui v74
  let c0_i32_33 : BitVec 32 := 0#32
  let v76 : BitVec 1 := Scalar.cmpi .slt v72 c0_i32_33
  let v77 : BitVec 32 := Scalar.extui v76
  let v78 : BitVec 32 := Scalar.subi v75 v77
  let c4_i32_31 : BitVec 32 := 4#32
  let c0_i32_34 : BitVec 32 := 0#32
  let v79 : BitVec 1 := Scalar.cmpi .sgt c4_i32_31 c0_i32_34
  let v80 : BitVec 32 := Scalar.extui v79
  let c0_i32_35 : BitVec 32 := 0#32
  let v81 : BitVec 1 := Scalar.cmpi .slt c4_i32_31 c0_i32_35
  let v82 : BitVec 32 := Scalar.extui v81
  let v83 : BitVec 32 := Scalar.subi v80 v82
  let v84 : BitVec 1 := Scalar.cmpi .ne v78 v83
  let v85 : BitVec 32 := Scalar.remsi v72 c4_i32_31
  let c0_i32_36 : BitVec 32 := 0#32
  let v86 : BitVec 1 := Scalar.cmpi .ne v85 c0_i32_36
  let v87 : BitVec 1 := Scalar.andi v84 v86
  let v73 : BitVec 32 := Scalar.divsi v72 c4_i32_31
  let c1_i32_37 : BitVec 32 := 1#32
  let v88 : BitVec 32 := Scalar.subi v73 c1_i32_37
  let v89 : BitVec 32 := Scalar.select v87 v88 v73
  let v90 : BitVec 32 := Scalar.subi v89 c0_i32_39
  let c1_i32_40 : BitVec 32 := 1#32
  let v92 : BitVec 32 := Scalar.divsi v90 c1_i32_40
  let v93 : BitVec 32 := Scalar.muli v92 c1_i32_40
  let v94 : BitVec 32 := Scalar.addi c0_i32_39 v93
  let v91 : BitVec 32 := Scalar.addi c0_i32_39 v90
  let c1_i32_42 : BitVec 32 := 1#32
  ⟨v94, v91, c1_i32_42⟩
def k0_mult13 (i : grid0.Coords) (k0_t1 : Fin k0_t1_loop.trips) (v11 : BitVec 32) (v14 : BitVec 32) (k0_t7 : Fin (k0_t7_loop i k0_t1 v11 v14).trips) : BitVec 32 :=
  let v15 : BitVec 32 := Scalar.maxsi v11 v14
  let c4_i32_64 : BitVec 32 := 4#32
  let c0_i32_39 : BitVec 32 := 0#32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let v72 : BitVec 32 := Scalar.subi v4 v15
  let c0_i32_32 : BitVec 32 := 0#32
  let v74 : BitVec 1 := Scalar.cmpi .sgt v72 c0_i32_32
  let v75 : BitVec 32 := Scalar.extui v74
  let c0_i32_33 : BitVec 32 := 0#32
  let v76 : BitVec 1 := Scalar.cmpi .slt v72 c0_i32_33
  let v77 : BitVec 32 := Scalar.extui v76
  let v78 : BitVec 32 := Scalar.subi v75 v77
  let c4_i32_31 : BitVec 32 := 4#32
  let c0_i32_34 : BitVec 32 := 0#32
  let v79 : BitVec 1 := Scalar.cmpi .sgt c4_i32_31 c0_i32_34
  let v80 : BitVec 32 := Scalar.extui v79
  let c0_i32_35 : BitVec 32 := 0#32
  let v81 : BitVec 1 := Scalar.cmpi .slt c4_i32_31 c0_i32_35
  let v82 : BitVec 32 := Scalar.extui v81
  let v83 : BitVec 32 := Scalar.subi v80 v82
  let v84 : BitVec 1 := Scalar.cmpi .ne v78 v83
  let v85 : BitVec 32 := Scalar.remsi v72 c4_i32_31
  let c0_i32_36 : BitVec 32 := 0#32
  let v86 : BitVec 1 := Scalar.cmpi .ne v85 c0_i32_36
  let v87 : BitVec 1 := Scalar.andi v84 v86
  let v73 : BitVec 32 := Scalar.divsi v72 c4_i32_31
  let c1_i32_37 : BitVec 32 := 1#32
  let v88 : BitVec 32 := Scalar.subi v73 c1_i32_37
  let v89 : BitVec 32 := Scalar.select v87 v88 v73
  let v90 : BitVec 32 := Scalar.subi v89 c0_i32_39
  let c1_i32_40 : BitVec 32 := 1#32
  let v92 : BitVec 32 := Scalar.divsi v90 c1_i32_40
  let v93 : BitVec 32 := Scalar.muli v92 c1_i32_40
  let v94 : BitVec 32 := Scalar.addi c0_i32_39 v93
  let c1_i32_42 : BitVec 32 := 1#32
  let arg15 : BitVec 32 := Scf.iv v94 c1_i32_42 k0_t7
  let v138 : BitVec 32 := Scalar.muli c4_i32_64 arg15
  let v139 : BitVec 32 := Scalar.addi v15 v138
  let c512_i32_65 : BitVec 32 := 512#32
  let v140 : BitVec 32 := Scalar.muli v139 c512_i32_65
  v140
def k0_off29 (i : grid0.Coords) (k0_t1 : Fin k0_t1_loop.trips) (v11 : BitVec 32) (v14 : BitVec 32) (k0_t7 : Fin (k0_t7_loop i k0_t1 v11 v14).trips) (c0_i32_66 : BitVec 32) : Fin 3 → Nat :=
  let c0_67 : Index := 0#32
  let v15 : BitVec 32 := Scalar.maxsi v11 v14
  let c4_i32_64 : BitVec 32 := 4#32
  let c0_i32_39 : BitVec 32 := 0#32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let v72 : BitVec 32 := Scalar.subi v4 v15
  let c0_i32_32 : BitVec 32 := 0#32
  let v74 : BitVec 1 := Scalar.cmpi .sgt v72 c0_i32_32
  let v75 : BitVec 32 := Scalar.extui v74
  let c0_i32_33 : BitVec 32 := 0#32
  let v76 : BitVec 1 := Scalar.cmpi .slt v72 c0_i32_33
  let v77 : BitVec 32 := Scalar.extui v76
  let v78 : BitVec 32 := Scalar.subi v75 v77
  let c4_i32_31 : BitVec 32 := 4#32
  let c0_i32_34 : BitVec 32 := 0#32
  let v79 : BitVec 1 := Scalar.cmpi .sgt c4_i32_31 c0_i32_34
  let v80 : BitVec 32 := Scalar.extui v79
  let c0_i32_35 : BitVec 32 := 0#32
  let v81 : BitVec 1 := Scalar.cmpi .slt c4_i32_31 c0_i32_35
  let v82 : BitVec 32 := Scalar.extui v81
  let v83 : BitVec 32 := Scalar.subi v80 v82
  let v84 : BitVec 1 := Scalar.cmpi .ne v78 v83
  let v85 : BitVec 32 := Scalar.remsi v72 c4_i32_31
  let c0_i32_36 : BitVec 32 := 0#32
  let v86 : BitVec 1 := Scalar.cmpi .ne v85 c0_i32_36
  let v87 : BitVec 1 := Scalar.andi v84 v86
  let v73 : BitVec 32 := Scalar.divsi v72 c4_i32_31
  let c1_i32_37 : BitVec 32 := 1#32
  let v88 : BitVec 32 := Scalar.subi v73 c1_i32_37
  let v89 : BitVec 32 := Scalar.select v87 v88 v73
  let v90 : BitVec 32 := Scalar.subi v89 c0_i32_39
  let c1_i32_40 : BitVec 32 := 1#32
  let v92 : BitVec 32 := Scalar.divsi v90 c1_i32_40
  let v93 : BitVec 32 := Scalar.muli v92 c1_i32_40
  let v94 : BitVec 32 := Scalar.addi c0_i32_39 v93
  let c1_i32_42 : BitVec 32 := 1#32
  let arg15 : BitVec 32 := Scf.iv v94 c1_i32_42 k0_t7
  let v138 : BitVec 32 := Scalar.muli c4_i32_64 arg15
  let v139 : BitVec 32 := Scalar.addi v15 v138
  let c512_i32_65 : BitVec 32 := 512#32
  let v140 : BitVec 32 := Scalar.muli v139 c512_i32_65
  let v141 : BitVec 32 := v140
  let v142 : BitVec 32 := Scalar.addi v141 c0_i32_66
  let v143 : Index := Scalar.indexCast v142
  let c0_68 : Index := 0#32
  ![0, v143.toNat, 0]
def k0_off30 (i : grid0.Coords) (k0_t1 : Fin k0_t1_loop.trips) (v11 : BitVec 32) (v14 : BitVec 32) (k0_t7 : Fin (k0_t7_loop i k0_t1 v11 v14).trips) (c0_i32_109 : BitVec 32) : Fin 3 → Nat :=
  let c0_110 : Index := 0#32
  let v15 : BitVec 32 := Scalar.maxsi v11 v14
  let c4_i32_64 : BitVec 32 := 4#32
  let c0_i32_39 : BitVec 32 := 0#32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let v72 : BitVec 32 := Scalar.subi v4 v15
  let c0_i32_32 : BitVec 32 := 0#32
  let v74 : BitVec 1 := Scalar.cmpi .sgt v72 c0_i32_32
  let v75 : BitVec 32 := Scalar.extui v74
  let c0_i32_33 : BitVec 32 := 0#32
  let v76 : BitVec 1 := Scalar.cmpi .slt v72 c0_i32_33
  let v77 : BitVec 32 := Scalar.extui v76
  let v78 : BitVec 32 := Scalar.subi v75 v77
  let c4_i32_31 : BitVec 32 := 4#32
  let c0_i32_34 : BitVec 32 := 0#32
  let v79 : BitVec 1 := Scalar.cmpi .sgt c4_i32_31 c0_i32_34
  let v80 : BitVec 32 := Scalar.extui v79
  let c0_i32_35 : BitVec 32 := 0#32
  let v81 : BitVec 1 := Scalar.cmpi .slt c4_i32_31 c0_i32_35
  let v82 : BitVec 32 := Scalar.extui v81
  let v83 : BitVec 32 := Scalar.subi v80 v82
  let v84 : BitVec 1 := Scalar.cmpi .ne v78 v83
  let v85 : BitVec 32 := Scalar.remsi v72 c4_i32_31
  let c0_i32_36 : BitVec 32 := 0#32
  let v86 : BitVec 1 := Scalar.cmpi .ne v85 c0_i32_36
  let v87 : BitVec 1 := Scalar.andi v84 v86
  let v73 : BitVec 32 := Scalar.divsi v72 c4_i32_31
  let c1_i32_37 : BitVec 32 := 1#32
  let v88 : BitVec 32 := Scalar.subi v73 c1_i32_37
  let v89 : BitVec 32 := Scalar.select v87 v88 v73
  let v90 : BitVec 32 := Scalar.subi v89 c0_i32_39
  let c1_i32_40 : BitVec 32 := 1#32
  let v92 : BitVec 32 := Scalar.divsi v90 c1_i32_40
  let v93 : BitVec 32 := Scalar.muli v92 c1_i32_40
  let v94 : BitVec 32 := Scalar.addi c0_i32_39 v93
  let c1_i32_42 : BitVec 32 := 1#32
  let arg15 : BitVec 32 := Scf.iv v94 c1_i32_42 k0_t7
  let v138 : BitVec 32 := Scalar.muli c4_i32_64 arg15
  let v139 : BitVec 32 := Scalar.addi v15 v138
  let c512_i32_65 : BitVec 32 := 512#32
  let v140 : BitVec 32 := Scalar.muli v139 c512_i32_65
  let v141 : BitVec 32 := v140
  let v202 : BitVec 32 := Scalar.addi v141 c0_i32_109
  let v203 : Index := Scalar.indexCast v202
  let c128_111 : Index := 128#32
  ![0, v203.toNat, 128]
def k0_off31 (i : grid0.Coords) (k0_t1 : Fin k0_t1_loop.trips) (v11 : BitVec 32) (v14 : BitVec 32) (k0_t7 : Fin (k0_t7_loop i k0_t1 v11 v14).trips) : Fin 2 → Nat :=
  let c0_157 : Index := 0#32
  let v15 : BitVec 32 := Scalar.maxsi v11 v14
  let c4_i32_64 : BitVec 32 := 4#32
  let c0_i32_39 : BitVec 32 := 0#32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let v72 : BitVec 32 := Scalar.subi v4 v15
  let c0_i32_32 : BitVec 32 := 0#32
  let v74 : BitVec 1 := Scalar.cmpi .sgt v72 c0_i32_32
  let v75 : BitVec 32 := Scalar.extui v74
  let c0_i32_33 : BitVec 32 := 0#32
  let v76 : BitVec 1 := Scalar.cmpi .slt v72 c0_i32_33
  let v77 : BitVec 32 := Scalar.extui v76
  let v78 : BitVec 32 := Scalar.subi v75 v77
  let c4_i32_31 : BitVec 32 := 4#32
  let c0_i32_34 : BitVec 32 := 0#32
  let v79 : BitVec 1 := Scalar.cmpi .sgt c4_i32_31 c0_i32_34
  let v80 : BitVec 32 := Scalar.extui v79
  let c0_i32_35 : BitVec 32 := 0#32
  let v81 : BitVec 1 := Scalar.cmpi .slt c4_i32_31 c0_i32_35
  let v82 : BitVec 32 := Scalar.extui v81
  let v83 : BitVec 32 := Scalar.subi v80 v82
  let v84 : BitVec 1 := Scalar.cmpi .ne v78 v83
  let v85 : BitVec 32 := Scalar.remsi v72 c4_i32_31
  let c0_i32_36 : BitVec 32 := 0#32
  let v86 : BitVec 1 := Scalar.cmpi .ne v85 c0_i32_36
  let v87 : BitVec 1 := Scalar.andi v84 v86
  let v73 : BitVec 32 := Scalar.divsi v72 c4_i32_31
  let c1_i32_37 : BitVec 32 := 1#32
  let v88 : BitVec 32 := Scalar.subi v73 c1_i32_37
  let v89 : BitVec 32 := Scalar.select v87 v88 v73
  let v90 : BitVec 32 := Scalar.subi v89 c0_i32_39
  let c1_i32_40 : BitVec 32 := 1#32
  let v92 : BitVec 32 := Scalar.divsi v90 c1_i32_40
  let v93 : BitVec 32 := Scalar.muli v92 c1_i32_40
  let v94 : BitVec 32 := Scalar.addi c0_i32_39 v93
  let c1_i32_42 : BitVec 32 := 1#32
  let arg15 : BitVec 32 := Scf.iv v94 c1_i32_42 k0_t7
  let v138 : BitVec 32 := Scalar.muli c4_i32_64 arg15
  let v139 : BitVec 32 := Scalar.addi v15 v138
  let c512_i32_65 : BitVec 32 := 512#32
  let v140 : BitVec 32 := Scalar.muli v139 c512_i32_65
  let v141 : BitVec 32 := v140
  let v262 : Index := Scalar.indexCast v141
  ![0, v262.toNat]
def k0_off32 (i : grid0.Coords) (k0_t1 : Fin k0_t1_loop.trips) (v11 : BitVec 32) (v14 : BitVec 32) (k0_t7 : Fin (k0_t7_loop i k0_t1 v11 v14).trips) : Fin 2 → Nat :=
  let c128_168 : Index := 128#32
  let v15 : BitVec 32 := Scalar.maxsi v11 v14
  let c4_i32_64 : BitVec 32 := 4#32
  let c0_i32_39 : BitVec 32 := 0#32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let v72 : BitVec 32 := Scalar.subi v4 v15
  let c0_i32_32 : BitVec 32 := 0#32
  let v74 : BitVec 1 := Scalar.cmpi .sgt v72 c0_i32_32
  let v75 : BitVec 32 := Scalar.extui v74
  let c0_i32_33 : BitVec 32 := 0#32
  let v76 : BitVec 1 := Scalar.cmpi .slt v72 c0_i32_33
  let v77 : BitVec 32 := Scalar.extui v76
  let v78 : BitVec 32 := Scalar.subi v75 v77
  let c4_i32_31 : BitVec 32 := 4#32
  let c0_i32_34 : BitVec 32 := 0#32
  let v79 : BitVec 1 := Scalar.cmpi .sgt c4_i32_31 c0_i32_34
  let v80 : BitVec 32 := Scalar.extui v79
  let c0_i32_35 : BitVec 32 := 0#32
  let v81 : BitVec 1 := Scalar.cmpi .slt c4_i32_31 c0_i32_35
  let v82 : BitVec 32 := Scalar.extui v81
  let v83 : BitVec 32 := Scalar.subi v80 v82
  let v84 : BitVec 1 := Scalar.cmpi .ne v78 v83
  let v85 : BitVec 32 := Scalar.remsi v72 c4_i32_31
  let c0_i32_36 : BitVec 32 := 0#32
  let v86 : BitVec 1 := Scalar.cmpi .ne v85 c0_i32_36
  let v87 : BitVec 1 := Scalar.andi v84 v86
  let v73 : BitVec 32 := Scalar.divsi v72 c4_i32_31
  let c1_i32_37 : BitVec 32 := 1#32
  let v88 : BitVec 32 := Scalar.subi v73 c1_i32_37
  let v89 : BitVec 32 := Scalar.select v87 v88 v73
  let v90 : BitVec 32 := Scalar.subi v89 c0_i32_39
  let c1_i32_40 : BitVec 32 := 1#32
  let v92 : BitVec 32 := Scalar.divsi v90 c1_i32_40
  let v93 : BitVec 32 := Scalar.muli v92 c1_i32_40
  let v94 : BitVec 32 := Scalar.addi c0_i32_39 v93
  let c1_i32_42 : BitVec 32 := 1#32
  let arg15 : BitVec 32 := Scf.iv v94 c1_i32_42 k0_t7
  let v138 : BitVec 32 := Scalar.muli c4_i32_64 arg15
  let v139 : BitVec 32 := Scalar.addi v15 v138
  let c512_i32_65 : BitVec 32 := 512#32
  let v140 : BitVec 32 := Scalar.muli v139 c512_i32_65
  let v141 : BitVec 32 := v140
  let v273 : Index := Scalar.indexCast v141
  ![128, v273.toNat]
def k0_mult14 (i : grid0.Coords) (k0_t1 : Fin k0_t1_loop.trips) : BitVec 32 :=
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let c0_i32_64 : BitVec 32 := 0#32
  let v138 : BitVec 32 := Scalar.subi v4 c0_i32_64
  let c512_i32_65 : BitVec 32 := 512#32
  let v139 : BitVec 32 := Scalar.muli v138 c512_i32_65
  v139
def k0_off33 (i : grid0.Coords) (k0_t1 : Fin k0_t1_loop.trips) : Fin 3 → Nat :=
  let c0_67 : Index := 0#32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let c0_i32_64 : BitVec 32 := 0#32
  let v138 : BitVec 32 := Scalar.subi v4 c0_i32_64
  let c512_i32_65 : BitVec 32 := 512#32
  let v139 : BitVec 32 := Scalar.muli v138 c512_i32_65
  let v140 : BitVec 32 := v139
  let c0_i32_66 : BitVec 32 := 0#32
  let v141 : BitVec 32 := Scalar.addi v140 c0_i32_66
  let v142 : Index := Scalar.indexCast v141
  let c0_68 : Index := 0#32
  ![0, v142.toNat, 0]
def k0_off34 (i : grid0.Coords) (k0_t1 : Fin k0_t1_loop.trips) : Fin 3 → Nat :=
  let c0_80 : Index := 0#32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let c0_i32_64 : BitVec 32 := 0#32
  let v138 : BitVec 32 := Scalar.subi v4 c0_i32_64
  let c512_i32_65 : BitVec 32 := 512#32
  let v139 : BitVec 32 := Scalar.muli v138 c512_i32_65
  let v140 : BitVec 32 := v139
  let c0_i32_79 : BitVec 32 := 0#32
  let v161 : BitVec 32 := Scalar.addi v140 c0_i32_79
  let v162 : Index := Scalar.indexCast v161
  let c128_81 : Index := 128#32
  ![0, v162.toNat, 128]
def k0_off35 (i : grid0.Coords) (k0_t1 : Fin k0_t1_loop.trips) : Fin 2 → Nat :=
  let c0_92 : Index := 0#32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let c0_i32_64 : BitVec 32 := 0#32
  let v138 : BitVec 32 := Scalar.subi v4 c0_i32_64
  let c512_i32_65 : BitVec 32 := 512#32
  let v139 : BitVec 32 := Scalar.muli v138 c512_i32_65
  let v140 : BitVec 32 := v139
  let v181 : Index := Scalar.indexCast v140
  ![0, v181.toNat]
def k0_off36 (i : grid0.Coords) (k0_t1 : Fin k0_t1_loop.trips) : Fin 2 → Nat :=
  let c128_103 : Index := 128#32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let c0_i32_64 : BitVec 32 := 0#32
  let v138 : BitVec 32 := Scalar.subi v4 c0_i32_64
  let c512_i32_65 : BitVec 32 := 512#32
  let v139 : BitVec 32 := Scalar.muli v138 c512_i32_65
  let v140 : BitVec 32 := v139
  let v192 : Index := Scalar.indexCast v140
  ![128, v192.toNat]
def k0_mult15 (i : grid0.Coords) (k0_t1 : Fin k0_t1_loop.trips) : BitVec 32 :=
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let c1_i32_64 : BitVec 32 := 1#32
  let v138 : BitVec 32 := Scalar.subi v4 c1_i32_64
  let c512_i32_65 : BitVec 32 := 512#32
  let v139 : BitVec 32 := Scalar.muli v138 c512_i32_65
  v139
def k0_off37 (i : grid0.Coords) (k0_t1 : Fin k0_t1_loop.trips) (c0_i32_66 : BitVec 32) : Fin 3 → Nat :=
  let c0_67 : Index := 0#32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let c1_i32_64 : BitVec 32 := 1#32
  let v138 : BitVec 32 := Scalar.subi v4 c1_i32_64
  let c512_i32_65 : BitVec 32 := 512#32
  let v139 : BitVec 32 := Scalar.muli v138 c512_i32_65
  let v140 : BitVec 32 := v139
  let v141 : BitVec 32 := Scalar.addi v140 c0_i32_66
  let v142 : Index := Scalar.indexCast v141
  let c0_68 : Index := 0#32
  ![0, v142.toNat, 0]
def k0_cond11 (i : grid0.Coords) (k0_t1 : Fin k0_t1_loop.trips) (v11 : BitVec 32) (v14 : BitVec 32) : BitVec 1 :=
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let v15 : BitVec 32 := Scalar.maxsi v11 v14
  let v72 : BitVec 32 := Scalar.subi v4 v15
  let c4_i32_46 : BitVec 32 := 4#32
  let c0_i32_32 : BitVec 32 := 0#32
  let v74 : BitVec 1 := Scalar.cmpi .sgt v72 c0_i32_32
  let v75 : BitVec 32 := Scalar.extui v74
  let c0_i32_33 : BitVec 32 := 0#32
  let v76 : BitVec 1 := Scalar.cmpi .slt v72 c0_i32_33
  let v77 : BitVec 32 := Scalar.extui v76
  let v78 : BitVec 32 := Scalar.subi v75 v77
  let c4_i32_31 : BitVec 32 := 4#32
  let c0_i32_34 : BitVec 32 := 0#32
  let v79 : BitVec 1 := Scalar.cmpi .sgt c4_i32_31 c0_i32_34
  let v80 : BitVec 32 := Scalar.extui v79
  let c0_i32_35 : BitVec 32 := 0#32
  let v81 : BitVec 1 := Scalar.cmpi .slt c4_i32_31 c0_i32_35
  let v82 : BitVec 32 := Scalar.extui v81
  let v83 : BitVec 32 := Scalar.subi v80 v82
  let v84 : BitVec 1 := Scalar.cmpi .ne v78 v83
  let v85 : BitVec 32 := Scalar.remsi v72 c4_i32_31
  let c0_i32_36 : BitVec 32 := 0#32
  let v86 : BitVec 1 := Scalar.cmpi .ne v85 c0_i32_36
  let v87 : BitVec 1 := Scalar.andi v84 v86
  let v73 : BitVec 32 := Scalar.divsi v72 c4_i32_31
  let c1_i32_37 : BitVec 32 := 1#32
  let v88 : BitVec 32 := Scalar.subi v73 c1_i32_37
  let v89 : BitVec 32 := Scalar.select v87 v88 v73
  let v100 : BitVec 32 := Scalar.muli c4_i32_46 v89
  let v101 : BitVec 32 := Scalar.subi v72 v100
  let c1_i32_47 : BitVec 32 := 1#32
  let v102 : BitVec 1 := Scalar.cmpi .eq v101 c1_i32_47
  let v103 : BitVec 32 := Scalar.extui v102
  let c0_i32_48 : BitVec 32 := 0#32
  let v104 : BitVec 1 := Scalar.cmpi .ne v103 c0_i32_48
  v104

def k0_off38 (i : grid0.Coords) (k0_t1 : Fin k0_t1_loop.trips) (c0_i32_90 : BitVec 32) : Fin 3 → Nat :=
  let c0_91 : Index := 0#32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let c1_i32_64 : BitVec 32 := 1#32
  let v138 : BitVec 32 := Scalar.subi v4 c1_i32_64
  let c512_i32_65 : BitVec 32 := 512#32
  let v139 : BitVec 32 := Scalar.muli v138 c512_i32_65
  let v140 : BitVec 32 := v139
  let v176 : BitVec 32 := Scalar.addi v140 c0_i32_90
  let v177 : Index := Scalar.indexCast v176
  let c128_92 : Index := 128#32
  ![0, v177.toNat, 128]
def k0_off39 (i : grid0.Coords) (k0_t1 : Fin k0_t1_loop.trips) : Fin 2 → Nat :=
  let c0_115 : Index := 0#32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let c1_i32_64 : BitVec 32 := 1#32
  let v138 : BitVec 32 := Scalar.subi v4 c1_i32_64
  let c512_i32_65 : BitVec 32 := 512#32
  let v139 : BitVec 32 := Scalar.muli v138 c512_i32_65
  let v140 : BitVec 32 := v139
  let v211 : Index := Scalar.indexCast v140
  ![0, v211.toNat]
def k0_off40 (i : grid0.Coords) (k0_t1 : Fin k0_t1_loop.trips) : Fin 2 → Nat :=
  let c128_126 : Index := 128#32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let c1_i32_64 : BitVec 32 := 1#32
  let v138 : BitVec 32 := Scalar.subi v4 c1_i32_64
  let c512_i32_65 : BitVec 32 := 512#32
  let v139 : BitVec 32 := Scalar.muli v138 c512_i32_65
  let v140 : BitVec 32 := v139
  let v222 : Index := Scalar.indexCast v140
  ![128, v222.toNat]
def k0_mult16 (i : grid0.Coords) (k0_t1 : Fin k0_t1_loop.trips) : BitVec 32 :=
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let c2_i32_64 : BitVec 32 := 2#32
  let v138 : BitVec 32 := Scalar.subi v4 c2_i32_64
  let c512_i32_65 : BitVec 32 := 512#32
  let v139 : BitVec 32 := Scalar.muli v138 c512_i32_65
  v139
def k0_off41 (i : grid0.Coords) (k0_t1 : Fin k0_t1_loop.trips) (c0_i32_66 : BitVec 32) : Fin 3 → Nat :=
  let c0_67 : Index := 0#32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let c2_i32_64 : BitVec 32 := 2#32
  let v138 : BitVec 32 := Scalar.subi v4 c2_i32_64
  let c512_i32_65 : BitVec 32 := 512#32
  let v139 : BitVec 32 := Scalar.muli v138 c512_i32_65
  let v140 : BitVec 32 := v139
  let v141 : BitVec 32 := Scalar.addi v140 c0_i32_66
  let v142 : Index := Scalar.indexCast v141
  let c0_68 : Index := 0#32
  ![0, v142.toNat, 0]
def k0_cond12 (i : grid0.Coords) (k0_t1 : Fin k0_t1_loop.trips) (v11 : BitVec 32) (v14 : BitVec 32) : BitVec 1 :=
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let v15 : BitVec 32 := Scalar.maxsi v11 v14
  let v72 : BitVec 32 := Scalar.subi v4 v15
  let c4_i32_49 : BitVec 32 := 4#32
  let c0_i32_32 : BitVec 32 := 0#32
  let v74 : BitVec 1 := Scalar.cmpi .sgt v72 c0_i32_32
  let v75 : BitVec 32 := Scalar.extui v74
  let c0_i32_33 : BitVec 32 := 0#32
  let v76 : BitVec 1 := Scalar.cmpi .slt v72 c0_i32_33
  let v77 : BitVec 32 := Scalar.extui v76
  let v78 : BitVec 32 := Scalar.subi v75 v77
  let c4_i32_31 : BitVec 32 := 4#32
  let c0_i32_34 : BitVec 32 := 0#32
  let v79 : BitVec 1 := Scalar.cmpi .sgt c4_i32_31 c0_i32_34
  let v80 : BitVec 32 := Scalar.extui v79
  let c0_i32_35 : BitVec 32 := 0#32
  let v81 : BitVec 1 := Scalar.cmpi .slt c4_i32_31 c0_i32_35
  let v82 : BitVec 32 := Scalar.extui v81
  let v83 : BitVec 32 := Scalar.subi v80 v82
  let v84 : BitVec 1 := Scalar.cmpi .ne v78 v83
  let v85 : BitVec 32 := Scalar.remsi v72 c4_i32_31
  let c0_i32_36 : BitVec 32 := 0#32
  let v86 : BitVec 1 := Scalar.cmpi .ne v85 c0_i32_36
  let v87 : BitVec 1 := Scalar.andi v84 v86
  let v73 : BitVec 32 := Scalar.divsi v72 c4_i32_31
  let c1_i32_37 : BitVec 32 := 1#32
  let v88 : BitVec 32 := Scalar.subi v73 c1_i32_37
  let v89 : BitVec 32 := Scalar.select v87 v88 v73
  let v105 : BitVec 32 := Scalar.muli c4_i32_49 v89
  let v106 : BitVec 32 := Scalar.subi v72 v105
  let c2_i32_50 : BitVec 32 := 2#32
  let v107 : BitVec 1 := Scalar.cmpi .eq v106 c2_i32_50
  let v108 : BitVec 32 := Scalar.extui v107
  let c0_i32_51 : BitVec 32 := 0#32
  let v109 : BitVec 1 := Scalar.cmpi .ne v108 c0_i32_51
  v109

def k0_off42 (i : grid0.Coords) (k0_t1 : Fin k0_t1_loop.trips) (c0_i32_100 : BitVec 32) : Fin 3 → Nat :=
  let c0_101 : Index := 0#32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let c2_i32_64 : BitVec 32 := 2#32
  let v138 : BitVec 32 := Scalar.subi v4 c2_i32_64
  let c512_i32_65 : BitVec 32 := 512#32
  let v139 : BitVec 32 := Scalar.muli v138 c512_i32_65
  let v140 : BitVec 32 := v139
  let v191 : BitVec 32 := Scalar.addi v140 c0_i32_100
  let v192 : Index := Scalar.indexCast v191
  let c128_102 : Index := 128#32
  ![0, v192.toNat, 128]
def k0_off43 (i : grid0.Coords) (k0_t1 : Fin k0_t1_loop.trips) : Fin 2 → Nat :=
  let c0_137 : Index := 0#32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let c2_i32_64 : BitVec 32 := 2#32
  let v138 : BitVec 32 := Scalar.subi v4 c2_i32_64
  let c512_i32_65 : BitVec 32 := 512#32
  let v139 : BitVec 32 := Scalar.muli v138 c512_i32_65
  let v140 : BitVec 32 := v139
  let v241 : Index := Scalar.indexCast v140
  ![0, v241.toNat]
def k0_off44 (i : grid0.Coords) (k0_t1 : Fin k0_t1_loop.trips) : Fin 2 → Nat :=
  let c128_148 : Index := 128#32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let c2_i32_64 : BitVec 32 := 2#32
  let v138 : BitVec 32 := Scalar.subi v4 c2_i32_64
  let c512_i32_65 : BitVec 32 := 512#32
  let v139 : BitVec 32 := Scalar.muli v138 c512_i32_65
  let v140 : BitVec 32 := v139
  let v252 : Index := Scalar.indexCast v140
  ![128, v252.toNat]
def k0_mult17 (i : grid0.Coords) (k0_t1 : Fin k0_t1_loop.trips) : BitVec 32 :=
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let c3_i32_64 : BitVec 32 := 3#32
  let v138 : BitVec 32 := Scalar.subi v4 c3_i32_64
  let c512_i32_65 : BitVec 32 := 512#32
  let v139 : BitVec 32 := Scalar.muli v138 c512_i32_65
  v139
def k0_off45 (i : grid0.Coords) (k0_t1 : Fin k0_t1_loop.trips) (c0_i32_66 : BitVec 32) : Fin 3 → Nat :=
  let c0_67 : Index := 0#32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let c3_i32_64 : BitVec 32 := 3#32
  let v138 : BitVec 32 := Scalar.subi v4 c3_i32_64
  let c512_i32_65 : BitVec 32 := 512#32
  let v139 : BitVec 32 := Scalar.muli v138 c512_i32_65
  let v140 : BitVec 32 := v139
  let v141 : BitVec 32 := Scalar.addi v140 c0_i32_66
  let v142 : Index := Scalar.indexCast v141
  let c0_68 : Index := 0#32
  ![0, v142.toNat, 0]
def k0_cond13 (i : grid0.Coords) (k0_t1 : Fin k0_t1_loop.trips) (v11 : BitVec 32) (v14 : BitVec 32) : BitVec 1 :=
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let v15 : BitVec 32 := Scalar.maxsi v11 v14
  let v72 : BitVec 32 := Scalar.subi v4 v15
  let c4_i32_52 : BitVec 32 := 4#32
  let c0_i32_32 : BitVec 32 := 0#32
  let v74 : BitVec 1 := Scalar.cmpi .sgt v72 c0_i32_32
  let v75 : BitVec 32 := Scalar.extui v74
  let c0_i32_33 : BitVec 32 := 0#32
  let v76 : BitVec 1 := Scalar.cmpi .slt v72 c0_i32_33
  let v77 : BitVec 32 := Scalar.extui v76
  let v78 : BitVec 32 := Scalar.subi v75 v77
  let c4_i32_31 : BitVec 32 := 4#32
  let c0_i32_34 : BitVec 32 := 0#32
  let v79 : BitVec 1 := Scalar.cmpi .sgt c4_i32_31 c0_i32_34
  let v80 : BitVec 32 := Scalar.extui v79
  let c0_i32_35 : BitVec 32 := 0#32
  let v81 : BitVec 1 := Scalar.cmpi .slt c4_i32_31 c0_i32_35
  let v82 : BitVec 32 := Scalar.extui v81
  let v83 : BitVec 32 := Scalar.subi v80 v82
  let v84 : BitVec 1 := Scalar.cmpi .ne v78 v83
  let v85 : BitVec 32 := Scalar.remsi v72 c4_i32_31
  let c0_i32_36 : BitVec 32 := 0#32
  let v86 : BitVec 1 := Scalar.cmpi .ne v85 c0_i32_36
  let v87 : BitVec 1 := Scalar.andi v84 v86
  let v73 : BitVec 32 := Scalar.divsi v72 c4_i32_31
  let c1_i32_37 : BitVec 32 := 1#32
  let v88 : BitVec 32 := Scalar.subi v73 c1_i32_37
  let v89 : BitVec 32 := Scalar.select v87 v88 v73
  let v110 : BitVec 32 := Scalar.muli c4_i32_52 v89
  let v111 : BitVec 32 := Scalar.subi v72 v110
  let c3_i32 : BitVec 32 := 3#32
  let v112 : BitVec 1 := Scalar.cmpi .eq v111 c3_i32
  let v113 : BitVec 32 := Scalar.extui v112
  let c0_i32_53 : BitVec 32 := 0#32
  let v114 : BitVec 1 := Scalar.cmpi .ne v113 c0_i32_53
  v114

def k0_off46 (i : grid0.Coords) (k0_t1 : Fin k0_t1_loop.trips) (c0_i32_110 : BitVec 32) : Fin 3 → Nat :=
  let c0_111 : Index := 0#32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let c3_i32_64 : BitVec 32 := 3#32
  let v138 : BitVec 32 := Scalar.subi v4 c3_i32_64
  let c512_i32_65 : BitVec 32 := 512#32
  let v139 : BitVec 32 := Scalar.muli v138 c512_i32_65
  let v140 : BitVec 32 := v139
  let v206 : BitVec 32 := Scalar.addi v140 c0_i32_110
  let v207 : Index := Scalar.indexCast v206
  let c128_112 : Index := 128#32
  ![0, v207.toNat, 128]
def k0_off47 (i : grid0.Coords) (k0_t1 : Fin k0_t1_loop.trips) : Fin 2 → Nat :=
  let c0_159 : Index := 0#32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let c3_i32_64 : BitVec 32 := 3#32
  let v138 : BitVec 32 := Scalar.subi v4 c3_i32_64
  let c512_i32_65 : BitVec 32 := 512#32
  let v139 : BitVec 32 := Scalar.muli v138 c512_i32_65
  let v140 : BitVec 32 := v139
  let v271 : Index := Scalar.indexCast v140
  ![0, v271.toNat]
def k0_off48 (i : grid0.Coords) (k0_t1 : Fin k0_t1_loop.trips) : Fin 2 → Nat :=
  let c128_170 : Index := 128#32
  let c4_i32_1 : BitVec 32 := 4#32
  let arg2 : BitVec 32 := BitVec.ofNat 32 (i 2).val
  let v3 : BitVec 32 := Scalar.muli c4_i32_1 arg2
  let c0_i32 : BitVec 32 := 0#32
  let c1_i32 : BitVec 32 := 1#32
  let arg14 : BitVec 32 := Scf.iv c0_i32 c1_i32 k0_t1
  let v4 : BitVec 32 := Scalar.addi v3 arg14
  let c3_i32_64 : BitVec 32 := 3#32
  let v138 : BitVec 32 := Scalar.subi v4 c3_i32_64
  let c512_i32_65 : BitVec 32 := 512#32
  let v139 : BitVec 32 := Scalar.muli v138 c512_i32_65
  let v140 : BitVec 32 := v139
  let v282 : Index := Scalar.indexCast v140
  ![128, v282.toNat]

def k0_chk1_0 (i : grid0.Coords) (k0_t1 : Fin k0_t1_loop.trips) (v11 : BitVec 32) (v14 : BitVec 32) : Prop :=
  (∀ (k0_h2 : k0_cond2 v11 v14 = 1#1), (k0_t2_loop v11 v14).OK) ∧
  (∀ k0_t2 : Fin (k0_t2_loop v11 v14).trips, ∀ (k0_h2 : k0_cond2 v11 v14 = 1#1), 512 ∣ (k0_mult2 v11 v14 k0_t2).toNat) ∧
  (∀ k0_t2 : Fin (k0_t2_loop v11 v14).trips, ∀ (k0_h2 : k0_cond2 v11 v14 = 1#1), ∀ (r : Fin 4), ∀ a, (k0_off5 v11 v14 k0_t2 (BitVec.ofNat 32 (512 * r.val))) a + S1x512x128.size a ≤ S1x16384x256.size a) ∧
  (∀ k0_t2 : Fin (k0_t2_loop v11 v14).trips, ∀ (k0_h2 : k0_cond2 v11 v14 = 1#1), ∀ a, (k0_off6 v11 v14 k0_t2) a + S128x2048.size a ≤ S256x16384.size a) ∧
  (∀ (k0_h2 : k0_cond2 v11 v14 = 1#1), (k0_t3_loop v11 v14).OK) ∧
  (∀ k0_t3 : Fin (k0_t3_loop v11 v14).trips, ∀ (k0_h2 : k0_cond2 v11 v14 = 1#1), 512 ∣ (k0_mult3 v11 v14 k0_t3).toNat) ∧
  (∀ k0_t3 : Fin (k0_t3_loop v11 v14).trips, ∀ (k0_h2 : k0_cond2 v11 v14 = 1#1), ∀ (r : Fin 4), ∀ a, (k0_off7 v11 v14 k0_t3 (BitVec.ofNat 32 (512 * r.val))) a + S1x512x128.size a ≤ S1x16384x256.size a) ∧
  (∀ k0_t3 : Fin (k0_t3_loop v11 v14).trips, ∀ (k0_h2 : k0_cond2 v11 v14 = 1#1), ∀ a, (k0_off8 v11 v14 k0_t3) a + S128x2048.size a ≤ S256x16384.size a) ∧
  (∀ (k0_h2 : k0_cond2 v11 v14 = 1#1), ∀ (k0_h3 : k0_cond3 v11 v14 = 1#1), 512 ∣ (k0_mult4 v11 v14).toNat) ∧
  (∀ (k0_h2 : k0_cond2 v11 v14 = 1#1), ∀ (k0_h3 : k0_cond3 v11 v14 = 1#1), ∀ a, (k0_off9 v11 v14) a + S1x512x128.size a ≤ S1x16384x256.size a) ∧
  (∀ (k0_h2 : k0_cond2 v11 v14 = 1#1), ∀ (k0_h3 : k0_cond3 v11 v14 = 1#1), ∀ a, (k0_off10 v11 v14) a + S128x512.size a ≤ S256x16384.size a) ∧
  (∀ (k0_h2 : k0_cond2 v11 v14 = 1#1), ∀ (k0_h4 : k0_cond4 v11 v14 = 1#1), 512 ∣ (k0_mult5 v11 v14).toNat) ∧
  (∀ (k0_h2 : k0_cond2 v11 v14 = 1#1), ∀ (k0_h4 : k0_cond4 v11 v14 = 1#1), ∀ (r : Fin 2), ∀ a, (k0_off11 v11 v14 (BitVec.ofNat 32 (512 * r.val))) a + S1x512x128.size a ≤ S1x16384x256.size a) ∧
  (∀ (k0_h2 : k0_cond2 v11 v14 = 1#1), ∀ (k0_h4 : k0_cond4 v11 v14 = 1#1), ∀ a, (k0_off12 v11 v14) a + S128x1024.size a ≤ S256x16384.size a) ∧
  (∀ (k0_h2 : k0_cond2 v11 v14 = 1#1), ∀ (k0_h5 : k0_cond5 v11 v14 = 1#1), 512 ∣ (k0_mult6 v11 v14).toNat) ∧
  (∀ (k0_h2 : k0_cond2 v11 v14 = 1#1), ∀ (k0_h5 : k0_cond5 v11 v14 = 1#1), ∀ (r : Fin 3), ∀ a, (k0_off13 v11 v14 (BitVec.ofNat 32 (512 * r.val))) a + S1x512x128.size a ≤ S1x16384x256.size a) ∧
  (∀ (k0_h2 : k0_cond2 v11 v14 = 1#1), ∀ (k0_h5 : k0_cond5 v11 v14 = 1#1), ∀ a, (k0_off14 v11 v14) a + S128x1536.size a ≤ S256x16384.size a) ∧
  (∀ (k0_h6 : k0_cond6 v11 v14 = 1#1), (k0_t4_loop v11 v14).OK) ∧
  (∀ k0_t4 : Fin (k0_t4_loop v11 v14).trips, ∀ (k0_h6 : k0_cond6 v11 v14 = 1#1), 512 ∣ (k0_mult7 v11 v14 k0_t4).toNat) ∧
  (∀ k0_t4 : Fin (k0_t4_loop v11 v14).trips, ∀ (k0_h6 : k0_cond6 v11 v14 = 1#1), ∀ (r : Fin 4), ∀ a, (k0_off15 v11 v14 k0_t4 (BitVec.ofNat 32 (512 * r.val))) a + S1x512x128.size a ≤ S1x16384x256.size a) ∧
  (∀ k0_t4 : Fin (k0_t4_loop v11 v14).trips, ∀ (k0_h6 : k0_cond6 v11 v14 = 1#1), ∀ a, (k0_off16 v11 v14 k0_t4) a + S128x2048.size a ≤ S256x16384.size a) ∧
  (∀ (k0_h6 : k0_cond6 v11 v14 = 1#1), (k0_t5_loop v11 v14).OK) ∧
  (∀ k0_t5 : Fin (k0_t5_loop v11 v14).trips, ∀ (k0_h6 : k0_cond6 v11 v14 = 1#1), 512 ∣ (k0_mult8 v11 v14 k0_t5).toNat) ∧
  (∀ k0_t5 : Fin (k0_t5_loop v11 v14).trips, ∀ (k0_h6 : k0_cond6 v11 v14 = 1#1), ∀ (r : Fin 4), ∀ a, (k0_off17 v11 v14 k0_t5 (BitVec.ofNat 32 (512 * r.val))) a + S1x512x128.size a ≤ S1x16384x256.size a) ∧
  (∀ k0_t5 : Fin (k0_t5_loop v11 v14).trips, ∀ (k0_h6 : k0_cond6 v11 v14 = 1#1), ∀ a, (k0_off18 v11 v14 k0_t5) a + S128x2048.size a ≤ S256x16384.size a) ∧
  (∀ (k0_h6 : k0_cond6 v11 v14 = 1#1), ∀ (k0_h7 : k0_cond7 v11 v14 = 1#1), 512 ∣ (k0_mult9 v11 v14).toNat) ∧
  (∀ (k0_h6 : k0_cond6 v11 v14 = 1#1), ∀ (k0_h7 : k0_cond7 v11 v14 = 1#1), ∀ a, (k0_off19 v11 v14) a + S1x512x128.size a ≤ S1x16384x256.size a) ∧
  (∀ (k0_h6 : k0_cond6 v11 v14 = 1#1), ∀ (k0_h7 : k0_cond7 v11 v14 = 1#1), ∀ a, (k0_off20 v11 v14) a + S128x512.size a ≤ S256x16384.size a) ∧
  (∀ (k0_h6 : k0_cond6 v11 v14 = 1#1), ∀ (k0_h8 : k0_cond8 v11 v14 = 1#1), 512 ∣ (k0_mult10 v11 v14).toNat) ∧
  (∀ (k0_h6 : k0_cond6 v11 v14 = 1#1), ∀ (k0_h8 : k0_cond8 v11 v14 = 1#1), ∀ (r : Fin 2), ∀ a, (k0_off21 v11 v14 (BitVec.ofNat 32 (512 * r.val))) a + S1x512x128.size a ≤ S1x16384x256.size a) ∧
  (∀ (k0_h6 : k0_cond6 v11 v14 = 1#1), ∀ (k0_h8 : k0_cond8 v11 v14 = 1#1), ∀ a, (k0_off22 v11 v14) a + S128x1024.size a ≤ S256x16384.size a) ∧
  (∀ (k0_h6 : k0_cond6 v11 v14 = 1#1), ∀ (k0_h9 : k0_cond9 v11 v14 = 1#1), 512 ∣ (k0_mult11 v11 v14).toNat)
def k0_chk1_1 (i : grid0.Coords) (k0_t1 : Fin k0_t1_loop.trips) (v11 : BitVec 32) (v14 : BitVec 32) : Prop :=
  (∀ (k0_h6 : k0_cond6 v11 v14 = 1#1), ∀ (k0_h9 : k0_cond9 v11 v14 = 1#1), ∀ (r : Fin 3), ∀ a, (k0_off23 v11 v14 (BitVec.ofNat 32 (512 * r.val))) a + S1x512x128.size a ≤ S1x16384x256.size a) ∧
  (∀ (k0_h6 : k0_cond6 v11 v14 = 1#1), ∀ (k0_h9 : k0_cond9 v11 v14 = 1#1), ∀ a, (k0_off24 v11 v14) a + S128x1536.size a ≤ S256x16384.size a) ∧
  ((k0_t6_loop i k0_t1 v11 v14).OK) ∧
  (∀ k0_t6 : Fin (k0_t6_loop i k0_t1 v11 v14).trips, 512 ∣ (k0_mult12 i k0_t1 v11 v14 k0_t6).toNat) ∧
  (∀ k0_t6 : Fin (k0_t6_loop i k0_t1 v11 v14).trips, ∀ (r : Fin 4), ∀ a, (k0_off25 i k0_t1 v11 v14 k0_t6 (BitVec.ofNat 32 (512 * r.val))) a + S1x512x128.size a ≤ S1x16384x256.size a) ∧
  (∀ k0_t6 : Fin (k0_t6_loop i k0_t1 v11 v14).trips, ∀ (r : Fin 4), ∀ a, (k0_off26 i k0_t1 v11 v14 k0_t6 (BitVec.ofNat 32 (512 * r.val))) a + S1x512x128.size a ≤ S1x16384x256.size a) ∧
  (∀ k0_t6 : Fin (k0_t6_loop i k0_t1 v11 v14).trips, ∀ a, (k0_off27 i k0_t1 v11 v14 k0_t6) a + S128x2048.size a ≤ S256x16384.size a) ∧
  (∀ k0_t6 : Fin (k0_t6_loop i k0_t1 v11 v14).trips, ∀ a, (k0_off28 i k0_t1 v11 v14 k0_t6) a + S128x2048.size a ≤ S256x16384.size a) ∧
  ((k0_t7_loop i k0_t1 v11 v14).OK) ∧
  (∀ k0_t7 : Fin (k0_t7_loop i k0_t1 v11 v14).trips, 512 ∣ (k0_mult13 i k0_t1 v11 v14 k0_t7).toNat) ∧
  (∀ k0_t7 : Fin (k0_t7_loop i k0_t1 v11 v14).trips, ∀ (r : Fin 4), ∀ a, (k0_off29 i k0_t1 v11 v14 k0_t7 (BitVec.ofNat 32 (512 * r.val))) a + S1x512x128.size a ≤ S1x16384x256.size a) ∧
  (∀ k0_t7 : Fin (k0_t7_loop i k0_t1 v11 v14).trips, ∀ (r : Fin 4), ∀ a, (k0_off30 i k0_t1 v11 v14 k0_t7 (BitVec.ofNat 32 (512 * r.val))) a + S1x512x128.size a ≤ S1x16384x256.size a) ∧
  (∀ k0_t7 : Fin (k0_t7_loop i k0_t1 v11 v14).trips, ∀ a, (k0_off31 i k0_t1 v11 v14 k0_t7) a + S128x2048.size a ≤ S256x16384.size a) ∧
  (∀ k0_t7 : Fin (k0_t7_loop i k0_t1 v11 v14).trips, ∀ a, (k0_off32 i k0_t1 v11 v14 k0_t7) a + S128x2048.size a ≤ S256x16384.size a) ∧
  (∀ (k0_h11 : k0_cond11 i k0_t1 v11 v14 = 1#1), ∀ (r : Fin 2), ∀ a, (k0_off37 i k0_t1 (BitVec.ofNat 32 (512 * r.val))) a + S1x512x128.size a ≤ S1x16384x256.size a) ∧
  (∀ (k0_h11 : k0_cond11 i k0_t1 v11 v14 = 1#1), ∀ (r : Fin 2), ∀ a, (k0_off38 i k0_t1 (BitVec.ofNat 32 (512 * r.val))) a + S1x512x128.size a ≤ S1x16384x256.size a) ∧
  (∀ (k0_h11 : k0_cond11 i k0_t1 v11 v14 = 1#1), ∀ a, (k0_off39 i k0_t1) a + S128x1024.size a ≤ S256x16384.size a) ∧
  (∀ (k0_h11 : k0_cond11 i k0_t1 v11 v14 = 1#1), ∀ a, (k0_off40 i k0_t1) a + S128x1024.size a ≤ S256x16384.size a) ∧
  (∀ (k0_h12 : k0_cond12 i k0_t1 v11 v14 = 1#1), ∀ (r : Fin 3), ∀ a, (k0_off41 i k0_t1 (BitVec.ofNat 32 (512 * r.val))) a + S1x512x128.size a ≤ S1x16384x256.size a) ∧
  (∀ (k0_h12 : k0_cond12 i k0_t1 v11 v14 = 1#1), ∀ (r : Fin 3), ∀ a, (k0_off42 i k0_t1 (BitVec.ofNat 32 (512 * r.val))) a + S1x512x128.size a ≤ S1x16384x256.size a) ∧
  (∀ (k0_h12 : k0_cond12 i k0_t1 v11 v14 = 1#1), ∀ a, (k0_off43 i k0_t1) a + S128x1536.size a ≤ S256x16384.size a) ∧
  (∀ (k0_h12 : k0_cond12 i k0_t1 v11 v14 = 1#1), ∀ a, (k0_off44 i k0_t1) a + S128x1536.size a ≤ S256x16384.size a) ∧
  (∀ (k0_h13 : k0_cond13 i k0_t1 v11 v14 = 1#1), ∀ (r : Fin 4), ∀ a, (k0_off45 i k0_t1 (BitVec.ofNat 32 (512 * r.val))) a + S1x512x128.size a ≤ S1x16384x256.size a) ∧
  (∀ (k0_h13 : k0_cond13 i k0_t1 v11 v14 = 1#1), ∀ (r : Fin 4), ∀ a, (k0_off46 i k0_t1 (BitVec.ofNat 32 (512 * r.val))) a + S1x512x128.size a ≤ S1x16384x256.size a) ∧
  (∀ (k0_h13 : k0_cond13 i k0_t1 v11 v14 = 1#1), ∀ a, (k0_off47 i k0_t1) a + S128x2048.size a ≤ S256x16384.size a) ∧
  (∀ (k0_h13 : k0_cond13 i k0_t1 v11 v14 = 1#1), ∀ a, (k0_off48 i k0_t1) a + S128x2048.size a ≤ S256x16384.size a)
def k0_chk1 (i : grid0.Coords) (k0_t1 : Fin k0_t1_loop.trips) (v11 : BitVec 32) (v14 : BitVec 32) : Prop :=
  k0_chk1_0 i k0_t1 v11 v14 ∧
  k0_chk1_1 i k0_t1 v11 v14
theorem k0_t2_ok : ∀ (i : grid0.Coords) (k0_t1 : Fin k0_t1_loop.trips) (v11 : BitVec 32) (v14 : BitVec 32) (k0_hw1 : k0_chk1 i k0_t1 v11 v14), ∀ (k0_h2 : k0_cond2 v11 v14 = 1#1), (k0_t2_loop v11 v14).OK := fun i k0_t1 v11 v14 k0_hw1 k0_h2 => k0_hw1.1.1 k0_h2
theorem k0_mult2_dvd : ∀ (i : grid0.Coords) (k0_t1 : Fin k0_t1_loop.trips) (v11 : BitVec 32) (v14 : BitVec 32) (k0_hw1 : k0_chk1 i k0_t1 v11 v14) (k0_t2 : Fin (k0_t2_loop v11 v14).trips), ∀ (k0_h2 : k0_cond2 v11 v14 = 1#1), 512 ∣ (k0_mult2 v11 v14 k0_t2).toNat := fun i k0_t1 v11 v14 k0_hw1 k0_t2 k0_h2 => k0_hw1.1.2.1 k0_t2 k0_h2
theorem k0_off5_inb : ∀ (i : grid0.Coords) (k0_t1 : Fin k0_t1_loop.trips) (v11 : BitVec 32) (v14 : BitVec 32) (k0_hw1 : k0_chk1 i k0_t1 v11 v14) (k0_t2 : Fin (k0_t2_loop v11 v14).trips), ∀ (k0_h2 : k0_cond2 v11 v14 = 1#1), ∀ (r : Fin 4), ∀ a, (k0_off5 v11 v14 k0_t2 (BitVec.ofNat 32 (512 * r.val))) a + S1x512x128.size a ≤ S1x16384x256.size a := fun i k0_t1 v11 v14 k0_hw1 k0_t2 k0_h2 r => k0_hw1.1.2.2.1 k0_t2 k0_h2 r
theorem k0_off6_inb : ∀ (i : grid0.Coords) (k0_t1 : Fin k0_t1_loop.trips) (v11 : BitVec 32) (v14 : BitVec 32) (k0_hw1 : k0_chk1 i k0_t1 v11 v14) (k0_t2 : Fin (k0_t2_loop v11 v14).trips), ∀ (k0_h2 : k0_cond2 v11 v14 = 1#1), ∀ a, (k0_off6 v11 v14 k0_t2) a + S128x2048.size a ≤ S256x16384.size a := fun i k0_t1 v11 v14 k0_hw1 k0_t2 k0_h2 => k0_hw1.1.2.2.2.1 k0_t2 k0_h2
theorem k0_t3_ok : ∀ (i : grid0.Coords) (k0_t1 : Fin k0_t1_loop.trips) (v11 : BitVec 32) (v14 : BitVec 32) (k0_hw1 : k0_chk1 i k0_t1 v11 v14), ∀ (k0_h2 : k0_cond2 v11 v14 = 1#1), (k0_t3_loop v11 v14).OK := fun i k0_t1 v11 v14 k0_hw1 k0_h2 => k0_hw1.1.2.2.2.2.1 k0_h2
theorem k0_mult3_dvd : ∀ (i : grid0.Coords) (k0_t1 : Fin k0_t1_loop.trips) (v11 : BitVec 32) (v14 : BitVec 32) (k0_hw1 : k0_chk1 i k0_t1 v11 v14) (k0_t3 : Fin (k0_t3_loop v11 v14).trips), ∀ (k0_h2 : k0_cond2 v11 v14 = 1#1), 512 ∣ (k0_mult3 v11 v14 k0_t3).toNat := fun i k0_t1 v11 v14 k0_hw1 k0_t3 k0_h2 => k0_hw1.1.2.2.2.2.2.1 k0_t3 k0_h2
theorem k0_off7_inb : ∀ (i : grid0.Coords) (k0_t1 : Fin k0_t1_loop.trips) (v11 : BitVec 32) (v14 : BitVec 32) (k0_hw1 : k0_chk1 i k0_t1 v11 v14) (k0_t3 : Fin (k0_t3_loop v11 v14).trips), ∀ (k0_h2 : k0_cond2 v11 v14 = 1#1), ∀ (r : Fin 4), ∀ a, (k0_off7 v11 v14 k0_t3 (BitVec.ofNat 32 (512 * r.val))) a + S1x512x128.size a ≤ S1x16384x256.size a := fun i k0_t1 v11 v14 k0_hw1 k0_t3 k0_h2 r => k0_hw1.1.2.2.2.2.2.2.1 k0_t3 k0_h2 r
theorem k0_off8_inb : ∀ (i : grid0.Coords) (k0_t1 : Fin k0_t1_loop.trips) (v11 : BitVec 32) (v14 : BitVec 32) (k0_hw1 : k0_chk1 i k0_t1 v11 v14) (k0_t3 : Fin (k0_t3_loop v11 v14).trips), ∀ (k0_h2 : k0_cond2 v11 v14 = 1#1), ∀ a, (k0_off8 v11 v14 k0_t3) a + S128x2048.size a ≤ S256x16384.size a := fun i k0_t1 v11 v14 k0_hw1 k0_t3 k0_h2 => k0_hw1.1.2.2.2.2.2.2.2.1 k0_t3 k0_h2
theorem k0_mult4_dvd : ∀ (i : grid0.Coords) (k0_t1 : Fin k0_t1_loop.trips) (v11 : BitVec 32) (v14 : BitVec 32) (k0_hw1 : k0_chk1 i k0_t1 v11 v14), ∀ (k0_h2 : k0_cond2 v11 v14 = 1#1), ∀ (k0_h3 : k0_cond3 v11 v14 = 1#1), 512 ∣ (k0_mult4 v11 v14).toNat := fun i k0_t1 v11 v14 k0_hw1 k0_h2 k0_h3 => k0_hw1.1.2.2.2.2.2.2.2.2.1 k0_h2 k0_h3
theorem k0_off9_inb : ∀ (i : grid0.Coords) (k0_t1 : Fin k0_t1_loop.trips) (v11 : BitVec 32) (v14 : BitVec 32) (k0_hw1 : k0_chk1 i k0_t1 v11 v14), ∀ (k0_h2 : k0_cond2 v11 v14 = 1#1), ∀ (k0_h3 : k0_cond3 v11 v14 = 1#1), ∀ a, (k0_off9 v11 v14) a + S1x512x128.size a ≤ S1x16384x256.size a := fun i k0_t1 v11 v14 k0_hw1 k0_h2 k0_h3 => k0_hw1.1.2.2.2.2.2.2.2.2.2.1 k0_h2 k0_h3
theorem k0_off10_inb : ∀ (i : grid0.Coords) (k0_t1 : Fin k0_t1_loop.trips) (v11 : BitVec 32) (v14 : BitVec 32) (k0_hw1 : k0_chk1 i k0_t1 v11 v14), ∀ (k0_h2 : k0_cond2 v11 v14 = 1#1), ∀ (k0_h3 : k0_cond3 v11 v14 = 1#1), ∀ a, (k0_off10 v11 v14) a + S128x512.size a ≤ S256x16384.size a := fun i k0_t1 v11 v14 k0_hw1 k0_h2 k0_h3 => k0_hw1.1.2.2.2.2.2.2.2.2.2.2.1 k0_h2 k0_h3
theorem k0_mult5_dvd : ∀ (i : grid0.Coords) (k0_t1 : Fin k0_t1_loop.trips) (v11 : BitVec 32) (v14 : BitVec 32) (k0_hw1 : k0_chk1 i k0_t1 v11 v14), ∀ (k0_h2 : k0_cond2 v11 v14 = 1#1), ∀ (k0_h4 : k0_cond4 v11 v14 = 1#1), 512 ∣ (k0_mult5 v11 v14).toNat := fun i k0_t1 v11 v14 k0_hw1 k0_h2 k0_h4 => k0_hw1.1.2.2.2.2.2.2.2.2.2.2.2.1 k0_h2 k0_h4
theorem k0_off11_inb : ∀ (i : grid0.Coords) (k0_t1 : Fin k0_t1_loop.trips) (v11 : BitVec 32) (v14 : BitVec 32) (k0_hw1 : k0_chk1 i k0_t1 v11 v14), ∀ (k0_h2 : k0_cond2 v11 v14 = 1#1), ∀ (k0_h4 : k0_cond4 v11 v14 = 1#1), ∀ (r : Fin 2), ∀ a, (k0_off11 v11 v14 (BitVec.ofNat 32 (512 * r.val))) a + S1x512x128.size a ≤ S1x16384x256.size a := fun i k0_t1 v11 v14 k0_hw1 k0_h2 k0_h4 r => k0_hw1.1.2.2.2.2.2.2.2.2.2.2.2.2.1 k0_h2 k0_h4 r
theorem k0_off12_inb : ∀ (i : grid0.Coords) (k0_t1 : Fin k0_t1_loop.trips) (v11 : BitVec 32) (v14 : BitVec 32) (k0_hw1 : k0_chk1 i k0_t1 v11 v14), ∀ (k0_h2 : k0_cond2 v11 v14 = 1#1), ∀ (k0_h4 : k0_cond4 v11 v14 = 1#1), ∀ a, (k0_off12 v11 v14) a + S128x1024.size a ≤ S256x16384.size a := fun i k0_t1 v11 v14 k0_hw1 k0_h2 k0_h4 => k0_hw1.1.2.2.2.2.2.2.2.2.2.2.2.2.2.1 k0_h2 k0_h4
theorem k0_mult6_dvd : ∀ (i : grid0.Coords) (k0_t1 : Fin k0_t1_loop.trips) (v11 : BitVec 32) (v14 : BitVec 32) (k0_hw1 : k0_chk1 i k0_t1 v11 v14), ∀ (k0_h2 : k0_cond2 v11 v14 = 1#1), ∀ (k0_h5 : k0_cond5 v11 v14 = 1#1), 512 ∣ (k0_mult6 v11 v14).toNat := fun i k0_t1 v11 v14 k0_hw1 k0_h2 k0_h5 => k0_hw1.1.2.2.2.2.2.2.2.2.2.2.2.2.2.2.1 k0_h2 k0_h5
theorem k0_off13_inb : ∀ (i : grid0.Coords) (k0_t1 : Fin k0_t1_loop.trips) (v11 : BitVec 32) (v14 : BitVec 32) (k0_hw1 : k0_chk1 i k0_t1 v11 v14), ∀ (k0_h2 : k0_cond2 v11 v14 = 1#1), ∀ (k0_h5 : k0_cond5 v11 v14 = 1#1), ∀ (r : Fin 3), ∀ a, (k0_off13 v11 v14 (BitVec.ofNat 32 (512 * r.val))) a + S1x512x128.size a ≤ S1x16384x256.size a := fun i k0_t1 v11 v14 k0_hw1 k0_h2 k0_h5 r => k0_hw1.1.2.2.2.2.2.2.2.2.2.2.2.2.2.2.2.1 k0_h2 k0_h5 r
theorem k0_off14_inb : ∀ (i : grid0.Coords) (k0_t1 : Fin k0_t1_loop.trips) (v11 : BitVec 32) (v14 : BitVec 32) (k0_hw1 : k0_chk1 i k0_t1 v11 v14), ∀ (k0_h2 : k0_cond2 v11 v14 = 1#1), ∀ (k0_h5 : k0_cond5 v11 v14 = 1#1), ∀ a, (k0_off14 v11 v14) a + S128x1536.size a ≤ S256x16384.size a := fun i k0_t1 v11 v14 k0_hw1 k0_h2 k0_h5 => k0_hw1.1.2.2.2.2.2.2.2.2.2.2.2.2.2.2.2.2.1 k0_h2 k0_h5
theorem k0_t4_ok : ∀ (i : grid0.Coords) (k0_t1 : Fin k0_t1_loop.trips) (v11 : BitVec 32) (v14 : BitVec 32) (k0_hw1 : k0_chk1 i k0_t1 v11 v14), ∀ (k0_h6 : k0_cond6 v11 v14 = 1#1), (k0_t4_loop v11 v14).OK := fun i k0_t1 v11 v14 k0_hw1 k0_h6 => k0_hw1.1.2.2.2.2.2.2.2.2.2.2.2.2.2.2.2.2.2.1 k0_h6
theorem k0_mult7_dvd : ∀ (i : grid0.Coords) (k0_t1 : Fin k0_t1_loop.trips) (v11 : BitVec 32) (v14 : BitVec 32) (k0_hw1 : k0_chk1 i k0_t1 v11 v14) (k0_t4 : Fin (k0_t4_loop v11 v14).trips), ∀ (k0_h6 : k0_cond6 v11 v14 = 1#1), 512 ∣ (k0_mult7 v11 v14 k0_t4).toNat := fun i k0_t1 v11 v14 k0_hw1 k0_t4 k0_h6 => k0_hw1.1.2.2.2.2.2.2.2.2.2.2.2.2.2.2.2.2.2.2.1 k0_t4 k0_h6
theorem k0_off15_inb : ∀ (i : grid0.Coords) (k0_t1 : Fin k0_t1_loop.trips) (v11 : BitVec 32) (v14 : BitVec 32) (k0_hw1 : k0_chk1 i k0_t1 v11 v14) (k0_t4 : Fin (k0_t4_loop v11 v14).trips), ∀ (k0_h6 : k0_cond6 v11 v14 = 1#1), ∀ (r : Fin 4), ∀ a, (k0_off15 v11 v14 k0_t4 (BitVec.ofNat 32 (512 * r.val))) a + S1x512x128.size a ≤ S1x16384x256.size a := fun i k0_t1 v11 v14 k0_hw1 k0_t4 k0_h6 r => k0_hw1.1.2.2.2.2.2.2.2.2.2.2.2.2.2.2.2.2.2.2.2.1 k0_t4 k0_h6 r
theorem k0_off16_inb : ∀ (i : grid0.Coords) (k0_t1 : Fin k0_t1_loop.trips) (v11 : BitVec 32) (v14 : BitVec 32) (k0_hw1 : k0_chk1 i k0_t1 v11 v14) (k0_t4 : Fin (k0_t4_loop v11 v14).trips), ∀ (k0_h6 : k0_cond6 v11 v14 = 1#1), ∀ a, (k0_off16 v11 v14 k0_t4) a + S128x2048.size a ≤ S256x16384.size a := fun i k0_t1 v11 v14 k0_hw1 k0_t4 k0_h6 => k0_hw1.1.2.2.2.2.2.2.2.2.2.2.2.2.2.2.2.2.2.2.2.2.1 k0_t4 k0_h6
theorem k0_t5_ok : ∀ (i : grid0.Coords) (k0_t1 : Fin k0_t1_loop.trips) (v11 : BitVec 32) (v14 : BitVec 32) (k0_hw1 : k0_chk1 i k0_t1 v11 v14), ∀ (k0_h6 : k0_cond6 v11 v14 = 1#1), (k0_t5_loop v11 v14).OK := fun i k0_t1 v11 v14 k0_hw1 k0_h6 => k0_hw1.1.2.2.2.2.2.2.2.2.2.2.2.2.2.2.2.2.2.2.2.2.2.1 k0_h6
theorem k0_mult8_dvd : ∀ (i : grid0.Coords) (k0_t1 : Fin k0_t1_loop.trips) (v11 : BitVec 32) (v14 : BitVec 32) (k0_hw1 : k0_chk1 i k0_t1 v11 v14) (k0_t5 : Fin (k0_t5_loop v11 v14).trips), ∀ (k0_h6 : k0_cond6 v11 v14 = 1#1), 512 ∣ (k0_mult8 v11 v14 k0_t5).toNat := fun i k0_t1 v11 v14 k0_hw1 k0_t5 k0_h6 => k0_hw1.1.2.2.2.2.2.2.2.2.2.2.2.2.2.2.2.2.2.2.2.2.2.2.1 k0_t5 k0_h6
theorem k0_off17_inb : ∀ (i : grid0.Coords) (k0_t1 : Fin k0_t1_loop.trips) (v11 : BitVec 32) (v14 : BitVec 32) (k0_hw1 : k0_chk1 i k0_t1 v11 v14) (k0_t5 : Fin (k0_t5_loop v11 v14).trips), ∀ (k0_h6 : k0_cond6 v11 v14 = 1#1), ∀ (r : Fin 4), ∀ a, (k0_off17 v11 v14 k0_t5 (BitVec.ofNat 32 (512 * r.val))) a + S1x512x128.size a ≤ S1x16384x256.size a := fun i k0_t1 v11 v14 k0_hw1 k0_t5 k0_h6 r => k0_hw1.1.2.2.2.2.2.2.2.2.2.2.2.2.2.2.2.2.2.2.2.2.2.2.2.1 k0_t5 k0_h6 r
theorem k0_off18_inb : ∀ (i : grid0.Coords) (k0_t1 : Fin k0_t1_loop.trips) (v11 : BitVec 32) (v14 : BitVec 32) (k0_hw1 : k0_chk1 i k0_t1 v11 v14) (k0_t5 : Fin (k0_t5_loop v11 v14).trips), ∀ (k0_h6 : k0_cond6 v11 v14 = 1#1), ∀ a, (k0_off18 v11 v14 k0_t5) a + S128x2048.size a ≤ S256x16384.size a := fun i k0_t1 v11 v14 k0_hw1 k0_t5 k0_h6 => k0_hw1.1.2.2.2.2.2.2.2.2.2.2.2.2.2.2.2.2.2.2.2.2.2.2.2.2.1 k0_t5 k0_h6
theorem k0_mult9_dvd : ∀ (i : grid0.Coords) (k0_t1 : Fin k0_t1_loop.trips) (v11 : BitVec 32) (v14 : BitVec 32) (k0_hw1 : k0_chk1 i k0_t1 v11 v14), ∀ (k0_h6 : k0_cond6 v11 v14 = 1#1), ∀ (k0_h7 : k0_cond7 v11 v14 = 1#1), 512 ∣ (k0_mult9 v11 v14).toNat := fun i k0_t1 v11 v14 k0_hw1 k0_h6 k0_h7 => k0_hw1.1.2.2.2.2.2.2.2.2.2.2.2.2.2.2.2.2.2.2.2.2.2.2.2.2.2.1 k0_h6 k0_h7
theorem k0_off19_inb : ∀ (i : grid0.Coords) (k0_t1 : Fin k0_t1_loop.trips) (v11 : BitVec 32) (v14 : BitVec 32) (k0_hw1 : k0_chk1 i k0_t1 v11 v14), ∀ (k0_h6 : k0_cond6 v11 v14 = 1#1), ∀ (k0_h7 : k0_cond7 v11 v14 = 1#1), ∀ a, (k0_off19 v11 v14) a + S1x512x128.size a ≤ S1x16384x256.size a := fun i k0_t1 v11 v14 k0_hw1 k0_h6 k0_h7 => k0_hw1.1.2.2.2.2.2.2.2.2.2.2.2.2.2.2.2.2.2.2.2.2.2.2.2.2.2.2.1 k0_h6 k0_h7
theorem k0_off20_inb : ∀ (i : grid0.Coords) (k0_t1 : Fin k0_t1_loop.trips) (v11 : BitVec 32) (v14 : BitVec 32) (k0_hw1 : k0_chk1 i k0_t1 v11 v14), ∀ (k0_h6 : k0_cond6 v11 v14 = 1#1), ∀ (k0_h7 : k0_cond7 v11 v14 = 1#1), ∀ a, (k0_off20 v11 v14) a + S128x512.size a ≤ S256x16384.size a := fun i k0_t1 v11 v14 k0_hw1 k0_h6 k0_h7 => k0_hw1.1.2.2.2.2.2.2.2.2.2.2.2.2.2.2.2.2.2.2.2.2.2.2.2.2.2.2.2.1 k0_h6 k0_h7
theorem k0_mult10_dvd : ∀ (i : grid0.Coords) (k0_t1 : Fin k0_t1_loop.trips) (v11 : BitVec 32) (v14 : BitVec 32) (k0_hw1 : k0_chk1 i k0_t1 v11 v14), ∀ (k0_h6 : k0_cond6 v11 v14 = 1#1), ∀ (k0_h8 : k0_cond8 v11 v14 = 1#1), 512 ∣ (k0_mult10 v11 v14).toNat := fun i k0_t1 v11 v14 k0_hw1 k0_h6 k0_h8 => k0_hw1.1.2.2.2.2.2.2.2.2.2.2.2.2.2.2.2.2.2.2.2.2.2.2.2.2.2.2.2.2.1 k0_h6 k0_h8
theorem k0_off21_inb : ∀ (i : grid0.Coords) (k0_t1 : Fin k0_t1_loop.trips) (v11 : BitVec 32) (v14 : BitVec 32) (k0_hw1 : k0_chk1 i k0_t1 v11 v14), ∀ (k0_h6 : k0_cond6 v11 v14 = 1#1), ∀ (k0_h8 : k0_cond8 v11 v14 = 1#1), ∀ (r : Fin 2), ∀ a, (k0_off21 v11 v14 (BitVec.ofNat 32 (512 * r.val))) a + S1x512x128.size a ≤ S1x16384x256.size a := fun i k0_t1 v11 v14 k0_hw1 k0_h6 k0_h8 r => k0_hw1.1.2.2.2.2.2.2.2.2.2.2.2.2.2.2.2.2.2.2.2.2.2.2.2.2.2.2.2.2.2.1 k0_h6 k0_h8 r
theorem k0_off22_inb : ∀ (i : grid0.Coords) (k0_t1 : Fin k0_t1_loop.trips) (v11 : BitVec 32) (v14 : BitVec 32) (k0_hw1 : k0_chk1 i k0_t1 v11 v14), ∀ (k0_h6 : k0_cond6 v11 v14 = 1#1), ∀ (k0_h8 : k0_cond8 v11 v14 = 1#1), ∀ a, (k0_off22 v11 v14) a + S128x1024.size a ≤ S256x16384.size a := fun i k0_t1 v11 v14 k0_hw1 k0_h6 k0_h8 => k0_hw1.1.2.2.2.2.2.2.2.2.2.2.2.2.2.2.2.2.2.2.2.2.2.2.2.2.2.2.2.2.2.2.1 k0_h6 k0_h8
theorem k0_mult11_dvd : ∀ (i : grid0.Coords) (k0_t1 : Fin k0_t1_loop.trips) (v11 : BitVec 32) (v14 : BitVec 32) (k0_hw1 : k0_chk1 i k0_t1 v11 v14), ∀ (k0_h6 : k0_cond6 v11 v14 = 1#1), ∀ (k0_h9 : k0_cond9 v11 v14 = 1#1), 512 ∣ (k0_mult11 v11 v14).toNat := fun i k0_t1 v11 v14 k0_hw1 k0_h6 k0_h9 => k0_hw1.1.2.2.2.2.2.2.2.2.2.2.2.2.2.2.2.2.2.2.2.2.2.2.2.2.2.2.2.2.2.2.2 k0_h6 k0_h9
theorem k0_off23_inb : ∀ (i : grid0.Coords) (k0_t1 : Fin k0_t1_loop.trips) (v11 : BitVec 32) (v14 : BitVec 32) (k0_hw1 : k0_chk1 i k0_t1 v11 v14), ∀ (k0_h6 : k0_cond6 v11 v14 = 1#1), ∀ (k0_h9 : k0_cond9 v11 v14 = 1#1), ∀ (r : Fin 3), ∀ a, (k0_off23 v11 v14 (BitVec.ofNat 32 (512 * r.val))) a + S1x512x128.size a ≤ S1x16384x256.size a := fun i k0_t1 v11 v14 k0_hw1 k0_h6 k0_h9 r => k0_hw1.2.1 k0_h6 k0_h9 r
theorem k0_off24_inb : ∀ (i : grid0.Coords) (k0_t1 : Fin k0_t1_loop.trips) (v11 : BitVec 32) (v14 : BitVec 32) (k0_hw1 : k0_chk1 i k0_t1 v11 v14), ∀ (k0_h6 : k0_cond6 v11 v14 = 1#1), ∀ (k0_h9 : k0_cond9 v11 v14 = 1#1), ∀ a, (k0_off24 v11 v14) a + S128x1536.size a ≤ S256x16384.size a := fun i k0_t1 v11 v14 k0_hw1 k0_h6 k0_h9 => k0_hw1.2.2.1 k0_h6 k0_h9
theorem k0_t6_ok : ∀ (i : grid0.Coords) (k0_t1 : Fin k0_t1_loop.trips) (v11 : BitVec 32) (v14 : BitVec 32) (k0_hw1 : k0_chk1 i k0_t1 v11 v14), (k0_t6_loop i k0_t1 v11 v14).OK := fun i k0_t1 v11 v14 k0_hw1 => k0_hw1.2.2.2.1
theorem k0_mult12_dvd : ∀ (i : grid0.Coords) (k0_t1 : Fin k0_t1_loop.trips) (v11 : BitVec 32) (v14 : BitVec 32) (k0_hw1 : k0_chk1 i k0_t1 v11 v14) (k0_t6 : Fin (k0_t6_loop i k0_t1 v11 v14).trips), 512 ∣ (k0_mult12 i k0_t1 v11 v14 k0_t6).toNat := fun i k0_t1 v11 v14 k0_hw1 k0_t6 => k0_hw1.2.2.2.2.1 k0_t6
theorem k0_off25_inb : ∀ (i : grid0.Coords) (k0_t1 : Fin k0_t1_loop.trips) (v11 : BitVec 32) (v14 : BitVec 32) (k0_hw1 : k0_chk1 i k0_t1 v11 v14) (k0_t6 : Fin (k0_t6_loop i k0_t1 v11 v14).trips), ∀ (r : Fin 4), ∀ a, (k0_off25 i k0_t1 v11 v14 k0_t6 (BitVec.ofNat 32 (512 * r.val))) a + S1x512x128.size a ≤ S1x16384x256.size a := fun i k0_t1 v11 v14 k0_hw1 k0_t6 r => k0_hw1.2.2.2.2.2.1 k0_t6 r
theorem k0_off26_inb : ∀ (i : grid0.Coords) (k0_t1 : Fin k0_t1_loop.trips) (v11 : BitVec 32) (v14 : BitVec 32) (k0_hw1 : k0_chk1 i k0_t1 v11 v14) (k0_t6 : Fin (k0_t6_loop i k0_t1 v11 v14).trips), ∀ (r : Fin 4), ∀ a, (k0_off26 i k0_t1 v11 v14 k0_t6 (BitVec.ofNat 32 (512 * r.val))) a + S1x512x128.size a ≤ S1x16384x256.size a := fun i k0_t1 v11 v14 k0_hw1 k0_t6 r => k0_hw1.2.2.2.2.2.2.1 k0_t6 r
theorem k0_off27_inb : ∀ (i : grid0.Coords) (k0_t1 : Fin k0_t1_loop.trips) (v11 : BitVec 32) (v14 : BitVec 32) (k0_hw1 : k0_chk1 i k0_t1 v11 v14) (k0_t6 : Fin (k0_t6_loop i k0_t1 v11 v14).trips), ∀ a, (k0_off27 i k0_t1 v11 v14 k0_t6) a + S128x2048.size a ≤ S256x16384.size a := fun i k0_t1 v11 v14 k0_hw1 k0_t6 => k0_hw1.2.2.2.2.2.2.2.1 k0_t6
theorem k0_off28_inb : ∀ (i : grid0.Coords) (k0_t1 : Fin k0_t1_loop.trips) (v11 : BitVec 32) (v14 : BitVec 32) (k0_hw1 : k0_chk1 i k0_t1 v11 v14) (k0_t6 : Fin (k0_t6_loop i k0_t1 v11 v14).trips), ∀ a, (k0_off28 i k0_t1 v11 v14 k0_t6) a + S128x2048.size a ≤ S256x16384.size a := fun i k0_t1 v11 v14 k0_hw1 k0_t6 => k0_hw1.2.2.2.2.2.2.2.2.1 k0_t6
theorem k0_t7_ok : ∀ (i : grid0.Coords) (k0_t1 : Fin k0_t1_loop.trips) (v11 : BitVec 32) (v14 : BitVec 32) (k0_hw1 : k0_chk1 i k0_t1 v11 v14), (k0_t7_loop i k0_t1 v11 v14).OK := fun i k0_t1 v11 v14 k0_hw1 => k0_hw1.2.2.2.2.2.2.2.2.2.1
theorem k0_mult13_dvd : ∀ (i : grid0.Coords) (k0_t1 : Fin k0_t1_loop.trips) (v11 : BitVec 32) (v14 : BitVec 32) (k0_hw1 : k0_chk1 i k0_t1 v11 v14) (k0_t7 : Fin (k0_t7_loop i k0_t1 v11 v14).trips), 512 ∣ (k0_mult13 i k0_t1 v11 v14 k0_t7).toNat := fun i k0_t1 v11 v14 k0_hw1 k0_t7 => k0_hw1.2.2.2.2.2.2.2.2.2.2.1 k0_t7
theorem k0_off29_inb : ∀ (i : grid0.Coords) (k0_t1 : Fin k0_t1_loop.trips) (v11 : BitVec 32) (v14 : BitVec 32) (k0_hw1 : k0_chk1 i k0_t1 v11 v14) (k0_t7 : Fin (k0_t7_loop i k0_t1 v11 v14).trips), ∀ (r : Fin 4), ∀ a, (k0_off29 i k0_t1 v11 v14 k0_t7 (BitVec.ofNat 32 (512 * r.val))) a + S1x512x128.size a ≤ S1x16384x256.size a := fun i k0_t1 v11 v14 k0_hw1 k0_t7 r => k0_hw1.2.2.2.2.2.2.2.2.2.2.2.1 k0_t7 r
theorem k0_off30_inb : ∀ (i : grid0.Coords) (k0_t1 : Fin k0_t1_loop.trips) (v11 : BitVec 32) (v14 : BitVec 32) (k0_hw1 : k0_chk1 i k0_t1 v11 v14) (k0_t7 : Fin (k0_t7_loop i k0_t1 v11 v14).trips), ∀ (r : Fin 4), ∀ a, (k0_off30 i k0_t1 v11 v14 k0_t7 (BitVec.ofNat 32 (512 * r.val))) a + S1x512x128.size a ≤ S1x16384x256.size a := fun i k0_t1 v11 v14 k0_hw1 k0_t7 r => k0_hw1.2.2.2.2.2.2.2.2.2.2.2.2.1 k0_t7 r
theorem k0_off31_inb : ∀ (i : grid0.Coords) (k0_t1 : Fin k0_t1_loop.trips) (v11 : BitVec 32) (v14 : BitVec 32) (k0_hw1 : k0_chk1 i k0_t1 v11 v14) (k0_t7 : Fin (k0_t7_loop i k0_t1 v11 v14).trips), ∀ a, (k0_off31 i k0_t1 v11 v14 k0_t7) a + S128x2048.size a ≤ S256x16384.size a := fun i k0_t1 v11 v14 k0_hw1 k0_t7 => k0_hw1.2.2.2.2.2.2.2.2.2.2.2.2.2.1 k0_t7
theorem k0_off32_inb : ∀ (i : grid0.Coords) (k0_t1 : Fin k0_t1_loop.trips) (v11 : BitVec 32) (v14 : BitVec 32) (k0_hw1 : k0_chk1 i k0_t1 v11 v14) (k0_t7 : Fin (k0_t7_loop i k0_t1 v11 v14).trips), ∀ a, (k0_off32 i k0_t1 v11 v14 k0_t7) a + S128x2048.size a ≤ S256x16384.size a := fun i k0_t1 v11 v14 k0_hw1 k0_t7 => k0_hw1.2.2.2.2.2.2.2.2.2.2.2.2.2.2.1 k0_t7
theorem k0_off37_inb : ∀ (i : grid0.Coords) (k0_t1 : Fin k0_t1_loop.trips) (v11 : BitVec 32) (v14 : BitVec 32) (k0_hw1 : k0_chk1 i k0_t1 v11 v14), ∀ (k0_h11 : k0_cond11 i k0_t1 v11 v14 = 1#1), ∀ (r : Fin 2), ∀ a, (k0_off37 i k0_t1 (BitVec.ofNat 32 (512 * r.val))) a + S1x512x128.size a ≤ S1x16384x256.size a := fun i k0_t1 v11 v14 k0_hw1 k0_h11 r => k0_hw1.2.2.2.2.2.2.2.2.2.2.2.2.2.2.2.1 k0_h11 r
theorem k0_off38_inb : ∀ (i : grid0.Coords) (k0_t1 : Fin k0_t1_loop.trips) (v11 : BitVec 32) (v14 : BitVec 32) (k0_hw1 : k0_chk1 i k0_t1 v11 v14), ∀ (k0_h11 : k0_cond11 i k0_t1 v11 v14 = 1#1), ∀ (r : Fin 2), ∀ a, (k0_off38 i k0_t1 (BitVec.ofNat 32 (512 * r.val))) a + S1x512x128.size a ≤ S1x16384x256.size a := fun i k0_t1 v11 v14 k0_hw1 k0_h11 r => k0_hw1.2.2.2.2.2.2.2.2.2.2.2.2.2.2.2.2.1 k0_h11 r
theorem k0_off39_inb : ∀ (i : grid0.Coords) (k0_t1 : Fin k0_t1_loop.trips) (v11 : BitVec 32) (v14 : BitVec 32) (k0_hw1 : k0_chk1 i k0_t1 v11 v14), ∀ (k0_h11 : k0_cond11 i k0_t1 v11 v14 = 1#1), ∀ a, (k0_off39 i k0_t1) a + S128x1024.size a ≤ S256x16384.size a := fun i k0_t1 v11 v14 k0_hw1 k0_h11 => k0_hw1.2.2.2.2.2.2.2.2.2.2.2.2.2.2.2.2.2.1 k0_h11
theorem k0_off40_inb : ∀ (i : grid0.Coords) (k0_t1 : Fin k0_t1_loop.trips) (v11 : BitVec 32) (v14 : BitVec 32) (k0_hw1 : k0_chk1 i k0_t1 v11 v14), ∀ (k0_h11 : k0_cond11 i k0_t1 v11 v14 = 1#1), ∀ a, (k0_off40 i k0_t1) a + S128x1024.size a ≤ S256x16384.size a := fun i k0_t1 v11 v14 k0_hw1 k0_h11 => k0_hw1.2.2.2.2.2.2.2.2.2.2.2.2.2.2.2.2.2.2.1 k0_h11
theorem k0_off41_inb : ∀ (i : grid0.Coords) (k0_t1 : Fin k0_t1_loop.trips) (v11 : BitVec 32) (v14 : BitVec 32) (k0_hw1 : k0_chk1 i k0_t1 v11 v14), ∀ (k0_h12 : k0_cond12 i k0_t1 v11 v14 = 1#1), ∀ (r : Fin 3), ∀ a, (k0_off41 i k0_t1 (BitVec.ofNat 32 (512 * r.val))) a + S1x512x128.size a ≤ S1x16384x256.size a := fun i k0_t1 v11 v14 k0_hw1 k0_h12 r => k0_hw1.2.2.2.2.2.2.2.2.2.2.2.2.2.2.2.2.2.2.2.1 k0_h12 r
theorem k0_off42_inb : ∀ (i : grid0.Coords) (k0_t1 : Fin k0_t1_loop.trips) (v11 : BitVec 32) (v14 : BitVec 32) (k0_hw1 : k0_chk1 i k0_t1 v11 v14), ∀ (k0_h12 : k0_cond12 i k0_t1 v11 v14 = 1#1), ∀ (r : Fin 3), ∀ a, (k0_off42 i k0_t1 (BitVec.ofNat 32 (512 * r.val))) a + S1x512x128.size a ≤ S1x16384x256.size a := fun i k0_t1 v11 v14 k0_hw1 k0_h12 r => k0_hw1.2.2.2.2.2.2.2.2.2.2.2.2.2.2.2.2.2.2.2.2.1 k0_h12 r
theorem k0_off43_inb : ∀ (i : grid0.Coords) (k0_t1 : Fin k0_t1_loop.trips) (v11 : BitVec 32) (v14 : BitVec 32) (k0_hw1 : k0_chk1 i k0_t1 v11 v14), ∀ (k0_h12 : k0_cond12 i k0_t1 v11 v14 = 1#1), ∀ a, (k0_off43 i k0_t1) a + S128x1536.size a ≤ S256x16384.size a := fun i k0_t1 v11 v14 k0_hw1 k0_h12 => k0_hw1.2.2.2.2.2.2.2.2.2.2.2.2.2.2.2.2.2.2.2.2.2.1 k0_h12
theorem k0_off44_inb : ∀ (i : grid0.Coords) (k0_t1 : Fin k0_t1_loop.trips) (v11 : BitVec 32) (v14 : BitVec 32) (k0_hw1 : k0_chk1 i k0_t1 v11 v14), ∀ (k0_h12 : k0_cond12 i k0_t1 v11 v14 = 1#1), ∀ a, (k0_off44 i k0_t1) a + S128x1536.size a ≤ S256x16384.size a := fun i k0_t1 v11 v14 k0_hw1 k0_h12 => k0_hw1.2.2.2.2.2.2.2.2.2.2.2.2.2.2.2.2.2.2.2.2.2.2.1 k0_h12
theorem k0_off45_inb : ∀ (i : grid0.Coords) (k0_t1 : Fin k0_t1_loop.trips) (v11 : BitVec 32) (v14 : BitVec 32) (k0_hw1 : k0_chk1 i k0_t1 v11 v14), ∀ (k0_h13 : k0_cond13 i k0_t1 v11 v14 = 1#1), ∀ (r : Fin 4), ∀ a, (k0_off45 i k0_t1 (BitVec.ofNat 32 (512 * r.val))) a + S1x512x128.size a ≤ S1x16384x256.size a := fun i k0_t1 v11 v14 k0_hw1 k0_h13 r => k0_hw1.2.2.2.2.2.2.2.2.2.2.2.2.2.2.2.2.2.2.2.2.2.2.2.1 k0_h13 r
theorem k0_off46_inb : ∀ (i : grid0.Coords) (k0_t1 : Fin k0_t1_loop.trips) (v11 : BitVec 32) (v14 : BitVec 32) (k0_hw1 : k0_chk1 i k0_t1 v11 v14), ∀ (k0_h13 : k0_cond13 i k0_t1 v11 v14 = 1#1), ∀ (r : Fin 4), ∀ a, (k0_off46 i k0_t1 (BitVec.ofNat 32 (512 * r.val))) a + S1x512x128.size a ≤ S1x16384x256.size a := fun i k0_t1 v11 v14 k0_hw1 k0_h13 r => k0_hw1.2.2.2.2.2.2.2.2.2.2.2.2.2.2.2.2.2.2.2.2.2.2.2.2.1 k0_h13 r
theorem k0_off47_inb : ∀ (i : grid0.Coords) (k0_t1 : Fin k0_t1_loop.trips) (v11 : BitVec 32) (v14 : BitVec 32) (k0_hw1 : k0_chk1 i k0_t1 v11 v14), ∀ (k0_h13 : k0_cond13 i k0_t1 v11 v14 = 1#1), ∀ a, (k0_off47 i k0_t1) a + S128x2048.size a ≤ S256x16384.size a := fun i k0_t1 v11 v14 k0_hw1 k0_h13 => k0_hw1.2.2.2.2.2.2.2.2.2.2.2.2.2.2.2.2.2.2.2.2.2.2.2.2.2.1 k0_h13
theorem k0_off48_inb : ∀ (i : grid0.Coords) (k0_t1 : Fin k0_t1_loop.trips) (v11 : BitVec 32) (v14 : BitVec 32) (k0_hw1 : k0_chk1 i k0_t1 v11 v14), ∀ (k0_h13 : k0_cond13 i k0_t1 v11 v14 = 1#1), ∀ a, (k0_off48 i k0_t1) a + S128x2048.size a ≤ S256x16384.size a := fun i k0_t1 v11 v14 k0_hw1 k0_h13 => k0_hw1.2.2.2.2.2.2.2.2.2.2.2.2.2.2.2.2.2.2.2.2.2.2.2.2.2.2 k0_h13

def k0_off49 (k0_t1 : Fin k0_t1_loop.trips) : Fin 3 → Nat :=
  let c0_62 : Index := 0#32
  let c0_i32 : BitVec 32 := 0#32
  let c1_i32 : BitVec 32 := 1#32
  let arg14 : BitVec 32 := Scf.iv c0_i32 c1_i32 k0_t1
  let c512_i32 : BitVec 32 := 512#32
  let v1 : BitVec 32 := Scalar.muli arg14 c512_i32
  let v2 : BitVec 32 := v1
  let v134 : Index := Scalar.indexCast v2
  let c0_63 : Index := 0#32
  ![0, v134.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16384x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S1024 : Shape := ⟨1, ![1024]⟩
abbrev S32 : Shape := ⟨1, ![32]⟩
abbrev S2x16384x2048 : Shape := ⟨3, ![2, 16384, 2048]⟩
abbrev S2x16384x16x128 : Shape := ⟨4, ![2, 16384, 16, 128]⟩
abbrev S2x16384x16x64 : Shape := ⟨4, ![2, 16384, 16, 64]⟩
abbrev S2x16x16384x16384 : Shape := ⟨4, ![2, 16, 16384, 16384]⟩
abbrev S_ : Shape := ⟨0, ![]⟩
abbrev S16384 : Shape := ⟨1, ![16384]⟩
abbrev S2x16x32x1 : Shape := ⟨4, ![2, 16, 32, 1]⟩
abbrev S2x16x32x512 : Shape := ⟨4, ![2, 16, 32, 512]⟩
abbrev S2x16x16384x1 : Shape := ⟨4, ![2, 16, 16384, 1]⟩
abbrev S1x16384 : Shape := ⟨2, ![1, 16384]⟩
abbrev S16384x1 : Shape := ⟨2, ![16384, 1]⟩
abbrev S16384x16384 : Shape := ⟨2, ![16384, 16384]⟩
abbrev S1x1x1x16384 : Shape := ⟨4, ![1, 1, 1, 16384]⟩
abbrev S1x1x16384x16384 : Shape := ⟨4, ![1, 1, 16384, 16384]⟩
abbrev S2x16x16384 : Shape := ⟨3, ![2, 16, 16384]⟩
abbrev S2x16x64x16384 : Shape := ⟨4, ![2, 16, 64, 16384]⟩
abbrev S2x16384x1024 : Shape := ⟨3, ![2, 16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S1024, .i32⟩
  | .hbm, ⟨1, _⟩ => ⟨S32, .f32⟩
  | .hbm, ⟨2, _⟩ => ⟨S2x16384x2048, .bf16⟩
  | .hbm, ⟨3, _⟩ => ⟨S2x16384x2048, .bf16⟩
  | .hbm, ⟨4, _⟩ => ⟨S2x16384x2048, .bf16⟩
  | .hbm, ⟨5, _⟩ => ⟨S2x16384x16x128, .bf16⟩
  | .hbm, ⟨6, _⟩ => ⟨S2x16384x16x128, .bf16⟩
  | .hbm, ⟨7, _⟩ => ⟨S2x16384x16x128, .bf16⟩
  | .hbm, ⟨8, _⟩ => ⟨S2x16384x16x64, .bf16⟩
  | .hbm, ⟨9, _⟩ => ⟨S2x16x16384x16384, .f32⟩
  | .hbm, ⟨10, _⟩ => ⟨S_, .f32⟩
  | .hbm, ⟨11, _⟩ => ⟨S_, .f32⟩
  | .hbm, ⟨12, _⟩ => ⟨S2x16x16384x16384, .f32⟩
  | .hbm, ⟨13, _⟩ => ⟨S2x16x16384x16384, .f32⟩
  | .hbm, ⟨14, _⟩ => ⟨S16384, .i32⟩
  | .hbm, ⟨15, _⟩ => ⟨S2x16x32x1, .i32⟩
  | .hbm, ⟨16, _⟩ => ⟨S_, .i32⟩
  | .hbm, ⟨17, _⟩ => ⟨S2x16x32x1, .i32⟩
  | .hbm, ⟨18, _⟩ => ⟨S2x16x32x1, .i32⟩
  | .hbm, ⟨19, _⟩ => ⟨S2x16x32x512, .i32⟩
  | .hbm, ⟨20, _⟩ => ⟨S2x16x16384x1, .i32⟩
  | .hbm, ⟨21, _⟩ => ⟨S1x16384, .i32⟩
  | .hbm, ⟨22, _⟩ => ⟨S16384x1, .i32⟩
  | .hbm, ⟨23, _⟩ => ⟨S16384x16384, .i32⟩
  | .hbm, ⟨24, _⟩ => ⟨S16384x16384, .i32⟩
  | .hbm, ⟨25, _⟩ => ⟨S16384x16384, .i1⟩
  | .hbm, ⟨26, _⟩ => ⟨S1x1x1x16384, .i32⟩
  | .hbm, ⟨27, _⟩ => ⟨S2x16x16384x16384, .i32⟩
  | .hbm, ⟨28, _⟩ => ⟨S2x16x16384x16384, .i32⟩
  | .hbm, ⟨29, _⟩ => ⟨S2x16x16384x16384, .i1⟩
  | .hbm, ⟨30, _⟩ => ⟨S1x1x16384x16384, .i1⟩
  | .hbm, ⟨31, _⟩ => ⟨S2x16x16384x16384, .i1⟩
  | .hbm, ⟨32, _⟩ => ⟨S2x16x16384x16384, .i1⟩
  | .hbm, ⟨33, _⟩ => ⟨S_, .f32⟩
  | .hbm, ⟨34, _⟩ => ⟨S_, .f32⟩
  | .hbm, ⟨35, _⟩ => ⟨S2x16x16384x16384, .f32⟩
  | .hbm, ⟨36, _⟩ => ⟨S2x16x16384x16384, .f32⟩
  | .hbm, ⟨37, _⟩ => ⟨S_, .f32⟩
  | .hbm, ⟨38, _⟩ => ⟨S2x16x16384, .f32⟩
  | .hbm, ⟨39, _⟩ => ⟨S_, .f32⟩
  | .hbm, ⟨40, _⟩ => ⟨S2x16x16384, .f32⟩
  | .hbm, ⟨41, _⟩ => ⟨S2x16x16384, .f32⟩
  | .hbm, ⟨42, _⟩ => ⟨S2x16x16384x1, .f32⟩
  | .hbm, ⟨43, _⟩ => ⟨S2x16x16384x16384, .f32⟩
  | .hbm, ⟨44, _⟩ => ⟨S2x16x16384x16384, .f32⟩
  | .hbm, ⟨45, _⟩ => ⟨S2x16x16384x16384, .f32⟩
  | .hbm, ⟨46, _⟩ => ⟨S_, .f32⟩
  | .hbm, ⟨47, _⟩ => ⟨S2x16x16384, .f32⟩
  | .hbm, ⟨48, _⟩ => ⟨S2x16x16384x1, .f32⟩
  | .hbm, ⟨49, _⟩ => ⟨S2x16x16384x16384, .f32⟩
  | .hbm, ⟨50, _⟩ => ⟨S2x16x16384x16384, .f32⟩
  | .hbm, ⟨51, _⟩ => ⟨S2x16x16384x16384, .bf16⟩
  | .hbm, ⟨52, _⟩ => ⟨S2x16x64x16384, .f32⟩
  | .hbm, ⟨53, _⟩ => ⟨S2x16384x16x64, .f32⟩
  | .hbm, ⟨54, _⟩ => ⟨S2x16384x16x64, .bf16⟩
  | .hbm, ⟨55, _⟩ => ⟨S2x16384x1024, .bf16⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_call0_v0 : Ref sig .tc := ⟨.hbm, 34, rfl⟩
abbrev main_call0_v1 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel2.lean ====
abbrev S32768x1024 : Shape := ⟨2, ![32768, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 14
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S1024x4096, .bf16⟩
  | .hbm, ⟨12, _⟩ => ⟨S4096x1024, .bf16⟩
  | .hbm, ⟨13, _⟩ => ⟨S1x1024, .f32⟩
  | .hbm, ⟨14, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S32768x1024 : Shape := ⟨2, ![32768, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 66
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | .hbm, ⟨43, _⟩ => ⟨S32768x4096, .f32⟩
  | .hbm, ⟨44, _⟩ => ⟨S_, .f32⟩
  | .hbm, ⟨45, _⟩ => ⟨S32768x4096, .f32⟩
  | .hbm, ⟨46, _⟩ => ⟨S32768x4096, .f32⟩
  | .hbm, ⟨47, _⟩ => ⟨S32768x4096, .f32⟩
  | .hbm, ⟨48, _⟩ => ⟨S32768x1024, .f32⟩
  | .hbm, ⟨49, _⟩ => ⟨S32768x1024, .f32⟩
  | .hbm, ⟨50, _⟩ => ⟨S_, .f32⟩
  | .hbm, ⟨51, _⟩ => ⟨S32768, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S32768x1, .f32⟩
  | .hbm, ⟨60, _⟩ => ⟨S32768x1024, .f32⟩
  | .hbm, ⟨61, _⟩ => ⟨S32768x1024, .f32⟩
  | .hbm, ⟨62, _⟩ => ⟨S1x1024, .f32⟩
  | .hbm, ⟨63, _⟩ => ⟨S32768x1024, .f32⟩
  | .hbm, ⟨64, _⟩ => ⟨S32768x1024, .f32⟩
  | .hbm, ⟨65, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Kernel3.lean ====
abbrev S32768x1024 : Shape := ⟨2, ![32768, 1024]⟩
abbrev S32768x1 : Shape := ⟨2, ![32768, 1]⟩
abbrev S1024 : Shape := ⟨1, ![1024]⟩
abbrev S1024x1280 : Shape := ⟨2, ![1024, 1280]⟩
abbrev S128 : Shape := ⟨1, ![128]⟩
abbrev S1x128 : Shape := ⟨2, ![1, 128]⟩
abbrev S1024x1024 : Shape := ⟨2, ![1024, 1024]⟩
abbrev S1024x128 : Shape := ⟨2, ![1024, 128]⟩
abbrev S32 : Shape := ⟨1, ![32]⟩
abbrev S_ : Shape := ⟨0, ![]⟩
abbrev S1x32 : Shape := ⟨2, ![1, 32]⟩
abbrev S4x32 : Shape := ⟨2, ![4, 32]⟩
abbrev S1x1024 : Shape := ⟨2, ![1, 1024]⟩
abbrev S1024x2x1x64 : Shape := ⟨4, ![1024, 2, 1, 64]⟩
abbrev S1024x2x2x64 : Shape := ⟨4, ![1024, 2, 2, 64]⟩
abbrev S1024x256 : Shape := ⟨2, ![1024, 256]⟩
abbrev S32768x256 : Shape := ⟨2, ![32768, 256]⟩
abbrev S512x1024 : Shape := ⟨2, ![512, 1024]⟩
abbrev S512x1 : Shape := ⟨2, ![512, 1]⟩
abbrev S512x256 : Shape := ⟨2, ![512, 256]⟩
abbrev S512 : Shape := ⟨1, ![512]⟩
abbrev S512x128 : Shape := ⟨2, ![512, 128]⟩

abbrev nBuf : Space → Nat
  | .hbm => 44
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S32768x1, .i32⟩
  | .hbm, ⟨2, _⟩ => ⟨S1024, .f32⟩
  | .hbm, ⟨3, _⟩ => ⟨S1024x1280, .f32⟩
  | .hbm, ⟨4, _⟩ => ⟨S128, .f32⟩
  | .hbm, ⟨5, _⟩ => ⟨S1x128, .f32⟩
  | .hbm, ⟨6, _⟩ => ⟨S128, .f32⟩
  | .hbm, ⟨7, _⟩ => ⟨S1x128, .f32⟩
  | .hbm, ⟨8, _⟩ => ⟨S1024x1024, .f32⟩
  | .hbm, ⟨9, _⟩ => ⟨S1024x128, .f32⟩
  | .hbm, ⟨10, _⟩ => ⟨S1024x128, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S1x32, .f32⟩
  | .hbm, ⟨28, _⟩ => ⟨S4x32, .f32⟩
  | .hbm, ⟨29, _⟩ => ⟨S128, .f32⟩
  | .hbm, ⟨30, _⟩ => ⟨S1x128, .f32⟩
  | .hbm, ⟨31, _⟩ => ⟨S1x1024, .f32⟩
  | .hbm, ⟨32, _⟩ => ⟨S1024x1024, .bf16⟩
  | .hbm, ⟨33, _⟩ => ⟨S1024x2x1x64, .f32⟩
  | .hbm, ⟨34, _⟩ => ⟨S1024x2x2x64, .f32⟩
  | .hbm, ⟨35, _⟩ => ⟨S1024x256, .f32⟩
  | .hbm, ⟨36, _⟩ => ⟨S1024x256, .bf16⟩
  | .hbm, ⟨37, _⟩ => ⟨S1024x2x1x64, .f32⟩
  | .hbm, ⟨38, _⟩ => ⟨S1024x2x2x64, .f32⟩
  | .hbm, ⟨39, _⟩ => ⟨S1024x256, .f32⟩
  | .hbm, ⟨40, _⟩ => ⟨S1024x256, .bf16⟩
  | .hbm, ⟨41, _⟩ => ⟨S32768x1024, .bf16⟩
  | .hbm, ⟨42, _⟩ => ⟨S32768x256, .bf16⟩
  | .hbm, ⟨43, _⟩ => ⟨S32768x256, .bf16⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1x1024, .f32⟩
  | .local _ .vmem, ⟨5, _⟩ => ⟨S1024x1024, .bf16⟩
  | .local _ .vmem, ⟨6, _⟩ => ⟨S1024x256, .bf16⟩
  | .local _ .vmem, ⟨7, _⟩ => ⟨S1024x256, .bf16⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S512x1024, .bf16⟩
  | .local _ .vmem, ⟨12, _⟩ => ⟨S512x1024, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30_0 : Ref sig .tc := ⟨.hbm, 41, rfl⟩
abbrev main_v30_1 : Ref sig .tc := ⟨.hbm, 42, rfl⟩
abbrev main_v30_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S32768x1024 : Shape := ⟨2, ![32768, 1024]⟩
abbrev S32768x1 : Shape := ⟨2, ![32768, 1]⟩
abbrev S1024 : Shape := ⟨1, ![1024]⟩
abbrev S1024x1280 : Shape := ⟨2, ![1024, 1280]⟩
abbrev S32768 : Shape := ⟨1, ![32768]⟩
abbrev S_ : Shape := ⟨0, ![]⟩
abbrev S1x1024 : Shape := ⟨2, ![1, 1024]⟩
abbrev S32768x1280 : Shape := ⟨2, ![32768, 1280]⟩
abbrev S32768x16x64 : Shape := ⟨3, ![32768, 16, 64]⟩
abbrev S32 : Shape := ⟨1, ![32]⟩
abbrev S1x32 : Shape := ⟨2, ![1, 32]⟩
abbrev S32768x32 : Shape := ⟨2, ![32768, 32]⟩
abbrev S32768x1x32 : Shape := ⟨3, ![32768, 1, 32]⟩
abbrev S32768x16x32 : Shape := ⟨3, ![32768, 16, 32]⟩
abbrev S32768x128 : Shape := ⟨2, ![32768, 128]⟩
abbrev S32768x2x64 : Shape := ⟨3, ![32768, 2, 64]⟩
abbrev S32768x2x32 : Shape := ⟨3, ![32768, 2, 32]⟩
abbrev S32768x2x128 : Shape := ⟨3, ![32768, 2, 128]⟩
abbrev S32768x256 : Shape := ⟨2, ![32768, 256]⟩

abbrev nBuf : Space → Nat
  | .hbm => 117
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1, .i32⟩
  | .hbm, ⟨2, _⟩ => ⟨S1024, .f32⟩
  | .hbm, ⟨3, _⟩ => ⟨S1024x1280, .f32⟩
  | .hbm, ⟨4, _⟩ => ⟨S32768, .i32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x1280, .f32⟩
  | .hbm, ⟨22, _⟩ => ⟨S32768x1024, .f32⟩
  | .hbm, ⟨23, _⟩ => ⟨S32768x16x64, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S32768, .f32⟩
  | .hbm, ⟨41, _⟩ => ⟨S32768x1, .f32⟩
  | .hbm, ⟨42, _⟩ => ⟨S1x32, .f32⟩
  | .hbm, ⟨43, _⟩ => ⟨S32768x32, .f32⟩
  | .hbm, ⟨44, _⟩ => ⟨S32768x32, .f32⟩
  | .hbm, ⟨45, _⟩ => ⟨S32768x32, .f32⟩
  | .hbm, ⟨46, _⟩ => ⟨S32768x32, .f32⟩
  | .hbm, ⟨47, _⟩ => ⟨S32768x1x32, .f32⟩
  | .hbm, ⟨48, _⟩ => ⟨S32768x32, .f32⟩
  | .hbm, ⟨49, _⟩ => ⟨S32768x1x32, .f32⟩
  | .hbm, ⟨50, _⟩ => ⟨S32768x16x32, .f32⟩
  | .hbm, ⟨51, _⟩ => ⟨S32768x16x32, .f32⟩
  | .hbm, ⟨52, _⟩ => ⟨S32768x16x32, .f32⟩
  | .hbm, ⟨53, _⟩ => ⟨S32768x16x32, .f32⟩
  | .hbm, ⟨54, _⟩ => ⟨S32768x16x32, .f32⟩
  | .hbm, ⟨55, _⟩ => ⟨S32768x16x32, .f32⟩
  | .hbm, ⟨56, _⟩ => ⟨S32768x16x32, .f32⟩
  | .hbm, ⟨57, _⟩ => ⟨S32768x16x32, .f32⟩
  | .hbm, ⟨58, _⟩ => ⟨S32768x16x32, .f32⟩
  | .hbm, ⟨59, _⟩ => ⟨S32768x16x32, .f32⟩
  | .hbm, ⟨60, _⟩ => ⟨S32768x16x32, .f32⟩
  | .hbm, ⟨61, _⟩ => ⟨S32768x16x32, .f32⟩
  | .hbm, ⟨62, _⟩ => ⟨S32768x16x64, .f32⟩
  | .hbm, ⟨63, _⟩ => ⟨S_, .f32⟩
  | .hbm, ⟨64, _⟩ => ⟨S32768x16x64, .f32⟩
  | .hbm, ⟨65, _⟩ => ⟨S32768x16x64, .f32⟩
  | .hbm, ⟨66, _⟩ => ⟨S32768x128, .f32⟩
  | .hbm, ⟨67, _⟩ => ⟨S32768x2x64, .f32⟩
  | .hbm, ⟨68, _⟩ => ⟨S32, .f32⟩
  | .hbm, ⟨69, _⟩ => ⟨S_, .f32⟩
  | .hbm, ⟨70, _⟩ => ⟨S32, .f32⟩
  | .hbm, ⟨71, _⟩ => ⟨S32, .f32⟩
  | .hbm, ⟨72, _⟩ => ⟨S_, .f32⟩
  | .hbm, ⟨73, _⟩ => ⟨S32, .f32⟩
  | .hbm, ⟨74, _⟩ => ⟨S32, .f32⟩
  | .hbm, ⟨75, _⟩ => ⟨S_, .f32⟩
  | .hbm, ⟨76, _⟩ => ⟨S32, .f32⟩
  | .hbm, ⟨77, _⟩ => ⟨S32, .f32⟩
  | .hbm, ⟨78, _⟩ => ⟨S_, .f32⟩
  | .hbm, ⟨79, _⟩ => ⟨S32, .f32⟩
  | .hbm, ⟨80, _⟩ => ⟨S32, .f32⟩
  | .hbm, ⟨81, _⟩ => ⟨S_, .f32⟩
  | .hbm, ⟨82, _⟩ => ⟨S32, .f32⟩
  | .hbm, ⟨83, _⟩ => ⟨S32, .f32⟩
  | .hbm, ⟨84, _⟩ => ⟨S32768, .f32⟩
  | .hbm, ⟨85, _⟩ => ⟨S32768x1, .f32⟩
  | .hbm, ⟨86, _⟩ => ⟨S1x32, .f32⟩
  | .hbm, ⟨87, _⟩ => ⟨S32768x32, .f32⟩
  | .hbm, ⟨88, _⟩ => ⟨S32768x32, .f32⟩
  | .hbm, ⟨89, _⟩ => ⟨S32768x32, .f32⟩
  | .hbm, ⟨90, _⟩ => ⟨S32768x32, .f32⟩
  | .hbm, ⟨91, _⟩ => ⟨S32768x1x32, .f32⟩
  | .hbm, ⟨92, _⟩ => ⟨S32768x32, .f32⟩
  | .hbm, ⟨93, _⟩ => ⟨S32768x1x32, .f32⟩
  | .hbm, ⟨94, _⟩ => ⟨S32768x2x32, .f32⟩
  | .hbm, ⟨95, _⟩ => ⟨S32768x2x32, .f32⟩
  | .hbm, ⟨96, _⟩ => ⟨S32768x2x32, .f32⟩
  | .hbm, ⟨97, _⟩ => ⟨S32768x2x32, .f32⟩
  | .hbm, ⟨98, _⟩ => ⟨S32768x2x32, .f32⟩
  | .hbm, ⟨99, _⟩ => ⟨S32768x2x32, .f32⟩
  | .hbm, ⟨100, _⟩ => ⟨S32768x2x32, .f32⟩
  | .hbm, ⟨101, _⟩ => ⟨S32768x2x32, .f32⟩
  | .hbm, ⟨102, _⟩ => ⟨S32768x2x32, .f32⟩
  | .hbm, ⟨103, _⟩ => ⟨S32768x2x32, .f32⟩
  | .hbm, ⟨104, _⟩ => ⟨S32768x2x32, .f32⟩
  | .hbm, ⟨105, _⟩ => ⟨S32768x2x32, .f32⟩
  | .hbm, ⟨106, _⟩ => ⟨S32768x2x64, .f32⟩
  | .hbm, ⟨107, _⟩ => ⟨S32768x128, .f32⟩
  | .hbm, ⟨108, _⟩ => ⟨S32768x2x64, .f32⟩
  | .hbm, ⟨109, _⟩ => ⟨S32768x1024, .f32⟩
  | .hbm, ⟨110, _⟩ => ⟨S32768x1024, .bf16⟩
  | .hbm, ⟨111, _⟩ => ⟨S32768x2x128, .f32⟩
  | .hbm, ⟨112, _⟩ => ⟨S32768x256, .f32⟩
  | .hbm, ⟨113, _⟩ => ⟨S32768x256, .bf16⟩
  | .hbm, ⟨114, _⟩ => ⟨S32768x2x128, .f32⟩
  | .hbm, ⟨115, _⟩ => ⟨S32768x256, .f32⟩
  | .hbm, ⟨116, _⟩ => ⟨S32768x256, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_7 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_v58 : Ref sig .tc := ⟨.hbm, 73, rfl⟩
abbrev main_v59 : Ref sig .tc := ⟨.hbm, 74, rfl⟩
abbrev main_cst_10 : Ref sig .tc := ⟨.hbm, 75, rfl⟩
abbrev main_v60 : Ref sig .tc := ⟨.hbm, 76, rfl⟩
abbrev main_v61 : Ref sig .tc := ⟨.hbm, 77, rfl⟩
abbrev main_cst_11 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x16384x256 : Shape := ⟨3, ![2, 16384, 256]⟩
abbrev S16 : Shape := ⟨1, ![16]⟩
abbrev S_ : Shape := ⟨0, ![]⟩
abbrev S2x4x2 : Shape := ⟨3, ![2, 4, 2]⟩
abbrev S2x2x4 : Shape := ⟨3, ![2, 2, 4]⟩
abbrev S4x4 : Shape := ⟨2, ![4, 4]⟩
abbrev S4x4x128 : Shape := ⟨3, ![4, 4, 128]⟩
abbrev S4x512 : Shape := ⟨2, ![4, 512]⟩
abbrev S8x512 : Shape := ⟨2, ![8, 512]⟩
abbrev S1x512x1024 : Shape := ⟨3, ![1, 512, 1024]⟩
abbrev S1x128x256 : Shape := ⟨3, ![1, 128, 256]⟩
abbrev S16x256x512 : Shape := ⟨3, ![16, 256, 512]⟩
abbrev S256x128 : Shape := ⟨2, ![256, 128]⟩
abbrev S128x128 : Shape := ⟨2, ![128, 128]⟩
abbrev S128x256 : Shape := ⟨2, ![128, 256]⟩
abbrev S256x256 : Shape := ⟨2, ![256, 256]⟩
abbrev S1x128x128 : Shape := ⟨3, ![1, 128, 128]⟩
abbrev S128x512 : Shape := ⟨2, ![128, 512]⟩
abbrev S256x512 : Shape := ⟨2, ![256, 512]⟩
abbrev S1x256x512 : Shape := ⟨3, ![1, 256, 512]⟩
abbrev S512 : Shape := ⟨1, ![512]⟩
abbrev S1x512 : Shape := ⟨2, ![1, 512]⟩

abbrev nBuf : Space → Nat
  | .hbm => 16
  | .vmem => 26
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x256, .bf16⟩
  | .hbm, ⟨2, _⟩ => ⟨S2x16384x256, .bf16⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S2x4x2, .f32⟩
  | .hbm, ⟨8, _⟩ => ⟨S2x2x4, .f32⟩
  | .hbm, ⟨9, _⟩ => ⟨S4x4, .f32⟩
  | .hbm, ⟨10, _⟩ => ⟨S4x4x128, .f32⟩
  | .hbm, ⟨11, _⟩ => ⟨S4x512, .f32⟩
  | .hbm, ⟨12, _⟩ => ⟨S_, .i32⟩
  | .hbm, ⟨13, _⟩ => ⟨S_, .f32⟩
  | .hbm, ⟨14, _⟩ => ⟨S8x512, .f32⟩
  | .hbm, ⟨15, _⟩ => ⟨S2x16384x1024, .bf16⟩
  | .local _ .vmem, ⟨0, _⟩ => ⟨S8x512, .f32⟩
  | .local _ .vmem, ⟨1, _⟩ => ⟨S1x512x1024, .bf16⟩
  | .local _ .vmem, ⟨2, _⟩ => ⟨S1x512x1024, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x256, .bf16⟩
  | .local _ .vmem, ⟨11, _⟩ => ⟨S1x128x256, .bf16⟩
  | .local _ .vmem, ⟨12, _⟩ => ⟨S1x128x256, .bf16⟩
  | .local _ .vmem, ⟨13, _⟩ => ⟨S1x128x256, .bf16⟩
  | .local _ .vmem, ⟨14, _⟩ => ⟨S1x128x256, .bf16⟩
  | .local _ .vmem, ⟨15, _⟩ => ⟨S1x128x256, .bf16⟩
  | .local _ .vmem, ⟨16, _⟩ => ⟨S1x128x256, .bf16⟩
  | .local _ .vmem, ⟨17, _⟩ => ⟨S1x128x256, .bf16⟩
  | .local _ .vmem, ⟨18, _⟩ => ⟨S1x128x256, .bf16⟩
  | .local _ .vmem, ⟨19, _⟩ => ⟨S1x128x256, .bf16⟩
  | .local _ .vmem, ⟨20, _⟩ => ⟨S1x128x256, .bf16⟩
  | .local _ .vmem, ⟨21, _⟩ => ⟨S1x128x256, .bf16⟩
  | .local _ .vmem, ⟨22, _⟩ => ⟨S1x128x256, .bf16⟩
  | .local _ .vmem, ⟨23, _⟩ => ⟨S1x512x1024, .bf16⟩
  | .local _ .vmem, ⟨24, _⟩ => ⟨S1x512x1024, .bf16⟩
  | .local _ .vmem, ⟨25, _⟩ => ⟨S16x256x512, .f32⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c0_i32 : BitVec 32 := 0#32
  let v1 : BitVec 32 := Scalar.addi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.addi v0 c1_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c2_i32 : BitVec 32 := 2#32
  let v1 : BitVec 32 := Scalar.addi v0 c2_i32
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c3_i32 : BitVec 32 := 3#32
  let v1 : BitVec 32 := Scalar.addi v0 c3_i32
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c0_i32 : BitVec 32 := 0#32
  let v1 : BitVec 32 := Scalar.addi v0 c0_i32
  let c0_i32_0 : BitVec 32 := 0#32
  let c0_i32_1 : BitVec 32 := 0#32
  ![arg0.toNat, v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.addi v0 c1_i32
  let c0_i32 : BitVec 32 := 0#32
  let c0_i32_0 : BitVec 32 := 0#32
  ![arg0.toNat, v1.toNat, c0_i32.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c2_i32 : BitVec 32 := 2#32
  let v1 : BitVec 32 := Scalar.addi v0 c2_i32
  let c0_i32 : BitVec 32 := 0#32
  let c0_i32_0 : BitVec 32 := 0#32
  ![arg0.toNat, v1.toNat, c0_i32.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c3_i32 : BitVec 32 := 3#32
  let v1 : BitVec 32 := Scalar.addi v0 c3_i32
  let c0_i32 : BitVec 32 := 0#32
  let c0_i32_0 : BitVec 32 := 0#32
  ![arg0.toNat, v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel4Ideal.lean ====
variable {F : FTy → Type} [FloatOps F] [Named F]
def κ : String → Option EReal := fun
  | "mask" => some ⊥
  | _ => none
-- ==== Reference4Ideal.lean ====
abbrev S2x16384x1024 : Shape := ⟨3, ![2, 16384, 1024]⟩
abbrev S2x16384x256 : Shape := ⟨3, ![2, 16384, 256]⟩
abbrev S16 : Shape := ⟨1, ![16]⟩
abbrev S32768x2x1x2x64 : Shape := ⟨5, ![32768, 2, 1, 2, 64]⟩
abbrev S32768x2x4x2x64 : Shape := ⟨5, ![32768, 2, 4, 2, 64]⟩
abbrev S2x128x128x16x64 : Shape := ⟨5, ![2, 128, 128, 16, 64]⟩
abbrev S2x1x128x16x64 : Shape := ⟨5, ![2, 1, 128, 16, 64]⟩
abbrev S_ : Shape := ⟨0, ![]⟩
abbrev S2x127x128x16x64 : Shape := ⟨5, ![2, 127, 128, 16, 64]⟩
abbrev S2x128x256x16x64 : Shape := ⟨5, ![2, 128, 256, 16, 64]⟩
abbrev S2x16x128x128x256 : Shape := ⟨5, ![2, 16, 128, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S1x16x1x1x1 : Shape := ⟨5, ![1, 16, 1, 1, 1]⟩
abbrev S2x16x128x128 : Shape := ⟨4, ![2, 16, 128, 128]⟩
abbrev S2x16x128x128x1 : Shape := ⟨5, ![2, 16, 128, 128, 1]⟩
abbrev S2x128x16x64x128 : Shape := ⟨5, ![2, 128, 16, 64, 128]⟩

abbrev nBuf : Space → Nat
  | .hbm => 96
  | .vmem => 0
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x256, .bf16⟩
  | .hbm, ⟨2, _⟩ => ⟨S2x16384x256, .bf16⟩
  | .hbm, ⟨3, _⟩ => ⟨S16, .f32⟩
  | .hbm, ⟨4, _⟩ => ⟨S32768x2x1x2x64, .bf16⟩
  | .hbm, ⟨5, _⟩ => ⟨S32768x2x4x2x64, .bf16⟩
  | .hbm, ⟨6, _⟩ => ⟨S2x16384x1024, .bf16⟩
  | .hbm, ⟨7, _⟩ => ⟨S2x128x128x16x64, .bf16⟩
  | .hbm, ⟨8, _⟩ => ⟨S2x1x128x16x64, .bf16⟩
  | .hbm, ⟨9, _⟩ => ⟨S_, .bf16⟩
  | .hbm, ⟨10, _⟩ => ⟨S2x1x128x16x64, .bf16⟩
  | .hbm, ⟨11, _⟩ => ⟨S2x127x128x16x64, .bf16⟩
  | .hbm, ⟨12, _⟩ => ⟨S2x128x128x16x64, .bf16⟩
  | .hbm, ⟨13, _⟩ => ⟨S2x128x256x16x64, .bf16⟩
  | .hbm, ⟨14, _⟩ => ⟨S32768x2x1x2x64, .bf16⟩
  | .hbm, ⟨15, _⟩ => ⟨S32768x2x4x2x64, .bf16⟩
  | .hbm, ⟨16, _⟩ => ⟨S2x16384x1024, .bf16⟩
  | .hbm, ⟨17, _⟩ => ⟨S2x128x128x16x64, .bf16⟩
  | .hbm, ⟨18, _⟩ => ⟨S2x1x128x16x64, .bf16⟩
  | .hbm, ⟨19, _⟩ => ⟨S_, .bf16⟩
  | .hbm, ⟨20, _⟩ => ⟨S2x1x128x16x64, .bf16⟩
  | .hbm, ⟨21, _⟩ => ⟨S2x127x128x16x64, .bf16⟩
  | .hbm, ⟨22, _⟩ => ⟨S2x128x128x16x64, .bf16⟩
  | .hbm, ⟨23, _⟩ => ⟨S2x128x256x16x64, .bf16⟩
  | .hbm, ⟨24, _⟩ => ⟨S2x128x128x16x64, .bf16⟩
  | .hbm, ⟨25, _⟩ => ⟨S2x16x128x128x256, .f32⟩
  | .hbm, ⟨26, _⟩ => ⟨S128, .i32⟩
  | .hbm, ⟨27, _⟩ => ⟨S128x1, .i32⟩
  | .hbm, ⟨28, _⟩ => ⟨S256, .i32⟩
  | .hbm, ⟨29, _⟩ => ⟨S1x256, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S128x256, .i32⟩
  | .hbm, ⟨34, _⟩ => ⟨S128x256, .i32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S128x256, .i1⟩
  | .hbm, ⟨43, _⟩ => ⟨S128, .i32⟩
  | .hbm, ⟨44, _⟩ => ⟨S128x1x1, .i32⟩
  | .hbm, ⟨45, _⟩ => ⟨S_, .i32⟩
  | .hbm, ⟨46, _⟩ => ⟨S128x1x1, .i32⟩
  | .hbm, ⟨47, _⟩ => ⟨S128x1x1, .i1⟩
  | .hbm, ⟨48, _⟩ => ⟨S_, .i32⟩
  | .hbm, ⟨49, _⟩ => ⟨S1x256, .i32⟩
  | .hbm, ⟨50, _⟩ => ⟨S1x256, .i1⟩
  | .hbm, ⟨51, _⟩ => ⟨S1x1x256, .i1⟩
  | .hbm, ⟨52, _⟩ => ⟨S128x1x256, .i1⟩
  | .hbm, ⟨53, _⟩ => ⟨S128x1x256, .i1⟩
  | .hbm, ⟨54, _⟩ => ⟨S128x1x256, .i1⟩
  | .hbm, ⟨55, _⟩ => ⟨S1x128x256, .i1⟩
  | .hbm, ⟨56, _⟩ => ⟨S128x128x256, .i1⟩
  | .hbm, ⟨57, _⟩ => ⟨S128x128x256, .i1⟩
  | .hbm, ⟨58, _⟩ => ⟨S128x128x256, .i1⟩
  | .hbm, ⟨59, _⟩ => ⟨S_, .f32⟩
  | .hbm, ⟨60, _⟩ => ⟨S_, .f32⟩
  | .hbm, ⟨61, _⟩ => ⟨S2x16x128x128x256, .i1⟩
  | .hbm, ⟨62, _⟩ => ⟨S2x16x128x128x256, .f32⟩
  | .hbm, ⟨63, _⟩ => ⟨S2x16x128x128x256, .f32⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S1x16x1x1x1, .f32⟩
  | .hbm, ⟨68, _⟩ => ⟨S_, .f32⟩
  | .hbm, ⟨69, _⟩ => ⟨S2x16x128x128, .f32⟩
  | .hbm, ⟨70, _⟩ => ⟨S2x16x128x128x1, .f32⟩
  | .hbm, ⟨71, _⟩ => ⟨S2x16x128x128x1, .f32⟩
  | .hbm, ⟨72, _⟩ => ⟨S2x16x128x128x1, .f32⟩
  | .hbm, ⟨73, _⟩ => ⟨S_, .f32⟩
  | .hbm, ⟨74, _⟩ => ⟨S_, .f32⟩
  | .hbm, ⟨75, _⟩ => ⟨S2x16x128x128x256, .f32⟩
  | .hbm, ⟨76, _⟩ => ⟨S2x16x128x128x256, .f32⟩
  | .hbm, ⟨77, _⟩ => ⟨S2x16x128x128x256, .f32⟩
  | .hbm, ⟨78, _⟩ => ⟨S2x16x128x128x256, .f32⟩
  | .hbm, ⟨79, _⟩ => ⟨S2x16x128x128x256, .f32⟩
  | .hbm, ⟨80, _⟩ => ⟨S_, .f32⟩
  | .hbm, ⟨81, _⟩ => ⟨S2x16x128x128, .f32⟩
  | .hbm, ⟨82, _⟩ => ⟨S2x16x128x128x1, .f32⟩
  | .hbm, ⟨83, _⟩ => ⟨S2x16x128x128x1, .f32⟩
  | .hbm, ⟨84, _⟩ => ⟨S2x16x128x128x1, .f32⟩
  | .hbm, ⟨85, _⟩ => ⟨S2x16x128x128x1, .f32⟩
  | .hbm, ⟨86, _⟩ => ⟨S2x16x128x128x1, .f32⟩
  | .hbm, ⟨87, _⟩ => ⟨S2x16x128x128x1, .f32⟩
  | .hbm, ⟨88, _⟩ => ⟨S2x16x128x128x1, .f32⟩
  | .hbm, ⟨89, _⟩ => ⟨S2x16x128x128x256, .f32⟩
  | .hbm, ⟨90, _⟩ => ⟨S2x16x128x128x256, .f32⟩
  | .hbm, ⟨91, _⟩ => ⟨S2x16x128x128x256, .bf16⟩
  | .hbm, ⟨92, _⟩ => ⟨S2x128x16x64x128, .f32⟩
  | .hbm, ⟨93, _⟩ => ⟨S2x128x128x16x64, .f32⟩
  | .hbm, ⟨94, _⟩ => ⟨S2x16384x1024, .f32⟩
  | .hbm, ⟨95, _⟩ => ⟨S2x16384x1024, .bf16⟩
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_1 : Ref sig .tc := ⟨.hbm, 36, rfl⟩
abbrev main_v29 : Ref sig .tc := ⟨.hbm, 37, rfl⟩
abbrev main_v30 : Ref sig .tc := ⟨.hbm, 38, rfl⟩
abbrev main_c_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_3 : Ref sig .tc := ⟨.hbm, 45, rfl⟩
abbrev main_v36 : Ref sig .tc := ⟨.hbm, 46, rfl⟩
abbrev main_v37 : Ref sig .tc := ⟨.hbm, 47, rfl⟩
abbrev main_c_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_5 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_9 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩

abbrev nD : Nat := 1
abbrev τ : Topo := Topo.v7x

variable {F : FTy → Type} [FloatOps F]
-- ==== Proof.Flash.Logic.lean ====
/-
  Plain reasoning about the attention kernel's programs. `W e p s Q`: from the buffers of `e` at the state `s`, the
  program `p` runs and ends at a value and a state of which `Q` holds. One rule per operation: a load hands on what the
  state holds there, a store changes the state there, a loop goes by an invariant over states.
-/
module

public import Idealize.ShloMosaic.Lib.Pipeline.FrameBody
public import Idealize.ShloMosaic.Lib.Ring
public import Idealize.ShloMosaic.Lib.Tactic

@[expose] public section

noncomputable section

namespace Cert.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ### Contents with a rectangle overwritten -/

/-- The contents `n` with `w` on the rectangle `r`. -/
def put {S : Shape} {α : Type} (n : S.Idx → α) (r : Rect S) (w : r.shape.Idx → α) : S.Idx → α := fun i =>
  haveI := Classical.propDecidable (∃ j, r.emb j = i)
  if h : ∃ j, r.emb j = i then w h.choose else n i

theorem put_emb {S : Shape} {α : Type} (n : S.Idx → α) (r : Rect S) (w : r.shape.Idx → α) (j : r.shape.Idx) :
    put n r w (r.emb j) = w j := by
  unfold put
  have h : ∃ j', r.emb j' = r.emb j := ⟨j, rfl⟩
  rw [dif_pos h]
  exact congrArg w (r.emb.injective h.choose_spec)

theorem put_off {S : Shape} {α : Type} (n : S.Idx → α) (r : Rect S) (w : r.shape.Idx → α) (i : S.Idx)
    (h : ∀ j, r.emb j ≠ i) : put n r w i = n i := by
  unfold put
  rw [dif_neg fun ⟨j, hj⟩ => h j hj]

/-- A store through a view, read back through it, is the contents with the rectangle overwritten. -/
theorem read_write_put {sig : RefSig} {κ : Kind} {sp : Space} {S : Shape} {e : EltTy} {Val : EltTy → Type}
    (m : Memref sig κ sp S e) (r : Rect S) (f : m.view.ty.Contents Val) (w : r.shape.Idx → Val e) :
    m.view.read Val ((m.access r).write Val f w Finset.univ) = put (m.view.read Val f) r w := by
  funext i
  by_cases h : ∃ j, r.emb j = i
  · obtain ⟨j, rfl⟩ := h
    rw [put_emb]
    exact View.read_write_of_mem (v := m.access r) f w (Finset.mem_univ j)
  · rw [put_off _ _ _ _ fun j hj => h ⟨j, hj⟩]
    refine View.read_slice_write_of_not_mem _ _ _ _ ?_
    intro hm
    rw [Rect.map_emb_univ] at hm
    exact h (r.exists_idx_of_mem hm)

/-! ### The buffers and their state -/

/-- A buffer's shape. -/
abbrev S1024 : Shape := ⟨1, ![1024]⟩
/-- A buffer's shape. -/
abbrev S32 : Shape := ⟨1, ![32]⟩
/-- A buffer's shape. -/
abbrev S1x2048x256 : Shape := ⟨3, ![1, 2048, 256]⟩
/-- A buffer's shape. -/
abbrev S1x16384x256 : Shape := ⟨3, ![1, 16384, 256]⟩
/-- A buffer's shape. -/
abbrev S1x2048x128 : Shape := ⟨3, ![1, 2048, 128]⟩
/-- A buffer's shape. -/
abbrev S256x16384 : Shape := ⟨2, ![256, 16384]⟩
/-- A buffer's shape. -/
abbrev S256x512 : Shape := ⟨2, ![256, 512]⟩
/-- A buffer's shape. -/
abbrev S2x1x512 : Shape := ⟨3, ![2, 1, 512]⟩
/-- A buffer's shape. -/
abbrev S2x128x512 : Shape := ⟨3, ![2, 128, 512]⟩
/-- A buffer's shape. -/
abbrev S2x2048x512 : Shape := ⟨3, ![2, 2048, 512]⟩

/-- What the kernel's scratch and result buffers hold: the result block, the transposed values, the transposed queries,
    the shifts, the accumulators, the weights. -/
structure St (F : FTy → Type) where
  o : Vec F S1x2048x128 .bf16
  vt : Vec F S256x16384 .bf16
  qt : Vec F S256x512 .bf16
  sh : Vec F S2x1x512 .f32
  acc : Vec F S2x128x512 .f32
  p : Vec F S2x2048x512 .bf16

/-- A core's buffers, with what the ones only read hold: the first blocks, the key bounds, the queries, keys, values. -/
structure Env (nD : ℕ) (τ : Topo) (sig : RefSig) (F : FTy → Type) (Λ : Labels) where
  c : Dev nD
  defs : Defs nD τ sig (Elt F) Λ
  arg3 : Memref sig .tc .smem S1024 .i32
  harg3 : arg3.IsWhole
  arg4 : Memref sig .tc .smem S32 .f32
  harg4 : arg4.IsWhole
  arg5 : Memref sig .tc .vmem S1x2048x256 .bf16
  harg5 : arg5.IsWhole
  arg6 : Memref sig .tc .vmem S1x16384x256 .bf16
  harg6 : arg6.IsWhole
  arg7 : Memref sig .tc .vmem S1x16384x256 .bf16
  harg7 : arg7.IsWhole
  arg8 : Memref sig .tc .vmem S1x2048x128 .bf16
  harg8 : arg8.IsWhole
  arg9 : Memref sig .tc .vmem S256x16384 .bf16
  harg9 : arg9.IsWhole
  arg10 : Memref sig .tc .vmem S256x512 .bf16
  harg10 : arg10.IsWhole
  arg11 : Memref sig .tc .vmem S2x1x512 .f32
  harg11 : arg11.IsWhole
  arg12 : Memref sig .tc .vmem S2x128x512 .f32
  harg12 : arg12.IsWhole
  arg13 : Memref sig .tc .vmem S2x2048x512 .bf16
  harg13 : arg13.IsWhole
  t3 : Vec F S1024 .i32
  t4 : Vec F S32 .f32
  t5 : Vec F S1x2048x256 .bf16
  t6 : Vec F S1x16384x256 .bf16
  t7 : Vec F S1x16384x256 .bf16

variable {nD : ℕ} {τ : Topo} {sig : RefSig} {F : FTy → Type} {Λ : Labels}

local notation "𝕄" => MT nD τ sig Unit (Elt F) ℕ (UR sig nD τ) ℕ

/-- The core holds the buffers of `e`, the written ones at the state `s`. -/
def Env.Own (e : Env nD τ sig F Λ) (s : St F) : sProp 𝕄 :=
  iprop(owns (e.c : Thread nD τ) e.arg3 fullShare.right e.t3
    ∗ owns (e.c : Thread nD τ) e.arg4 fullShare e.t4
    ∗ owns (e.c : Thread nD τ) e.arg5 fullShare e.t5
    ∗ owns (e.c : Thread nD τ) e.arg6 fullShare e.t6
    ∗ owns (e.c : Thread nD τ) e.arg7 fullShare e.t7
    ∗ owns (e.c : Thread nD τ) e.arg8 fullShare s.o
    ∗ owns (e.c : Thread nD τ) e.arg9 fullShare s.vt
    ∗ owns (e.c : Thread nD τ) e.arg10 fullShare s.qt
    ∗ owns (e.c : Thread nD τ) e.arg11 fullShare s.sh
    ∗ owns (e.c : Thread nD τ) e.arg12 fullShare s.acc
    ∗ owns (e.c : Thread nD τ) e.arg13 fullShare s.p)

/-- From the buffers at `s`, `p` runs, and ends at a value and a state of which `Q` holds. -/
def W (e : Env nD τ sig F Λ) {α : Type} (p : Prog (TpuEff nD τ sig (Elt F) Λ .tc) α) (s : St F) (Q : α → St F → Prop) : Prop :=
  ∀ E : Set ℕ, e.Own s ⊢ wp frame (wpE e.defs Variants.none (e.c : Thread nD τ) none) E p (fun a => iprop(∃ s', ⌜Q a s'⌝ ∗ e.Own s'))

theorem W_run {e : Env nD τ sig F Λ} {α : Type} {p : Prog (TpuEff nD τ sig (Elt F) Λ .tc) α} {s : St F} {Q : α → St F → Prop}
    (h : W e p s Q) (E : Set ℕ) :
    e.Own s ⊢ wp frame (wpE e.defs Variants.none (e.c : Thread nD τ) none) E p (fun a => iprop(∃ s', ⌜Q a s'⌝ ∗ e.Own s')) := h E

/-! ### One memref -/

theorem owns_load (defs : Defs nD τ sig (Elt F) Λ) (c : Dev nD) (E : Set ℕ) {sp : CoreSpace} {S : Shape} {t : EltTy}
    (m : Memref sig .tc sp S t) (q : PosShare TreeShare) (X : S.Idx → Elt F t) {r : LoadRect S} {hl : m.view.LoadsAt r}
    {α : Type} {k : (r.shape.Idx → Elt F t) → Prog (TpuEff nD τ sig (Elt F) Λ .tc) α} {Q : α → sProp 𝕄} :
    (owns (c : Thread nD τ) m q X : sProp 𝕄)
      ⊢ iprop((owns (c : Thread nD τ) m q X -∗ wp frame (wpE defs Variants.none (c : Thread nD τ) none) E (k fun j => X (r.idx j)) Q)
        -∗ wp frame (wpE defs Variants.none (c : Thread nD τ) none) E (.op (.load m r hl) k) Q) := by
  unfold owns
  iintro ⟨%f, %hf, H⟩ Hk
  subst hf
  iapply (wp_load (defs := defs) Variants.none (c : Thread nD τ) none E (m := m) (r := r) (hl := hl) (k := k) (f := f)
    (S := m.view.set) (m.view.setOn_subset_set r.set)) $$ H
  iintro H
  iapply Hk
  iexists f
  isplitr; · ipureintro; rfl
  iexact H

theorem owns_store (defs : Defs nD τ sig (Elt F) Λ) (c : Dev nD) (E : Set ℕ) {sp : CoreSpace} {S : Shape} {t : EltTy}
    (m : Memref sig .tc sp S t) (X : S.Idx → Elt F t) {r : Rect S} {w : r.shape.Idx → Elt F t}
    {hx : (m.access r).Stores Finset.univ} {hm : Finset.univ = Finset.univ ∨ ∀ a, r.stride a = 1}
    {α : Type} {k : PUnit → Prog (TpuEff nD τ sig (Elt F) Λ .tc) α} {Q : α → sProp 𝕄} :
    (owns (c : Thread nD τ) m fullShare X : sProp 𝕄)
      ⊢ iprop((owns (c : Thread nD τ) m fullShare (put X r w) -∗ wp frame (wpE defs Variants.none (c : Thread nD τ) none) E (k ⟨⟩) Q)
        -∗ wp frame (wpE defs Variants.none (c : Thread nD τ) none) E (.op (.store m r w Finset.univ hx hm) k) Q) := by
  unfold owns
  iintro ⟨%f, %hf, H⟩ Hk
  subst hf
  iapply (wp_store (defs := defs) Variants.none (c : Thread nD τ) none E (m := m) (r := r) (w := w) (hx := hx) (hm := hm) (k := k) (f := f)
    (S := m.view.set) (by
      rw [View.setOn_univ]
      exact View.set_slice_subset m.view r)) $$ H
  iintro H
  iapply Hk
  iexists _
  isplitr; · ipureintro; exact read_write_put m r f w
  iexact H

/-! ### Programs -/

variable (e : Env nD τ sig F Λ) {α β : Type}

theorem W_pure {a : α} {s : St F} {Q : α → St F → Prop} (h : Q a s) : W e (pure a) s Q := by
  intro E
  rw [wp_pure]
  iintro H
  imodintro
  iexists s
  isplitr; · ipureintro; exact h
  iexact H

theorem W_bind {p : Prog (TpuEff nD τ sig (Elt F) Λ .tc) α} {k : α → Prog (TpuEff nD τ sig (Elt F) Λ .tc) β} {s : St F}
    {Q : β → St F → Prop} (h : W e p s fun a s' => W e (k a) s' Q) : W e (p >>= k) s Q := by
  intro E
  rw [wp_bind]
  refine (h E).trans (wp_mono _ _ _ fun a => ?_)
  iintro ⟨%s', %h', H⟩
  iapply (h' E)
  iexact H

theorem W_mono {p : Prog (TpuEff nD τ sig (Elt F) Λ .tc) α} {s : St F} {Q Q' : α → St F → Prop}
    (h : W e p s Q) (hQ : ∀ a s', Q a s' → Q' a s') : W e p s Q' := by
  intro E
  refine (h E).trans (wp_mono _ _ _ fun a => ?_)
  iintro ⟨%s', %h', H⟩
  iexists s'
  isplitr; · ipureintro; exact hQ _ _ h'
  iexact H

theorem W_seq {p : Prog (TpuEff nD τ sig (Elt F) Λ .tc) α} {k : α → Prog (TpuEff nD τ sig (Elt F) Λ .tc) β} {s : St F}
    {R : α → St F → Prop} {Q : β → St F → Prop} (h : W e p s R) (hk : ∀ a s', R a s' → W e (k a) s' Q) : W e (p >>= k) s Q :=
  W_bind e (W_mono e h hk)

theorem W_tail {p : Prog (TpuEff nD τ sig (Elt F) Λ .tc) α} {s : St F} {Q : α → St F → Prop}
    (h : W e (p >>= pure) s Q) : W e p s Q := by
  rw [Prog.bind_pure] at h; exact h

theorem W_assume {P : Prop} {d : Decidable P} {k : PLift P → Prog (TpuEff nD τ sig (Elt F) Λ .tc) α} {s : St F} {Q : α → St F → Prop}
    (hP : P) (h : W e (k ⟨hP⟩) s Q) : W e (Prog.lift (.assume P d) >>= k) s Q := by
  intro E
  exact (h E).trans (wp_assume (defs := e.defs) Variants.none (e.c : Thread nD τ) none E (k := k) hP)

theorem W_for {w : ℕ} {σ : Type} (l : Scf.Loop w) (hok : l.OK) (init : σ) (body : Fin l.trips → σ → Prog (TpuEff nD τ sig (Elt F) Λ .tc) σ)
    {s : St F} (I : ℕ → St F → Prop) (h0 : I 0 s) (hstep : ∀ (k : Fin l.trips) (a : σ) (s : St F), I k.val s → W e (body k a) s fun _ s' => I (k.val + 1) s') :
    W e (Scf.Loop.for l hok init body) s fun _ s' => I l.trips s' := by
  intro E
  have key := Scf.wp_for frame (wpE e.defs Variants.none (e.c : Thread nD τ) none) E l.lb l.ub l.st hok init body
    (fun k _ => (iprop(∃ s', ⌜I k s'⌝ ∗ e.Own s') : sProp 𝕄))
    (fun k a => by
      iintro ⟨%s', %h', H⟩
      iapply (hstep k a s' h' E)
      iexact H)
    (Q := fun _ => iprop(∃ s', ⌜I l.trips s'⌝ ∗ e.Own s'))
  refine BIBase.Entails.trans ?_ key
  iintro H
  isplitl [H]
  · iexists s
    isplitr; · ipureintro; exact h0
    iexact H
  · iintro %a H
    iexact H

theorem W_dite {c : Prop} [d : Decidable c] {p : c → Prog (TpuEff nD τ sig (Elt F) Λ .tc) α} {p' : ¬ c → Prog (TpuEff nD τ sig (Elt F) Λ .tc) α}
    {s : St F} {Q : α → St F → Prop} (h : ∀ h, W e (p h) s Q) (h' : ∀ h, W e (p' h) s Q) : W e (dite c p p') s Q := by
  by_cases hc : c
  · rw [dif_pos hc]; exact h hc
  · rw [dif_neg hc]; exact h' hc

theorem W_ite {c : Prop} [d : Decidable c] {p p' : Prog (TpuEff nD τ sig (Elt F) Λ .tc) α}
    {s : St F} {Q : α → St F → Prop} (h : c → W e p s Q) (h' : ¬ c → W e p' s Q) : W e (ite c p p') s Q := by
  by_cases hc : c
  · rw [if_pos hc]; exact h hc
  · rw [if_neg hc]; exact h' hc

/-- A conditional whose two branches go on alike: what the branches leave is carried to the common rest. -/
theorem W_join {c : Prop} [d : Decidable c] {p : c → Prog (TpuEff nD τ sig (Elt F) Λ .tc) α} {k : Prog (TpuEff nD τ sig (Elt F) Λ .tc) α}
    {s : St F} {Q : α → St F → Prop} (R : St F → Prop) (hs : ¬ c → R s) (hk : ∀ s', R s' → W e k s' Q)
    (hp : ∀ h, (∀ s', R s' → W e k s' Q) → W e (p h) s Q) : W e (dite c p fun _ => k) s Q := by
  by_cases hc : c
  · rw [dif_pos hc]; exact hp hc hk
  · rw [dif_neg hc]; exact hk s (hs hc)

theorem W_join' {c : Prop} [d : Decidable c] {p k : Prog (TpuEff nD τ sig (Elt F) Λ .tc) α}
    {s : St F} {Q : α → St F → Prop} (R : St F → Prop) (hs : ¬ c → R s) (hk : ∀ s', R s' → W e k s' Q)
    (hp : c → (∀ s', R s' → W e k s' Q) → W e p s Q) : W e (ite c p k) s Q := by
  by_cases hc : c
  · rw [if_pos hc]; exact hp hc hk
  · rw [if_neg hc]; exact hk s (hs hc)

/-! ### Loads and stores, memref by memref -/

theorem W_smem3 {r : Rect S1024} {h1 : r.shape.numel = 1} {hp : EltTy.packing .i32 = 1}
    {k : Elt F .i32 → Prog (TpuEff nD τ sig (Elt F) Λ .tc) α} {s : St F} {Q : α → St F → Prop}
    (h : W e (k (e.t3 (r.idx (Shape.Idx.first (h1.symm ▸ Nat.one_pos))))) s Q) : W e (smemLoad (p := .tc) e.arg3 r h1 hp >>= k) s Q := by
  intro E
  unfold Env.Own
  iintro ⟨H3, H4, H5, H6, H7, H8, H9, H10, H11, H12, H13⟩
  iapply (owns_load e.defs e.c E e.arg3 fullShare.right e.t3 (r := r.toLoadRect) (k := fun f => k (f (Shape.Idx.first (h1.symm ▸ Nat.one_pos))))) $$ H3
  iintro H3
  iapply (h E)
  unfold Env.Own
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem W_smem4 {r : Rect S32} {h1 : r.shape.numel = 1} {hp : EltTy.packing .f32 = 1}
    {k : Elt F .f32 → Prog (TpuEff nD τ sig (Elt F) Λ .tc) α} {s : St F} {Q : α → St F → Prop}
    (h : W e (k (e.t4 (r.idx (Shape.Idx.first (h1.symm ▸ Nat.one_pos))))) s Q) : W e (smemLoad (p := .tc) e.arg4 r h1 hp >>= k) s Q := by
  intro E
  unfold Env.Own
  iintro ⟨H3, H4, H5, H6, H7, H8, H9, H10, H11, H12, H13⟩
  iapply (owns_load e.defs e.c E e.arg4 fullShare e.t4 (r := r.toLoadRect) (k := fun f => k (f (Shape.Idx.first (h1.symm ▸ Nat.one_pos))))) $$ H4
  iintro H4
  iapply (h E)
  unfold Env.Own
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem W_load5 {r : LoadRect S1x2048x256} {hl : e.arg5.view.LoadsAt r}
    {k : (r.shape.Idx → Elt F .bf16) → Prog (TpuEff nD τ sig (Elt F) Λ .tc) α} {s : St F} {Q : α → St F → Prop}
    (h : W e (k fun j => e.t5 (r.idx j)) s Q) : W e (Prog.lift (.load e.arg5 r hl) >>= k) s Q := by
  intro E
  unfold Env.Own
  iintro ⟨H3, H4, H5, H6, H7, H8, H9, H10, H11, H12, H13⟩
  iapply (owns_load e.defs e.c E e.arg5 fullShare e.t5 (r := r) (hl := hl) (k := k)) $$ H5
  iintro H5
  iapply (h E)
  unfold Env.Own
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem W_load6 {r : LoadRect S1x16384x256} {hl : e.arg6.view.LoadsAt r}
    {k : (r.shape.Idx → Elt F .bf16) → Prog (TpuEff nD τ sig (Elt F) Λ .tc) α} {s : St F} {Q : α → St F → Prop}
    (h : W e (k fun j => e.t6 (r.idx j)) s Q) : W e (Prog.lift (.load e.arg6 r hl) >>= k) s Q := by
  intro E
  unfold Env.Own
  iintro ⟨H3, H4, H5, H6, H7, H8, H9, H10, H11, H12, H13⟩
  iapply (owns_load e.defs e.c E e.arg6 fullShare e.t6 (r := r) (hl := hl) (k := k)) $$ H6
  iintro H6
  iapply (h E)
  unfold Env.Own
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem W_load7 {r : LoadRect S1x16384x256} {hl : e.arg7.view.LoadsAt r}
    {k : (r.shape.Idx → Elt F .bf16) → Prog (TpuEff nD τ sig (Elt F) Λ .tc) α} {s : St F} {Q : α → St F → Prop}
    (h : W e (k fun j => e.t7 (r.idx j)) s Q) : W e (Prog.lift (.load e.arg7 r hl) >>= k) s Q := by
  intro E
  unfold Env.Own
  iintro ⟨H3, H4, H5, H6, H7, H8, H9, H10, H11, H12, H13⟩
  iapply (owns_load e.defs e.c E e.arg7 fullShare e.t7 (r := r) (hl := hl) (k := k)) $$ H7
  iintro H7
  iapply (h E)
  unfold Env.Own
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem W_load8 {r : LoadRect S1x2048x128} {hl : e.arg8.view.LoadsAt r}
    {k : (r.shape.Idx → Elt F .bf16) → Prog (TpuEff nD τ sig (Elt F) Λ .tc) α} {o : Vec F S1x2048x128 .bf16} {vt : Vec F S256x16384 .bf16} {qt : Vec F S256x512 .bf16} {sh : Vec F S2x1x512 .f32} {acc : Vec F S2x128x512 .f32} {p : Vec F S2x2048x512 .bf16} {Q : α → St F → Prop}
    (h : W e (k fun j => o (r.idx j)) ⟨o, vt, qt, sh, acc, p⟩ Q) : W e (Prog.lift (.load e.arg8 r hl) >>= k) ⟨o, vt, qt, sh, acc, p⟩ Q := by
  intro E
  unfold Env.Own
  iintro ⟨H3, H4, H5, H6, H7, H8, H9, H10, H11, H12, H13⟩
  iapply (owns_load e.defs e.c E e.arg8 fullShare o (r := r) (hl := hl) (k := k)) $$ H8
  iintro H8
  iapply (h E)
  unfold Env.Own
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem W_store8 {r : Rect S1x2048x128} {w : r.shape.Idx → Elt F .bf16} {hx : (e.arg8.access r).Stores Finset.univ}
    {hm : Finset.univ = Finset.univ ∨ ∀ a, r.stride a = 1}
    {k : PUnit → Prog (TpuEff nD τ sig (Elt F) Λ .tc) α} {o : Vec F S1x2048x128 .bf16} {vt : Vec F S256x16384 .bf16} {qt : Vec F S256x512 .bf16} {sh : Vec F S2x1x512 .f32} {acc : Vec F S2x128x512 .f32} {p : Vec F S2x2048x512 .bf16} {Q : α → St F → Prop}
    (h : W e (k ⟨⟩) ⟨put o r w, vt, qt, sh, acc, p⟩ Q) : W e (Prog.lift (.store e.arg8 r w Finset.univ hx hm) >>= k) ⟨o, vt, qt, sh, acc, p⟩ Q := by
  intro E
  unfold Env.Own
  iintro ⟨H3, H4, H5, H6, H7, H8, H9, H10, H11, H12, H13⟩
  iapply (owns_store e.defs e.c E e.arg8 o (r := r) (w := w) (hx := hx) (hm := hm) (k := k)) $$ H8
  iintro H8
  iapply (h E)
  unfold Env.Own
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem W_load9 {r : LoadRect S256x16384} {hl : e.arg9.view.LoadsAt r}
    {k : (r.shape.Idx → Elt F .bf16) → Prog (TpuEff nD τ sig (Elt F) Λ .tc) α} {o : Vec F S1x2048x128 .bf16} {vt : Vec F S256x16384 .bf16} {qt : Vec F S256x512 .bf16} {sh : Vec F S2x1x512 .f32} {acc : Vec F S2x128x512 .f32} {p : Vec F S2x2048x512 .bf16} {Q : α → St F → Prop}
    (h : W e (k fun j => vt (r.idx j)) ⟨o, vt, qt, sh, acc, p⟩ Q) : W e (Prog.lift (.load e.arg9 r hl) >>= k) ⟨o, vt, qt, sh, acc, p⟩ Q := by
  intro E
  unfold Env.Own
  iintro ⟨H3, H4, H5, H6, H7, H8, H9, H10, H11, H12, H13⟩
  iapply (owns_load e.defs e.c E e.arg9 fullShare vt (r := r) (hl := hl) (k := k)) $$ H9
  iintro H9
  iapply (h E)
  unfold Env.Own
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem W_store9 {r : Rect S256x16384} {w : r.shape.Idx → Elt F .bf16} {hx : (e.arg9.access r).Stores Finset.univ}
    {hm : Finset.univ = Finset.univ ∨ ∀ a, r.stride a = 1}
    {k : PUnit → Prog (TpuEff nD τ sig (Elt F) Λ .tc) α} {o : Vec F S1x2048x128 .bf16} {vt : Vec F S256x16384 .bf16} {qt : Vec F S256x512 .bf16} {sh : Vec F S2x1x512 .f32} {acc : Vec F S2x128x512 .f32} {p : Vec F S2x2048x512 .bf16} {Q : α → St F → Prop}
    (h : W e (k ⟨⟩) ⟨o, put vt r w, qt, sh, acc, p⟩ Q) : W e (Prog.lift (.store e.arg9 r w Finset.univ hx hm) >>= k) ⟨o, vt, qt, sh, acc, p⟩ Q := by
  intro E
  unfold Env.Own
  iintro ⟨H3, H4, H5, H6, H7, H8, H9, H10, H11, H12, H13⟩
  iapply (owns_store e.defs e.c E e.arg9 vt (r := r) (w := w) (hx := hx) (hm := hm) (k := k)) $$ H9
  iintro H9
  iapply (h E)
  unfold Env.Own
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem W_load10 {r : LoadRect S256x512} {hl : e.arg10.view.LoadsAt r}
    {k : (r.shape.Idx → Elt F .bf16) → Prog (TpuEff nD τ sig (Elt F) Λ .tc) α} {o : Vec F S1x2048x128 .bf16} {vt : Vec F S256x16384 .bf16} {qt : Vec F S256x512 .bf16} {sh : Vec F S2x1x512 .f32} {acc : Vec F S2x128x512 .f32} {p : Vec F S2x2048x512 .bf16} {Q : α → St F → Prop}
    (h : W e (k fun j => qt (r.idx j)) ⟨o, vt, qt, sh, acc, p⟩ Q) : W e (Prog.lift (.load e.arg10 r hl) >>= k) ⟨o, vt, qt, sh, acc, p⟩ Q := by
  intro E
  unfold Env.Own
  iintro ⟨H3, H4, H5, H6, H7, H8, H9, H10, H11, H12, H13⟩
  iapply (owns_load e.defs e.c E e.arg10 fullShare qt (r := r) (hl := hl) (k := k)) $$ H10
  iintro H10
  iapply (h E)
  unfold Env.Own
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem W_store10 {r : Rect S256x512} {w : r.shape.Idx → Elt F .bf16} {hx : (e.arg10.access r).Stores Finset.univ}
    {hm : Finset.univ = Finset.univ ∨ ∀ a, r.stride a = 1}
    {k : PUnit → Prog (TpuEff nD τ sig (Elt F) Λ .tc) α} {o : Vec F S1x2048x128 .bf16} {vt : Vec F S256x16384 .bf16} {qt : Vec F S256x512 .bf16} {sh : Vec F S2x1x512 .f32} {acc : Vec F S2x128x512 .f32} {p : Vec F S2x2048x512 .bf16} {Q : α → St F → Prop}
    (h : W e (k ⟨⟩) ⟨o, vt, put qt r w, sh, acc, p⟩ Q) : W e (Prog.lift (.store e.arg10 r w Finset.univ hx hm) >>= k) ⟨o, vt, qt, sh, acc, p⟩ Q := by
  intro E
  unfold Env.Own
  iintro ⟨H3, H4, H5, H6, H7, H8, H9, H10, H11, H12, H13⟩
  iapply (owns_store e.defs e.c E e.arg10 qt (r := r) (w := w) (hx := hx) (hm := hm) (k := k)) $$ H10
  iintro H10
  iapply (h E)
  unfold Env.Own
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem W_load11 {r : LoadRect S2x1x512} {hl : e.arg11.view.LoadsAt r}
    {k : (r.shape.Idx → Elt F .f32) → Prog (TpuEff nD τ sig (Elt F) Λ .tc) α} {o : Vec F S1x2048x128 .bf16} {vt : Vec F S256x16384 .bf16} {qt : Vec F S256x512 .bf16} {sh : Vec F S2x1x512 .f32} {acc : Vec F S2x128x512 .f32} {p : Vec F S2x2048x512 .bf16} {Q : α → St F → Prop}
    (h : W e (k fun j => sh (r.idx j)) ⟨o, vt, qt, sh, acc, p⟩ Q) : W e (Prog.lift (.load e.arg11 r hl) >>= k) ⟨o, vt, qt, sh, acc, p⟩ Q := by
  intro E
  unfold Env.Own
  iintro ⟨H3, H4, H5, H6, H7, H8, H9, H10, H11, H12, H13⟩
  iapply (owns_load e.defs e.c E e.arg11 fullShare sh (r := r) (hl := hl) (k := k)) $$ H11
  iintro H11
  iapply (h E)
  unfold Env.Own
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem W_store11 {r : Rect S2x1x512} {w : r.shape.Idx → Elt F .f32} {hx : (e.arg11.access r).Stores Finset.univ}
    {hm : Finset.univ = Finset.univ ∨ ∀ a, r.stride a = 1}
    {k : PUnit → Prog (TpuEff nD τ sig (Elt F) Λ .tc) α} {o : Vec F S1x2048x128 .bf16} {vt : Vec F S256x16384 .bf16} {qt : Vec F S256x512 .bf16} {sh : Vec F S2x1x512 .f32} {acc : Vec F S2x128x512 .f32} {p : Vec F S2x2048x512 .bf16} {Q : α → St F → Prop}
    (h : W e (k ⟨⟩) ⟨o, vt, qt, put sh r w, acc, p⟩ Q) : W e (Prog.lift (.store e.arg11 r w Finset.univ hx hm) >>= k) ⟨o, vt, qt, sh, acc, p⟩ Q := by
  intro E
  unfold Env.Own
  iintro ⟨H3, H4, H5, H6, H7, H8, H9, H10, H11, H12, H13⟩
  iapply (owns_store e.defs e.c E e.arg11 sh (r := r) (w := w) (hx := hx) (hm := hm) (k := k)) $$ H11
  iintro H11
  iapply (h E)
  unfold Env.Own
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem W_load12 {r : LoadRect S2x128x512} {hl : e.arg12.view.LoadsAt r}
    {k : (r.shape.Idx → Elt F .f32) → Prog (TpuEff nD τ sig (Elt F) Λ .tc) α} {o : Vec F S1x2048x128 .bf16} {vt : Vec F S256x16384 .bf16} {qt : Vec F S256x512 .bf16} {sh : Vec F S2x1x512 .f32} {acc : Vec F S2x128x512 .f32} {p : Vec F S2x2048x512 .bf16} {Q : α → St F → Prop}
    (h : W e (k fun j => acc (r.idx j)) ⟨o, vt, qt, sh, acc, p⟩ Q) : W e (Prog.lift (.load e.arg12 r hl) >>= k) ⟨o, vt, qt, sh, acc, p⟩ Q := by
  intro E
  unfold Env.Own
  iintro ⟨H3, H4, H5, H6, H7, H8, H9, H10, H11, H12, H13⟩
  iapply (owns_load e.defs e.c E e.arg12 fullShare acc (r := r) (hl := hl) (k := k)) $$ H12
  iintro H12
  iapply (h E)
  unfold Env.Own
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem W_store12 {r : Rect S2x128x512} {w : r.shape.Idx → Elt F .f32} {hx : (e.arg12.access r).Stores Finset.univ}
    {hm : Finset.univ = Finset.univ ∨ ∀ a, r.stride a = 1}
    {k : PUnit → Prog (TpuEff nD τ sig (Elt F) Λ .tc) α} {o : Vec F S1x2048x128 .bf16} {vt : Vec F S256x16384 .bf16} {qt : Vec F S256x512 .bf16} {sh : Vec F S2x1x512 .f32} {acc : Vec F S2x128x512 .f32} {p : Vec F S2x2048x512 .bf16} {Q : α → St F → Prop}
    (h : W e (k ⟨⟩) ⟨o, vt, qt, sh, put acc r w, p⟩ Q) : W e (Prog.lift (.store e.arg12 r w Finset.univ hx hm) >>= k) ⟨o, vt, qt, sh, acc, p⟩ Q := by
  intro E
  unfold Env.Own
  iintro ⟨H3, H4, H5, H6, H7, H8, H9, H10, H11, H12, H13⟩
  iapply (owns_store e.defs e.c E e.arg12 acc (r := r) (w := w) (hx := hx) (hm := hm) (k := k)) $$ H12
  iintro H12
  iapply (h E)
  unfold Env.Own
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem W_load13 {r : LoadRect S2x2048x512} {hl : e.arg13.view.LoadsAt r}
    {k : (r.shape.Idx → Elt F .bf16) → Prog (TpuEff nD τ sig (Elt F) Λ .tc) α} {o : Vec F S1x2048x128 .bf16} {vt : Vec F S256x16384 .bf16} {qt : Vec F S256x512 .bf16} {sh : Vec F S2x1x512 .f32} {acc : Vec F S2x128x512 .f32} {p : Vec F S2x2048x512 .bf16} {Q : α → St F → Prop}
    (h : W e (k fun j => p (r.idx j)) ⟨o, vt, qt, sh, acc, p⟩ Q) : W e (Prog.lift (.load e.arg13 r hl) >>= k) ⟨o, vt, qt, sh, acc, p⟩ Q := by
  intro E
  unfold Env.Own
  iintro ⟨H3, H4, H5, H6, H7, H8, H9, H10, H11, H12, H13⟩
  iapply (owns_load e.defs e.c E e.arg13 fullShare p (r := r) (hl := hl) (k := k)) $$ H13
  iintro H13
  iapply (h E)
  unfold Env.Own
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem W_store13 {r : Rect S2x2048x512} {w : r.shape.Idx → Elt F .bf16} {hx : (e.arg13.access r).Stores Finset.univ}
    {hm : Finset.univ = Finset.univ ∨ ∀ a, r.stride a = 1}
    {k : PUnit → Prog (TpuEff nD τ sig (Elt F) Λ .tc) α} {o : Vec F S1x2048x128 .bf16} {vt : Vec F S256x16384 .bf16} {qt : Vec F S256x512 .bf16} {sh : Vec F S2x1x512 .f32} {acc : Vec F S2x128x512 .f32} {p : Vec F S2x2048x512 .bf16} {Q : α → St F → Prop}
    (h : W e (k ⟨⟩) ⟨o, vt, qt, sh, acc, put p r w⟩ Q) : W e (Prog.lift (.store e.arg13 r w Finset.univ hx hm) >>= k) ⟨o, vt, qt, sh, acc, p⟩ Q := by
  intro E
  unfold Env.Own
  iintro ⟨H3, H4, H5, H6, H7, H8, H9, H10, H11, H12, H13⟩
  iapply (owns_store e.defs e.c E e.arg13 p (r := r) (w := w) (hx := hx) (hm := hm) (k := k)) $$ H13
  iintro H13
  iapply (h E)
  unfold Env.Own
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

attribute [irreducible] W

end Cert.Flash

end
-- ==== Proof.Flash.WalkKernelIdeal.lean ====
module
public import proofs.«01_k».proof.Proof.Gen.KernelIdeal.Skeleton
public import proofs.«01_k».proof.Proof.Flash.Logic

@[expose] public section

/-!
The flash kernel runs to the end from any contents of its buffers, once the words it read from its table pass its check.
-/

namespace Cert.Flash.KernelIdeal

open Idealize.ShloMosaic Idealize.SL.Sem
open Cert.KernelIdeal Cert.KernelIdeal.Gen

variable {F : FTy → Type} [FloatOps F] [Named F]

theorem part33_w (e : Env nD τ sig F Λ₀) (i : grid0.Coords) (k0_t1 : Fin k0_t1_loop.trips) (v4 : BitVec 32) (v11 : BitVec 32) (v14 : BitVec 32) (k0_hw1 : k0_chk1 i k0_t1 v11 v14) (k0_h12 : k0_cond12 i k0_t1 v11 v14 = 1#1) (s : St F) :
    W e (k0_part33 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v4 v11 v14 k0_hw1 k0_h12) s (fun _ _ => True) := by
  obtain ⟨o, vt, qt, sh, acc, p⟩ := s
  rw [k0_part33_eq_skeleton]
  unfold k0_part33_skel
  dsimp only
  apply W_load6
  apply W_load10
  apply W_load11
  apply W_load13
  apply W_store13
  apply W_load6
  apply W_load10
  apply W_load11
  apply W_load13
  exact W_pure e trivial

theorem part34_w (e : Env nD τ sig F Λ₀) (i : grid0.Coords) (k0_t1 : Fin k0_t1_loop.trips) (v11 : BitVec 32) (v14 : BitVec 32) (k0_hw1 : k0_chk1 i k0_t1 v11 v14) (k0_h12 : k0_cond12 i k0_t1 v11 v14 = 1#1) (v140 : BitVec 32) (v170 : FVec F S1x512x512 .bf16) (s : St F) :
    W e (k0_part34 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 k0_h12 v140 v170) s (fun _ _ => True) := by
  obtain ⟨o, vt, qt, sh, acc, p⟩ := s
  rw [k0_part34_eq_skeleton]
  unfold k0_part34_skel
  dsimp only
  apply W_store13
  apply W_load6
  apply W_load10
  apply W_load11
  apply W_load13
  apply W_store13
  apply W_load6
  apply W_load10
  apply W_load11
  apply W_load13
  exact W_pure e trivial

theorem part35_w (e : Env nD τ sig F Λ₀) (i : grid0.Coords) (k0_t1 : Fin k0_t1_loop.trips) (v11 : BitVec 32) (v14 : BitVec 32) (k0_hw1 : k0_chk1 i k0_t1 v11 v14) (k0_h12 : k0_cond12 i k0_t1 v11 v14 = 1#1) (v140 : BitVec 32) (v202 : FVec F S512x512 .bf16) (v203 : Vec F S1x512x512 .bf16) (s : St F) :
    W e (k0_part35 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 k0_h12 v140 v202 v203) s (fun _ _ => True) := by
  obtain ⟨o, vt, qt, sh, acc, p⟩ := s
  rw [k0_part35_eq_skeleton]
  unfold k0_part35_skel
  dsimp only
  apply W_store13
  apply W_load6
  apply W_load10
  apply W_load11
  apply W_load13
  apply W_store13
  apply W_load6
  apply W_load10
  apply W_load11
  exact W_pure e trivial

theorem part36_w (e : Env nD τ sig F Λ₀) (i : grid0.Coords) (k0_t1 : Fin k0_t1_loop.trips) (v4 : BitVec 32) (v11 : BitVec 32) (v14 : BitVec 32) (k0_hw1 : k0_chk1 i k0_t1 v11 v14) (k0_h13 : k0_cond13 i k0_t1 v11 v14 = 1#1) (s : St F) :
    W e (k0_part36 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v4 v11 v14 k0_hw1 k0_h13) s (fun _ _ => True) := by
  obtain ⟨o, vt, qt, sh, acc, p⟩ := s
  rw [k0_part36_eq_skeleton]
  unfold k0_part36_skel
  dsimp only
  apply W_load6
  apply W_load10
  apply W_load11
  apply W_load13
  apply W_store13
  apply W_load6
  apply W_load10
  apply W_load11
  apply W_load13
  exact W_pure e trivial

theorem part37_w (e : Env nD τ sig F Λ₀) (i : grid0.Coords) (k0_t1 : Fin k0_t1_loop.trips) (v11 : BitVec 32) (v14 : BitVec 32) (k0_hw1 : k0_chk1 i k0_t1 v11 v14) (k0_h13 : k0_cond13 i k0_t1 v11 v14 = 1#1) (v140 : BitVec 32) (v170 : FVec F S1x512x512 .bf16) (s : St F) :
    W e (k0_part37 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 k0_h13 v140 v170) s (fun _ _ => True) := by
  obtain ⟨o, vt, qt, sh, acc, p⟩ := s
  rw [k0_part37_eq_skeleton]
  unfold k0_part37_skel
  dsimp only
  apply W_store13
  apply W_load6
  apply W_load10
  apply W_load11
  apply W_load13
  apply W_store13
  apply W_load6
  apply W_load10
  apply W_load11
  apply W_load13
  exact W_pure e trivial

theorem part38_w (e : Env nD τ sig F Λ₀) (i : grid0.Coords) (k0_t1 : Fin k0_t1_loop.trips) (v11 : BitVec 32) (v14 : BitVec 32) (k0_hw1 : k0_chk1 i k0_t1 v11 v14) (k0_h13 : k0_cond13 i k0_t1 v11 v14 = 1#1) (v140 : BitVec 32) (v202 : FVec F S512x512 .bf16) (v203 : Vec F S1x512x512 .bf16) (s : St F) :
    W e (k0_part38 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 k0_h13 v140 v202 v203) s (fun _ _ => True) := by
  obtain ⟨o, vt, qt, sh, acc, p⟩ := s
  rw [k0_part38_eq_skeleton]
  unfold k0_part38_skel
  dsimp only
  apply W_store13
  apply W_load6
  apply W_load10
  apply W_load11
  apply W_load13
  apply W_store13
  apply W_load6
  apply W_load10
  apply W_load11
  apply W_load13
  apply W_store13
  exact W_pure e trivial

theorem part39_w (e : Env nD τ sig F Λ₀) (i : grid0.Coords) (k0_t1 : Fin k0_t1_loop.trips) (v11 : BitVec 32) (v14 : BitVec 32) (k0_hw1 : k0_chk1 i k0_t1 v11 v14) (k0_h13 : k0_cond13 i k0_t1 v11 v14 = 1#1) (v140 : BitVec 32) (c1024_i32_134 : BitVec 32) (s : St F) :
    W e (k0_part39 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 k0_h13 v140 c1024_i32_134) s (fun _ _ => True) := by
  obtain ⟨o, vt, qt, sh, acc, p⟩ := s
  rw [k0_part39_eq_skeleton]
  unfold k0_part39_skel
  dsimp only
  apply W_load6
  apply W_load10
  apply W_load11
  apply W_load13
  apply W_store13
  apply W_load6
  apply W_load10
  apply W_load11
  apply W_load13
  exact W_pure e trivial

theorem part1_w (e : Env nD τ sig F Λ₀) (i : grid0.Coords)  (s : St F) :
    W e (k0_part1 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 ) s (fun _ _ => True) := by
  obtain ⟨o, vt, qt, sh, acc, p⟩ := s
  rw [k0_part1_eq_skeleton]
  unfold k0_part1_skel
  dsimp only
  apply W_load7
  apply W_load9
  apply W_store9
  apply W_load7
  apply W_load9
  apply W_store9
  apply W_load7
  apply W_load9
  apply W_store9
  apply W_load7
  apply W_load9
  apply W_store9
  apply W_load7
  apply W_load9
  apply W_store9
  exact W_pure e trivial

theorem part2_w (e : Env nD τ sig F Λ₀) (i : grid0.Coords)  (s : St F) :
    W e (k0_part2 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 ) s (fun _ _ => True) := by
  obtain ⟨o, vt, qt, sh, acc, p⟩ := s
  rw [k0_part2_eq_skeleton]
  unfold k0_part2_skel
  dsimp only
  apply W_load7
  apply W_load9
  apply W_store9
  apply W_load7
  apply W_load9
  apply W_store9
  apply W_load7
  apply W_load9
  apply W_store9
  apply W_load7
  apply W_load9
  apply W_store9
  apply W_load7
  apply W_load9
  apply W_store9
  exact W_pure e trivial

theorem part3_w (e : Env nD τ sig F Λ₀) (i : grid0.Coords)  (s : St F) :
    W e (k0_part3 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 ) s (fun _ _ => True) := by
  obtain ⟨o, vt, qt, sh, acc, p⟩ := s
  rw [k0_part3_eq_skeleton]
  unfold k0_part3_skel
  dsimp only
  apply W_load7
  apply W_load9
  apply W_store9
  apply W_load7
  apply W_load9
  apply W_store9
  apply W_load7
  apply W_load9
  apply W_store9
  apply W_load7
  apply W_load9
  apply W_store9
  apply W_load7
  apply W_load9
  apply W_store9
  exact W_pure e trivial

theorem part4_w (e : Env nD τ sig F Λ₀) (i : grid0.Coords)  (s : St F) :
    W e (k0_part4 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 ) s (fun _ _ => True) := by
  obtain ⟨o, vt, qt, sh, acc, p⟩ := s
  rw [k0_part4_eq_skeleton]
  unfold k0_part4_skel
  dsimp only
  apply W_load7
  apply W_load9
  apply W_store9
  apply W_load7
  apply W_load9
  apply W_store9
  apply W_load7
  apply W_load9
  apply W_store9
  apply W_load7
  apply W_load9
  apply W_store9
  apply W_load7
  apply W_load9
  apply W_store9
  exact W_pure e trivial

theorem part5_w (e : Env nD τ sig F Λ₀) (i : grid0.Coords)  (s : St F) :
    W e (k0_part5 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 ) s (fun _ _ => True) := by
  obtain ⟨o, vt, qt, sh, acc, p⟩ := s
  rw [k0_part5_eq_skeleton]
  unfold k0_part5_skel
  dsimp only
  apply W_load7
  apply W_load9
  apply W_store9
  apply W_load7
  apply W_load9
  apply W_store9
  apply W_load7
  apply W_load9
  apply W_store9
  apply W_load7
  apply W_load9
  apply W_store9
  apply W_load7
  apply W_load9
  apply W_store9
  exact W_pure e trivial

theorem part6_w (e : Env nD τ sig F Λ₀) (i : grid0.Coords)  (s : St F) :
    W e (k0_part6 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 ) s (fun _ _ => True) := by
  obtain ⟨o, vt, qt, sh, acc, p⟩ := s
  rw [k0_part6_eq_skeleton]
  unfold k0_part6_skel
  dsimp only
  apply W_load7
  apply W_load9
  apply W_store9
  apply W_load7
  apply W_load9
  apply W_store9
  apply W_load7
  apply W_load9
  apply W_store9
  apply W_load7
  apply W_load9
  apply W_store9
  apply W_load7
  apply W_load9
  apply W_store9
  exact W_pure e trivial

theorem part40_w (e : Env nD τ sig F Λ₀) (i : grid0.Coords) (hchk : ∀ k0_t1 : Fin k0_t1_loop.trips, k0_chk1 i k0_t1 (e.t3 ((Rect.unit (s := S1024) (k0_off1 i k0_t1) S1.size (k0_off1_inb i k0_t1)).idx (Shape.Idx.first (numel1_S1.symm ▸ Nat.one_pos))))
      (e.t3 ((Rect.unit (s := S1024) (k0_off2 i k0_t1) S1.size (k0_off2_inb i k0_t1)).idx (Shape.Idx.first (numel1_S1.symm ▸ Nat.one_pos))))) (arg0 : BitVec 32) (arg1 : BitVec 32) (arg2 : BitVec 32) (c0_i32 : BitVec 32) (c1_i32 : BitVec 32) (k0_t1 : Fin k0_t1_loop.trips) (s : St F) :
    W e (k0_part40 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 arg0 arg1 arg2 c0_i32 c1_i32 k0_t1) s (fun _ _ => True) := by
  obtain ⟨o, vt, qt, sh, acc, p⟩ := s
  rw [k0_part40_eq_skeleton]
  unfold k0_part40_skel
  dsimp only
  apply W_smem3
  apply W_smem3
  apply W_assume e (hchk k0_t1)
  apply W_join e (fun _ => True) (fun _ => trivial)
  · rintro ⟨o, vt, qt, sh, acc, p⟩ -
    apply W_load5
    apply W_load10
    apply W_store10
    apply W_load12
    apply W_store12
    apply W_load10
    exact W_pure e trivial
  · intro k0_h1 hk
    apply W_seq e (part1_w e i ..)
    rintro _ ⟨o, vt, qt, sh, acc, p⟩ -
    try dsimp only
    apply W_seq e (part2_w e i ..)
    rintro _ ⟨o, vt, qt, sh, acc, p⟩ -
    try dsimp only
    apply W_seq e (part3_w e i ..)
    rintro _ ⟨o, vt, qt, sh, acc, p⟩ -
    try dsimp only
    apply W_seq e (part4_w e i ..)
    rintro _ ⟨o, vt, qt, sh, acc, p⟩ -
    try dsimp only
    apply W_seq e (part5_w e i ..)
    rintro _ ⟨o, vt, qt, sh, acc, p⟩ -
    try dsimp only
    apply W_seq e (part6_w e i ..)
    rintro _ ⟨o, vt, qt, sh, acc, p⟩ -
    try dsimp only
    apply W_load7
    apply W_load9
    apply W_store9
    apply W_load7
    apply W_load9
    apply W_store9
    exact hk _ trivial

theorem part11_w (e : Env nD τ sig F Λ₀) (i : grid0.Coords) (k0_t1 : Fin k0_t1_loop.trips) (v11 : BitVec 32) (v14 : BitVec 32) (k0_hw1 : k0_chk1 i k0_t1 v11 v14) (v15 : BitVec 32) (k0_h2 : k0_cond2 v11 v14 = 1#1) (k0_h4 : k0_cond4 v11 v14 = 1#1) (s : St F) :
    W e (k0_part11 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 v15 k0_h2 k0_h4) s (fun _ _ => True) := by
  obtain ⟨o, vt, qt, sh, acc, p⟩ := s
  rw [k0_part11_eq_skeleton]
  unfold k0_part11_skel
  dsimp only
  apply W_load6
  apply W_load10
  apply W_load11
  apply W_load13
  apply W_store13
  apply W_load6
  apply W_load10
  apply W_load11
  apply W_load13
  exact W_pure e trivial

theorem part12_w (e : Env nD τ sig F Λ₀) (i : grid0.Coords) (k0_t1 : Fin k0_t1_loop.trips) (v11 : BitVec 32) (v14 : BitVec 32) (k0_hw1 : k0_chk1 i k0_t1 v11 v14) (v15 : BitVec 32) (k0_h2 : k0_cond2 v11 v14 = 1#1) (k0_h5 : k0_cond5 v11 v14 = 1#1) (s : St F) :
    W e (k0_part12 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 v15 k0_h2 k0_h5) s (fun _ _ => True) := by
  obtain ⟨o, vt, qt, sh, acc, p⟩ := s
  rw [k0_part12_eq_skeleton]
  unfold k0_part12_skel
  dsimp only
  apply W_load6
  apply W_load10
  apply W_load11
  apply W_load13
  apply W_store13
  apply W_load6
  apply W_load10
  apply W_load11
  apply W_load13
  exact W_pure e trivial

theorem part7_w (e : Env nD τ sig F Λ₀) (i : grid0.Coords) (k0_t1 : Fin k0_t1_loop.trips) (v11 : BitVec 32) (v14 : BitVec 32) (k0_hw1 : k0_chk1 i k0_t1 v11 v14) (k0_h2 : k0_cond2 v11 v14 = 1#1) (c0_i32_72 : BitVec 32) (c1_i32_74 : BitVec 32) (k0_t2 : Fin (k0_t2_loop v11 v14).trips) (s : St F) :
    W e (k0_part7 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 k0_h2 c0_i32_72 c1_i32_74 k0_t2) s (fun _ _ => True) := by
  obtain ⟨o, vt, qt, sh, acc, p⟩ := s
  rw [k0_part7_eq_skeleton]
  unfold k0_part7_skel
  dsimp only
  apply W_load6
  apply W_load10
  apply W_load11
  apply W_load13
  apply W_store13
  apply W_load6
  apply W_load10
  apply W_load11
  apply W_load13
  exact W_pure e trivial

theorem part8_w (e : Env nD τ sig F Λ₀) (i : grid0.Coords) (k0_t1 : Fin k0_t1_loop.trips) (v11 : BitVec 32) (v14 : BitVec 32) (k0_hw1 : k0_chk1 i k0_t1 v11 v14) (k0_h2 : k0_cond2 v11 v14 = 1#1) (k0_t2 : Fin (k0_t2_loop v11 v14).trips) (v203 : BitVec 32) (v230 : FVec F S512x512 .bf16) (v231 : Vec F S1x512x512 .bf16) (s : St F) :
    W e (k0_part8 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 k0_h2 k0_t2 v203 v230 v231) s (fun _ _ => True) := by
  obtain ⟨o, vt, qt, sh, acc, p⟩ := s
  rw [k0_part8_eq_skeleton]
  unfold k0_part8_skel
  dsimp only
  apply W_store13
  apply W_load6
  apply W_load10
  apply W_load11
  apply W_load13
  apply W_store13
  apply W_load6
  apply W_load10
  apply W_load11
  apply W_load13
  apply W_store13
  exact W_pure e trivial

theorem t2_body_w (e : Env nD τ sig F Λ₀) (i : grid0.Coords) (k0_t1 : Fin k0_t1_loop.trips) (v11 : BitVec 32) (v14 : BitVec 32) (k0_hw1 : k0_chk1 i k0_t1 v11 v14) (v15 : BitVec 32) (k0_h2 : k0_cond2 v11 v14 = 1#1)  (k0_t2 : Fin (k0_t2_loop v11 v14).trips) (u : Unit) (s : St F) :
    W e (k0_t2_body i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 v15 k0_h2 k0_t2 u) s (fun _ _ => True) := by
  obtain ⟨o, vt, qt, sh, acc, p⟩ := s
  unfold k0_t2_body
  dsimp only
  apply W_seq e (part7_w e i ..)
  rintro ⟨v203, v230, v231⟩ ⟨o, vt, qt, sh, acc, p⟩ -
  try dsimp only
  apply W_seq e (part8_w e i ..)
  rintro _ ⟨o, vt, qt, sh, acc, p⟩ -
  try dsimp only
  apply W_load9
  apply W_load12
  apply W_load13
  apply W_load12
  apply W_store12
  exact W_pure e trivial

theorem part10_w (e : Env nD τ sig F Λ₀) (i : grid0.Coords) (k0_t1 : Fin k0_t1_loop.trips) (v11 : BitVec 32) (v14 : BitVec 32) (k0_hw1 : k0_chk1 i k0_t1 v11 v14) (k0_h2 : k0_cond2 v11 v14 = 1#1) (k0_t3 : Fin (k0_t3_loop v11 v14).trips) (v203 : BitVec 32) (v230 : FVec F S512x512 .bf16) (v231 : Vec F S1x512x512 .bf16) (s : St F) :
    W e (k0_part10 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 k0_h2 k0_t3 v203 v230 v231) s (fun _ _ => True) := by
  obtain ⟨o, vt, qt, sh, acc, p⟩ := s
  rw [k0_part10_eq_skeleton]
  unfold k0_part10_skel
  dsimp only
  apply W_store13
  apply W_load6
  apply W_load10
  apply W_load11
  apply W_load13
  apply W_store13
  apply W_load6
  apply W_load10
  apply W_load11
  apply W_load13
  apply W_store13
  exact W_pure e trivial

theorem part9_w (e : Env nD τ sig F Λ₀) (i : grid0.Coords) (k0_t1 : Fin k0_t1_loop.trips) (v11 : BitVec 32) (v14 : BitVec 32) (k0_hw1 : k0_chk1 i k0_t1 v11 v14) (k0_h2 : k0_cond2 v11 v14 = 1#1) (v160 : BitVec 32) (c1_i32_75 : BitVec 32) (k0_t3 : Fin (k0_t3_loop v11 v14).trips) (s : St F) :
    W e (k0_part9 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 k0_h2 v160 c1_i32_75 k0_t3) s (fun _ _ => True) := by
  obtain ⟨o, vt, qt, sh, acc, p⟩ := s
  rw [k0_part9_eq_skeleton]
  unfold k0_part9_skel
  dsimp only
  apply W_load6
  apply W_load10
  apply W_load11
  apply W_load13
  apply W_store13
  apply W_load6
  apply W_load10
  apply W_load11
  apply W_load13
  exact W_pure e trivial

theorem t3_body_w (e : Env nD τ sig F Λ₀) (i : grid0.Coords) (k0_t1 : Fin k0_t1_loop.trips) (v11 : BitVec 32) (v14 : BitVec 32) (k0_hw1 : k0_chk1 i k0_t1 v11 v14) (v15 : BitVec 32) (k0_h2 : k0_cond2 v11 v14 = 1#1) (v160 : BitVec 32)  (k0_t3 : Fin (k0_t3_loop v11 v14).trips) (u : Unit) (s : St F) :
    W e (k0_t3_body i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 v15 k0_h2 v160 k0_t3 u) s (fun _ _ => True) := by
  obtain ⟨o, vt, qt, sh, acc, p⟩ := s
  unfold k0_t3_body
  dsimp only
  apply W_seq e (part9_w e i ..)
  rintro ⟨v203, v230, v231⟩ ⟨o, vt, qt, sh, acc, p⟩ -
  try dsimp only
  apply W_seq e (part10_w e i ..)
  rintro _ ⟨o, vt, qt, sh, acc, p⟩ -
  try dsimp only
  apply W_load9
  apply W_load12
  apply W_load13
  apply W_load12
  apply W_store12
  exact W_pure e trivial

theorem part13_w (e : Env nD τ sig F Λ₀) (i : grid0.Coords) (k0_t1 : Fin k0_t1_loop.trips) (v11 : BitVec 32) (v14 : BitVec 32) (k0_hw1 : k0_chk1 i k0_t1 v11 v14) (v15 : BitVec 32) (k0_h2 : k0_cond2 v11 v14 = 1#1) (s : St F) :
    W e (k0_part13 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 v15 k0_h2) s (fun _ _ => True) := by
  obtain ⟨o, vt, qt, sh, acc, p⟩ := s
  rw [k0_part13_eq_skeleton]
  unfold k0_part13_skel
  dsimp only
  apply W_seq e (W_for e _ _ _ _ (fun _ _ => True) trivial (fun _ _ _ _ => t2_body_w e i ..))
  rintro _ ⟨o, vt, qt, sh, acc, p⟩ -
  try dsimp only
  apply W_seq e (W_for e _ _ _ _ (fun _ _ => True) trivial (fun _ _ _ _ => t3_body_w e i ..))
  rintro _ ⟨o, vt, qt, sh, acc, p⟩ -
  try dsimp only
  apply W_join e (fun _ => True) (fun _ => trivial)
  · rintro ⟨o, vt, qt, sh, acc, p⟩ -
    exact W_pure e trivial
  · intro k0_h3 hk
    apply W_load6
    apply W_load10
    apply W_load11
    apply W_load13
    apply W_store13
    apply W_load9
    apply W_load12
    apply W_load13
    apply W_load12
    apply W_store12
    exact hk _ trivial

theorem part18_w (e : Env nD τ sig F Λ₀) (i : grid0.Coords) (k0_t1 : Fin k0_t1_loop.trips) (v11 : BitVec 32) (v14 : BitVec 32) (k0_hw1 : k0_chk1 i k0_t1 v11 v14) (v15 : BitVec 32) (k0_h6 : k0_cond6 v11 v14 = 1#1) (k0_h8 : k0_cond8 v11 v14 = 1#1) (s : St F) :
    W e (k0_part18 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 v15 k0_h6 k0_h8) s (fun _ _ => True) := by
  obtain ⟨o, vt, qt, sh, acc, p⟩ := s
  rw [k0_part18_eq_skeleton]
  unfold k0_part18_skel
  dsimp only
  apply W_load6
  apply W_load10
  apply W_load11
  apply W_load13
  apply W_store13
  apply W_load6
  apply W_load10
  apply W_load11
  apply W_load13
  exact W_pure e trivial

theorem part19_w (e : Env nD τ sig F Λ₀) (i : grid0.Coords) (k0_t1 : Fin k0_t1_loop.trips) (v11 : BitVec 32) (v14 : BitVec 32) (k0_hw1 : k0_chk1 i k0_t1 v11 v14) (v15 : BitVec 32) (k0_h6 : k0_cond6 v11 v14 = 1#1) (k0_h9 : k0_cond9 v11 v14 = 1#1) (s : St F) :
    W e (k0_part19 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 v15 k0_h6 k0_h9) s (fun _ _ => True) := by
  obtain ⟨o, vt, qt, sh, acc, p⟩ := s
  rw [k0_part19_eq_skeleton]
  unfold k0_part19_skel
  dsimp only
  apply W_load6
  apply W_load10
  apply W_load11
  apply W_load13
  apply W_store13
  apply W_load6
  apply W_load10
  apply W_load11
  apply W_load13
  exact W_pure e trivial

theorem part14_w (e : Env nD τ sig F Λ₀) (i : grid0.Coords) (k0_t1 : Fin k0_t1_loop.trips) (v11 : BitVec 32) (v14 : BitVec 32) (k0_hw1 : k0_chk1 i k0_t1 v11 v14) (k0_h6 : k0_cond6 v11 v14 = 1#1) (c0_i32_72 : BitVec 32) (c1_i32_74 : BitVec 32) (k0_t4 : Fin (k0_t4_loop v11 v14).trips) (s : St F) :
    W e (k0_part14 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 k0_h6 c0_i32_72 c1_i32_74 k0_t4) s (fun _ _ => True) := by
  obtain ⟨o, vt, qt, sh, acc, p⟩ := s
  rw [k0_part14_eq_skeleton]
  unfold k0_part14_skel
  dsimp only
  apply W_load6
  apply W_load10
  apply W_load11
  apply W_load13
  apply W_store13
  apply W_load6
  apply W_load10
  apply W_load11
  apply W_load13
  exact W_pure e trivial

theorem part15_w (e : Env nD τ sig F Λ₀) (i : grid0.Coords) (k0_t1 : Fin k0_t1_loop.trips) (v11 : BitVec 32) (v14 : BitVec 32) (k0_hw1 : k0_chk1 i k0_t1 v11 v14) (k0_h6 : k0_cond6 v11 v14 = 1#1) (k0_t4 : Fin (k0_t4_loop v11 v14).trips) (v203 : BitVec 32) (v230 : FVec F S512x512 .bf16) (v231 : Vec F S1x512x512 .bf16) (s : St F) :
    W e (k0_part15 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 k0_h6 k0_t4 v203 v230 v231) s (fun _ _ => True) := by
  obtain ⟨o, vt, qt, sh, acc, p⟩ := s
  rw [k0_part15_eq_skeleton]
  unfold k0_part15_skel
  dsimp only
  apply W_store13
  apply W_load6
  apply W_load10
  apply W_load11
  apply W_load13
  apply W_store13
  apply W_load6
  apply W_load10
  apply W_load11
  apply W_load13
  apply W_store13
  exact W_pure e trivial

theorem t4_body_w (e : Env nD τ sig F Λ₀) (i : grid0.Coords) (k0_t1 : Fin k0_t1_loop.trips) (v11 : BitVec 32) (v14 : BitVec 32) (k0_hw1 : k0_chk1 i k0_t1 v11 v14) (v15 : BitVec 32) (k0_h6 : k0_cond6 v11 v14 = 1#1)  (k0_t4 : Fin (k0_t4_loop v11 v14).trips) (u : Unit) (s : St F) :
    W e (k0_t4_body i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 v15 k0_h6 k0_t4 u) s (fun _ _ => True) := by
  obtain ⟨o, vt, qt, sh, acc, p⟩ := s
  unfold k0_t4_body
  dsimp only
  apply W_seq e (part14_w e i ..)
  rintro ⟨v203, v230, v231⟩ ⟨o, vt, qt, sh, acc, p⟩ -
  try dsimp only
  apply W_seq e (part15_w e i ..)
  rintro _ ⟨o, vt, qt, sh, acc, p⟩ -
  try dsimp only
  apply W_load9
  apply W_load12
  apply W_load13
  apply W_load12
  apply W_store12
  exact W_pure e trivial

theorem part16_w (e : Env nD τ sig F Λ₀) (i : grid0.Coords) (k0_t1 : Fin k0_t1_loop.trips) (v11 : BitVec 32) (v14 : BitVec 32) (k0_hw1 : k0_chk1 i k0_t1 v11 v14) (k0_h6 : k0_cond6 v11 v14 = 1#1) (v160 : BitVec 32) (c1_i32_75 : BitVec 32) (k0_t5 : Fin (k0_t5_loop v11 v14).trips) (s : St F) :
    W e (k0_part16 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 k0_h6 v160 c1_i32_75 k0_t5) s (fun _ _ => True) := by
  obtain ⟨o, vt, qt, sh, acc, p⟩ := s
  rw [k0_part16_eq_skeleton]
  unfold k0_part16_skel
  dsimp only
  apply W_load6
  apply W_load10
  apply W_load11
  apply W_load13
  apply W_store13
  apply W_load6
  apply W_load10
  apply W_load11
  apply W_load13
  exact W_pure e trivial

theorem part17_w (e : Env nD τ sig F Λ₀) (i : grid0.Coords) (k0_t1 : Fin k0_t1_loop.trips) (v11 : BitVec 32) (v14 : BitVec 32) (k0_hw1 : k0_chk1 i k0_t1 v11 v14) (k0_h6 : k0_cond6 v11 v14 = 1#1) (k0_t5 : Fin (k0_t5_loop v11 v14).trips) (v203 : BitVec 32) (v230 : FVec F S512x512 .bf16) (v231 : Vec F S1x512x512 .bf16) (s : St F) :
    W e (k0_part17 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 k0_h6 k0_t5 v203 v230 v231) s (fun _ _ => True) := by
  obtain ⟨o, vt, qt, sh, acc, p⟩ := s
  rw [k0_part17_eq_skeleton]
  unfold k0_part17_skel
  dsimp only
  apply W_store13
  apply W_load6
  apply W_load10
  apply W_load11
  apply W_load13
  apply W_store13
  apply W_load6
  apply W_load10
  apply W_load11
  apply W_load13
  apply W_store13
  exact W_pure e trivial

theorem t5_body_w (e : Env nD τ sig F Λ₀) (i : grid0.Coords) (k0_t1 : Fin k0_t1_loop.trips) (v11 : BitVec 32) (v14 : BitVec 32) (k0_hw1 : k0_chk1 i k0_t1 v11 v14) (v15 : BitVec 32) (k0_h6 : k0_cond6 v11 v14 = 1#1) (v160 : BitVec 32)  (k0_t5 : Fin (k0_t5_loop v11 v14).trips) (u : Unit) (s : St F) :
    W e (k0_t5_body i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 v15 k0_h6 v160 k0_t5 u) s (fun _ _ => True) := by
  obtain ⟨o, vt, qt, sh, acc, p⟩ := s
  unfold k0_t5_body
  dsimp only
  apply W_seq e (part16_w e i ..)
  rintro ⟨v203, v230, v231⟩ ⟨o, vt, qt, sh, acc, p⟩ -
  try dsimp only
  apply W_seq e (part17_w e i ..)
  rintro _ ⟨o, vt, qt, sh, acc, p⟩ -
  try dsimp only
  apply W_load9
  apply W_load12
  apply W_load13
  apply W_load12
  apply W_store12
  exact W_pure e trivial

theorem part20_w (e : Env nD τ sig F Λ₀) (i : grid0.Coords) (k0_t1 : Fin k0_t1_loop.trips) (v11 : BitVec 32) (v14 : BitVec 32) (k0_hw1 : k0_chk1 i k0_t1 v11 v14) (v15 : BitVec 32) (k0_h6 : k0_cond6 v11 v14 = 1#1) (s : St F) :
    W e (k0_part20 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 v15 k0_h6) s (fun _ _ => True) := by
  obtain ⟨o, vt, qt, sh, acc, p⟩ := s
  rw [k0_part20_eq_skeleton]
  unfold k0_part20_skel
  dsimp only
  apply W_seq e (W_for e _ _ _ _ (fun _ _ => True) trivial (fun _ _ _ _ => t4_body_w e i ..))
  rintro _ ⟨o, vt, qt, sh, acc, p⟩ -
  try dsimp only
  apply W_seq e (W_for e _ _ _ _ (fun _ _ => True) trivial (fun _ _ _ _ => t5_body_w e i ..))
  rintro _ ⟨o, vt, qt, sh, acc, p⟩ -
  try dsimp only
  apply W_join e (fun _ => True) (fun _ => trivial)
  · rintro ⟨o, vt, qt, sh, acc, p⟩ -
    exact W_pure e trivial
  · intro k0_h7 hk
    apply W_load6
    apply W_load10
    apply W_load11
    apply W_load13
    apply W_store13
    apply W_load9
    apply W_load12
    apply W_load13
    apply W_load12
    apply W_store12
    exact hk _ trivial

theorem part41_w (e : Env nD τ sig F Λ₀) (i : grid0.Coords) (arg0 : BitVec 32) (arg1 : BitVec 32) (k0_t1 : Fin k0_t1_loop.trips) (v4 : BitVec 32) (v11 : BitVec 32) (v14 : BitVec 32) (k0_hw1 : k0_chk1 i k0_t1 v11 v14) (v15 : BitVec 32) (v35 : FVec F S1x512 .f32) (c16_i32_14 : BitVec 32) (s : St F) :
    W e (k0_part41 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 arg0 arg1 k0_t1 v4 v11 v14 k0_hw1 v15 v35 c16_i32_14) s (fun _ _ => True) := by
  obtain ⟨o, vt, qt, sh, acc, p⟩ := s
  rw [k0_part41_eq_skeleton]
  unfold k0_part41_skel
  dsimp only
  apply W_smem4
  apply W_load11
  apply W_store11
  apply W_load10
  apply W_smem4
  apply W_load11
  apply W_store11
  apply W_join e (fun _ => True) (fun _ => trivial)
  · rintro ⟨o, vt, qt, sh, acc, p⟩ -
    apply W_join e (fun _ => True) (fun _ => trivial)
    · rintro ⟨o, vt, qt, sh, acc, p⟩ -
      exact W_pure e trivial
    · intro k0_h6 hk
      apply W_seq e (part20_w e i ..)
      rintro ⟨v138, c4_i32_84⟩ ⟨o, vt, qt, sh, acc, p⟩ -
      try dsimp only
      apply W_join e (fun _ => True) (fun _ => trivial)
      · rintro ⟨o, vt, qt, sh, acc, p⟩ -
        apply W_join e (fun _ => True) (fun _ => trivial)
        · rintro ⟨o, vt, qt, sh, acc, p⟩ -
          exact hk _ trivial
        · intro k0_h9 hk
          apply W_seq e (part19_w e i ..)
          rintro ⟨v202, v232⟩ ⟨o, vt, qt, sh, acc, p⟩ -
          try dsimp only
          apply W_store13
          apply W_load6
          apply W_load10
          apply W_load11
          apply W_load13
          apply W_store13
          apply W_load9
          apply W_load12
          apply W_load13
          apply W_load12
          apply W_store12
          exact hk _ trivial
      · intro k0_h8 hk
        apply W_seq e (part18_w e i ..)
        rintro ⟨v202, v232⟩ ⟨o, vt, qt, sh, acc, p⟩ -
        try dsimp only
        apply W_store13
        apply W_load9
        apply W_load12
        apply W_load13
        apply W_load12
        apply W_store12
        exact hk _ trivial
  · intro k0_h2 hk
    apply W_seq e (part13_w e i ..)
    rintro ⟨v138, c4_i32_84⟩ ⟨o, vt, qt, sh, acc, p⟩ -
    try dsimp only
    apply W_join e (fun _ => True) (fun _ => trivial)
    · rintro ⟨o, vt, qt, sh, acc, p⟩ -
      apply W_join e (fun _ => True) (fun _ => trivial)
      · rintro ⟨o, vt, qt, sh, acc, p⟩ -
        exact hk _ trivial
      · intro k0_h5 hk
        apply W_seq e (part12_w e i ..)
        rintro ⟨v202, v232⟩ ⟨o, vt, qt, sh, acc, p⟩ -
        try dsimp only
        apply W_store13
        apply W_load6
        apply W_load10
        apply W_load11
        apply W_load13
        apply W_store13
        apply W_load9
        apply W_load12
        apply W_load13
        apply W_load12
        apply W_store12
        exact hk _ trivial
    · intro k0_h4 hk
      apply W_seq e (part11_w e i ..)
      rintro ⟨v202, v232⟩ ⟨o, vt, qt, sh, acc, p⟩ -
      try dsimp only
      apply W_store13
      apply W_load9
      apply W_load12
      apply W_load13
      apply W_load12
      apply W_store12
      exact hk _ trivial

theorem part29_w (e : Env nD τ sig F Λ₀) (i : grid0.Coords) (k0_t1 : Fin k0_t1_loop.trips) (v4 : BitVec 32) (s : St F) :
    W e (k0_part29 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v4) s (fun _ _ => True) := by
  obtain ⟨o, vt, qt, sh, acc, p⟩ := s
  rw [k0_part29_eq_skeleton]
  unfold k0_part29_skel
  dsimp only
  apply W_load6
  apply W_load10
  apply W_load11
  apply W_load13
  apply W_store13
  apply W_load6
  apply W_load10
  exact W_pure e trivial

theorem part30_w (e : Env nD τ sig F Λ₀) (i : grid0.Coords) (k0_t1 : Fin k0_t1_loop.trips) (v4 : BitVec 32) (s : St F) :
    W e (k0_part30 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v4) s (fun _ _ => True) := by
  obtain ⟨o, vt, qt, sh, acc, p⟩ := s
  rw [k0_part30_eq_skeleton]
  unfold k0_part30_skel
  dsimp only
  apply W_seq e (part29_w e i ..)
  rintro ⟨v140, v171⟩ ⟨o, vt, qt, sh, acc, p⟩ -
  try dsimp only
  apply W_load11
  apply W_load13
  apply W_store13
  apply W_load9
  apply W_load12
  apply W_load13
  apply W_load12
  apply W_store12
  apply W_load9
  apply W_load12
  apply W_load13
  apply W_load12
  apply W_store12
  exact W_pure e trivial

theorem part31_w (e : Env nD τ sig F Λ₀) (i : grid0.Coords) (k0_t1 : Fin k0_t1_loop.trips) (v4 : BitVec 32) (v11 : BitVec 32) (v14 : BitVec 32) (k0_hw1 : k0_chk1 i k0_t1 v11 v14) (k0_h11 : k0_cond11 i k0_t1 v11 v14 = 1#1) (s : St F) :
    W e (k0_part31 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v4 v11 v14 k0_hw1 k0_h11) s (fun _ _ => True) := by
  obtain ⟨o, vt, qt, sh, acc, p⟩ := s
  rw [k0_part31_eq_skeleton]
  unfold k0_part31_skel
  dsimp only
  apply W_load6
  apply W_load10
  apply W_load11
  apply W_load13
  apply W_store13
  apply W_load6
  apply W_load10
  apply W_load11
  exact W_pure e trivial

theorem part32_w (e : Env nD τ sig F Λ₀) (i : grid0.Coords) (k0_t1 : Fin k0_t1_loop.trips) (v11 : BitVec 32) (v14 : BitVec 32) (k0_hw1 : k0_chk1 i k0_t1 v11 v14) (k0_h11 : k0_cond11 i k0_t1 v11 v14 = 1#1) (v140 : BitVec 32) (v172 : FVec F S512x512 .bf16) (s : St F) :
    W e (k0_part32 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 k0_h11 v140 v172) s (fun _ _ => True) := by
  obtain ⟨o, vt, qt, sh, acc, p⟩ := s
  rw [k0_part32_eq_skeleton]
  unfold k0_part32_skel
  dsimp only
  apply W_load13
  apply W_store13
  apply W_load6
  apply W_load10
  apply W_load11
  apply W_load13
  apply W_store13
  apply W_load6
  apply W_load10
  apply W_load11
  exact W_pure e trivial

theorem part21_w (e : Env nD τ sig F Λ₀) (i : grid0.Coords) (k0_t1 : Fin k0_t1_loop.trips) (v11 : BitVec 32) (v14 : BitVec 32) (k0_hw1 : k0_chk1 i k0_t1 v11 v14) (v15 : BitVec 32) (c0_i32_39 : BitVec 32) (c1_i32_41 : BitVec 32) (k0_t6 : Fin (k0_t6_loop i k0_t1 v11 v14).trips) (s : St F) :
    W e (k0_part21 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 v15 c0_i32_39 c1_i32_41 k0_t6) s (fun _ _ => True) := by
  obtain ⟨o, vt, qt, sh, acc, p⟩ := s
  rw [k0_part21_eq_skeleton]
  unfold k0_part21_skel
  dsimp only
  apply W_load6
  apply W_load10
  apply W_load11
  apply W_load13
  apply W_store13
  apply W_load6
  apply W_load10
  apply W_load11
  apply W_load13
  exact W_pure e trivial

theorem part22_w (e : Env nD τ sig F Λ₀) (i : grid0.Coords) (k0_t1 : Fin k0_t1_loop.trips) (v11 : BitVec 32) (v14 : BitVec 32) (k0_hw1 : k0_chk1 i k0_t1 v11 v14) (k0_t6 : Fin (k0_t6_loop i k0_t1 v11 v14).trips) (v141 : BitVec 32) (v168 : FVec F S512x512 .bf16) (v169 : Vec F S1x512x512 .bf16) (s : St F) :
    W e (k0_part22 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 k0_t6 v141 v168 v169) s (fun _ _ => True) := by
  obtain ⟨o, vt, qt, sh, acc, p⟩ := s
  rw [k0_part22_eq_skeleton]
  unfold k0_part22_skel
  dsimp only
  apply W_store13
  apply W_load6
  apply W_load10
  apply W_load11
  apply W_load13
  apply W_store13
  apply W_load6
  apply W_load10
  apply W_load11
  apply W_load13
  apply W_store13
  exact W_pure e trivial

theorem part23_w (e : Env nD τ sig F Λ₀) (i : grid0.Coords) (k0_t1 : Fin k0_t1_loop.trips) (v11 : BitVec 32) (v14 : BitVec 32) (k0_hw1 : k0_chk1 i k0_t1 v11 v14) (k0_t6 : Fin (k0_t6_loop i k0_t1 v11 v14).trips) (v141 : BitVec 32) (c0_i32_109 : BitVec 32) (s : St F) :
    W e (k0_part23 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 k0_t6 v141 c0_i32_109) s (fun _ _ => True) := by
  obtain ⟨o, vt, qt, sh, acc, p⟩ := s
  rw [k0_part23_eq_skeleton]
  unfold k0_part23_skel
  dsimp only
  apply W_load6
  apply W_load10
  apply W_load11
  apply W_load13
  apply W_store13
  apply W_load6
  apply W_load10
  apply W_load11
  apply W_load13
  apply W_store13
  exact W_pure e trivial

theorem part24_w (e : Env nD τ sig F Λ₀) (i : grid0.Coords) (k0_t1 : Fin k0_t1_loop.trips) (v11 : BitVec 32) (v14 : BitVec 32) (k0_hw1 : k0_chk1 i k0_t1 v11 v14) (k0_t6 : Fin (k0_t6_loop i k0_t1 v11 v14).trips) (v141 : BitVec 32) (s : St F) :
    W e (k0_part24 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 k0_t6 v141) s (fun _ _ => True) := by
  obtain ⟨o, vt, qt, sh, acc, p⟩ := s
  rw [k0_part24_eq_skeleton]
  unfold k0_part24_skel
  dsimp only
  apply W_load6
  apply W_load10
  apply W_load11
  apply W_load13
  apply W_store13
  apply W_load6
  apply W_load10
  apply W_load11
  apply W_load13
  apply W_store13
  apply W_load9
  apply W_load12
  exact W_pure e trivial

theorem t6_body_w (e : Env nD τ sig F Λ₀) (i : grid0.Coords) (k0_t1 : Fin k0_t1_loop.trips) (v4 : BitVec 32) (v11 : BitVec 32) (v14 : BitVec 32) (k0_hw1 : k0_chk1 i k0_t1 v11 v14) (v15 : BitVec 32) (v72 : BitVec 32) (c4_i32_31 : BitVec 32)  (k0_t6 : Fin (k0_t6_loop i k0_t1 v11 v14).trips) (u : Unit) (s : St F) :
    W e (k0_t6_body i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v4 v11 v14 k0_hw1 v15 v72 c4_i32_31 k0_t6 u) s (fun _ _ => True) := by
  obtain ⟨o, vt, qt, sh, acc, p⟩ := s
  unfold k0_t6_body
  dsimp only
  apply W_seq e (part21_w e i ..)
  rintro ⟨v141, v168, v169⟩ ⟨o, vt, qt, sh, acc, p⟩ -
  try dsimp only
  apply W_seq e (part22_w e i ..)
  rintro _ ⟨o, vt, qt, sh, acc, p⟩ -
  try dsimp only
  apply W_seq e (part23_w e i ..)
  rintro _ ⟨o, vt, qt, sh, acc, p⟩ -
  try dsimp only
  apply W_seq e (part24_w e i ..)
  rintro ⟨v263, v265⟩ ⟨o, vt, qt, sh, acc, p⟩ -
  try dsimp only
  apply W_load13
  apply W_load12
  apply W_store12
  apply W_load9
  apply W_load12
  apply W_load13
  apply W_load12
  apply W_store12
  exact W_pure e trivial

theorem part25_w (e : Env nD τ sig F Λ₀) (i : grid0.Coords) (k0_t1 : Fin k0_t1_loop.trips) (v11 : BitVec 32) (v14 : BitVec 32) (k0_hw1 : k0_chk1 i k0_t1 v11 v14) (v15 : BitVec 32) (v94 : BitVec 32) (c1_i32_42 : BitVec 32) (k0_t7 : Fin (k0_t7_loop i k0_t1 v11 v14).trips) (s : St F) :
    W e (k0_part25 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 v15 v94 c1_i32_42 k0_t7) s (fun _ _ => True) := by
  obtain ⟨o, vt, qt, sh, acc, p⟩ := s
  rw [k0_part25_eq_skeleton]
  unfold k0_part25_skel
  dsimp only
  apply W_load6
  apply W_load10
  apply W_load11
  apply W_load13
  apply W_store13
  apply W_load6
  apply W_load10
  apply W_load11
  apply W_load13
  exact W_pure e trivial

theorem part26_w (e : Env nD τ sig F Λ₀) (i : grid0.Coords) (k0_t1 : Fin k0_t1_loop.trips) (v11 : BitVec 32) (v14 : BitVec 32) (k0_hw1 : k0_chk1 i k0_t1 v11 v14) (k0_t7 : Fin (k0_t7_loop i k0_t1 v11 v14).trips) (v141 : BitVec 32) (v168 : FVec F S512x512 .bf16) (v169 : Vec F S1x512x512 .bf16) (s : St F) :
    W e (k0_part26 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 k0_t7 v141 v168 v169) s (fun _ _ => True) := by
  obtain ⟨o, vt, qt, sh, acc, p⟩ := s
  rw [k0_part26_eq_skeleton]
  unfold k0_part26_skel
  dsimp only
  apply W_store13
  apply W_load6
  apply W_load10
  apply W_load11
  apply W_load13
  apply W_store13
  apply W_load6
  apply W_load10
  apply W_load11
  apply W_load13
  apply W_store13
  exact W_pure e trivial

theorem part27_w (e : Env nD τ sig F Λ₀) (i : grid0.Coords) (k0_t1 : Fin k0_t1_loop.trips) (v11 : BitVec 32) (v14 : BitVec 32) (k0_hw1 : k0_chk1 i k0_t1 v11 v14) (k0_t7 : Fin (k0_t7_loop i k0_t1 v11 v14).trips) (v141 : BitVec 32) (c0_i32_109 : BitVec 32) (s : St F) :
    W e (k0_part27 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 k0_t7 v141 c0_i32_109) s (fun _ _ => True) := by
  obtain ⟨o, vt, qt, sh, acc, p⟩ := s
  rw [k0_part27_eq_skeleton]
  unfold k0_part27_skel
  dsimp only
  apply W_load6
  apply W_load10
  apply W_load11
  apply W_load13
  apply W_store13
  apply W_load6
  apply W_load10
  apply W_load11
  apply W_load13
  apply W_store13
  exact W_pure e trivial

theorem part28_w (e : Env nD τ sig F Λ₀) (i : grid0.Coords) (k0_t1 : Fin k0_t1_loop.trips) (v11 : BitVec 32) (v14 : BitVec 32) (k0_hw1 : k0_chk1 i k0_t1 v11 v14) (k0_t7 : Fin (k0_t7_loop i k0_t1 v11 v14).trips) (v141 : BitVec 32) (s : St F) :
    W e (k0_part28 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v11 v14 k0_hw1 k0_t7 v141) s (fun _ _ => True) := by
  obtain ⟨o, vt, qt, sh, acc, p⟩ := s
  rw [k0_part28_eq_skeleton]
  unfold k0_part28_skel
  dsimp only
  apply W_load6
  apply W_load10
  apply W_load11
  apply W_load13
  apply W_store13
  apply W_load6
  apply W_load10
  apply W_load11
  apply W_load13
  apply W_store13
  apply W_load9
  apply W_load12
  exact W_pure e trivial

theorem t7_body_w (e : Env nD τ sig F Λ₀) (i : grid0.Coords) (k0_t1 : Fin k0_t1_loop.trips) (v4 : BitVec 32) (v11 : BitVec 32) (v14 : BitVec 32) (k0_hw1 : k0_chk1 i k0_t1 v11 v14) (v15 : BitVec 32) (v72 : BitVec 32) (c4_i32_31 : BitVec 32) (v94 : BitVec 32)  (k0_t7 : Fin (k0_t7_loop i k0_t1 v11 v14).trips) (u : Unit) (s : St F) :
    W e (k0_t7_body i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v4 v11 v14 k0_hw1 v15 v72 c4_i32_31 v94 k0_t7 u) s (fun _ _ => True) := by
  obtain ⟨o, vt, qt, sh, acc, p⟩ := s
  unfold k0_t7_body
  dsimp only
  apply W_seq e (part25_w e i ..)
  rintro ⟨v141, v168, v169⟩ ⟨o, vt, qt, sh, acc, p⟩ -
  try dsimp only
  apply W_seq e (part26_w e i ..)
  rintro _ ⟨o, vt, qt, sh, acc, p⟩ -
  try dsimp only
  apply W_seq e (part27_w e i ..)
  rintro _ ⟨o, vt, qt, sh, acc, p⟩ -
  try dsimp only
  apply W_seq e (part28_w e i ..)
  rintro ⟨v263, v265⟩ ⟨o, vt, qt, sh, acc, p⟩ -
  try dsimp only
  apply W_load13
  apply W_load12
  apply W_store12
  apply W_load9
  apply W_load12
  apply W_load13
  apply W_load12
  apply W_store12
  exact W_pure e trivial

theorem part42_w (e : Env nD τ sig F Λ₀) (i : grid0.Coords) (k0_t1 : Fin k0_t1_loop.trips) (v4 : BitVec 32) (v11 : BitVec 32) (v14 : BitVec 32) (k0_hw1 : k0_chk1 i k0_t1 v11 v14) (v15 : BitVec 32) (v72 : BitVec 32) (c4_i32_31 : BitVec 32) (s : St F) :
    W e (k0_part42 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v4 v11 v14 k0_hw1 v15 v72 c4_i32_31) s (fun _ _ => True) := by
  obtain ⟨o, vt, qt, sh, acc, p⟩ := s
  rw [k0_part42_eq_skeleton]
  unfold k0_part42_skel
  dsimp only
  apply W_seq e (W_for e _ _ _ _ (fun _ _ => True) trivial (fun _ _ _ _ => t6_body_w e i ..))
  rintro _ ⟨o, vt, qt, sh, acc, p⟩ -
  try dsimp only
  apply W_seq e (W_for e _ _ _ _ (fun _ _ => True) trivial (fun _ _ _ _ => t7_body_w e i ..))
  rintro _ ⟨o, vt, qt, sh, acc, p⟩ -
  try dsimp only
  apply W_join' e (fun _ => True) (fun _ => trivial)
  · rintro ⟨o, vt, qt, sh, acc, p⟩ -
    apply W_join e (fun _ => True) (fun _ => trivial)
    · rintro ⟨o, vt, qt, sh, acc, p⟩ -
      exact W_pure e trivial
    · intro k0_h11 hk
      apply W_seq e (part31_w e i ..)
      rintro ⟨v140, v172⟩ ⟨o, vt, qt, sh, acc, p⟩ -
      try dsimp only
      apply W_seq e (part32_w e i ..)
      rintro _ ⟨o, vt, qt, sh, acc, p⟩ -
      try dsimp only
      apply W_load13
      apply W_store13
      apply W_load9
      apply W_load12
      apply W_load13
      apply W_load12
      apply W_store12
      apply W_load9
      apply W_load12
      apply W_load13
      apply W_load12
      apply W_store12
      exact hk _ trivial
  · intro _ hk
    apply W_seq e (part30_w e i ..)
    rintro _ ⟨o, vt, qt, sh, acc, p⟩ -
    try dsimp only
    exact hk _ trivial

theorem t1_body_w (e : Env nD τ sig F Λ₀) (i : grid0.Coords) (hchk : ∀ k0_t1 : Fin k0_t1_loop.trips, k0_chk1 i k0_t1 (e.t3 ((Rect.unit (s := S1024) (k0_off1 i k0_t1) S1.size (k0_off1_inb i k0_t1)).idx (Shape.Idx.first (numel1_S1.symm ▸ Nat.one_pos))))
      (e.t3 ((Rect.unit (s := S1024) (k0_off2 i k0_t1) S1.size (k0_off2_inb i k0_t1)).idx (Shape.Idx.first (numel1_S1.symm ▸ Nat.one_pos))))) (arg0 : BitVec 32) (arg1 : BitVec 32) (arg2 : BitVec 32)  (k0_t1 : Fin k0_t1_loop.trips) (u : Unit) (s : St F) :
    W e (k0_t1_body i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 arg0 arg1 arg2 k0_t1 u) s (fun _ _ => True) := by
  obtain ⟨o, vt, qt, sh, acc, p⟩ := s
  unfold k0_t1_body
  dsimp only
  apply W_seq e (part40_w e i hchk ..)
  rintro ⟨v2, v4, v11, v14, k0_hw1, v15, v35, c16_i32_14⟩ ⟨o, vt, qt, sh, acc, p⟩ -
  try dsimp only
  apply W_seq e (part41_w e i ..)
  rintro ⟨v72, c4_i32_31⟩ ⟨o, vt, qt, sh, acc, p⟩ -
  try dsimp only
  apply W_seq e (part42_w e i ..)
  rintro ⟨v89, v108, c0_i32_51⟩ ⟨o, vt, qt, sh, acc, p⟩ -
  try dsimp only
  apply W_join e (fun _ => True) (fun _ => trivial)
  · rintro ⟨o, vt, qt, sh, acc, p⟩ -
    apply W_join e (fun _ => True) (fun _ => trivial)
    · rintro ⟨o, vt, qt, sh, acc, p⟩ -
      apply W_load12
      apply W_load12
      apply W_load8
      apply W_store8
      exact W_pure e trivial
    · intro k0_h13 hk
      apply W_seq e (part36_w e i ..)
      rintro ⟨v140, v170⟩ ⟨o, vt, qt, sh, acc, p⟩ -
      try dsimp only
      apply W_seq e (part37_w e i ..)
      rintro ⟨v202, v203⟩ ⟨o, vt, qt, sh, acc, p⟩ -
      try dsimp only
      apply W_seq e (part38_w e i ..)
      rintro _ ⟨o, vt, qt, sh, acc, p⟩ -
      try dsimp only
      apply W_seq e (part39_w e i ..)
      rintro _ ⟨o, vt, qt, sh, acc, p⟩ -
      try dsimp only
      apply W_store13
      apply W_load9
      apply W_load12
      apply W_load13
      apply W_load12
      apply W_store12
      apply W_load9
      apply W_load12
      apply W_load13
      apply W_load12
      apply W_store12
      exact hk _ trivial
  · intro k0_h12 hk
    apply W_seq e (part33_w e i ..)
    rintro ⟨v140, v170⟩ ⟨o, vt, qt, sh, acc, p⟩ -
    try dsimp only
    apply W_seq e (part34_w e i ..)
    rintro ⟨v202, v203⟩ ⟨o, vt, qt, sh, acc, p⟩ -
    try dsimp only
    apply W_seq e (part35_w e i ..)
    rintro _ ⟨o, vt, qt, sh, acc, p⟩ -
    try dsimp only
    apply W_load13
    apply W_store13
    apply W_load9
    apply W_load12
    apply W_load13
    apply W_load12
    apply W_store12
    apply W_load9
    apply W_load12
    apply W_load13
    apply W_load12
    apply W_store12
    exact hk _ trivial

theorem whole_w (e : Env nD τ sig F Λ₀) (i : grid0.Coords) (hchk : ∀ k0_t1 : Fin k0_t1_loop.trips, k0_chk1 i k0_t1 (e.t3 ((Rect.unit (s := S1024) (k0_off1 i k0_t1) S1.size (k0_off1_inb i k0_t1)).idx (Shape.Idx.first (numel1_S1.symm ▸ Nat.one_pos))))
      (e.t3 ((Rect.unit (s := S1024) (k0_off2 i k0_t1) S1.size (k0_off2_inb i k0_t1)).idx (Shape.Idx.first (numel1_S1.symm ▸ Nat.one_pos)))))  (s : St F) :
    W e (cc0_fox_flash_fixed i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 ) s (fun _ _ => True) := by
  obtain ⟨o, vt, qt, sh, acc, p⟩ := s
  rw [cc0_fox_flash_fixed_eq_skeleton]
  unfold cc0_fox_flash_fixed_skel
  dsimp only
  apply W_seq e (W_for e _ _ _ _ (fun _ _ => True) trivial (fun _ _ _ _ => t1_body_w e i hchk ..))
  rintro _ ⟨o, vt, qt, sh, acc, p⟩ -
  try dsimp only
  exact W_pure e trivial

end Cert.Flash.KernelIdeal
-- ==== Proof.Flash.LaunchKernelIdeal.lean ====
module

public import proofs.«01_k».proof.Proof.Gen.KernelIdeal.Launch
public import proofs.«01_k».proof.Proof.Gen.KernelIdeal.Skeleton
public import proofs.«01_k».proof.Proof.Flash.WalkKernelIdeal
public import Idealize.ShloMosaic.Lib.Pipeline.FrameBody
public import Idealize.ShloMosaic.Lib.Ring
public import Idealize.ShloMosaic.Lib.Tactic
public import Idealize.ShloMosaic.Lib.Claim

@[expose] public section

/-!
The launch of the flash call (KernelIdeal): the kernel's body at any grid point keeps its inputs, so every run of the program
ends with its arguments unchanged. The one thing asked is `Chk`: the table's words pass the kernel's check.
-/

set_option maxRecDepth 16384

noncomputable section

namespace Cert.Flash.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ### What the call finds -/

/-- A buffer's contents when the call is entered: what the launch left there. -/
abbrev V (c : Dev nD) (b : Ref sig .tc) : Buf (Elt F) ((c : Thread nD τ).loc b) := m ((c : Thread nD τ).loc b)

theorem hmain (𝒱₀ : Variants) :
    Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The table's words. -/
def tbl : pre0.Contents (Elt F) := fun j => V m 0 (pre0.ref j)

theorem V_pre (c : Dev nD) (k : Fin 1) : V m c (pre0.ref k) = tbl m k := by
  rw [Subsingleton.elim c 0]; rfl

/-- The table's words as the kernel reads them. -/
abbrev words : Vec F S1024 .i32 := tbl m 0

theorem ok : ok0 (tbl m) := by trivial

abbrev adm : (pcfg0 (F := F)).Adm := ⟨tbl m, ok m⟩
abbrev cfgM : Pipeline.Cfg sig Λ₀ := cfg0 (adm m)

/-- The check the kernel makes of the two words of each step. -/
def Chk : Prop := ∀ (i : grid0.Coords) (t : Fin k0_t1_loop.trips), k0_chk1 i t
  (words m ((Rect.unit (s := S1024) (k0_off1 i t) S1.size (k0_off1_inb i t)).idx (Shape.Idx.first (numel1_S1.symm ▸ Nat.one_pos))))
  (words m ((Rect.unit (s := S1024) (k0_off2 i t) S1.size (k0_off2_inb i t)).idx (Shape.Idx.first (numel1_S1.symm ▸ Nat.one_pos))))

theorem phiT_eq (c : Dev nD) : (Pipeline.ΦT pre0 (tbl m) c : sProp 𝕄)
    = iprop(owns (c : Thread nD τ) (Memref.whole main_arg0) fullShare.right (words m)) := by
  rw [owns_whole]
  unfold Pipeline.ΦT Pipeline.prefHeld
  rw [show (Finset.univ : Finset (Fin 1)) = {(0 : Fin 1)} from by decide, bigSep_singleton]
  rfl

/-- Window `w`'s block at the point `t`. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

theorem before_0 {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

theorem before_1 {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)

theorem before_2 {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)

theorem before_3 {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)

/-- A run that ends as the pipeline's rules say ends with the arguments unchanged. -/
theorem frame_of (rdat : (c : Dev nD) → Pipeline.RDat τ (Elt F) Unit ℕ (UR sig nD τ) ℕ ((Pipeline.pin pcfgs fun _ => adm m) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).2 main_arg0 (by decide : main_arg0 ∈ Pipeline.restRefs sig spec0),
      (Pipeline.RDat.FramePost.arr_in h c 0 rfl).trans (hA c 0),
      (Pipeline.RDat.FramePost.arr_in h c 1 rfl).trans (hA c 1),
      (Pipeline.RDat.FramePost.arr_in h c 2 rfl).trans (hA c 2),
      (Pipeline.RDat.FramePost.arr_in h c 3 rfl).trans (hA c 3)⟩) h

/-! ### The body's buffers at a grid point -/

abbrev ms_0 (t : Fin (cfgM m).N) : Memref sig .tc .smem S32 .f32 := spec0_0.stage ((cfgM m).slots t 0)
abbrev hs_0 (t : Fin (cfgM m).N) : (ms_0 m t).IsWhole := hstage0_0 (((cfgM m).slots t 0).cast nbuf0_0)
abbrev ms_1 (t : Fin (cfgM m).N) : Memref sig .tc .vmem S1x2048x256 .bf16 := spec0_1.stage ((cfgM m).slots t 1)
abbrev hs_1 (t : Fin (cfgM m).N) : (ms_1 m t).IsWhole := hstage0_1 (((cfgM m).slots t 1).cast nbuf0_1)
abbrev ms_2 (t : Fin (cfgM m).N) : Memref sig .tc .vmem S1x16384x256 .bf16 := spec0_2.stage ((cfgM m).slots t 2)
abbrev hs_2 (t : Fin (cfgM m).N) : (ms_2 m t).IsWhole := hstage0_2 (((cfgM m).slots t 2).cast nbuf0_2)
abbrev ms_3 (t : Fin (cfgM m).N) : Memref sig .tc .vmem S1x16384x256 .bf16 := spec0_3.stage ((cfgM m).slots t 3)
abbrev hs_3 (t : Fin (cfgM m).N) : (ms_3 m t).IsWhole := hstage0_3 (((cfgM m).slots t 3).cast nbuf0_3)
abbrev ms_4 (t : Fin (cfgM m).N) : Memref sig .tc .vmem S1x2048x128 .bf16 := spec0_4.stage ((cfgM m).slots t 4)
abbrev hs_4 (t : Fin (cfgM m).N) : (ms_4 m t).IsWhole := hstage0_4 (((cfgM m).slots t 4).cast nbuf0_4)

/-- The body at the point `t`, on the buffers the call hands it. -/
abbrev bodyAt (t : Fin (cfgM m).N) : Prog (TpuEff nD τ sig (Elt F) Λ₀ .tc) PUnit :=
  cc0_fox_flash_fixed (grid0.coords t) (Memref.whole main_arg0) (Memref.isWhole_whole _) (ms_0 m t) (hs_0 m t) (ms_1 m t) (hs_1 m t) (ms_2 m t) (hs_2 m t) (ms_3 m t) (hs_3 m t) (ms_4 m t) (hs_4 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

/-- The body's buffers at the point `t`, the read-only ones with what they hold. -/
abbrev env (c : Dev nD) (t : Fin (cfgM m).N) : Env nD τ sig F Λ₀ where
  c := c
  defs := defs₀ (F := F)
  arg3 := Memref.whole main_arg0
  harg3 := Memref.isWhole_whole _
  arg4 := ms_0 m t
  harg4 := hs_0 m t
  arg5 := ms_1 m t
  harg5 := hs_1 m t
  arg6 := ms_2 m t
  harg6 := hs_2 m t
  arg7 := ms_3 m t
  harg7 := hs_3 m t
  arg8 := ms_4 m t
  harg8 := hs_4 m t
  arg9 := Memref.whole cc0_scratch0
  harg9 := Memref.isWhole_whole _
  arg10 := Memref.whole cc0_scratch1
  harg10 := Memref.isWhole_whole _
  arg11 := Memref.whole cc0_scratch2
  harg11 := Memref.isWhole_whole _
  arg12 := Memref.whole cc0_scratch3
  harg12 := Memref.isWhole_whole _
  arg13 := Memref.whole cc0_scratch4
  harg13 := Memref.isWhole_whole _
  t4 := iblk m c 0 t
  t5 := iblk m c 1 t
  t6 := iblk m c 2 t
  t7 := iblk m c 3 t
  t3 := words m

/-- A run of the body from held buffers, handing back the buffers at some state. -/
theorem whole_use (e : Env nD τ sig F Λ₀) {α : Type} {p : Prog (TpuEff nD τ sig (Elt F) Λ₀ .tc) α} {s : St F} {Q : α → St F → Prop}
    (h : W e p s Q) (E : Set ℕ) {K : α → sProp 𝕄} :
    iprop(e.Own s ∗ (∀ a, ∀ s', ⌜Q a s'⌝ -∗ e.Own s' -∗ K a))
      ⊢ wp Idealize.ShloMosaic.frame (wpE e.defs Variants.none (e.c : Thread nD τ) none) E p K := by
  iintro ⟨Ho, Hk⟩
  ihave Hw := (W_run h E) $$ Ho
  iapply (wp_wand _ _ _) $$ Hw
  iintro %a ⟨%s', %hQ, Hs⟩
  iapply Hk $$ %a %s' %hQ Hs

theorem phiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- The body table's row at the point `t` is the body. -/
theorem defs₀_row (t : Fin (cfgM m).N) :
    defs₀ (F := F) .tc (cfgM m).body ((cfgM m).bodyArgs t ((cfgM m).slots t)) = bodyAt m t := by
  unfold defs₀; rw [Defs.onTc_tc]

/-! ### The run, nothing named of the output -/

def forgets : Fin 5 → Bool := fun w => w.val == 4

/-- What the pipeline's buffers hold point by point, the output's left unnamed. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfgM m) ⟨4, h⟩ t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = iblk m c 3 t := by dsimp only [dats]; try rfl

def bodyPre (c : Dev nD) (t : Fin (cfgM m).N) : sProp 𝕄 :=
  iprop((dats m 0 c).Φ t.castSucc ∗ (dats m 0 c).owesAt () t.castSucc
    ∗ (∃ d, owns (c : Thread nD τ) (ms_0 m t) fullShare ((dats m 0 c).before 0 t d))
    ∗ (∃ d, owns (c : Thread nD τ) (ms_1 m t) fullShare ((dats m 0 c).before 1 t d))
    ∗ (∃ d, owns (c : Thread nD τ) (ms_2 m t) fullShare ((dats m 0 c).before 2 t d))
    ∗ (∃ d, owns (c : Thread nD τ) (ms_3 m t) fullShare ((dats m 0 c).before 3 t d))
    ∗ (∃ d, owns (c : Thread nD τ) (ms_4 m t) fullShare d))

def bodyPost (c : Dev nD) (t : Fin (cfgM m).N) : sProp 𝕄 :=
  iprop((dats m 0 c).Φ t.succ ∗ (dats m 0 c).owesAt () t.succ
    ∗ owns (c : Thread nD τ) (ms_0 m t) fullShare ((dats m 0 c).after 0 t)
    ∗ owns (c : Thread nD τ) (ms_1 m t) fullShare ((dats m 0 c).after 1 t)
    ∗ owns (c : Thread nD τ) (ms_2 m t) fullShare ((dats m 0 c).after 2 t)
    ∗ owns (c : Thread nD τ) (ms_3 m t) fullShare ((dats m 0 c).after 3 t)
    ∗ (∃ d, owns (c : Thread nD τ) (ms_4 m t) fullShare d))

set_option maxHeartbeats 800000 in
/-- The body runs at any point, keeping its inputs. -/
theorem sound_body (hC : Chk m) (c : Dev nD) (t : Fin (cfgM m).N) :
    bodyPre m c t ⊢ wp frame (wpE (defs₀ (F := F)) Variants.none c none) Set.univ (bodyAt m t) (fun _ => bodyPost m c t) := by
  unfold bodyPre bodyPost
  simp only [before_0 m (dats m 0 c) (A_eq m c 0) (after_0 m c), before_1 m (dats m 0 c) (A_eq m c 1) (after_1 m c),
    before_2 m (dats m 0 c) (A_eq m c 2) (after_2 m c), before_3 m (dats m 0 c) (A_eq m c 3) (after_3 m c)]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = iprop(Pipeline.ΦA spec0 c ∗ Pipeline.ΦT pre0 (tbl m) c) from rfl, phiT_eq, phiA_eq]
  iintro ⟨⟨⟨⟨⟨%s0, HS0⟩, ⟨%s1, HS1⟩, ⟨%s2, HS2⟩, ⟨%s3, HS3⟩, ⟨%s4, HS4⟩⟩, Hg⟩, HT⟩, Ho, ⟨%d0, H0⟩, ⟨%d1, H1⟩, ⟨%d2, H2⟩, ⟨%d3, H3⟩, ⟨%d4, H4⟩⟩
  iapply (whole_use (env m c t) (whole_w (env m c t) (grid0.coords t) (hC _) ⟨d4, s0, s1, s2, s3, s4⟩) Set.univ)
  isplitl [HT H0 H1 H2 H3 H4 HS0 HS1 HS2 HS3 HS4]
  · unfold Env.Own
    isplitl [HT]; · iexact HT
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iexact HS4
  iintro %a %s' %hQ Hs
  unfold Env.Own
  icases Hs with ⟨HT, H0, H1, H2, H3, H4, HS0, HS1, HS2, HS3, HS4⟩
  isplitl [HS0 HS1 HS2 HS3 HS4 Hg HT]
  · isplitl [HS0 HS1 HS2 HS3 HS4 Hg]
    · isplitl [HS0 HS1 HS2 HS3 HS4]
      · isplitl [HS0]; · iexists _; iexact HS0
        isplitl [HS1]; · iexists _; iexact HS1
        isplitl [HS2]; · iexists _; iexact HS2
        isplitl [HS3]; · iexists _; iexact HS3
        iexists _; iexact HS4
      iexact Hg
    iexact HT
  isplitl [Ho]; · iexact Ho
  isplitl [H0]; · iexact H0
  isplitl [H1]; · iexact H1
  isplitl [H2]; · iexact H2
  isplitl [H3]; · iexact H3
  iexists _; iexact H4

theorem body_obligation (hC : Chk m) (c : Dev nD) :
    BodyObligation (dats (F := F) m 0 c) (defs₀ (F := F)) Variants.none () Set.univ forgets := fun t => by
  rw [bigSep_W0, bigSep_W0, defs₀_row m]
  exact triple_restated (sound_body m hC c t) rfl .rfl fun _ => .rfl

set_option backward.isDefEq.respectTransparency.types false in
theorem run_main (hC : Chk m) : θ_run defs (onTc (τ := τ) (main (F := F))) (s₀ m ρ)
    (fun r => (Pipeline.RDat.FramePost ((Pipeline.pin pcfgs fun _ => adm m) 0) (fun c => (dats m 0 c).toRForget forgets) (V m)) r
      ∧ r.2.sem = fun _ => 0) :=
  Pipeline.θ_run_frameP_forget (Q' := _) pcfgs (fun _ => adm m) (dats m) (0 : Fin 1) launch0 defs₀ Variants.none forgets m ρ main
    (hbody := fun c => (body_obligation m hC c).loose) (hshare := fun c => (dats m 0 c).share_full fun _ => rfl)
    (howed := fun _ _ => rfl) (V := V m) (hmain := hmain m Variants.none) (hA := A_eq m) (hpf := V_pre m) (hΦ := fun _ _ => rfl)

/-- Every run ends, with the arguments unchanged and every semaphore back at zero. -/
theorem frame (hC : Chk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (fun c => (dats m 0 c).toRForget forgets) (A_eq m)
      ((θ_run defs _ _).mono (fun _ h => h.1) (run_main m ρ hC)))
    ((θ_run defs _ _).mono (fun _ h => h.2) (run_main m ρ hC))

end Cert.Flash.KernelIdeal

end
-- ==== Proof.Flash.Payload.lean ====
/-
  What the attention kernel's body computes from the blocks it has loaded, read at one entry: the weights of a chunk of
  512 keys, with and without the causal mask; an accumulator after one more stretch of keys; the transposed blocks; the
  shift; the result.
-/
module

public import proofs.«01_k».proof.Proof.Gen.KernelIdeal.Skeleton
public import Idealize.ShloMosaic.Lib.Pointwise

@[expose] public section

noncomputable section

open Idealize.ShloMosaic

namespace Cert.Flash

open Cert.KernelIdeal Cert.KernelIdeal.Gen

/-- The named mask is minus infinity. -/
theorem mask_bot : (Named.named κ "mask" 0xF149F2CA#32 : Ideal .f32) = (⊥ : EReal) := rfl

/-- The comparison of two words below 512. -/
theorem sle_wd (a c : Fin 512) : IntOp.cmpi CmpIPredicate.sle (BitVec.ofNat 32 a.val) (BitVec.ofNat 32 c.val) = if a.val ≤ c.val then 1#1 else 0#1 := by
  have ha := a.isLt
  have hc := c.isLt
  have e : ∀ n : ℕ, n < 512 → (BitVec.ofNat 32 n).toInt = n := fun n hn => by
    rw [BitVec.toInt_eq_toNat_cond, BitVec.toNat_ofNat, Nat.mod_eq_of_lt (by omega), if_pos (by omega)]
  unfold IntOp.cmpi
  simp only [BitVec.sle_eq_decide, e _ ha, e _ hc, Nat.cast_le]
  by_cases h : a.val ≤ c.val <;> simp [h]

variable (x : Vec Ideal S1x512x128 .bf16) (y : Vec Ideal S128x512 .bf16) (z : Vec Ideal S1x1x512 .f32)

/-- The weights of a chunk of keys. -/
theorem pay_full (a c : Fin 512) :
    k0_pay37 x y z (ix3 0 a c) = Ideal.exp2 (∑ l : Fin 128, x (ix3 0 a l) * y (ix2 l c) - z (ix3 0 0 c)) := by
  unfold k0_pay37
  pointwise [dot_S512x128_S128x512_S512x512_1_0_0_1_n_n]
  rfl

/-- The weights of the chunk on the diagonal: a key after the query has none. -/
theorem pay_mask (a c : Fin 512) :
    k0_pay93 x y z (ix3 0 a c)
      = if a.val ≤ c.val then Ideal.exp2 (∑ l : Fin 128, x (ix3 0 a l) * y (ix2 l c) - z (ix3 0 0 c)) else 0 := by
  unfold k0_pay93
  pointwise [dot_S512x128_S128x512_S512x512_1_0_0_1_n_n]
  rw [sle_wd, mask_bot]
  by_cases h : a.val ≤ c.val
  · rw [if_pos h, if_pos h]
    rfl
  · rw [if_neg h, if_neg h]
    show Ideal.exp2 (⊥ - z (ix3 0 0 c)) = 0
    rw [EReal.bot_sub]
    rfl

/-- An accumulator after 512 more keys. -/
theorem pay_acc512 (x : Vec Ideal S128x512 .bf16) (y : Vec Ideal S1x128x512 .f32) (z : Vec Ideal S1x512x512 .bf16) (a : Fin 128) (c : Fin 512) :
    k0_pay54 x y z (ix3 0 a c) = y (ix3 0 a c) + ∑ r : Fin 512, x (ix2 a r) * z (ix3 0 r c) := by
  unfold k0_pay54
  pointwise [dot_S128x512_S512x512_S128x512_1_0_0_1_n_n]

/-- An accumulator after 1024 more keys. -/
theorem pay_acc1024 (x : Vec Ideal S128x1024 .bf16) (y : Vec Ideal S1x128x512 .f32) (z : Vec Ideal S1x1024x512 .bf16) (a : Fin 128) (c : Fin 512) :
    k0_pay126 x y z (ix3 0 a c) = y (ix3 0 a c) + ∑ r : Fin 1024, x (ix2 a r) * z (ix3 0 r c) := by
  unfold k0_pay126
  pointwise [dot_S128x1024_S1024x512_S128x512_1_0_0_1_n_n]

/-- An accumulator after 1536 more keys. -/
theorem pay_acc1536 (x : Vec Ideal S128x1536 .bf16) (y : Vec Ideal S1x128x512 .f32) (z : Vec Ideal S1x1536x512 .bf16) (a : Fin 128) (c : Fin 512) :
    k0_pay128 x y z (ix3 0 a c) = y (ix3 0 a c) + ∑ r : Fin 1536, x (ix2 a r) * z (ix3 0 r c) := by
  unfold k0_pay128
  pointwise [dot_S128x1536_S1536x512_S128x512_1_0_0_1_n_n]

/-- An accumulator after 2048 more keys. -/
theorem pay_acc2048 (x : Vec Ideal S128x2048 .bf16) (y : Vec Ideal S1x128x512 .f32) (z : Vec Ideal S1x2048x512 .bf16) (a : Fin 128) (c : Fin 512) :
    k0_pay51 x y z (ix3 0 a c) = y (ix3 0 a c) + ∑ r : Fin 2048, x (ix2 a r) * z (ix3 0 r c) := by
  unfold k0_pay51
  pointwise [dot_S128x2048_S2048x512_S128x512_1_0_0_1_n_n]

/-- The first head's shift: the query's norm over 64 lanes, times a slightly enlarged bound of the keys. -/
theorem pay_shift (x : Vec Ideal S64x512 .bf16) (z : Elt Ideal .f32) (c : Fin 512) :
    k0_pay124 (k0_pay123 x) z (ix3 0 0 c)
      = Ideal.sqrt (∑ l : Fin 64, x (ix2 l c) * x (ix2 l c)) * (Ideal.ofBits FTy.f32 0x3F828F5C#32 * z) := by
  unfold k0_pay124 k0_pay123
  pointwise

/-- The second head's shift. -/
theorem pay_shift' (x : Vec Ideal S64x512 .bf16) (z : Elt Ideal .f32) (c : Fin 512) :
    k0_pay125 x z (ix3 0 0 c)
      = Ideal.sqrt (∑ l : Fin 64, x (ix2 l c) * x (ix2 l c)) * (Ideal.ofBits FTy.f32 0x3F828F5C#32 * z) := by
  unfold k0_pay125
  pointwise

/-- The result: the two heads' first 64 accumulator rows, each over the head's row 64, side by side. -/
theorem pay_fin (x y : Vec Ideal S1x128x512 .f32) (c : Fin 512) (a : Fin 128) :
    k0_pay6 x y (ix3 0 c a)
      = if h : a.val < 64 then x (ix3 0 ⟨a.val, by omega⟩ c) * Ideal.div 1 (x (ix3 0 64 c))
        else y (ix3 0 ⟨a.val - 64, by omega⟩ c) * Ideal.div 1 (y (ix3 0 64 c)) := by
  unfold k0_pay6
  pointwise

/-- A transposed block. -/
theorem pay_tr (x : Vec Ideal S1x512x256 .bf16) (c : Fin 512) (a : Fin 256) : k0_pay121 x (ix2 a c) = x (ix3 0 c a) := by
  unfold k0_pay121
  pointwise

/-- The cleared accumulators. -/
theorem pay_zero (h : Fin 2) (c : Fin 512) (a : Fin 128) : k0_pay122 (F := Ideal) (ix3 h a c) = 0 := by
  unfold k0_pay122
  pointwise

end Cert.Flash
-- ==== Proof.Flash.Steps.lean ====
/-
  The attention kernel's working buffers, said plainly: the transposed values and queries, the weights of a stretch of
  keys, an accumulator over the keys taken in so far; and what one store into them makes of each.
-/
module

public import proofs.«01_k».proof.Proof.Flash.Logic
public import proofs.«01_k».proof.Proof.Flash.Payload

@[expose] public section

noncomputable section

namespace Cert.Flash

open Idealize.ShloMosaic Idealize.SL.Sem
open Cert.KernelIdeal Cert.KernelIdeal.Gen

/-! ### Entries of loaded and stored rectangles -/

theorem unit_idx2 {n0 n1 : ℕ} {off size : Fin 2 → ℕ} {inb} (j : (Rect.unit (s := ⟨2, ![n0, n1]⟩) off size inb).shape.Idx)
    (a : Fin n0) (b : Fin n1) (h0 : off 0 + (j 0).val = a.val) (h1 : off 1 + (j 1).val = b.val) :
    (Rect.unit (s := ⟨2, ![n0, n1]⟩) off size inb).toLoadRect.idx j = ix2 a b := by
  funext x
  apply Fin.ext
  match x with
  | ⟨0, _⟩ => show off 0 + 1 * (j 0).val = a.val; omega
  | ⟨1, _⟩ => show off 1 + 1 * (j 1).val = b.val; omega

theorem unit_idx3 {n0 n1 n2 : ℕ} {off size : Fin 3 → ℕ} {inb} (j : (Rect.unit (s := ⟨3, ![n0, n1, n2]⟩) off size inb).shape.Idx)
    (a : Fin n0) (b : Fin n1) (c : Fin n2) (h0 : off 0 + (j 0).val = a.val) (h1 : off 1 + (j 1).val = b.val) (h2 : off 2 + (j 2).val = c.val) :
    (Rect.unit (s := ⟨3, ![n0, n1, n2]⟩) off size inb).toLoadRect.idx j = ix3 a b c := by
  funext x
  apply Fin.ext
  match x with
  | ⟨0, _⟩ => show off 0 + 1 * (j 0).val = a.val; omega
  | ⟨1, _⟩ => show off 1 + 1 * (j 1).val = b.val; omega
  | ⟨2, _⟩ => show off 2 + 1 * (j 2).val = c.val; omega

/-- Inside the stored rectangle the contents are what was stored. -/
theorem put_in2 {n0 n1 : ℕ} {α : Type} {off size : Fin 2 → ℕ} {inb} (X : (⟨2, ![n0, n1]⟩ : Shape).Idx → α)
    (w : (Rect.unit (s := ⟨2, ![n0, n1]⟩) off size inb).shape.Idx → α) (j : (Rect.unit (s := ⟨2, ![n0, n1]⟩) off size inb).shape.Idx)
    (a : Fin n0) (b : Fin n1) (h0 : off 0 + (j 0).val = a.val) (h1 : off 1 + (j 1).val = b.val) :
    put X (Rect.unit (s := ⟨2, ![n0, n1]⟩) off size inb) w (ix2 a b) = w j := by
  rw [← unit_idx2 (inb := inb) j a b h0 h1]
  exact put_emb X (Rect.unit (s := ⟨2, ![n0, n1]⟩) off size inb) w j

/-- Inside the stored rectangle the contents are what was stored. -/
theorem put_in3 {n0 n1 n2 : ℕ} {α : Type} {off size : Fin 3 → ℕ} {inb} (X : (⟨3, ![n0, n1, n2]⟩ : Shape).Idx → α)
    (w : (Rect.unit (s := ⟨3, ![n0, n1, n2]⟩) off size inb).shape.Idx → α) (j : (Rect.unit (s := ⟨3, ![n0, n1, n2]⟩) off size inb).shape.Idx)
    (a : Fin n0) (b : Fin n1) (c : Fin n2) (h0 : off 0 + (j 0).val = a.val) (h1 : off 1 + (j 1).val = b.val) (h2 : off 2 + (j 2).val = c.val) :
    put X (Rect.unit (s := ⟨3, ![n0, n1, n2]⟩) off size inb) w (ix3 a b c) = w j := by
  rw [← unit_idx3 (inb := inb) j a b c h0 h1 h2]
  exact put_emb X (Rect.unit (s := ⟨3, ![n0, n1, n2]⟩) off size inb) w j

/-- Outside the stored rectangle, told by one axis, the contents stay. -/
theorem put_out {s : Shape} {α : Type} {off size : Fin s.rank → ℕ} {inb} (X : s.Idx → α)
    (w : (Rect.unit (s := s) off size inb).shape.Idx → α) (i : s.Idx) (x : Fin s.rank)
    (h : (i x).val < off x ∨ off x + size x ≤ (i x).val) : put X (Rect.unit (s := s) off size inb) w i = X i := by
  apply put_off
  intro j hj
  have e : off x + 1 * (j x).val = (i x).val := congrArg (fun i : s.Idx => (i x).val) hj
  have hl : (j x).val < size x := (j x).isLt
  omega

/-! ### What the buffers hold -/

/-- A key's position as a coordinate of the keys' block. -/
abbrev key (n : ℕ) : Fin 16384 := Fin.ofNat 16384 n
/-- Query `c` of the `t`-th 512 of the block. -/
abbrev qrow (t : ℕ) (c : Fin 512) : Fin 2048 := Fin.ofNat 2048 (512 * t + c.val)
/-- Lane `l` of a pair's head. -/
def lane (hh : Fin 2) (l : Fin 128) : Fin 256 := ⟨128 * hh.val + l.val, by omega⟩

variable {nD : ℕ} {τ : Topo} {sig : RefSig} {Λ : Labels}
variable (e : Env nD τ sig Ideal Λ) (t q : ℕ) (shf : Fin 2 → Fin 512 → EReal) (lo : Fin 2 → ℕ)

/-- The score of key `n` for query `c`. -/
def score (hh : Fin 2) (n : ℕ) (c : Fin 512) : EReal :=
  ∑ l : Fin 128, e.t6 (ix3 0 (key n) (lane hh l)) * e.t5 (ix3 0 (qrow t c) (lane hh l))

/-- The weight of key `n` for query `c` of the `q`-th 512 queries. -/
def wt (hh : Fin 2) (n : ℕ) (c : Fin 512) : EReal :=
  if n ≤ 512 * q + c.val then Ideal.exp2 (score e t hh n c - shf hh c) else 0

/-- The values weighted and summed over the keys from `512 * lo` up to `n`. -/
def tot (hh : Fin 2) (n : ℕ) (d : Fin 128) (c : Fin 512) : EReal :=
  ∑ k ∈ Finset.Ico (512 * lo hh) n, e.t7 (ix3 0 (key k) (lane hh d)) * wt e t q shf hh k c

/-- The values, transposed, up to key `n`. -/
def VT (n : ℕ) (vt : Vec Ideal S256x16384 .bf16) : Prop :=
  ∀ (r : Fin 256) (k : Fin 16384), k.val < n → vt (ix2 r k) = e.t7 (ix3 0 k r)

/-- The queries, transposed. -/
def QT (qt : Vec Ideal S256x512 .bf16) : Prop := ∀ (r : Fin 256) (c : Fin 512), qt (ix2 r c) = e.t5 (ix3 0 (qrow t c) r)

/-- The shifts. -/
def SH (sh : Vec Ideal S2x1x512 .f32) : Prop := ∀ (hh : Fin 2) (c : Fin 512), sh (ix3 hh 0 c) = shf hh c

/-- A head's accumulator over the keys up to `n`. -/
def AC (hh : Fin 2) (n : ℕ) (acc : Vec Ideal S2x128x512 .f32) : Prop :=
  ∀ (d : Fin 128) (c : Fin 512), acc (ix3 hh d c) = tot e t q shf lo hh n d c

/-- The weights of `n` keys from `b` on, in the first `n` rows. -/
def PC (hh : Fin 2) (b n : ℕ) (p : Vec Ideal S2x2048x512 .bf16) : Prop :=
  ∀ (r : Fin 2048) (c : Fin 512), r.val < n → p (ix3 hh r c) = wt e t q shf hh (b + r.val) c

theorem PC_zero (hh : Fin 2) (b : ℕ) (p : Vec Ideal S2x2048x512 .bf16) : PC e t q shf hh b 0 p := fun _ _ h => absurd h (Nat.not_lt_zero _)

variable {e t q shf lo}

/-- The state between two stretches of keys: the first head's accumulator over the keys up to `n0`, the second's over
    those up to `n1`. -/
def Mid (e : Env nD τ sig Ideal Λ) (t q : ℕ) (shf : Fin 2 → Fin 512 → EReal) (lo : Fin 2 → ℕ) (o : Vec Ideal S1x2048x128 .bf16)
    (n0 n1 : ℕ) (s : St Ideal) : Prop :=
  s.o = o ∧ VT e 16384 s.vt ∧ QT e t s.qt ∧ SH shf s.sh ∧ AC e t q shf lo 0 n0 s.acc ∧ AC e t q shf lo 1 n1 s.acc

theorem AC.to {hh : Fin 2} {n n' : ℕ} {acc : Vec Ideal S2x128x512 .f32} (h : AC e t q shf lo hh n acc) (hn : n = n') :
    AC e t q shf lo hh n' acc := hn ▸ h

/-! ### A chunk of weights -/

section
variable {qt : Vec Ideal S256x512 .bf16} {sh : Vec Ideal S2x1x512 .f32}

theorem read_q (hq : QT e t qt) (hh : Fin 2) {l0 : ℕ} {o : Fin 2 → ℕ} {inb} (ho : o = ![l0, 0]) (hl : l0 = 128 * hh.val) (l : Fin 128) (c : Fin 512) :
    qt ((Rect.unit (s := S256x512) o S128x512.size inb).toLoadRect.idx (ix2 l c)) = e.t5 (ix3 0 (qrow t c) (lane hh l)) := by
  subst ho hl
  rw [unit_idx2 (inb := inb) (ix2 l c) (lane hh l) c rfl (Nat.zero_add _)]
  exact hq _ _

theorem read_sh (hs : SH shf sh) (hh : Fin 2) {o : Fin 3 → ℕ} {inb} (ho : o = ![hh.val, 0, 0]) (c : Fin 512) :
    sh ((Rect.unit (s := S2x1x512) o S1x1x512.size inb).toLoadRect.idx (ix3 0 0 c)) = shf hh c := by
  subst ho
  rw [unit_idx3 (inb := inb) (ix3 0 0 c) hh 0 c rfl rfl (Nat.zero_add _)]
  exact hs _ _

theorem read_k (e : Env nD τ sig Ideal Λ) (hh : Fin 2) {k0 l0 : ℕ} {o : Fin 3 → ℕ} {inb} (ho : o = ![0, k0, l0]) (hl : l0 = 128 * hh.val)
    (hk : k0 + 512 ≤ 16384) (a : Fin 512) (l : Fin 128) :
    e.t6 ((Rect.unit (s := S1x16384x256) o S1x512x128.size inb).toLoadRect.idx (ix3 0 a l)) = e.t6 (ix3 0 (key (k0 + a.val)) (lane hh l)) := by
  subst ho hl
  rw [unit_idx3 (inb := inb) (ix3 0 a l) 0 (key (k0 + a.val)) (lane hh l) rfl (Nat.mod_eq_of_lt (show k0 + a.val < 16384 by omega)).symm rfl]

/-- A chunk of keys all before the queries. -/
theorem full_chunk (hq : QT e t qt) (hs : SH shf sh) (hh : Fin 2) {k0 l0 B : ℕ} {o6 o11 : Fin 3 → ℕ} {o10 : Fin 2 → ℕ} {i6 i10 i11}
    (h6 : o6 = ![0, k0, l0]) (h10 : o10 = ![l0, 0]) (h11 : o11 = ![hh.val, 0, 0]) (hl : l0 = 128 * hh.val) (hB : k0 = B)
    (hd : k0 + 512 ≤ 512 * q) (hk : k0 + 512 ≤ 16384) (a c : Fin 512) :
    k0_pay37 (fun j => e.t6 ((Rect.unit (s := S1x16384x256) o6 S1x512x128.size i6).toLoadRect.idx j))
        (fun j => qt ((Rect.unit (s := S256x512) o10 S128x512.size i10).toLoadRect.idx j))
        (fun j => sh ((Rect.unit (s := S2x1x512) o11 S1x1x512.size i11).toLoadRect.idx j)) (ix3 0 a c)
      = wt e t q shf hh (B + a.val) c := by
  subst hB
  rw [pay_full, read_sh hs hh h11]
  unfold wt score
  rw [if_pos (by omega)]
  refine congrArg (fun x => Ideal.exp2 (x - shf hh c)) (Finset.sum_congr rfl fun l _ => ?_)
  rw [read_q hq hh h10 hl, read_k e hh h6 hl hk]

/-- The chunk on the diagonal. -/
theorem mask_chunk (hq : QT e t qt) (hs : SH shf sh) (hh : Fin 2) {k0 l0 B : ℕ} {o6 o11 : Fin 3 → ℕ} {o10 : Fin 2 → ℕ} {i6 i10 i11}
    (h6 : o6 = ![0, k0, l0]) (h10 : o10 = ![l0, 0]) (h11 : o11 = ![hh.val, 0, 0]) (hl : l0 = 128 * hh.val) (hB : k0 = B)
    (hd : k0 = 512 * q) (hk : k0 + 512 ≤ 16384) (a c : Fin 512) :
    k0_pay93 (fun j => e.t6 ((Rect.unit (s := S1x16384x256) o6 S1x512x128.size i6).toLoadRect.idx j))
        (fun j => qt ((Rect.unit (s := S256x512) o10 S128x512.size i10).toLoadRect.idx j))
        (fun j => sh ((Rect.unit (s := S2x1x512) o11 S1x1x512.size i11).toLoadRect.idx j)) (ix3 0 a c)
      = wt e t q shf hh (B + a.val) c := by
  subst hB
  rw [pay_mask, read_sh hs hh h11]
  unfold wt score
  by_cases h : a.val ≤ c.val
  · rw [if_pos h, if_pos (by omega)]
    refine congrArg (fun x => Ideal.exp2 (x - shf hh c)) (Finset.sum_congr rfl fun l _ => ?_)
    rw [read_q hq hh h10 hl, read_k e hh h6 hl hk]
  · rw [if_neg h, if_neg (by omega)]

end

/-! ### Stores -/

section
variable {α : Type} {p' : Prog (TpuEff nD τ sig (Elt Ideal) Λ .tc) α} {Q : α → St Ideal → Prop} {o : Vec Ideal S1x2048x128 .bf16}
  {vt : Vec Ideal S256x16384 .bf16} {qt : Vec Ideal S256x512 .bf16} {sh : Vec Ideal S2x1x512 .f32} {acc : Vec Ideal S2x128x512 .f32}
  {p : Vec Ideal S2x2048x512 .bf16}

/-- A chunk of weights stored: one head has 512 more, the other's stay. -/
theorem W_chunk (hh h' : Fin 2) (hne : hh ≠ h') {b n b' n' : ℕ} (hp : PC e t q shf hh b n p) (hp' : PC e t q shf h' b' n' p)
    {off : Fin 3 → ℕ} {inb} (ho : off = ![hh.val, n, 0]) {w : S1x512x512.Idx → EReal} (hw : ∀ a c : Fin 512, w (ix3 0 a c) = wt e t q shf hh (b + n + a.val) c)
    (k : ∀ p₁, PC e t q shf hh b (n + 512) p₁ → PC e t q shf h' b' n' p₁ → W e p' ⟨o, vt, qt, sh, acc, p₁⟩ Q) :
    W e p' ⟨o, vt, qt, sh, acc, put p (Rect.unit (s := S2x2048x512) off S1x512x512.size inb) w⟩ Q := by
  subst ho
  have hv : hh.val ≠ h'.val := fun h => hne (Fin.ext h)
  have hn : n + 512 ≤ 2048 := inb 1
  refine k _ (fun r c hr => ?_) (fun r c hr => ?_)
  · by_cases h : r.val < n
    · rw [put_out (s := S2x2048x512) (inb := inb) p w (ix3 hh r c) 1 (.inl h)]
      exact hp r c h
    · rw [put_in3 (inb := inb) p w (ix3 0 ⟨r.val - n, by omega⟩ c) hh r c rfl (show n + (r.val - n) = r.val by omega) (Nat.zero_add _), hw]
      exact congrArg (fun m => wt e t q shf hh m c) (show b + n + (r.val - n) = b + r.val by omega)
  · rw [put_out (s := S2x2048x512) (inb := inb) p w (ix3 h' r c) 0
      (show h'.val < hh.val ∨ hh.val + 1 ≤ h'.val by omega)]
    exact hp' r c hr

/-- The values' transposes stored. -/
theorem W_vt {n : ℕ} (hv : VT e n vt) {o7 : Fin 3 → ℕ} {off : Fin 2 → ℕ} {i7 inb} (h7 : o7 = ![0, n, 0]) (ho : off = ![0, n])
    {w : S256x512.Idx → EReal} (hw : w = k0_pay121 fun j => e.t7 ((Rect.unit (s := S1x16384x256) o7 S1x512x256.size i7).toLoadRect.idx j))
    (k : ∀ vt₁, VT e (n + 512) vt₁ → W e p' ⟨o, vt₁, qt, sh, acc, p⟩ Q) :
    W e p' ⟨o, put vt (Rect.unit (s := S256x16384) off S256x512.size inb) w, qt, sh, acc, p⟩ Q := by
  subst h7 ho hw
  have hn : n + 512 ≤ 16384 := inb 1
  refine k _ fun r x hx => ?_
  by_cases h : x.val < n
  · rw [put_out (s := S256x16384) (inb := inb) vt _ (ix2 r x) 1 (.inl h)]
    exact hv r x h
  · rw [put_in2 (inb := inb) vt _ (ix2 r (⟨x.val - n, by omega⟩ : Fin 512)) r x (Nat.zero_add _) (show n + (x.val - n) = x.val by omega), pay_tr,
      unit_idx3 (inb := i7) (ix3 0 (⟨x.val - n, by omega⟩ : Fin 512) r) 0 x r rfl (show n + (x.val - n) = x.val by omega) (Nat.zero_add _)]

/-- The queries' transposes stored. -/
theorem W_qt (t : ℕ) {o5 : Fin 3 → ℕ} {off : Fin 2 → ℕ} {i5 inb} (h5 : o5 = ![0, 512 * t, 0]) (ho : off = ![0, 0])
    (k : ∀ qt₁, QT e t qt₁ → W e p' ⟨o, vt, qt₁, sh, acc, p⟩ Q) :
    W e p' ⟨o, vt, put qt (Rect.unit (s := S256x512) off S256x512.size inb)
      (k0_pay121 fun j => e.t5 ((Rect.unit (s := S1x2048x256) o5 S1x512x256.size i5).toLoadRect.idx j)), sh, acc, p⟩ Q := by
  subst h5 ho
  have hn : 512 * t + 512 ≤ 2048 := i5 1
  refine k _ fun r c => ?_
  rw [put_in2 (inb := inb) qt _ (ix2 r c) r c (Nat.zero_add _) (Nat.zero_add _), pay_tr,
    unit_idx3 (inb := i5) (ix3 0 c r) 0 (qrow t c) r rfl (Nat.mod_eq_of_lt (show 512 * t + c.val < 2048 by omega)).symm (Nat.zero_add _)]

/-- The accumulators cleared. -/
theorem W_clear {off : Fin 3 → ℕ} {inb} (ho : off = ![0, 0, 0])
    (k : ∀ acc₁ : Vec Ideal S2x128x512 .f32, (∀ hh d c, acc₁ (ix3 hh d c) = 0) → W e p' ⟨o, vt, qt, sh, acc₁, p⟩ Q) :
    W e p' ⟨o, vt, qt, sh, put acc (Rect.unit (s := S2x128x512) off S2x128x512.size inb) (k0_pay122 (F := Ideal)), p⟩ Q := by
  subst ho
  refine k _ fun hh d c => ?_
  rw [put_in3 (inb := inb) acc _ (ix3 hh d c) hh d c (Nat.zero_add _) (Nat.zero_add _) (Nat.zero_add _)]
  exact pay_zero _ _ _

theorem AC_zero {acc : Vec Ideal S2x128x512 .f32} (h : ∀ hh d c, acc (ix3 hh d c) = 0) (hh : Fin 2) : AC e t q shf lo hh (512 * lo hh) acc := by
  intro d c
  unfold tot
  rw [Finset.Ico_self, Finset.sum_empty]
  exact h hh d c

theorem tot_add (hh : Fin 2) {m : ℕ} (n : ℕ) (hm : 512 * lo hh ≤ m) (d : Fin 128) (c : Fin 512) :
    tot e t q shf lo hh (m + n) d c
      = tot e t q shf lo hh m d c + ∑ r : Fin n, e.t7 (ix3 0 (key (m + r.val)) (lane hh d)) * wt e t q shf hh (m + r.val) c := by
  unfold tot
  rw [← Finset.sum_Ico_consecutive _ hm (Nat.le_add_right m n), Finset.sum_Ico_eq_sum_range _ m (m + n), Nat.add_sub_cancel_left,
    ← Fin.sum_univ_eq_sum_range]

/-- 512 more keys taken into a head's accumulator; the other's stays. -/
theorem W_acc512 (hv : VT e 16384 vt) (hh h' : Fin 2) (hne : hh ≠ h') {m m' l0 : ℕ} (ha : AC e t q shf lo hh m acc) (ha' : AC e t q shf lo h' m' acc)
    (hp : PC e t q shf hh m 512 p) (hm : 512 * lo hh ≤ m) (hk : m + 512 ≤ 16384)
    {o9 : Fin 2 → ℕ} {o12 o13 off : Fin 3 → ℕ} {i9 i12 i13 inb}
    (h9 : o9 = ![l0, m]) (hl : l0 = 128 * hh.val) (h12 : o12 = ![hh.val, 0, 0]) (h13 : o13 = ![hh.val, 0, 0]) (ho : off = ![hh.val, 0, 0])
    {w : S1x128x512.Idx → EReal}
    (hw : w = k0_pay54 (fun j => vt ((Rect.unit (s := S256x16384) o9 S128x512.size i9).toLoadRect.idx j))
        (fun j => acc ((Rect.unit (s := S2x128x512) o12 S1x128x512.size i12).toLoadRect.idx j))
        (fun j => p ((Rect.unit (s := S2x2048x512) o13 S1x512x512.size i13).toLoadRect.idx j)))
    (k : ∀ acc₁, AC e t q shf lo hh (m + 512) acc₁ → AC e t q shf lo h' m' acc₁ → W e p' ⟨o, vt, qt, sh, acc₁, p⟩ Q) :
    W e p' ⟨o, vt, qt, sh, put acc (Rect.unit (s := S2x128x512) off S1x128x512.size inb) w, p⟩ Q := by
  subst h9 hl h12 h13 ho hw
  have hvv : hh.val ≠ h'.val := fun h => hne (Fin.ext h)
  refine k _ (fun d c => ?_) (fun d c => ?_)
  · rw [put_in3 (inb := inb) acc _ (ix3 0 d c) hh d c rfl (Nat.zero_add _) (Nat.zero_add _), pay_acc512,
      unit_idx3 (inb := i12) (ix3 0 d c) hh d c rfl (Nat.zero_add _) (Nat.zero_add _), ha d c, tot_add hh 512 hm]
    refine congrArg (tot e t q shf lo hh m d c + ·) (Finset.sum_congr rfl fun r _ => ?_)
    have hr := r.isLt
    have hb : m + r.val < 16384 := by omega
    rw [unit_idx2 (inb := i9) (ix2 d r) (lane hh d) (key (m + r.val)) rfl (Nat.mod_eq_of_lt hb).symm,
      unit_idx3 (inb := i13) (ix3 0 r c) hh (⟨r.val, by omega⟩ : Fin 2048) c rfl (Nat.zero_add _) (Nat.zero_add _),
      hv _ _ (key (m + r.val)).isLt, hp _ c hr]
  · rw [put_out (s := S2x128x512) (inb := inb) acc _ (ix3 h' d c) 0 (show h'.val < hh.val ∨ hh.val + 1 ≤ h'.val by omega)]
    exact ha' d c

/-- 1024 more keys taken into a head's accumulator; the other's stays. -/
theorem W_acc1024 (hv : VT e 16384 vt) (hh h' : Fin 2) (hne : hh ≠ h') {m m' l0 : ℕ} (ha : AC e t q shf lo hh m acc) (ha' : AC e t q shf lo h' m' acc)
    (hp : PC e t q shf hh m 1024 p) (hm : 512 * lo hh ≤ m) (hk : m + 1024 ≤ 16384)
    {o9 : Fin 2 → ℕ} {o12 o13 off : Fin 3 → ℕ} {i9 i12 i13 inb}
    (h9 : o9 = ![l0, m]) (hl : l0 = 128 * hh.val) (h12 : o12 = ![hh.val, 0, 0]) (h13 : o13 = ![hh.val, 0, 0]) (ho : off = ![hh.val, 0, 0])
    {w : S1x128x512.Idx → EReal}
    (hw : w = k0_pay126 (fun j => vt ((Rect.unit (s := S256x16384) o9 S128x1024.size i9).toLoadRect.idx j))
        (fun j => acc ((Rect.unit (s := S2x128x512) o12 S1x128x512.size i12).toLoadRect.idx j))
        (fun j => p ((Rect.unit (s := S2x2048x512) o13 S1x1024x512.size i13).toLoadRect.idx j)))
    (k : ∀ acc₁, AC e t q shf lo hh (m + 1024) acc₁ → AC e t q shf lo h' m' acc₁ → W e p' ⟨o, vt, qt, sh, acc₁, p⟩ Q) :
    W e p' ⟨o, vt, qt, sh, put acc (Rect.unit (s := S2x128x512) off S1x128x512.size inb) w, p⟩ Q := by
  subst h9 hl h12 h13 ho hw
  have hvv : hh.val ≠ h'.val := fun h => hne (Fin.ext h)
  refine k _ (fun d c => ?_) (fun d c => ?_)
  · rw [put_in3 (inb := inb) acc _ (ix3 0 d c) hh d c rfl (Nat.zero_add _) (Nat.zero_add _), pay_acc1024,
      unit_idx3 (inb := i12) (ix3 0 d c) hh d c rfl (Nat.zero_add _) (Nat.zero_add _), ha d c, tot_add hh 1024 hm]
    refine congrArg (tot e t q shf lo hh m d c + ·) (Finset.sum_congr rfl fun r _ => ?_)
    have hr := r.isLt
    have hb : m + r.val < 16384 := by omega
    rw [unit_idx2 (inb := i9) (ix2 d r) (lane hh d) (key (m + r.val)) rfl (Nat.mod_eq_of_lt hb).symm,
      unit_idx3 (inb := i13) (ix3 0 r c) hh (⟨r.val, by omega⟩ : Fin 2048) c rfl (Nat.zero_add _) (Nat.zero_add _),
      hv _ _ (key (m + r.val)).isLt, hp _ c hr]
  · rw [put_out (s := S2x128x512) (inb := inb) acc _ (ix3 h' d c) 0 (show h'.val < hh.val ∨ hh.val + 1 ≤ h'.val by omega)]
    exact ha' d c

/-- 1536 more keys taken into a head's accumulator; the other's stays. -/
theorem W_acc1536 (hv : VT e 16384 vt) (hh h' : Fin 2) (hne : hh ≠ h') {m m' l0 : ℕ} (ha : AC e t q shf lo hh m acc) (ha' : AC e t q shf lo h' m' acc)
    (hp : PC e t q shf hh m 1536 p) (hm : 512 * lo hh ≤ m) (hk : m + 1536 ≤ 16384)
    {o9 : Fin 2 → ℕ} {o12 o13 off : Fin 3 → ℕ} {i9 i12 i13 inb}
    (h9 : o9 = ![l0, m]) (hl : l0 = 128 * hh.val) (h12 : o12 = ![hh.val, 0, 0]) (h13 : o13 = ![hh.val, 0, 0]) (ho : off = ![hh.val, 0, 0])
    {w : S1x128x512.Idx → EReal}
    (hw : w = k0_pay128 (fun j => vt ((Rect.unit (s := S256x16384) o9 S128x1536.size i9).toLoadRect.idx j))
        (fun j => acc ((Rect.unit (s := S2x128x512) o12 S1x128x512.size i12).toLoadRect.idx j))
        (fun j => p ((Rect.unit (s := S2x2048x512) o13 S1x1536x512.size i13).toLoadRect.idx j)))
    (k : ∀ acc₁, AC e t q shf lo hh (m + 1536) acc₁ → AC e t q shf lo h' m' acc₁ → W e p' ⟨o, vt, qt, sh, acc₁, p⟩ Q) :
    W e p' ⟨o, vt, qt, sh, put acc (Rect.unit (s := S2x128x512) off S1x128x512.size inb) w, p⟩ Q := by
  subst h9 hl h12 h13 ho hw
  have hvv : hh.val ≠ h'.val := fun h => hne (Fin.ext h)
  refine k _ (fun d c => ?_) (fun d c => ?_)
  · rw [put_in3 (inb := inb) acc _ (ix3 0 d c) hh d c rfl (Nat.zero_add _) (Nat.zero_add _), pay_acc1536,
      unit_idx3 (inb := i12) (ix3 0 d c) hh d c rfl (Nat.zero_add _) (Nat.zero_add _), ha d c, tot_add hh 1536 hm]
    refine congrArg (tot e t q shf lo hh m d c + ·) (Finset.sum_congr rfl fun r _ => ?_)
    have hr := r.isLt
    have hb : m + r.val < 16384 := by omega
    rw [unit_idx2 (inb := i9) (ix2 d r) (lane hh d) (key (m + r.val)) rfl (Nat.mod_eq_of_lt hb).symm,
      unit_idx3 (inb := i13) (ix3 0 r c) hh (⟨r.val, by omega⟩ : Fin 2048) c rfl (Nat.zero_add _) (Nat.zero_add _),
      hv _ _ (key (m + r.val)).isLt, hp _ c hr]
  · rw [put_out (s := S2x128x512) (inb := inb) acc _ (ix3 h' d c) 0 (show h'.val < hh.val ∨ hh.val + 1 ≤ h'.val by omega)]
    exact ha' d c

/-- 2048 more keys taken into a head's accumulator; the other's stays. -/
theorem W_acc2048 (hv : VT e 16384 vt) (hh h' : Fin 2) (hne : hh ≠ h') {m m' l0 : ℕ} (ha : AC e t q shf lo hh m acc) (ha' : AC e t q shf lo h' m' acc)
    (hp : PC e t q shf hh m 2048 p) (hm : 512 * lo hh ≤ m) (hk : m + 2048 ≤ 16384)
    {o9 : Fin 2 → ℕ} {o12 o13 off : Fin 3 → ℕ} {i9 i12 i13 inb}
    (h9 : o9 = ![l0, m]) (hl : l0 = 128 * hh.val) (h12 : o12 = ![hh.val, 0, 0]) (h13 : o13 = ![hh.val, 0, 0]) (ho : off = ![hh.val, 0, 0])
    {w : S1x128x512.Idx → EReal}
    (hw : w = k0_pay51 (fun j => vt ((Rect.unit (s := S256x16384) o9 S128x2048.size i9).toLoadRect.idx j))
        (fun j => acc ((Rect.unit (s := S2x128x512) o12 S1x128x512.size i12).toLoadRect.idx j))
        (fun j => p ((Rect.unit (s := S2x2048x512) o13 S1x2048x512.size i13).toLoadRect.idx j)))
    (k : ∀ acc₁, AC e t q shf lo hh (m + 2048) acc₁ → AC e t q shf lo h' m' acc₁ → W e p' ⟨o, vt, qt, sh, acc₁, p⟩ Q) :
    W e p' ⟨o, vt, qt, sh, put acc (Rect.unit (s := S2x128x512) off S1x128x512.size inb) w, p⟩ Q := by
  subst h9 hl h12 h13 ho hw
  have hvv : hh.val ≠ h'.val := fun h => hne (Fin.ext h)
  refine k _ (fun d c => ?_) (fun d c => ?_)
  · rw [put_in3 (inb := inb) acc _ (ix3 0 d c) hh d c rfl (Nat.zero_add _) (Nat.zero_add _), pay_acc2048,
      unit_idx3 (inb := i12) (ix3 0 d c) hh d c rfl (Nat.zero_add _) (Nat.zero_add _), ha d c, tot_add hh 2048 hm]
    refine congrArg (tot e t q shf lo hh m d c + ·) (Finset.sum_congr rfl fun r _ => ?_)
    have hr := r.isLt
    have hb : m + r.val < 16384 := by omega
    rw [unit_idx2 (inb := i9) (ix2 d r) (lane hh d) (key (m + r.val)) rfl (Nat.mod_eq_of_lt hb).symm,
      unit_idx3 (inb := i13) (ix3 0 r c) hh (⟨r.val, by omega⟩ : Fin 2048) c rfl (Nat.zero_add _) (Nat.zero_add _),
      hv _ _ (key (m + r.val)).isLt, hp _ c hr]
  · rw [put_out (s := S2x128x512) (inb := inb) acc _ (ix3 h' d c) 0 (show h'.val < hh.val ∨ hh.val + 1 ≤ h'.val by omega)]
    exact ha' d c

/-- The two shifts stored. -/
theorem W_shift (hh : Fin 2) {off : Fin 3 → ℕ} {inb} (ho : off = ![hh.val, 0, 0]) {w : S1x1x512.Idx → EReal}
    (k : ∀ sh₁ : Vec Ideal S2x1x512 .f32, (∀ c : Fin 512, sh₁ (ix3 hh 0 c) = w (ix3 0 0 c)) → (∀ h', hh ≠ h' → ∀ c : Fin 512, sh₁ (ix3 h' 0 c) = sh (ix3 h' 0 c)) →
      W e p' ⟨o, vt, qt, sh₁, acc, p⟩ Q) :
    W e p' ⟨o, vt, qt, put sh (Rect.unit (s := S2x1x512) off S1x1x512.size inb) w, acc, p⟩ Q := by
  subst ho
  refine k _ (fun c => ?_) (fun h' hne c => ?_)
  · exact put_in3 (inb := inb) sh w (ix3 0 0 c) hh 0 c rfl rfl (Nat.zero_add _)
  · have hv : hh.val ≠ h'.val := fun h => hne (Fin.ext h)
    exact put_out (s := S2x1x512) (inb := inb) sh w (ix3 h' 0 c) 0 (show h'.val < hh.val ∨ hh.val + 1 ≤ h'.val by omega)

end

/-- The result for the `t`-th 512 queries of the block, from the two heads' totals. -/
def outv (e : Env nD τ sig Ideal Λ) (t q : ℕ) (shf : Fin 2 → Fin 512 → EReal) (lo : Fin 2 → ℕ) (c : Fin 512) (l : Fin 128) : EReal :=
  if h : l.val < 64 then tot e t q shf lo 0 (512 * (q + 1)) ⟨l.val, by omega⟩ c * Ideal.div 1 (tot e t q shf lo 0 (512 * (q + 1)) 64 c)
  else tot e t q shf lo 1 (512 * (q + 1)) ⟨l.val - 64, by omega⟩ c * Ideal.div 1 (tot e t q shf lo 1 (512 * (q + 1)) 64 c)

/-- The result block has the `t`-th 512 queries' results, for some real shifts. -/
def Row (e : Env nD τ sig Ideal Λ) (t q : ℕ) (lo : Fin 2 → ℕ) (o : Vec Ideal S1x2048x128 .bf16) : Prop :=
  ∃ shf : Fin 2 → Fin 512 → EReal, (∀ hh c, ∃ x : ℝ, shf hh c = x) ∧ ∀ (c : Fin 512) (l : Fin 128), o (ix3 0 (qrow t c) l) = outv e t q shf lo c l

section
variable {α : Type} {p' : Prog (TpuEff nD τ sig (Elt Ideal) Λ .tc) α} {Q : α → St Ideal → Prop} {o : Vec Ideal S1x2048x128 .bf16}
  {vt : Vec Ideal S256x16384 .bf16} {qt : Vec Ideal S256x512 .bf16} {sh : Vec Ideal S2x1x512 .f32} {acc : Vec Ideal S2x128x512 .f32}
  {p : Vec Ideal S2x2048x512 .bf16}

/-- The results stored: these queries' are there, the others' stay. -/
theorem W_out (hs : ∀ hh c, ∃ x : ℝ, shf hh c = x) (ht : t < 4) (ha : AC e t q shf lo 0 (512 * (q + 1)) acc) (ha' : AC e t q shf lo 1 (512 * (q + 1)) acc)
    {o12 o12' off : Fin 3 → ℕ} {i12 i12' inb} (h12 : o12 = ![0, 0, 0]) (h12' : o12' = ![1, 0, 0]) (ho : off = ![0, 512 * t, 0])
    (k : ∀ o₁ : Vec Ideal S1x2048x128 .bf16, Row e t q lo o₁ → (∀ t' < t, ∀ q' lo', Row e t' q' lo' o → Row e t' q' lo' o₁) →
      W e p' ⟨o₁, vt, qt, sh, acc, p⟩ Q) :
    W e p' ⟨put o (Rect.unit (s := S1x2048x128) off S1x512x128.size inb)
      (k0_pay6 (fun j => acc ((Rect.unit (s := S2x128x512) o12 S1x128x512.size i12).toLoadRect.idx j))
        (fun j => acc ((Rect.unit (s := S2x128x512) o12' S1x128x512.size i12').toLoadRect.idx j))), vt, qt, sh, acc, p⟩ Q := by
  subst h12 h12' ho
  refine k _ ⟨shf, hs, fun c l => ?_⟩ (fun t' ht' q' lo' h => ?_)
  · have r0 : ∀ d : Fin 128, acc ((Rect.unit (s := S2x128x512) ![0, 0, 0] S1x128x512.size i12).toLoadRect.idx (ix3 0 d c)) = tot e t q shf lo 0 (512 * (q + 1)) d c :=
      fun d => by rw [unit_idx3 (inb := i12) (ix3 0 d c) 0 d c rfl (Nat.zero_add _) (Nat.zero_add _)]; exact ha d c
    have r1 : ∀ d : Fin 128, acc ((Rect.unit (s := S2x128x512) ![1, 0, 0] S1x128x512.size i12').toLoadRect.idx (ix3 0 d c)) = tot e t q shf lo 1 (512 * (q + 1)) d c :=
      fun d => by rw [unit_idx3 (inb := i12') (ix3 0 d c) 1 d c rfl (Nat.zero_add _) (Nat.zero_add _)]; exact ha' d c
    rw [put_in3 (inb := inb) o _ (ix3 0 c l) 0 (qrow t c) l rfl (Nat.mod_eq_of_lt (show 512 * t + c.val < 2048 by omega)).symm (Nat.zero_add _), pay_fin]
    unfold outv
    simp only [r0, r1]
  · obtain ⟨shf', hs', h⟩ := h
    refine ⟨shf', hs', fun c l => ?_⟩
    have e1 : (qrow t' c).val = 512 * t' + c.val := Nat.mod_eq_of_lt (by omega)
    rw [put_out (s := S1x2048x128) (inb := inb) o _ (ix3 0 (qrow t' c) l) 1 (.inl (show (qrow t' c).val < 512 * t by omega))]
    exact h c l

end

end Cert.Flash
-- ==== Proof.Flash.Words.lean ====
module
public import proofs.«01_k».proof.KernelIdeal

@[expose] public section

/-!
The flash kernel's words in closed form. A head's first block of keys `a` or `b` lies in `[0, 32)`, the query block is
`q = 4 * i₂ + t`, and `m = max a b` is where the heads' common sweep begins. From these the trip counts, the branches taken
and the offsets of every access follow, and with them the check the kernel makes of the words it reads from its table.
-/

namespace Cert.Flash

open Idealize.ShloMosaic
open Cert.KernelIdeal

/-- The word of a small number. -/
abbrev wd (n : ℕ) : BitVec 32 := BitVec.ofNat 32 n

theorem maxsi_wd {a b : ℕ} (ha : a < 32) (hb : b < 32) : Scalar.maxsi (wd a) (wd b) = wd (max a b) := by
  have h : ∀ a, a < 32 → ∀ b, b < 32 → Scalar.maxsi (wd a) (wd b) = wd (max a b) := by decide +kernel
  exact h a ha b hb

theorem qi_wd {x t : ℕ} (hx : x < 8) (ht : t < 4) :
    Scalar.addi (Scalar.muli 4#32 (BitVec.ofNat 32 x)) (Scf.iv 0#32 1#32 t) = wd (4 * x + t) := by
  have h : ∀ x, x < 8 → ∀ t, t < 4 → Scalar.addi (Scalar.muli 4#32 (BitVec.ofNat 32 x)) (Scf.iv 0#32 1#32 t) = wd (4 * x + t) := by
    decide +kernel
  exact h x hx t ht

theorem subi_wd {a k : ℕ} (ha : a < 32) (hk : k ≤ a) : Scalar.subi (wd a) (wd k) = wd (a - k) := by
  have h : ∀ a, a < 32 → ∀ k, k ≤ a → Scalar.subi (wd a) (wd k) = wd (a - k) := by decide +kernel
  exact h a ha k hk

/-- The word of a sweep's block: where it begins and how many fours it has gone. -/
theorem step_wd {a t : ℕ} (ha : a < 32) (ht : t < 8) :
    Scalar.addi (wd a) (Scalar.muli 4#32 (Scf.iv 0#32 1#32 t)) = wd (a + 4 * t) := by
  have h : ∀ a, a < 32 → ∀ t, t < 8 → Scalar.addi (wd a) (Scalar.muli 4#32 (Scf.iv 0#32 1#32 t)) = wd (a + 4 * t) := by
    decide +kernel
  exact h a ha t ht

/-- A block's first key. -/
theorem key_wd {n : ℕ} (hn : n < 64) : Scalar.muli (wd n) 512#32 = wd (512 * n) := by
  have h : ∀ n, n < 64 → Scalar.muli (wd n) 512#32 = wd (512 * n) := by decide +kernel
  exact h n hn

theorem key_toNat {n : ℕ} (hn : n < 64) : (Scalar.indexCast (wd (512 * n))).toNat = 512 * n := by
  have h : ∀ n, n < 64 → (Scalar.indexCast (wd (512 * n))).toNat = 512 * n := by decide +kernel
  exact h n hn

theorem chunk_toNat {n r : ℕ} (hn : n < 64) (hr : r < 4) :
    (Scalar.indexCast (Scalar.addi (wd (512 * n)) (BitVec.ofNat 32 (512 * r)))).toNat = 512 * (n + r) := by
  have h : ∀ n, n < 64 → ∀ r, r < 4 →
      (Scalar.indexCast (Scalar.addi (wd (512 * n)) (BitVec.ofNat 32 (512 * r)))).toNat = 512 * (n + r) := by decide +kernel
  exact h n hn r hr

theorem key0_toNat {n : ℕ} (hn : n < 64) : (Scalar.indexCast (Scalar.addi (wd (512 * n)) 0#32)).toNat = 512 * n := by
  have h : ∀ n, n < 64 → (Scalar.indexCast (Scalar.addi (wd (512 * n)) 0#32)).toNat = 512 * n := by decide +kernel
  exact h n hn

theorem dvd_wd {n : ℕ} (hn : n < 64) : 512 ∣ (wd (512 * n)).toNat := by
  have h : ∀ n, n < 64 → 512 ∣ (wd (512 * n)).toNat := by decide +kernel
  exact h n hn

theorem t1_lt (t : Fin k0_t1_loop.trips) : t.val < 4 := lt_of_lt_of_eq t.isLt (by decide)

theorem q_lt (i : grid0.Coords) (t : Fin k0_t1_loop.trips) : 4 * (i 2).val + t.val < 32 := by
  have h2 : (i 2).val < 8 := (i 2).isLt
  have := t1_lt t
  omega

theorem q_wd (i : grid0.Coords) (t : Fin k0_t1_loop.trips) :
    Scalar.addi (Scalar.muli 4#32 (BitVec.ofNat 32 (i 2).val)) (Scf.iv 0#32 1#32 t.val) = wd (4 * (i 2).val + t.val) :=
  qi_wd (i 2).isLt (t1_lt t)

theorem cond2 {a b : ℕ} (ha : a < 32) (hb : b < 32) : k0_cond2 (wd a) (wd b) = 1#1 ↔ a < b := by
  have h : ∀ a, a < 32 → ∀ b, b < 32 → (k0_cond2 (wd a) (wd b) = 1#1 ↔ a < b) := by decide +kernel
  exact h a ha b hb

theorem cond6 {a b : ℕ} (ha : a < 32) (hb : b < 32) : k0_cond6 (wd a) (wd b) = 1#1 ↔ b < a := by
  have h : ∀ a, a < 32 → ∀ b, b < 32 → (k0_cond6 (wd a) (wd b) = 1#1 ↔ b < a) := by decide +kernel
  exact h a ha b hb

theorem cond3 {a b : ℕ} (ha : a < 32) (hb : b < 32) : k0_cond3 (wd a) (wd b) = 1#1 ↔ (max a b - a) % 4 = 1 := by
  have h : ∀ a, a < 32 → ∀ b, b < 32 → (k0_cond3 (wd a) (wd b) = 1#1 ↔ (max a b - a) % 4 = 1) := by decide +kernel
  exact h a ha b hb

theorem cond4 {a b : ℕ} (ha : a < 32) (hb : b < 32) : k0_cond4 (wd a) (wd b) = 1#1 ↔ (max a b - a) % 4 = 2 := by
  have h : ∀ a, a < 32 → ∀ b, b < 32 → (k0_cond4 (wd a) (wd b) = 1#1 ↔ (max a b - a) % 4 = 2) := by decide +kernel
  exact h a ha b hb

theorem cond5 {a b : ℕ} (ha : a < 32) (hb : b < 32) : k0_cond5 (wd a) (wd b) = 1#1 ↔ (max a b - a) % 4 = 3 := by
  have h : ∀ a, a < 32 → ∀ b, b < 32 → (k0_cond5 (wd a) (wd b) = 1#1 ↔ (max a b - a) % 4 = 3) := by decide +kernel
  exact h a ha b hb

theorem cond7 {a b : ℕ} (ha : a < 32) (hb : b < 32) : k0_cond7 (wd a) (wd b) = 1#1 ↔ (max a b - b) % 4 = 1 := by
  have h : ∀ a, a < 32 → ∀ b, b < 32 → (k0_cond7 (wd a) (wd b) = 1#1 ↔ (max a b - b) % 4 = 1) := by decide +kernel
  exact h a ha b hb

theorem cond8 {a b : ℕ} (ha : a < 32) (hb : b < 32) : k0_cond8 (wd a) (wd b) = 1#1 ↔ (max a b - b) % 4 = 2 := by
  have h : ∀ a, a < 32 → ∀ b, b < 32 → (k0_cond8 (wd a) (wd b) = 1#1 ↔ (max a b - b) % 4 = 2) := by decide +kernel
  exact h a ha b hb

theorem cond9 {a b : ℕ} (ha : a < 32) (hb : b < 32) : k0_cond9 (wd a) (wd b) = 1#1 ↔ (max a b - b) % 4 = 3 := by
  have h : ∀ a, a < 32 → ∀ b, b < 32 → (k0_cond9 (wd a) (wd b) = 1#1 ↔ (max a b - b) % 4 = 3) := by decide +kernel
  exact h a ha b hb

theorem t2_trips {a b : ℕ} (ha : a < 32) (hb : b < 32) : (k0_t2_loop (wd a) (wd b)).trips = (max a b - a) / 4 := by
  have h : ∀ a, a < 32 → ∀ b, b < 32 → (k0_t2_loop (wd a) (wd b)).trips = (max a b - a) / 4 := by decide +kernel
  exact h a ha b hb

theorem t2_ok {a b : ℕ} (ha : a < 32) (hb : b < 32) : (k0_t2_loop (wd a) (wd b)).OK := by
  have h : ∀ a, a < 32 → ∀ b, b < 32 → (k0_t2_loop (wd a) (wd b)).OK := by decide +kernel
  exact h a ha b hb

theorem t3_trips {a b : ℕ} (ha : a < 32) (hb : b < 32) : (k0_t3_loop (wd a) (wd b)).trips = 0 := by
  have h : ∀ a, a < 32 → ∀ b, b < 32 → (k0_t3_loop (wd a) (wd b)).trips = 0 := by decide +kernel
  exact h a ha b hb

theorem t3_ok {a b : ℕ} (ha : a < 32) (hb : b < 32) : (k0_t3_loop (wd a) (wd b)).OK := by
  have h : ∀ a, a < 32 → ∀ b, b < 32 → (k0_t3_loop (wd a) (wd b)).OK := by decide +kernel
  exact h a ha b hb

theorem t4_trips {a b : ℕ} (ha : a < 32) (hb : b < 32) : (k0_t4_loop (wd a) (wd b)).trips = (max a b - b) / 4 := by
  have h : ∀ a, a < 32 → ∀ b, b < 32 → (k0_t4_loop (wd a) (wd b)).trips = (max a b - b) / 4 := by decide +kernel
  exact h a ha b hb

theorem t4_ok {a b : ℕ} (ha : a < 32) (hb : b < 32) : (k0_t4_loop (wd a) (wd b)).OK := by
  have h : ∀ a, a < 32 → ∀ b, b < 32 → (k0_t4_loop (wd a) (wd b)).OK := by decide +kernel
  exact h a ha b hb

theorem t5_trips {a b : ℕ} (ha : a < 32) (hb : b < 32) : (k0_t5_loop (wd a) (wd b)).trips = 0 := by
  have h : ∀ a, a < 32 → ∀ b, b < 32 → (k0_t5_loop (wd a) (wd b)).trips = 0 := by decide +kernel
  exact h a ha b hb

theorem t5_ok {a b : ℕ} (ha : a < 32) (hb : b < 32) : (k0_t5_loop (wd a) (wd b)).OK := by
  have h : ∀ a, a < 32 → ∀ b, b < 32 → (k0_t5_loop (wd a) (wd b)).OK := by decide +kernel
  exact h a ha b hb

theorem cond11 (i : grid0.Coords) (t : Fin k0_t1_loop.trips) {a b : ℕ} (ha : a < 32) (hb : b < 32) (hq : max a b ≤ 4 * (i 2).val + t.val) :
    k0_cond11 i t (wd a) (wd b) = 1#1 ↔ (4 * (i 2).val + t.val - max a b) % 4 = 1 := by
  have h1 := q_wd i t
  have h2 := maxsi_wd ha hb
  have h3 := q_lt i t
  unfold k0_cond11
  dsimp only
  rw [h1, h2]
  clear h1 h2
  generalize 4 * (i 2).val + t.val = q at hq h3 ⊢
  generalize max a b = m at hq ⊢
  revert m
  revert q
  decide +kernel

theorem cond12 (i : grid0.Coords) (t : Fin k0_t1_loop.trips) {a b : ℕ} (ha : a < 32) (hb : b < 32) (hq : max a b ≤ 4 * (i 2).val + t.val) :
    k0_cond12 i t (wd a) (wd b) = 1#1 ↔ (4 * (i 2).val + t.val - max a b) % 4 = 2 := by
  have h1 := q_wd i t
  have h2 := maxsi_wd ha hb
  have h3 := q_lt i t
  unfold k0_cond12
  dsimp only
  rw [h1, h2]
  clear h1 h2
  generalize 4 * (i 2).val + t.val = q at hq h3 ⊢
  generalize max a b = m at hq ⊢
  revert m
  revert q
  decide +kernel

theorem cond13 (i : grid0.Coords) (t : Fin k0_t1_loop.trips) {a b : ℕ} (ha : a < 32) (hb : b < 32) (hq : max a b ≤ 4 * (i 2).val + t.val) :
    k0_cond13 i t (wd a) (wd b) = 1#1 ↔ (4 * (i 2).val + t.val - max a b) % 4 = 3 := by
  have h1 := q_wd i t
  have h2 := maxsi_wd ha hb
  have h3 := q_lt i t
  unfold k0_cond13
  dsimp only
  rw [h1, h2]
  clear h1 h2
  generalize 4 * (i 2).val + t.val = q at hq h3 ⊢
  generalize max a b = m at hq ⊢
  revert m
  revert q
  decide +kernel

theorem t6_trips (i : grid0.Coords) (t : Fin k0_t1_loop.trips) {a b : ℕ} (ha : a < 32) (hb : b < 32) (hq : max a b ≤ 4 * (i 2).val + t.val) :
    (k0_t6_loop i t (wd a) (wd b)).trips = (4 * (i 2).val + t.val - max a b) / 4 := by
  have h1 := q_wd i t
  have h2 := maxsi_wd ha hb
  have h3 := q_lt i t
  unfold k0_t6_loop
  dsimp only
  rw [h1, h2]
  clear h1 h2
  generalize 4 * (i 2).val + t.val = q at hq h3 ⊢
  generalize max a b = m at hq ⊢
  revert m
  revert q
  decide +kernel

theorem t6_ok (i : grid0.Coords) (t : Fin k0_t1_loop.trips) {a b : ℕ} (ha : a < 32) (hb : b < 32) (hq : max a b ≤ 4 * (i 2).val + t.val) :
    (k0_t6_loop i t (wd a) (wd b)).OK := by
  have h1 := q_wd i t
  have h2 := maxsi_wd ha hb
  have h3 := q_lt i t
  unfold k0_t6_loop
  dsimp only
  rw [h1, h2]
  clear h1 h2
  generalize 4 * (i 2).val + t.val = q at hq h3 ⊢
  generalize max a b = m at hq ⊢
  revert m
  revert q
  decide +kernel

theorem t7_trips (i : grid0.Coords) (t : Fin k0_t1_loop.trips) {a b : ℕ} (ha : a < 32) (hb : b < 32) (hq : max a b ≤ 4 * (i 2).val + t.val) :
    (k0_t7_loop i t (wd a) (wd b)).trips = 0 := by
  have h1 := q_wd i t
  have h2 := maxsi_wd ha hb
  have h3 := q_lt i t
  unfold k0_t7_loop
  dsimp only
  rw [h1, h2]
  clear h1 h2
  generalize 4 * (i 2).val + t.val = q at hq h3 ⊢
  generalize max a b = m at hq ⊢
  revert m
  revert q
  decide +kernel

theorem t7_ok (i : grid0.Coords) (t : Fin k0_t1_loop.trips) {a b : ℕ} (ha : a < 32) (hb : b < 32) (hq : max a b ≤ 4 * (i 2).val + t.val) :
    (k0_t7_loop i t (wd a) (wd b)).OK := by
  have h1 := q_wd i t
  have h2 := maxsi_wd ha hb
  have h3 := q_lt i t
  unfold k0_t7_loop
  dsimp only
  rw [h1, h2]
  clear h1 h2
  generalize 4 * (i 2).val + t.val = q at hq h3 ⊢
  generalize max a b = m at hq ⊢
  revert m
  revert q
  decide +kernel

theorem off5 {a b : ℕ} (ha : a < 32) (hb : b < 32) (k : Fin (k0_t2_loop (wd a) (wd b)).trips) (hk : k.val < 8) {r : ℕ} (hr : r < 4) :
    k0_off5 (wd a) (wd b) k (BitVec.ofNat 32 (512 * r)) = ![0, 512 * (a + 4 * k.val + r), 0] := by
  unfold k0_off5
  dsimp only
  rw [step_wd ha hk, key_wd (by omega), chunk_toNat (by omega) hr]

theorem off6 {a b : ℕ} (ha : a < 32) (hb : b < 32) (k : Fin (k0_t2_loop (wd a) (wd b)).trips) (hk : k.val < 8) :
    k0_off6 (wd a) (wd b) k = ![0, 512 * (a + 4 * k.val)] := by
  unfold k0_off6
  dsimp only
  rw [step_wd ha hk, key_wd (by omega), key_toNat (by omega)]

theorem mult2 {a b : ℕ} (ha : a < 32) (hb : b < 32) (k : Fin (k0_t2_loop (wd a) (wd b)).trips) (hk : k.val < 8) : 512 ∣ (k0_mult2 (wd a) (wd b) k).toNat := by
  unfold k0_mult2
  dsimp only
  rw [step_wd ha hk, key_wd (by omega)]
  exact dvd_wd (by omega)

theorem off15 {a b : ℕ} (ha : a < 32) (hb : b < 32) (k : Fin (k0_t4_loop (wd a) (wd b)).trips) (hk : k.val < 8) {r : ℕ} (hr : r < 4) :
    k0_off15 (wd a) (wd b) k (BitVec.ofNat 32 (512 * r)) = ![0, 512 * (b + 4 * k.val + r), 128] := by
  unfold k0_off15
  dsimp only
  rw [step_wd hb hk, key_wd (by omega), chunk_toNat (by omega) hr]

theorem off16 {a b : ℕ} (ha : a < 32) (hb : b < 32) (k : Fin (k0_t4_loop (wd a) (wd b)).trips) (hk : k.val < 8) :
    k0_off16 (wd a) (wd b) k = ![128, 512 * (b + 4 * k.val)] := by
  unfold k0_off16
  dsimp only
  rw [step_wd hb hk, key_wd (by omega), key_toNat (by omega)]

theorem mult7 {a b : ℕ} (ha : a < 32) (hb : b < 32) (k : Fin (k0_t4_loop (wd a) (wd b)).trips) (hk : k.val < 8) : 512 ∣ (k0_mult7 (wd a) (wd b) k).toNat := by
  unfold k0_mult7
  dsimp only
  rw [step_wd hb hk, key_wd (by omega)]
  exact dvd_wd (by omega)

theorem off9 {a b : ℕ} (ha : a < 32) (hb : b < 32) (hm : 1 ≤ max a b) :
    k0_off9 (wd a) (wd b) = ![0, 512 * (max a b - 1), 0] := by
  unfold k0_off9
  dsimp only
  rw [maxsi_wd ha hb, subi_wd (k := 1) (by omega) hm, key_wd (by omega), key0_toNat (by omega)]

theorem off10 {a b : ℕ} (ha : a < 32) (hb : b < 32) (hm : 1 ≤ max a b) :
    k0_off10 (wd a) (wd b) = ![0, 512 * (max a b - 1)] := by
  unfold k0_off10
  dsimp only
  rw [maxsi_wd ha hb, subi_wd (k := 1) (by omega) hm, key_wd (by omega), key_toNat (by omega)]

theorem mult4 {a b : ℕ} (ha : a < 32) (hb : b < 32) (hm : 1 ≤ max a b) : 512 ∣ (k0_mult4 (wd a) (wd b)).toNat := by
  unfold k0_mult4
  dsimp only
  rw [maxsi_wd ha hb, subi_wd (k := 1) (by omega) hm, key_wd (by omega)]
  exact dvd_wd (by omega)

theorem off11 {a b : ℕ} (ha : a < 32) (hb : b < 32) (hm : 2 ≤ max a b) {r : ℕ} (hr : r < 4) :
    k0_off11 (wd a) (wd b) (BitVec.ofNat 32 (512 * r)) = ![0, 512 * (max a b - 2 + r), 0] := by
  unfold k0_off11
  dsimp only
  rw [maxsi_wd ha hb, subi_wd (k := 2) (by omega) hm, key_wd (by omega), chunk_toNat (by omega) hr]

theorem off12 {a b : ℕ} (ha : a < 32) (hb : b < 32) (hm : 2 ≤ max a b) :
    k0_off12 (wd a) (wd b) = ![0, 512 * (max a b - 2)] := by
  unfold k0_off12
  dsimp only
  rw [maxsi_wd ha hb, subi_wd (k := 2) (by omega) hm, key_wd (by omega), key_toNat (by omega)]

theorem mult5 {a b : ℕ} (ha : a < 32) (hb : b < 32) (hm : 2 ≤ max a b) : 512 ∣ (k0_mult5 (wd a) (wd b)).toNat := by
  unfold k0_mult5
  dsimp only
  rw [maxsi_wd ha hb, subi_wd (k := 2) (by omega) hm, key_wd (by omega)]
  exact dvd_wd (by omega)

theorem off13 {a b : ℕ} (ha : a < 32) (hb : b < 32) (hm : 3 ≤ max a b) {r : ℕ} (hr : r < 4) :
    k0_off13 (wd a) (wd b) (BitVec.ofNat 32 (512 * r)) = ![0, 512 * (max a b - 3 + r), 0] := by
  unfold k0_off13
  dsimp only
  rw [maxsi_wd ha hb, subi_wd (k := 3) (by omega) hm, key_wd (by omega), chunk_toNat (by omega) hr]

theorem off14 {a b : ℕ} (ha : a < 32) (hb : b < 32) (hm : 3 ≤ max a b) :
    k0_off14 (wd a) (wd b) = ![0, 512 * (max a b - 3)] := by
  unfold k0_off14
  dsimp only
  rw [maxsi_wd ha hb, subi_wd (k := 3) (by omega) hm, key_wd (by omega), key_toNat (by omega)]

theorem mult6 {a b : ℕ} (ha : a < 32) (hb : b < 32) (hm : 3 ≤ max a b) : 512 ∣ (k0_mult6 (wd a) (wd b)).toNat := by
  unfold k0_mult6
  dsimp only
  rw [maxsi_wd ha hb, subi_wd (k := 3) (by omega) hm, key_wd (by omega)]
  exact dvd_wd (by omega)

theorem off19 {a b : ℕ} (ha : a < 32) (hb : b < 32) (hm : 1 ≤ max a b) :
    k0_off19 (wd a) (wd b) = ![0, 512 * (max a b - 1), 128] := by
  unfold k0_off19
  dsimp only
  rw [maxsi_wd ha hb, subi_wd (k := 1) (by omega) hm, key_wd (by omega), key0_toNat (by omega)]

theorem off20 {a b : ℕ} (ha : a < 32) (hb : b < 32) (hm : 1 ≤ max a b) :
    k0_off20 (wd a) (wd b) = ![128, 512 * (max a b - 1)] := by
  unfold k0_off20
  dsimp only
  rw [maxsi_wd ha hb, subi_wd (k := 1) (by omega) hm, key_wd (by omega), key_toNat (by omega)]

theorem mult9 {a b : ℕ} (ha : a < 32) (hb : b < 32) (hm : 1 ≤ max a b) : 512 ∣ (k0_mult9 (wd a) (wd b)).toNat := by
  unfold k0_mult9
  dsimp only
  rw [maxsi_wd ha hb, subi_wd (k := 1) (by omega) hm, key_wd (by omega)]
  exact dvd_wd (by omega)

theorem off21 {a b : ℕ} (ha : a < 32) (hb : b < 32) (hm : 2 ≤ max a b) {r : ℕ} (hr : r < 4) :
    k0_off21 (wd a) (wd b) (BitVec.ofNat 32 (512 * r)) = ![0, 512 * (max a b - 2 + r), 128] := by
  unfold k0_off21
  dsimp only
  rw [maxsi_wd ha hb, subi_wd (k := 2) (by omega) hm, key_wd (by omega), chunk_toNat (by omega) hr]

theorem off22 {a b : ℕ} (ha : a < 32) (hb : b < 32) (hm : 2 ≤ max a b) :
    k0_off22 (wd a) (wd b) = ![128, 512 * (max a b - 2)] := by
  unfold k0_off22
  dsimp only
  rw [maxsi_wd ha hb, subi_wd (k := 2) (by omega) hm, key_wd (by omega), key_toNat (by omega)]

theorem mult10 {a b : ℕ} (ha : a < 32) (hb : b < 32) (hm : 2 ≤ max a b) : 512 ∣ (k0_mult10 (wd a) (wd b)).toNat := by
  unfold k0_mult10
  dsimp only
  rw [maxsi_wd ha hb, subi_wd (k := 2) (by omega) hm, key_wd (by omega)]
  exact dvd_wd (by omega)

theorem off23 {a b : ℕ} (ha : a < 32) (hb : b < 32) (hm : 3 ≤ max a b) {r : ℕ} (hr : r < 4) :
    k0_off23 (wd a) (wd b) (BitVec.ofNat 32 (512 * r)) = ![0, 512 * (max a b - 3 + r), 128] := by
  unfold k0_off23
  dsimp only
  rw [maxsi_wd ha hb, subi_wd (k := 3) (by omega) hm, key_wd (by omega), chunk_toNat (by omega) hr]

theorem off24 {a b : ℕ} (ha : a < 32) (hb : b < 32) (hm : 3 ≤ max a b) :
    k0_off24 (wd a) (wd b) = ![128, 512 * (max a b - 3)] := by
  unfold k0_off24
  dsimp only
  rw [maxsi_wd ha hb, subi_wd (k := 3) (by omega) hm, key_wd (by omega), key_toNat (by omega)]

theorem mult11 {a b : ℕ} (ha : a < 32) (hb : b < 32) (hm : 3 ≤ max a b) : 512 ∣ (k0_mult11 (wd a) (wd b)).toNat := by
  unfold k0_mult11
  dsimp only
  rw [maxsi_wd ha hb, subi_wd (k := 3) (by omega) hm, key_wd (by omega)]
  exact dvd_wd (by omega)

theorem off25 (i : grid0.Coords) (t : Fin k0_t1_loop.trips) {a b : ℕ} (ha : a < 32) (hb : b < 32) (k : Fin (k0_t6_loop i t (wd a) (wd b)).trips) (hk : k.val < 8) {r : ℕ} (hr : r < 4) :
    k0_off25 i t (wd a) (wd b) k (BitVec.ofNat 32 (512 * r)) = ![0, 512 * (max a b + 4 * k.val + r), 0] := by
  unfold k0_off25
  dsimp only
  rw [maxsi_wd ha hb, step_wd (by omega) hk, key_wd (by omega), chunk_toNat (by omega) hr]

theorem off26 (i : grid0.Coords) (t : Fin k0_t1_loop.trips) {a b : ℕ} (ha : a < 32) (hb : b < 32) (k : Fin (k0_t6_loop i t (wd a) (wd b)).trips) (hk : k.val < 8) {r : ℕ} (hr : r < 4) :
    k0_off26 i t (wd a) (wd b) k (BitVec.ofNat 32 (512 * r)) = ![0, 512 * (max a b + 4 * k.val + r), 128] := by
  unfold k0_off26
  dsimp only
  rw [maxsi_wd ha hb, step_wd (by omega) hk, key_wd (by omega), chunk_toNat (by omega) hr]

theorem off27 (i : grid0.Coords) (t : Fin k0_t1_loop.trips) {a b : ℕ} (ha : a < 32) (hb : b < 32) (k : Fin (k0_t6_loop i t (wd a) (wd b)).trips) (hk : k.val < 8) :
    k0_off27 i t (wd a) (wd b) k = ![0, 512 * (max a b + 4 * k.val)] := by
  unfold k0_off27
  dsimp only
  rw [maxsi_wd ha hb, step_wd (by omega) hk, key_wd (by omega), key_toNat (by omega)]

theorem off28 (i : grid0.Coords) (t : Fin k0_t1_loop.trips) {a b : ℕ} (ha : a < 32) (hb : b < 32) (k : Fin (k0_t6_loop i t (wd a) (wd b)).trips) (hk : k.val < 8) :
    k0_off28 i t (wd a) (wd b) k = ![128, 512 * (max a b + 4 * k.val)] := by
  unfold k0_off28
  dsimp only
  rw [maxsi_wd ha hb, step_wd (by omega) hk, key_wd (by omega), key_toNat (by omega)]

theorem mult12 (i : grid0.Coords) (t : Fin k0_t1_loop.trips) {a b : ℕ} (ha : a < 32) (hb : b < 32) (k : Fin (k0_t6_loop i t (wd a) (wd b)).trips) (hk : k.val < 8) : 512 ∣ (k0_mult12 i t (wd a) (wd b) k).toNat := by
  unfold k0_mult12
  dsimp only
  rw [maxsi_wd ha hb, step_wd (by omega) hk, key_wd (by omega)]
  exact dvd_wd (by omega)

theorem off37 (i : grid0.Coords) (t : Fin k0_t1_loop.trips) (hj : 1 ≤ 4 * (i 2).val + t.val) {r : ℕ} (hr : r < 4) :
    k0_off37 i t (BitVec.ofNat 32 (512 * r)) = ![0, 512 * (4 * (i 2).val + t.val - 1 + r), 0] := by
  have h := q_lt i t
  unfold k0_off37
  dsimp only
  rw [q_wd i t, subi_wd (k := 1) h hj, key_wd (by omega), chunk_toNat (by omega) hr]

theorem off38 (i : grid0.Coords) (t : Fin k0_t1_loop.trips) (hj : 1 ≤ 4 * (i 2).val + t.val) {r : ℕ} (hr : r < 4) :
    k0_off38 i t (BitVec.ofNat 32 (512 * r)) = ![0, 512 * (4 * (i 2).val + t.val - 1 + r), 128] := by
  have h := q_lt i t
  unfold k0_off38
  dsimp only
  rw [q_wd i t, subi_wd (k := 1) h hj, key_wd (by omega), chunk_toNat (by omega) hr]

theorem off39 (i : grid0.Coords) (t : Fin k0_t1_loop.trips) (hj : 1 ≤ 4 * (i 2).val + t.val) :
    k0_off39 i t = ![0, 512 * (4 * (i 2).val + t.val - 1)] := by
  have h := q_lt i t
  unfold k0_off39
  dsimp only
  rw [q_wd i t, subi_wd (k := 1) h hj, key_wd (by omega), key_toNat (by omega)]

theorem off40 (i : grid0.Coords) (t : Fin k0_t1_loop.trips) (hj : 1 ≤ 4 * (i 2).val + t.val) :
    k0_off40 i t = ![128, 512 * (4 * (i 2).val + t.val - 1)] := by
  have h := q_lt i t
  unfold k0_off40
  dsimp only
  rw [q_wd i t, subi_wd (k := 1) h hj, key_wd (by omega), key_toNat (by omega)]

theorem off41 (i : grid0.Coords) (t : Fin k0_t1_loop.trips) (hj : 2 ≤ 4 * (i 2).val + t.val) {r : ℕ} (hr : r < 4) :
    k0_off41 i t (BitVec.ofNat 32 (512 * r)) = ![0, 512 * (4 * (i 2).val + t.val - 2 + r), 0] := by
  have h := q_lt i t
  unfold k0_off41
  dsimp only
  rw [q_wd i t, subi_wd (k := 2) h hj, key_wd (by omega), chunk_toNat (by omega) hr]

theorem off42 (i : grid0.Coords) (t : Fin k0_t1_loop.trips) (hj : 2 ≤ 4 * (i 2).val + t.val) {r : ℕ} (hr : r < 4) :
    k0_off42 i t (BitVec.ofNat 32 (512 * r)) = ![0, 512 * (4 * (i 2).val + t.val - 2 + r), 128] := by
  have h := q_lt i t
  unfold k0_off42
  dsimp only
  rw [q_wd i t, subi_wd (k := 2) h hj, key_wd (by omega), chunk_toNat (by omega) hr]

theorem off43 (i : grid0.Coords) (t : Fin k0_t1_loop.trips) (hj : 2 ≤ 4 * (i 2).val + t.val) :
    k0_off43 i t = ![0, 512 * (4 * (i 2).val + t.val - 2)] := by
  have h := q_lt i t
  unfold k0_off43
  dsimp only
  rw [q_wd i t, subi_wd (k := 2) h hj, key_wd (by omega), key_toNat (by omega)]

theorem off44 (i : grid0.Coords) (t : Fin k0_t1_loop.trips) (hj : 2 ≤ 4 * (i 2).val + t.val) :
    k0_off44 i t = ![128, 512 * (4 * (i 2).val + t.val - 2)] := by
  have h := q_lt i t
  unfold k0_off44
  dsimp only
  rw [q_wd i t, subi_wd (k := 2) h hj, key_wd (by omega), key_toNat (by omega)]

theorem off45 (i : grid0.Coords) (t : Fin k0_t1_loop.trips) (hj : 3 ≤ 4 * (i 2).val + t.val) {r : ℕ} (hr : r < 4) :
    k0_off45 i t (BitVec.ofNat 32 (512 * r)) = ![0, 512 * (4 * (i 2).val + t.val - 3 + r), 0] := by
  have h := q_lt i t
  unfold k0_off45
  dsimp only
  rw [q_wd i t, subi_wd (k := 3) h hj, key_wd (by omega), chunk_toNat (by omega) hr]

theorem off46 (i : grid0.Coords) (t : Fin k0_t1_loop.trips) (hj : 3 ≤ 4 * (i 2).val + t.val) {r : ℕ} (hr : r < 4) :
    k0_off46 i t (BitVec.ofNat 32 (512 * r)) = ![0, 512 * (4 * (i 2).val + t.val - 3 + r), 128] := by
  have h := q_lt i t
  unfold k0_off46
  dsimp only
  rw [q_wd i t, subi_wd (k := 3) h hj, key_wd (by omega), chunk_toNat (by omega) hr]

theorem off47 (i : grid0.Coords) (t : Fin k0_t1_loop.trips) (hj : 3 ≤ 4 * (i 2).val + t.val) :
    k0_off47 i t = ![0, 512 * (4 * (i 2).val + t.val - 3)] := by
  have h := q_lt i t
  unfold k0_off47
  dsimp only
  rw [q_wd i t, subi_wd (k := 3) h hj, key_wd (by omega), key_toNat (by omega)]

theorem off48 (i : grid0.Coords) (t : Fin k0_t1_loop.trips) (hj : 3 ≤ 4 * (i 2).val + t.val) :
    k0_off48 i t = ![128, 512 * (4 * (i 2).val + t.val - 3)] := by
  have h := q_lt i t
  unfold k0_off48
  dsimp only
  rw [q_wd i t, subi_wd (k := 3) h hj, key_wd (by omega), key_toNat (by omega)]

theorem off33 (i : grid0.Coords) (t : Fin k0_t1_loop.trips) : k0_off33 i t = ![0, 512 * (4 * (i 2).val + t.val), 0] := by
  have h := q_lt i t
  unfold k0_off33
  dsimp only
  rw [q_wd i t, subi_wd (k := 0) h (Nat.zero_le _), key_wd (by omega), key0_toNat (by omega)]
  rfl

theorem off34 (i : grid0.Coords) (t : Fin k0_t1_loop.trips) : k0_off34 i t = ![0, 512 * (4 * (i 2).val + t.val), 128] := by
  have h := q_lt i t
  unfold k0_off34
  dsimp only
  rw [q_wd i t, subi_wd (k := 0) h (Nat.zero_le _), key_wd (by omega), key0_toNat (by omega)]
  rfl

theorem off35 (i : grid0.Coords) (t : Fin k0_t1_loop.trips) : k0_off35 i t = ![0, 512 * (4 * (i 2).val + t.val)] := by
  have h := q_lt i t
  unfold k0_off35
  dsimp only
  rw [q_wd i t, subi_wd (k := 0) h (Nat.zero_le _), key_wd (by omega), key_toNat (by omega)]
  rfl

theorem off36 (i : grid0.Coords) (t : Fin k0_t1_loop.trips) : k0_off36 i t = ![128, 512 * (4 * (i 2).val + t.val)] := by
  have h := q_lt i t
  unfold k0_off36
  dsimp only
  rw [q_wd i t, subi_wd (k := 0) h (Nat.zero_le _), key_wd (by omega), key_toNat (by omega)]
  rfl

theorem off3 (t : Fin k0_t1_loop.trips) : k0_off3 t = ![0, 512 * t.val, 0] := by
  revert t
  decide +kernel

theorem off49 (t : Fin k0_t1_loop.trips) : k0_off49 t = ![0, 512 * t.val, 0] := by
  revert t
  decide +kernel

/-- A chunk of keys lies inside the keys. -/
theorem inb_key {n l : ℕ} (hn : n + 512 ≤ 16384) (hl : l + 128 ≤ 256) (a : Fin 3) :
    (![0, n, l] : Fin 3 → ℕ) a + S1x512x128.size a ≤ S1x16384x256.size a := by
  match a with
  | 0 => exact Nat.le_refl 1
  | 1 => exact hn
  | 2 => exact hl

/-- A span of the transposed values lies inside them. -/
theorem inb_val512 {n l : ℕ} (hn : n + 512 ≤ 16384) (hl : l + 128 ≤ 256) (a : Fin 2) :
    (![l, n] : Fin 2 → ℕ) a + S128x512.size a ≤ S256x16384.size a := by
  match a with
  | 0 => exact hl
  | 1 => exact hn

/-- A span of the transposed values lies inside them. -/
theorem inb_val1024 {n l : ℕ} (hn : n + 1024 ≤ 16384) (hl : l + 128 ≤ 256) (a : Fin 2) :
    (![l, n] : Fin 2 → ℕ) a + S128x1024.size a ≤ S256x16384.size a := by
  match a with
  | 0 => exact hl
  | 1 => exact hn

/-- A span of the transposed values lies inside them. -/
theorem inb_val1536 {n l : ℕ} (hn : n + 1536 ≤ 16384) (hl : l + 128 ≤ 256) (a : Fin 2) :
    (![l, n] : Fin 2 → ℕ) a + S128x1536.size a ≤ S256x16384.size a := by
  match a with
  | 0 => exact hl
  | 1 => exact hn

/-- A span of the transposed values lies inside them. -/
theorem inb_val2048 {n l : ℕ} (hn : n + 2048 ≤ 16384) (hl : l + 128 ≤ 256) (a : Fin 2) :
    (![l, n] : Fin 2 → ℕ) a + S128x2048.size a ≤ S256x16384.size a := by
  match a with
  | 0 => exact hl
  | 1 => exact hn

end Cert.Flash

end
-- ==== Proof.Flash.Sweeps.lean ====
/-
  The sweeps over four blocks of keys at a time.
-/
module

public import proofs.«01_k».proof.Proof.Flash.Steps
public import proofs.«01_k».proof.Proof.Flash.Words

@[expose] public section

namespace Cert.Flash

open Idealize.ShloMosaic Idealize.SL.Sem
open Cert.KernelIdeal Cert.KernelIdeal.Gen

theorem same_39_38 (x : Vec Ideal S1x512x128 .bf16) (y : Vec Ideal S128x512 .bf16) (z : Vec Ideal S1x1x512 .f32) : k0_pay39 (k0_pay38 x y z) = k0_pay37 x y z := rfl
theorem same_40 (x : Vec Ideal S1x512x128 .bf16) (y : Vec Ideal S128x512 .bf16) (z : Vec Ideal S1x1x512 .f32) : k0_pay40 x y z = k0_pay37 x y z := rfl
theorem same_41 (x : Vec Ideal S1x512x128 .bf16) (y : Vec Ideal S128x512 .bf16) (z : Vec Ideal S1x1x512 .f32) : k0_pay41 x y z = k0_pay37 x y z := rfl
theorem same_55 (x : Vec Ideal S1x512x128 .bf16) (y : Vec Ideal S128x512 .bf16) (z : Vec Ideal S1x1x512 .f32) : k0_pay55 x y z = k0_pay37 x y z := rfl
theorem same_57_56 (x : Vec Ideal S1x512x128 .bf16) (y : Vec Ideal S128x512 .bf16) (z : Vec Ideal S1x1x512 .f32) : k0_pay57 (k0_pay56 x y z) = k0_pay37 x y z := rfl
theorem same_58 (x : Vec Ideal S1x512x128 .bf16) (y : Vec Ideal S128x512 .bf16) (z : Vec Ideal S1x1x512 .f32) : k0_pay58 x y z = k0_pay37 x y z := rfl
theorem same_59 (x : Vec Ideal S1x512x128 .bf16) (y : Vec Ideal S128x512 .bf16) (z : Vec Ideal S1x1x512 .f32) : k0_pay59 x y z = k0_pay37 x y z := rfl
theorem same_69 (x : Vec Ideal S128x2048 .bf16) (y : Vec Ideal S1x128x512 .f32) (z : Vec Ideal S1x2048x512 .bf16) : k0_pay69 x y z = k0_pay51 x y z := rfl
theorem same_73 (x : Vec Ideal S1x512x128 .bf16) (y : Vec Ideal S128x512 .bf16) (z : Vec Ideal S1x1x512 .f32) : k0_pay73 x y z = k0_pay37 x y z := rfl
theorem same_75_74 (x : Vec Ideal S1x512x128 .bf16) (y : Vec Ideal S128x512 .bf16) (z : Vec Ideal S1x1x512 .f32) : k0_pay75 (k0_pay74 x y z) = k0_pay37 x y z := rfl
theorem same_76 (x : Vec Ideal S1x512x128 .bf16) (y : Vec Ideal S128x512 .bf16) (z : Vec Ideal S1x1x512 .f32) : k0_pay76 x y z = k0_pay37 x y z := rfl
theorem same_77 (x : Vec Ideal S1x512x128 .bf16) (y : Vec Ideal S128x512 .bf16) (z : Vec Ideal S1x1x512 .f32) : k0_pay77 x y z = k0_pay37 x y z := rfl
theorem same_78 (x : Vec Ideal S1x512x128 .bf16) (y : Vec Ideal S128x512 .bf16) (z : Vec Ideal S1x1x512 .f32) : k0_pay78 x y z = k0_pay37 x y z := rfl
theorem same_79 (x : Vec Ideal S1x512x128 .bf16) (y : Vec Ideal S128x512 .bf16) (z : Vec Ideal S1x1x512 .f32) : k0_pay79 x y z = k0_pay37 x y z := rfl
theorem same_80 (x : Vec Ideal S1x512x128 .bf16) (y : Vec Ideal S128x512 .bf16) (z : Vec Ideal S1x1x512 .f32) : k0_pay80 x y z = k0_pay37 x y z := rfl
theorem same_81 (x : Vec Ideal S1x512x128 .bf16) (y : Vec Ideal S128x512 .bf16) (z : Vec Ideal S1x1x512 .f32) : k0_pay81 x y z = k0_pay37 x y z := rfl
theorem same_132_82 (x : Vec Ideal S128x2048 .bf16) (y : Vec Ideal S1x128x512 .f32) (z : Vec Ideal S1x2048x512 .bf16) : k0_pay132 x (k0_pay82 y) z = k0_pay51 x y z := rfl
theorem same_133 (x : Vec Ideal S128x2048 .bf16) (y : Vec Ideal S1x128x512 .f32) (z : Vec Ideal S1x2048x512 .bf16) : k0_pay133 x y z = k0_pay51 x y z := rfl

/-- Four more blocks of keys for the first head. -/
theorem t2_body_v (e : Env nD τ sig Ideal Λ₀) (i : grid0.Coords) (k0_t1 : Fin k0_t1_loop.trips) {a b q : ℕ} (ha : a < 32) (hb : b < 32)
    (hM : max a b ≤ 4 * (i 2).val + k0_t1.val) (hq : q = 4 * (i 2).val + k0_t1.val) {lo : Fin 2 → ℕ} (hl0 : lo 0 = a) (hl1 : lo 1 = b)
    (hw : k0_chk1 i k0_t1 (wd a) (wd b)) {shf : Fin 2 → Fin 512 → EReal} {o : Vec Ideal S1x2048x128 .bf16} {n1 : ℕ} (v15 : BitVec 32) (k0_h2 : k0_cond2 (wd a) (wd b) = 1#1) (k0_t2 : Fin (k0_t2_loop (wd a) (wd b)).trips) (u : Unit) (s : St Ideal) (hs : Mid e k0_t1.val q shf lo o (512 * (a + 4 * k0_t2.val)) (n1) s) :
    W e (k0_t2_body i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 (wd a) (wd b) hw v15 k0_h2 k0_t2 u) s (fun _ s' => Mid e k0_t1.val q shf lo o (512 * (a + 4 * (k0_t2.val + 1))) (n1) s') := by
  obtain ⟨o', vt, qt, sh, acc, p⟩ := s
  obtain ⟨ho, hvt, hqt, hsh, ha0, ha1⟩ := hs
  try dsimp only at ho hvt hqt hsh ha0 ha1
  have hql := q_lt i k0_t1
  have hk : k0_t2.val < (max a b - a) / 4 := lt_of_lt_of_eq k0_t2.isLt (t2_trips ha hb)
  have hk8 : k0_t2.val < 8 := by omega
  unfold k0_t2_body
  dsimp only
  apply W_bind e
  rw [k0_part7_eq_skeleton]
  unfold k0_part7_skel
  dsimp only
  apply W_load6
  apply W_load10
  apply W_load11
  apply W_load13
  apply W_store13
  refine W_chunk 0 1 (by decide) (PC_zero e k0_t1.val q shf 0 (512 * (a + 4 * k0_t2.val)) p) (PC_zero e k0_t1.val q shf 1 0 p) rfl (fun x c => (congrFun (rfl) _).trans (full_chunk hqt hsh 0 (off5 ha hb k0_t2 hk8 (r := 0) (by omega)) rfl rfl rfl (by omega) (by omega) (by omega) x c)) ?_
  intro p hp0 hp1
  apply W_load6
  apply W_load10
  apply W_load11
  apply W_load13
  apply W_pure e
  try dsimp only
  apply W_bind e
  rw [k0_part8_eq_skeleton]
  unfold k0_part8_skel
  dsimp only
  apply W_store13
  refine W_chunk 0 1 (by decide) hp0 hp1 rfl (fun x c => (congrFun (same_39_38 _ _ _) _).trans (full_chunk hqt hsh 0 (off5 ha hb k0_t2 hk8 (r := 1) (by omega)) rfl rfl rfl (by omega) (by omega) (by omega) x c)) ?_
  intro p hp0 hp1
  apply W_load6
  apply W_load10
  apply W_load11
  apply W_load13
  apply W_store13
  refine W_chunk 0 1 (by decide) hp0 hp1 rfl (fun x c => (congrFun (same_40 _ _ _) _).trans (full_chunk hqt hsh 0 (off5 ha hb k0_t2 hk8 (r := 2) (by omega)) rfl rfl rfl (by omega) (by omega) (by omega) x c)) ?_
  intro p hp0 hp1
  apply W_load6
  apply W_load10
  apply W_load11
  apply W_load13
  apply W_store13
  refine W_chunk 0 1 (by decide) hp0 hp1 rfl (fun x c => (congrFun (same_41 _ _ _) _).trans (full_chunk hqt hsh 0 (off5 ha hb k0_t2 hk8 (r := 3) (by omega)) rfl rfl rfl (by omega) (by omega) (by omega) x c)) ?_
  intro p hp0 hp1
  apply W_pure e
  try dsimp only
  apply W_load9
  apply W_load12
  apply W_load13
  apply W_load12
  apply W_store12
  refine W_acc2048 hvt 0 1 (by decide) ha0 ha1 hp0 (by omega) (by omega) (off6 ha hb k0_t2 hk8) rfl rfl rfl rfl (rfl) ?_
  intro acc ha0 ha1
  exact W_pure e ⟨ho, hvt, hqt, hsh, ha0.to (by omega), ha1⟩

/-- Four more blocks of keys for the second head. -/
theorem t4_body_v (e : Env nD τ sig Ideal Λ₀) (i : grid0.Coords) (k0_t1 : Fin k0_t1_loop.trips) {a b q : ℕ} (ha : a < 32) (hb : b < 32)
    (hM : max a b ≤ 4 * (i 2).val + k0_t1.val) (hq : q = 4 * (i 2).val + k0_t1.val) {lo : Fin 2 → ℕ} (hl0 : lo 0 = a) (hl1 : lo 1 = b)
    (hw : k0_chk1 i k0_t1 (wd a) (wd b)) {shf : Fin 2 → Fin 512 → EReal} {o : Vec Ideal S1x2048x128 .bf16} {n1 : ℕ} (v15 : BitVec 32) (k0_h6 : k0_cond6 (wd a) (wd b) = 1#1) (k0_t4 : Fin (k0_t4_loop (wd a) (wd b)).trips) (u : Unit) (s : St Ideal) (hs : Mid e k0_t1.val q shf lo o (n1) (512 * (b + 4 * k0_t4.val)) s) :
    W e (k0_t4_body i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 (wd a) (wd b) hw v15 k0_h6 k0_t4 u) s (fun _ s' => Mid e k0_t1.val q shf lo o (n1) (512 * (b + 4 * (k0_t4.val + 1))) s') := by
  obtain ⟨o', vt, qt, sh, acc, p⟩ := s
  obtain ⟨ho, hvt, hqt, hsh, ha0, ha1⟩ := hs
  try dsimp only at ho hvt hqt hsh ha0 ha1
  have hql := q_lt i k0_t1
  have hk : k0_t4.val < (max a b - b) / 4 := lt_of_lt_of_eq k0_t4.isLt (t4_trips ha hb)
  have hk8 : k0_t4.val < 8 := by omega
  unfold k0_t4_body
  dsimp only
  apply W_bind e
  rw [k0_part14_eq_skeleton]
  unfold k0_part14_skel
  dsimp only
  apply W_load6
  apply W_load10
  apply W_load11
  apply W_load13
  apply W_store13
  refine W_chunk 1 0 (by decide) (PC_zero e k0_t1.val q shf 1 (512 * (b + 4 * k0_t4.val)) p) (PC_zero e k0_t1.val q shf 0 0 p) rfl (fun x c => (congrFun (same_55 _ _ _) _).trans (full_chunk hqt hsh 1 (off15 ha hb k0_t4 hk8 (r := 0) (by omega)) rfl rfl rfl (by omega) (by omega) (by omega) x c)) ?_
  intro p hp1 hp0
  apply W_load6
  apply W_load10
  apply W_load11
  apply W_load13
  apply W_pure e
  try dsimp only
  apply W_bind e
  rw [k0_part15_eq_skeleton]
  unfold k0_part15_skel
  dsimp only
  apply W_store13
  refine W_chunk 1 0 (by decide) hp1 hp0 rfl (fun x c => (congrFun (same_57_56 _ _ _) _).trans (full_chunk hqt hsh 1 (off15 ha hb k0_t4 hk8 (r := 1) (by omega)) rfl rfl rfl (by omega) (by omega) (by omega) x c)) ?_
  intro p hp1 hp0
  apply W_load6
  apply W_load10
  apply W_load11
  apply W_load13
  apply W_store13
  refine W_chunk 1 0 (by decide) hp1 hp0 rfl (fun x c => (congrFun (same_58 _ _ _) _).trans (full_chunk hqt hsh 1 (off15 ha hb k0_t4 hk8 (r := 2) (by omega)) rfl rfl rfl (by omega) (by omega) (by omega) x c)) ?_
  intro p hp1 hp0
  apply W_load6
  apply W_load10
  apply W_load11
  apply W_load13
  apply W_store13
  refine W_chunk 1 0 (by decide) hp1 hp0 rfl (fun x c => (congrFun (same_59 _ _ _) _).trans (full_chunk hqt hsh 1 (off15 ha hb k0_t4 hk8 (r := 3) (by omega)) rfl rfl rfl (by omega) (by omega) (by omega) x c)) ?_
  intro p hp1 hp0
  apply W_pure e
  try dsimp only
  apply W_load9
  apply W_load12
  apply W_load13
  apply W_load12
  apply W_store12
  refine W_acc2048 hvt 1 0 (by decide) ha1 ha0 hp1 (by omega) (by omega) (off16 ha hb k0_t4 hk8) rfl rfl rfl rfl (same_69 _ _ _) ?_
  intro acc ha1 ha0
  exact W_pure e ⟨ho, hvt, hqt, hsh, ha0, ha1.to (by omega)⟩

/-- Four more blocks of keys for both heads. -/
theorem t6_body_v (e : Env nD τ sig Ideal Λ₀) (i : grid0.Coords) (k0_t1 : Fin k0_t1_loop.trips) {a b q : ℕ} (ha : a < 32) (hb : b < 32)
    (hM : max a b ≤ 4 * (i 2).val + k0_t1.val) (hq : q = 4 * (i 2).val + k0_t1.val) {lo : Fin 2 → ℕ} (hl0 : lo 0 = a) (hl1 : lo 1 = b)
    (hw : k0_chk1 i k0_t1 (wd a) (wd b)) {shf : Fin 2 → Fin 512 → EReal} {o : Vec Ideal S1x2048x128 .bf16} (v4 v15 v72 c4_i32_31 : BitVec 32) (k0_t6 : Fin (k0_t6_loop i k0_t1 (wd a) (wd b)).trips) (u : Unit) (s : St Ideal) (hs : Mid e k0_t1.val q shf lo o (512 * (max a b + 4 * k0_t6.val)) (512 * (max a b + 4 * k0_t6.val)) s) :
    W e (k0_t6_body i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v4 (wd a) (wd b) hw v15 v72 c4_i32_31 k0_t6 u) s (fun _ s' => Mid e k0_t1.val q shf lo o (512 * (max a b + 4 * (k0_t6.val + 1))) (512 * (max a b + 4 * (k0_t6.val + 1))) s') := by
  obtain ⟨o', vt, qt, sh, acc, p⟩ := s
  obtain ⟨ho, hvt, hqt, hsh, ha0, ha1⟩ := hs
  try dsimp only at ho hvt hqt hsh ha0 ha1
  have hql := q_lt i k0_t1
  have hk : k0_t6.val < (4 * (i 2).val + k0_t1.val - max a b) / 4 := lt_of_lt_of_eq k0_t6.isLt (t6_trips i k0_t1 ha hb hM)
  have hk8 : k0_t6.val < 8 := by omega
  unfold k0_t6_body
  dsimp only
  apply W_bind e
  rw [k0_part21_eq_skeleton]
  unfold k0_part21_skel
  dsimp only
  apply W_load6
  apply W_load10
  apply W_load11
  apply W_load13
  apply W_store13
  refine W_chunk 0 1 (by decide) (PC_zero e k0_t1.val q shf 0 (512 * (max a b + 4 * k0_t6.val)) p) (PC_zero e k0_t1.val q shf 1 0 p) rfl (fun x c => (congrFun (same_73 _ _ _) _).trans (full_chunk hqt hsh 0 (off25 i k0_t1 ha hb k0_t6 hk8 (r := 0) (by omega)) rfl rfl rfl (by omega) (by omega) (by omega) x c)) ?_
  intro p hp0 hp1
  apply W_load6
  apply W_load10
  apply W_load11
  apply W_load13
  apply W_pure e
  try dsimp only
  apply W_bind e
  rw [k0_part22_eq_skeleton]
  unfold k0_part22_skel
  dsimp only
  apply W_store13
  refine W_chunk 0 1 (by decide) hp0 hp1 rfl (fun x c => (congrFun (same_75_74 _ _ _) _).trans (full_chunk hqt hsh 0 (off25 i k0_t1 ha hb k0_t6 hk8 (r := 1) (by omega)) rfl rfl rfl (by omega) (by omega) (by omega) x c)) ?_
  intro p hp0 hp1
  apply W_load6
  apply W_load10
  apply W_load11
  apply W_load13
  apply W_store13
  refine W_chunk 0 1 (by decide) hp0 hp1 rfl (fun x c => (congrFun (same_76 _ _ _) _).trans (full_chunk hqt hsh 0 (off25 i k0_t1 ha hb k0_t6 hk8 (r := 2) (by omega)) rfl rfl rfl (by omega) (by omega) (by omega) x c)) ?_
  intro p hp0 hp1
  apply W_load6
  apply W_load10
  apply W_load11
  apply W_load13
  apply W_store13
  refine W_chunk 0 1 (by decide) hp0 hp1 rfl (fun x c => (congrFun (same_77 _ _ _) _).trans (full_chunk hqt hsh 0 (off25 i k0_t1 ha hb k0_t6 hk8 (r := 3) (by omega)) rfl rfl rfl (by omega) (by omega) (by omega) x c)) ?_
  intro p hp0 hp1
  apply W_pure e
  try dsimp only
  apply W_bind e
  rw [k0_part23_eq_skeleton]
  unfold k0_part23_skel
  dsimp only
  apply W_load6
  apply W_load10
  apply W_load11
  apply W_load13
  apply W_store13
  refine W_chunk 1 0 (by decide) (PC_zero e k0_t1.val q shf 1 (512 * (max a b + 4 * k0_t6.val)) p) hp0 rfl (fun x c => (congrFun (same_78 _ _ _) _).trans (full_chunk hqt hsh 1 (off26 i k0_t1 ha hb k0_t6 hk8 (r := 0) (by omega)) rfl rfl rfl (by omega) (by omega) (by omega) x c)) ?_
  intro p hp1 hp0
  apply W_load6
  apply W_load10
  apply W_load11
  apply W_load13
  apply W_store13
  refine W_chunk 1 0 (by decide) hp1 hp0 rfl (fun x c => (congrFun (same_79 _ _ _) _).trans (full_chunk hqt hsh 1 (off26 i k0_t1 ha hb k0_t6 hk8 (r := 1) (by omega)) rfl rfl rfl (by omega) (by omega) (by omega) x c)) ?_
  intro p hp1 hp0
  apply W_pure e
  try dsimp only
  apply W_bind e
  rw [k0_part24_eq_skeleton]
  unfold k0_part24_skel
  dsimp only
  apply W_load6
  apply W_load10
  apply W_load11
  apply W_load13
  apply W_store13
  refine W_chunk 1 0 (by decide) hp1 hp0 rfl (fun x c => (congrFun (same_80 _ _ _) _).trans (full_chunk hqt hsh 1 (off26 i k0_t1 ha hb k0_t6 hk8 (r := 2) (by omega)) rfl rfl rfl (by omega) (by omega) (by omega) x c)) ?_
  intro p hp1 hp0
  apply W_load6
  apply W_load10
  apply W_load11
  apply W_load13
  apply W_store13
  refine W_chunk 1 0 (by decide) hp1 hp0 rfl (fun x c => (congrFun (same_81 _ _ _) _).trans (full_chunk hqt hsh 1 (off26 i k0_t1 ha hb k0_t6 hk8 (r := 3) (by omega)) rfl rfl rfl (by omega) (by omega) (by omega) x c)) ?_
  intro p hp1 hp0
  apply W_load9
  apply W_load12
  apply W_pure e
  try dsimp only
  apply W_load13
  apply W_load12
  apply W_store12
  refine W_acc2048 hvt 0 1 (by decide) ha0 ha1 hp0 (by omega) (by omega) (off27 i k0_t1 ha hb k0_t6 hk8) rfl rfl rfl rfl (same_132_82 _ _ _) ?_
  intro acc ha0 ha1
  apply W_load9
  apply W_load12
  apply W_load13
  apply W_load12
  apply W_store12
  refine W_acc2048 hvt 1 0 (by decide) ha1 ha0 hp1 (by omega) (by omega) (off28 i k0_t1 ha hb k0_t6 hk8) rfl rfl rfl rfl (same_133 _ _ _) ?_
  intro acc ha1 ha0
  exact W_pure e ⟨ho, hvt, hqt, hsh, ha0.to (by omega), ha1.to (by omega)⟩

end Cert.Flash
-- ==== Proof.Flash.Stretch.lean ====
/-
  The shifts, and the first stretch of keys: each head from its own first block up to the later of the two.
-/
module

public import proofs.«01_k».proof.Proof.Flash.Sweeps

@[expose] public section

namespace Cert.Flash

open Idealize.ShloMosaic Idealize.SL.Sem
open Cert.KernelIdeal Cert.KernelIdeal.Gen

theorem same_53 (x : Vec Ideal S1x512x128 .bf16) (y : Vec Ideal S128x512 .bf16) (z : Vec Ideal S1x1x512 .f32) : k0_pay53 x y z = k0_pay37 x y z := rfl
theorem same_71 (x : Vec Ideal S1x512x128 .bf16) (y : Vec Ideal S128x512 .bf16) (z : Vec Ideal S1x1x512 .f32) : k0_pay71 x y z = k0_pay37 x y z := rfl
theorem same_72 (x : Vec Ideal S128x512 .bf16) (y : Vec Ideal S1x128x512 .f32) (z : Vec Ideal S1x512x512 .bf16) : k0_pay72 x y z = k0_pay54 x y z := rfl
theorem same_47 (x : Vec Ideal S1x512x128 .bf16) (y : Vec Ideal S128x512 .bf16) (z : Vec Ideal S1x1x512 .f32) : k0_pay47 x y z = k0_pay37 x y z := rfl
theorem same_48 (x : Vec Ideal S1x512x128 .bf16) (y : Vec Ideal S128x512 .bf16) (z : Vec Ideal S1x1x512 .f32) : k0_pay48 x y z = k0_pay37 x y z := rfl
theorem same_49 (x : Vec Ideal S1x512x128 .bf16) (y : Vec Ideal S128x512 .bf16) (z : Vec Ideal S1x1x512 .f32) : k0_pay49 x y z = k0_pay37 x y z := rfl
theorem same_50 (x : Vec Ideal S1x512x128 .bf16) (y : Vec Ideal S128x512 .bf16) (z : Vec Ideal S1x1x512 .f32) : k0_pay50 x y z = k0_pay37 x y z := rfl
theorem same_127 (x : Vec Ideal S1x512x128 .bf16) (y : Vec Ideal S128x512 .bf16) (z : Vec Ideal S1x1x512 .f32) : k0_pay127 x y z = k0_pay37 x y z := rfl
theorem same_65 (x : Vec Ideal S1x512x128 .bf16) (y : Vec Ideal S128x512 .bf16) (z : Vec Ideal S1x1x512 .f32) : k0_pay65 x y z = k0_pay37 x y z := rfl
theorem same_66 (x : Vec Ideal S1x512x128 .bf16) (y : Vec Ideal S128x512 .bf16) (z : Vec Ideal S1x1x512 .f32) : k0_pay66 x y z = k0_pay37 x y z := rfl
theorem same_129 (x : Vec Ideal S128x1024 .bf16) (y : Vec Ideal S1x128x512 .f32) (z : Vec Ideal S1x1024x512 .bf16) : k0_pay129 x y z = k0_pay126 x y z := rfl
theorem same_67 (x : Vec Ideal S1x512x128 .bf16) (y : Vec Ideal S128x512 .bf16) (z : Vec Ideal S1x1x512 .f32) : k0_pay67 x y z = k0_pay37 x y z := rfl
theorem same_68 (x : Vec Ideal S1x512x128 .bf16) (y : Vec Ideal S128x512 .bf16) (z : Vec Ideal S1x1x512 .f32) : k0_pay68 x y z = k0_pay37 x y z := rfl
theorem same_130 (x : Vec Ideal S1x512x128 .bf16) (y : Vec Ideal S128x512 .bf16) (z : Vec Ideal S1x1x512 .f32) : k0_pay130 x y z = k0_pay37 x y z := rfl
theorem same_131 (x : Vec Ideal S128x1536 .bf16) (y : Vec Ideal S1x128x512 .f32) (z : Vec Ideal S1x1536x512 .bf16) : k0_pay131 x y z = k0_pay128 x y z := rfl

/-- A constant of the shifts is a number. -/
theorem real_bound : ∃ x : ℝ, Ideal.ofBits .f32 0x3F828F5C#32 = x := by
  simp [Ideal.ofBits, Ideal.ieee]
  exact ⟨_, rfl⟩

theorem real_shift {f : Fin 64 → EReal} (hf : ∀ l, ∃ x : ℝ, f l = x) {z : EReal} (hz : ∃ x : ℝ, z = x) :
    ∃ x : ℝ, Ideal.sqrt (∑ l : Fin 64, f l * f l) * (Ideal.ofBits FTy.f32 0x3F828F5C#32 * z) = x := by
  have h : ∃ x : ℝ, 0 ≤ x ∧ (∑ l : Fin 64, f l * f l) = (x : EReal) := by
    refine Finset.sum_induction _ (fun y : EReal => ∃ x : ℝ, 0 ≤ x ∧ y = (x : EReal)) ?_ ⟨0, le_refl _, rfl⟩ fun l _ => ?_
    · rintro _ _ ⟨x, hx, rfl⟩ ⟨y, hy, rfl⟩
      exact ⟨x + y, add_nonneg hx hy, (EReal.coe_add x y).symm⟩
    · obtain ⟨x, hx⟩ := hf l
      exact ⟨x * x, mul_self_nonneg x, by rw [hx, EReal.coe_mul]⟩
  obtain ⟨x, hx, h⟩ := h
  obtain ⟨y, hy⟩ := real_bound
  obtain ⟨z, rfl⟩ := hz
  refine ⟨Real.sqrt x * (y * z), ?_⟩
  rw [h, hy, Ideal.sqrt_coe, if_neg (not_lt.mpr hx), EReal.coe_mul, EReal.coe_mul]

section
variable {Λ : Labels} {e : Env nD τ sig Ideal Λ} {t : ℕ} {qt : Vec Ideal S256x512 .bf16}

theorem real_q (hq : QT e t qt) (hQ : ∀ r c, ∃ x : ℝ, e.t5 (ix3 0 r c) = x) (j : S256x512.Idx) : ∃ x : ℝ, qt j = x := by
  have h : j = ix2 (n0 := 256) (n1 := 512) (j 0) (j 1) := by
    funext x
    match x with
    | ⟨0, _⟩ => rfl
    | ⟨1, _⟩ => rfl
  have h' : qt j = e.t5 (ix3 0 (qrow t (j 1)) (j 0)) := (congrArg qt h).trans (hq (j 0) (j 1))
  rw [h']
  exact hQ _ _

/-- The first head's shifts are numbers. -/
theorem shift_real (hq : QT e t qt) (hQ : ∀ r c, ∃ x : ℝ, e.t5 (ix3 0 r c) = x) {z : EReal} (hz : ∃ x : ℝ, z = x)
    {f : S64x512.Idx → S256x512.Idx} (c : Fin 512) :
    ∃ x : ℝ, k0_pay124 (k0_pay123 fun j => qt (f j)) z (ix3 0 0 c) = x := by
  rw [pay_shift]
  exact real_shift (fun l => real_q hq hQ _) hz

/-- The second head's shifts are numbers. -/
theorem shift_real' (hq : QT e t qt) (hQ : ∀ r c, ∃ x : ℝ, e.t5 (ix3 0 r c) = x) {z : EReal} (hz : ∃ x : ℝ, z = x)
    {f : S64x512.Idx → S256x512.Idx} (c : Fin 512) : ∃ x : ℝ, k0_pay125 (fun j => qt (f j)) z (ix3 0 0 c) = x := by
  rw [pay_shift']
  exact real_shift (fun l => real_q hq hQ _) hz

end

/-- The first head up to the later of the two first blocks, all but a remainder of two or three blocks. -/
theorem part13_v (e : Env nD τ sig Ideal Λ₀) (i : grid0.Coords) (k0_t1 : Fin k0_t1_loop.trips) {a b q : ℕ} (ha : a < 32) (hb : b < 32)
    (hM : max a b ≤ 4 * (i 2).val + k0_t1.val) (hq : q = 4 * (i 2).val + k0_t1.val) {lo : Fin 2 → ℕ} (hl0 : lo 0 = a) (hl1 : lo 1 = b)
    (hw : k0_chk1 i k0_t1 (wd a) (wd b)) {shf : Fin 2 → Fin 512 → EReal} {o : Vec Ideal S1x2048x128 .bf16} {n1 : ℕ} (v15 : BitVec 32) (k0_h2 : k0_cond2 (wd a) (wd b) = 1#1) (s : St Ideal) (hs : Mid e k0_t1.val q shf lo o (512 * a) (n1) s) :
    W e (k0_part13 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 (wd a) (wd b) hw v15 k0_h2) s (fun _ s' => ∃ n0, Mid e k0_t1.val q shf lo o (n0) (n1) s' ∧ ((max a b - a) % 4 ≤ 1 ∧ n0 = 512 * max a b ∨ 1 < (max a b - a) % 4 ∧ n0 = 512 * (max a b - (max a b - a) % 4))) := by
  obtain ⟨o', vt, qt, sh, acc, p⟩ := s
  obtain ⟨ho, hvt, hqt, hsh, ha0, ha1⟩ := hs
  try dsimp only at ho hvt hqt hsh ha0 ha1
  have hql := q_lt i k0_t1
  rw [k0_part13_eq_skeleton]
  unfold k0_part13_skel
  dsimp only
  refine W_seq e (W_for e _ _ _ _ (fun k s => Mid e k0_t1.val q shf lo o (512 * (a + 4 * k)) (n1) s) ⟨ho, hvt, hqt, hsh, ha0.to (by omega), ha1⟩ (fun k u s hs => t2_body_v e i k0_t1 ha hb hM hq hl0 hl1 hw _ _ k u s hs)) ?_
  rintro _ ⟨o', vt, qt, sh, acc, p⟩ ⟨ho, hvt, hqt, hsh, ha0, ha1⟩
  try dsimp only at ho hvt hqt hsh ha0 ha1
  rw [t2_trips ha hb] at ha0
  obtain ⟨n0, hn⟩ : ∃ n0, n0 = 512 * (a + 4 * ((max a b - a) / 4)) := ⟨_, rfl⟩
  rw [← hn] at ha0
  refine W_seq e (W_for e _ _ _ _ (fun _ s => Mid e k0_t1.val q shf lo o (n0) (n1) s) ⟨ho, hvt, hqt, hsh, ha0, ha1⟩ (fun k _ _ _ => absurd (lt_of_lt_of_eq k.isLt (t3_trips ha hb)) (Nat.not_lt_zero _))) ?_
  rintro _ ⟨o', vt, qt, sh, acc, p⟩ ⟨ho, hvt, hqt, hsh, ha0, ha1⟩
  try dsimp only at ho hvt hqt hsh ha0 ha1
  refine W_join e (fun s => ∃ n0, Mid e k0_t1.val q shf lo o (n0) (n1) s ∧ ((max a b - a) % 4 ≤ 1 ∧ n0 = 512 * max a b ∨ 1 < (max a b - a) % 4 ∧ n0 = 512 * (max a b - (max a b - a) % 4))) (fun h => ⟨n0, ⟨ho, hvt, hqt, hsh, ha0, ha1⟩, ?_⟩) ?hk101 ?hp101
  case hp101 =>
    intro h1 hk
    have hr := (cond3 ha hb).1 h1
    obtain rfl : n0 = 512 * (max a b - 1) := by omega
    apply W_load6
    apply W_load10
    apply W_load11
    apply W_load13
    apply W_store13
    refine W_chunk 0 1 (by decide) (PC_zero e k0_t1.val q shf 0 (512 * (max a b - 1)) p) (PC_zero e k0_t1.val q shf 1 0 p) rfl (fun x c => (congrFun (same_53 _ _ _) _).trans (full_chunk hqt hsh 0 (off9 ha hb (by omega)) rfl rfl rfl (by omega) (by omega) (by omega) x c)) ?_
    intro p hp0 hp1
    apply W_load9
    apply W_load12
    apply W_load13
    apply W_load12
    apply W_store12
    refine W_acc512 hvt 0 1 (by decide) ha0 ha1 hp0 (by omega) (by omega) (off10 ha hb (by omega)) rfl rfl rfl rfl (rfl) ?_
    intro acc ha0 ha1
    exact hk _ ⟨_, ⟨ho, hvt, hqt, hsh, ha0, ha1⟩, by omega⟩
  case hk101 =>
    rintro ⟨o', vt, qt, sh, acc, p⟩ ⟨n0, ⟨ho, hvt, hqt, hsh, ha0, ha1⟩, hn⟩
    try dsimp only at ho hvt hqt hsh ha0 ha1
    exact W_pure e ⟨n0, ⟨ho, hvt, hqt, hsh, ha0, ha1⟩, hn⟩
  have hr := mt (cond3 ha hb).2 h
  omega

/-- The second head up to the later of the two first blocks, all but a remainder of two or three blocks. -/
theorem part20_v (e : Env nD τ sig Ideal Λ₀) (i : grid0.Coords) (k0_t1 : Fin k0_t1_loop.trips) {a b q : ℕ} (ha : a < 32) (hb : b < 32)
    (hM : max a b ≤ 4 * (i 2).val + k0_t1.val) (hq : q = 4 * (i 2).val + k0_t1.val) {lo : Fin 2 → ℕ} (hl0 : lo 0 = a) (hl1 : lo 1 = b)
    (hw : k0_chk1 i k0_t1 (wd a) (wd b)) {shf : Fin 2 → Fin 512 → EReal} {o : Vec Ideal S1x2048x128 .bf16} {n1 : ℕ} (v15 : BitVec 32) (k0_h6 : k0_cond6 (wd a) (wd b) = 1#1) (s : St Ideal) (hs : Mid e k0_t1.val q shf lo o (n1) (512 * b) s) :
    W e (k0_part20 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 (wd a) (wd b) hw v15 k0_h6) s (fun _ s' => ∃ n0, Mid e k0_t1.val q shf lo o (n1) (n0) s' ∧ ((max a b - b) % 4 ≤ 1 ∧ n0 = 512 * max a b ∨ 1 < (max a b - b) % 4 ∧ n0 = 512 * (max a b - (max a b - b) % 4))) := by
  obtain ⟨o', vt, qt, sh, acc, p⟩ := s
  obtain ⟨ho, hvt, hqt, hsh, ha0, ha1⟩ := hs
  try dsimp only at ho hvt hqt hsh ha0 ha1
  have hql := q_lt i k0_t1
  rw [k0_part20_eq_skeleton]
  unfold k0_part20_skel
  dsimp only
  refine W_seq e (W_for e _ _ _ _ (fun k s => Mid e k0_t1.val q shf lo o (n1) (512 * (b + 4 * k)) s) ⟨ho, hvt, hqt, hsh, ha0, ha1.to (by omega)⟩ (fun k u s hs => t4_body_v e i k0_t1 ha hb hM hq hl0 hl1 hw _ _ k u s hs)) ?_
  rintro _ ⟨o', vt, qt, sh, acc, p⟩ ⟨ho, hvt, hqt, hsh, ha0, ha1⟩
  try dsimp only at ho hvt hqt hsh ha0 ha1
  rw [t4_trips ha hb] at ha1
  obtain ⟨n0, hn⟩ : ∃ n0, n0 = 512 * (b + 4 * ((max a b - b) / 4)) := ⟨_, rfl⟩
  rw [← hn] at ha1
  refine W_seq e (W_for e _ _ _ _ (fun _ s => Mid e k0_t1.val q shf lo o (n1) (n0) s) ⟨ho, hvt, hqt, hsh, ha0, ha1⟩ (fun k _ _ _ => absurd (lt_of_lt_of_eq k.isLt (t5_trips ha hb)) (Nat.not_lt_zero _))) ?_
  rintro _ ⟨o', vt, qt, sh, acc, p⟩ ⟨ho, hvt, hqt, hsh, ha0, ha1⟩
  try dsimp only at ho hvt hqt hsh ha0 ha1
  refine W_join e (fun s => ∃ n0, Mid e k0_t1.val q shf lo o (n1) (n0) s ∧ ((max a b - b) % 4 ≤ 1 ∧ n0 = 512 * max a b ∨ 1 < (max a b - b) % 4 ∧ n0 = 512 * (max a b - (max a b - b) % 4))) (fun h => ⟨n0, ⟨ho, hvt, hqt, hsh, ha0, ha1⟩, ?_⟩) ?hk102 ?hp102
  case hp102 =>
    intro h1 hk
    have hr := (cond7 ha hb).1 h1
    obtain rfl : n0 = 512 * (max a b - 1) := by omega
    apply W_load6
    apply W_load10
    apply W_load11
    apply W_load13
    apply W_store13
    refine W_chunk 1 0 (by decide) (PC_zero e k0_t1.val q shf 1 (512 * (max a b - 1)) p) (PC_zero e k0_t1.val q shf 0 0 p) rfl (fun x c => (congrFun (same_71 _ _ _) _).trans (full_chunk hqt hsh 1 (off19 ha hb (by omega)) rfl rfl rfl (by omega) (by omega) (by omega) x c)) ?_
    intro p hp1 hp0
    apply W_load9
    apply W_load12
    apply W_load13
    apply W_load12
    apply W_store12
    refine W_acc512 hvt 1 0 (by decide) ha1 ha0 hp1 (by omega) (by omega) (off20 ha hb (by omega)) rfl rfl rfl rfl (same_72 _ _ _) ?_
    intro acc ha1 ha0
    exact hk _ ⟨_, ⟨ho, hvt, hqt, hsh, ha0, ha1⟩, by omega⟩
  case hk102 =>
    rintro ⟨o', vt, qt, sh, acc, p⟩ ⟨n0, ⟨ho, hvt, hqt, hsh, ha0, ha1⟩, hn⟩
    try dsimp only at ho hvt hqt hsh ha0 ha1
    exact W_pure e ⟨n0, ⟨ho, hvt, hqt, hsh, ha0, ha1⟩, hn⟩
  have hr := mt (cond7 ha hb).2 h
  omega

/-- From cleared accumulators: the shifts, and each head up to the later of the two first blocks. -/
theorem part41_v (e : Env nD τ sig Ideal Λ₀) (i : grid0.Coords) (k0_t1 : Fin k0_t1_loop.trips) {a b q : ℕ} (ha : a < 32) (hb : b < 32)
    (hM : max a b ≤ 4 * (i 2).val + k0_t1.val) (hq : q = 4 * (i 2).val + k0_t1.val) {lo : Fin 2 → ℕ} (hl0 : lo 0 = a) (hl1 : lo 1 = b)
    (hw : k0_chk1 i k0_t1 (wd a) (wd b)) {o : Vec Ideal S1x2048x128 .bf16} (hK : ∀ j, ∃ x : ℝ, e.t4 j = x) (hQ : ∀ r c, ∃ x : ℝ, e.t5 (ix3 0 r c) = x)
    (arg0 arg1 v15 c16_i32_14 : BitVec 32) (v4 : BitVec 32) (hv4 : Scalar.subi v4 v15 = wd (q - max a b)) (v35 : FVec Ideal S1x512 .f32)
    (h35 : ∀ (z : EReal) (c : Fin 512), (∃ x : ℝ, z = x) → ∃ x : ℝ, k0_pay124 v35 z (ix3 0 0 c) = x) (s : St Ideal)
    (ho : s.o = o) (hvt : VT e 16384 s.vt) (hqt : QT e k0_t1.val s.qt) (hz : ∀ hh d c, s.acc (ix3 hh d c) = 0) :
    W e (k0_part41 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 arg0 arg1 k0_t1 v4 (wd a) (wd b) hw v15 v35 c16_i32_14) s (fun r s' => r = ⟨wd (q - max a b), 4#32⟩ ∧ ∃ shf : Fin 2 → Fin 512 → EReal, (∀ hh c, ∃ x : ℝ, shf hh c = x) ∧ Mid e k0_t1.val q shf lo o (512 * max a b) (512 * max a b) s') := by
  obtain ⟨o', vt, qt, sh, acc, p⟩ := s
  try dsimp only at ho hvt hqt hz
  have hql := q_lt i k0_t1
  rw [k0_part41_eq_skeleton]
  unfold k0_part41_skel
  dsimp only
  apply W_smem4
  apply W_load11
  apply W_store11
  refine W_shift 0 rfl ?_
  intro sh₁ hs0 hs0'
  apply W_load10
  apply W_smem4
  apply W_load11
  apply W_store11
  refine W_shift 1 rfl ?_
  intro sh₂ hs1 hs1'
  have hreal : ∀ (hh : Fin 2) (c : Fin 512), ∃ x : ℝ, sh₂ (ix3 hh 0 c) = x := by
    intro hh c
    match hh with
    | 0 => rw [hs1' 0 (by decide) c, hs0 c]; exact h35 _ c (hK _)
    | 1 => rw [hs1 c]; exact shift_real' hqt hQ (hK _) c
  obtain ⟨shf, hshf⟩ : ∃ shf : Fin 2 → Fin 512 → EReal, shf = fun hh c => sh₂ (ix3 hh 0 c) := ⟨_, rfl⟩
  have hsr : ∀ hh c, ∃ x : ℝ, shf hh c = x := by rw [hshf]; exact hreal
  have hsh : SH shf sh₂ := by rw [hshf]; exact fun _ _ => rfl
  have ha0 : AC e k0_t1.val q shf lo 0 (512 * a) acc := hl0 ▸ AC_zero hz 0
  have ha1 : AC e k0_t1.val q shf lo 1 (512 * b) acc := hl1 ▸ AC_zero hz 1
  refine W_join e (fun s => Mid e k0_t1.val q shf lo o (512 * max a b) (512 * b) s) (fun h => ⟨ho, hvt, hqt, hsh, ha0.to ?_, ha1⟩) ?hk2 ?hp2
  case hp2 =>
    intro k0_h2 hk
    have hlt := (cond2 ha hb).1 k0_h2
    apply W_seq e (part13_v e i k0_t1 ha hb hM hq hl0 hl1 hw _ k0_h2 _ ⟨ho, hvt, hqt, hsh, ha0, ha1⟩)
    rintro ⟨v138, c4⟩ ⟨o', vt, qt, sh, acc, p⟩ ⟨n0, ⟨ho, hvt, hqt, hsh, ha0, ha1⟩, hn⟩
    try dsimp only at ho hvt hqt hsh ha0 ha1
    try dsimp only
    refine W_join e (fun s => ∃ n0, Mid e k0_t1.val q shf lo o (n0) ((512 * b)) s ∧ ((max a b - a) % 4 ≤ 2 ∧ n0 = 512 * max a b ∨ 2 < (max a b - a) % 4 ∧ n0 = 512 * (max a b - (max a b - a) % 4))) (fun h => ⟨n0, ⟨ho, hvt, hqt, hsh, ha0, ha1⟩, ?_⟩) ?hk103 ?hp103
    case hp103 =>
      intro h2 hk
      have hr := (cond4 ha hb).1 h2
      obtain rfl : n0 = 512 * (max a b - 2) := by omega
      apply W_bind e
      rw [k0_part11_eq_skeleton]
      unfold k0_part11_skel
      dsimp only
      apply W_load6
      apply W_load10
      apply W_load11
      apply W_load13
      apply W_store13
      refine W_chunk 0 1 (by decide) (PC_zero e k0_t1.val q shf 0 (512 * (max a b - 2)) p) (PC_zero e k0_t1.val q shf 1 0 p) rfl (fun x c => (congrFun (same_47 _ _ _) _).trans (full_chunk hqt hsh 0 (off11 ha hb (by omega) (r := 0) (by omega)) rfl rfl rfl (by omega) (by omega) (by omega) x c)) ?_
      intro p hp0 hp1
      apply W_load6
      apply W_load10
      apply W_load11
      apply W_load13
      apply W_pure e
      try dsimp only
      apply W_store13
      refine W_chunk 0 1 (by decide) hp0 hp1 rfl (fun x c => (congrFun (same_48 _ _ _) _).trans (full_chunk hqt hsh 0 (off11 ha hb (by omega) (r := 1) (by omega)) rfl rfl rfl (by omega) (by omega) (by omega) x c)) ?_
      intro p hp0 hp1
      apply W_load9
      apply W_load12
      apply W_load13
      apply W_load12
      apply W_store12
      refine W_acc1024 hvt 0 1 (by decide) ha0 ha1 hp0 (by omega) (by omega) (off12 ha hb (by omega)) rfl rfl rfl rfl (rfl) ?_
      intro acc ha0 ha1
      exact hk _ ⟨_, ⟨ho, hvt, hqt, hsh, ha0, ha1⟩, by omega⟩
    case hk103 =>
      rintro ⟨o', vt, qt, sh, acc, p⟩ ⟨n0, ⟨ho, hvt, hqt, hsh, ha0, ha1⟩, hn⟩
      try dsimp only at ho hvt hqt hsh ha0 ha1
      refine W_join e (fun s => ∃ n0, Mid e k0_t1.val q shf lo o (n0) ((512 * b)) s ∧ ((max a b - a) % 4 ≤ 3 ∧ n0 = 512 * max a b ∨ 3 < (max a b - a) % 4 ∧ n0 = 512 * (max a b - (max a b - a) % 4))) (fun h => ⟨n0, ⟨ho, hvt, hqt, hsh, ha0, ha1⟩, ?_⟩) ?hk104 ?hp104
      case hp104 =>
        intro h3 hk
        have hr := (cond5 ha hb).1 h3
        obtain rfl : n0 = 512 * (max a b - 3) := by omega
        apply W_bind e
        rw [k0_part12_eq_skeleton]
        unfold k0_part12_skel
        dsimp only
        apply W_load6
        apply W_load10
        apply W_load11
        apply W_load13
        apply W_store13
        refine W_chunk 0 1 (by decide) (PC_zero e k0_t1.val q shf 0 (512 * (max a b - 3)) p) (PC_zero e k0_t1.val q shf 1 0 p) rfl (fun x c => (congrFun (same_49 _ _ _) _).trans (full_chunk hqt hsh 0 (off13 ha hb (by omega) (r := 0) (by omega)) rfl rfl rfl (by omega) (by omega) (by omega) x c)) ?_
        intro p hp0 hp1
        apply W_load6
        apply W_load10
        apply W_load11
        apply W_load13
        apply W_pure e
        try dsimp only
        apply W_store13
        refine W_chunk 0 1 (by decide) hp0 hp1 rfl (fun x c => (congrFun (same_50 _ _ _) _).trans (full_chunk hqt hsh 0 (off13 ha hb (by omega) (r := 1) (by omega)) rfl rfl rfl (by omega) (by omega) (by omega) x c)) ?_
        intro p hp0 hp1
        apply W_load6
        apply W_load10
        apply W_load11
        apply W_load13
        apply W_store13
        refine W_chunk 0 1 (by decide) hp0 hp1 rfl (fun x c => (congrFun (same_127 _ _ _) _).trans (full_chunk hqt hsh 0 (off13 ha hb (by omega) (r := 2) (by omega)) rfl rfl rfl (by omega) (by omega) (by omega) x c)) ?_
        intro p hp0 hp1
        apply W_load9
        apply W_load12
        apply W_load13
        apply W_load12
        apply W_store12
        refine W_acc1536 hvt 0 1 (by decide) ha0 ha1 hp0 (by omega) (by omega) (off14 ha hb (by omega)) rfl rfl rfl rfl (rfl) ?_
        intro acc ha0 ha1
        exact hk _ ⟨_, ⟨ho, hvt, hqt, hsh, ha0, ha1⟩, by omega⟩
      case hk104 =>
        rintro ⟨o', vt, qt, sh, acc, p⟩ ⟨n0, ⟨ho, hvt, hqt, hsh, ha0, ha1⟩, hn⟩
        try dsimp only at ho hvt hqt hsh ha0 ha1
        exact hk _ ⟨ho, hvt, hqt, hsh, ha0.to (by omega), ha1⟩
      have hr := mt (cond5 ha hb).2 h
      omega
    have hr := mt (cond4 ha hb).2 h
    omega
  case hk2 =>
    rintro ⟨o', vt, qt, sh, acc, p⟩ ⟨ho, hvt, hqt, hsh, ha0, ha1⟩
    try dsimp only at ho hvt hqt hsh ha0 ha1
    refine W_join e (fun s => Mid e k0_t1.val q shf lo o (512 * max a b) (512 * max a b) s) (fun h => ⟨ho, hvt, hqt, hsh, ha0, ha1.to ?_⟩) ?hk6 ?hp6
    case hp6 =>
      intro k0_h6 hk
      have hlt := (cond6 ha hb).1 k0_h6
      apply W_seq e (part20_v e i k0_t1 ha hb hM hq hl0 hl1 hw _ k0_h6 _ ⟨ho, hvt, hqt, hsh, ha0, ha1⟩)
      rintro ⟨v138, c4⟩ ⟨o', vt, qt, sh, acc, p⟩ ⟨n0, ⟨ho, hvt, hqt, hsh, ha0, ha1⟩, hn⟩
      try dsimp only at ho hvt hqt hsh ha0 ha1
      try dsimp only
      refine W_join e (fun s => ∃ n0, Mid e k0_t1.val q shf lo o ((512 * max a b)) (n0) s ∧ ((max a b - b) % 4 ≤ 2 ∧ n0 = 512 * max a b ∨ 2 < (max a b - b) % 4 ∧ n0 = 512 * (max a b - (max a b - b) % 4))) (fun h => ⟨n0, ⟨ho, hvt, hqt, hsh, ha0, ha1⟩, ?_⟩) ?hk105 ?hp105
      case hp105 =>
        intro h2 hk
        have hr := (cond8 ha hb).1 h2
        obtain rfl : n0 = 512 * (max a b - 2) := by omega
        apply W_bind e
        rw [k0_part18_eq_skeleton]
        unfold k0_part18_skel
        dsimp only
        apply W_load6
        apply W_load10
        apply W_load11
        apply W_load13
        apply W_store13
        refine W_chunk 1 0 (by decide) (PC_zero e k0_t1.val q shf 1 (512 * (max a b - 2)) p) (PC_zero e k0_t1.val q shf 0 0 p) rfl (fun x c => (congrFun (same_65 _ _ _) _).trans (full_chunk hqt hsh 1 (off21 ha hb (by omega) (r := 0) (by omega)) rfl rfl rfl (by omega) (by omega) (by omega) x c)) ?_
        intro p hp1 hp0
        apply W_load6
        apply W_load10
        apply W_load11
        apply W_load13
        apply W_pure e
        try dsimp only
        apply W_store13
        refine W_chunk 1 0 (by decide) hp1 hp0 rfl (fun x c => (congrFun (same_66 _ _ _) _).trans (full_chunk hqt hsh 1 (off21 ha hb (by omega) (r := 1) (by omega)) rfl rfl rfl (by omega) (by omega) (by omega) x c)) ?_
        intro p hp1 hp0
        apply W_load9
        apply W_load12
        apply W_load13
        apply W_load12
        apply W_store12
        refine W_acc1024 hvt 1 0 (by decide) ha1 ha0 hp1 (by omega) (by omega) (off22 ha hb (by omega)) rfl rfl rfl rfl (same_129 _ _ _) ?_
        intro acc ha1 ha0
        exact hk _ ⟨_, ⟨ho, hvt, hqt, hsh, ha0, ha1⟩, by omega⟩
      case hk105 =>
        rintro ⟨o', vt, qt, sh, acc, p⟩ ⟨n0, ⟨ho, hvt, hqt, hsh, ha0, ha1⟩, hn⟩
        try dsimp only at ho hvt hqt hsh ha0 ha1
        refine W_join e (fun s => ∃ n0, Mid e k0_t1.val q shf lo o ((512 * max a b)) (n0) s ∧ ((max a b - b) % 4 ≤ 3 ∧ n0 = 512 * max a b ∨ 3 < (max a b - b) % 4 ∧ n0 = 512 * (max a b - (max a b - b) % 4))) (fun h => ⟨n0, ⟨ho, hvt, hqt, hsh, ha0, ha1⟩, ?_⟩) ?hk106 ?hp106
        case hp106 =>
          intro h3 hk
          have hr := (cond9 ha hb).1 h3
          obtain rfl : n0 = 512 * (max a b - 3) := by omega
          apply W_bind e
          rw [k0_part19_eq_skeleton]
          unfold k0_part19_skel
          dsimp only
          apply W_load6
          apply W_load10
          apply W_load11
          apply W_load13
          apply W_store13
          refine W_chunk 1 0 (by decide) (PC_zero e k0_t1.val q shf 1 (512 * (max a b - 3)) p) (PC_zero e k0_t1.val q shf 0 0 p) rfl (fun x c => (congrFun (same_67 _ _ _) _).trans (full_chunk hqt hsh 1 (off23 ha hb (by omega) (r := 0) (by omega)) rfl rfl rfl (by omega) (by omega) (by omega) x c)) ?_
          intro p hp1 hp0
          apply W_load6
          apply W_load10
          apply W_load11
          apply W_load13
          apply W_pure e
          try dsimp only
          apply W_store13
          refine W_chunk 1 0 (by decide) hp1 hp0 rfl (fun x c => (congrFun (same_68 _ _ _) _).trans (full_chunk hqt hsh 1 (off23 ha hb (by omega) (r := 1) (by omega)) rfl rfl rfl (by omega) (by omega) (by omega) x c)) ?_
          intro p hp1 hp0
          apply W_load6
          apply W_load10
          apply W_load11
          apply W_load13
          apply W_store13
          refine W_chunk 1 0 (by decide) hp1 hp0 rfl (fun x c => (congrFun (same_130 _ _ _) _).trans (full_chunk hqt hsh 1 (off23 ha hb (by omega) (r := 2) (by omega)) rfl rfl rfl (by omega) (by omega) (by omega) x c)) ?_
          intro p hp1 hp0
          apply W_load9
          apply W_load12
          apply W_load13
          apply W_load12
          apply W_store12
          refine W_acc1536 hvt 1 0 (by decide) ha1 ha0 hp1 (by omega) (by omega) (off24 ha hb (by omega)) rfl rfl rfl rfl (same_131 _ _ _) ?_
          intro acc ha1 ha0
          exact hk _ ⟨_, ⟨ho, hvt, hqt, hsh, ha0, ha1⟩, by omega⟩
        case hk106 =>
          rintro ⟨o', vt, qt, sh, acc, p⟩ ⟨n0, ⟨ho, hvt, hqt, hsh, ha0, ha1⟩, hn⟩
          try dsimp only at ho hvt hqt hsh ha0 ha1
          exact hk _ ⟨ho, hvt, hqt, hsh, ha0, ha1.to (by omega)⟩
        have hr := mt (cond9 ha hb).2 h
        omega
      have hr := mt (cond8 ha hb).2 h
      omega
    case hk6 =>
      rintro ⟨o', vt, qt, sh, acc, p⟩ ⟨ho, hvt, hqt, hsh, ha0, ha1⟩
      try dsimp only at ho hvt hqt hsh ha0 ha1
      exact W_pure e ⟨by rw [hv4], shf, hsr, ⟨ho, hvt, hqt, hsh, ha0, ha1⟩⟩
    have hr := mt (cond6 ha hb).2 h
    omega
  have hr := mt (cond2 ha hb).2 h
  omega

end Cert.Flash
-- ==== Proof.Flash.Diagonal.lean ====
/-
  The second stretch of keys: both heads from the later of their first blocks on, up to the diagonal.
-/
module

public import proofs.«01_k».proof.Proof.Flash.Sweeps

@[expose] public section

namespace Cert.Flash

open Idealize.ShloMosaic Idealize.SL.Sem
open Cert.KernelIdeal Cert.KernelIdeal.Gen

theorem same_95_94 (x : Vec Ideal S1x512x128 .bf16) (y : Vec Ideal S128x512 .bf16) (z : Vec Ideal S1x1x512 .f32) : k0_pay95 (k0_pay94 x y) z = k0_pay93 x y z := rfl
theorem same_96 (x : Vec Ideal S128x512 .bf16) (y : Vec Ideal S1x128x512 .f32) (z : Vec Ideal S1x512x512 .bf16) : k0_pay96 x y z = k0_pay54 x y z := rfl
theorem same_97 (x : Vec Ideal S128x512 .bf16) (y : Vec Ideal S1x128x512 .f32) (z : Vec Ideal S1x512x512 .bf16) : k0_pay97 x y z = k0_pay54 x y z := rfl
theorem same_98 (x : Vec Ideal S1x512x128 .bf16) (y : Vec Ideal S128x512 .bf16) (z : Vec Ideal S1x1x512 .f32) : k0_pay98 x y z = k0_pay37 x y z := rfl
theorem same_100_99 (x : Vec Ideal S1x512x128 .bf16) (y : Vec Ideal S128x512 .bf16) (z : Vec Ideal S1x1x512 .f32) : k0_pay100 (k0_pay99 x y z) = k0_pay93 x y z := rfl
theorem same_101 (x : Vec Ideal S1x512x128 .bf16) (y : Vec Ideal S128x512 .bf16) (z : Vec Ideal S1x1x512 .f32) : k0_pay101 x y z = k0_pay37 x y z := rfl
theorem same_136_102 (x : Vec Ideal S1x512x128 .bf16) (y : Vec Ideal S128x512 .bf16) (z : Vec Ideal S1x1x512 .f32) : k0_pay136 (k0_pay102 x y z) = k0_pay93 x y z := rfl
theorem same_137 (x : Vec Ideal S128x1024 .bf16) (y : Vec Ideal S1x128x512 .f32) (z : Vec Ideal S1x1024x512 .bf16) : k0_pay137 x y z = k0_pay126 x y z := rfl
theorem same_138 (x : Vec Ideal S128x1024 .bf16) (y : Vec Ideal S1x128x512 .f32) (z : Vec Ideal S1x1024x512 .bf16) : k0_pay138 x y z = k0_pay126 x y z := rfl

theorem left0 {n : ℕ} (hn : n < 32) : (Scalar.cmpi .ne (Scalar.extui (Scalar.cmpi .eq (Scalar.subi (wd n) (Scalar.muli 4#32 (Scalar.select (Scalar.andi (Scalar.cmpi .ne (Scalar.subi (Scalar.extui (Scalar.cmpi .sgt (wd n) 0#32)) (Scalar.extui (Scalar.cmpi .slt (wd n) 0#32))) (Scalar.subi (Scalar.extui (Scalar.cmpi .sgt 4#32 0#32)) (Scalar.extui (Scalar.cmpi .slt 4#32 0#32)))) (Scalar.cmpi .ne (Scalar.remsi (wd n) 4#32) 0#32)) (Scalar.subi (Scalar.divsi (wd n) 4#32) 1#32) (Scalar.divsi (wd n) 4#32)))) 0#32)) 0#32) = 1#1 ↔ n % 4 = 0 := by
  have h : ∀ n, n < 32 → ((Scalar.cmpi .ne (Scalar.extui (Scalar.cmpi .eq (Scalar.subi (wd n) (Scalar.muli 4#32 (Scalar.select (Scalar.andi (Scalar.cmpi .ne (Scalar.subi (Scalar.extui (Scalar.cmpi .sgt (wd n) 0#32)) (Scalar.extui (Scalar.cmpi .slt (wd n) 0#32))) (Scalar.subi (Scalar.extui (Scalar.cmpi .sgt 4#32 0#32)) (Scalar.extui (Scalar.cmpi .slt 4#32 0#32)))) (Scalar.cmpi .ne (Scalar.remsi (wd n) 4#32) 0#32)) (Scalar.subi (Scalar.divsi (wd n) 4#32) 1#32) (Scalar.divsi (wd n) 4#32)))) 0#32)) 0#32) = 1#1 ↔ n % 4 = 0) := by decide +kernel
  exact h n hn

/-- Both heads from the later of the two first blocks, all but a remainder of three or four blocks. -/
theorem part42_v (e : Env nD τ sig Ideal Λ₀) (i : grid0.Coords) (k0_t1 : Fin k0_t1_loop.trips) {a b q : ℕ} (ha : a < 32) (hb : b < 32)
    (hM : max a b ≤ 4 * (i 2).val + k0_t1.val) (hq : q = 4 * (i 2).val + k0_t1.val) {lo : Fin 2 → ℕ} (hl0 : lo 0 = a) (hl1 : lo 1 = b)
    (hw : k0_chk1 i k0_t1 (wd a) (wd b)) {shf : Fin 2 → Fin 512 → EReal} {o : Vec Ideal S1x2048x128 .bf16} (v4 v15 : BitVec 32) (s : St Ideal) (hs : Mid e k0_t1.val q shf lo o (512 * max a b) (512 * max a b) s) :
    W e (k0_part42 i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 k0_t1 v4 (wd a) (wd b) hw v15 (wd (q - max a b)) 4#32) s (fun _ s' => ∃ n0, Mid e k0_t1.val q shf lo o (n0) (n0) s' ∧ ((q - max a b) % 4 ≤ 1 ∧ n0 = 512 * (q + 1) ∨ 1 < (q - max a b) % 4 ∧ n0 = 512 * (q - (q - max a b) % 4))) := by
  obtain ⟨o', vt, qt, sh, acc, p⟩ := s
  obtain ⟨ho, hvt, hqt, hsh, ha0, ha1⟩ := hs
  try dsimp only at ho hvt hqt hsh ha0 ha1
  have hql := q_lt i k0_t1
  rw [k0_part42_eq_skeleton]
  unfold k0_part42_skel
  dsimp only
  refine W_seq e (W_for e _ _ _ _ (fun k s => Mid e k0_t1.val q shf lo o (512 * (max a b + 4 * k)) (512 * (max a b + 4 * k)) s) ⟨ho, hvt, hqt, hsh, ha0.to (by omega), ha1.to (by omega)⟩ (fun k u s hs => t6_body_v e i k0_t1 ha hb hM hq hl0 hl1 hw _ _ _ _ k u s hs)) ?_
  rintro _ ⟨o', vt, qt, sh, acc, p⟩ ⟨ho, hvt, hqt, hsh, ha0, ha1⟩
  try dsimp only at ho hvt hqt hsh ha0 ha1
  rw [t6_trips i k0_t1 ha hb hM] at ha0 ha1
  obtain ⟨n0, hn⟩ : ∃ n0, n0 = 512 * (max a b + 4 * ((4 * (i 2).val + k0_t1.val - max a b) / 4)) := ⟨_, rfl⟩
  rw [← hn] at ha0 ha1
  refine W_seq e (W_for e _ _ _ _ (fun _ s => Mid e k0_t1.val q shf lo o (n0) (n0) s) ⟨ho, hvt, hqt, hsh, ha0, ha1⟩ (fun k _ _ _ => absurd (lt_of_lt_of_eq k.isLt (t7_trips i k0_t1 ha hb hM)) (Nat.not_lt_zero _))) ?_
  rintro _ ⟨o', vt, qt, sh, acc, p⟩ ⟨ho, hvt, hqt, hsh, ha0, ha1⟩
  try dsimp only at ho hvt hqt hsh ha0 ha1
  refine W_join' e (fun s => ∃ n0, Mid e k0_t1.val q shf lo o (n0) (n0) s ∧ ((q - max a b) % 4 ≤ 0 ∧ n0 = 512 * (q + 1) ∨ 0 < (q - max a b) % 4 ∧ n0 = 512 * (q - (q - max a b) % 4))) (fun h => ⟨n0, ⟨ho, hvt, hqt, hsh, ha0, ha1⟩, ?_⟩) ?hk107 ?hp107
  case hp107 =>
    intro h0 hk
    have hr := (left0 (n := q - max a b) (by omega)).1 h0
    obtain rfl : n0 = 512 * (4 * (i 2).val + k0_t1.val) := by omega
    apply W_bind e
    rw [k0_part30_eq_skeleton]
    unfold k0_part30_skel
    dsimp only
    apply W_bind e
    rw [k0_part29_eq_skeleton]
    unfold k0_part29_skel
    dsimp only
    apply W_load6
    apply W_load10
    apply W_load11
    apply W_load13
    apply W_store13
    refine W_chunk 0 1 (by decide) (PC_zero e k0_t1.val q shf 0 (512 * (4 * (i 2).val + k0_t1.val)) p) (PC_zero e k0_t1.val q shf 1 0 p) rfl (fun x c => (congrFun (rfl) _).trans (mask_chunk hqt hsh 0 (off33 i k0_t1) rfl rfl rfl (by omega) (by omega) (by omega) x c)) ?_
    intro p hp0 hp1
    apply W_load6
    apply W_load10
    apply W_pure e
    try dsimp only
    apply W_load11
    apply W_load13
    apply W_store13
    refine W_chunk 1 0 (by decide) (PC_zero e k0_t1.val q shf 1 (512 * (4 * (i 2).val + k0_t1.val)) p) hp0 rfl (fun x c => (congrFun (same_95_94 _ _ _) _).trans (mask_chunk hqt hsh 1 (off34 i k0_t1) rfl rfl rfl (by omega) (by omega) (by omega) x c)) ?_
    intro p hp1 hp0
    apply W_load9
    apply W_load12
    apply W_load13
    apply W_load12
    apply W_store12
    refine W_acc512 hvt 0 1 (by decide) ha0 ha1 hp0 (by omega) (by omega) (off35 i k0_t1) rfl rfl rfl rfl (same_96 _ _ _) ?_
    intro acc ha0 ha1
    apply W_load9
    apply W_load12
    apply W_load13
    apply W_load12
    apply W_store12
    refine W_acc512 hvt 1 0 (by decide) ha1 ha0 hp1 (by omega) (by omega) (off36 i k0_t1) rfl rfl rfl rfl (same_97 _ _ _) ?_
    intro acc ha1 ha0
    apply W_pure e
    try dsimp only
    exact hk _ ⟨_, ⟨ho, hvt, hqt, hsh, ha0, ha1⟩, by omega⟩
  case hk107 =>
    rintro ⟨o', vt, qt, sh, acc, p⟩ ⟨n0, ⟨ho, hvt, hqt, hsh, ha0, ha1⟩, hn⟩
    try dsimp only at ho hvt hqt hsh ha0 ha1
    refine W_join e (fun s => ∃ n0, Mid e k0_t1.val q shf lo o (n0) (n0) s ∧ ((q - max a b) % 4 ≤ 1 ∧ n0 = 512 * (q + 1) ∨ 1 < (q - max a b) % 4 ∧ n0 = 512 * (q - (q - max a b) % 4))) (fun h => ⟨n0, ⟨ho, hvt, hqt, hsh, ha0, ha1⟩, ?_⟩) ?hk108 ?hp108
    case hp108 =>
      intro h1 hk
      have hr := (cond11 i k0_t1 ha hb hM).1 h1
      obtain rfl : n0 = 512 * ((4 * (i 2).val + k0_t1.val) - 1) := by omega
      apply W_bind e
      rw [k0_part31_eq_skeleton]
      unfold k0_part31_skel
      dsimp only
      apply W_load6
      apply W_load10
      apply W_load11
      apply W_load13
      apply W_store13
      refine W_chunk 0 1 (by decide) (PC_zero e k0_t1.val q shf 0 (512 * ((4 * (i 2).val + k0_t1.val) - 1)) p) (PC_zero e k0_t1.val q shf 1 0 p) rfl (fun x c => (congrFun (same_98 _ _ _) _).trans (full_chunk hqt hsh 0 (off37 i k0_t1 (by omega) (r := 0) (by omega)) rfl rfl rfl (by omega) (by omega) (by omega) x c)) ?_
      intro p hp0 hp1
      apply W_load6
      apply W_load10
      apply W_load11
      apply W_pure e
      try dsimp only
      apply W_bind e
      rw [k0_part32_eq_skeleton]
      unfold k0_part32_skel
      dsimp only
      apply W_load13
      apply W_store13
      refine W_chunk 0 1 (by decide) hp0 hp1 rfl (fun x c => (congrFun (same_100_99 _ _ _) _).trans (mask_chunk hqt hsh 0 (off37 i k0_t1 (by omega) (r := 1) (by omega)) rfl rfl rfl (by omega) (by omega) (by omega) x c)) ?_
      intro p hp0 hp1
      apply W_load6
      apply W_load10
      apply W_load11
      apply W_load13
      apply W_store13
      refine W_chunk 1 0 (by decide) (PC_zero e k0_t1.val q shf 1 (512 * ((4 * (i 2).val + k0_t1.val) - 1)) p) hp0 rfl (fun x c => (congrFun (same_101 _ _ _) _).trans (full_chunk hqt hsh 1 (off38 i k0_t1 (by omega) (r := 0) (by omega)) rfl rfl rfl (by omega) (by omega) (by omega) x c)) ?_
      intro p hp1 hp0
      apply W_load6
      apply W_load10
      apply W_load11
      apply W_pure e
      try dsimp only
      apply W_load13
      apply W_store13
      refine W_chunk 1 0 (by decide) hp1 hp0 rfl (fun x c => (congrFun (same_136_102 _ _ _) _).trans (mask_chunk hqt hsh 1 (off38 i k0_t1 (by omega) (r := 1) (by omega)) rfl rfl rfl (by omega) (by omega) (by omega) x c)) ?_
      intro p hp1 hp0
      apply W_load9
      apply W_load12
      apply W_load13
      apply W_load12
      apply W_store12
      refine W_acc1024 hvt 0 1 (by decide) ha0 ha1 hp0 (by omega) (by omega) (off39 i k0_t1 (by omega)) rfl rfl rfl rfl (same_137 _ _ _) ?_
      intro acc ha0 ha1
      apply W_load9
      apply W_load12
      apply W_load13
      apply W_load12
      apply W_store12
      refine W_acc1024 hvt 1 0 (by decide) ha1 ha0 hp1 (by omega) (by omega) (off40 i k0_t1 (by omega)) rfl rfl rfl rfl (same_138 _ _ _) ?_
      intro acc ha1 ha0
      exact hk _ ⟨_, ⟨ho, hvt, hqt, hsh, ha0, ha1⟩, by omega⟩
    case hk108 =>
      rintro ⟨o', vt, qt, sh, acc, p⟩ ⟨n0, ⟨ho, hvt, hqt, hsh, ha0, ha1⟩, hn⟩
      try dsimp only at ho hvt hqt hsh ha0 ha1
      exact W_pure e ⟨n0, ⟨ho, hvt, hqt, hsh, ha0, ha1⟩, hn⟩
    have hr := mt (cond11 i k0_t1 ha hb hM).2 h
    omega
  have hr := mt (left0 (n := q - max a b) (by omega)).2 h
  omega

end Cert.Flash
-- ==== Proof.Flash.Check.lean ====
module
public import proofs.«01_k».proof.Proof.Flash.Words

@[expose] public section

/-!
The check the flash kernel makes of the two words it reads from its table holds of every table whose first blocks are not
beyond the query block.
-/

namespace Cert.Flash

open Idealize.ShloMosaic
open Cert.KernelIdeal

/-- What the kernel checks of two words it reads holds of first blocks not beyond the query block. -/
theorem chk1 (i : grid0.Coords) (t : Fin k0_t1_loop.trips) {a b : ℕ} (ha : a < 32) (hb : b < 32) (hq : max a b ≤ 4 * (i 2).val + t.val) : k0_chk1 i t (wd a) (wd b) := by
  have h3 := q_lt i t
  have hma := le_max_left a b
  have hmb := le_max_right a b
  have hm := max_lt ha hb
  refine ⟨?_, ?_⟩
  · unfold k0_chk1_0
    exact ⟨fun _ => t2_ok ha hb,
      fun k h2  => by have hk := lt_of_lt_of_eq k.isLt (t2_trips ha hb); have g2 := (cond2 ha hb).1 h2; exact mult2 ha hb k (by omega),
      fun k h2 r x => by have hk := lt_of_lt_of_eq k.isLt (t2_trips ha hb); have g2 := (cond2 ha hb).1 h2; have hr := r.isLt; rw [off5 ha hb k (by omega) (r := r.val) (by omega)]; exact inb_key (by omega) (by omega) x,
      fun k h2 x => by have hk := lt_of_lt_of_eq k.isLt (t2_trips ha hb); have g2 := (cond2 ha hb).1 h2; rw [off6 ha hb k (by omega)]; exact inb_val2048 (by omega) (by omega) x,
      fun _ => t3_ok ha hb,
      fun k => absurd (lt_of_lt_of_eq k.isLt (t3_trips ha hb)) (Nat.not_lt_zero _),
      fun k => absurd (lt_of_lt_of_eq k.isLt (t3_trips ha hb)) (Nat.not_lt_zero _),
      fun k => absurd (lt_of_lt_of_eq k.isLt (t3_trips ha hb)) (Nat.not_lt_zero _),
      fun h2 h3  => by have g2 := (cond2 ha hb).1 h2; have g3 := (cond3 ha hb).1 h3; exact mult4 ha hb (by omega),
      fun h2 h3 x => by have g2 := (cond2 ha hb).1 h2; have g3 := (cond3 ha hb).1 h3; rw [off9 ha hb (by omega)]; exact inb_key (by omega) (by omega) x,
      fun h2 h3 x => by have g2 := (cond2 ha hb).1 h2; have g3 := (cond3 ha hb).1 h3; rw [off10 ha hb (by omega)]; exact inb_val512 (by omega) (by omega) x,
      fun h2 h4  => by have g2 := (cond2 ha hb).1 h2; have g4 := (cond4 ha hb).1 h4; exact mult5 ha hb (by omega),
      fun h2 h4 r x => by have g2 := (cond2 ha hb).1 h2; have g4 := (cond4 ha hb).1 h4; have hr := r.isLt; rw [off11 ha hb (by omega) (r := r.val) (by omega)]; exact inb_key (by omega) (by omega) x,
      fun h2 h4 x => by have g2 := (cond2 ha hb).1 h2; have g4 := (cond4 ha hb).1 h4; rw [off12 ha hb (by omega)]; exact inb_val1024 (by omega) (by omega) x,
      fun h2 h5  => by have g2 := (cond2 ha hb).1 h2; have g5 := (cond5 ha hb).1 h5; exact mult6 ha hb (by omega),
      fun h2 h5 r x => by have g2 := (cond2 ha hb).1 h2; have g5 := (cond5 ha hb).1 h5; have hr := r.isLt; rw [off13 ha hb (by omega) (r := r.val) (by omega)]; exact inb_key (by omega) (by omega) x,
      fun h2 h5 x => by have g2 := (cond2 ha hb).1 h2; have g5 := (cond5 ha hb).1 h5; rw [off14 ha hb (by omega)]; exact inb_val1536 (by omega) (by omega) x,
      fun _ => t4_ok ha hb,
      fun k h6  => by have hk := lt_of_lt_of_eq k.isLt (t4_trips ha hb); have g6 := (cond6 ha hb).1 h6; exact mult7 ha hb k (by omega),
      fun k h6 r x => by have hk := lt_of_lt_of_eq k.isLt (t4_trips ha hb); have g6 := (cond6 ha hb).1 h6; have hr := r.isLt; rw [off15 ha hb k (by omega) (r := r.val) (by omega)]; exact inb_key (by omega) (by omega) x,
      fun k h6 x => by have hk := lt_of_lt_of_eq k.isLt (t4_trips ha hb); have g6 := (cond6 ha hb).1 h6; rw [off16 ha hb k (by omega)]; exact inb_val2048 (by omega) (by omega) x,
      fun _ => t5_ok ha hb,
      fun k => absurd (lt_of_lt_of_eq k.isLt (t5_trips ha hb)) (Nat.not_lt_zero _),
      fun k => absurd (lt_of_lt_of_eq k.isLt (t5_trips ha hb)) (Nat.not_lt_zero _),
      fun k => absurd (lt_of_lt_of_eq k.isLt (t5_trips ha hb)) (Nat.not_lt_zero _),
      fun h6 h7  => by have g6 := (cond6 ha hb).1 h6; have g7 := (cond7 ha hb).1 h7; exact mult9 ha hb (by omega),
      fun h6 h7 x => by have g6 := (cond6 ha hb).1 h6; have g7 := (cond7 ha hb).1 h7; rw [off19 ha hb (by omega)]; exact inb_key (by omega) (by omega) x,
      fun h6 h7 x => by have g6 := (cond6 ha hb).1 h6; have g7 := (cond7 ha hb).1 h7; rw [off20 ha hb (by omega)]; exact inb_val512 (by omega) (by omega) x,
      fun h6 h8  => by have g6 := (cond6 ha hb).1 h6; have g8 := (cond8 ha hb).1 h8; exact mult10 ha hb (by omega),
      fun h6 h8 r x => by have g6 := (cond6 ha hb).1 h6; have g8 := (cond8 ha hb).1 h8; have hr := r.isLt; rw [off21 ha hb (by omega) (r := r.val) (by omega)]; exact inb_key (by omega) (by omega) x,
      fun h6 h8 x => by have g6 := (cond6 ha hb).1 h6; have g8 := (cond8 ha hb).1 h8; rw [off22 ha hb (by omega)]; exact inb_val1024 (by omega) (by omega) x,
      fun h6 h9  => by have g6 := (cond6 ha hb).1 h6; have g9 := (cond9 ha hb).1 h9; exact mult11 ha hb (by omega)⟩
  · unfold k0_chk1_1
    exact ⟨fun h6 h9 r x => by have g6 := (cond6 ha hb).1 h6; have g9 := (cond9 ha hb).1 h9; have hr := r.isLt; rw [off23 ha hb (by omega) (r := r.val) (by omega)]; exact inb_key (by omega) (by omega) x,
      fun h6 h9 x => by have g6 := (cond6 ha hb).1 h6; have g9 := (cond9 ha hb).1 h9; rw [off24 ha hb (by omega)]; exact inb_val1536 (by omega) (by omega) x,
      t6_ok i t ha hb hq,
      fun k  => by have hk := lt_of_lt_of_eq k.isLt (t6_trips i t ha hb hq); exact mult12 i t ha hb k (by omega),
      fun k r x => by have hk := lt_of_lt_of_eq k.isLt (t6_trips i t ha hb hq); have hr := r.isLt; rw [off25 i t ha hb k (by omega) (r := r.val) (by omega)]; exact inb_key (by omega) (by omega) x,
      fun k r x => by have hk := lt_of_lt_of_eq k.isLt (t6_trips i t ha hb hq); have hr := r.isLt; rw [off26 i t ha hb k (by omega) (r := r.val) (by omega)]; exact inb_key (by omega) (by omega) x,
      fun k x => by have hk := lt_of_lt_of_eq k.isLt (t6_trips i t ha hb hq); rw [off27 i t ha hb k (by omega)]; exact inb_val2048 (by omega) (by omega) x,
      fun k x => by have hk := lt_of_lt_of_eq k.isLt (t6_trips i t ha hb hq); rw [off28 i t ha hb k (by omega)]; exact inb_val2048 (by omega) (by omega) x,
      t7_ok i t ha hb hq,
      fun k => absurd (lt_of_lt_of_eq k.isLt (t7_trips i t ha hb hq)) (Nat.not_lt_zero _),
      fun k => absurd (lt_of_lt_of_eq k.isLt (t7_trips i t ha hb hq)) (Nat.not_lt_zero _),
      fun k => absurd (lt_of_lt_of_eq k.isLt (t7_trips i t ha hb hq)) (Nat.not_lt_zero _),
      fun k => absurd (lt_of_lt_of_eq k.isLt (t7_trips i t ha hb hq)) (Nat.not_lt_zero _),
      fun k => absurd (lt_of_lt_of_eq k.isLt (t7_trips i t ha hb hq)) (Nat.not_lt_zero _),
      fun h11 r x => by have g11 := (cond11 i t ha hb hq).1 h11; have hr := r.isLt; rw [off37 i t (by omega) (r := r.val) (by omega)]; exact inb_key (by omega) (by omega) x,
      fun h11 r x => by have g11 := (cond11 i t ha hb hq).1 h11; have hr := r.isLt; rw [off38 i t (by omega) (r := r.val) (by omega)]; exact inb_key (by omega) (by omega) x,
      fun h11 x => by have g11 := (cond11 i t ha hb hq).1 h11; rw [off39 i t (by omega)]; exact inb_val1024 (by omega) (by omega) x,
      fun h11 x => by have g11 := (cond11 i t ha hb hq).1 h11; rw [off40 i t (by omega)]; exact inb_val1024 (by omega) (by omega) x,
      fun h12 r x => by have g12 := (cond12 i t ha hb hq).1 h12; have hr := r.isLt; rw [off41 i t (by omega) (r := r.val) (by omega)]; exact inb_key (by omega) (by omega) x,
      fun h12 r x => by have g12 := (cond12 i t ha hb hq).1 h12; have hr := r.isLt; rw [off42 i t (by omega) (r := r.val) (by omega)]; exact inb_key (by omega) (by omega) x,
      fun h12 x => by have g12 := (cond12 i t ha hb hq).1 h12; rw [off43 i t (by omega)]; exact inb_val1536 (by omega) (by omega) x,
      fun h12 x => by have g12 := (cond12 i t ha hb hq).1 h12; rw [off44 i t (by omega)]; exact inb_val1536 (by omega) (by omega) x,
      fun h13 r x => by have g13 := (cond13 i t ha hb hq).1 h13; have hr := r.isLt; rw [off45 i t (by omega) (r := r.val) (by omega)]; exact inb_key (by omega) (by omega) x,
      fun h13 r x => by have g13 := (cond13 i t ha hb hq).1 h13; have hr := r.isLt; rw [off46 i t (by omega) (r := r.val) (by omega)]; exact inb_key (by omega) (by omega) x,
      fun h13 x => by have g13 := (cond13 i t ha hb hq).1 h13; rw [off47 i t (by omega)]; exact inb_val2048 (by omega) (by omega) x,
      fun h13 x => by have g13 := (cond13 i t ha hb hq).1 h13; rw [off48 i t (by omega)]; exact inb_val2048 (by omega) (by omega) x⟩

end Cert.Flash

end
-- ==== Proof.Flash.Point.lean ====
/-
  The kernel at one grid point: 2048 queries of a pair of heads, 512 at a time.
-/
module

public import proofs.«01_k».proof.Proof.Flash.Stretch
public import proofs.«01_k».proof.Proof.Flash.Diagonal
public import proofs.«01_k».proof.Proof.Flash.Check

@[expose] public section

namespace Cert.Flash

open Idealize.ShloMosaic Idealize.SL.Sem
open Cert.KernelIdeal Cert.KernelIdeal.Gen

theorem same_7 (x : Vec Ideal S1x512x256 .bf16) : k0_pay7 x = k0_pay121 x := rfl
theorem same_8 (x : Vec Ideal S1x512x256 .bf16) : k0_pay8 x = k0_pay121 x := rfl
theorem same_9 (x : Vec Ideal S1x512x256 .bf16) : k0_pay9 x = k0_pay121 x := rfl
theorem same_10 (x : Vec Ideal S1x512x256 .bf16) : k0_pay10 x = k0_pay121 x := rfl
theorem same_11 (x : Vec Ideal S1x512x256 .bf16) : k0_pay11 x = k0_pay121 x := rfl
theorem same_12 (x : Vec Ideal S1x512x256 .bf16) : k0_pay12 x = k0_pay121 x := rfl
theorem same_13 (x : Vec Ideal S1x512x256 .bf16) : k0_pay13 x = k0_pay121 x := rfl
theorem same_14 (x : Vec Ideal S1x512x256 .bf16) : k0_pay14 x = k0_pay121 x := rfl
theorem same_15 (x : Vec Ideal S1x512x256 .bf16) : k0_pay15 x = k0_pay121 x := rfl
theorem same_16 (x : Vec Ideal S1x512x256 .bf16) : k0_pay16 x = k0_pay121 x := rfl
theorem same_17 (x : Vec Ideal S1x512x256 .bf16) : k0_pay17 x = k0_pay121 x := rfl
theorem same_18 (x : Vec Ideal S1x512x256 .bf16) : k0_pay18 x = k0_pay121 x := rfl
theorem same_19 (x : Vec Ideal S1x512x256 .bf16) : k0_pay19 x = k0_pay121 x := rfl
theorem same_20 (x : Vec Ideal S1x512x256 .bf16) : k0_pay20 x = k0_pay121 x := rfl
theorem same_21 (x : Vec Ideal S1x512x256 .bf16) : k0_pay21 x = k0_pay121 x := rfl
theorem same_22 (x : Vec Ideal S1x512x256 .bf16) : k0_pay22 x = k0_pay121 x := rfl
theorem same_23 (x : Vec Ideal S1x512x256 .bf16) : k0_pay23 x = k0_pay121 x := rfl
theorem same_24 (x : Vec Ideal S1x512x256 .bf16) : k0_pay24 x = k0_pay121 x := rfl
theorem same_25 (x : Vec Ideal S1x512x256 .bf16) : k0_pay25 x = k0_pay121 x := rfl
theorem same_26 (x : Vec Ideal S1x512x256 .bf16) : k0_pay26 x = k0_pay121 x := rfl
theorem same_27 (x : Vec Ideal S1x512x256 .bf16) : k0_pay27 x = k0_pay121 x := rfl
theorem same_28 (x : Vec Ideal S1x512x256 .bf16) : k0_pay28 x = k0_pay121 x := rfl
theorem same_29 (x : Vec Ideal S1x512x256 .bf16) : k0_pay29 x = k0_pay121 x := rfl
theorem same_30 (x : Vec Ideal S1x512x256 .bf16) : k0_pay30 x = k0_pay121 x := rfl
theorem same_31 (x : Vec Ideal S1x512x256 .bf16) : k0_pay31 x = k0_pay121 x := rfl
theorem same_32 (x : Vec Ideal S1x512x256 .bf16) : k0_pay32 x = k0_pay121 x := rfl
theorem same_33 (x : Vec Ideal S1x512x256 .bf16) : k0_pay33 x = k0_pay121 x := rfl
theorem same_34 (x : Vec Ideal S1x512x256 .bf16) : k0_pay34 x = k0_pay121 x := rfl
theorem same_35 (x : Vec Ideal S1x512x256 .bf16) : k0_pay35 x = k0_pay121 x := rfl
theorem same_36 (x : Vec Ideal S1x512x256 .bf16) : k0_pay36 x = k0_pay121 x := rfl
theorem same_119 (x : Vec Ideal S1x512x256 .bf16) : k0_pay119 x = k0_pay121 x := rfl
theorem same_120 (x : Vec Ideal S1x512x256 .bf16) : k0_pay120 x = k0_pay121 x := rfl
theorem same_103 (x : Vec Ideal S1x512x128 .bf16) (y : Vec Ideal S128x512 .bf16) (z : Vec Ideal S1x1x512 .f32) : k0_pay103 x y z = k0_pay37 x y z := rfl
theorem same_104 (x : Vec Ideal S1x512x128 .bf16) (y : Vec Ideal S128x512 .bf16) (z : Vec Ideal S1x1x512 .f32) : k0_pay104 x y z = k0_pay37 x y z := rfl
theorem same_105 (x : Vec Ideal S1x512x128 .bf16) (y : Vec Ideal S128x512 .bf16) (z : Vec Ideal S1x1x512 .f32) : k0_pay105 x y z = k0_pay93 x y z := rfl
theorem same_107_106 (x : Vec Ideal S1x512x128 .bf16) (y : Vec Ideal S128x512 .bf16) (z : Vec Ideal S1x1x512 .f32) : k0_pay107 (k0_pay106 x y z) = k0_pay37 x y z := rfl
theorem same_108 (x : Vec Ideal S1x512x128 .bf16) (y : Vec Ideal S128x512 .bf16) (z : Vec Ideal S1x1x512 .f32) : k0_pay108 x y z = k0_pay37 x y z := rfl
theorem same_1_109 (x : Vec Ideal S1x512x128 .bf16) (y : Vec Ideal S128x512 .bf16) (z : Vec Ideal S1x1x512 .f32) : k0_pay1 (k0_pay109 x y z) = k0_pay93 x y z := rfl
theorem same_2 (x : Vec Ideal S128x1536 .bf16) (y : Vec Ideal S1x128x512 .f32) (z : Vec Ideal S1x1536x512 .bf16) : k0_pay2 x y z = k0_pay128 x y z := rfl
theorem same_3 (x : Vec Ideal S128x1536 .bf16) (y : Vec Ideal S1x128x512 .f32) (z : Vec Ideal S1x1536x512 .bf16) : k0_pay3 x y z = k0_pay128 x y z := rfl
theorem same_110 (x : Vec Ideal S1x512x128 .bf16) (y : Vec Ideal S128x512 .bf16) (z : Vec Ideal S1x1x512 .f32) : k0_pay110 x y z = k0_pay37 x y z := rfl
theorem same_111 (x : Vec Ideal S1x512x128 .bf16) (y : Vec Ideal S128x512 .bf16) (z : Vec Ideal S1x1x512 .f32) : k0_pay111 x y z = k0_pay37 x y z := rfl
theorem same_112 (x : Vec Ideal S1x512x128 .bf16) (y : Vec Ideal S128x512 .bf16) (z : Vec Ideal S1x1x512 .f32) : k0_pay112 x y z = k0_pay37 x y z := rfl
theorem same_114_113 (x : Vec Ideal S1x512x128 .bf16) (y : Vec Ideal S128x512 .bf16) (z : Vec Ideal S1x1x512 .f32) : k0_pay114 (k0_pay113 x y z) = k0_pay93 x y z := rfl
theorem same_115 (x : Vec Ideal S1x512x128 .bf16) (y : Vec Ideal S128x512 .bf16) (z : Vec Ideal S1x1x512 .f32) : k0_pay115 x y z = k0_pay37 x y z := rfl
theorem same_116 (x : Vec Ideal S1x512x128 .bf16) (y : Vec Ideal S128x512 .bf16) (z : Vec Ideal S1x1x512 .f32) : k0_pay116 x y z = k0_pay37 x y z := rfl
theorem same_117 (x : Vec Ideal S1x512x128 .bf16) (y : Vec Ideal S128x512 .bf16) (z : Vec Ideal S1x1x512 .f32) : k0_pay117 x y z = k0_pay37 x y z := rfl
theorem same_118 (x : Vec Ideal S1x512x128 .bf16) (y : Vec Ideal S128x512 .bf16) (z : Vec Ideal S1x1x512 .f32) : k0_pay118 x y z = k0_pay93 x y z := rfl
theorem same_4 (x : Vec Ideal S128x2048 .bf16) (y : Vec Ideal S1x128x512 .f32) (z : Vec Ideal S1x2048x512 .bf16) : k0_pay4 x y z = k0_pay51 x y z := rfl
theorem same_5 (x : Vec Ideal S128x2048 .bf16) (y : Vec Ideal S1x128x512 .f32) (z : Vec Ideal S1x2048x512 .bf16) : k0_pay5 x y z = k0_pay51 x y z := rfl

theorem first0 {n : ℕ} (hn : n < 32) : (Scalar.cmpi .ne (Scalar.extui (Scalar.cmpi .eq (wd n) 0#32)) 0#32) = 1#1 ↔ n = 0 := by
  have h : ∀ n, n < 32 → ((Scalar.cmpi .ne (Scalar.extui (Scalar.cmpi .eq (wd n) 0#32)) 0#32) = 1#1 ↔ n = 0) := by decide +kernel
  exact h n hn

/-- The results of 512 queries. -/
theorem t1_body_v (e : Env nD τ sig Ideal Λ₀) (i : grid0.Coords) (k0_t1 : Fin k0_t1_loop.trips) {a b q : ℕ} (ha : a < 32) (hb : b < 32)
    (hM : max a b ≤ 4 * (i 2).val + k0_t1.val) (hq : q = 4 * (i 2).val + k0_t1.val) {lo : Fin 2 → ℕ} (hl0 : lo 0 = a) (hl1 : lo 1 = b) (hK : ∀ j, ∃ x : ℝ, e.t4 j = x) (hQ : ∀ r c, ∃ x : ℝ, e.t5 (ix3 0 r c) = x)
    (hA : e.t3 ((Rect.unit (s := S1024) (k0_off1 i k0_t1) S1.size (k0_off1_inb i k0_t1)).idx (Shape.Idx.first (numel1_S1.symm ▸ Nat.one_pos))) = wd a) (hB : e.t3 ((Rect.unit (s := S1024) (k0_off2 i k0_t1) S1.size (k0_off2_inb i k0_t1)).idx (Shape.Idx.first (numel1_S1.symm ▸ Nat.one_pos))) = wd b)
    (arg0 arg1 : BitVec 32) (u : Unit) (s : St Ideal) (hv : 0 < q → VT e 16384 s.vt) :
    W e (k0_t1_body i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 arg0 arg1 (BitVec.ofNat 32 (i 2).val) k0_t1 u) s (fun _ s' => VT e 16384 s'.vt ∧ Row e k0_t1.val q lo s'.o
      ∧ ∀ t' < k0_t1.val, ∀ q' lo', Row e t' q' lo' s.o → Row e t' q' lo' s'.o) := by
  obtain ⟨o, vt, qt, sh, acc, p⟩ := s
  try dsimp only at hv
  have hql := q_lt i k0_t1
  have ht := t1_lt k0_t1
  have hw : k0_chk1 i k0_t1 (wd a) (wd b) := chk1 i k0_t1 ha hb hM
  unfold k0_t1_body
  dsimp only
  apply W_bind e
  rw [k0_part40_eq_skeleton]
  unfold k0_part40_skel
  dsimp only
  apply W_smem3
  rw [hA]
  apply W_smem3
  rw [hB]
  apply W_assume e hw
  refine W_join e (fun s => s.o = o ∧ VT e 16384 s.vt) (fun h => ⟨rfl, hv (by
    have hr : ¬ 4 * (i 2).val + k0_t1.val = 0 := fun e => h (by rw [q_wd]; exact (first0 (n := 4 * (i 2).val + k0_t1.val) hql).2 e)
    omega)⟩) ?hkv ?hpv
  case hpv =>
    intro k0_h1 hk
    clear hv
    have hvt : VT e 0 vt := fun _ _ h => absurd h (Nat.not_lt_zero _)
    apply W_bind e
    rw [k0_part1_eq_skeleton]
    unfold k0_part1_skel
    dsimp only
    apply W_load7
    apply W_load9
    apply W_store9
    refine W_vt hvt rfl rfl (same_7 _) ?_
    intro vt hvt
    apply W_load7
    apply W_load9
    apply W_store9
    refine W_vt hvt rfl rfl (same_8 _) ?_
    intro vt hvt
    apply W_load7
    apply W_load9
    apply W_store9
    refine W_vt hvt rfl rfl (same_9 _) ?_
    intro vt hvt
    apply W_load7
    apply W_load9
    apply W_store9
    refine W_vt hvt rfl rfl (same_10 _) ?_
    intro vt hvt
    apply W_load7
    apply W_load9
    apply W_store9
    refine W_vt hvt rfl rfl (same_11 _) ?_
    intro vt hvt
    apply W_pure e
    try dsimp only
    apply W_bind e
    rw [k0_part2_eq_skeleton]
    unfold k0_part2_skel
    dsimp only
    apply W_load7
    apply W_load9
    apply W_store9
    refine W_vt hvt rfl rfl (same_12 _) ?_
    intro vt hvt
    apply W_load7
    apply W_load9
    apply W_store9
    refine W_vt hvt rfl rfl (same_13 _) ?_
    intro vt hvt
    apply W_load7
    apply W_load9
    apply W_store9
    refine W_vt hvt rfl rfl (same_14 _) ?_
    intro vt hvt
    apply W_load7
    apply W_load9
    apply W_store9
    refine W_vt hvt rfl rfl (same_15 _) ?_
    intro vt hvt
    apply W_load7
    apply W_load9
    apply W_store9
    refine W_vt hvt rfl rfl (same_16 _) ?_
    intro vt hvt
    apply W_pure e
    try dsimp only
    apply W_bind e
    rw [k0_part3_eq_skeleton]
    unfold k0_part3_skel
    dsimp only
    apply W_load7
    apply W_load9
    apply W_store9
    refine W_vt hvt rfl rfl (same_17 _) ?_
    intro vt hvt
    apply W_load7
    apply W_load9
    apply W_store9
    refine W_vt hvt rfl rfl (same_18 _) ?_
    intro vt hvt
    apply W_load7
    apply W_load9
    apply W_store9
    refine W_vt hvt rfl rfl (same_19 _) ?_
    intro vt hvt
    apply W_load7
    apply W_load9
    apply W_store9
    refine W_vt hvt rfl rfl (same_20 _) ?_
    intro vt hvt
    apply W_load7
    apply W_load9
    apply W_store9
    refine W_vt hvt rfl rfl (same_21 _) ?_
    intro vt hvt
    apply W_pure e
    try dsimp only
    apply W_bind e
    rw [k0_part4_eq_skeleton]
    unfold k0_part4_skel
    dsimp only
    apply W_load7
    apply W_load9
    apply W_store9
    refine W_vt hvt rfl rfl (same_22 _) ?_
    intro vt hvt
    apply W_load7
    apply W_load9
    apply W_store9
    refine W_vt hvt rfl rfl (same_23 _) ?_
    intro vt hvt
    apply W_load7
    apply W_load9
    apply W_store9
    refine W_vt hvt rfl rfl (same_24 _) ?_
    intro vt hvt
    apply W_load7
    apply W_load9
    apply W_store9
    refine W_vt hvt rfl rfl (same_25 _) ?_
    intro vt hvt
    apply W_load7
    apply W_load9
    apply W_store9
    refine W_vt hvt rfl rfl (same_26 _) ?_
    intro vt hvt
    apply W_pure e
    try dsimp only
    apply W_bind e
    rw [k0_part5_eq_skeleton]
    unfold k0_part5_skel
    dsimp only
    apply W_load7
    apply W_load9
    apply W_store9
    refine W_vt hvt rfl rfl (same_27 _) ?_
    intro vt hvt
    apply W_load7
    apply W_load9
    apply W_store9
    refine W_vt hvt rfl rfl (same_28 _) ?_
    intro vt hvt
    apply W_load7
    apply W_load9
    apply W_store9
    refine W_vt hvt rfl rfl (same_29 _) ?_
    intro vt hvt
    apply W_load7
    apply W_load9
    apply W_store9
    refine W_vt hvt rfl rfl (same_30 _) ?_
    intro vt hvt
    apply W_load7
    apply W_load9
    apply W_store9
    refine W_vt hvt rfl rfl (same_31 _) ?_
    intro vt hvt
    apply W_pure e
    try dsimp only
    apply W_bind e
    rw [k0_part6_eq_skeleton]
    unfold k0_part6_skel
    dsimp only
    apply W_load7
    apply W_load9
    apply W_store9
    refine W_vt hvt rfl rfl (same_32 _) ?_
    intro vt hvt
    apply W_load7
    apply W_load9
    apply W_store9
    refine W_vt hvt rfl rfl (same_33 _) ?_
    intro vt hvt
    apply W_load7
    apply W_load9
    apply W_store9
    refine W_vt hvt rfl rfl (same_34 _) ?_
    intro vt hvt
    apply W_load7
    apply W_load9
    apply W_store9
    refine W_vt hvt rfl rfl (same_35 _) ?_
    intro vt hvt
    apply W_load7
    apply W_load9
    apply W_store9
    refine W_vt hvt rfl rfl (same_36 _) ?_
    intro vt hvt
    apply W_pure e
    try dsimp only
    apply W_load7
    apply W_load9
    apply W_store9
    refine W_vt hvt rfl rfl (same_119 _) ?_
    intro vt hvt
    apply W_load7
    apply W_load9
    apply W_store9
    refine W_vt hvt rfl rfl (same_120 _) ?_
    intro vt hvt
    exact hk _ ⟨rfl, hvt⟩
  rintro ⟨o', vt, qt, sh, acc, p⟩ ⟨ho, hvt⟩
  try dsimp only at ho hvt
  apply W_load5
  apply W_load10
  apply W_store10
  refine W_qt k0_t1.val (off3 k0_t1) rfl ?_
  intro qt hqt
  apply W_load12
  apply W_store12
  refine W_clear rfl ?_
  intro acc hz
  apply W_load10
  apply W_pure e
  try dsimp only
  rw [q_wd, maxsi_wd ha hb]
  apply W_seq e (part41_v e i k0_t1 ha hb hM hq hl0 hl1 hw hK hQ arg0 arg1 _ _ _ (by rw [hq]; exact subi_wd hql hM) _ (fun z c hz => shift_real hqt hQ hz c) _ ho hvt hqt hz)
  rintro _ ⟨o', vt, qt, sh, acc, p⟩ ⟨rfl, shf, hsr, ⟨ho, hvt, hqt, hsh, ha0, ha1⟩⟩
  try dsimp only at ho hvt hqt hsh ha0 ha1
  try dsimp only
  apply W_seq e (part42_v e i k0_t1 ha hb hM hq hl0 hl1 hw _ _ _ ⟨ho, hvt, hqt, hsh, ha0, ha1⟩)
  rintro ⟨v89, v108, c0⟩ ⟨o', vt, qt, sh, acc, p⟩ ⟨n0, ⟨ho, hvt, hqt, hsh, ha0, ha1⟩, hn⟩
  try dsimp only at ho hvt hqt hsh ha0 ha1
  try dsimp only
  refine W_join e (fun s => ∃ n0, Mid e k0_t1.val q shf lo o (n0) (n0) s ∧ ((q - max a b) % 4 ≤ 2 ∧ n0 = 512 * (q + 1) ∨ 2 < (q - max a b) % 4 ∧ n0 = 512 * (q - (q - max a b) % 4))) (fun h => ⟨n0, ⟨ho, hvt, hqt, hsh, ha0, ha1⟩, ?_⟩) ?hk109 ?hp109
  case hp109 =>
    intro h2 hk
    have hr := (cond12 i k0_t1 ha hb hM).1 h2
    obtain rfl : n0 = 512 * ((4 * (i 2).val + k0_t1.val) - 2) := by omega
    apply W_bind e
    rw [k0_part33_eq_skeleton]
    unfold k0_part33_skel
    dsimp only
    apply W_load6
    apply W_load10
    apply W_load11
    apply W_load13
    apply W_store13
    refine W_chunk 0 1 (by decide) (PC_zero e k0_t1.val q shf 0 (512 * ((4 * (i 2).val + k0_t1.val) - 2)) p) (PC_zero e k0_t1.val q shf 1 0 p) rfl (fun x c => (congrFun (same_103 _ _ _) _).trans (full_chunk hqt hsh 0 (off41 i k0_t1 (by omega) (r := 0) (by omega)) rfl rfl rfl (by omega) (by omega) (by omega) x c)) ?_
    intro p hp0 hp1
    apply W_load6
    apply W_load10
    apply W_load11
    apply W_load13
    apply W_pure e
    try dsimp only
    apply W_bind e
    rw [k0_part34_eq_skeleton]
    unfold k0_part34_skel
    dsimp only
    apply W_store13
    refine W_chunk 0 1 (by decide) hp0 hp1 rfl (fun x c => (congrFun (same_104 _ _ _) _).trans (full_chunk hqt hsh 0 (off41 i k0_t1 (by omega) (r := 1) (by omega)) rfl rfl rfl (by omega) (by omega) (by omega) x c)) ?_
    intro p hp0 hp1
    apply W_load6
    apply W_load10
    apply W_load11
    apply W_load13
    apply W_store13
    refine W_chunk 0 1 (by decide) hp0 hp1 rfl (fun x c => (congrFun (same_105 _ _ _) _).trans (mask_chunk hqt hsh 0 (off41 i k0_t1 (by omega) (r := 2) (by omega)) rfl rfl rfl (by omega) (by omega) (by omega) x c)) ?_
    intro p hp0 hp1
    apply W_load6
    apply W_load10
    apply W_load11
    apply W_load13
    apply W_pure e
    try dsimp only
    apply W_bind e
    rw [k0_part35_eq_skeleton]
    unfold k0_part35_skel
    dsimp only
    apply W_store13
    refine W_chunk 1 0 (by decide) (PC_zero e k0_t1.val q shf 1 (512 * ((4 * (i 2).val + k0_t1.val) - 2)) p) hp0 rfl (fun x c => (congrFun (same_107_106 _ _ _) _).trans (full_chunk hqt hsh 1 (off42 i k0_t1 (by omega) (r := 0) (by omega)) rfl rfl rfl (by omega) (by omega) (by omega) x c)) ?_
    intro p hp1 hp0
    apply W_load6
    apply W_load10
    apply W_load11
    apply W_load13
    apply W_store13
    refine W_chunk 1 0 (by decide) hp1 hp0 rfl (fun x c => (congrFun (same_108 _ _ _) _).trans (full_chunk hqt hsh 1 (off42 i k0_t1 (by omega) (r := 1) (by omega)) rfl rfl rfl (by omega) (by omega) (by omega) x c)) ?_
    intro p hp1 hp0
    apply W_load6
    apply W_load10
    apply W_load11
    apply W_pure e
    try dsimp only
    apply W_load13
    apply W_store13
    refine W_chunk 1 0 (by decide) hp1 hp0 rfl (fun x c => (congrFun (same_1_109 _ _ _) _).trans (mask_chunk hqt hsh 1 (off42 i k0_t1 (by omega) (r := 2) (by omega)) rfl rfl rfl (by omega) (by omega) (by omega) x c)) ?_
    intro p hp1 hp0
    apply W_load9
    apply W_load12
    apply W_load13
    apply W_load12
    apply W_store12
    refine W_acc1536 hvt 0 1 (by decide) ha0 ha1 hp0 (by omega) (by omega) (off43 i k0_t1 (by omega)) rfl rfl rfl rfl (same_2 _ _ _) ?_
    intro acc ha0 ha1
    apply W_load9
    apply W_load12
    apply W_load13
    apply W_load12
    apply W_store12
    refine W_acc1536 hvt 1 0 (by decide) ha1 ha0 hp1 (by omega) (by omega) (off44 i k0_t1 (by omega)) rfl rfl rfl rfl (same_3 _ _ _) ?_
    intro acc ha1 ha0
    exact hk _ ⟨_, ⟨ho, hvt, hqt, hsh, ha0, ha1⟩, by omega⟩
  case hk109 =>
    rintro ⟨o', vt, qt, sh, acc, p⟩ ⟨n0, ⟨ho, hvt, hqt, hsh, ha0, ha1⟩, hn⟩
    try dsimp only at ho hvt hqt hsh ha0 ha1
    refine W_join e (fun s => ∃ n0, Mid e k0_t1.val q shf lo o (n0) (n0) s ∧ ((q - max a b) % 4 ≤ 3 ∧ n0 = 512 * (q + 1) ∨ 3 < (q - max a b) % 4 ∧ n0 = 512 * (q - (q - max a b) % 4))) (fun h => ⟨n0, ⟨ho, hvt, hqt, hsh, ha0, ha1⟩, ?_⟩) ?hk110 ?hp110
    case hp110 =>
      intro h3 hk
      have hr := (cond13 i k0_t1 ha hb hM).1 h3
      obtain rfl : n0 = 512 * ((4 * (i 2).val + k0_t1.val) - 3) := by omega
      apply W_bind e
      rw [k0_part36_eq_skeleton]
      unfold k0_part36_skel
      dsimp only
      apply W_load6
      apply W_load10
      apply W_load11
      apply W_load13
      apply W_store13
      refine W_chunk 0 1 (by decide) (PC_zero e k0_t1.val q shf 0 (512 * ((4 * (i 2).val + k0_t1.val) - 3)) p) (PC_zero e k0_t1.val q shf 1 0 p) rfl (fun x c => (congrFun (same_110 _ _ _) _).trans (full_chunk hqt hsh 0 (off45 i k0_t1 (by omega) (r := 0) (by omega)) rfl rfl rfl (by omega) (by omega) (by omega) x c)) ?_
      intro p hp0 hp1
      apply W_load6
      apply W_load10
      apply W_load11
      apply W_load13
      apply W_pure e
      try dsimp only
      apply W_bind e
      rw [k0_part37_eq_skeleton]
      unfold k0_part37_skel
      dsimp only
      apply W_store13
      refine W_chunk 0 1 (by decide) hp0 hp1 rfl (fun x c => (congrFun (same_111 _ _ _) _).trans (full_chunk hqt hsh 0 (off45 i k0_t1 (by omega) (r := 1) (by omega)) rfl rfl rfl (by omega) (by omega) (by omega) x c)) ?_
      intro p hp0 hp1
      apply W_load6
      apply W_load10
      apply W_load11
      apply W_load13
      apply W_store13
      refine W_chunk 0 1 (by decide) hp0 hp1 rfl (fun x c => (congrFun (same_112 _ _ _) _).trans (full_chunk hqt hsh 0 (off45 i k0_t1 (by omega) (r := 2) (by omega)) rfl rfl rfl (by omega) (by omega) (by omega) x c)) ?_
      intro p hp0 hp1
      apply W_load6
      apply W_load10
      apply W_load11
      apply W_load13
      apply W_pure e
      try dsimp only
      apply W_bind e
      rw [k0_part38_eq_skeleton]
      unfold k0_part38_skel
      dsimp only
      apply W_store13
      refine W_chunk 0 1 (by decide) hp0 hp1 rfl (fun x c => (congrFun (same_114_113 _ _ _) _).trans (mask_chunk hqt hsh 0 (off45 i k0_t1 (by omega) (r := 3) (by omega)) rfl rfl rfl (by omega) (by omega) (by omega) x c)) ?_
      intro p hp0 hp1
      apply W_load6
      apply W_load10
      apply W_load11
      apply W_load13
      apply W_store13
      refine W_chunk 1 0 (by decide) (PC_zero e k0_t1.val q shf 1 (512 * ((4 * (i 2).val + k0_t1.val) - 3)) p) hp0 rfl (fun x c => (congrFun (same_115 _ _ _) _).trans (full_chunk hqt hsh 1 (off46 i k0_t1 (by omega) (r := 0) (by omega)) rfl rfl rfl (by omega) (by omega) (by omega) x c)) ?_
      intro p hp1 hp0
      apply W_load6
      apply W_load10
      apply W_load11
      apply W_load13
      apply W_store13
      refine W_chunk 1 0 (by decide) hp1 hp0 rfl (fun x c => (congrFun (same_116 _ _ _) _).trans (full_chunk hqt hsh 1 (off46 i k0_t1 (by omega) (r := 1) (by omega)) rfl rfl rfl (by omega) (by omega) (by omega) x c)) ?_
      intro p hp1 hp0
      apply W_pure e
      try dsimp only
      apply W_bind e
      rw [k0_part39_eq_skeleton]
      unfold k0_part39_skel
      dsimp only
      apply W_load6
      apply W_load10
      apply W_load11
      apply W_load13
      apply W_store13
      refine W_chunk 1 0 (by decide) hp1 hp0 rfl (fun x c => (congrFun (same_117 _ _ _) _).trans (full_chunk hqt hsh 1 (off46 i k0_t1 (by omega) (r := 2) (by omega)) rfl rfl rfl (by omega) (by omega) (by omega) x c)) ?_
      intro p hp1 hp0
      apply W_load6
      apply W_load10
      apply W_load11
      apply W_load13
      apply W_pure e
      try dsimp only
      apply W_store13
      refine W_chunk 1 0 (by decide) hp1 hp0 rfl (fun x c => (congrFun (same_118 _ _ _) _).trans (mask_chunk hqt hsh 1 (off46 i k0_t1 (by omega) (r := 3) (by omega)) rfl rfl rfl (by omega) (by omega) (by omega) x c)) ?_
      intro p hp1 hp0
      apply W_load9
      apply W_load12
      apply W_load13
      apply W_load12
      apply W_store12
      refine W_acc2048 hvt 0 1 (by decide) ha0 ha1 hp0 (by omega) (by omega) (off47 i k0_t1 (by omega)) rfl rfl rfl rfl (same_4 _ _ _) ?_
      intro acc ha0 ha1
      apply W_load9
      apply W_load12
      apply W_load13
      apply W_load12
      apply W_store12
      refine W_acc2048 hvt 1 0 (by decide) ha1 ha0 hp1 (by omega) (by omega) (off48 i k0_t1 (by omega)) rfl rfl rfl rfl (same_5 _ _ _) ?_
      intro acc ha1 ha0
      exact hk _ ⟨_, ⟨ho, hvt, hqt, hsh, ha0, ha1⟩, by omega⟩
    case hk110 =>
      rintro ⟨o', vt, qt, sh, acc, p⟩ ⟨n0, ⟨ho, hvt, hqt, hsh, ha0, ha1⟩, hn⟩
      try dsimp only at ho hvt hqt hsh ha0 ha1
      apply W_load12
      apply W_load12
      apply W_load8
      apply W_store8
      refine W_out hsr ht (ha0.to (by omega)) (ha1.to (by omega)) rfl rfl (off49 k0_t1) ?_
      intro o₁ hrow hold
      exact W_pure e ⟨hvt, hrow, fun t' ht' q' lo' h => hold t' ht' q' lo' (ho ▸ h)⟩
    have hr := mt (cond13 i k0_t1 ha hb hM).2 h
    omega
  have hr := mt (cond12 i k0_t1 ha hb hM).2 h
  omega

/-- The kernel's body at a grid point: every query's result is there, and the values lie transposed. -/
theorem whole_v (e : Env nD τ sig Ideal Λ₀) (i : grid0.Coords) (L : Fin k0_t1_loop.trips → Fin 2 → ℕ)
    (hL : ∀ t hh, L t hh ≤ 4 * (i 2).val + t.val) (hK : ∀ j, ∃ x : ℝ, e.t4 j = x) (hQ : ∀ r c, ∃ x : ℝ, e.t5 (ix3 0 r c) = x)
    (hA : ∀ t, e.t3 ((Rect.unit (s := S1024) (k0_off1 i t) S1.size (k0_off1_inb i t)).idx (Shape.Idx.first (numel1_S1.symm ▸ Nat.one_pos))) = wd (L t 0))
    (hB : ∀ t, e.t3 ((Rect.unit (s := S1024) (k0_off2 i t) S1.size (k0_off2_inb i t)).idx (Shape.Idx.first (numel1_S1.symm ▸ Nat.one_pos))) = wd (L t 1))
    (s : St Ideal) (hv : 0 < (i 2).val → VT e 16384 s.vt) :
    W e (cc0_fox_flash_fixed i e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13) s (fun _ s' => VT e 16384 s'.vt ∧ ∀ t : Fin k0_t1_loop.trips, Row e t.val (4 * (i 2).val + t.val) (L t) s'.o) := by
  rw [cc0_fox_flash_fixed_eq_skeleton]
  unfold cc0_fox_flash_fixed_skel
  dsimp only
  have htr : k0_t1_loop.trips = 4 := by decide
  refine W_seq e (W_for e _ _ _ _ (fun k s => (0 < 4 * (i 2).val + k → VT e 16384 s.vt) ∧ ∀ t : Fin k0_t1_loop.trips, t.val < k → Row e t.val (4 * (i 2).val + t.val) (L t) s.o)
    ⟨fun h => hv (by omega), fun t h => absurd h (Nat.not_lt_zero _)⟩ (fun k u s hs => ?_)) ?_
  · have hq := q_lt i k
    have h0 := hL k 0
    have h1 := hL k 1
    refine W_mono e (t1_body_v e i k (by omega) (by omega) (max_le h0 h1) rfl rfl rfl hK hQ (hA k) (hB k) _ _ u s hs.1) ?_
    rintro _ s' ⟨hvt, hrow, hold⟩
    refine ⟨fun _ => hvt, fun t ht => ?_⟩
    rcases Nat.lt_succ_iff_lt_or_eq.mp ht with h | h
    · exact hold t.val h _ _ (hs.2 t h)
    · obtain rfl : t = k := Fin.ext h
      exact hrow
  · rintro _ s ⟨hvt, hr⟩
    exact W_pure e ⟨hvt (by omega), fun t => hr t t.isLt⟩

end Cert.Flash
-- ==== Proof.Flash.Weights.lean ====
/-
  Weighted means over the extended reals: values weighted by powers of two of real scores. A common shift of the scores
  leaves the mean unchanged, and the reference's softmax, taken with its largest score, is the same mean.
-/
module

public import Idealize.ShloMosaic.PureOps.Ideal
public import Mathlib.Analysis.SpecialFunctions.Pow.Real
public import Mathlib.Algebra.BigOperators.Fin
public import Mathlib.Algebra.Order.BigOperators.Group.Finset
public import Mathlib.Order.Interval.Finset.Nat

@[expose] public section

noncomputable section

namespace Cert.Flash

open Idealize.ShloMosaic

/-- A nonnegative real times a sum. -/
theorem coe_mul_sum {ι : Type} (K : Finset ι) {x : ℝ} (hx : 0 ≤ x) (f : ι → EReal) : (x : EReal) * ∑ k ∈ K, f k = ∑ k ∈ K, (x : EReal) * f k := by
  classical
  induction K using Finset.induction_on with
  | empty => simp
  | insert a s ha ih =>
    rw [Finset.sum_insert ha, Finset.sum_insert ha, EReal.left_distrib_of_nonneg_of_ne_top (by exact_mod_cast hx) (EReal.coe_ne_top _), ih]

/-- A sum of reals is real. -/
theorem sum_coe {ι : Type} (K : Finset ι) (f : ι → ℝ) : ∑ k ∈ K, ((f k : ℝ) : EReal) = ((∑ k ∈ K, f k : ℝ) : EReal) := by
  classical
  induction K using Finset.induction_on with
  | empty => simp
  | insert a s ha ih => rw [Finset.sum_insert ha, Finset.sum_insert ha, ih, EReal.coe_add]

theorem div_pos_real {w : ℝ} (hw : 0 < w) (x : EReal) : Ideal.div x (w : EReal) = x * ((1 / w : ℝ) : EReal) := Ideal.div_coe hw.ne' x

/-- A common factor of the weights leaves the mean unchanged. -/
theorem mean_scale {ι : Type} (K : Finset ι) (v : ι → EReal) (w : ι → ℝ) {x : ℝ} (hx : 0 < x) (hw : 0 < ∑ k ∈ K, w k) :
    (∑ k ∈ K, v k * ((x * w k : ℝ) : EReal)) * Ideal.div 1 (∑ k ∈ K, ((x * w k : ℝ) : EReal))
      = (∑ k ∈ K, v k * (w k : EReal)) * Ideal.div 1 (∑ k ∈ K, (w k : EReal)) := by
  have h1 : ∑ k ∈ K, v k * ((x * w k : ℝ) : EReal) = (x : EReal) * ∑ k ∈ K, v k * (w k : EReal) := by
    rw [coe_mul_sum K hx.le]
    exact Finset.sum_congr rfl fun k _ => by rw [EReal.coe_mul, mul_left_comm]
  rw [h1, sum_coe, sum_coe, ← Finset.mul_sum, div_pos_real (mul_pos hx hw), div_pos_real hw, one_mul, one_mul, mul_comm (x : EReal), mul_assoc,
    ← EReal.coe_mul]
  congr 2
  field_simp

/-- Dividing each weight by their sum is dividing the weighted sum by it. -/
theorem mean_div {ι : Type} (K : Finset ι) (v : ι → EReal) (w : ι → ℝ) (hw : 0 < ∑ k ∈ K, w k) :
    ∑ k ∈ K, v k * Ideal.div (w k : EReal) (∑ k ∈ K, (w k : EReal)) = (∑ k ∈ K, v k * (w k : EReal)) * Ideal.div 1 (∑ k ∈ K, (w k : EReal)) := by
  rw [sum_coe, div_pos_real hw, one_mul, mul_comm, coe_mul_sum K (by positivity)]
  exact Finset.sum_congr rfl fun k _ => by rw [div_pos_real hw, ← mul_assoc, mul_comm]

/-- The weight of a key: two to its score, for a key not beyond the query. -/
def wgt (s : ℕ → ℝ) (p n : ℕ) : ℝ := if n ≤ p then Real.rpow 2 (s n) else 0

theorem wgt_nonneg (s : ℕ → ℝ) (p n : ℕ) : 0 ≤ wgt s p n := by
  unfold wgt
  split
  · exact Real.rpow_nonneg (by norm_num) _
  · exact le_refl _

theorem wgt_eq (s : ℕ → ℝ) (p n : ℕ) : (if n ≤ p then Ideal.exp2 (s n : EReal) else 0) = (wgt s p n : EReal) := by
  unfold wgt
  split
  · rw [Ideal.exp2_coe]
  · rw [EReal.coe_zero]

theorem wgt_shift (s : ℕ → ℝ) (x : ℝ) (p n : ℕ) :
    (if n ≤ p then Ideal.exp2 ((s n : EReal) - (x : EReal)) else 0) = ((Real.rpow 2 (-x) * wgt s p n : ℝ) : EReal) := by
  unfold wgt
  split
  · rw [← EReal.coe_sub, Ideal.exp2_coe]
    congr 1
    show (2 : ℝ) ^ (s n - x) = (2 : ℝ) ^ (-x) * (2 : ℝ) ^ (s n)
    rw [← Real.rpow_add (by norm_num)]
    congr 1
    ring
  · rw [mul_zero, EReal.coe_zero]

theorem wgt_pos (s : ℕ → ℝ) {p a b : ℕ} (ha : a ≤ p) (hb : p < b) : 0 < ∑ k ∈ Finset.Ico a b, wgt s p k :=
  Finset.sum_pos' (fun k _ => wgt_nonneg s p k) ⟨p, Finset.mem_Ico.mpr ⟨ha, hb⟩, by
    unfold wgt
    rw [if_pos (le_refl _)]
    exact Real.rpow_pos_of_pos (by norm_num) _⟩

/-- A common shift of the scores leaves the mean unchanged. -/
theorem mean_shift (v : ℕ → EReal) (s : ℕ → ℝ) (x : ℝ) {p a b : ℕ} (ha : a ≤ p) (hb : p < b) :
    (∑ k ∈ Finset.Ico a b, v k * (if k ≤ p then Ideal.exp2 ((s k : EReal) - (x : EReal)) else 0))
        * Ideal.div 1 (∑ k ∈ Finset.Ico a b, if k ≤ p then Ideal.exp2 ((s k : EReal) - (x : EReal)) else 0)
      = (∑ k ∈ Finset.Ico a b, v k * (if k ≤ p then Ideal.exp2 (s k : EReal) else 0))
        * Ideal.div 1 (∑ k ∈ Finset.Ico a b, if k ≤ p then Ideal.exp2 (s k : EReal) else 0) := by
  simp only [wgt_shift, wgt_eq]
  exact mean_scale _ v (wgt s p) (Real.rpow_pos_of_pos (by norm_num) _) (wgt_pos s ha hb)

/-- A score in natural units, masked. -/
def masked (s : ℕ → ℝ) (a p n : ℕ) : EReal := if n ≤ p ∧ a ≤ n then (s n : EReal) * (Real.log 2 : EReal) else ⊥

/-- The weight of a masked score. -/
theorem exp_masked (s : ℕ → ℝ) (a p n : ℕ) (M : ℝ) :
    Ideal.exp (masked s a p n - (M : EReal)) = ((Real.exp (-M) * (if a ≤ n then wgt s p n else 0) : ℝ) : EReal) := by
  unfold masked wgt
  by_cases h : n ≤ p ∧ a ≤ n
  · rw [if_pos h, if_pos h.2, if_pos h.1, ← EReal.coe_mul, ← EReal.coe_sub, Ideal.exp_coe]
    congr 1
    show Real.exp _ = Real.exp (-M) * (2 : ℝ) ^ (s n)
    rw [Real.rpow_def_of_pos (by norm_num), ← Real.exp_add]
    congr 1
    ring
  · rw [if_neg h, EReal.bot_sub, Ideal.exp_bot]
    by_cases h1 : a ≤ n
    · rw [if_pos h1, if_neg (fun h2 => h ⟨h2, h1⟩), mul_zero, EReal.coe_zero]
    · rw [if_neg h1, mul_zero, EReal.coe_zero]

/-- The reference's softmax mean over all keys is the mean over the keys from the first kept one to the end of the
    query's block. -/
theorem softmax_mean {N : ℕ} (v : ℕ → EReal) (s : ℕ → ℝ) (M : ℝ) {p a b : ℕ} (ha : a ≤ p) (hb : p < b) (hN : b ≤ N) :
    ∑ n : Fin N, v n.val * Ideal.div (Ideal.exp (masked s a p n.val - (M : EReal))) (∑ n : Fin N, Ideal.exp (masked s a p n.val - (M : EReal)))
      = (∑ k ∈ Finset.Ico a b, v k * (if k ≤ p then Ideal.exp2 (s k : EReal) else 0))
        * Ideal.div 1 (∑ k ∈ Finset.Ico a b, if k ≤ p then Ideal.exp2 (s k : EReal) else 0) := by
  simp only [exp_masked, wgt_eq]
  rw [Fin.sum_univ_eq_sum_range (fun k => ((Real.exp (-M) * (if a ≤ k then wgt s p k else 0) : ℝ) : EReal)) N,
    Fin.sum_univ_eq_sum_range (fun k => v k * Ideal.div ((Real.exp (-M) * (if a ≤ k then wgt s p k else 0) : ℝ) : EReal)
      (∑ k ∈ Finset.range N, ((Real.exp (-M) * (if a ≤ k then wgt s p k else 0) : ℝ) : EReal))) N]
  have hsub : Finset.Ico a b ⊆ Finset.range N := fun k hk => Finset.mem_range.mpr (lt_of_lt_of_le (Finset.mem_Ico.mp hk).2 hN)
  have hout : ∀ k ∈ Finset.range N, k ∉ Finset.Ico a b → (if a ≤ k then wgt s p k else 0) = 0 := fun k _ hk => by
    by_cases h : a ≤ k
    · rw [if_pos h]
      unfold wgt
      exact if_neg fun h2 => hk (Finset.mem_Ico.mpr ⟨h, by omega⟩)
    · rw [if_neg h]
  have hin : ∀ k ∈ Finset.Ico a b, (if a ≤ k then wgt s p k else 0) = wgt s p k := fun k hk => if_pos (Finset.mem_Ico.mp hk).1
  have hr : ∑ k ∈ Finset.range N, (if a ≤ k then wgt s p k else 0) = ∑ k ∈ Finset.Ico a b, wgt s p k :=
    (Finset.sum_subset hsub hout).symm.trans (Finset.sum_congr rfl hin)
  have hpos : 0 < ∑ k ∈ Finset.range N, (if a ≤ k then wgt s p k else 0) := hr ▸ wgt_pos s ha hb
  have hx := Real.exp_pos (-M)
  rw [mean_div (Finset.range N) v (fun k => Real.exp (-M) * (if a ≤ k then wgt s p k else 0)) (by rw [← Finset.mul_sum]; exact mul_pos hx hpos),
    mean_scale (Finset.range N) v (fun k => if a ≤ k then wgt s p k else 0) hx hpos]
  congr 1
  · refine (Finset.sum_subset hsub fun k hk hk' => ?_).symm.trans (Finset.sum_congr rfl fun k hk => ?_)
    · rw [hout k hk hk', EReal.coe_zero, mul_zero]
    · rw [hin k hk]
  · rw [sum_coe, sum_coe, hr]

/-- The largest of scores of which none is infinite above and one is real is real. -/
theorem sup_real {N : ℕ} (f : Fin N → EReal) (hf : ∀ n, f n ≠ ⊤) (n₀ : Fin N) (h₀ : f n₀ ≠ ⊥) :
    ∃ M : ℝ, Finset.univ.sup f = M := by
  have h1 : Finset.univ.sup f ≠ ⊥ := fun h => h₀ (le_bot_iff.mp (h ▸ Finset.le_sup (Finset.mem_univ n₀)))
  have h2 : Finset.univ.sup f ≠ ⊤ := by
    have : Finset.univ.sup f < ⊤ := (Finset.sup_lt_iff (bot_lt_top)).mpr fun n _ => lt_top_iff_ne_top.mpr (hf n)
    exact this.ne
  exact ⟨_, (EReal.coe_toReal h2 h1).symm⟩

end Cert.Flash

end
-- ==== Proof.Flash.Attention.lean ====
/-
  The attention the call computes, as one function of its arguments: for every head and query, the values of the keys
  from the head's first kept block of 512 up to the query, weighted by two to the power of their scores.
-/
module

public import proofs.«01_k».proof.Proof.Flash.Steps
public import proofs.«01_k».proof.Proof.Flash.Weights

@[expose] public section

noncomputable section

namespace Cert.Flash

open Idealize.ShloMosaic Idealize.SL.Sem
open Cert.KernelIdeal

/-- Lane `l` of head `h` in the arrays of all heads. -/
abbrev hlane (h l : ℕ) : Fin 2048 := Fin.ofNat 2048 (128 * h + l)

variable (tab : S1024.Idx → BitVec 32) (q k v : S2x16384x2048.Idx → EReal)

/-- The first block of 512 keys head `h` keeps for the `qi`-th block of 512 queries. -/
def first (b h qi : ℕ) : ℕ := (tab (ix1 (Fin.ofNat 1024 ((b * 16 + h) * 32 + qi)))).toNat

/-- The score of key `n` for query `p`. -/
def sc (b : Fin 2) (h p n : ℕ) : EReal := ∑ l : Fin 128, k (ix3 b (key n) (hlane h l)) * q (ix3 b (key p) (hlane h l))

/-- Value lane `d` of query `p`'s result, the keys taken from block `lo` on. -/
def mean (lo : ℕ) (b : Fin 2) (h p d : ℕ) : EReal :=
  (∑ n ∈ Finset.Ico (512 * lo) (512 * (p / 512 + 1)), v (ix3 b (key n) (hlane h d)) * (if n ≤ p then Ideal.exp2 (sc q k b h p n) else 0))
    * Ideal.div 1 (∑ n ∈ Finset.Ico (512 * lo) (512 * (p / 512 + 1)), if n ≤ p then Ideal.exp2 (sc q k b h p n) else 0)

/-- The call's result: 64 value lanes of each of the 16 heads. -/
def attention : S2x16384x1024.Idx → EReal := fun i =>
  mean q k v (first tab (i 0).val ((i 2).val / 64) ((i 1).val / 512)) (i 0) ((i 2).val / 64) (i 1).val ((i 2).val % 64)

/-- What is asked of the arguments: first blocks not beyond the queries', real queries and keys, and a one in lane 64 of
    every head's values. -/
structure Good (kall : S32.Idx → EReal) : Prop where
  tab : ∀ b h qi : ℕ, b < 2 → h < 16 → qi < 32 → first tab b h qi ≤ qi
  kall : ∀ j, ∃ x : ℝ, kall j = x
  q : ∀ i, ∃ x : ℝ, q i = x
  k : ∀ i, ∃ x : ℝ, k i = x
  v : ∀ (b : Fin 2) (n : Fin 16384) (h : ℕ), h < 16 → v (ix3 b n (hlane h 64)) = 1

variable {tab q k v}

theorem sc_real (hq : ∀ i, ∃ x : ℝ, q i = x) (hk : ∀ i, ∃ x : ℝ, k i = x) (b : Fin 2) (h p n : ℕ) : ∃ x : ℝ, sc q k b h p n = x := by
  choose fq hq using hq
  choose fk hk using hk
  refine ⟨∑ l : Fin 128, fk (ix3 b (key n) (hlane h l)) * fq (ix3 b (key p) (hlane h l)), ?_⟩
  unfold sc
  rw [← sum_coe]
  exact Finset.sum_congr rfl fun l _ => by rw [hq, hk, EReal.coe_mul]

variable {nD : ℕ} {τ : Topo} {sig : RefSig} {Λ : Labels}

theorem tot_mean {kall : S32.Idx → EReal} (g : Good tab q k v kall) (e : Env nD τ sig Ideal Λ) (b : Fin 2) (h t Q p : ℕ)
    (shf : Fin 2 → Fin 512 → EReal) (lo : Fin 2 → ℕ) (hh : Fin 2) (c : Fin 512) (d : Fin 128) (hs : ∃ x : ℝ, shf hh c = x)
    (h16 : h < 16) (hp : 512 * Q + c.val = p) (hlo : lo hh ≤ Q)
    (hscore : ∀ n, score e t hh n c = sc q k b h p n)
    (hv : ∀ n (d : Fin 128), e.t7 (ix3 0 (key n) (lane hh d)) = v (ix3 b (key n) (hlane h d.val))) :
    tot e t Q shf lo hh (512 * (Q + 1)) d c * Ideal.div 1 (tot e t Q shf lo hh (512 * (Q + 1)) 64 c)
      = mean q k v (lo hh) b h p d.val := by
  obtain ⟨x, hx⟩ := hs
  have hone : ∀ n, e.t7 (ix3 0 (key n) (lane hh 64)) = 1 := fun n => (hv n 64).trans (g.v b (key n) h h16)
  have hc := c.isLt
  have hp2 : p / 512 = Q := by omega
  choose s hs using fun n => sc_real g.q g.k b h p n
  unfold mean
  rw [hp2]
  have e1 : ∀ n, wt e t Q shf hh n c = (if n ≤ p then Ideal.exp2 ((s n : EReal) - (x : EReal)) else 0) := fun n => by
    unfold wt; rw [hp, hscore, hs, hx]
  have e2 : ∀ d : Fin 128, tot e t Q shf lo hh (512 * (Q + 1)) d c
      = ∑ n ∈ Finset.Ico (512 * lo hh) (512 * (Q + 1)), v (ix3 b (key n) (hlane h d.val)) * (if n ≤ p then Ideal.exp2 ((s n : EReal) - (x : EReal)) else 0) := fun d => by
    unfold tot
    exact Finset.sum_congr rfl fun n _ => by rw [hv, e1]
  have e3 : tot e t Q shf lo hh (512 * (Q + 1)) 64 c
      = ∑ n ∈ Finset.Ico (512 * lo hh) (512 * (Q + 1)), (if n ≤ p then Ideal.exp2 ((s n : EReal) - (x : EReal)) else 0) := by
    unfold tot
    exact Finset.sum_congr rfl fun n _ => by rw [hone, e1, one_mul]
  have e4 : ∀ n, (if n ≤ p then Ideal.exp2 (sc q k b h p n) else 0) = (if n ≤ p then Ideal.exp2 (s n : EReal) else 0) := fun n => by rw [hs]
  rw [e2, e3, Finset.sum_congr rfl fun n _ => e4 n, Finset.sum_congr rfl fun n _ => congrArg (v (ix3 b (key n) (hlane h d.val)) * ·) (e4 n)]
  exact mean_shift (fun n => v (ix3 b (key n) (hlane h d.val))) s x (by omega) (by omega)

/-- A head's totals at a grid point are the attention's, whatever the shift. -/
theorem tot_eq {kall : S32.Idx → EReal} (g : Good tab q k v kall) (e : Env nD τ sig Ideal Λ) (b : Fin 2) {hp i2 t : ℕ} (hhp : hp < 8) (hi2 : i2 < 8) (ht : t < 4)
    (h5 : ∀ (r : Fin 2048) (l : Fin 256), e.t5 (ix3 0 r l) = q (ix3 b (key (2048 * i2 + r.val)) (Fin.ofNat 2048 (256 * hp + l.val))))
    (h6 : ∀ (n : Fin 16384) (l : Fin 256), e.t6 (ix3 0 n l) = k (ix3 b n (Fin.ofNat 2048 (256 * hp + l.val))))
    (h7 : ∀ (n : Fin 16384) (l : Fin 256), e.t7 (ix3 0 n l) = v (ix3 b n (Fin.ofNat 2048 (256 * hp + l.val))))
    (shf : Fin 2 → Fin 512 → EReal) (hs : ∀ hh c, ∃ x : ℝ, shf hh c = x) (lo : Fin 2 → ℕ) (hh : Fin 2) (hlo : lo hh ≤ 4 * i2 + t)
    (c : Fin 512) (d : Fin 128) :
    tot e t (4 * i2 + t) shf lo hh (512 * (4 * i2 + t + 1)) d c * Ideal.div 1 (tot e t (4 * i2 + t) shf lo hh (512 * (4 * i2 + t + 1)) 64 c)
      = mean q k v (lo hh) b (2 * hp + hh.val) (2048 * i2 + 512 * t + c.val) d.val := by
  have hl : ∀ l : Fin 128, (Fin.ofNat 2048 (256 * hp + (lane hh l).val) : Fin 2048) = hlane (2 * hp + hh.val) l.val := fun l =>
    congrArg (Fin.ofNat 2048) (show 256 * hp + (128 * hh.val + l.val) = 128 * (2 * hp + hh.val) + l.val by omega)
  have hr : (key (2048 * i2 + (qrow t c).val) : Fin 16384) = key (2048 * i2 + 512 * t + c.val) := by
    have hc := c.isLt
    have h : (qrow t c).val = 512 * t + c.val := Nat.mod_eq_of_lt (by omega)
    rw [h, Nat.add_assoc]
  refine tot_mean g e b (2 * hp + hh.val) t (4 * i2 + t) (2048 * i2 + 512 * t + c.val) shf lo hh c d (hs hh c) (by omega) (by omega) hlo
    (fun n => ?_) (fun n d => ?_)
  · unfold score sc
    exact Finset.sum_congr rfl fun l _ => by rw [h6, h5, hl, hr]
  · rw [h7, hl]

end Cert.Flash

end
-- ==== Proof.Flash.Result.lean ====
/-
  The result array of the flash call over the extended reals: at every grid point the body leaves the attention's block,
  so the array after the run is the attention of the arguments.
-/
module

public import proofs.«01_k».proof.Proof.Flash.LaunchKernelIdeal
public import proofs.«01_k».proof.Proof.Flash.Point
public import proofs.«01_k».proof.Proof.Flash.Attention

@[expose] public section

set_option maxRecDepth 16384

noncomputable section

namespace Cert.Flash.Result

open Cert.KernelIdeal Cert.KernelIdeal.Gen Cert.Flash.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ### The arguments and the result -/

abbrev argT (c : Dev nD) : S1024.Idx → BitVec 32 := m ((c : Thread nD τ).loc main_arg0)
abbrev argL (c : Dev nD) : S32.Idx → EReal := m ((c : Thread nD τ).loc main_arg1)
abbrev argQ (c : Dev nD) : S2x16384x2048.Idx → EReal := m ((c : Thread nD τ).loc main_arg2)
abbrev argK (c : Dev nD) : S2x16384x2048.Idx → EReal := m ((c : Thread nD τ).loc main_arg3)
abbrev argV (c : Dev nD) : S2x16384x2048.Idx → EReal := m ((c : Thread nD τ).loc main_arg4)

/-- The call's result. -/
def result (c : Dev nD) : Buf (Elt Ideal) ((c : Thread nD τ).loc main_v0) := attention (argT m c) (argQ m c) (argK m c) (argV m c)

/-- What is asked of the arguments. -/
abbrev GoodArgs (c : Dev nD) : Prop := Good (argT m c) (argQ m c) (argK m c) (argV m c) (argL m c)

theorem words_eq (c : Dev nD) : (words m : S1024.Idx → BitVec 32) = argT m c := by rw [Subsingleton.elim c 0]; rfl

/-! ### The grid's points -/

theorem coords_val : ∀ t : Fin grid0.N, (grid0.coords t 0).val = t.val / 64 ∧ (grid0.coords t 1).val = t.val / 8 % 8 ∧ (grid0.coords t 2).val = t.val % 8 := by
  decide +kernel

theorem maps : ∀ t : Fin grid0.N, (cc0_transform_0 (grid0.coords t) 0 = 0)
    ∧ (cc0_transform_1 (grid0.coords t) 0 = t.val / 64 ∧ cc0_transform_1 (grid0.coords t) 1 = t.val % 8 ∧ cc0_transform_1 (grid0.coords t) 2 = t.val / 8 % 8)
    ∧ (cc0_transform_2 (grid0.coords t) 0 = t.val / 64 ∧ cc0_transform_2 (grid0.coords t) 1 = 0 ∧ cc0_transform_2 (grid0.coords t) 2 = t.val / 8 % 8)
    ∧ (cc0_transform_3 (grid0.coords t) 0 = t.val / 64 ∧ cc0_transform_3 (grid0.coords t) 1 = 0 ∧ cc0_transform_3 (grid0.coords t) 2 = t.val / 8 % 8)
    ∧ (cc0_transform_4 (grid0.coords t) 0 = t.val / 64 ∧ cc0_transform_4 (grid0.coords t) 1 = t.val % 8 ∧ cc0_transform_4 (grid0.coords t) 2 = t.val / 8 % 8) := by
  decide +kernel

theorem N128 : (cfgM m).N = 128 := (by decide +kernel : grid0.N = 128)

/-- The batch of the point `t`. -/
def bat (t : Fin (cfgM m).N) : Fin 2 := ⟨t.val / 64, by have := lt_of_lt_of_eq t.isLt (N128 m); omega⟩

/-! ### The blocks -/

theorem blk_q (c : Dev nD) (t : Fin (cfgM m).N) (r : Fin 2048) (l : Fin 256) :
    (iblk m c 1 t : S1x2048x256.Idx → EReal) (ix3 0 r l)
      = argQ m c (ix3 (bat m t) (key (2048 * (t.val % 8) + r.val)) (Fin.ofNat 2048 (256 * (t.val / 8 % 8) + l.val))) := by
  obtain ⟨-, ⟨h0, h1, h2⟩, -⟩ := maps t
  have hr := r.isLt
  have hl := l.isLt
  unfold iblk
  refine (View.read_apply _ _).trans (congrArg (argQ m c) (funext fun a => Fin.ext ?_))
  match a with
  | ⟨0, _⟩ => show cc0_transform_1 (grid0.coords t) 0 * 1 + 1 * 0 = t.val / 64; rw [h0]; omega
  | ⟨1, _⟩ => show cc0_transform_1 (grid0.coords t) 1 * 2048 + 1 * r.val = (2048 * (t.val % 8) + r.val) % 16384; rw [h1]; omega
  | ⟨2, _⟩ => show cc0_transform_1 (grid0.coords t) 2 * 256 + 1 * l.val = (256 * (t.val / 8 % 8) + l.val) % 2048; rw [h2]; omega

theorem blk_k (c : Dev nD) (t : Fin (cfgM m).N) (n : Fin 16384) (l : Fin 256) :
    (iblk m c 2 t : S1x16384x256.Idx → EReal) (ix3 0 n l)
      = argK m c (ix3 (bat m t) n (Fin.ofNat 2048 (256 * (t.val / 8 % 8) + l.val))) := by
  obtain ⟨-, -, ⟨h0, h1, h2⟩, -⟩ := maps t
  have hl := l.isLt
  unfold iblk
  refine (View.read_apply _ _).trans (congrArg (argK m c) (funext fun a => Fin.ext ?_))
  match a with
  | ⟨0, _⟩ => show cc0_transform_2 (grid0.coords t) 0 * 1 + 1 * 0 = t.val / 64; rw [h0]; omega
  | ⟨1, _⟩ => show cc0_transform_2 (grid0.coords t) 1 * 16384 + 1 * n.val = n.val; rw [h1]; omega
  | ⟨2, _⟩ => show cc0_transform_2 (grid0.coords t) 2 * 256 + 1 * l.val = (256 * (t.val / 8 % 8) + l.val) % 2048; rw [h2]; omega

theorem blk_v (c : Dev nD) (t : Fin (cfgM m).N) (n : Fin 16384) (l : Fin 256) :
    (iblk m c 3 t : S1x16384x256.Idx → EReal) (ix3 0 n l)
      = argV m c (ix3 (bat m t) n (Fin.ofNat 2048 (256 * (t.val / 8 % 8) + l.val))) := by
  obtain ⟨-, -, -, ⟨h0, h1, h2⟩, -⟩ := maps t
  have hl := l.isLt
  unfold iblk
  refine (View.read_apply _ _).trans (congrArg (argV m c) (funext fun a => Fin.ext ?_))
  match a with
  | ⟨0, _⟩ => show cc0_transform_3 (grid0.coords t) 0 * 1 + 1 * 0 = t.val / 64; rw [h0]; omega
  | ⟨1, _⟩ => show cc0_transform_3 (grid0.coords t) 1 * 16384 + 1 * n.val = n.val; rw [h1]; omega
  | ⟨2, _⟩ => show cc0_transform_3 (grid0.coords t) 2 * 256 + 1 * l.val = (256 * (t.val / 8 % 8) + l.val) % 2048; rw [h2]; omega

theorem blk_l {c : Dev nD} (h : ∀ j, ∃ x : ℝ, argL m c j = x) (t : Fin (cfgM m).N) (j : S32.Idx) :
    ∃ x : ℝ, (show EReal from (iblk m c 0 t : S32.Idx → EReal) j) = x := by
  obtain ⟨x, hx⟩ := h (((((cfgM m).win 0).blk t).view.emb j : S32.Idx))
  exact ⟨x, (View.read_apply _ _).trans hx⟩

/-- The result's block at the point `t`. -/
def outBlk (c : Dev nD) (t : Fin (cfgM m).N) : S1x2048x128.Idx → EReal := fun j =>
  result m c (ix3 (bat m t) (key (2048 * (t.val % 8) + (j 1).val)) (Fin.ofNat 1024 (128 * (t.val / 8 % 8) + (j 2).val)))

theorem outBlk_eq (c : Dev nD) (t : Fin (cfgM m).N) :
    (((cfgM m).win 4).blk t).view.read (Elt Ideal) (result m c) = outBlk m c t := by
  obtain ⟨-, -, -, -, h0, h1, h2⟩ := maps t
  refine funext fun (j : S1x2048x128.Idx) => ?_
  have hj0 : (j 0).val < 1 := (j 0).isLt
  have hj1 : (j 1).val < 2048 := (j 1).isLt
  have hj2 : (j 2).val < 128 := (j 2).isLt
  unfold outBlk
  refine (View.read_apply _ _).trans <| congrArg (result m c) (funext fun a => Fin.ext ?_)
  match a with
  | ⟨0, _⟩ => show cc0_transform_4 (grid0.coords t) 0 * 1 + 1 * (j 0).val = t.val / 64; rw [h0]; omega
  | ⟨1, _⟩ => show cc0_transform_4 (grid0.coords t) 1 * 2048 + 1 * (j 1).val = (2048 * (t.val % 8) + (j 1).val) % 16384; rw [h1]; omega
  | ⟨2, _⟩ => show cc0_transform_4 (grid0.coords t) 2 * 128 + 1 * (j 2).val = (128 * (t.val / 8 % 8) + (j 2).val) % 1024; rw [h2]; omega

/-! ### The words the body reads -/

theorem off1_val : ∀ (i : grid0.Coords) (t : Fin k0_t1_loop.trips), k0_off1 i t 0 = ((i 0).val * 16 + (2 * (i 1).val + 0)) * 32 + (4 * (i 2).val + t.val) := by
  have h : ∀ x : Fin 2, ∀ y : Fin 8, ∀ z : Fin 8, ∀ t : Fin 4,
    (Scalar.addi (Scalar.muli (Scalar.addi (Scalar.muli (BitVec.ofNat 32 x.val) 16#32) (Scalar.muli 2#32 (BitVec.ofNat 32 y.val))) 32#32)
      (Scalar.addi (Scalar.muli 4#32 (BitVec.ofNat 32 z.val)) (Scf.iv 0#32 1#32 t.val))).toNat = (x.val * 16 + (2 * y.val + 0)) * 32 + (4 * z.val + t.val) := by
    decide +kernel
  intro i t
  exact h (i 0) (i 1) (i 2) ⟨t.val, t1_lt t⟩

theorem off2_val : ∀ (i : grid0.Coords) (t : Fin k0_t1_loop.trips), k0_off2 i t 0 = ((i 0).val * 16 + (2 * (i 1).val + 1)) * 32 + (4 * (i 2).val + t.val) := by
  have h : ∀ x : Fin 2, ∀ y : Fin 8, ∀ z : Fin 8, ∀ t : Fin 4,
    (Scalar.addi (Scalar.addi (Scalar.muli (Scalar.addi (Scalar.muli (BitVec.ofNat 32 x.val) 16#32) (Scalar.muli 2#32 (BitVec.ofNat 32 y.val))) 32#32)
      (Scalar.addi (Scalar.muli 4#32 (BitVec.ofNat 32 z.val)) (Scf.iv 0#32 1#32 t.val))) 32#32).toNat = (x.val * 16 + (2 * y.val + 1)) * 32 + (4 * z.val + t.val) := by
    decide +kernel
  intro i t
  exact h (i 0) (i 1) (i 2) ⟨t.val, t1_lt t⟩

/-- A head's first block at the point `i`, step `t`. -/
def L (c : Dev nD) (i : grid0.Coords) (t : Fin k0_t1_loop.trips) (hh : Fin 2) : ℕ :=
  first (argT m c) (i 0).val (2 * (i 1).val + hh.val) (4 * (i 2).val + t.val)

theorem word1 (c : Dev nD) (i : grid0.Coords) (t : Fin k0_t1_loop.trips) :
    words m ((Rect.unit (s := S1024) (k0_off1 i t) S1.size (k0_off1_inb i t)).idx (Shape.Idx.first (numel1_S1.symm ▸ Nat.one_pos))) = wd (L m c i t 0) := by
  rw [words_eq m c]
  unfold L first wd
  rw [BitVec.ofNat_toNat, BitVec.setWidth_eq]
  refine congrArg (argT m c) (funext fun a => Fin.ext ?_)
  match a with
  | ⟨0, _⟩ =>
    show k0_off1 i t 0 + 1 * 0 = (((i 0).val * 16 + (2 * (i 1).val + 0)) * 32 + (4 * (i 2).val + t.val)) % 1024
    have h0 : (i 0).val < 2 := (i 0).isLt
    have h1 : (i 1).val < 8 := (i 1).isLt
    have h2 : (i 2).val < 8 := (i 2).isLt
    have h3 := t1_lt t
    rw [off1_val]; omega

theorem word2 (c : Dev nD) (i : grid0.Coords) (t : Fin k0_t1_loop.trips) :
    words m ((Rect.unit (s := S1024) (k0_off2 i t) S1.size (k0_off2_inb i t)).idx (Shape.Idx.first (numel1_S1.symm ▸ Nat.one_pos))) = wd (L m c i t 1) := by
  rw [words_eq m c]
  unfold L first wd
  rw [BitVec.ofNat_toNat, BitVec.setWidth_eq]
  refine congrArg (argT m c) (funext fun a => Fin.ext ?_)
  match a with
  | ⟨0, _⟩ =>
    show k0_off2 i t 0 + 1 * 0 = (((i 0).val * 16 + (2 * (i 1).val + 1)) * 32 + (4 * (i 2).val + t.val)) % 1024
    have h0 : (i 0).val < 2 := (i 0).isLt
    have h1 : (i 1).val < 8 := (i 1).isLt
    have h2 : (i 2).val < 8 := (i 2).isLt
    have h3 := t1_lt t
    rw [off2_val]; omega

theorem L_le {c : Dev nD} (g : GoodArgs m c) (i : grid0.Coords) (t : Fin k0_t1_loop.trips) (hh : Fin 2) : L m c i t hh ≤ 4 * (i 2).val + t.val := by
  have h0 : (i 0).val < 2 := (i 0).isLt
  have h1 : (i 1).val < 8 := (i 1).isLt
  have h2 : (i 2).val < 8 := (i 2).isLt
  have h3 := t1_lt t
  exact g.tab _ _ _ h0 (by omega) (by omega)

/-! ### A point's block -/

theorem block_eq {c : Dev nD} (g : GoodArgs m c) (t : Fin (cfgM m).N) (o : Vec Ideal S1x2048x128 .bf16)
    (h : ∀ s : Fin k0_t1_loop.trips, Row (env m c t) s.val (4 * (grid0.coords t 2).val + s.val) (L m c (grid0.coords t) s) o) : o = outBlk m c t := by
  obtain ⟨hc0, hc1, hc2⟩ := coords_val t
  have hN := lt_of_lt_of_eq t.isLt (N128 m)
  funext j
  have hj1 : (j 1).val < 2048 := (j 1).isLt
  have hj2 : (j 2).val < 128 := (j 2).isLt
  obtain ⟨shf, hs, ho⟩ := h ⟨(j 1).val / 512, by rw [show k0_t1_loop.trips = 4 from by decide]; omega⟩
  have hL := fun hh => L_le m g (grid0.coords t) ⟨(j 1).val / 512, by rw [show k0_t1_loop.trips = 4 from by decide]; omega⟩ hh
  dsimp only at ho hL
  unfold L at ho hL
  rw [hc0, hc1, hc2] at ho
  rw [hc0, hc1, hc2] at hL
  dsimp only at ho hL
  have hj : (j : S1x2048x128.Idx) = ix3 0 (qrow ((j 1).val / 512) ⟨(j 1).val % 512, by omega⟩) ⟨(j 2).val, hj2⟩ := funext fun a => Fin.ext (by
    match a with
    | ⟨0, _⟩ => have h : (j 0).val < 1 := (j 0).isLt
                show (j 0).val = 0; omega
    | ⟨1, _⟩ => show (j 1).val = (512 * ((j 1).val / 512) + (j 1).val % 512) % 2048; omega
    | ⟨2, _⟩ => rfl)
  refine (congrArg o hj).trans ((ho _ _).trans ?_)
  have key : ∀ (hh : Fin 2) (d : Fin 128), _ := fun hh d => tot_eq g (env m c t) (bat m t) (hp := t.val / 8 % 8) (i2 := t.val % 8) (t := (j 1).val / 512) (by omega) (by omega) (by omega)
    (blk_q m c t) (blk_k m c t) (blk_v m c t) shf hs (fun hh => first (argT m c) (t.val / 64) (2 * (t.val / 8 % 8) + hh.val) (4 * (t.val % 8) + (j 1).val / 512)) hh (hL hh) ⟨(j 1).val % 512, by omega⟩ d
  unfold outv
  unfold outBlk result attention
  have e1 : ((Cert.Flash.key (2048 * (t.val % 8) + (j 1).val) : Fin 16384)).val = 2048 * (t.val % 8) + (j 1).val := by
    show (2048 * (t.val % 8) + (j 1).val) % 16384 = _; omega
  have e2 : ((Fin.ofNat 1024 (128 * (t.val / 8 % 8) + (j 2).val) : Fin 1024)).val = 128 * (t.val / 8 % 8) + (j 2).val := by
    show (128 * (t.val / 8 % 8) + (j 2).val) % 1024 = _; omega
  show _ = mean (argQ m c) (argK m c) (argV m c) (first (argT m c) (t.val / 64) ((Fin.ofNat 1024 (128 * (t.val / 8 % 8) + (j 2).val) : Fin 1024).val / 64)
    ((Cert.Flash.key (2048 * (t.val % 8) + (j 1).val) : Fin 16384).val / 512)) (bat m t) ((Fin.ofNat 1024 (128 * (t.val / 8 % 8) + (j 2).val) : Fin 1024).val / 64)
    (Cert.Flash.key (2048 * (t.val % 8) + (j 1).val) : Fin 16384).val ((Fin.ofNat 1024 (128 * (t.val / 8 % 8) + (j 2).val) : Fin 1024).val % 64)
  rw [e1, e2]
  have f1 : (2048 * (t.val % 8) + (j 1).val) / 512 = 4 * (t.val % 8) + (j 1).val / 512 := by omega
  have f2 : 2048 * (t.val % 8) + 512 * ((j 1).val / 512) + (j 1).val % 512 = 2048 * (t.val % 8) + (j 1).val := by omega
  split
  · next hl =>
    have hl' : (j 2).val < 64 := hl
    have f3 : (128 * (t.val / 8 % 8) + (j 2).val) / 64 = 2 * (t.val / 8 % 8) + (0 : Fin 2).val := by show _ = _ + 0; omega
    have f4 : (128 * (t.val / 8 % 8) + (j 2).val) % 64 = (j 2).val := by omega
    rw [f1, f3, f4]
    refine (key 0 ⟨(j 2).val, by omega⟩).trans ?_
    dsimp only
    rw [f2]
  · next hl =>
    have hl' : ¬ (j 2).val < 64 := hl
    have f3 : (128 * (t.val / 8 % 8) + (j 2).val) / 64 = 2 * (t.val / 8 % 8) + (1 : Fin 2).val := by show _ = _ + 1; omega
    have f4 : (128 * (t.val / 8 % 8) + (j 2).val) % 64 = (j 2).val - 64 := by omega
    rw [f1, f3, f4]
    refine (key 1 ⟨(j 2).val - 64, by omega⟩).trans ?_
    dsimp only
    rw [f2]

/-- Within a pair of heads the values stay. -/
theorem VT_next (c : Dev nD) (t t' : Fin (cfgM m).N) (h : t'.val = t.val + 1) (h' : t'.val % 8 ≠ 0) {vt : Vec Ideal S256x16384 .bf16}
    (hv : VT (env m c t) 16384 vt) : VT (env m c t') 16384 vt := fun r k hk => by
  refine (hv r k hk).trans ((blk_v m c t k r).trans (Eq.trans ?_ (blk_v m c t' k r).symm))
  have hb : bat m t = bat m t' := Fin.ext (by show t.val / 64 = t'.val / 64; omega)
  have hp : t.val / 8 % 8 = t'.val / 8 % 8 := by omega
  rw [hb, hp]

end Cert.Flash.Result

end
-- ==== Proof.Flash.Table.lean ====
/-
  The check the kernel makes of the two words of each step holds of every table whose first blocks are not beyond the
  query block.
-/
module

public import proofs.«01_k».proof.Proof.Flash.Result

@[expose] public section

namespace Cert.Flash.Result

open Cert.KernelIdeal Cert.KernelIdeal.Gen
open Idealize.ShloMosaic

/-- The two words of a step, read from any table. -/
theorem chk_of_table (tab : S1024.Idx → BitVec 32) (ht : ∀ b h qi : ℕ, b < 2 → h < 16 → qi < 32 → first tab b h qi ≤ qi)
    (i : grid0.Coords) (t : Fin k0_t1_loop.trips) : k0_chk1 i t
      (tab ((Rect.unit (s := S1024) (k0_off1 i t) S1.size (k0_off1_inb i t)).idx (Shape.Idx.first (numel1_S1.symm ▸ Nat.one_pos))))
      (tab ((Rect.unit (s := S1024) (k0_off2 i t) S1.size (k0_off2_inb i t)).idx (Shape.Idx.first (numel1_S1.symm ▸ Nat.one_pos)))) := by
  have h0 : (i 0).val < 2 := (i 0).isLt
  have h1 : (i 1).val < 8 := (i 1).isLt
  have h2 : (i 2).val < 8 := (i 2).isLt
  have h3 := t1_lt t
  have e1 : tab ((Rect.unit (s := S1024) (k0_off1 i t) S1.size (k0_off1_inb i t)).idx (Shape.Idx.first (numel1_S1.symm ▸ Nat.one_pos)))
      = wd (first tab (i 0).val (2 * (i 1).val + 0) (4 * (i 2).val + t.val)) := by
    unfold first wd
    rw [BitVec.ofNat_toNat, BitVec.setWidth_eq]
    refine congrArg tab (funext fun a => Fin.ext ?_)
    match a with
    | ⟨0, _⟩ =>
      show k0_off1 i t 0 + 1 * 0 = (((i 0).val * 16 + (2 * (i 1).val + 0)) * 32 + (4 * (i 2).val + t.val)) % 1024
      rw [off1_val]; omega
  have e2 : tab ((Rect.unit (s := S1024) (k0_off2 i t) S1.size (k0_off2_inb i t)).idx (Shape.Idx.first (numel1_S1.symm ▸ Nat.one_pos)))
      = wd (first tab (i 0).val (2 * (i 1).val + 1) (4 * (i 2).val + t.val)) := by
    unfold first wd
    rw [BitVec.ofNat_toNat, BitVec.setWidth_eq]
    refine congrArg tab (funext fun a => Fin.ext ?_)
    match a with
    | ⟨0, _⟩ =>
      show k0_off2 i t 0 + 1 * 0 = (((i 0).val * 16 + (2 * (i 1).val + 1)) * 32 + (4 * (i 2).val + t.val)) % 1024
      rw [off2_val]; omega
  have l1 := ht (i 0).val (2 * (i 1).val + 0) (4 * (i 2).val + t.val) h0 (by omega) (by omega)
  have l2 := ht (i 0).val (2 * (i 1).val + 1) (4 * (i 2).val + t.val) h0 (by omega) (by omega)
  rw [e1, e2]
  exact chk1 i t (by omega) (by omega) (by omega)

end Cert.Flash.Result
-- ==== Proof.Flash.Run.lean ====
/-
  Every run of the flash call over the extended reals, on good arguments, ends with the attention in its result array.
  The transposed values stay in their buffer between the points of one pair of heads.
-/
module

public import proofs.«01_k».proof.Proof.Flash.Result
public import Idealize.ShloMosaic.Lib.Pipeline.TableIdle

@[expose] public section

set_option maxRecDepth 16384

noncomputable section

namespace Cert.Flash.Result

open Cert.KernelIdeal Cert.KernelIdeal.Gen Cert.Flash.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Before the point `n` the values of its pair of heads lie transposed, unless the point is the pair's first. -/
def Kept (c : Dev nD) (n : ℕ) (vt : Vec Ideal S256x16384 .bf16) : Prop :=
  ∀ t : Fin (cfgM m).N, t.val = n → t.val % 8 ≠ 0 → VT (env m c t) 16384 vt

/-- What the body holds between points. -/
def held (c : Dev nD) (n : ℕ) : sProp 𝕄 :=
  iprop(((∃ d, ⌜Kept m c n d⌝ ∗ owns (c : Thread nD τ) (Memref.whole cc0_scratch0) fullShare d)
      ∗ (∃ d, owns (c : Thread nD τ) (Memref.whole cc0_scratch1) fullShare d) ∗ (∃ d, owns (c : Thread nD τ) (Memref.whole cc0_scratch2) fullShare d)
      ∗ (∃ d, owns (c : Thread nD τ) (Memref.whole cc0_scratch3) fullShare d) ∗ (∃ d, owns (c : Thread nD τ) (Memref.whole cc0_scratch4) fullShare d))
    ∗ (∃ r, prngReg c r) ∗ Pipeline.ΦT pre0 (tbl m) c)

/-- What the pipeline's buffers hold point by point. -/
def vals (_ : Fin 1) (c : Dev nD) : Dat τ (Elt Ideal) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk m c t
  Φ n := held m c n.val
  q _ := fullShare
  owed _ := 0

theorem valsA (c : Dev nD) (w : Fin (cfgM m).W) : (vals m 0 c).A w = V m c (Pipeline.arrRef spec0 w) := by
  dsimp only [vals]

theorem vals_held (c : Dev nD) (n : Fin ((cfgM m).N + 1)) : (vals m 0 c).Φ n = held m c n.val := by dsimp only [vals]

theorem vals_0 (c : Dev nD) (t : Fin (cfgM m).N) : (vals m 0 c).after 0 t = iblk m c 0 t := by dsimp only [vals]; try rfl
theorem vals_1 (c : Dev nD) (t : Fin (cfgM m).N) : (vals m 0 c).after 1 t = iblk m c 1 t := by dsimp only [vals]; try rfl
theorem vals_2 (c : Dev nD) (t : Fin (cfgM m).N) : (vals m 0 c).after 2 t = iblk m c 2 t := by dsimp only [vals]; try rfl
theorem vals_3 (c : Dev nD) (t : Fin (cfgM m).N) : (vals m 0 c).after 3 t = iblk m c 3 t := by dsimp only [vals]; try rfl
theorem vals_4 (c : Dev nD) (t : Fin (cfgM m).N) : (vals m 0 c).after 4 t = outBlk m c t := by dsimp only [vals]; try rfl

def pre (c : Dev nD) (t : Fin (cfgM m).N) : sProp 𝕄 :=
  iprop((vals m 0 c).Φ t.castSucc ∗ (vals m 0 c).owesAt () t.castSucc
    ∗ (∃ d, owns (c : Thread nD τ) (ms_0 m t) fullShare ((vals m 0 c).before 0 t d))
    ∗ (∃ d, owns (c : Thread nD τ) (ms_1 m t) fullShare ((vals m 0 c).before 1 t d))
    ∗ (∃ d, owns (c : Thread nD τ) (ms_2 m t) fullShare ((vals m 0 c).before 2 t d))
    ∗ (∃ d, owns (c : Thread nD τ) (ms_3 m t) fullShare ((vals m 0 c).before 3 t d))
    ∗ (∃ d, owns (c : Thread nD τ) (ms_4 m t) fullShare ((vals m 0 c).before 4 t d)))

def post (c : Dev nD) (t : Fin (cfgM m).N) : sProp 𝕄 :=
  iprop((vals m 0 c).Φ t.succ ∗ (vals m 0 c).owesAt () t.succ
    ∗ owns (c : Thread nD τ) (ms_0 m t) fullShare ((vals m 0 c).after 0 t)
    ∗ owns (c : Thread nD τ) (ms_1 m t) fullShare ((vals m 0 c).after 1 t)
    ∗ owns (c : Thread nD τ) (ms_2 m t) fullShare ((vals m 0 c).after 2 t)
    ∗ owns (c : Thread nD τ) (ms_3 m t) fullShare ((vals m 0 c).after 3 t)
    ∗ owns (c : Thread nD τ) (ms_4 m t) fullShare ((vals m 0 c).after 4 t))

/-- The body at a point of the grid, from the buffers it finds. -/
theorem point {c : Dev nD} (g : GoodArgs m c) (t : Fin (cfgM m).N) (s : St Ideal) (hv : Kept m c t.val s.vt) :
    W (env m c t) (bodyAt m t) s (fun _ s' => VT (env m c t) 16384 s'.vt ∧ s'.o = outBlk m c t) := by
  refine W_mono (env m c t) (whole_v (env m c t) (grid0.coords t) (L m c (grid0.coords t)) (L_le m g _) (blk_l m g.kall t)
    (fun r l => by
      obtain ⟨x, hx⟩ := g.q (ix3 (bat m t) (key (2048 * (t.val % 8) + r.val)) (Fin.ofNat 2048 (256 * (t.val / 8 % 8) + l.val)))
      exact ⟨x, (blk_q m c t r l).trans hx⟩)
    (word1 m c _) (word2 m c _) s (fun h => hv t rfl (by rw [(coords_val t).2.2] at h; omega))) ?_
  rintro _ s' ⟨hvt, hr⟩
  exact ⟨hvt, block_eq m g t _ hr⟩

set_option maxHeartbeats 800000 in
theorem sound {c : Dev nD} (g : GoodArgs m c) (t : Fin (cfgM m).N) :
    pre m c t ⊢ wp frame (wpE (defs₀ (F := Ideal)) Variants.none c none) Set.univ (bodyAt m t) (fun _ => post m c t) := by
  unfold pre post
  simp only [before_0 m (vals m 0 c) (valsA m c 0) (vals_0 m c), before_1 m (vals m 0 c) (valsA m c 1) (vals_1 m c),
    before_2 m (vals m 0 c) (valsA m c 2) (vals_2 m c), before_3 m (vals m 0 c) (valsA m c 3) (vals_3 m c)]
  rw [vals_held, vals_held, Fin.val_castSucc, Fin.val_succ,
    show (vals m 0 c).owesAt () t.succ = (vals m 0 c).owesAt () t.castSucc from rfl,
    vals_0, vals_1, vals_2, vals_3, vals_4]
  unfold held
  rw [phiT_eq]
  iintro ⟨⟨⟨⟨%s0, %hkept, HS0⟩, ⟨%s1, HS1⟩, ⟨%s2, HS2⟩, ⟨%s3, HS3⟩, ⟨%s4, HS4⟩⟩, Hg, HT⟩, Ho, ⟨%d0, H0⟩, ⟨%d1, H1⟩, ⟨%d2, H2⟩, ⟨%d3, H3⟩, ⟨%d4, H4⟩⟩
  iapply (whole_use (env m c t) (point m g t ⟨_, s0, s1, s2, s3, s4⟩ hkept) Set.univ)
  isplitl [HT H0 H1 H2 H3 H4 HS0 HS1 HS2 HS3 HS4]
  · unfold Env.Own
    isplitl [HT]; · iexact HT
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iexact HS4
  iintro %a %s' %hQ Hs
  obtain ⟨hvt, ho⟩ := hQ
  rw [← ho]
  unfold Env.Own
  icases Hs with ⟨HT, H0, H1, H2, H3, H4, HS0, HS1, HS2, HS3, HS4⟩
  isplitl [HS0 HS1 HS2 HS3 HS4 Hg HT]
  · isplitl [HS0 HS1 HS2 HS3 HS4]
    · isplitl [HS0]
      · iexists s'.vt
        isplitr
        · ipureintro
          exact fun t' h h' => VT_next m c t t' h h' hvt
        · iexact HS0
      isplitl [HS1]; · iexists _; iexact HS1
      isplitl [HS2]; · iexists _; iexact HS2
      isplitl [HS3]; · iexists _; iexact HS3
      iexists _; iexact HS4
    isplitl [Hg]; · iexact Hg
    iexact HT
  isplitl [Ho]; · iexact Ho
  isplitl [H0]; · iexact H0
  isplitl [H1]; · iexact H1
  isplitl [H2]; · iexact H2
  isplitl [H3]; · iexact H3
  iexact H4

theorem obligation {c : Dev nD} (g : GoodArgs m c) :
    BodyObligation (vals m 0 c) (defs₀ (F := Ideal)) Variants.none () Set.univ := fun t => by
  rw [bigSep_W0, bigSep_W0, defs₀_row m]
  exact triple_restated (sound m g t) rfl .rfl fun _ => .rfl

theorem held_in (c : Dev nD) : iprop(Pipeline.ΦA spec0 c ∗ Pipeline.ΦT pre0 (tbl m) c) ⊢ (vals m 0 c).Φ 0 := by
  rw [vals_held, phiA_eq]
  unfold held
  iintro ⟨⟨⟨⟨%s0, HS0⟩, HS⟩, Hg⟩, HT⟩
  isplitl [HS0 HS]
  · isplitl [HS0]
    · iexists s0
      isplitr
      · ipureintro
        exact fun t h h' => absurd (by rw [h]; rfl) h'
      · iexact HS0
    · iexact HS
  isplitl [Hg]; · iexact Hg
  iexact HT

theorem held_out (c : Dev nD) : (vals m 0 c).Φ (Fin.last (cfgM m).N) ⊢ Pipeline.ΦA spec0 c := by
  rw [vals_held, phiA_eq]
  unfold held
  iintro ⟨⟨⟨%s0, -, HS0⟩, HS⟩, Hg, -⟩
  isplitl [HS0 HS]
  · isplitl [HS0]
    · iexists s0; iexact HS0
    · iexact HS
  iexact Hg

set_option backward.isDefEq.respectTransparency.types false in
theorem run_vals (g : ∀ c, GoodArgs m c) : θ_run defs (onTc (τ := τ) (main (F := Ideal))) (s₀ m ρ)
    (fun r => Pipeline.FramePost (Pipeline.pin pcfgs fun _ => adm m) (vals m) 0 (V m) r ∧ r.2.sem = fun _ => 0) :=
  Pipeline.θ_run_frameP_track (Q' := _) pcfgs (fun _ => adm m) (vals m) (0 : Fin 1) launch0 defs₀ Variants.none m ρ main
    (hbody := fun c => (obligation m (g c)).loose) (hshare := fun c => (vals m 0 c).share_full fun _ => rfl)
    (howed := fun _ _ => rfl) (V := V m) (hmain := hmain m Variants.none) (hA := valsA m) (hpf := V_pre m)
    (hin := held_in m) (hout := held_out m)

/-! ### The array after the run -/

theorem index4 (t : Fin grid0.N) : Pipeline.Window.index ((cfgM m).win 4) t = cc0_transform_4 (grid0.coords t) := rfl

theorem maps_differ : ∀ t : Fin grid0.N, t.val + 1 = grid0.N
    ∨ ∃ h : t.val + 1 < grid0.N, ∃ a, cc0_transform_4 (grid0.coords ⟨t.val + 1, h⟩) a ≠ cc0_transform_4 (grid0.coords t) a := by
  decide +kernel

theorem flush_all (t : Fin (cfgM m).N) : ((cfgM m).win 4).flush t = true := by
  rw [Pipeline.Window.flush_eq_flushF]
  unfold Pipeline.Window.flushF
  rw [Bool.and_eq_true]
  refine ⟨rfl, ?_⟩
  rw [Bool.or_eq_true]
  rcases maps_differ t with h | ⟨h, a, ha⟩
  · exact Or.inl (by simpa using h)
  · exact Or.inr (decide_eq_true ⟨h, a, ha⟩)

theorem final (c : Dev nD) : (vals m 0 c).arrAt 4 (cfgM m).N = result m c :=
  (vals m 0 c).arrAt_eq_of_cover 4 (result m c) (fun t _ => (vals_4 m c t).trans (outBlk_eq m c t).symm) fun (i : S2x16384x1024.Idx) => by
    have h0 : (i 0 : Nat) < 2 := (i 0).isLt
    have h1 : (i 1 : Nat) < 16384 := (i 1).isLt
    have h2 : (i 2 : Nat) < 1024 := (i 2).isLt
    obtain ⟨n, hn⟩ : ∃ n, n = 64 * (i 0 : Nat) + 8 * ((i 2 : Nat) / 128) + (i 1 : Nat) / 2048 := ⟨_, rfl⟩
    have ht : n < (cfgM m).N := lt_of_lt_of_eq (by omega) (N128 m).symm
    refine ⟨⟨n, ht⟩, flush_all m _, ?_⟩
    obtain ⟨-, -, -, -, e0, e1, e2⟩ := maps ⟨n, ht⟩
    show i ∈ ((View.whole main_v0).slice (Pipeline.Window.rect ((cfgM m).win 4) ⟨n, ht⟩)).set
    refine (congrArg (i ∈ ·) (View.set_slice_whole _ _)).mpr (Rect.mem_set_unit.mpr ?_)
    intro a
    match a with
    | ⟨0, _⟩ => show cc0_transform_4 (grid0.coords ⟨n, ht⟩) 0 * 1 ≤ (i 0 : Nat) ∧ (i 0 : Nat) < cc0_transform_4 (grid0.coords ⟨n, ht⟩) 0 * 1 + 1
                rw [e0]; show n / 64 * 1 ≤ _ ∧ _ < n / 64 * 1 + 1; omega
    | ⟨1, _⟩ => show cc0_transform_4 (grid0.coords ⟨n, ht⟩) 1 * 2048 ≤ (i 1 : Nat) ∧ (i 1 : Nat) < cc0_transform_4 (grid0.coords ⟨n, ht⟩) 1 * 2048 + 2048
                rw [e1]; show n % 8 * 2048 ≤ _ ∧ _ < n % 8 * 2048 + 2048; omega
    | ⟨2, _⟩ => show cc0_transform_4 (grid0.coords ⟨n, ht⟩) 2 * 128 ≤ (i 2 : Nat) ∧ (i 2 : Nat) < cc0_transform_4 (grid0.coords ⟨n, ht⟩) 2 * 128 + 128
                rw [e2]; show n / 8 % 8 * 128 ≤ _ ∧ _ < n / 8 % 8 * 128 + 128; omega

/-- Every run ends with the attention in the result array, the arguments as they were. -/
theorem run (g : ∀ c, GoodArgs m c) : θ_run defs (onTc (τ := τ) (main (F := Ideal))) (s₀ m ρ)
    (fun r => ∀ c : Dev nD, r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_vals m ρ g)
  obtain ⟨h, -⟩ := h
  have harg := fun w hw => ((h c).1 w).trans (((vals m 0 c).arrAt_in w hw _).trans (valsA m c w))
  exact ⟨((h c).1 4).trans (final m c), (h c).2 main_arg0 (by decide : main_arg0 ∈ Pipeline.restRefs sig spec0), harg 0 rfl, harg 1 rfl, harg 2 rfl, harg 3 rfl⟩

end Cert.Flash.Result

end
-- ==== Proof.Flash.Pre.lean ====
/-
  What the precondition says of the arguments: the table's words lie between nought and their query block's number; the
  queries, the keys and the shifts are numbers; and lane 64 of every head of the values is one.
-/
module

public import proofs.«01_k».proof.Pre_attention_inputs
public import proofs.«01_k».proof.Proof.Gen.Pre_attention_inputs
public import Idealize.ShloMosaic.Lib.Pointwise
public import Idealize.ShloMosaic.PureOps.Ideal.Laws

@[expose] public section

noncomputable section

open Idealize.ShloMosaic

namespace Cert.Flash.Pre

open Cert.Pre_attention_inputs

attribute [local instance] Cert.Pre_attention_inputs.Gen.facts

variable {F : FTy → Type} [FloatOps F]

/-- The precondition's result at one element, read off its operations. -/
theorem fn_apply (a0 : IVec S1024 32) (a1 : FVec F S32 .f32) (a2 a3 a4 : FVec F S2x16384x2048 .bf16)
    (b : Fin 2) (qi : Fin 32) (r : Fin 512) (h : Fin 16) (l : Fin 128) :
    fn (F := F) a0 a1 a2 a3 a4 (ix5 b qi r h l)
      = IntOp.andi
      (IntOp.andi
        (IntOp.andi
          (IntOp.andi
            (FloatOps.cmpf CmpFPredicate.olt (FloatOps.hostAbsf (a2 (ix3 b ⟨qi.val * 512 + r.val, by omega⟩ ⟨h.val * 128 + l.val, by omega⟩)))
              (FloatOps.ofBits FTy.bf16 0x7F80#16))
            (FloatOps.cmpf CmpFPredicate.olt (FloatOps.hostAbsf (a3 (ix3 b ⟨qi.val * 512 + r.val, by omega⟩ ⟨h.val * 128 + l.val, by omega⟩)))
              (FloatOps.ofBits FTy.bf16 0x7F80#16)))
          (FloatOps.cmpf CmpFPredicate.olt (FloatOps.hostAbsf (a1 (ix1 ⟨b.val * 16 + h.val, by omega⟩)))
            (FloatOps.ofBits FTy.f32 0x7F800000#32)))
        (IntOp.andi (IntOp.cmpi CmpIPredicate.sge (a0 (ix1 ⟨b.val * 512 + h.val * 32 + qi.val, by omega⟩)) 0#32)
          (IntOp.cmpi CmpIPredicate.sle (a0 (ix1 ⟨b.val * 512 + h.val * 32 + qi.val, by omega⟩)) (BitVec.ofNat 32 qi.val))))
      (IntOp.ori (IntOp.cmpi CmpIPredicate.ne (BitVec.ofNat 32 l.val) 64#32)
        (FloatOps.cmpf CmpFPredicate.oeq (a4 (ix3 b ⟨qi.val * 512 + r.val, by omega⟩ ⟨h.val * 128 + l.val, by omega⟩))
          (FloatOps.ofBits FTy.bf16 0x3F80#16))) := by
  unfold fn fn_part1
  pointwise

theorem and_one {x y : BitVec 1} (h : IntOp.andi x y = 1#1) : x = 1#1 ∧ y = 1#1 := by
  revert h
  unfold IntOp.andi
  revert x y
  decide

theorem or_one {x y : BitVec 1} (h : IntOp.ori x y = 1#1) (hx : x = 0#1) : y = 1#1 := by
  subst hx
  revert h
  unfold IntOp.ori
  revert y
  decide

/-- What holds of the arguments at each element. -/
theorem at_idx {a0 : IVec S1024 32} {a1 : FVec F S32 .f32} {a2 a3 a4 : FVec F S2x16384x2048 .bf16}
    (hp : fn (F := F) a0 a1 a2 a3 a4 = fun _ => 1#1) (b : Fin 2) (qi : Fin 32) (r : Fin 512) (h : Fin 16) (l : Fin 128) :
    (FloatOps.cmpf CmpFPredicate.olt (FloatOps.hostAbsf (a2 (ix3 b ⟨qi.val * 512 + r.val, by omega⟩ ⟨h.val * 128 + l.val, by omega⟩)))
        (FloatOps.ofBits FTy.bf16 0x7F80#16) = 1#1)
    ∧ (FloatOps.cmpf CmpFPredicate.olt (FloatOps.hostAbsf (a3 (ix3 b ⟨qi.val * 512 + r.val, by omega⟩ ⟨h.val * 128 + l.val, by omega⟩)))
        (FloatOps.ofBits FTy.bf16 0x7F80#16) = 1#1)
    ∧ (FloatOps.cmpf CmpFPredicate.olt (FloatOps.hostAbsf (a1 (ix1 ⟨b.val * 16 + h.val, by omega⟩)))
        (FloatOps.ofBits FTy.f32 0x7F800000#32) = 1#1)
    ∧ (a0 (ix1 ⟨b.val * 512 + h.val * 32 + qi.val, by omega⟩)).toNat ≤ qi.val
    ∧ (l.val = 64 → FloatOps.cmpf CmpFPredicate.oeq (a4 (ix3 b ⟨qi.val * 512 + r.val, by omega⟩ ⟨h.val * 128 + l.val, by omega⟩))
          (FloatOps.ofBits FTy.bf16 0x3F80#16) = 1#1) := by
  have e := congrFun hp (ix5 b qi r h l)
  rw [fn_apply] at e
  obtain ⟨e, e5⟩ := and_one e
  obtain ⟨e, e4⟩ := and_one e
  obtain ⟨e, e3⟩ := and_one e
  obtain ⟨e1, e2⟩ := and_one e
  refine ⟨e1, e2, e3, ?_, fun hl => ?_⟩
  · obtain ⟨g0, g1⟩ := and_one e4
    generalize a0 (ix1 ⟨b.val * 512 + h.val * 32 + qi.val, by omega⟩) = x at g0 g1 ⊢
    have hq := qi.isLt
    have h0 : BitVec.sle 0#32 x = true := by
      by_contra hc
      rw [Bool.not_eq_true] at hc
      simp [IntOp.cmpi, hc] at g0
    have h1 : BitVec.sle x (BitVec.ofNat 32 qi.val) = true := by
      by_contra hc
      rw [Bool.not_eq_true] at hc
      simp [IntOp.cmpi, hc] at g1
    rw [BitVec.sle_eq_decide, decide_eq_true_eq, BitVec.toInt_eq_toNat_cond, BitVec.toInt_eq_toNat_cond] at h0 h1
    rw [BitVec.toNat_ofNat] at h1
    have hx := x.isLt
    simp at h0
    omega
  · exact or_one e5 (by rw [hl]; decide)

/-- The table's word for batch `b`, head `h` and query block `qi` is at most `qi`. -/
theorem table {a0 : IVec S1024 32} {a1 : FVec F S32 .f32} {a2 a3 a4 : FVec F S2x16384x2048 .bf16}
    (hp : fn (F := F) a0 a1 a2 a3 a4 = fun _ => 1#1) {b h qi : ℕ} (hb : b < 2) (hh : h < 16) (hq : qi < 32) :
    (a0 (ix1 (Fin.ofNat 1024 ((b * 16 + h) * 32 + qi)))).toNat ≤ qi := by
  have e := (at_idx hp ⟨b, hb⟩ ⟨qi, hq⟩ 0 ⟨h, hh⟩ 0).2.2.2.1
  have hi : (⟨b * 512 + h * 32 + qi, by omega⟩ : Fin 1024) = Fin.ofNat 1024 ((b * 16 + h) * 32 + qi) :=
    Fin.ext (show b * 512 + h * 32 + qi = ((b * 16 + h) * 32 + qi) % 1024 by omega)
  rw [← hi]
  exact e

/-! ### Over the extended reals -/

theorem of_bool {p : Prop} [Decidable p] (h : BitVec.ofBool (decide p) = 1#1) : p := by
  by_contra hc
  rw [decide_eq_false hc] at h
  exact absurd h (by decide)

/-- An element below infinity in absolute value is a number. -/
theorem real_of_lt {e : FTy} {x : EReal} {w : EReal} (hw : w = ⊤)
    (h : (FloatOps.cmpf (F := Ideal) (φ := e) CmpFPredicate.olt (FloatOps.hostAbsf (F := Ideal) (φ := e) x) w) = 1#1) : ∃ y : ℝ, x = y := by
  rw [Ideal.cmpf_def] at h
  have h : max x (-x) < w := by
    exact of_bool h
  rw [hw, max_lt_iff] at h
  induction x using EReal.rec with
  | bot => simp at h
  | top => simp at h
  | coe y => exact ⟨y, rfl⟩

theorem inf16 : (FloatOps.ofBits (F := Ideal) FTy.bf16 0x7F80#16 : EReal) = ⊤ := by
  show Ideal.ofBits _ _ = _
  simp [Ideal.ofBits, Ideal.ieee]

theorem inf32 : (FloatOps.ofBits (F := Ideal) FTy.f32 0x7F800000#32 : EReal) = ⊤ := by
  show Ideal.ofBits _ _ = _
  simp [Ideal.ofBits, Ideal.ieee]

theorem one16 : (FloatOps.ofBits (F := Ideal) FTy.bf16 0x3F80#16 : EReal) = 1 := by
  show Ideal.ofBits _ _ = _
  simp [Ideal.ofBits, Ideal.ieee]
  rw [← EReal.coe_mul]
  norm_num

variable {a0 : IVec S1024 32} {a1 : FVec Ideal S32 .f32} {a2 a3 a4 : FVec Ideal S2x16384x2048 .bf16}
  (hp : fn (F := Ideal) a0 a1 a2 a3 a4 = fun _ => 1#1)

include hp

omit hp in
theorem split3 (i : S2x16384x2048.Idx) : ∃ (b : Fin 2) (qi : Fin 32) (r : Fin 512) (h : Fin 16) (l : Fin 128),
    i = ix3 b (⟨qi.val * 512 + r.val, by omega⟩ : Fin 16384) (⟨h.val * 128 + l.val, by omega⟩ : Fin 2048) := by
  have h1 : (i 1).val < 16384 := (i 1).isLt
  have h2 : (i 2).val < 2048 := (i 2).isLt
  refine ⟨i 0, ⟨(i 1).val / 512, by omega⟩, ⟨(i 1).val % 512, by omega⟩, ⟨(i 2).val / 128, by omega⟩, ⟨(i 2).val % 128, by omega⟩, ?_⟩
  funext a
  match a with
  | ⟨0, _⟩ => rfl
  | ⟨1, _⟩ => exact Fin.ext (show (i 1).val = (i 1).val / 512 * 512 + (i 1).val % 512 by omega)
  | ⟨2, _⟩ => exact Fin.ext (show (i 2).val = (i 2).val / 128 * 128 + (i 2).val % 128 by omega)

theorem queries (i : S2x16384x2048.Idx) : ∃ y : ℝ, (a2 i : EReal) = y := by
  obtain ⟨b, qi, r, h, l, e⟩ := split3 i
  rw [e]
  exact real_of_lt inf16 (at_idx hp b qi r h l).1

theorem keys (i : S2x16384x2048.Idx) : ∃ y : ℝ, (a3 i : EReal) = y := by
  obtain ⟨b, qi, r, h, l, e⟩ := split3 i
  rw [e]
  exact real_of_lt inf16 (at_idx hp b qi r h l).2.1

theorem shifts (i : S32.Idx) : ∃ y : ℝ, (a1 i : EReal) = y := by
  have h0 : (i 0).val < 32 := (i 0).isLt
  have e : i = ix1 (⟨(⟨(i 0).val / 16, by omega⟩ : Fin 2).val * 16 + (⟨(i 0).val % 16, by omega⟩ : Fin 16).val, by
      show (i 0).val / 16 * 16 + (i 0).val % 16 < 32; omega⟩ : Fin 32) := by
    funext a
    match a with
    | ⟨0, _⟩ => exact Fin.ext (show (i 0).val = (i 0).val / 16 * 16 + (i 0).val % 16 by omega)
  rw [e]
  exact real_of_lt inf32 (at_idx hp _ 0 0 _ 0).2.2.1

theorem ones (b : Fin 2) (n : Fin 16384) (h : Fin 16) : (a4 (ix3 b n (⟨h.val * 128 + 64, by omega⟩ : Fin 2048)) : EReal) = 1 := by
  have e := (at_idx hp b ⟨n.val / 512, by omega⟩ ⟨n.val % 512, by omega⟩ h ⟨64, by omega⟩).2.2.2.2 rfl
  have hn : (⟨n.val / 512 * 512 + n.val % 512, by omega⟩ : Fin 16384) = n := Fin.ext (show n.val / 512 * 512 + n.val % 512 = n.val by omega)
  have e : FloatOps.cmpf (F := Ideal) CmpFPredicate.oeq (a4 (ix3 b (⟨n.val / 512 * 512 + n.val % 512, by omega⟩ : Fin 16384) (⟨h.val * 128 + 64, by omega⟩ : Fin 2048)))
      (FloatOps.ofBits FTy.bf16 0x3F80#16) = 1#1 := e
  rw [hn, Ideal.cmpf_def, one16] at e
  exact of_bool e

end Cert.Flash.Pre

end
-- ==== Proof.Flash.Ref.lean ====
/-
  The reference's result, read at an index: the same attention.
-/
module

public import proofs.«01_k».proof.Proof.Gen.ReferenceIdeal.Read
public import proofs.«01_k».proof.Proof.Flash.Attention
public import Idealize.ShloMosaic.Lib.Pointwise

@[expose] public section

noncomputable section

open Idealize.ShloMosaic

namespace Cert.Flash.Ref

open Cert.ReferenceIdeal Cert.ReferenceIdeal.Read

variable (x0 : (⟨S1024, .i32⟩ : BufTy).Contents (Elt Ideal)) (x2 x3 x4 : (⟨S2x16384x2048, .bf16⟩ : BufTy).Contents (Elt Ideal))

theorem scores (b : Fin 2) (h : Fin 16) (p n : Fin 16384) : val_main_v7 (F := Ideal) x2 x3 (ix4 b h p n)
    = (∑ l : Fin 128, x2 (ix3 b p (⟨h.val * 128 + l.val, by omega⟩ : Fin 2048)) * x3 (ix3 b n (⟨h.val * 128 + l.val, by omega⟩ : Fin 2048)))
      * Ideal.log (Ideal.ofBits FTy.f32 0x40000000#32) := by
  unfold val_main_v7 val_main_v6 val_main_v5 val_main_cst val_main_v4 val_main_v0 val_main_v1
  pointwise [dot_S2x16384x16x128_S2x16384x16x128_S2x16x16384x16384_3_3_1_1_02_02]

theorem mask (b : Fin 2) (h : Fin 16) (p n : Fin 16384) : val_main_v25 (F := Ideal) x0 (ix4 b h p n)
    = IntOp.andi (IntOp.cmpi CmpIPredicate.sle (BitVec.ofNat 32 n.val) (BitVec.ofNat 32 p.val))
      (IntOp.cmpi CmpIPredicate.sle (IntOp.muli (x0 (ix1 (⟨b.val * 512 + h.val * 32 + p.val / 512, by omega⟩ : Fin 1024))) 512#32)
        (BitVec.ofNat 32 n.val)) := by
  unfold val_main_v25 val_main_v24 val_main_v23 val_main_v22 val_main_v21 val_main_v20 val_main_v19 val_main_v18 val_main_v17 val_main_v16
    val_main_v15 val_main_v14 val_main_v13 val_main_v12 val_main_v11 val_main_v10 val_main_c val_main_v9 val_main_v8
  pointwise

theorem at_v32 (b : Fin 2) (h : Fin 16) (p n : Fin 16384) : val_main_v32 (F := Ideal) x0 x2 x3 (ix4 b h p n)
    = val_main_v26 (F := Ideal) x0 x2 x3 (ix4 b h p n) - val_main_v29 (F := Ideal) x0 x2 x3 (ix3 b h p) := by
  unfold val_main_v32 val_main_v31 val_main_v30
  generalize val_main_v26 (F := Ideal) x0 x2 x3 = y
  generalize val_main_v29 (F := Ideal) x0 x2 x3 = z
  pointwise

theorem at_v33 (b : Fin 2) (h : Fin 16) (p n : Fin 16384) : val_main_v33 (F := Ideal) x0 x2 x3 (ix4 b h p n)
    = Ideal.exp (val_main_v26 (F := Ideal) x0 x2 x3 (ix4 b h p n) - val_main_v29 (F := Ideal) x0 x2 x3 (ix3 b h p)) := by
  rw [← at_v32]
  rfl

theorem at_v34 (b : Fin 2) (h : Fin 16) (p : Fin 16384) : val_main_v34 (F := Ideal) x0 x2 x3 (ix3 b h p)
    = ∑ n : Fin 16384, val_main_v33 (F := Ideal) x0 x2 x3 (ix4 b h p n) := by
  rw [val_main_v34_apply]
  rw [val_main_cst_3_apply]
  generalize val_main_v33 (F := Ideal) x0 x2 x3 = y
  have h0 : (FloatOps.ofBits (F := Ideal) FTy.f32 0x00000000#32 : EReal) = 0 := by
    show Ideal.ofBits _ _ = _
    simp [Ideal.ofBits, Ideal.ieee]
  rw [h0]
  refine (zero_add _).trans (Finset.sum_congr rfl fun n _ => congrArg y (funext fun a => ?_))
  match a with
  | ⟨0, _⟩ => rfl
  | ⟨1, _⟩ => rfl
  | ⟨2, _⟩ => rfl
  | ⟨3, _⟩ => rfl

theorem at_v38 (b : Fin 2) (h : Fin 16) (p n : Fin 16384) : val_main_v38 (F := Ideal) x0 x2 x3 (ix4 b h p n)
    = Ideal.div (val_main_v33 (F := Ideal) x0 x2 x3 (ix4 b h p n)) (val_main_v34 (F := Ideal) x0 x2 x3 (ix3 b h p)) := by
  unfold val_main_v38 val_main_v37 val_main_v36 val_main_v35
  generalize val_main_v33 (F := Ideal) x0 x2 x3 = y
  generalize val_main_v34 (F := Ideal) x0 x2 x3 = z
  pointwise

theorem at_v42 (b : Fin 2) (p : Fin 16384) (j : Fin 1024) : val_main_v42 (F := Ideal) x0 x2 x3 x4 (ix3 b p j)
    = ∑ n : Fin 16384, x4 (ix3 b n (⟨j.val / 64 * 128 + j.val % 64, by omega⟩ : Fin 2048)) * val_main_v38 (F := Ideal) x0 x2 x3 (ix4 b (⟨j.val / 64, by omega⟩ : Fin 16) p n) := by
  unfold val_main_v42 val_main_v41 val_main_v40 val_main_v39 val_main_v3 val_main_v2
  generalize val_main_v38 (F := Ideal) x0 x2 x3 = y
  pointwise [dot_S2x16384x16x64_S2x16x16384x16384_S2x16x64x16384_1_3_3_2_02_01]

end Cert.Flash.Ref

end
-- ==== Proof.Flash.RefMax.lean ====
/-
  The greatest score of a query, as the reference takes it off before its exponentials, is a number.
-/
module

public import proofs.«01_k».proof.Proof.Gen.ReferenceIdeal.Read
public import proofs.«01_k».proof.Proof.Flash.Weights
public import Idealize.ShloMosaic.Lib.Pointwise

@[expose] public section

noncomputable section

open Idealize.ShloMosaic

namespace Cert.Flash.Ref

open Cert.ReferenceIdeal Cert.ReferenceIdeal.Gen Cert.ReferenceIdeal.Read

variable (x0 : (⟨S1024, .i32⟩ : BufTy).Contents (Elt Ideal)) (x2 x3 x4 : (⟨S2x16384x2048, .bf16⟩ : BufTy).Contents (Elt Ideal))

/-- The greatest of finitely many elements, none infinite above and one a number, is a number. -/
theorem fold_real {ι : Type} (S : Finset ι) (f : ι → EReal) (hf : ∀ j, f j ≠ ⊤) (j : ι) (hj : j ∈ S) (h0 : f j ≠ ⊥) :
    ∃ M : ℝ, S.fold max ⊥ f = M := by
  have h1 : S.fold max ⊥ f ≠ ⊥ := fun h => h0 (le_bot_iff.mp (h ▸ (Finset.le_fold_max (f j)).mpr (Or.inr ⟨j, hj, le_refl _⟩)))
  have h2 : S.fold max ⊥ f ≠ ⊤ :=
    ((Finset.fold_max_lt ⊤).mpr ⟨bot_lt_top, fun n _ => lt_top_iff_ne_top.mpr (hf n)⟩).ne
  exact ⟨_, (EReal.coe_toReal h2 h1).symm⟩

theorem low : (FloatOps.ofBits (F := Ideal) FTy.f32 0xFF800000#32 : EReal) = ⊥ := by
  show Ideal.ofBits _ _ = _
  simp [Ideal.ofBits, Ideal.ieee]

instance : Std.Commutative (FloatOps.maximumf (F := Ideal) (φ := .f32)) := ⟨fun a b => max_comm (a : EReal) b⟩
instance : Std.Associative (FloatOps.maximumf (F := Ideal) (φ := .f32)) := ⟨fun a b c => max_assoc (a : EReal) b c⟩

theorem drop_key (b : Fin 2) (h : Fin 16) (p n : Fin 16384) :
    reducesTo_S2x16x16384x16384_S2x16x16384_d3.drop (ix4 b h p n) = ix3 b h p := by
  funext (a : Fin 3)
  match a with
  | ⟨0, _⟩ => rfl
  | ⟨1, _⟩ => rfl
  | ⟨2, _⟩ => rfl

/-- The greatest score of a query is a number, if no score is infinite above and one is a number. -/
theorem v29_real (b : Fin 2) (h : Fin 16) (p : Fin 16384) (hf : ∀ j, val_main_v26 (F := Ideal) x0 x2 x3 j ≠ (⊤ : EReal)) (n : Fin 16384)
    (h0 : val_main_v26 (F := Ideal) x0 x2 x3 (ix4 b h p n) ≠ (⊥ : EReal)) :
    ∃ M : ℝ, val_main_v29 (F := Ideal) x0 x2 x3 (ix3 b h p) = (M : EReal) := by
  rw [val_main_v29_apply, val_main_v28_apply, val_main_cst_2_apply]
  unfold val_main_v27
  generalize val_main_v26 (F := Ideal) x0 x2 x3 = y at hf h0
  rw [Host.reduce_eq_fold, val_main_cst_1_apply, low]
  have hmem : ix4 b h p n ∈ Finset.univ.filter (fun i => reducesTo_S2x16x16384x16384_S2x16x16384_d3.drop i = ix3 b h p) :=
    Finset.mem_filter.mpr ⟨Finset.mem_univ _, drop_key b h p n⟩
  obtain ⟨M, hM⟩ := fold_real _ y hf _ hmem h0
  refine ⟨M, Eq.trans ?_ hM⟩
  exact max_eq_right (bot_le (a := (_ : EReal)))

end Cert.Flash.Ref

end
-- ==== Proof.Flash.RefResult.lean ====
/-
  On good arguments the reference's result is the attention.
-/
module

public import proofs.«01_k».proof.Proof.Flash.Ref
public import proofs.«01_k».proof.Proof.Flash.RefMax

@[expose] public section

noncomputable section

open Idealize.ShloMosaic

namespace Cert.Flash.Ref

open Cert.ReferenceIdeal Cert.ReferenceIdeal.Read

variable {x0 : (⟨S1024, .i32⟩ : BufTy).Contents (Elt Ideal)} {x2 x3 x4 : (⟨S2x16384x2048, .bf16⟩ : BufTy).Contents (Elt Ideal)}
  {kall : S32.Idx → EReal}

theorem log_two : Ideal.log (Ideal.ofBits FTy.f32 0x40000000#32) = (Real.log 2 : EReal) := by
  have h : Ideal.ofBits FTy.f32 0x40000000#32 = ((2 : ℝ) : EReal) := by
    simp [Ideal.ofBits, Ideal.ieee]
    rw [← EReal.coe_mul]
    norm_num
  rw [h, Ideal.log_coe, if_neg (by norm_num)]

theorem sle_iff {x y : BitVec 32} (hx : x.toNat < 2 ^ 31) (hy : y.toNat < 2 ^ 31) : IntOp.cmpi CmpIPredicate.sle x y = BitVec.ofBool (decide (x.toNat ≤ y.toNat)) := by
  unfold IntOp.cmpi
  congr 1
  rw [BitVec.sle_eq_decide, decide_eq_decide, BitVec.toInt_eq_toNat_cond, BitVec.toInt_eq_toNat_cond]
  omega

/-- The mask keeps the keys from the first block's first on, up to the query. -/
theorem mask_eq (g : Good x0 x2 x3 x4 kall) (b : Fin 2) (h : Fin 16) (p n : Fin 16384) : val_main_v25 (F := Ideal) x0 (ix4 b h p n)
    = if n.val ≤ p.val ∧ 512 * first x0 b.val h.val (p.val / 512) ≤ n.val then 1#1 else 0#1 := by
  have hp := p.isLt
  have hn := n.isLt
  rw [mask]
  have hi : (⟨b.val * 512 + h.val * 32 + p.val / 512, by omega⟩ : Fin 1024) = Fin.ofNat 1024 ((b.val * 16 + h.val) * 32 + p.val / 512) :=
    Fin.ext (show b.val * 512 + h.val * 32 + p.val / 512 = ((b.val * 16 + h.val) * 32 + p.val / 512) % 1024 by omega)
  have hf := g.tab b.val h.val (p.val / 512) b.isLt h.isLt (by omega)
  rw [hi]
  unfold first at hf ⊢
  generalize x0 (ix1 (Fin.ofNat 1024 ((b.val * 16 + h.val) * 32 + p.val / 512))) = w at hf ⊢
  have hw : (IntOp.muli w 512#32).toNat = 512 * w.toNat := by
    show (w * 512#32).toNat = _
    rw [BitVec.toNat_mul]
    simp
    omega
  have hN : ∀ m : Fin 16384, (BitVec.ofNat 32 m.val).toNat = m.val := fun m => by
    rw [BitVec.toNat_ofNat]; have := m.isLt; omega
  rw [sle_iff (by rw [hN]; omega) (by rw [hN]; omega), sle_iff (by rw [hw]; omega) (by rw [hN]; omega), hw, hN, hN]
  by_cases h1 : n.val ≤ p.val <;> by_cases h2 : 512 * w.toNat ≤ n.val <;> simp [h1, h2, IntOp.andi]

/-- A masked score. -/
theorem masked_eq (g : Good x0 x2 x3 x4 kall) (b : Fin 2) (h : Fin 16) (p n : Fin 16384) (s : ℕ → ℝ)
    (hs : ∀ n, sc x2 x3 b h.val p.val n = (s n : EReal)) : val_main_v26 (F := Ideal) x0 x2 x3 (ix4 b h p n)
    = masked s (512 * first x0 b.val h.val (p.val / 512)) p.val n.val := by
  have e : val_main_v7 (F := Ideal) x2 x3 (ix4 b h p n) = (s n.val : EReal) * (Real.log 2 : EReal) := by
    rw [scores, log_two, ← hs n.val]
    unfold sc
    refine congrArg (· * _) (Finset.sum_congr rfl fun l _ => ?_)
    have hl : (⟨h.val * 128 + l.val, by omega⟩ : Fin 2048) = hlane h.val l.val :=
      Fin.ext (show h.val * 128 + l.val = (128 * h.val + l.val) % 2048 by omega)
    have hk : ∀ m : Fin 16384, key m.val = m := fun m => Fin.ext (Nat.mod_eq_of_lt m.isLt)
    rw [hl, hk, hk, mul_comm]
  rw [val_main_v26_apply, mask_eq g, e, val_main_call0_v1_apply, val_main_call0_v0_apply, val_main_cst_0_apply, low]
  unfold masked
  split
  · rfl
  · rfl

theorem not_top (g : Good x0 x2 x3 x4 kall) (b : Fin 2) (h : Fin 16) (p n : Fin 16384) :
    val_main_v26 (F := Ideal) x0 x2 x3 (ix4 b h p n) ≠ (⊤ : EReal) := by
  choose s hs using fun n => sc_real g.q g.k b h.val p.val n
  rw [masked_eq g b h p n s hs]
  unfold masked
  split
  · rw [← EReal.coe_mul]; exact EReal.coe_ne_top _
  · exact bot_ne_top

/-- The reference's result at an index. -/
theorem result_apply (g : Good x0 x2 x3 x4 kall) (b : Fin 2) (p : Fin 16384) (j : Fin 1024) :
    val_main_v42 (F := Ideal) x0 x2 x3 x4 (ix3 b p j) = attention x0 x2 x3 x4 (ix3 b p j) := by
  have hp := p.isLt
  have hj := j.isLt
  rw [at_v42]
  obtain ⟨h, hh⟩ : ∃ h : Fin 16, h = ⟨j.val / 64, by omega⟩ := ⟨_, rfl⟩
  have hhv : h.val = j.val / 64 := by rw [hh]
  rw [← hh]
  choose s hs using fun n => sc_real g.q g.k b h.val p.val n
  have hM := fun n => masked_eq g b h p n s hs
  have hf := g.tab b.val h.val (p.val / 512) b.isLt h.isLt (by omega)
  have htop : ∀ i : S2x16x16384x16384.Idx, val_main_v26 (F := Ideal) x0 x2 x3 i ≠ (⊤ : EReal) := fun i => by
    have hi : i = ix4 (i 0 : Fin 2) (i 1 : Fin 16) (i 2 : Fin 16384) (i 3 : Fin 16384) := funext fun a => by
      match a with
      | ⟨0, _⟩ => rfl
      | ⟨1, _⟩ => rfl
      | ⟨2, _⟩ => rfl
      | ⟨3, _⟩ => rfl
    exact fun hc => not_top g (i 0) (i 1) (i 2) (i 3) ((congrArg (val_main_v26 (F := Ideal) x0 x2 x3) hi).symm.trans hc)
  obtain ⟨M, hM'⟩ := v29_real x0 x2 x3 b h p htop p (by
    rw [hM]
    unfold masked
    rw [if_pos ⟨le_refl _, by omega⟩, ← EReal.coe_mul]
    exact EReal.coe_ne_bot _)
  have e : ∀ n : Fin 16384, x4 (ix3 b n (⟨j.val / 64 * 128 + j.val % 64, by omega⟩ : Fin 2048)) = x4 (ix3 b (key n.val) (hlane h.val (j.val % 64))) := fun n => by
    have hk : key n.val = n := Fin.ext (Nat.mod_eq_of_lt n.isLt)
    have hl : (⟨j.val / 64 * 128 + j.val % 64, by omega⟩ : Fin 2048) = hlane h.val (j.val % 64) :=
      Fin.ext (show j.val / 64 * 128 + j.val % 64 = (128 * h.val + j.val % 64) % 2048 by omega)
    rw [hk, hl]
  have ew : ∀ n : Fin 16384, val_main_v38 (F := Ideal) x0 x2 x3 (ix4 b h p n)
      = Ideal.div (Ideal.exp (masked s (512 * first x0 b.val h.val (p.val / 512)) p.val n.val - (M : EReal)))
        (∑ n : Fin 16384, Ideal.exp (masked s (512 * first x0 b.val h.val (p.val / 512)) p.val n.val - (M : EReal))) := fun n => by
    rw [at_v38, at_v34, at_v33, hM', hM]
    refine congrArg (Ideal.div _) (Finset.sum_congr rfl fun n _ => ?_)
    rw [at_v33, hM', hM]
  rw [Finset.sum_congr rfl fun n _ => congrArg₂ (· * ·) (e n) (ew n)]
  rw [softmax_mean (fun n => x4 (ix3 b (key n) (hlane h.val (j.val % 64)))) s M (by omega) (b := 512 * (p.val / 512 + 1)) (by omega) (by omega)]
  show _ = mean x2 x3 x4 (first x0 b.val (j.val / 64) (p.val / 512)) b (j.val / 64) p.val (j.val % 64)
  rw [← hhv]
  unfold mean
  rw [Finset.sum_congr rfl fun n _ => congrArg (fun z => x4 (ix3 b (key n) (hlane h.val (j.val % 64))) * (if n ≤ p.val then Ideal.exp2 z else 0)) (hs n).symm,
    Finset.sum_congr rfl fun n _ => congrArg (fun z => (if n ≤ p.val then Ideal.exp2 z else 0)) (hs n).symm]

end Cert.Flash.Ref

end
-- ==== Proof.Flash.Claims.lean ====
/-
  The claims about the attention call: the frames of the program, of its reading over the extended reals and of the
  reference; that the idealized program keeps the named constant; and the value claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_attention_inputs
public import proofs.«01_k».proof.Proof.Flash.LaunchKernel
public import proofs.«01_k».proof.Proof.Flash.Table
public import proofs.«01_k».proof.Proof.Flash.Run
public import proofs.«01_k».proof.Proof.Flash.Pre
public import proofs.«01_k».proof.Proof.Flash.RefResult
public import Idealize.ShloMosaic.Lib.Quiescent

@[expose] public section

noncomputable section

open Idealize.ShloMosaic Idealize.ShloMosaic.TcCoe Idealize.SL.Sem

namespace Cert.Flash

/-- The precondition's arguments are good. -/
theorem good (m : (ℓ : Loc Cert.KernelIdeal.nD Cert.KernelIdeal.τ Cert.KernelIdeal.sig) → Buf (Elt Ideal) ℓ)
    (h : Cert.Pre_KernelIdeal (hPre_attention_inputs := Cert.Pre_attention_inputs.Gen.facts) m) (c : Dev Cert.KernelIdeal.nD) : Result.GoodArgs m c where
  tab _ _ _ hb hh hq := Pre.table (h c) hb hh hq
  kall := Pre.shifts (h c)
  q := Pre.queries (h c)
  k := Pre.keys (h c)
  v b n x hx := by
    have e := Pre.ones (h c) b n ⟨x, hx⟩
    have hi : (⟨x * 128 + 64, by omega⟩ : Fin 2048) = hlane x 64 := Fin.ext (show x * 128 + 64 = (128 * x + 64) % 2048 by omega)
    rw [← hi]
    exact e

/-- The check the kernel makes of its table's words holds. -/
theorem chk_p (m : (ℓ : Loc Cert.Kernel.nD Cert.Kernel.τ Cert.Kernel.sig) → Buf (Elt Bits) ℓ)
    (h : Cert.Pre_Kernel (hPre_attention_inputs := Cert.Pre_attention_inputs.Gen.facts) m) : Kernel.Chk m := fun i t =>
  Result.chk_of_table (Kernel.words m) (fun _ _ _ hb hh hq => Pre.table (h _) hb hh hq) i t

theorem chk_pi (m : (ℓ : Loc Cert.KernelIdeal.nD Cert.KernelIdeal.τ Cert.KernelIdeal.sig) → Buf (Elt Ideal) ℓ)
    (h : Cert.Pre_KernelIdeal (hPre_attention_inputs := Cert.Pre_attention_inputs.Gen.facts) m) : KernelIdeal.Chk m := fun i t =>
  Result.chk_of_table (KernelIdeal.words m) (fun _ _ _ hb hh hq => Pre.table (h _) hb hh hq) i t

/-- The program terminates with its arguments unchanged and nothing in flight. -/
theorem frame_p : Cert.quiescent_Kernel (hKernel := Cert.Kernel.Gen.facts) (hPre_attention_inputs := Cert.Pre_attention_inputs.Gen.facts) :=
  fun m ρ h => Kernel.frame m ρ (chk_p m h)

/-- The same over the extended reals. -/
theorem frame_pi : Cert.quiescent_KernelIdeal (hKernelIdeal := Cert.KernelIdeal.Gen.facts) (hPre_attention_inputs := Cert.Pre_attention_inputs.Gen.facts) :=
  fun m ρ h => KernelIdeal.frame m ρ (chk_pi m h)

/-- The reference terminates with its arguments unchanged; it has no semaphore. -/
theorem frame_ri : Cert.quiescent_ReferenceIdeal (hReferenceIdeal := Cert.ReferenceIdeal.Gen.facts) (hPre_attention_inputs := Cert.Pre_attention_inputs.Gen.facts) :=
  fun m ρ _ =>
    (θ_run Cert.ReferenceIdeal.defs _ _).mono (fun r h => ⟨fun c => (h c).2, sem_eq_zero_of_no_sems (by decide) r.2⟩)
      (Cert.ReferenceIdeal.Value.run (F := Ideal) m ρ)

/-- The idealized program keeps the program's text but for the mask's constant, which is −∞. -/
theorem preserved : Cert.preserves_Kernel_KernelIdeal :=
  IdealRules.named_const.statement Cert.KernelIdeal.κ "mask" .f32 0xF149F2CA#32 ⊥ rfl

/-- The value claim: on equal good arguments the kernel's result is the reference's, element by element. -/
theorem value : Cert.algebraic_KernelIdeal_ReferenceIdeal (hKernelIdeal := Cert.KernelIdeal.Gen.facts)
    (hReferenceIdeal := Cert.ReferenceIdeal.Gen.facts) (hPre_attention_inputs := Cert.Pre_attention_inputs.Gen.facts) := by
  intro m ρ m' ρ' hpre hagree
  refine ⟨fun c => Result.result m c, Result.run m ρ (good m hpre), ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4⟩ := hagree c
  rw [Cert.ReferenceIdeal.Read.val_main_v42_eq, a0, a2, a3, a4]
  funext i
  have hi : (i : Cert.ReferenceIdeal.S2x16384x1024.Idx) = ix3 (i 0 : Fin 2) (i 1 : Fin 16384) (i 2 : Fin 1024) := funext fun a => by
    match a with
    | ⟨0, _⟩ => rfl
    | ⟨1, _⟩ => rfl
    | ⟨2, _⟩ => rfl
  refine (congrArg _ hi).trans ((Ref.result_apply (good m hpre c) (i 0) (i 1) (i 2)).trans ?_)
  exact congrArg (Result.result m c) hi.symm

end Cert.Flash

end
-- ==== Proof.Mlp.Rows.lean ====
/-
  The mathematics of one token's row in the output projection and feed-forward part of a layer, over the extended reals.
  A token's row is a function `Fin 1024 → EReal`. Nothing here mentions blocks, grids or programs: both the kernel and
  the reference are read as `row` of the same rows and weights.
-/
module

public import Idealize.ShloMosaic.PureOps.Ideal.Laws
public import Mathlib.Algebra.BigOperators.Fin

@[expose] public section

noncomputable section

open Idealize.ShloMosaic
open scoped BigOperators

namespace Cert.Mlp

/-- The row width 1024, as the word both programs divide by. -/
def width : EReal := Ideal.ofBits .f32 0x44800000#32

/-- The small constant 1e-6 added under the root, as the word both programs add. -/
def tiny : EReal := Ideal.ofBits .f32 0x358637BD#32

/-- RMS normalisation of a row, scaled by `g`. -/
def rms (x g : Fin 1024 → EReal) : Fin 1024 → EReal := fun j =>
  x j * Ideal.rsqrt (Ideal.div (∑ k, x k * x k) width + tiny) * g j

/-- A row times a matrix. -/
def lin {n p : ℕ} (x : Fin n → EReal) (w : Fin n → Fin p → EReal) : Fin p → EReal := fun j => ∑ k, x k * w k j

/-- The squared rectifier. -/
def sqRelu (u : EReal) : EReal := max u 0 * max u 0

/-- The residual stream after the attention output: the row plus the normalised projection. -/
def resid (o x : Fin 1024 → EReal) (wOut : Fin 1024 → Fin 1024 → EReal) (gPost : Fin 1024 → EReal) : Fin 1024 → EReal := fun j =>
  x j + rms (lin o wOut) gPost j

/-- The two-layer feed-forward map of a row. -/
def ffn (h : Fin 1024 → EReal) (wUp : Fin 1024 → Fin 4096 → EReal) (wDown : Fin 4096 → Fin 1024 → EReal) : Fin 1024 → EReal := fun j =>
  ∑ f, sqRelu (lin h wUp f) * wDown f j

/-- One token's row through the whole part: projection, residual, norm, feed-forward, norm, residual. -/
def row (o x : Fin 1024 → EReal) (wOut : Fin 1024 → Fin 1024 → EReal) (gPost gPre : Fin 1024 → EReal)
    (wUp : Fin 1024 → Fin 4096 → EReal) (wDown : Fin 4096 → Fin 1024 → EReal) (gFfn : Fin 1024 → EReal) : Fin 1024 → EReal := fun j =>
  resid o x wOut gPost j + rms (ffn (rms (resid o x wOut gPost) gPre) wUp wDown) gFfn j

/-- Hidden unit `k` of chunk `a`, of the four chunks of 1024 hidden units. -/
def unit (a : Fin 4) (k : Fin 1024) : Fin 4096 := ⟨1024 * a.val + k.val, by omega⟩

/-- A sum over the 4096 hidden units is the sum of the four chunks' sums, in the order in which they are added. -/
theorem sum_chunks (f : Fin 4096 → EReal) :
    ∑ i, f i = ((∑ k, f (unit 0 k) + ∑ k, f (unit 1 k)) + ∑ k, f (unit 2 k)) + ∑ k, f (unit 3 k) := by
  have e : ∑ i, f i = ∑ p : Fin 4 × Fin 1024, f (unit p.1 p.2) := by
    rw [← Equiv.sum_comp (finProdFinEquiv (m := 4) (n := 1024))]
    refine Finset.sum_congr rfl fun p _ => congrArg f (Fin.ext ?_)
    show p.2.val + 1024 * p.1.val = 1024 * p.1.val + p.2.val
    omega
  rw [e, Fintype.sum_prod_type, Fin.sum_univ_four]

end Cert.Mlp
-- ==== Proof.Mlp.Payload.lean ====
/-
  What the kernel's body computes from one half block of 512 rows, read at a row `r` and a column `j`: the row function
  `Mlp.row` of that row.
-/
module

public import proofs.«01_k».proof.Proof.Gen.Kernel2Ideal.Skeleton
public import proofs.«01_k».proof.Proof.Mlp.Rows
public import Idealize.ShloMosaic.Lib.Pointwise

@[expose] public section

noncomputable section

open Idealize.ShloMosaic

namespace Cert.Mlp

open Cert.Kernel2Ideal Cert.Kernel2Ideal.Gen

/-- Row `r` of a two-dimensional array. -/
abbrev rowOf {M N : ℕ} (x : (⟨2, ![M, N]⟩ : Shape).Idx → EReal) (r : Fin M) : Fin N → EReal := fun j => x (ix2 r j)

/-- A two-dimensional array as a matrix. -/
abbrev matOf {M N : ℕ} (x : (⟨2, ![M, N]⟩ : Shape).Idx → EReal) : Fin M → Fin N → EReal := fun i j => x (ix2 i j)

variable (o : Vec Ideal S512x1024 .bf16) (x : Vec Ideal S512x1024 .f32) (wOut : Vec Ideal S1024x1024 .bf16)
  (gPost gPre gFfn : Vec Ideal S1x1024 .f32)

/-- The residual after the attention output. -/
theorem pay_resid (r : Fin 512) (j : Fin 1024) :
    k0_pay1 o wOut x gPost (ix2 r j) = resid (rowOf o r) (rowOf x r) (matOf wOut) (rowOf gPost 0) j := by
  unfold k0_pay1
  pointwise [dot_S512x1024_S1024x1024_S512x1024_1_0_0_1_n_n]
  rfl

/-- The stored residual is the residual. -/
theorem pay_stored (r : Fin 512) (j : Fin 1024) :
    k0_pay2 o wOut x gPost (ix2 r j) = resid (rowOf o r) (rowOf x r) (matOf wOut) (rowOf gPost 0) j := by
  rw [← pay_resid]
  unfold k0_pay2
  rw [shapeCast_self]

/-- Its normalised row, the feed-forward's input. -/
theorem pay_norm (r : Fin 512) (j : Fin 1024) :
    k0_pay4 (k0_pay3 o wOut x gPost gPre) (ix2 r j)
      = rms (resid (rowOf o r) (rowOf x r) (matOf wOut) (rowOf gPost 0)) (rowOf gPre 0) j := by
  have e : resid (rowOf o r) (rowOf x r) (matOf wOut) (rowOf gPost 0) = fun j => k0_pay1 o wOut x gPost (ix2 r j) :=
    funext fun j => (pay_resid o x wOut gPost r j).symm
  rw [e]
  unfold k0_pay4 k0_pay3
  generalize k0_pay1 o wOut x gPost = y
  pointwise
  rfl

/-- The feed-forward of rows `h` in four chunks of hidden units, normalised and added to the rows `y`. -/
theorem pay_out (h : Vec Ideal S512x1024 .bf16) (u0 u1 u2 u3 d0 d1 d2 d3 : Vec Ideal S1024x1024 .bf16) (y : Vec Ideal S512x1024 .f32)
    (wUp : Fin 1024 → Fin 4096 → EReal) (wDown : Fin 4096 → Fin 1024 → EReal)
    (hu0 : ∀ k f, u0 (ix2 k f) = wUp k (unit 0 f)) (hu1 : ∀ k f, u1 (ix2 k f) = wUp k (unit 1 f))
    (hu2 : ∀ k f, u2 (ix2 k f) = wUp k (unit 2 f)) (hu3 : ∀ k f, u3 (ix2 k f) = wUp k (unit 3 f))
    (hd0 : ∀ f j, d0 (ix2 f j) = wDown (unit 0 f) j) (hd1 : ∀ f j, d1 (ix2 f j) = wDown (unit 1 f) j)
    (hd2 : ∀ f j, d2 (ix2 f j) = wDown (unit 2 f) j) (hd3 : ∀ f j, d3 (ix2 f j) = wDown (unit 3 f) j)
    (r : Fin 512) (j : Fin 1024) :
    k0_pay12 (k0_pay10 h u0 d0 h u1 d1) h (k0_pay11 u2) d2 h u3 d3 y gFfn (ix2 r j)
      = y (ix2 r j) + rms (ffn (rowOf h r) wUp wDown) (rowOf gFfn 0) j := by
  unfold k0_pay12 k0_pay10 k0_pay11
  pointwise [dot_S512x1024_S1024x1024_S512x1024_1_0_0_1_n_n, hu0, hu1, hu2, hu3, hd0, hd1, hd2, hd3]
  unfold rms ffn lin sqRelu
  simp only [sum_chunks]
  rfl

/-- The half block the body stores, as an expression of its loads. -/
def half (o : Vec Ideal S512x1024 .bf16) (x : Vec Ideal S512x1024 .f32) (wOut : Vec Ideal S1024x1024 .bf16)
    (gPost gPre : Vec Ideal S1x1024 .f32) (u0 u1 u2 u3 d0 d1 d2 d3 : Vec Ideal S1024x1024 .bf16) (gFfn : Vec Ideal S1x1024 .f32) :
    Vec Ideal S512x1024 .f32 :=
  k0_pay12 (k0_pay10 (k0_pay4 (k0_pay3 o wOut x gPost gPre)) u0 d0 (k0_pay4 (k0_pay3 o wOut x gPost gPre)) u1 d1)
    (k0_pay4 (k0_pay3 o wOut x gPost gPre)) (k0_pay11 u2) d2 (k0_pay4 (k0_pay3 o wOut x gPost gPre)) u3 d3
    (k0_pay2 o wOut x gPost) gFfn

/-- The second half block is the same expression. -/
theorem half_second (u0 u1 u2 u3 d0 d1 d2 d3 : Vec Ideal S1024x1024 .bf16) :
    k0_pay15 (k0_pay13 (k0_pay9 (k0_pay7 gPre) (k0_pay8 o wOut x gPost)) u0 d0 (k0_pay9 (k0_pay7 gPre) (k0_pay8 o wOut x gPost)) u1 d1)
      (k0_pay14 (k0_pay9 (k0_pay7 gPre) (k0_pay8 o wOut x gPost)) u2) d2 (k0_pay9 (k0_pay7 gPre) (k0_pay8 o wOut x gPost)) u3 d3
      (k0_pay6 o wOut x gPost) gFfn
      = half o x wOut gPost gPre u0 u1 u2 u3 d0 d1 d2 d3 gFfn := rfl

/-- Each row of a half block is `row` of the corresponding input rows. -/
theorem half_apply (u0 u1 u2 u3 d0 d1 d2 d3 : Vec Ideal S1024x1024 .bf16)
    (wUp : Fin 1024 → Fin 4096 → EReal) (wDown : Fin 4096 → Fin 1024 → EReal)
    (hu0 : ∀ k f, u0 (ix2 k f) = wUp k (unit 0 f)) (hu1 : ∀ k f, u1 (ix2 k f) = wUp k (unit 1 f))
    (hu2 : ∀ k f, u2 (ix2 k f) = wUp k (unit 2 f)) (hu3 : ∀ k f, u3 (ix2 k f) = wUp k (unit 3 f))
    (hd0 : ∀ f j, d0 (ix2 f j) = wDown (unit 0 f) j) (hd1 : ∀ f j, d1 (ix2 f j) = wDown (unit 1 f) j)
    (hd2 : ∀ f j, d2 (ix2 f j) = wDown (unit 2 f) j) (hd3 : ∀ f j, d3 (ix2 f j) = wDown (unit 3 f) j)
    (r : Fin 512) (j : Fin 1024) :
    half o x wOut gPost gPre u0 u1 u2 u3 d0 d1 d2 d3 gFfn (ix2 r j)
      = row (rowOf o r) (rowOf x r) (matOf wOut) (rowOf gPost 0) (rowOf gPre 0) wUp wDown (rowOf gFfn 0) j := by
  unfold half
  rw [pay_out gFfn _ u0 u1 u2 u3 d0 d1 d2 d3 _ wUp wDown hu0 hu1 hu2 hu3 hd0 hd1 hd2 hd3, pay_stored]
  have e : rowOf (k0_pay4 (k0_pay3 o wOut x gPost gPre)) r
      = rms (resid (rowOf o r) (rowOf x r) (matOf wOut) (rowOf gPost 0)) (rowOf gPre 0) :=
    funext fun j => pay_norm o x wOut gPost gPre r j
  rw [e]
  rfl

end Cert.Mlp
-- ==== Proof.Mlp.Block.lean ====
/-
  What the kernel's body leaves in the output block of 1024 rows: two stores, the rows 0 to 511 and the rows 512 to 1023,
  each row the row function `Mlp.row` of the same row of the input blocks.
-/
module

public import proofs.«01_k».proof.Proof.Gen.Kernel2Ideal.Value
public import proofs.«01_k».proof.Proof.Mlp.Payload
public import Idealize.ShloMosaic.Lib.Pipeline.Value
public import Idealize.ShloMosaic.Lib.Pipeline.ReadBack
public import Idealize.ShloMosaic.Lib.Pipeline.ValueKit.Tiles
public import Idealize.ShloMosaic.Lib.Tactic

@[expose] public section

noncomputable section

open Idealize.ShloMosaic Idealize.ShloMosaic.TcCoe Idealize.SL.Sem

namespace Cert.Mlp

open Cert.Kernel2Ideal Cert.Kernel2Ideal.Gen

theorem hz : (![0, 0] : Fin 2 → Nat) = fun _ => 0 := funext fun a => by fin_cases a <;> rfl

/-- A load of a rectangle of a two-dimensional array, at an index. -/
theorem ld_at {M N m n : ℕ} {e : EltTy} (X : (⟨2, ![M, N]⟩ : Shape).Idx → Elt Ideal e) (a b : ℕ)
    (inb : ∀ i, (![a, b] : Fin 2 → ℕ) i + (![m, n] : Fin 2 → ℕ) i ≤ (⟨2, ![M, N]⟩ : Shape).size i) (r : Fin m) (c : Fin n)
    (r' : Fin M) (c' : Fin N) (hr : r'.val = a + r.val) (hc : c'.val = b + c.val) :
    View.ld X (Rect.unit (s := ⟨2, ![M, N]⟩) ![a, b] ![m, n] inb) (ix2 r c) = X (ix2 r' c') :=
  View.ld_unit_apply_of X _ _ inb (ix2 r c) (ix2 r' c') fun i => by
    match i with
    | ⟨0, _⟩ => exact hr
    | ⟨1, _⟩ => exact hc

/-- The row of a half block loaded from a block is the block's row. -/
theorem half_row {e : EltTy} (X : S1024x1024.Idx → Elt Ideal e) (a : ℕ) (inb) (r : Fin 512) (q : Fin 1024) (hq : q.val = a + r.val) :
    (fun j => View.ld X (Rect.unit (s := S1024x1024) ![a, 0] ![512, 1024] inb) (ix2 r j)) = fun j : Fin 1024 => X (ix2 q j) :=
  funext fun j => ld_at X a 0 inb r j q j hq (Nat.zero_add _).symm

theorem out_eq (c : Dev nD) (i : grid0.Coords) (arg1 : Memref sig .tc .vmem S1024x1024 .bf16) (harg1 : arg1.IsWhole) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .bf16) (harg11 : arg11.IsWhole)
    (x0 : Vec Ideal S1024x1024 .bf16) (x1 : Vec Ideal S1024x1024 .f32) (x2 : Vec Ideal S1024x1024 .bf16) (x3 : Vec Ideal S1x1024 .f32) (x4 : Vec Ideal S1x1024 .f32) (x5 : Vec Ideal S1024x4096 .bf16) (x6 : Vec Ideal S4096x1024 .bf16) (x7 : Vec Ideal S1x1024 .f32)
    (q j : Fin 1024) :
    out0_A_8 c i arg1 harg1 arg2 harg2 arg3 harg3 arg4 harg4 arg5 harg5 arg6 harg6 arg7 harg7 arg8 harg8 arg9 harg9 arg10 harg10 arg11 harg11 x0 x1 x2 x3 x4 x5 x6 x7 (ix2 q j)
      = row (rowOf x0 q) (rowOf x1 q) (matOf x2) (rowOf x3 0) (rowOf x4 0) (matOf x5) (matOf x6) (rowOf x7 0) j := by
  have hcov := cover0_A_8 c i arg1 harg1 arg2 harg2 arg3 harg3 arg4 harg4 arg5 harg5 arg6 harg6 arg7 harg7 arg8 harg8 arg9 harg9 arg10 harg10 arg11 harg11 x0 x1 x2 x3 x4 x5 x6 x7
  unfold out0_A_8
  rw [View.read_writes_eq_canon _ _ _ hcov]
  clear hcov
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S1024x1024) hz, View.ld_unit_zero (S := S1x1024) hz, View.readCov_cons_toLoadRect]
  simp (disch := decide) only [View.readCov_skip, View.readCov_cons_toLoadRect]
  have key : ∀ (a : ℕ) (inb) (r : Fin 512), q.val = a + r.val →
      half (View.ld x0 (Rect.unit (s := S1024x1024) ![a, 0] ![512, 1024] inb)) (View.ld x1 (Rect.unit (s := S1024x1024) ![a, 0] ![512, 1024] inb)) x2 x3 x4
        (View.ld x5 (Rect.unit ![0, 0] ![1024, 1024] inb_S1024x4096_S1024x1024_0_0)) (View.ld x5 (Rect.unit ![0, 1024] ![1024, 1024] inb_S1024x4096_S1024x1024_0_1024))
        (View.ld x5 (Rect.unit ![0, 2048] ![1024, 1024] inb_S1024x4096_S1024x1024_0_2048)) (View.ld x5 (Rect.unit ![0, 3072] ![1024, 1024] inb_S1024x4096_S1024x1024_0_3072))
        (View.ld x6 (Rect.unit ![0, 0] ![1024, 1024] inb_S4096x1024_S1024x1024_0_0)) (View.ld x6 (Rect.unit ![1024, 0] ![1024, 1024] inb_S4096x1024_S1024x1024_1024_0))
        (View.ld x6 (Rect.unit ![2048, 0] ![1024, 1024] inb_S4096x1024_S1024x1024_2048_0)) (View.ld x6 (Rect.unit ![3072, 0] ![1024, 1024] inb_S4096x1024_S1024x1024_3072_0))
        x7 (ix2 r j)
      = row (rowOf x0 q) (rowOf x1 q) (matOf x2) (rowOf x3 0) (rowOf x4 0) (matOf x5) (matOf x6) (rowOf x7 0) j := by
    intro a inb r hq
    rw [half_apply _ _ x2 x3 x4 x7 _ _ _ _ _ _ _ _ (matOf x5) (matOf x6)
      (fun k f => ld_at x5 0 0 _ k f k (unit 0 f) (Nat.zero_add _).symm (by simp [unit]))
      (fun k f => ld_at x5 0 1024 _ k f k (unit 1 f) (Nat.zero_add _).symm (by simp [unit]))
      (fun k f => ld_at x5 0 2048 _ k f k (unit 2 f) (Nat.zero_add _).symm (by simp [unit]))
      (fun k f => ld_at x5 0 3072 _ k f k (unit 3 f) (Nat.zero_add _).symm (by simp [unit]))
      (fun f k => ld_at x6 0 0 _ f k (unit 0 f) k (by simp [unit]) (Nat.zero_add _).symm)
      (fun f k => ld_at x6 1024 0 _ f k (unit 1 f) k (by simp [unit]) (Nat.zero_add _).symm)
      (fun f k => ld_at x6 2048 0 _ f k (unit 2 f) k (by simp [unit]) (Nat.zero_add _).symm)
      (fun f k => ld_at x6 3072 0 _ f k (unit 3 f) k (by simp [unit]) (Nat.zero_add _).symm)]
    unfold rowOf
    rw [half_row x0 a inb r q hq, half_row x1 a inb r q hq]
  by_cases hlt : q.val < 512
  · rw [View.canon_cons_of_not_mem _ _ (by
      rw [Rect.mem_set_unit]
      intro h
      have := (h 0).1
      change 512 ≤ q.val at this
      omega)]
    have e : (ix2 q j : S1024x1024.Idx) = (Rect.unit (s := S1024x1024) ![0, 0] ![512, 1024] inb_S1024x1024_S512x1024_0_0).emb (ix2 ⟨q.val, hlt⟩ j) :=
      funext fun b => Fin.ext (by
        match b with
        | ⟨0, _⟩ => show q.val = 0 + 1 * q.val; omega
        | ⟨1, _⟩ => show j.val = 0 + 1 * j.val; omega)
    rw [e, View.canon_cons_emb]
    exact key 0 _ ⟨q.val, hlt⟩ (Nat.zero_add _).symm
  · have e : (ix2 q j : S1024x1024.Idx) = (Rect.unit (s := S1024x1024) ![512, 0] ![512, 1024] inb_S1024x1024_S512x1024_512_0).emb (ix2 ⟨q.val - 512, by omega⟩ j) :=
      funext fun b => Fin.ext (by
        match b with
        | ⟨0, _⟩ => show q.val = 512 + 1 * (q.val - 512); omega
        | ⟨1, _⟩ => show j.val = 0 + 1 * j.val; omega)
    rw [e, View.canon_cons_emb]
    exact key 512 _ ⟨q.val - 512, by omega⟩ (by show q.val = 512 + (q.val - 512); omega)

end Cert.Mlp
-- ==== Proof.Mlp.Array.lean ====
/-
  The kernel's result array after the run: every row of it is the row function `Mlp.row` of the same row of the
  arguments. Grid point `t` stages rows `1024 t` to `1024 t + 1023`.
-/
module

public import proofs.«01_k».proof.Proof.Mlp.Block
public import Idealize.ShloMosaic.Lib.StableHlo.Run

@[expose] public section

noncomputable section

open Idealize.ShloMosaic Idealize.ShloMosaic.TcCoe Idealize.SL.Sem
open Idealize.ShloMosaic.Pipeline (Dat)

namespace Cert.Mlp

open Cert.Kernel2Ideal Cert.Kernel2Ideal.Gen

variable (m : (ℓ : Loc nD τ sig) → Buf (Elt Ideal) ℓ)

/-- A vector as a row. -/
abbrev vecOf {N : ℕ} (x : (⟨1, ![N]⟩ : Shape).Idx → EReal) : Fin N → EReal := fun j => x (ix1 j)

/-- Row function of the arguments: what each row of the result holds. -/
def rowAt (o : S32768x1024.Idx → EReal) (x : S32768x1024.Idx → EReal) (wOut : S1024x1024.Idx → EReal) (gPost gPre : S1024.Idx → EReal)
    (wUp : S1024x4096.Idx → EReal) (wDown : S4096x1024.Idx → EReal) (gFfn : S1024.Idx → EReal) : S32768x1024.Idx → EReal := fun i =>
  row (rowOf o (i 0)) (rowOf x (i 0)) (matOf wOut) (vecOf gPost) (vecOf gPre) (matOf wUp) (matOf wDown) (vecOf gFfn) (i 1)

/-- The kernel's result array. -/
def result (c : Dev nD) : Buf (Elt Ideal) ((c : Thread nD τ).loc main_v6) :=
  rowAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-! ## The arrays the region finds -/

theorem V_v0 (c : Dev nD) : (V m c main_v0 : S1024x1024.Idx → EReal) = m ((c : Thread nD τ).loc main_arg2) := by
  unfold V; after_results_simp; rfl
theorem V_v1 (c : Dev nD) : (V m c main_v1 : S1x1024.Idx → EReal) = broadcastInDim S1x1024 ![1] bcast_S1024_S1x1024_1 (m ((c : Thread nD τ).loc main_arg3) : S1024.Idx → EReal) := by
  unfold V; after_results_simp
theorem V_v2 (c : Dev nD) : (V m c main_v2 : S1x1024.Idx → EReal) = broadcastInDim S1x1024 ![1] bcast_S1024_S1x1024_1 (m ((c : Thread nD τ).loc main_arg4) : S1024.Idx → EReal) := by
  unfold V; after_results_simp
theorem V_v3 (c : Dev nD) : (V m c main_v3 : S1024x4096.Idx → EReal) = m ((c : Thread nD τ).loc main_arg5) := by
  unfold V; after_results_simp; rfl
theorem V_v4 (c : Dev nD) : (V m c main_v4 : S4096x1024.Idx → EReal) = m ((c : Thread nD τ).loc main_arg6) := by
  unfold V; after_results_simp; rfl
theorem V_v5 (c : Dev nD) : (V m c main_v5 : S1x1024.Idx → EReal) = broadcastInDim S1x1024 ![1] bcast_S1024_S1x1024_1 (m ((c : Thread nD τ).loc main_arg7) : S1024.Idx → EReal) := by
  unfold V; after_results_simp

/-! ## The index maps, over the 32 points -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Row `q` of point `t`'s block, as a row of the array. -/
def tok (t : Fin cfg0.N) (q : Fin 1024) : Fin 32768 := ⟨1024 * t.val + q.val, by
  have h : t.val < 32 := lt_of_lt_of_eq t.isLt N_0
  omega⟩

/-! ## The blocks -/

theorem blk0 (c : Dev nD) (t : Fin cfg0.N) (q : Fin 1024) :
    rowOf (iblk m c 0 t : S1024x1024.Idx → EReal) q = rowOf (m ((c : Thread nD τ).loc main_arg0) : S32768x1024.Idx → EReal) (tok t q) := by
  funext j
  unfold rowOf iblk
  rw [View.read_apply]
  show V m c main_arg0 _ = m (c.tc.loc main_arg0) _
  rw [V_main_arg0]
  refine congrArg (m ((c : Thread nD τ).loc main_arg0)) (funext fun a => Fin.ext ?_)
  match a with
  | ⟨0, _⟩ => show win0_0.index t 0 * 1024 + 1 * q.val = 1024 * t.val + q.val; rw [(idx0 t).1]; omega
  | ⟨1, _⟩ => show win0_0.index t 1 * 1024 + 1 * j.val = j.val; rw [(idx0 t).2]; omega

theorem blk1 (c : Dev nD) (t : Fin cfg0.N) (q : Fin 1024) :
    rowOf (iblk m c 1 t : S1024x1024.Idx → EReal) q = rowOf (m ((c : Thread nD τ).loc main_arg1) : S32768x1024.Idx → EReal) (tok t q) := by
  funext j
  unfold rowOf iblk
  rw [View.read_apply]
  show V m c main_arg1 _ = m (c.tc.loc main_arg1) _
  rw [V_main_arg1]
  refine congrArg (m ((c : Thread nD τ).loc main_arg1)) (funext fun a => Fin.ext ?_)
  match a with
  | ⟨0, _⟩ => show win0_1.index t 0 * 1024 + 1 * q.val = 1024 * t.val + q.val; rw [(idx1 t).1]; omega
  | ⟨1, _⟩ => show win0_1.index t 1 * 1024 + 1 * j.val = j.val; rw [(idx1 t).2]; omega

theorem blk2 (c : Dev nD) (t : Fin cfg0.N) :
    matOf (iblk m c 2 t : S1024x1024.Idx → EReal) = matOf (m ((c : Thread nD τ).loc main_arg2) : S1024x1024.Idx → EReal) := by
  funext i j
  unfold matOf iblk
  rw [View.read_apply]
  show (V m c main_v0 : S1024x1024.Idx → EReal) _ = _
  rw [V_v0]
  refine congrArg (m ((c : Thread nD τ).loc main_arg2)) (funext fun a => Fin.ext ?_)
  match a with
  | ⟨0, _⟩ => show win0_2.index t 0 * 1024 + 1 * i.val = i.val; rw [(idx2 t).1]; omega
  | ⟨1, _⟩ => show win0_2.index t 1 * 1024 + 1 * j.val = j.val; rw [(idx2 t).2]; omega

theorem blk5 (c : Dev nD) (t : Fin cfg0.N) :
    matOf (iblk m c 5 t : S1024x4096.Idx → EReal) = matOf (m ((c : Thread nD τ).loc main_arg5) : S1024x4096.Idx → EReal) := by
  funext i j
  unfold matOf iblk
  rw [View.read_apply]
  show (V m c main_v3 : S1024x4096.Idx → EReal) _ = _
  rw [V_v3]
  refine congrArg (m ((c : Thread nD τ).loc main_arg5)) (funext fun a => Fin.ext ?_)
  match a with
  | ⟨0, _⟩ => show win0_5.index t 0 * 1024 + 1 * i.val = i.val; rw [(idx5 t).1]; omega
  | ⟨1, _⟩ => show win0_5.index t 1 * 4096 + 1 * j.val = j.val; rw [(idx5 t).2]; omega

theorem blk6 (c : Dev nD) (t : Fin cfg0.N) :
    matOf (iblk m c 6 t : S4096x1024.Idx → EReal) = matOf (m ((c : Thread nD τ).loc main_arg6) : S4096x1024.Idx → EReal) := by
  funext i j
  unfold matOf iblk
  rw [View.read_apply]
  show (V m c main_v4 : S4096x1024.Idx → EReal) _ = _
  rw [V_v4]
  refine congrArg (m ((c : Thread nD τ).loc main_arg6)) (funext fun a => Fin.ext ?_)
  match a with
  | ⟨0, _⟩ => show win0_6.index t 0 * 4096 + 1 * i.val = i.val; rw [(idx6 t).1]; omega
  | ⟨1, _⟩ => show win0_6.index t 1 * 1024 + 1 * j.val = j.val; rw [(idx6 t).2]; omega

/-- A gain vector laid out as one row, read at a column. -/
theorem gain_apply (g : S1024.Idx → EReal) (i : S1x1024.Idx) (j : Fin 1024) (h : (i 1).val = j.val) :
    broadcastInDim S1x1024 ![1] bcast_S1024_S1x1024_1 g i = g (ix1 j) :=
  broadcastInDim_apply _ _ g i (ix1 j) fun a => by
    match a with
    | ⟨0, _⟩ => show j.val = if (1024 : Nat) = 1 then 0 else (i 1).val; rw [if_neg (by decide), h]

theorem blk3 (c : Dev nD) (t : Fin cfg0.N) :
    rowOf (iblk m c 3 t : S1x1024.Idx → EReal) 0 = vecOf (m ((c : Thread nD τ).loc main_arg3) : S1024.Idx → EReal) := by
  funext j
  unfold rowOf iblk vecOf
  rw [View.read_apply]
  show (V m c main_v1 : S1x1024.Idx → EReal) _ = _
  rw [V_v1]
  refine gain_apply _ _ j ?_
  show win0_3.index t 1 * 1024 + 1 * j.val = j.val; rw [(idx3 t).2]; omega

theorem blk4 (c : Dev nD) (t : Fin cfg0.N) :
    rowOf (iblk m c 4 t : S1x1024.Idx → EReal) 0 = vecOf (m ((c : Thread nD τ).loc main_arg4) : S1024.Idx → EReal) := by
  funext j
  unfold rowOf iblk vecOf
  rw [View.read_apply]
  show (V m c main_v2 : S1x1024.Idx → EReal) _ = _
  rw [V_v2]
  refine gain_apply _ _ j ?_
  show win0_4.index t 1 * 1024 + 1 * j.val = j.val; rw [(idx4 t).2]; omega

theorem blk7 (c : Dev nD) (t : Fin cfg0.N) :
    rowOf (iblk m c 7 t : S1x1024.Idx → EReal) 0 = vecOf (m ((c : Thread nD τ).loc main_arg7) : S1024.Idx → EReal) := by
  funext j
  unfold rowOf iblk vecOf
  rw [View.read_apply]
  show (V m c main_v5 : S1x1024.Idx → EReal) _ = _
  rw [V_v5]
  refine gain_apply _ _ j ?_
  show win0_7.index t 1 * 1024 + 1 * j.val = j.val; rw [(idx7 t).2]; omega

/-! ## The result array -/

/-- What the body leaves at row `q`, column `j` of the output block at point `t`. -/
theorem outsAt_apply (c : Dev nD) (t : Fin cfg0.N) (q j : Fin 1024) :
    outsAt0 m c t (ix2 q j) = result m c (ix2 (tok t q) j) := by
  unfold outsAt0
  rw [out_eq]
  have e0 := blk0 m c t q; have e1 := blk1 m c t q; have e2 := blk2 m c t; have e3 := blk3 m c t
  have e4 := blk4 m c t; have e5 := blk5 m c t; have e6 := blk6 m c t; have e7 := blk7 m c t
  show row (rowOf (iblk m c 0 t : S1024x1024.Idx → EReal) q) (rowOf (iblk m c 1 t : S1024x1024.Idx → EReal) q) (matOf (iblk m c 2 t : S1024x1024.Idx → EReal))
    (rowOf (iblk m c 3 t : S1x1024.Idx → EReal) 0) (rowOf (iblk m c 4 t : S1x1024.Idx → EReal) 0) (matOf (iblk m c 5 t : S1024x4096.Idx → EReal))
    (matOf (iblk m c 6 t : S4096x1024.Idx → EReal)) (rowOf (iblk m c 7 t : S1x1024.Idx → EReal) 0) j = _
  rw [e0, e1, e2, e3, e4, e5, e6, e7]
  rfl

/-- The write-back of point `t` is the result's block there. -/
theorem flushed_eq (c : Dev nD) (t : Fin cfg0.N) :
    (dats m 0 c).flushed 8 t = ((cfg0.win 8).blk t).view.read (Elt Ideal) (result m c) := by
  rw [Value.flushed8]
  funext y
  rw [View.read_apply]
  have hy : (y : S1024x1024.Idx) = ix2 (y 0 : Fin 1024) (y 1 : Fin 1024) := funext fun a => by
    match a with
    | ⟨0, _⟩ => rfl
    | ⟨1, _⟩ => rfl
  refine Eq.trans (congrArg (outsAt0 m c t) hy) ((outsAt_apply m c t (y 0) (y 1)).trans ?_)
  refine congrArg (result m c) (funext fun a => Fin.ext ?_)
  match a with
  | ⟨0, _⟩ => show 1024 * t.val + (y 0).val = win0_8.index t 0 * 1024 + 1 * (y 0).val; rw [(idx8 t).1]; omega
  | ⟨1, _⟩ => show (y 1).val = win0_8.index t 1 * 1024 + 1 * (y 1).val; rw [(idx8 t).2]; omega

theorem flush_all : ∀ t : Fin cfg0.N, (cfg0.win 8).flush t = true :=
  (by decide +kernel : ∀ t : Fin grid0.N, win0_8.flush t = true)

/-- So the result array after the run is `result`. -/
theorem final (c : Dev nD) : (dats m 0 c).arrAt 8 cfg0.N = result m c :=
  (dats m 0 c).arrAt_eq_of_cover 8 (result m c) (fun t _ => flushed_eq m c t) fun i => by
    have h0 : (i 0 : Nat) < 32768 := (i 0).isLt
    have h1 : (i 1 : Nat) < 1024 := (i 1).isLt
    have ht : (i 0 : Nat) / 1024 < cfg0.N := lt_of_lt_of_eq (by omega) N_0.symm
    refine ⟨⟨(i 0 : Nat) / 1024, ht⟩, flush_all _, ?_⟩
    show i ∈ ((View.whole main_v6).slice (win0_8.rect ⟨(i 0 : Nat) / 1024, ht⟩)).set
    rw [View.set_slice_whole, Rect.mem_set_unit]
    intro a
    match a with
    | ⟨0, _⟩ => show win0_8.index ⟨(i 0 : Nat) / 1024, ht⟩ 0 * 1024 ≤ (i 0 : Nat) ∧ (i 0 : Nat) < win0_8.index ⟨(i 0 : Nat) / 1024, ht⟩ 0 * 1024 + 1024
                rw [(idx8 _).1]; show (i 0 : Nat) / 1024 * 1024 ≤ (i 0 : Nat) ∧ (i 0 : Nat) < (i 0 : Nat) / 1024 * 1024 + 1024; omega
    | ⟨1, _⟩ => show win0_8.index ⟨(i 0 : Nat) / 1024, ht⟩ 1 * 1024 ≤ (i 1 : Nat) ∧ (i 1 : Nat) < win0_8.index ⟨(i 0 : Nat) / 1024, ht⟩ 1 * 1024 + 1024
                rw [(idx8 _).2]; omega

end Cert.Mlp
-- ==== Proof.Mlp.Ref.lean ====
/-
  The reference's result, read at a row and a column: the row function `Mlp.row` of the same row of the arguments.
-/
module

public import proofs.«01_k».proof.Proof.Gen.Reference2Ideal.Read
public import proofs.«01_k».proof.Proof.Mlp.Rows
public import Idealize.ShloMosaic.Lib.Pointwise

@[expose] public section

noncomputable section

open Idealize.ShloMosaic

namespace Cert.Mlp.Ref

open Cert.Reference2Ideal Cert.Reference2Ideal.Read

variable (x0 : (⟨S32768x1024, .bf16⟩ : BufTy).Contents (Elt Ideal)) (x1 : (⟨S32768x1024, .f32⟩ : BufTy).Contents (Elt Ideal))
  (x2 : (⟨S1024x1024, .f32⟩ : BufTy).Contents (Elt Ideal)) (x3 x4 : (⟨S1024, .f32⟩ : BufTy).Contents (Elt Ideal))
  (x5 : (⟨S1024x4096, .f32⟩ : BufTy).Contents (Elt Ideal)) (x6 : (⟨S4096x1024, .f32⟩ : BufTy).Contents (Elt Ideal))
  (x7 : (⟨S1024, .f32⟩ : BufTy).Contents (Elt Ideal))

/-- Row `r` of a two-dimensional array. -/
abbrev rowOf {M N : ℕ} (x : (⟨2, ![M, N]⟩ : Shape).Idx → EReal) (r : Fin M) : Fin N → EReal := fun j => x (ix2 r j)
/-- A two-dimensional array as a matrix. -/
abbrev matOf {M N : ℕ} (x : (⟨2, ![M, N]⟩ : Shape).Idx → EReal) : Fin M → Fin N → EReal := fun i j => x (ix2 i j)
/-- A vector as a row. -/
abbrev vecOf {N : ℕ} (x : (⟨1, ![N]⟩ : Shape).Idx → EReal) : Fin N → EReal := fun j => x (ix1 j)

/-- The residual after the attention output. -/
theorem resid_apply (r : Fin 32768) (j : Fin 1024) :
    val_main_v15 (F := Ideal) x0 x1 x2 x3 (ix2 r j) = resid (rowOf x0 r) (rowOf x1 r) (matOf x2) (vecOf x3) j := by
  unfold val_main_v15 val_main_v14 val_main_v13 val_main_v12 val_main_v11 val_main_v10 val_main_v9 val_main_v8 val_main_v7
    val_main_v6 val_main_v5 val_main_v4 val_main_v3 val_main_v2 val_main_v1 val_main_v0 val_main_cst val_main_cst_0 val_main_cst_1
  pointwise [dot_S32768x1024_S1024x1024_S32768x1024_1_0_0_1_n_n]
  rfl

/-- Its normalised row. -/
theorem norm_apply (r : Fin 32768) (j : Fin 1024) :
    val_main_v28 (F := Ideal) x0 x1 x2 x3 x4 (ix2 r j) = rms (resid (rowOf x0 r) (rowOf x1 r) (matOf x2) (vecOf x3)) (vecOf x4) j := by
  have e : resid (rowOf x0 r) (rowOf x1 r) (matOf x2) (vecOf x3) = fun j => val_main_v15 (F := Ideal) x0 x1 x2 x3 (ix2 r j) :=
    funext fun j => (resid_apply x0 x1 x2 x3 r j).symm
  rw [e]
  unfold val_main_v28 val_main_v27 val_main_v26 val_main_v25 val_main_v24 val_main_v23 val_main_v22 val_main_v21
    val_main_v20 val_main_v19 val_main_v18 val_main_v17 val_main_v16 val_main_cst_2 val_main_cst_3 val_main_cst_4
  generalize val_main_v15 (F := Ideal) x0 x1 x2 x3 = y
  pointwise
  rfl

/-- The feed-forward's row. -/
theorem ffn_apply (r : Fin 32768) (j : Fin 1024) :
    val_main_v32 (F := Ideal) x0 x1 x2 x3 x4 x5 x6 (ix2 r j)
      = ffn (rms (resid (rowOf x0 r) (rowOf x1 r) (matOf x2) (vecOf x3)) (vecOf x4)) (matOf x5) (matOf x6) j := by
  have e : rms (resid (rowOf x0 r) (rowOf x1 r) (matOf x2) (vecOf x3)) (vecOf x4) = fun j => val_main_v28 (F := Ideal) x0 x1 x2 x3 x4 (ix2 r j) :=
    funext fun j => (norm_apply x0 x1 x2 x3 x4 r j).symm
  rw [e]
  unfold val_main_v32 val_main_v31 val_main_v30 val_main_v29 val_main_call0_v0 val_main_call0_cst
  generalize val_main_v28 (F := Ideal) x0 x1 x2 x3 x4 = y
  pointwise [dot_S32768x1024_S1024x4096_S32768x4096_1_0_0_1_n_n, dot_S32768x4096_S4096x1024_S32768x1024_1_0_0_1_n_n]
  rfl

/-- The result's row. -/
theorem row_apply (r : Fin 32768) (j : Fin 1024) :
    val_main_v46 (F := Ideal) x0 x1 x2 x3 x4 x5 x6 x7 (ix2 r j)
      = row (rowOf x0 r) (rowOf x1 r) (matOf x2) (vecOf x3) (vecOf x4) (matOf x5) (matOf x6) (vecOf x7) j := by
  unfold row
  have e : ffn (rms (resid (rowOf x0 r) (rowOf x1 r) (matOf x2) (vecOf x3)) (vecOf x4)) (matOf x5) (matOf x6)
      = fun j => val_main_v32 (F := Ideal) x0 x1 x2 x3 x4 x5 x6 (ix2 r j) :=
    funext fun j => (ffn_apply x0 x1 x2 x3 x4 x5 x6 r j).symm
  rw [e, ← resid_apply]
  unfold val_main_v46 val_main_v45 val_main_v44 val_main_v43 val_main_v42 val_main_v41 val_main_v40 val_main_v39 val_main_v38
    val_main_v37 val_main_v36 val_main_v35 val_main_v34 val_main_v33 val_main_cst_5 val_main_cst_6 val_main_cst_7
  generalize val_main_v15 (F := Ideal) x0 x1 x2 x3 = y
  generalize val_main_v32 (F := Ideal) x0 x1 x2 x3 x4 x5 x6 = z
  pointwise
  rfl

end Cert.Mlp.Ref
-- ==== Proof.Mlp.Claims.lean ====
/-
  The claims about the output projection and feed-forward call: the frames of the program, of its reading over the
  extended reals and of the reference, and the value claim.
-/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Reference2Ideal.Run
public import proofs.«01_k».proof.Proof.Mlp.Array
public import proofs.«01_k».proof.Proof.Mlp.Ref
public import Idealize.ShloMosaic.Lib.Quiescent

@[expose] public section

noncomputable section

open Idealize.ShloMosaic Idealize.ShloMosaic.TcCoe Idealize.SL.Sem

namespace Cert.Mlp

/-- The program terminates with its arguments unchanged and nothing in flight. -/
theorem frame_p : Cert.quiescent_Kernel2 (hKernel2 := Cert.Kernel2.Gen.facts) := fun m ρ _ => Cert.Kernel2.Gen.frame m ρ

/-- The same over the extended reals. -/
theorem frame_pi : Cert.quiescent_Kernel2Ideal (hKernel2Ideal := Cert.Kernel2Ideal.Gen.facts) :=
  fun m ρ _ => Cert.Kernel2Ideal.Gen.frame m ρ

/-- The reference terminates with its arguments unchanged; it has no semaphore. -/
theorem frame_ri : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The value claim: on equal arguments the kernel's result is the reference's, element by element. -/
theorem value : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => result m c, ?_, ?_⟩
  · refine (θ_run Cert.Kernel2Ideal.defs _ _).mono (fun r h c => ⟨(h c).1.trans (final m c), (h c).2⟩)
      (Cert.Kernel2Ideal.Value.run_blocks (F := Ideal) m ρ)
  · refine (θ_run Cert.Reference2Ideal.defs _ _).mono (fun r h c => ⟨(h c).1.trans ?_, (h c).2⟩)
      (Cert.Reference2Ideal.Value.run (F := Ideal) m' ρ')
    obtain ⟨a0, a1, a2, a3, a4, a5, a6, a7⟩ := hagree c
    rw [Cert.Reference2Ideal.Read.val_main_v46_eq, a0, a1, a2, a3, a4, a5, a6, a7]
    funext i
    have hi : (i : Cert.Reference2Ideal.S32768x1024.Idx) = ix2 (i 0 : Fin 32768) (i 1 : Fin 1024) := funext fun a => by
      match a with
      | ⟨0, _⟩ => rfl
      | ⟨1, _⟩ => rfl
    exact (congrArg _ hi).trans (Ref.row_apply _ _ _ _ _ _ _ _ (i 0) (i 1))

end Cert.Mlp

end
-- ==== Proof.Rope.Turn.lean ====
/-
  The mathematics of one token's row in the projection of layer 1, over the extended reals: the rotation of a head of 64
  lanes by 32 angles, and that the sum of three products over 128 lanes that the kernel forms is the rotation of the two
  heads there.
-/
module

public import proofs.«01_k».proof.Proof.Mlp.Rows
public import Idealize.ShloMosaic.Lib.Pointwise

@[expose] public section

noncomputable section

open Idealize.ShloMosaic

namespace Cert.Rope

/-- Row `r` of a two-dimensional array. -/
abbrev rowOf {M N : ℕ} (x : (⟨2, ![M, N]⟩ : Shape).Idx → EReal) (r : Fin M) : Fin N → EReal := fun j => x (ix2 r j)
/-- A two-dimensional array as a matrix. -/
abbrev matOf {M N : ℕ} (x : (⟨2, ![M, N]⟩ : Shape).Idx → EReal) : Fin M → Fin N → EReal := fun i j => x (ix2 i j)
/-- A vector as a row. -/
abbrev vecOf {N : ℕ} (x : (⟨1, ![N]⟩ : Shape).Idx → EReal) : Fin N → EReal := fun j => x (ix1 j)

/-- The rotary frequency of lane `k` of 32: one over 10000 to the power 2k / 64, of the words the programs compute it from. -/
def freq (k : Fin 32) : EReal :=
  Ideal.div (Ideal.ofBits .f32 0x3F800000#32) (Ideal.pow (Ideal.ofBits .f32 0x461C4000#32)
    (Ideal.div (Ideal.ofBits .f32 0x00000000#32 + Ideal.ofBits .f32 0x40000000#32 * (((BitVec.ofNat 32 k.val).toInt : ℝ) : EReal))
      (Ideal.ofBits .f32 0x42800000#32)))

/-- The angle of lane `k` at a position. -/
def ang (p : BitVec 32) (k : Fin 32) : EReal := ((p.toInt : ℝ) : EReal) * freq k

/-- The rotation of a head: lane `l` of the first half is paired with lane `l + 32`, both turned by angle `l`. -/
def turn (x : Fin 64 → EReal) (a : Fin 32 → EReal) (l : Fin 64) : EReal :=
  if h : l.val < 32 then x l * Ideal.cos (a ⟨l.val, h⟩) - x ⟨l.val + 32, by omega⟩ * Ideal.sin (a ⟨l.val, h⟩)
  else x l * Ideal.cos (a ⟨l.val - 32, by omega⟩) + x ⟨l.val - 32, by omega⟩ * Ideal.sin (a ⟨l.val - 32, by omega⟩)

/-- Column `n` of the projection. -/
def col (n : ℕ) : Fin 1280 := Fin.ofNat 1280 n

/-- The word of the scale 64^(-1/2) / log 2. -/
def scale : EReal := Ideal.ofBits .f32 0x3E38AA3B#32

/-- The queries' row: 16 heads, turned and scaled. -/
def qRow (p : Fin 1280 → EReal) (a : Fin 32 → EReal) (j : Fin 1024) : EReal :=
  turn (fun l => p (col (64 * (j.val / 64) + l.val))) a ⟨j.val % 64, by omega⟩ * scale

/-- The keys' row: 2 heads, turned, each given twice. -/
def kRow (p : Fin 1280 → EReal) (a : Fin 32 → EReal) (j : Fin 256) : EReal :=
  turn (fun l => p (col (1024 + 64 * (j.val / 128) + l.val))) a ⟨j.val % 64, by omega⟩

/-- The values' row: 2 heads, each given twice. -/
def vRow (p : Fin 1280 → EReal) (j : Fin 256) : EReal := p (col (1152 + 64 * (j.val / 128) + j.val % 64))

/-- The three products over 128 lanes: the lane itself, the lane 32 above with the sign -1 in a head's first half and 0 in
    its second, and the lane 32 below with 0 and 1. They are the rotation of the head that the lane lies in. -/
theorem three (t f lo hi : Fin 128 → EReal) (a : Fin 32 → EReal) (hf : ∀ l, f l = a ⟨l.val % 32, by omega⟩)
    (hlo : ∀ l : Fin 128, lo l = if l.val % 64 < 32 then -1 else 0) (hhi : ∀ l : Fin 128, hi l = if l.val % 64 < 32 then 0 else 1)
    (l up dn : Fin 128) (hup : up.val = (l.val + 32) % 128) (hdn : dn.val = (l.val + 96) % 128) :
    t l * Ideal.cos (f l) + t up * (Ideal.sin (f l) * lo l) + t dn * (Ideal.sin (f l) * hi l)
      = turn (fun k => t ⟨64 * (l.val / 64) + k.val, by omega⟩) a ⟨l.val % 64, by omega⟩ := by
  have hl : (⟨64 * (l.val / 64) + l.val % 64, by omega⟩ : Fin 128) = l := Fin.ext (by show 64 * (l.val / 64) + l.val % 64 = l.val; omega)
  rw [hf, hlo, hhi]
  unfold turn
  by_cases h : l.val % 64 < 32
  · rw [if_pos h, if_pos h, dif_pos h]
    have ha : (⟨l.val % 32, by omega⟩ : Fin 32) = ⟨l.val % 64, h⟩ := Fin.ext (by show l.val % 32 = l.val % 64; omega)
    have hu : (⟨64 * (l.val / 64) + (l.val % 64 + 32), by omega⟩ : Fin 128) = up :=
      Fin.ext (by show 64 * (l.val / 64) + (l.val % 64 + 32) = up.val; omega)
    dsimp only
    rw [hl, hu, ha, mul_zero, mul_zero, add_zero, mul_neg, mul_one, mul_neg, sub_eq_add_neg]
  · rw [if_neg h, if_neg h, dif_neg h]
    have ha : (⟨l.val % 32, by omega⟩ : Fin 32) = ⟨l.val % 64 - 32, by omega⟩ := Fin.ext (by show l.val % 32 = l.val % 64 - 32; omega)
    have hd : (⟨64 * (l.val / 64) + (l.val % 64 - 32), by omega⟩ : Fin 128) = dn :=
      Fin.ext (by show 64 * (l.val / 64) + (l.val % 64 - 32) = dn.val; omega)
    dsimp only
    rw [hl, hd, ha, mul_zero, mul_zero, add_zero, mul_one]

end Cert.Rope
-- ==== Proof.Rope.Payload.lean ====
/-
  What the kernel's body computes from one block of 512 rows, read at a row and a column of each chunk of 128 columns.
-/
module

public import proofs.«01_k».proof.Proof.Gen.Kernel3Ideal.Skeleton
public import proofs.«01_k».proof.Proof.Rope.Turn
public import Idealize.ShloMosaic.Lib.Pipeline.Value

@[expose] public section

noncomputable section

open Idealize.ShloMosaic

namespace Cert.Rope

open Cert.Kernel3Ideal Cert.Kernel3Ideal.Gen

/-- The three products of a chunk of 128 columns with the cosines and the signed sines. -/
def chunk (cs sl sh t : FVec Ideal S512x128 .f32) : FVec Ideal S512x128 .f32 :=
  addf (addf (mulf t cs) (mulf (dynamicRotate 1 96#32 none t rotates_S512x128_d1) sl))
    (mulf (dynamicRotate 1 32#32 none t rotates_S512x128_d1) sh)

/-- The chunk times the scale. -/
def scaled (cs sl sh t : FVec Ideal S512x128 .f32) : FVec Ideal S512x128 .bf16 :=
  truncf .bf16 (mulf (chunk cs sl sh t) (broadcast S512x128 (Scalar.ofBits .f32 0x3E38AA3B#32))) bitsLt_bf16_f32

/-- The chunk as stored, without a scale. -/
def plain (cs sl sh t : FVec Ideal S512x128 .f32) : FVec Ideal S512x128 .bf16 := truncf .bf16 (chunk cs sl sh t) bitsLt_bf16_f32

theorem chunk_apply (cs sl sh t : FVec Ideal S512x128 .f32) (r : Fin 512) (l up dn : Fin 128)
    (hup : up.val = (l.val + 32) % 128) (hdn : dn.val = (l.val + 96) % 128) :
    chunk cs sl sh t (ix2 r l) = t (ix2 r l) * cs (ix2 r l) + t (ix2 r up) * sl (ix2 r l) + t (ix2 r dn) * sh (ix2 r l) := by
  have e1 : dynamicRotate 1 96#32 none t rotates_S512x128_d1 (ix2 r l) = t (ix2 r up) := by
    rw [Pointwise.dynamicRotate_apply]
    refine congrArg t (funext fun a => Fin.ext ?_)
    match a with
    | ⟨0, _⟩ => rfl
    | ⟨1, _⟩ => show (l.val + 128 - (96 + 0) % 128) % 128 = up.val; omega
  have e2 : dynamicRotate 1 32#32 none t rotates_S512x128_d1 (ix2 r l) = t (ix2 r dn) := by
    rw [Pointwise.dynamicRotate_apply]
    refine congrArg t (funext fun a => Fin.ext ?_)
    match a with
    | ⟨0, _⟩ => rfl
    | ⟨1, _⟩ => show (l.val + 128 - (32 + 0) % 128) % 128 = dn.val; omega
  rw [← e1, ← e2]
  rfl

/-- The chunk is the rotation of the heads in it. -/
theorem chunk_turn (cs sl sh t : FVec Ideal S512x128 .f32) (a : Fin 32 → EReal) (r : Fin 512)
    (hc : ∀ l : Fin 128, cs (ix2 r l) = Ideal.cos (a ⟨l.val % 32, by omega⟩))
    (hl : ∀ l : Fin 128, sl (ix2 r l) = Ideal.sin (a ⟨l.val % 32, by omega⟩) * (if l.val % 64 < 32 then -1 else 0))
    (hh : ∀ l : Fin 128, sh (ix2 r l) = Ideal.sin (a ⟨l.val % 32, by omega⟩) * (if l.val % 64 < 32 then 0 else 1)) (l : Fin 128) :
    chunk cs sl sh t (ix2 r l) = turn (fun k => t (ix2 r ⟨64 * (l.val / 64) + k.val, by omega⟩)) a ⟨l.val % 64, by omega⟩ := by
  rw [chunk_apply cs sl sh t r l ⟨(l.val + 32) % 128, by omega⟩ ⟨(l.val + 96) % 128, by omega⟩ rfl rfl, hc, hl, hh]
  exact three (fun l => t (ix2 r l)) (fun l => a ⟨l.val % 32, by omega⟩) (fun l => if l.val % 64 < 32 then -1 else 0)
    (fun l => if l.val % 64 < 32 then 0 else 1) a (fun _ => rfl) (fun _ => rfl) (fun _ => rfl) l _ _ rfl rfl

section
variable (x : Vec Ideal S512x1024 .f32) (g : Vec Ideal S1x1024 .f32) (pos : Vec Ideal S512x1 .i32) (fr sg : Vec Ideal S1x128 .f32)

/-- The normalised row. -/
theorem pay_norm (r : Fin 512) (j : Fin 1024) : k0_pay1 x g (ix2 r j) = Mlp.rms (rowOf x r) (rowOf g 0) j := by
  unfold k0_pay1
  pointwise
  rfl

/-- The query product. -/
theorem pay_q (w : Vec Ideal S1024x1024 .bf16) (r : Fin 512) (j : Fin 1024) :
    k0_pay7 x g w (ix2 r j) = Mlp.lin (Mlp.rms (rowOf x r) (rowOf g 0)) (matOf w) j := by
  have e : Mlp.rms (rowOf x r) (rowOf g 0) = fun j => k0_pay1 x g (ix2 r j) := funext fun j => (pay_norm x g r j).symm
  rw [e]
  unfold k0_pay7
  generalize k0_pay1 x g = y
  pointwise [dot_S512x1024_S1024x1024_S512x1024_1_0_0_1_n_n]
  rfl

/-- The key product. -/
theorem pay_k (w : Vec Ideal S1024x256 .bf16) (r : Fin 512) (j : Fin 256) :
    k0_pay20 (k0_pay1 x g) w (ix2 r j) = Mlp.lin (Mlp.rms (rowOf x r) (rowOf g 0)) (matOf w) j := by
  have e : Mlp.rms (rowOf x r) (rowOf g 0) = fun j => k0_pay1 x g (ix2 r j) := funext fun j => (pay_norm x g r j).symm
  rw [e]
  unfold k0_pay20
  generalize k0_pay1 x g = y
  pointwise [dot_S512x1024_S1024x256_S512x256_1_0_0_1_n_n]
  rfl

/-- The value product, as stored. -/
theorem pay_v (w : Vec Ideal S1024x256 .bf16) (r : Fin 512) (j : Fin 256) :
    k0_pay23 (k0_pay1 x g) w (ix2 r j) = Mlp.lin (Mlp.rms (rowOf x r) (rowOf g 0)) (matOf w) j := by
  rw [← pay_k]
  rfl

/-- The angle of a lane. -/
theorem pay_angle (r : Fin 512) (l : Fin 128) :
    k0_pay2 pos fr (ix2 r l) = (((pos (ix2 r 0) : BitVec 32).toInt : ℝ) : EReal) * fr (ix2 0 l) := by
  unfold k0_pay2
  pointwise
  rfl

theorem pay_cos (r : Fin 512) (l : Fin 128) : k0_pay3 pos fr (ix2 r l) = Ideal.cos (k0_pay2 pos fr (ix2 r l)) := rfl

theorem pay_sl (r : Fin 512) (l : Fin 128) : k0_pay5 pos fr sg (ix2 r l) = Ideal.sin (k0_pay2 pos fr (ix2 r l)) * sg (ix2 0 l) := by
  unfold k0_pay5 k0_pay4
  generalize k0_pay2 pos fr = y
  pointwise

theorem pay_sh (r : Fin 512) (l : Fin 128) : k0_pay6 pos fr sg (ix2 r l) = Ideal.sin (k0_pay2 pos fr (ix2 r l)) * sg (ix2 0 l) := pay_sl pos fr sg r l

end

section
variable (cs sl sh : FVec Ideal S512x128 .f32) (Q : FVec Ideal S512x1024 .f32)

theorem pay11_eq : k0_pay11 cs sl sh Q = scaled cs sl sh (extractStridedSlice S512x128 ![0, 128] Q slices_S512x1024_o0_128_S512x128) := rfl
theorem pay12_eq : k0_pay12 cs sl sh Q = scaled cs sl sh (extractStridedSlice S512x128 ![0, 256] Q slices_S512x1024_o0_256_S512x128) := rfl
theorem pay14_eq : k0_pay14 (k0_pay13 cs sl sh Q) = scaled cs sl sh (extractStridedSlice S512x128 ![0, 384] Q slices_S512x1024_o0_384_S512x128) := rfl
theorem pay15_eq : k0_pay15 cs sl sh Q = scaled cs sl sh (extractStridedSlice S512x128 ![0, 512] Q slices_S512x1024_o0_512_S512x128) := rfl
theorem pay16_eq : k0_pay16 cs sl sh Q = scaled cs sl sh (extractStridedSlice S512x128 ![0, 640] Q slices_S512x1024_o0_640_S512x128) := rfl
theorem pay17_eq : k0_pay17 cs sl sh Q = scaled cs sl sh (extractStridedSlice S512x128 ![0, 768] Q slices_S512x1024_o0_768_S512x128) := rfl
theorem pay19_eq : k0_pay19 cs sl sh (k0_pay18 Q) = scaled cs sl sh (extractStridedSlice S512x128 ![0, 896] Q slices_S512x1024_o0_896_S512x128) := rfl
theorem pay10_eq (x : Vec Ideal S512x1024 .f32) (g : Vec Ideal S1x1024 .f32) (pos : Vec Ideal S512x1 .i32) (fr lo : Vec Ideal S1x128 .f32)
    (w : Vec Ideal S1024x1024 .bf16) :
    k0_pay10 sh (k0_pay8 x g w) (k0_pay9 x g pos fr lo w) 32#32
      = scaled (k0_pay3 pos fr) (k0_pay5 pos fr lo) sh (extractStridedSlice S512x128 ![0, 0] (k0_pay7 x g w) slices_S512x1024_o0_0_S512x128) := rfl
theorem pay21_eq (h : FVec Ideal S512x1024 .bf16) (w : Vec Ideal S1024x256 .bf16) :
    k0_pay21 h cs sl sh w = plain cs sl sh (extractStridedSlice S512x128 ![0, 0] (k0_pay20 h w) slices_S512x256_o0_0_S512x128) := rfl
theorem pay22_eq (h : FVec Ideal S512x1024 .bf16) (w : Vec Ideal S1024x256 .bf16) :
    k0_pay22 h cs sl sh w = plain cs sl sh (extractStridedSlice S512x128 ![0, 128] (k0_pay20 h w) slices_S512x256_o0_128_S512x128) := rfl
end

end Cert.Rope
-- ==== Proof.Rope.Block.lean ====
/-
  What the kernel's body leaves in its three output blocks of 512 rows: the queries in eight stores of 128 columns, the
  keys in two, the values in one. Row `r` holds `qRow`, `kRow` and `vRow` of the projection of the input block's row `r`.
-/
module

public import proofs.«01_k».proof.Proof.Gen.Kernel3Ideal.Value
public import proofs.«01_k».proof.Proof.Rope.Payload
public import Idealize.ShloMosaic.Lib.Pipeline.ValueKit.Tiles

@[expose] public section

set_option backward.proofsInPublic true

noncomputable section

open Idealize.ShloMosaic Idealize.ShloMosaic.TcCoe Idealize.SL.Sem

namespace Cert.Rope

open Cert.Kernel3Ideal Cert.Kernel3Ideal.Gen

theorem hz : (![0, 0] : Fin 2 → Nat) = fun _ => 0 := funext fun a => by fin_cases a <;> rfl

/-- Stores of 128 columns each, the latest rightmost: where the latest store holds `f` at its columns and the earlier
    ones hold it at the columns left of it, all hold it. -/
theorem step {N : ℕ} (a : ℕ) (inb : ∀ i, (![0, a] : Fin 2 → ℕ) i + S512x128.size i ≤ (⟨2, ![512, N]⟩ : Shape).size i)
    (p : FVec Ideal S512x128 .bf16) (rest : List (View.Piece (Elt Ideal) ⟨2, ![512, N]⟩ .bf16)) (r : Fin 512) (j : Fin N) (v : EReal)
    (hj : j.val < a + 128) (hp : ∀ l : Fin 128, j.val = a + l.val → p (ix2 r l) = v) (hrest : j.val < a → View.canon rest (ix2 r j) = v) :
    View.canon (⟨Rect.unit (s := ⟨2, ![512, N]⟩) ![0, a] S512x128.size inb, p⟩ :: rest) (ix2 r j) = v := by
  by_cases h : j.val < a
  · rw [View.canon_cons_of_not_mem _ _ (by
      rw [Rect.mem_set_unit]
      intro hm
      have := (hm 1).1
      change a ≤ j.val at this
      omega)]
    exact hrest h
  · have e : (ix2 r j : (⟨2, ![512, N]⟩ : Shape).Idx)
        = (Rect.unit (s := ⟨2, ![512, N]⟩) ![0, a] S512x128.size inb).emb (ix2 r (⟨j.val - a, by omega⟩ : Fin 128)) :=
      funext fun b => Fin.ext (by
        match b with
        | ⟨0, _⟩ => show r.val = 0 + 1 * r.val; omega
        | ⟨1, _⟩ => show j.val = a + 1 * (j.val - a); omega)
    rw [e, View.canon_cons_emb]
    exact hp _ (by show j.val = a + (j.val - a); omega)

section
variable (x0 : Vec Ideal S512x1024 .f32) (x1 : Vec Ideal S512x1 .i32) (x2 : Vec Ideal S1x1024 .f32) (x3 : Vec Ideal S1024x1024 .bf16)
  (x4 x5 : Vec Ideal S1024x256 .bf16) (x6 x7 x8 : Vec Ideal S1x128 .f32) (p : Fin 1280 → EReal) (r : Fin 512)
  (h6 : ∀ l : Fin 128, x6 (ix2 0 l) = freq ⟨l.val % 32, by omega⟩)
  (h7 : ∀ l : Fin 128, x7 (ix2 0 l) = if l.val % 64 < 32 then -1 else 0)
  (h8 : ∀ l : Fin 128, x8 (ix2 0 l) = if l.val % 64 < 32 then 0 else 1)

include h6 h7 h8 in
/-- A chunk of the block's cosines and signed sines with any columns `t`. -/
theorem chunk_block (t : FVec Ideal S512x128 .f32) (l : Fin 128) :
    chunk (k0_pay3 x1 x6) (k0_pay5 x1 x6 x7) (k0_pay6 x1 x6 x8) t (ix2 r l)
      = turn (fun k => t (ix2 r ⟨64 * (l.val / 64) + k.val, by omega⟩)) (ang (x1 (ix2 r 0))) ⟨l.val % 64, by omega⟩ := by
  have ha : ∀ l : Fin 128, k0_pay2 x1 x6 (ix2 r l) = ang (x1 (ix2 r 0)) ⟨l.val % 32, by omega⟩ := fun l => by
    rw [pay_angle, h6]; rfl
  refine chunk_turn _ _ _ t (ang (x1 (ix2 r 0))) r (fun l => ?_) (fun l => ?_) (fun l => ?_) l
  · rw [pay_cos, ha]
  · rw [pay_sl, ha, h7]
  · rw [pay_sh, ha, h8]

include h6 h7 h8 in
/-- The chunk of the queries that starts at column `a`. -/
theorem q_chunk (hp : ∀ j : Fin 1024, Mlp.lin (Mlp.rms (rowOf x0 r) (rowOf x2 0)) (matOf x3) j = p (col j.val)) (a : ℕ)
    (ha : a % 128 = 0) (hs : S512x1024.Slices ![0, a] S512x128) (j : Fin 1024) (l : Fin 128) (hj : j.val = a + l.val) :
    scaled (k0_pay3 x1 x6) (k0_pay5 x1 x6 x7) (k0_pay6 x1 x6 x8) (extractStridedSlice S512x128 ![0, a] (k0_pay7 x0 x2 x3) hs) (ix2 r l)
      = qRow p (ang (x1 (ix2 r 0))) j := by
  show chunk _ _ _ _ (ix2 r l) * scale = _
  rw [chunk_block x1 x6 x7 x8 r h6 h7 h8]
  unfold qRow
  have e : (fun k : Fin 64 => extractStridedSlice S512x128 ![0, a] (k0_pay7 x0 x2 x3) hs (ix2 r ⟨64 * (l.val / 64) + k.val, by omega⟩))
      = fun k => p (col (64 * (j.val / 64) + k.val)) := funext fun k => by
    rw [extractStridedSlice_apply _ _ hs _ (ix2 r ⟨64 * (j.val / 64) + k.val, by omega⟩) (fun b => by
      match b with
      | ⟨0, _⟩ => show r.val = 0 + r.val; omega
      | ⟨1, _⟩ => show 64 * (j.val / 64) + k.val = a + (64 * (l.val / 64) + k.val); omega), pay_q, hp]
  have e2 : (⟨l.val % 64, by omega⟩ : Fin 64) = ⟨j.val % 64, by omega⟩ := Fin.ext (by show l.val % 64 = j.val % 64; omega)
  rw [e, e2]

include h6 h7 h8 in
/-- The queries' block. -/
theorem out_q (hp : ∀ j : Fin 1024, Mlp.lin (Mlp.rms (rowOf x0 r) (rowOf x2 0)) (matOf x3) j = p (col j.val)) (j : Fin 1024) :
    out0_9 x0 x1 x2 x3 x4 x5 x6 x7 x8 (ix2 r j) = qRow p (ang (x1 (ix2 r 0))) j := by
  unfold out0_9 k0_pay28 k0_pay27 k0_pay26 k0_pay25
  simp only [View.ld_unit_zero (S := S512x1024) hz, View.ld_unit_zero (S := S512x1) hz, View.ld_unit_zero (S := S1x1024) hz,
    View.ld_unit_zero (S := S1024x1024) hz, View.ld_unit_zero (S := S1x128) hz]
  rw [pay10_eq, pay11_eq, pay12_eq, pay14_eq, pay15_eq, pay16_eq, pay17_eq, pay19_eq]
  have key := q_chunk x0 x1 x2 x3 x6 x7 x8 p r h6 h7 h8 hp
  have hj := j.isLt
  refine step 896 _ _ _ r j _ (by omega) (fun l hl => key 896 rfl _ j l hl) fun h => ?_
  refine step 768 _ _ _ r j _ (by omega) (fun l hl => key 768 rfl _ j l hl) fun h => ?_
  refine step 640 _ _ _ r j _ (by omega) (fun l hl => key 640 rfl _ j l hl) fun h => ?_
  refine step 512 _ _ _ r j _ (by omega) (fun l hl => key 512 rfl _ j l hl) fun h => ?_
  refine step 384 _ _ _ r j _ (by omega) (fun l hl => key 384 rfl _ j l hl) fun h => ?_
  refine step 256 _ _ _ r j _ (by omega) (fun l hl => key 256 rfl _ j l hl) fun h => ?_
  refine step 128 _ _ _ r j _ (by omega) (fun l hl => key 128 rfl _ j l hl) fun h => ?_
  refine step 0 _ _ _ r j _ (by omega) (fun l hl => key 0 rfl _ j l hl) fun h => ?_
  omega

include h6 h7 h8 in
/-- The chunk of the keys that starts at column `a`. -/
theorem k_chunk (hp : ∀ j : Fin 256, Mlp.lin (Mlp.rms (rowOf x0 r) (rowOf x2 0)) (matOf x4) j = p (col (1024 + 64 * (j.val / 128) + j.val % 64)))
    (a : ℕ) (ha : a % 128 = 0) (hs : S512x256.Slices ![0, a] S512x128) (j : Fin 256) (l : Fin 128) (hj : j.val = a + l.val) :
    plain (k0_pay3 x1 x6) (k0_pay5 x1 x6 x7) (k0_pay6 x1 x6 x8)
        (extractStridedSlice S512x128 ![0, a] (k0_pay20 (k0_pay1 x0 x2) x4) hs) (ix2 r l)
      = kRow p (ang (x1 (ix2 r 0))) j := by
  show chunk _ _ _ _ (ix2 r l) = _
  rw [chunk_block x1 x6 x7 x8 r h6 h7 h8]
  unfold kRow
  have e : (fun k : Fin 64 => extractStridedSlice S512x128 ![0, a] (k0_pay20 (k0_pay1 x0 x2) x4) hs (ix2 r ⟨64 * (l.val / 64) + k.val, by omega⟩))
      = fun k => p (col (1024 + 64 * (j.val / 128) + k.val)) := funext fun k => by
    rw [extractStridedSlice_apply _ _ hs _ (ix2 r ⟨64 * (j.val / 64) + k.val, by omega⟩) (fun b => by
      match b with
      | ⟨0, _⟩ => show r.val = 0 + r.val; omega
      | ⟨1, _⟩ => show 64 * (j.val / 64) + k.val = a + (64 * (l.val / 64) + k.val); omega), pay_k, hp]
    show p (col (1024 + 64 * ((64 * (j.val / 64) + k.val) / 128) + (64 * (j.val / 64) + k.val) % 64)) = _
    rw [show 1024 + 64 * ((64 * (j.val / 64) + k.val) / 128) + (64 * (j.val / 64) + k.val) % 64 = 1024 + 64 * (j.val / 128) + k.val by omega]
  have e2 : (⟨l.val % 64, by omega⟩ : Fin 64) = ⟨j.val % 64, by omega⟩ := Fin.ext (by show l.val % 64 = j.val % 64; omega)
  rw [e, e2]

include h6 h7 h8 in
/-- The keys' block. -/
theorem out_k (hp : ∀ j : Fin 256, Mlp.lin (Mlp.rms (rowOf x0 r) (rowOf x2 0)) (matOf x4) j = p (col (1024 + 64 * (j.val / 128) + j.val % 64)))
    (j : Fin 256) : out0_10 x0 x1 x2 x3 x4 x5 x6 x7 x8 (ix2 r j) = kRow p (ang (x1 (ix2 r 0))) j := by
  unfold out0_10 k0_pay27 k0_pay26 k0_pay25 k0_pay24
  simp only [View.ld_unit_zero (S := S512x1024) hz, View.ld_unit_zero (S := S512x1) hz, View.ld_unit_zero (S := S1x1024) hz,
    View.ld_unit_zero (S := S1024x256) hz, View.ld_unit_zero (S := S1x128) hz]
  rw [pay21_eq, pay22_eq]
  have key := k_chunk x0 x1 x2 x4 x6 x7 x8 p r h6 h7 h8 hp
  have hj := j.isLt
  refine step 128 _ _ _ r j _ (by omega) (fun l hl => key 128 rfl _ j l hl) fun h => ?_
  refine step 0 _ _ _ r j _ (by omega) (fun l hl => key 0 rfl _ j l hl) fun h => ?_
  omega

/-- The values' block. -/
theorem out_v (hp : ∀ j : Fin 256, Mlp.lin (Mlp.rms (rowOf x0 r) (rowOf x2 0)) (matOf x5) j = p (col (1152 + 64 * (j.val / 128) + j.val % 64)))
    (j : Fin 256) : out0_11 x0 x1 x2 x3 x4 x5 x6 x7 x8 (ix2 r j) = vRow p j := by
  unfold out0_11 k0_pay24
  simp only [View.ld_unit_zero (S := S512x1024) hz, View.ld_unit_zero (S := S1x1024) hz, View.ld_unit_zero (S := S1024x256) hz]
  rw [View.canon_cons_unit_zero (S := S512x256) hz, pay_v, hp]
  rfl

end

end Cert.Rope
-- ==== Proof.Rope.Host.lean ====
/-
  The arrays that the call forms before its grid runs: the gain row, the three column ranges of the projection's matrix
  (the keys' and the values' heads given twice), the frequencies four times over, and the two rows of signs.
-/
module

public import proofs.«01_k».proof.Proof.Rope.Block
public import Idealize.ShloMosaic.Lib.StableHlo.Run

@[expose] public section

noncomputable section

open Idealize.ShloMosaic Idealize.ShloMosaic.TcCoe Idealize.SL.Sem

namespace Cert.Rope

open Cert.Kernel3Ideal Cert.Kernel3Ideal.Gen

/-! ## The expressions, read at an index -/

theorem ofBits_neg_one : Ideal.ofBits .f32 0xBF800000#32 = -1 := by
  rw [show (-1 : EReal) = ((-(1 : ℝ) : ℝ) : EReal) by rw [EReal.coe_neg, EReal.coe_one]]
  simp [Ideal.ofBits, Ideal.ieee, -EReal.coe_mul, -EReal.coe_neg]; norm_num

theorem lit_lo : ∀ l : Fin 128, lit0 l = if l.val % 64 < 32 then 0xBF800000#32 else 0#32 := by decide +kernel
theorem lit_hi : ∀ l : Fin 128, lit1 l = if l.val % 64 < 32 then 0#32 else 0x3F800000#32 := by decide +kernel

theorem rowMajor_lane (l : Fin 128) : S128.rowMajor (ix1 l) = l := Fin.ext (Shape.rowMajor_val_one (ix1 l))

/-- A vector of 128 as one row. -/
theorem lane_apply (x : S128.Idx → EReal) (l : Fin 128) : broadcastInDim S1x128 ![1] bcast_S128_S1x128_1 x (ix2 0 l) = x (ix1 l) :=
  broadcastInDim_apply _ _ x _ (ix1 l) fun a => by
    match a with
    | ⟨0, _⟩ => show l.val = if (128 : Nat) = 1 then 0 else l.val; rw [if_neg (by decide)]

/-- The 32 frequencies four times over, as one row. -/
theorem four_apply (x : S32.Idx → EReal) (l : Fin 128) :
    broadcastInDim S1x128 ![1] bcast_S128_S1x128_1
      (shapeCast S128 (broadcastInDim S4x32 ![0, 1] bcast_S1x32_S4x32_0_1 (shapeCast S1x32 x shapeCasts_S32_S1x32)) shapeCasts_S4x32_S128) (ix2 0 l)
      = x (ix1 ⟨l.val % 32, by omega⟩) := by
  rw [lane_apply]
  pointwise

/-- A gain vector as one row. -/
theorem gain_apply (g : S1024.Idx → EReal) (j : Fin 1024) : broadcastInDim S1x1024 ![1] bcast_S1024_S1x1024_1 g (ix2 0 j) = g (ix1 j) :=
  broadcastInDim_apply _ _ g _ (ix1 j) fun a => by
    match a with
    | ⟨0, _⟩ => show j.val = if (1024 : Nat) = 1 then 0 else j.val; rw [if_neg (by decide)]

theorem col_eq (n : ℕ) (h : n < 1280) (k : ℕ) (e : k = n) : (⟨n, h⟩ : Fin 1280) = col k := Fin.ext (by show n = k % 1280; omega)

/-- The queries' columns. -/
theorem cols_q (w : S1024x1280.Idx → EReal) (k j : Fin 1024) :
    extractStridedSlice S1024x1024 ![0, 0] w slices_S1024x1280_S1024x1024_0_0 (ix2 k j) = w (ix2 k (col j.val)) := by
  rw [← col_eq j.val (by omega) j.val rfl]
  exact extractStridedSlice_apply _ _ _ _ _ fun b => by
    match b with
    | ⟨0, _⟩ => show k.val = 0 + k.val; omega
    | ⟨1, _⟩ => show j.val = 0 + j.val; omega

/-- Two heads of 64 columns, each given twice. -/
theorem twice_apply (x : S1024x128.Idx → EReal) (k : Fin 1024) (j : Fin 256) :
    shapeCast S1024x256 (broadcastInDim S1024x2x2x64 ![0, 1, 2, 3] bcast_S1024x2x1x64_S1024x2x2x64_0_1_2_3
      (shapeCast S1024x2x1x64 x shapeCasts_S1024x128_S1024x2x1x64)) shapeCasts_S1024x2x2x64_S1024x256 (ix2 k j)
      = x (ix2 k ⟨64 * (j.val / 128) + j.val % 64, by omega⟩) := by
  rw [show (⟨64 * (j.val / 128) + j.val % 64, by omega⟩ : Fin 128) = ⟨j.val / 128 * 64 + j.val % 64, by omega⟩ from
    Fin.ext (by show 64 * (j.val / 128) + j.val % 64 = j.val / 128 * 64 + j.val % 64; omega)]
  pointwise

theorem cols_k (w : S1024x1280.Idx → EReal) (k : Fin 1024) (j : Fin 128) :
    extractStridedSlice S1024x128 ![0, 1024] w slices_S1024x1280_S1024x128_0_1024 (ix2 k j) = w (ix2 k (col (1024 + j.val))) := by
  rw [← col_eq (1024 + j.val) (by omega) (1024 + j.val) rfl]
  exact extractStridedSlice_apply _ _ _ _ _ fun b => by
    match b with
    | ⟨0, _⟩ => show k.val = 0 + k.val; omega
    | ⟨1, _⟩ => show 1024 + j.val = 1024 + j.val; rfl

theorem cols_v (w : S1024x1280.Idx → EReal) (k : Fin 1024) (j : Fin 128) :
    extractStridedSlice S1024x128 ![0, 1152] w slices_S1024x1280_S1024x128_0_1152 (ix2 k j) = w (ix2 k (col (1152 + j.val))) := by
  rw [← col_eq (1152 + j.val) (by omega) (1152 + j.val) rfl]
  exact extractStridedSlice_apply _ _ _ _ _ fun b => by
    match b with
    | ⟨0, _⟩ => show k.val = 0 + k.val; omega
    | ⟨1, _⟩ => show 1152 + j.val = 1152 + j.val; rfl

/-! ## The arrays the region finds -/

variable (m : (ℓ : Loc nD τ sig) → Buf (Elt Ideal) ℓ) (c : Dev nD)

/-- The signs of the lane above: -1 in a head's first half, 0 in its second. -/
theorem V_lo (l : Fin 128) : (V m c main_v0 : S1x128.Idx → EReal) (ix2 0 l) = (if l.val % 64 < 32 then -1 else 0 : EReal) := by
  have e : (V m c main_v0 : S1x128.Idx → EReal)
      = broadcastInDim S1x128 ![1] bcast_S128_S1x128_1 (fun i => Ideal.ofBits .f32 (lit0 (S128.rowMajor i))) := by
    unfold V; after_results_simp; rfl
  rw [e, lane_apply, rowMajor_lane, lit_lo]
  split
  · exact ofBits_neg_one
  · exact Ideal.ofBits_zero_f32

/-- The signs of the lane below: 0 in a head's first half, 1 in its second. -/
theorem V_hi (l : Fin 128) : (V m c main_v1 : S1x128.Idx → EReal) (ix2 0 l) = (if l.val % 64 < 32 then 0 else 1 : EReal) := by
  have e : (V m c main_v1 : S1x128.Idx → EReal)
      = broadcastInDim S1x128 ![1] bcast_S128_S1x128_1 (fun i => Ideal.ofBits .f32 (lit1 (S128.rowMajor i))) := by
    unfold V; after_results_simp; rfl
  rw [e, lane_apply, rowMajor_lane, lit_hi]
  split
  · exact Ideal.ofBits_zero_f32
  · exact Ideal.ofBits_one_f32

/-- The frequencies. -/
theorem V_freq (l : Fin 128) : (V m c main_v19 : S1x128.Idx → EReal) (ix2 0 l) = freq ⟨l.val % 32, by omega⟩ := by
  have e : (V m c main_v19 : S1x128.Idx → EReal) = broadcastInDim S1x128 ![1] bcast_S128_S1x128_1
      (shapeCast S128 (broadcastInDim S4x32 ![0, 1] bcast_S1x32_S4x32_0_1 (shapeCast S1x32 (fun i => freq (i 0)) shapeCasts_S32_S1x32))
        shapeCasts_S4x32_S128) := by
    unfold V; after_results_simp; rfl
  rw [e, four_apply]
  rfl

/-- The gain. -/
theorem V_gain (j : Fin 1024) : (V m c main_v20 : S1x1024.Idx → EReal) (ix2 0 j) = (m ((c : Thread nD τ).loc main_arg2) : S1024.Idx → EReal) (ix1 j) := by
  have e : (V m c main_v20 : S1x1024.Idx → EReal) = broadcastInDim S1x1024 ![1] bcast_S1024_S1x1024_1 (m ((c : Thread nD τ).loc main_arg2) : S1024.Idx → EReal) := by
    unfold V; after_results_simp
  rw [e, gain_apply]

/-- The queries' matrix. -/
theorem V_wq (k j : Fin 1024) : (V m c main_v21 : S1024x1024.Idx → EReal) (ix2 k j)
    = (m ((c : Thread nD τ).loc main_arg3) : S1024x1280.Idx → EReal) (ix2 k (col j.val)) := by
  have e : (V m c main_v21 : S1024x1024.Idx → EReal)
      = extractStridedSlice S1024x1024 ![0, 0] (m ((c : Thread nD τ).loc main_arg3) : S1024x1280.Idx → EReal) slices_S1024x1280_S1024x1024_0_0 := by
    unfold V; after_results_simp; rfl
  rw [e, cols_q]

/-- The keys' matrix. -/
theorem V_wk (k : Fin 1024) (j : Fin 256) : (V m c main_v25 : S1024x256.Idx → EReal) (ix2 k j)
    = (m ((c : Thread nD τ).loc main_arg3) : S1024x1280.Idx → EReal) (ix2 k (col (1024 + 64 * (j.val / 128) + j.val % 64))) := by
  have e : (V m c main_v25 : S1024x256.Idx → EReal)
      = shapeCast S1024x256 (broadcastInDim S1024x2x2x64 ![0, 1, 2, 3] bcast_S1024x2x1x64_S1024x2x2x64_0_1_2_3
          (shapeCast S1024x2x1x64 (extractStridedSlice S1024x128 ![0, 1024] (m ((c : Thread nD τ).loc main_arg3) : S1024x1280.Idx → EReal)
            slices_S1024x1280_S1024x128_0_1024) shapeCasts_S1024x128_S1024x2x1x64)) shapeCasts_S1024x2x2x64_S1024x256 := by
    unfold V; after_results_simp; rfl
  rw [e, twice_apply, cols_k, Nat.add_assoc]

/-- The values' matrix. -/
theorem V_wv (k : Fin 1024) (j : Fin 256) : (V m c main_v29 : S1024x256.Idx → EReal) (ix2 k j)
    = (m ((c : Thread nD τ).loc main_arg3) : S1024x1280.Idx → EReal) (ix2 k (col (1152 + 64 * (j.val / 128) + j.val % 64))) := by
  have e : (V m c main_v29 : S1024x256.Idx → EReal)
      = shapeCast S1024x256 (broadcastInDim S1024x2x2x64 ![0, 1, 2, 3] bcast_S1024x2x1x64_S1024x2x2x64_0_1_2_3
          (shapeCast S1024x2x1x64 (extractStridedSlice S1024x128 ![0, 1152] (m ((c : Thread nD τ).loc main_arg3) : S1024x1280.Idx → EReal)
            slices_S1024x1280_S1024x128_0_1152) shapeCasts_S1024x128_S1024x2x1x64)) shapeCasts_S1024x2x2x64_S1024x256 := by
    unfold V; after_results_simp; rfl
  rw [e, twice_apply, cols_v, Nat.add_assoc]

end Cert.Rope
-- ==== Proof.Rope.Array.lean ====
/-
  The kernel's three result arrays after the run: row `r` of each is `qRow`, `kRow` and `vRow` of the projection of the
  arguments' row `r`. Grid point `t` stages rows `512 t` to `512 t + 511`.
-/
module

public import proofs.«01_k».proof.Proof.Rope.Host

@[expose] public section

noncomputable section

open Idealize.ShloMosaic Idealize.ShloMosaic.TcCoe Idealize.SL.Sem
open Idealize.ShloMosaic.Pipeline (Dat)

namespace Cert.Rope

open Cert.Kernel3Ideal Cert.Kernel3Ideal.Gen

variable (m : (ℓ : Loc nD τ sig) → Buf (Elt Ideal) ℓ)

/-- The projection of row `r` of the arguments. -/
def projAt (x : S32768x1024.Idx → EReal) (g : S1024.Idx → EReal) (w : S1024x1280.Idx → EReal) (r : Fin 32768) : Fin 1280 → EReal :=
  Mlp.lin (Mlp.rms (rowOf x r) (vecOf g)) (matOf w)

/-- The queries' array. -/
def qAt (x : S32768x1024.Idx → EReal) (pos : S32768x1.Idx → BitVec 32) (g : S1024.Idx → EReal) (w : S1024x1280.Idx → EReal) :
    S32768x1024.Idx → EReal := fun i => qRow (projAt x g w (i 0)) (ang (pos (ix2 (i 0) 0))) (i 1)

/-- The keys' array. -/
def kAt (x : S32768x1024.Idx → EReal) (pos : S32768x1.Idx → BitVec 32) (g : S1024.Idx → EReal) (w : S1024x1280.Idx → EReal) :
    S32768x256.Idx → EReal := fun i => kRow (projAt x g w (i 0)) (ang (pos (ix2 (i 0) 0))) (i 1)

/-- The values' array. -/
def vAt (x : S32768x1024.Idx → EReal) (g : S1024.Idx → EReal) (w : S1024x1280.Idx → EReal) :
    S32768x256.Idx → EReal := fun i => vRow (projAt x g w (i 0)) (i 1)

/-- The kernel's queries. -/
def resQ (c : Dev nD) : Buf (Elt Ideal) ((c : Thread nD τ).loc main_v30_0) :=
  qAt (m ((c : Thread nD τ).loc main_arg0)) (m ((c : Thread nD τ).loc main_arg1)) (m ((c : Thread nD τ).loc main_arg2)) (m ((c : Thread nD τ).loc main_arg3))

/-- The kernel's keys. -/
def resK (c : Dev nD) : Buf (Elt Ideal) ((c : Thread nD τ).loc main_v30_1) :=
  kAt (m ((c : Thread nD τ).loc main_arg0)) (m ((c : Thread nD τ).loc main_arg1)) (m ((c : Thread nD τ).loc main_arg2)) (m ((c : Thread nD τ).loc main_arg3))

/-- The kernel's values. -/
def resV (c : Dev nD) : Buf (Elt Ideal) ((c : Thread nD τ).loc main_v30_2) :=
  vAt (m ((c : Thread nD τ).loc main_arg0)) (m ((c : Thread nD τ).loc main_arg2)) (m ((c : Thread nD τ).loc main_arg3))

/-! ## The index maps, over the 64 points -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem idx10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)
theorem idx11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)

/-- Row `q` of point `t`'s block, as a row of the array. -/
def tok (t : Fin cfg0.N) (q : Fin 512) : Fin 32768 := ⟨512 * t.val + q.val, by
  have h : t.val < 64 := lt_of_lt_of_eq t.isLt N_0
  omega⟩

/-! ## The blocks -/

theorem blk0 (c : Dev nD) (t : Fin cfg0.N) (q : Fin 512) :
    rowOf (iblk m c 0 t : S512x1024.Idx → EReal) q = rowOf (m ((c : Thread nD τ).loc main_arg0) : S32768x1024.Idx → EReal) (tok t q) := by
  funext j
  unfold rowOf iblk
  rw [View.read_apply]
  show V m c main_arg0 _ = m (c.tc.loc main_arg0) _
  rw [V_main_arg0]
  refine congrArg (m ((c : Thread nD τ).loc main_arg0)) (funext fun a => Fin.ext ?_)
  match a with
  | ⟨0, _⟩ => show win0_0.index t 0 * 512 + 1 * q.val = 512 * t.val + q.val; rw [(idx0 t).1]; omega
  | ⟨1, _⟩ => show win0_0.index t 1 * 1024 + 1 * j.val = j.val; rw [(idx0 t).2]; omega

theorem blk1 (c : Dev nD) (t : Fin cfg0.N) (q : Fin 512) :
    (iblk m c 1 t : S512x1.Idx → BitVec 32) (ix2 q 0) = (m ((c : Thread nD τ).loc main_arg1) : S32768x1.Idx → BitVec 32) (ix2 (tok t q) 0) := by
  unfold iblk
  rw [View.read_apply]
  show V m c main_arg1 _ = m (c.tc.loc main_arg1) _
  rw [V_main_arg1]
  refine congrArg (m ((c : Thread nD τ).loc main_arg1)) (funext fun a => Fin.ext ?_)
  match a with
  | ⟨0, _⟩ => show win0_1.index t 0 * 512 + 1 * q.val = 512 * t.val + q.val; rw [(idx1 t).1]; omega
  | ⟨1, _⟩ => show win0_1.index t 1 * 1 + 1 * 0 = 0; rw [(idx1 t).2]

theorem blk2 (c : Dev nD) (t : Fin cfg0.N) (l : Fin 1024) :
    (iblk m c 2 t : S1x1024.Idx → EReal) (ix2 0 l) = (m ((c : Thread nD τ).loc main_arg2) : S1024.Idx → EReal) (ix1 l) := by
  unfold iblk
  rw [View.read_apply]
  refine Eq.trans (congrArg (V m c main_v20 : S1x1024.Idx → EReal) (funext fun a => Fin.ext ?_)) (V_gain m c l)
  match a with
  | ⟨0, _⟩ => show win0_2.index t 0 * 1 + 1 * 0 = 0; rw [(idx2 t).1]
  | ⟨1, _⟩ => show win0_2.index t 1 * 1024 + 1 * l.val = l.val; rw [(idx2 t).2]; omega

theorem blk3 (c : Dev nD) (t : Fin cfg0.N) (k : Fin 1024) (j : Fin 1024) :
    (iblk m c 3 t : S1024x1024.Idx → EReal) (ix2 k j) = (m ((c : Thread nD τ).loc main_arg3) : S1024x1280.Idx → EReal) (ix2 k (col (j.val))) := by
  unfold iblk
  rw [View.read_apply]
  refine Eq.trans (congrArg (V m c main_v21 : S1024x1024.Idx → EReal) (funext fun a => Fin.ext ?_)) (V_wq m c k j)
  match a with
  | ⟨0, _⟩ => show win0_3.index t 0 * 1024 + 1 * k.val = k.val; rw [(idx3 t).1]; omega
  | ⟨1, _⟩ => show win0_3.index t 1 * 1024 + 1 * j.val = j.val; rw [(idx3 t).2]; omega

theorem blk4 (c : Dev nD) (t : Fin cfg0.N) (k : Fin 1024) (j : Fin 256) :
    (iblk m c 4 t : S1024x256.Idx → EReal) (ix2 k j) = (m ((c : Thread nD τ).loc main_arg3) : S1024x1280.Idx → EReal) (ix2 k (col (1024 + 64 * (j.val / 128) + j.val % 64))) := by
  unfold iblk
  rw [View.read_apply]
  refine Eq.trans (congrArg (V m c main_v25 : S1024x256.Idx → EReal) (funext fun a => Fin.ext ?_)) (V_wk m c k j)
  match a with
  | ⟨0, _⟩ => show win0_4.index t 0 * 1024 + 1 * k.val = k.val; rw [(idx4 t).1]; omega
  | ⟨1, _⟩ => show win0_4.index t 1 * 256 + 1 * j.val = j.val; rw [(idx4 t).2]; omega

theorem blk5 (c : Dev nD) (t : Fin cfg0.N) (k : Fin 1024) (j : Fin 256) :
    (iblk m c 5 t : S1024x256.Idx → EReal) (ix2 k j) = (m ((c : Thread nD τ).loc main_arg3) : S1024x1280.Idx → EReal) (ix2 k (col (1152 + 64 * (j.val / 128) + j.val % 64))) := by
  unfold iblk
  rw [View.read_apply]
  refine Eq.trans (congrArg (V m c main_v29 : S1024x256.Idx → EReal) (funext fun a => Fin.ext ?_)) (V_wv m c k j)
  match a with
  | ⟨0, _⟩ => show win0_5.index t 0 * 1024 + 1 * k.val = k.val; rw [(idx5 t).1]; omega
  | ⟨1, _⟩ => show win0_5.index t 1 * 256 + 1 * j.val = j.val; rw [(idx5 t).2]; omega

theorem blk6 (c : Dev nD) (t : Fin cfg0.N) (l : Fin 128) :
    (iblk m c 6 t : S1x128.Idx → EReal) (ix2 0 l) = freq ⟨l.val % 32, by omega⟩ := by
  unfold iblk
  rw [View.read_apply]
  refine Eq.trans (congrArg (V m c main_v19 : S1x128.Idx → EReal) (funext fun a => Fin.ext ?_)) (V_freq m c l)
  match a with
  | ⟨0, _⟩ => show win0_6.index t 0 * 1 + 1 * 0 = 0; rw [(idx6 t).1]
  | ⟨1, _⟩ => show win0_6.index t 1 * 128 + 1 * l.val = l.val; rw [(idx6 t).2]; omega

theorem blk7 (c : Dev nD) (t : Fin cfg0.N) (l : Fin 128) :
    (iblk m c 7 t : S1x128.Idx → EReal) (ix2 0 l) = (if l.val % 64 < 32 then -1 else 0 : EReal) := by
  unfold iblk
  rw [View.read_apply]
  refine Eq.trans (congrArg (V m c main_v0 : S1x128.Idx → EReal) (funext fun a => Fin.ext ?_)) (V_lo m c l)
  match a with
  | ⟨0, _⟩ => show win0_7.index t 0 * 1 + 1 * 0 = 0; rw [(idx7 t).1]
  | ⟨1, _⟩ => show win0_7.index t 1 * 128 + 1 * l.val = l.val; rw [(idx7 t).2]; omega

theorem blk8 (c : Dev nD) (t : Fin cfg0.N) (l : Fin 128) :
    (iblk m c 8 t : S1x128.Idx → EReal) (ix2 0 l) = (if l.val % 64 < 32 then 0 else 1 : EReal) := by
  unfold iblk
  rw [View.read_apply]
  refine Eq.trans (congrArg (V m c main_v1 : S1x128.Idx → EReal) (funext fun a => Fin.ext ?_)) (V_hi m c l)
  match a with
  | ⟨0, _⟩ => show win0_8.index t 0 * 1 + 1 * 0 = 0; rw [(idx8 t).1]
  | ⟨1, _⟩ => show win0_8.index t 1 * 128 + 1 * l.val = l.val; rw [(idx8 t).2]; omega

/-- A product of the block's normalised row with a block matrix whose columns are columns of the projection's matrix. -/
theorem proj_block (c : Dev nD) (t : Fin cfg0.N) (q : Fin 512) {N : ℕ} (W : Fin 1024 → Fin N → EReal) (j : Fin N) (n : ℕ)
    (h : ∀ k, W k j = (m ((c : Thread nD τ).loc main_arg3) : S1024x1280.Idx → EReal) (ix2 k (col n))) :
    Mlp.lin (Mlp.rms (rowOf (iblk m c 0 t : S512x1024.Idx → EReal) q) (rowOf (iblk m c 2 t : S1x1024.Idx → EReal) 0)) W j
      = projAt (m ((c : Thread nD τ).loc main_arg0)) (m ((c : Thread nD τ).loc main_arg2)) (m ((c : Thread nD τ).loc main_arg3)) (tok t q) (col n) := by
  have e0 := blk0 m c t q
  have e2 : rowOf (iblk m c 2 t : S1x1024.Idx → EReal) 0 = vecOf (m ((c : Thread nD τ).loc main_arg2) : S1024.Idx → EReal) :=
    funext fun l => blk2 m c t l
  rw [e0, e2]
  unfold projAt Mlp.lin
  exact Finset.sum_congr rfl fun k _ => congrArg _ (h k)

/-! ## The result arrays -/

/-- What the body leaves at row `q`, column `j` of the queries' block at point `t`. -/
theorem q_apply (c : Dev nD) (t : Fin cfg0.N) (q : Fin 512) (j : Fin 1024) :
    out0_9 (iblk m c 0 t) (iblk m c 1 t) (iblk m c 2 t) (iblk m c 3 t) (iblk m c 4 t) (iblk m c 5 t) (iblk m c 6 t) (iblk m c 7 t) (iblk m c 8 t) (ix2 q j)
      = resQ m c (ix2 (tok t q) j) := by
  have e := out_q (iblk m c 0 t) (iblk m c 1 t) (iblk m c 2 t) (iblk m c 3 t) (iblk m c 4 t) (iblk m c 5 t) (iblk m c 6 t) (iblk m c 7 t) (iblk m c 8 t)
    (projAt (m ((c : Thread nD τ).loc main_arg0)) (m ((c : Thread nD τ).loc main_arg2)) (m ((c : Thread nD τ).loc main_arg3)) (tok t q)) q
    (fun l => blk6 m c t l) (fun l => blk7 m c t l) (fun l => blk8 m c t l) (fun j => proj_block m c t q (matOf (iblk m c 3 t : S1024x1024.Idx → EReal)) j _ fun k => blk3 m c t k j) j
  have e1 := blk1 m c t q
  refine e.trans ?_
  rw [e1]
  rfl

/-- The write-back of point `t` is the queries' block there. -/
theorem q_flushed (c : Dev nD) (t : Fin cfg0.N) :
    (dats m 0 c).flushed 9 t = ((cfg0.win 9).blk t).view.read (Elt Ideal) (resQ m c) := by
  rw [Value.flushed9]
  funext y
  rw [View.read_apply]
  have hy : (y : S512x1024.Idx) = ix2 (y 0 : Fin 512) (y 1 : Fin 1024) := funext fun a => by
    match a with
    | ⟨0, _⟩ => rfl
    | ⟨1, _⟩ => rfl
  refine Eq.trans (congrArg (out0_9 (iblk m c 0 t) (iblk m c 1 t) (iblk m c 2 t) (iblk m c 3 t) (iblk m c 4 t) (iblk m c 5 t) (iblk m c 6 t) (iblk m c 7 t) (iblk m c 8 t)) hy) ((q_apply m c t (y 0) (y 1)).trans ?_)
  refine congrArg (resQ m c) (funext fun a => Fin.ext ?_)
  match a with
  | ⟨0, _⟩ => show 512 * t.val + (y 0).val = win0_9.index t 0 * 512 + 1 * (y 0).val; rw [(idx9 t).1]; omega
  | ⟨1, _⟩ => show (y 1).val = win0_9.index t 1 * 1024 + 1 * (y 1).val; rw [(idx9 t).2]; omega

theorem q_flush_all : ∀ t : Fin cfg0.N, (cfg0.win 9).flush t = true :=
  (by decide +kernel : ∀ t : Fin grid0.N, win0_9.flush t = true)

/-- So the queries' array after the run is `resQ`. -/
theorem q_final (c : Dev nD) : (dats m 0 c).arrAt 9 cfg0.N = resQ m c :=
  (dats m 0 c).arrAt_eq_of_cover 9 (resQ m c) (fun t _ => q_flushed m c t) fun i => by
    have h0 : (i 0 : Nat) < 32768 := (i 0).isLt
    have h1 : (i 1 : Nat) < 1024 := (i 1).isLt
    have ht : (i 0 : Nat) / 512 < cfg0.N := lt_of_lt_of_eq (by omega) N_0.symm
    refine ⟨⟨(i 0 : Nat) / 512, ht⟩, q_flush_all _, ?_⟩
    show i ∈ ((View.whole main_v30_0).slice (win0_9.rect ⟨(i 0 : Nat) / 512, ht⟩)).set
    rw [View.set_slice_whole, Rect.mem_set_unit]
    intro a
    match a with
    | ⟨0, _⟩ => show win0_9.index ⟨(i 0 : Nat) / 512, ht⟩ 0 * 512 ≤ (i 0 : Nat) ∧ (i 0 : Nat) < win0_9.index ⟨(i 0 : Nat) / 512, ht⟩ 0 * 512 + 512
                rw [(idx9 _).1]; show (i 0 : Nat) / 512 * 512 ≤ (i 0 : Nat) ∧ (i 0 : Nat) < (i 0 : Nat) / 512 * 512 + 512; omega
    | ⟨1, _⟩ => show win0_9.index ⟨(i 0 : Nat) / 512, ht⟩ 1 * 1024 ≤ (i 1 : Nat) ∧ (i 1 : Nat) < win0_9.index ⟨(i 0 : Nat) / 512, ht⟩ 1 * 1024 + 1024
                rw [(idx9 _).2]; omega

/-- What the body leaves at row `q`, column `j` of the keys' block at point `t`. -/
theorem k_apply (c : Dev nD) (t : Fin cfg0.N) (q : Fin 512) (j : Fin 256) :
    out0_10 (iblk m c 0 t) (iblk m c 1 t) (iblk m c 2 t) (iblk m c 3 t) (iblk m c 4 t) (iblk m c 5 t) (iblk m c 6 t) (iblk m c 7 t) (iblk m c 8 t) (ix2 q j)
      = resK m c (ix2 (tok t q) j) := by
  have e := out_k (iblk m c 0 t) (iblk m c 1 t) (iblk m c 2 t) (iblk m c 3 t) (iblk m c 4 t) (iblk m c 5 t) (iblk m c 6 t) (iblk m c 7 t) (iblk m c 8 t)
    (projAt (m ((c : Thread nD τ).loc main_arg0)) (m ((c : Thread nD τ).loc main_arg2)) (m ((c : Thread nD τ).loc main_arg3)) (tok t q)) q
    (fun l => blk6 m c t l) (fun l => blk7 m c t l) (fun l => blk8 m c t l) (fun j => proj_block m c t q (matOf (iblk m c 4 t : S1024x256.Idx → EReal)) j _ fun k => blk4 m c t k j) j
  have e1 := blk1 m c t q
  refine e.trans ?_
  rw [e1]
  rfl

/-- The write-back of point `t` is the keys' block there. -/
theorem k_flushed (c : Dev nD) (t : Fin cfg0.N) :
    (dats m 0 c).flushed 10 t = ((cfg0.win 10).blk t).view.read (Elt Ideal) (resK m c) := by
  rw [Value.flushed10]
  funext y
  rw [View.read_apply]
  have hy : (y : S512x256.Idx) = ix2 (y 0 : Fin 512) (y 1 : Fin 256) := funext fun a => by
    match a with
    | ⟨0, _⟩ => rfl
    | ⟨1, _⟩ => rfl
  refine Eq.trans (congrArg (out0_10 (iblk m c 0 t) (iblk m c 1 t) (iblk m c 2 t) (iblk m c 3 t) (iblk m c 4 t) (iblk m c 5 t) (iblk m c 6 t) (iblk m c 7 t) (iblk m c 8 t)) hy) ((k_apply m c t (y 0) (y 1)).trans ?_)
  refine congrArg (resK m c) (funext fun a => Fin.ext ?_)
  match a with
  | ⟨0, _⟩ => show 512 * t.val + (y 0).val = win0_10.index t 0 * 512 + 1 * (y 0).val; rw [(idx10 t).1]; omega
  | ⟨1, _⟩ => show (y 1).val = win0_10.index t 1 * 256 + 1 * (y 1).val; rw [(idx10 t).2]; omega

theorem k_flush_all : ∀ t : Fin cfg0.N, (cfg0.win 10).flush t = true :=
  (by decide +kernel : ∀ t : Fin grid0.N, win0_10.flush t = true)

/-- So the keys' array after the run is `resK`. -/
theorem k_final (c : Dev nD) : (dats m 0 c).arrAt 10 cfg0.N = resK m c :=
  (dats m 0 c).arrAt_eq_of_cover 10 (resK m c) (fun t _ => k_flushed m c t) fun i => by
    have h0 : (i 0 : Nat) < 32768 := (i 0).isLt
    have h1 : (i 1 : Nat) < 256 := (i 1).isLt
    have ht : (i 0 : Nat) / 512 < cfg0.N := lt_of_lt_of_eq (by omega) N_0.symm
    refine ⟨⟨(i 0 : Nat) / 512, ht⟩, k_flush_all _, ?_⟩
    show i ∈ ((View.whole main_v30_1).slice (win0_10.rect ⟨(i 0 : Nat) / 512, ht⟩)).set
    rw [View.set_slice_whole, Rect.mem_set_unit]
    intro a
    match a with
    | ⟨0, _⟩ => show win0_10.index ⟨(i 0 : Nat) / 512, ht⟩ 0 * 512 ≤ (i 0 : Nat) ∧ (i 0 : Nat) < win0_10.index ⟨(i 0 : Nat) / 512, ht⟩ 0 * 512 + 512
                rw [(idx10 _).1]; show (i 0 : Nat) / 512 * 512 ≤ (i 0 : Nat) ∧ (i 0 : Nat) < (i 0 : Nat) / 512 * 512 + 512; omega
    | ⟨1, _⟩ => show win0_10.index ⟨(i 0 : Nat) / 512, ht⟩ 1 * 256 ≤ (i 1 : Nat) ∧ (i 1 : Nat) < win0_10.index ⟨(i 0 : Nat) / 512, ht⟩ 1 * 256 + 256
                rw [(idx10 _).2]; omega

/-- What the body leaves at row `q`, column `j` of the values' block at point `t`. -/
theorem v_apply (c : Dev nD) (t : Fin cfg0.N) (q : Fin 512) (j : Fin 256) :
    out0_11 (iblk m c 0 t) (iblk m c 1 t) (iblk m c 2 t) (iblk m c 3 t) (iblk m c 4 t) (iblk m c 5 t) (iblk m c 6 t) (iblk m c 7 t) (iblk m c 8 t) (ix2 q j)
      = resV m c (ix2 (tok t q) j) := by
  have e := out_v (iblk m c 0 t) (iblk m c 1 t) (iblk m c 2 t) (iblk m c 3 t) (iblk m c 4 t) (iblk m c 5 t) (iblk m c 6 t) (iblk m c 7 t) (iblk m c 8 t)
    (projAt (m ((c : Thread nD τ).loc main_arg0)) (m ((c : Thread nD τ).loc main_arg2)) (m ((c : Thread nD τ).loc main_arg3)) (tok t q)) q
    (fun j => proj_block m c t q (matOf (iblk m c 5 t : S1024x256.Idx → EReal)) j _ fun k => blk5 m c t k j) j
  exact e

/-- The write-back of point `t` is the values' block there. -/
theorem v_flushed (c : Dev nD) (t : Fin cfg0.N) :
    (dats m 0 c).flushed 11 t = ((cfg0.win 11).blk t).view.read (Elt Ideal) (resV m c) := by
  rw [Value.flushed11]
  funext y
  rw [View.read_apply]
  have hy : (y : S512x256.Idx) = ix2 (y 0 : Fin 512) (y 1 : Fin 256) := funext fun a => by
    match a with
    | ⟨0, _⟩ => rfl
    | ⟨1, _⟩ => rfl
  refine Eq.trans (congrArg (out0_11 (iblk m c 0 t) (iblk m c 1 t) (iblk m c 2 t) (iblk m c 3 t) (iblk m c 4 t) (iblk m c 5 t) (iblk m c 6 t) (iblk m c 7 t) (iblk m c 8 t)) hy) ((v_apply m c t (y 0) (y 1)).trans ?_)
  refine congrArg (resV m c) (funext fun a => Fin.ext ?_)
  match a with
  | ⟨0, _⟩ => show 512 * t.val + (y 0).val = win0_11.index t 0 * 512 + 1 * (y 0).val; rw [(idx11 t).1]; omega
  | ⟨1, _⟩ => show (y 1).val = win0_11.index t 1 * 256 + 1 * (y 1).val; rw [(idx11 t).2]; omega

theorem v_flush_all : ∀ t : Fin cfg0.N, (cfg0.win 11).flush t = true :=
  (by decide +kernel : ∀ t : Fin grid0.N, win0_11.flush t = true)

/-- So the values' array after the run is `resV`. -/
theorem v_final (c : Dev nD) : (dats m 0 c).arrAt 11 cfg0.N = resV m c :=
  (dats m 0 c).arrAt_eq_of_cover 11 (resV m c) (fun t _ => v_flushed m c t) fun i => by
    have h0 : (i 0 : Nat) < 32768 := (i 0).isLt
    have h1 : (i 1 : Nat) < 256 := (i 1).isLt
    have ht : (i 0 : Nat) / 512 < cfg0.N := lt_of_lt_of_eq (by omega) N_0.symm
    refine ⟨⟨(i 0 : Nat) / 512, ht⟩, v_flush_all _, ?_⟩
    show i ∈ ((View.whole main_v30_2).slice (win0_11.rect ⟨(i 0 : Nat) / 512, ht⟩)).set
    rw [View.set_slice_whole, Rect.mem_set_unit]
    intro a
    match a with
    | ⟨0, _⟩ => show win0_11.index ⟨(i 0 : Nat) / 512, ht⟩ 0 * 512 ≤ (i 0 : Nat) ∧ (i 0 : Nat) < win0_11.index ⟨(i 0 : Nat) / 512, ht⟩ 0 * 512 + 512
                rw [(idx11 _).1]; show (i 0 : Nat) / 512 * 512 ≤ (i 0 : Nat) ∧ (i 0 : Nat) < (i 0 : Nat) / 512 * 512 + 512; omega
    | ⟨1, _⟩ => show win0_11.index ⟨(i 0 : Nat) / 512, ht⟩ 1 * 256 ≤ (i 1 : Nat) ∧ (i 1 : Nat) < win0_11.index ⟨(i 0 : Nat) / 512, ht⟩ 1 * 256 + 256
                rw [(idx11 _).2]; omega

end Cert.Rope
-- ==== Proof.Rope.Ref.lean ====
/-
  The reference's three results, read at a row and a column: `qRow`, `kRow` and `vRow` of the projection of the same row.
-/
module

public import proofs.«01_k».proof.Proof.Gen.Reference3Ideal.Read
public import proofs.«01_k».proof.Proof.Rope.Turn

@[expose] public section

noncomputable section

open Idealize.ShloMosaic

namespace Cert.Rope.Ref

open Cert.Reference3Ideal Cert.Reference3Ideal.Read

variable (x0 : (⟨S32768x1024, .f32⟩ : BufTy).Contents (Elt Ideal)) (x1 : (⟨S32768x1, .i32⟩ : BufTy).Contents (Elt Ideal))
  (x2 : (⟨S1024, .f32⟩ : BufTy).Contents (Elt Ideal)) (x3 : (⟨S1024x1280, .f32⟩ : BufTy).Contents (Elt Ideal))

/-- The projection's row. -/
def proj (r : Fin 32768) : Fin 1280 → EReal := Mlp.lin (Mlp.rms (rowOf x0 r) (vecOf x2)) (matOf x3)

theorem proj_apply (r : Fin 32768) (j : Fin 1280) : val_main_v14 (F := Ideal) x0 x2 x3 (ix2 r j) = proj x0 x2 x3 r j := by
  unfold val_main_v14 val_main_v13 val_main_v12 val_main_v11 val_main_v10 val_main_v9 val_main_v8 val_main_v7
    val_main_v6 val_main_v5 val_main_v4 val_main_v3 val_main_v2 val_main_v1 val_main_cst val_main_cst_0 val_main_cst_1
  pointwise [dot_S32768x1024_S1024x1280_S32768x1280_1_0_0_1_n_n]
  rfl

theorem freq_apply (k : Fin 32) : val_main_v27 (F := Ideal) (ix1 k) = freq k := rfl

/-- The angle at a row. -/
theorem angle_apply (r : Fin 32768) (k : Fin 32) : val_main_v33 (F := Ideal) x1 (ix2 r k) = ang (x1 (ix2 r 0)) k := by
  unfold ang
  rw [← freq_apply]
  unfold val_main_v33 val_main_v32 val_main_v31 val_main_v30 val_main_v29 val_main_v28 val_main_v0
  generalize val_main_v27 (F := Ideal) = f
  pointwise
  rfl

theorem col_eq (n : ℕ) (h : n < 1280) (m : ℕ) (e : m = n) : (⟨n, h⟩ : Fin 1280) = col m :=
  Fin.ext (by show n = m % 1280; omega)

/-! ## The queries -/

/-- The first half of a query head, turned. -/
theorem q_low (r : Fin 32768) (h : Fin 16) (k : Fin 32) :
    val_main_v44 (F := Ideal) x0 x1 x2 x3 (ix3 r h k) = proj x0 x2 x3 r (col (64 * h.val + k.val)) * Ideal.cos (ang (x1 (ix2 r 0)) k)
      - proj x0 x2 x3 r (col (64 * h.val + (k.val + 32))) * Ideal.sin (ang (x1 (ix2 r 0)) k) := by
  rw [← proj_apply, ← proj_apply, ← angle_apply]
  unfold val_main_v44 val_main_v43 val_main_v42 val_main_v41 val_main_v40 val_main_v39 val_main_v38 val_main_v37 val_main_v36 val_main_v35
    val_main_v34 val_main_v16 val_main_v15
  generalize val_main_v33 (F := Ideal) x1 = a
  generalize val_main_v14 (F := Ideal) x0 x2 x3 = p
  pointwise
  rw [col_eq (h.val * 64 + k.val) _ (64 * h.val + k.val) (by omega), col_eq (h.val * 64 + (32 + k.val)) _ (64 * h.val + (k.val + 32)) (by omega)]

/-- The second half. -/
theorem q_high (r : Fin 32768) (h : Fin 16) (k : Fin 32) :
    val_main_v49 (F := Ideal) x0 x1 x2 x3 (ix3 r h k) = proj x0 x2 x3 r (col (64 * h.val + (k.val + 32))) * Ideal.cos (ang (x1 (ix2 r 0)) k)
      + proj x0 x2 x3 r (col (64 * h.val + k.val)) * Ideal.sin (ang (x1 (ix2 r 0)) k) := by
  rw [← proj_apply, ← proj_apply, ← angle_apply]
  unfold val_main_v49 val_main_v48 val_main_v47 val_main_v46 val_main_v45 val_main_v39 val_main_v38 val_main_v37 val_main_v36 val_main_v35
    val_main_v34 val_main_v16 val_main_v15
  generalize val_main_v33 (F := Ideal) x1 = a
  generalize val_main_v14 (F := Ideal) x0 x2 x3 = p
  pointwise
  rw [col_eq (h.val * 64 + k.val) _ (64 * h.val + k.val) (by omega), col_eq (h.val * 64 + (32 + k.val)) _ (64 * h.val + (k.val + 32)) (by omega)]

/-- The whole head. -/
theorem q_head (r : Fin 32768) (h : Fin 16) (l : Fin 64) :
    val_main_v50 (F := Ideal) x0 x1 x2 x3 (ix3 r h l)
      = turn (fun k => proj x0 x2 x3 r (col (64 * h.val + k.val))) (ang (x1 (ix2 r 0))) l := by
  unfold val_main_v50 turn
  by_cases hl : l.val < 32
  · rw [dif_pos hl]
    refine Eq.trans ?_ (q_low x0 x1 x2 x3 r h ⟨l.val, hl⟩)
    generalize val_main_v44 (F := Ideal) x0 x1 x2 x3 = u
    generalize val_main_v49 (F := Ideal) x0 x1 x2 x3 = v
    pointwise
    exact dif_pos hl
  · rw [dif_neg hl]
    refine Eq.trans ?_ ((q_high x0 x1 x2 x3 r h ⟨l.val - 32, by omega⟩).trans ?_)
    · generalize val_main_v44 (F := Ideal) x0 x1 x2 x3 = u
      generalize val_main_v49 (F := Ideal) x0 x1 x2 x3 = v
      pointwise
      exact dif_neg hl
    · rw [Nat.sub_add_cancel (by omega)]

/-- The queries' row. -/
theorem q_row (r : Fin 32768) (j : Fin 1024) :
    val_main_v92 (F := Ideal) x0 x1 x2 x3 (ix2 r j) = qRow (proj x0 x2 x3 r) (ang (x1 (ix2 r 0))) j := by
  unfold qRow
  rw [← q_head x0 x1 x2 x3 r ⟨j.val / 64, by omega⟩]
  unfold val_main_v92 val_main_v91 val_main_v52 val_main_v51 val_main_cst_7
  generalize val_main_v50 (F := Ideal) x0 x1 x2 x3 = u
  pointwise
  rfl

/-! ## The keys -/

theorem freq_again (k : Fin 32) : val_main_v65 (F := Ideal) (ix1 k) = freq k := rfl

/-- The angle at a row, once more. -/
theorem angle_again (r : Fin 32768) (k : Fin 32) : val_main_v71 (F := Ideal) x1 (ix2 r k) = ang (x1 (ix2 r 0)) k := by
  unfold ang
  rw [← freq_again]
  unfold val_main_v71 val_main_v70 val_main_v69 val_main_v68 val_main_v67 val_main_v66 val_main_v0
  generalize val_main_v65 (F := Ideal) = f
  pointwise
  rfl

/-- The first half of a key head, turned. -/
theorem k_low (r : Fin 32768) (h : Fin 2) (k : Fin 32) :
    val_main_v82 (F := Ideal) x0 x1 x2 x3 (ix3 r h k) = proj x0 x2 x3 r (col (1024 + 64 * h.val + k.val)) * Ideal.cos (ang (x1 (ix2 r 0)) k)
      - proj x0 x2 x3 r (col (1024 + 64 * h.val + (k.val + 32))) * Ideal.sin (ang (x1 (ix2 r 0)) k) := by
  rw [← proj_apply, ← proj_apply, ← angle_again]
  unfold val_main_v82 val_main_v81 val_main_v80 val_main_v79 val_main_v78 val_main_v77 val_main_v76 val_main_v75 val_main_v74 val_main_v73
    val_main_v72 val_main_v54 val_main_v53
  generalize val_main_v71 (F := Ideal) x1 = a
  generalize val_main_v14 (F := Ideal) x0 x2 x3 = p
  pointwise
  rw [col_eq (1024 + (h.val * 64 + k.val)) _ (1024 + 64 * h.val + k.val) (by omega),
    col_eq (1024 + (h.val * 64 + (32 + k.val))) _ (1024 + 64 * h.val + (k.val + 32)) (by omega)]

/-- The second half. -/
theorem k_high (r : Fin 32768) (h : Fin 2) (k : Fin 32) :
    val_main_v87 (F := Ideal) x0 x1 x2 x3 (ix3 r h k) = proj x0 x2 x3 r (col (1024 + 64 * h.val + (k.val + 32))) * Ideal.cos (ang (x1 (ix2 r 0)) k)
      + proj x0 x2 x3 r (col (1024 + 64 * h.val + k.val)) * Ideal.sin (ang (x1 (ix2 r 0)) k) := by
  rw [← proj_apply, ← proj_apply, ← angle_again]
  unfold val_main_v87 val_main_v86 val_main_v85 val_main_v84 val_main_v83 val_main_v77 val_main_v76 val_main_v75 val_main_v74 val_main_v73
    val_main_v72 val_main_v54 val_main_v53
  generalize val_main_v71 (F := Ideal) x1 = a
  generalize val_main_v14 (F := Ideal) x0 x2 x3 = p
  pointwise
  rw [col_eq (1024 + (h.val * 64 + k.val)) _ (1024 + 64 * h.val + k.val) (by omega),
    col_eq (1024 + (h.val * 64 + (32 + k.val))) _ (1024 + 64 * h.val + (k.val + 32)) (by omega)]

/-- The whole head. -/
theorem k_head (r : Fin 32768) (h : Fin 2) (l : Fin 64) :
    val_main_v88 (F := Ideal) x0 x1 x2 x3 (ix3 r h l)
      = turn (fun k => proj x0 x2 x3 r (col (1024 + 64 * h.val + k.val))) (ang (x1 (ix2 r 0))) l := by
  unfold val_main_v88 turn
  by_cases hl : l.val < 32
  · rw [dif_pos hl]
    refine Eq.trans ?_ (k_low x0 x1 x2 x3 r h ⟨l.val, hl⟩)
    generalize val_main_v82 (F := Ideal) x0 x1 x2 x3 = u
    generalize val_main_v87 (F := Ideal) x0 x1 x2 x3 = v
    pointwise
    exact dif_pos hl
  · rw [dif_neg hl]
    refine Eq.trans ?_ ((k_high x0 x1 x2 x3 r h ⟨l.val - 32, by omega⟩).trans ?_)
    · generalize val_main_v82 (F := Ideal) x0 x1 x2 x3 = u
      generalize val_main_v87 (F := Ideal) x0 x1 x2 x3 = v
      pointwise
      exact dif_neg hl
    · rw [Nat.sub_add_cancel (by omega)]

/-- The keys' row. -/
theorem k_row (r : Fin 32768) (j : Fin 256) :
    val_main_v95 (F := Ideal) x0 x1 x2 x3 (ix2 r j) = kRow (proj x0 x2 x3 r) (ang (x1 (ix2 r 0))) j := by
  unfold kRow
  rw [← k_head x0 x1 x2 x3 r ⟨j.val / 128, by omega⟩]
  unfold val_main_v95 val_main_v94 val_main_v93
  generalize val_main_v88 (F := Ideal) x0 x1 x2 x3 = u
  pointwise
  by_cases hj : j.val % 128 < 64
  · have e : (⟨j.val % 64, by omega⟩ : Fin 64) = ⟨j.val % 128, hj⟩ := Fin.ext (by show j.val % 64 = j.val % 128; omega)
    rw [e]
    exact dif_pos hj
  · have e : (⟨j.val % 64, by omega⟩ : Fin 64) = ⟨j.val % 128 - 64, by omega⟩ := Fin.ext (by show j.val % 64 = j.val % 128 - 64; omega)
    rw [e]
    exact dif_neg hj

/-! ## The values -/

/-- The values' row. -/
theorem v_row (r : Fin 32768) (j : Fin 256) :
    val_main_v98 (F := Ideal) x0 x2 x3 (ix2 r j) = vRow (proj x0 x2 x3 r) j := by
  unfold vRow
  rw [← proj_apply]
  unfold val_main_v98 val_main_v97 val_main_v96 val_main_v90 val_main_v89
  generalize val_main_v14 (F := Ideal) x0 x2 x3 = p
  pointwise
  by_cases hj : j.val % 128 < 64
  · rw [← col_eq (1152 + (j.val / 128 * 64 + j.val % 128)) (by omega) (1152 + 64 * (j.val / 128) + j.val % 64) (by omega)]
    exact dif_pos hj
  · rw [← col_eq (1152 + (j.val / 128 * 64 + (j.val % 128 - 64))) (by omega) (1152 + 64 * (j.val / 128) + j.val % 64) (by omega)]
    exact dif_neg hj

end Cert.Rope.Ref
-- ==== Proof.Rope.Claims.lean ====
/-
  The claims about the projection of layer 1: the frames of the program, of its reading over the extended reals and of the
  reference, and the value claim.
-/
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.Gen.Reference3Ideal.Run
public import proofs.«01_k».proof.Proof.Rope.Array
public import proofs.«01_k».proof.Proof.Rope.Ref
public import Idealize.ShloMosaic.Lib.Quiescent

@[expose] public section

noncomputable section

open Idealize.ShloMosaic Idealize.ShloMosaic.TcCoe Idealize.SL.Sem

namespace Cert.Rope

/-- The program terminates with its arguments unchanged and nothing in flight. -/
theorem frame_p : Cert.quiescent_Kernel3 (hKernel3 := Cert.Kernel3.Gen.facts) := fun m ρ _ => Cert.Kernel3.Gen.frame m ρ

/-- The same over the extended reals. -/
theorem frame_pi : Cert.quiescent_Kernel3Ideal (hKernel3Ideal := Cert.Kernel3Ideal.Gen.facts) :=
  fun m ρ _ => Cert.Kernel3Ideal.Gen.frame m ρ

/-- The reference terminates with its arguments unchanged; it has no semaphore. -/
theorem frame_ri : Cert.quiescent_Reference3Ideal (hReference3Ideal := Cert.Reference3Ideal.Gen.facts) := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- The value claim: on equal arguments the kernel's three results are the reference's, element by element. -/
theorem value : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => resQ m c, fun c => resK m c, fun c => resV m c, ?_, ?_⟩
  · refine (θ_run Cert.Kernel3Ideal.defs _ _).mono (fun r h c => ⟨(h c).1.trans (q_final m c), (h c).2.1.trans (k_final m c),
      (h c).2.2.1.trans (v_final m c), (h c).2.2.2⟩) (Cert.Kernel3Ideal.Value.run_blocks (F := Ideal) m ρ)
  · refine (θ_run Cert.Reference3Ideal.defs _ _).mono (fun r h c => ⟨(h c).1.trans ?_, (h c).2.1.trans ?_, (h c).2.2.1.trans ?_, (h c).2.2.2⟩)
      (Cert.Reference3Ideal.Value.run (F := Ideal) m' ρ')
    · obtain ⟨a0, a1, a2, a3⟩ := hagree c
      rw [Cert.Reference3Ideal.Read.val_main_v92_eq, a0, a1, a2, a3]
      funext i
      have hi : (i : Cert.Reference3Ideal.S32768x1024.Idx) = ix2 (i 0 : Fin 32768) (i 1 : Fin 1024) := funext fun a => by
        match a with
        | ⟨0, _⟩ => rfl
        | ⟨1, _⟩ => rfl
      exact (congrArg _ hi).trans (Ref.q_row _ _ _ _ (i 0) (i 1))
    · obtain ⟨a0, a1, a2, a3⟩ := hagree c
      rw [Cert.Reference3Ideal.Read.val_main_v95_eq, a0, a1, a2, a3]
      funext i
      have hi : (i : Cert.Reference3Ideal.S32768x256.Idx) = ix2 (i 0 : Fin 32768) (i 1 : Fin 256) := funext fun a => by
        match a with
        | ⟨0, _⟩ => rfl
        | ⟨1, _⟩ => rfl
      exact (congrArg _ hi).trans (Ref.k_row _ _ _ _ (i 0) (i 1))
    · obtain ⟨a0, a1, a2, a3⟩ := hagree c
      rw [a0, a2, a3, Cert.Reference3Ideal.Read.val_main_v98_eq]
      funext i
      have hi : (i : Cert.Reference3Ideal.S32768x256.Idx) = ix2 (i 0 : Fin 32768) (i 1 : Fin 256) := funext fun a => by
        match a with
        | ⟨0, _⟩ => rfl
        | ⟨1, _⟩ => rfl
      exact (congrArg _ hi).trans (Ref.v_row _ _ _ (i 0) (i 1))

end Cert.Rope

end
-- ==== Proof.Band.Pre.lean ====
/-
  What the windowed attention's precondition says of the arguments: the queries and the keys are numbers, and no sink is
  infinite above.
-/
module

public import proofs.«01_k».proof.Pre_window_inputs
public import proofs.«01_k».proof.Proof.Gen.Pre_window_inputs
public import proofs.«01_k».proof.Proof.Flash.Pre

@[expose] public section

noncomputable section

open Idealize.ShloMosaic

namespace Cert.Band.Pre

open Cert.Pre_window_inputs
open Cert.Flash.Pre (and_one of_bool real_of_lt inf16 inf32)

attribute [local instance] Cert.Pre_window_inputs.Gen.facts

/-- The precondition's result at one element, read off its operations. -/
theorem fn_apply (a0 : FVec Ideal S2x16384x1024 .bf16) (a1 a2 : FVec Ideal S2x16384x256 .bf16) (a3 : FVec Ideal S16 .f32)
    (b : Fin 2) (p : Fin 16384) (g : Fin 4) (c : Fin 4) (l : Fin 64) :
    fn (F := Ideal) a0 a1 a2 a3 (ix5 b p g c l)
      = IntOp.andi
      (IntOp.andi
        (FloatOps.cmpf (F := Ideal) CmpFPredicate.olt (FloatOps.hostAbsf (a0 (ix3 b p ⟨g.val * 256 + c.val * 64 + l.val, by omega⟩)))
          (FloatOps.ofBits FTy.bf16 0x7F80#16))
        (FloatOps.cmpf (F := Ideal) CmpFPredicate.olt (FloatOps.hostAbsf (a1 (ix3 b p ⟨g.val * 64 + l.val, by omega⟩)))
          (FloatOps.ofBits FTy.bf16 0x7F80#16)))
      (FloatOps.cmpf (F := Ideal) CmpFPredicate.olt (a3 (ix1 ⟨g.val * 4 + c.val, by omega⟩)) (FloatOps.ofBits FTy.f32 0x7F800000#32)) := by
  unfold fn
  pointwise

variable {a0 : FVec Ideal S2x16384x1024 .bf16} {a1 a2 : FVec Ideal S2x16384x256 .bf16} {a3 : FVec Ideal S16 .f32}
  (hp : fn (F := Ideal) a0 a1 a2 a3 = fun _ => 1#1)

include hp

theorem queries (b : Fin 2) (p : Fin 16384) (j : Fin 1024) : ∃ y : ℝ, (a0 (ix3 b p j) : EReal) = y := by
  have e := congrFun hp (ix5 b p ⟨j.val / 256, by omega⟩ ⟨j.val / 64 % 4, by omega⟩ ⟨j.val % 64, by omega⟩)
  rw [fn_apply] at e
  have hj : (⟨j.val / 256 * 256 + j.val / 64 % 4 * 64 + j.val % 64, by omega⟩ : Fin 1024) = j := Fin.ext (show j.val / 256 * 256 + j.val / 64 % 4 * 64 + j.val % 64 = j.val by omega)
  have h := real_of_lt inf16 (and_one (and_one e).1).1
  rwa [hj] at h

theorem keys (b : Fin 2) (p : Fin 16384) (j : Fin 256) : ∃ y : ℝ, (a1 (ix3 b p j) : EReal) = y := by
  have e := congrFun hp (ix5 b p ⟨j.val / 64, by omega⟩ 0 ⟨j.val % 64, by omega⟩)
  rw [fn_apply] at e
  have hj : (⟨j.val / 64 * 64 + j.val % 64, by omega⟩ : Fin 256) = j := Fin.ext (show j.val / 64 * 64 + j.val % 64 = j.val by omega)
  have h := real_of_lt inf16 (and_one (and_one e).1).2
  rwa [hj] at h

theorem sinks (h : Fin 16) : (a3 (ix1 h) : EReal) ≠ ⊤ := by
  have e := congrFun hp (ix5 0 0 ⟨h.val / 4, by omega⟩ ⟨h.val % 4, by omega⟩ 0)
  rw [fn_apply] at e
  have hj : (⟨h.val / 4 * 4 + h.val % 4, by omega⟩ : Fin 16) = h := Fin.ext (show h.val / 4 * 4 + h.val % 4 = h.val by omega)
  have e := (and_one e).2
  rw [Ideal.cmpf_def, inf32] at e
  have e : (a3 (ix1 ⟨h.val / 4 * 4 + h.val % 4, by omega⟩) : EReal) < ⊤ := of_bool e
  rw [hj] at e
  exact e.ne

end Cert.Band.Pre

end
-- ==== Proof.Band.Soft.lean ====
/-
  A softmax to base two with a sink: the weights of 256 scores, their sum with the sink's weight, and the weighted mean of
  values. Where no score and no sink is infinite above and one score is a number, dividing each weight by the sum is
  dividing the weighted sum by it, and a value whose score is −∞ does not count.
-/
module

public import proofs.«01_k».proof.Proof.Flash.Weights

@[expose] public section

noncomputable section

open Idealize.ShloMosaic

namespace Cert.Band

/-- The greatest of the scores and the sink. -/
def top (s : Fin 256 → EReal) (t : EReal) : EReal := max (Finset.univ.fold max ⊥ s) t

/-- A score's weight. -/
def wt (s : Fin 256 → EReal) (t : EReal) (k : Fin 256) : EReal := Ideal.exp2 (s k - top s t)

/-- The sum of the weights and the sink's weight. -/
def den (s : Fin 256 → EReal) (t : EReal) : EReal := (∑ k, wt s t k) + Ideal.exp2 (t - top s t)

/-- The mean, the weighted sum divided by `den`. -/
def soft (s : Fin 256 → EReal) (t : EReal) (v : Fin 256 → EReal) : EReal := (∑ k, v k * wt s t k) * Ideal.div 1 (den s t)

/-- The mean, each weight divided by `den`. -/
def softEach (s : Fin 256 → EReal) (t : EReal) (v : Fin 256 → EReal) : EReal := ∑ k, v k * Ideal.div (wt s t k) (den s t)

theorem le_top (s : Fin 256 → EReal) (t : EReal) (k : Fin 256) : s k ≤ top s t :=
  le_max_of_le_left ((Finset.le_fold_max (s k)).mpr (Or.inr ⟨k, Finset.mem_univ k, le_refl _⟩))

/-- Two to a difference from a number is a nonnegative number, where the first is not infinite above. -/
theorem exp2_sub (a : EReal) (ha : a ≠ ⊤) (M : ℝ) : ∃ w : ℝ, 0 ≤ w ∧ Ideal.exp2 (a - (M : EReal)) = w ∧ (a ≠ ⊥ → 0 < w) := by
  induction a using EReal.rec with
  | bot => exact ⟨0, le_refl _, by rw [EReal.bot_sub]; rfl, fun h => absurd rfl h⟩
  | top => exact absurd rfl ha
  | coe x =>
    refine ⟨Real.rpow 2 (x - M), (Real.rpow_pos_of_pos two_pos _).le, ?_, fun _ => Real.rpow_pos_of_pos two_pos _⟩
    rw [← EReal.coe_sub, Ideal.exp2_coe]

theorem exp2_bot_sub (x : EReal) : Ideal.exp2 (⊥ - x) = 0 := by rw [EReal.bot_sub]; rfl

section
variable (s : Fin 256 → EReal) (t : EReal) (hs : ∀ k, s k ≠ ⊤) (ht : t ≠ ⊤) (k₀ : Fin 256) (h₀ : s k₀ ≠ ⊥)

include hs ht h₀ in
theorem top_real : ∃ M : ℝ, top s t = M := by
  have h1 : top s t ≠ ⊥ := fun h => h₀ (le_bot_iff.mp (h ▸ le_top s t k₀))
  have h2 : top s t ≠ ⊤ := by
    have hf : Finset.univ.fold max ⊥ s < ⊤ := (Finset.fold_max_lt ⊤).mpr ⟨bot_lt_top, fun n _ => lt_top_iff_ne_top.mpr (hs n)⟩
    exact (max_lt hf (lt_top_iff_ne_top.mpr ht)).ne
  exact ⟨_, (EReal.coe_toReal h2 h1).symm⟩

include hs ht h₀ in
/-- The weights are nonnegative numbers and `den` is a positive one. -/
theorem weights : ∃ (w : Fin 256 → ℝ) (D : ℝ), (∀ k, wt s t k = (w k : EReal)) ∧ den s t = (D : EReal) ∧ 0 < D := by
  obtain ⟨M, hM⟩ := top_real s t hs ht k₀ h₀
  choose w hw0 hw hpos using fun k => exp2_sub (s k) (hs k) M
  obtain ⟨u, hu0, hu, -⟩ := exp2_sub t ht M
  have hwt : ∀ k, wt s t k = (w k : EReal) := fun k => by unfold wt; rw [hM, hw]
  refine ⟨w, (∑ k, w k) + u, hwt, ?_, ?_⟩
  · unfold den
    rw [hM, hu, EReal.coe_add, ← Flash.sum_coe, Finset.sum_congr rfl fun k _ => hwt k]
  · exact add_pos_of_pos_of_nonneg (Finset.sum_pos' (fun k _ => hw0 k) ⟨k₀, Finset.mem_univ _, hpos k₀ h₀⟩) hu0

include hs ht h₀ in
theorem softEach_eq (v : Fin 256 → EReal) : softEach s t v = soft s t v := by
  obtain ⟨w, D, hw, hD, hpos⟩ := weights s t hs ht k₀ h₀
  unfold softEach soft
  rw [hD, Flash.div_pos_real hpos, one_mul, mul_comm, Flash.coe_mul_sum _ (by positivity)]
  exact Finset.sum_congr rfl fun k _ => by rw [Flash.div_pos_real hpos, ← mul_assoc, mul_comm]

end

/-- A value whose score is −∞ does not count. -/
theorem soft_congr (s : Fin 256 → EReal) (t : EReal) (v v' : Fin 256 → EReal) (h : ∀ k, s k ≠ ⊥ → v k = v' k) : soft s t v = soft s t v' := by
  unfold soft
  congr 1
  refine Finset.sum_congr rfl fun k _ => ?_
  by_cases hk : s k = ⊥
  · unfold wt
    rw [hk, exp2_bot_sub, mul_zero, mul_zero]
  · rw [h k hk]

/-- A sum of 128 products of which only 64 count. -/
theorem half_sum (par : ℕ) (hp : par < 2) (f : Fin 128 → EReal) (h : ∀ l : Fin 128, l.val / 64 ≠ par → f l = 0) :
    ∑ l, f l = ∑ l : Fin 64, f ⟨64 * par + l.val, by omega⟩ := by
  symm
  refine Finset.sum_of_injOn (fun l : Fin 64 => (⟨64 * par + l.val, by omega⟩ : Fin 128)) ?_ ?_ ?_ ?_
  · intro a _ b _ e
    have := congrArg Fin.val e
    exact Fin.ext (by simp at this; exact this)
  · exact fun _ _ => Finset.mem_coe.mpr (Finset.mem_univ _)
  · intro l _ hl
    refine h l fun e => hl ⟨⟨l.val % 64, by omega⟩, Finset.mem_coe.mpr (Finset.mem_univ _), Fin.ext ?_⟩
    show 64 * par + l.val % 64 = l.val
    omega
  · exact fun _ _ => rfl

end Cert.Band

end
-- ==== Proof.Band.Payload.lean ====
/-
  What the kernel's body computes for one block of 128 queries, one key head and one of its two copies: the masked scores
  of four query columns at once, keys by queries; the softmax to base two with the sinks, over the keys; and the tile of
  the output, transposed back. Read at an index.
-/
module

public import proofs.«01_k».proof.Proof.Gen.Kernel4Ideal.Skeleton
public import proofs.«01_k».proof.Proof.Band.Soft
public import Idealize.ShloMosaic.Lib.Pipeline.Value
public import Idealize.ShloMosaic.Lib.Pointwise

@[expose] public section

noncomputable section

open Idealize.ShloMosaic

namespace Cert.Band

open Cert.Kernel4Ideal Cert.Kernel4Ideal.Gen

/-- The lanes of a copy: the first 64 or the last 64. -/
def low : IVec S256x128 1 := cmpi .slt (iota .tc S256x128 32 [1] iota_S256x128_d1_w32) (broadcast S256x128 64#32)
def high : IVec S256x128 1 := cmpi .sge (iota .tc S256x128 32 [1] iota_S256x128_d1_w32) (broadcast S256x128 64#32)

/-- Two blocks of 128 rows as one of 256. -/
def rows (a b : Vec Ideal S1x128x256 .bf16) : FVec Ideal S256x256 .bf16 :=
  concatenate S256x256 0 [⟨S128x256, shapeCast S128x256 a shapeCasts_S1x128x256_S128x256⟩,
    ⟨S128x256, shapeCast S128x256 b shapeCasts_S1x128x256_S128x256⟩] concatenates_S128x256_S128x256_S256x256_d0

def flip (a : Vec Ideal S1x128x128 .bf16) : FVec Ideal S128x128 .bf16 :=
  transpose S128x128 [1, 0] (shapeCast S128x128 a shapeCasts_S1x128x128_S128x128) transposes_S128x128_p1_0_S128x128

/-- Four columns of queries, transposed, side by side. -/
def queries (a b c d : Vec Ideal S1x128x128 .bf16) : FVec Ideal S128x512 .bf16 :=
  concatenate S128x512 1 [⟨S128x128, flip a⟩, ⟨S128x128, flip b⟩, ⟨S128x128, flip c⟩, ⟨S128x128, flip d⟩]
    concatenates_S128x128_S128x128_S128x128_S128x128_S128x512_d1

/-- The products of the keys' lanes that `keep` selects with the queries. -/
def prods (keep : IVec S256x128 1) (K : FVec Ideal S256x128 .f32) (Q : FVec Ideal S128x512 .bf16) : FVec Ideal S256x512 .f32 :=
  matmul dot_S256x128_S128x512_S256x512_1_0_0_1_n_n none
    (truncf .bf16 (select keep K (broadcast S256x128 (Scalar.ofBits .f32 0x00000000#32))) bitsLt_bf16_f32) Q
    (constant S256x512 .f32 0x00000000#32)

/-- A column of the products, masked. -/
def masked (msk : IVec S256x128 1) (D : FVec Ideal S256x512 .f32) (a : ℕ) (hs : S256x512.Slices ![0, a] S256x128) : FVec Ideal S256x128 .f32 :=
  select msk (extractStridedSlice S256x128 ![0, a] D hs) (broadcast S256x128 (Named.named κ "mask" 0xF149F2CA#32))

/-- The masked scores of the four columns. -/
def scores (msk : IVec S256x128 1) (D : FVec Ideal S256x512 .f32) : FVec Ideal S256x512 .f32 :=
  concatenate S256x512 1 [⟨S256x128, masked msk D 0 slices_S256x512_o0_0_S256x128⟩, ⟨S256x128, masked msk D 128 slices_S256x512_o0_128_S256x128⟩,
    ⟨S256x128, masked msk D 256 slices_S256x512_o0_256_S256x128⟩, ⟨S256x128, masked msk D 384 slices_S256x512_o0_384_S256x128⟩]
    concatenates_S256x128_S256x128_S256x128_S256x128_S256x512_d1

/-- The greatest score of each column. -/
def peak (S : FVec Ideal S256x512 .f32) : FVec Ideal S1x512 .f32 :=
  shapeCast S1x512 (multiReduction .maximumf [0] S512 S 0xFF800000#32 reduces_S256x512_S512 (.inl rfl) rfl) shapeCasts_S512_S1x512

def sinkRow (t : Vec Ideal S1x512 .f32) : FVec Ideal S1x512 .f32 := shapeCast S1x512 t shapeCasts_S1x512_S1x512

/-- The shift: the greatest score or the sink. -/
def shift (S : FVec Ideal S256x512 .f32) (t : Vec Ideal S1x512 .f32) : FVec Ideal S1x512 .f32 := maximumf (peak S) (sinkRow t)

def weights2 (S : FVec Ideal S256x512 .f32) (t : Vec Ideal S1x512 .f32) : FVec Ideal S256x512 .f32 :=
  exp2 (subf (shapeCast S256x512 (shapeCast S1x256x512 S shapeCasts_S256x512_S1x256x512) shapeCasts_S1x256x512_S256x512)
    (broadcastTo S256x512 (shift S t) broadcasts_S1x512_S256x512))

def denom (S : FVec Ideal S256x512 .f32) (t : Vec Ideal S1x512 .f32) : FVec Ideal S1x512 .f32 :=
  addf (shapeCast S1x512 (multiReduction .add [0] S512 (weights2 S t) 0x00000000#32 reduces_S256x512_S512 (.inl rfl) rfl) shapeCasts_S512_S1x512)
    (exp2 (subf (sinkRow t) (shift S t)))

/-- The attention of one copy: lanes by queries. -/
def mean (S : FVec Ideal S256x512 .f32) (t : Vec Ideal S1x512 .f32) (Vt : FVec Ideal S128x256 .bf16) : FVec Ideal S128x512 .f32 :=
  mulf (matmul dot_S128x256_S256x512_S128x512_1_0_0_1_n_n none Vt (truncf .bf16 (weights2 S t) bitsLt_bf16_f32) (constant S128x512 .f32 0x00000000#32))
    (broadcastTo S128x512 (divf (broadcast S1x512 (Scalar.ofBits .f32 0x3F800000#32)) (denom S t)) broadcasts_S1x512_S128x512)

/-- One column of the output: the first 64 lanes of one copy's and the last 64 of the other's, transposed. -/
def tile (A B : FVec Ideal S128x512 .f32) (a : ℕ) (hs : S128x512.Slices ![0, a] S128x128) : FVec Ideal S1x128x128 .bf16 :=
  shapeCast S1x128x128 (truncf .bf16 (transpose S128x128 [1, 0] (select k0_pay3 (extractStridedSlice S128x128 ![0, a] A hs)
    (extractStridedSlice S128x128 ![0, a] B hs)) transposes_S128x128_p1_0_S128x128) bitsLt_bf16_f32) shapeCasts_S128x128_S1x128x128

theorem rows_apply (a b : Vec Ideal S1x128x256 .bf16) (k : Fin 256) (l : Fin 256) :
    rows a b (ix2 k l) = if h : k.val < 128 then a (ix3 0 ⟨k.val, h⟩ l) else b (ix3 0 ⟨k.val - 128, by omega⟩ l) := by
  unfold rows
  pointwise

theorem flip_apply (a : Vec Ideal S1x128x128 .bf16) (l r : Fin 128) : flip a (ix2 l r) = a (ix3 0 r l) := by
  unfold flip
  pointwise

theorem queries_apply (a b c d : Vec Ideal S1x128x128 .bf16) (l : Fin 128) (x : Fin 512) :
    queries a b c d (ix2 l x) = if h : x.val < 128 then a (ix3 0 ⟨x.val, h⟩ l) else if h : x.val - 128 < 128 then b (ix3 0 ⟨x.val - 128, h⟩ l)
      else if h : x.val - 256 < 128 then c (ix3 0 ⟨x.val - 256, h⟩ l) else d (ix3 0 ⟨x.val - 384, by omega⟩ l) := by
  simp only [← flip_apply]
  unfold queries
  generalize flip a = a
  generalize flip b = b
  generalize flip c = c
  generalize flip d = d
  pointwise
  rfl

theorem prods_apply (keep : IVec S256x128 1) (K : FVec Ideal S256x128 .f32) (Q : FVec Ideal S128x512 .bf16) (k : Fin 256) (x : Fin 512) :
    prods keep K Q (ix2 k x) = ∑ l : Fin 128, (if keep (ix2 k l) = 1#1 then K (ix2 k l) else 0) * Q (ix2 l x) := by
  unfold prods
  pointwise [dot_S256x128_S128x512_S256x512_1_0_0_1_n_n]
  refine Finset.sum_congr rfl fun l _ => ?_
  unfold Scalar.select
  by_cases h : keep (ix2 k l) = 1
  · rw [if_pos h, if_pos (show keep (ix2 k l) = 1#1 from h)]
  · rw [if_neg h, if_neg (show ¬keep (ix2 k l) = 1#1 from h), zero_mul]

theorem bot_bits : (Ideal.ofBits .f32 0xFF800000#32 : EReal) = ⊥ := by
  unfold Ideal.ofBits
  simp [Ideal.ieee]

theorem mask_eq : (Named.named κ "mask" 0xF149F2CA#32 : Ideal .f32) = ⊥ := rfl

theorem scores_apply (msk : IVec S256x128 1) (D : FVec Ideal S256x512 .f32) (k : Fin 256) (x : Fin 512) :
    scores msk D (ix2 k x) = if msk (ix2 k ⟨x.val % 128, by omega⟩) = 1#1 then D (ix2 k x) else ⊥ := by
  unfold scores masked
  pointwise
  unfold Scalar.select
  rw [mask_eq]
  have key : ∀ (y : Fin 128) (z : Fin 512), y.val = x.val % 128 → z.val = x.val →
      (if msk (ix2 k y) = 1#1 then D (ix2 k z) else ⊥) = if msk (ix2 k ⟨x.val % 128, by omega⟩) = 1#1 then D (ix2 k x) else ⊥ := by
    intro y z hy hz
    have ey : y = ⟨x.val % 128, by omega⟩ := Fin.ext hy
    have ez : z = x := Fin.ext hz
    exact (congrArg₂ (fun a b => if msk (ix2 k a) = 1#1 then D (ix2 k b) else ⊥) ey ez :)
  split
  · exact key _ _ (by show x.val = _; omega) rfl
  · split
    · exact key _ _ (by show x.val - 128 = _; omega) (by show 128 + (x.val - 128) = _; omega)
    · split
      · exact key _ _ (by show x.val - 128 - 128 = _; omega) (by show 256 + (x.val - 128 - 128) = _; omega)
      · exact key _ _ (by show x.val - 128 - 128 - 128 = _; omega) (by show 384 + (x.val - 128 - 128 - 128) = _; omega)

theorem peak_apply (S : FVec Ideal S256x512 .f32) (x : Fin 512) : peak S (ix2 0 x) = Finset.univ.fold max ⊥ fun k => S (ix2 k x) := by
  unfold peak
  pointwise
  rw [bot_bits]

theorem weights2_apply (S : FVec Ideal S256x512 .f32) (t : Vec Ideal S1x512 .f32) (k : Fin 256) (x : Fin 512) :
    weights2 S t (ix2 k x) = wt (fun k => S (ix2 k x)) (t (ix2 0 x)) k := by
  unfold wt top
  rw [← peak_apply]
  unfold weights2 shift sinkRow
  generalize peak S = P
  pointwise
  rfl

theorem denom_apply (S : FVec Ideal S256x512 .f32) (t : Vec Ideal S1x512 .f32) (x : Fin 512) :
    denom S t (ix2 0 x) = den (fun k => S (ix2 k x)) (t (ix2 0 x)) := by
  unfold den
  simp only [← weights2_apply]
  unfold top
  rw [← peak_apply]
  unfold denom shift sinkRow
  generalize peak S = P
  generalize weights2 S t = W
  pointwise
  rfl

theorem mean_apply (S : FVec Ideal S256x512 .f32) (t : Vec Ideal S1x512 .f32) (Vt : FVec Ideal S128x256 .bf16) (l : Fin 128) (x : Fin 512) :
    mean S t Vt (ix2 l x) = soft (fun k => S (ix2 k x)) (t (ix2 0 x)) fun k => Vt (ix2 l k) := by
  unfold soft
  rw [← denom_apply]
  simp only [← weights2_apply]
  unfold mean
  generalize denom S t = P
  generalize weights2 S t = W
  pointwise [dot_S128x256_S256x512_S128x512_1_0_0_1_n_n]

theorem slt64 : ∀ l : Fin 128, IntOp.cmpi .slt (BitVec.ofNat 32 l.val) 64#32 = 1#1 ↔ l.val < 64 := by decide +kernel
theorem sge64 : ∀ l : Fin 128, IntOp.cmpi .sge (BitVec.ofNat 32 l.val) 64#32 = 1#1 ↔ ¬ l.val < 64 := by decide +kernel

theorem low_apply (k : Fin 256) (l : Fin 128) : low (ix2 k l) = 1#1 ↔ l.val < 64 := by
  have e : low (ix2 k l) = IntOp.cmpi .slt (BitVec.ofNat 32 l.val) 64#32 := by
    unfold low
    pointwise
  rw [e, slt64]

theorem high_apply (k : Fin 256) (l : Fin 128) : high (ix2 k l) = 1#1 ↔ ¬ l.val < 64 := by
  have e : high (ix2 k l) = IntOp.cmpi .sge (BitVec.ofNat 32 l.val) 64#32 := by
    unfold high
    pointwise
  rw [e, sge64]

theorem tile_apply (A B : FVec Ideal S128x512 .f32) (a : ℕ) (hs : S128x512.Slices ![0, a] S128x128) (r l : Fin 128) (x : Fin 512) (hx : x.val = a + r.val) :
    tile A B a hs (ix3 0 r l) = if l.val < 64 then A (ix2 l x) else B (ix2 l x) := by
  unfold tile k0_pay3
  pointwise
  have e : (⟨a + r.val, hx ▸ x.isLt⟩ : Fin 512) = x := Fin.ext hx.symm
  rw [e]
  unfold Scalar.select
  exact if_congr (slt64 l) rfl rfl

end Cert.Band

end
-- ==== Proof.Band.Block.lean ====
/-
  What the kernel's body leaves in the output block of 512 rows: 32 stores, one per block of 128 rows and column of 128
  lanes, each a tile of the attention of two copies of a key head.
-/
module

public import proofs.«01_k».proof.Proof.Gen.Kernel4Ideal.Value
public import proofs.«01_k».proof.Proof.Band.Payload
public import Idealize.ShloMosaic.Lib.Pipeline.Value
public import Idealize.ShloMosaic.Lib.Pipeline.ReadBack
public import Idealize.ShloMosaic.Lib.Pipeline.ValueKit.Tiles
public import Idealize.ShloMosaic.Lib.Tactic

@[expose] public section

set_option maxRecDepth 16384

noncomputable section

open Idealize.ShloMosaic Idealize.ShloMosaic.TcCoe Idealize.SL.Sem

namespace Cert.Band

open Cert.Kernel4Ideal Cert.Kernel4Ideal.Gen

theorem hz3 : (![0, 0, 0] : Fin 3 → Nat) = fun _ => 0 := funext fun a => by fin_cases a <;> rfl

/-! ## The tiles -/

/-- The five staged blocks, by number. -/
def pick (a b c d e : Vec Ideal S1x128x256 .bf16) : ℕ → Vec Ideal S1x128x256 .bf16
  | 0 => a
  | 1 => b
  | 2 => c
  | 3 => d
  | _ => e

/-- The mask of block `s` of the point's four: the first also leaves out the keys before the sequence. -/
def maskOf (i : grid0.Coords) : ℕ → IVec S256x128 1
  | 0 => k0_pay5 i
  | _ => k0_pay2

theorem tile_inb (s w : ℕ) (hs : s < 4) (hw : w < 8) :
    ∀ a, (![0, 128 * s, 128 * w] : Fin 3 → ℕ) a + (![1, 128, 128] : Fin 3 → ℕ) a ≤ S1x512x1024.size a := fun a => by
  match a with
  | ⟨0, _⟩ => show 0 + 1 ≤ 1; omega
  | ⟨1, _⟩ => show 128 * s + 128 ≤ 512; omega
  | ⟨2, _⟩ => show 128 * w + 128 ≤ 1024; omega

theorem row_inb (a : ℕ) (ha : a < 4) : ∀ b, (![a, 0] : Fin 2 → ℕ) b + (![1, 512] : Fin 2 → ℕ) b ≤ S8x512.size b := fun b => by
  match b with
  | ⟨0, _⟩ => show a + 1 ≤ 8; omega
  | ⟨1, _⟩ => show 0 + 512 ≤ 512; omega

theorem key_slices (g : ℕ) (hg : g < 2) : S256x256.Slices ![0, 128 * g] S256x128 := ⟨rfl, fun a => by
  match a with
  | ⟨0, _⟩ => show 0 + 256 ≤ 256; omega
  | ⟨1, _⟩ => show 128 * g + 128 ≤ 256; omega⟩

theorem val_slices (g : ℕ) (hg : g < 2) : S256x256.Slices ![128 * g, 0] S128x256 := ⟨rfl, fun a => by
  match a with
  | ⟨0, _⟩ => show 128 * g + 128 ≤ 256; omega
  | ⟨1, _⟩ => show 0 + 256 ≤ 256; omega⟩

theorem col_slices (c : ℕ) (hc : c < 4) : S128x512.Slices ![0, 128 * c] S128x128 := ⟨rfl, fun a => by
  match a with
  | ⟨0, _⟩ => show 0 + 128 ≤ 128; omega
  | ⟨1, _⟩ => show 128 * c + 128 ≤ 512; omega⟩

/-- Block `s`, column `w` of the queries. -/
def qTile (x1 : Vec Ideal S1x512x1024 .bf16) (s w : ℕ) (hs : s < 4) (hw : w < 8) : Vec Ideal S1x128x128 .bf16 :=
  View.ld x1 (Rect.unit (s := S1x512x1024) ![0, 128 * s, 128 * w] ![1, 128, 128] (tile_inb s w hs hw))

/-- The attention of block `s` of the queries with key head `g`, the copy that `keep` selects, with the sinks of row `a`. -/
def copyOf (x0 : Vec Ideal S8x512 .f32) (x1 : Vec Ideal S1x512x1024 .bf16) (msk keep : IVec S256x128 1) (ka kb va vb : Vec Ideal S1x128x256 .bf16)
    (s g a : ℕ) (hs : s < 4) (hg : g < 2) (ha : a < 4) : FVec Ideal S128x512 .f32 :=
  mean (scores msk (prods keep (extractStridedSlice S256x128 ![0, 128 * g] (extf (F := Ideal) .f32 (rows ka kb) bitsLt_bf16_f32) (key_slices g hg))
      (queries (qTile x1 s (4 * g) hs (by omega)) (qTile x1 s (4 * g + 1) hs (by omega)) (qTile x1 s (4 * g + 2) hs (by omega))
        (qTile x1 s (4 * g + 3) hs (by omega)))))
    (View.ld x0 (Rect.unit (s := S8x512) ![a, 0] ![1, 512] (row_inb a ha)))
    (extractStridedSlice S128x256 ![128 * g, 0] (transpose S256x256 [1, 0] (rows va vb) transposes_S256x256_p1_0_S256x256) (val_slices g hg))

/-- Block `s`, column `4 g + c` of the output. -/
def outTile (x0 : Vec Ideal S8x512 .f32) (x1 : Vec Ideal S1x512x1024 .bf16) (msk : IVec S256x128 1) (ka kb va vb : Vec Ideal S1x128x256 .bf16)
    (s g c : ℕ) (hs : s < 4) (hg : g < 2) (hc : c < 4) : FVec Ideal S1x128x128 .bf16 :=
  tile (copyOf x0 x1 msk low ka kb va vb s g (2 * g) hs hg (by omega)) (copyOf x0 x1 msk high ka kb va vb s g (2 * g + 1) hs hg (by omega))
    (128 * c) (col_slices c hc)

/-- The tile of store `n`. -/
def tileAt (i : grid0.Coords) (x0 : Vec Ideal S8x512 .f32) (x1 : Vec Ideal S1x512x1024 .bf16) (x2 x3 x4 x5 x6 x7 x8 x9 x10 x11 : Vec Ideal S1x128x256 .bf16)
    (n : ℕ) (hn : n < 32) : FVec Ideal S1x128x128 .bf16 :=
  outTile x0 x1 (maskOf i (n / 8)) (pick x2 x3 x4 x5 x6 (n / 8)) (pick x2 x3 x4 x5 x6 (n / 8 + 1)) (pick x7 x8 x9 x10 x11 (n / 8))
    (pick x7 x8 x9 x10 x11 (n / 8 + 1)) (n / 8) (n / 4 % 2) (n % 4) (by omega) (by omega) (by omega)

/-! ## The stores -/

/-- The first `n` stores, the latest first. -/
def stores (W : (n : ℕ) → n < 32 → Vec Ideal S1x128x128 .bf16) : (n : ℕ) → n ≤ 32 → List (View.Piece (Elt Ideal) S1x512x1024 .bf16)
  | 0, _ => []
  | n + 1, h => ⟨Rect.unit (s := S1x512x1024) ![0, 128 * (n / 8), 128 * (n % 8)] ![1, 128, 128] (tile_inb (n / 8) (n % 8) (by omega) (by omega)), W n h⟩ :: stores W n (by omega)

/-- A row and a lane of a tile, in the block. -/
theorem stores_apply (W : (n : ℕ) → n < 32 → Vec Ideal S1x128x128 .bf16) (r l : Fin 128) (k : ℕ) (hk : k < 32) :
    ∀ (n : ℕ) (hn : n ≤ 32), k < n →
      View.canon (stores W n hn) (ix3 0 ⟨128 * (k / 8) + r.val, by omega⟩ ⟨128 * (k % 8) + l.val, by omega⟩) = W k hk (ix3 0 r l) := by
  intro n
  induction n with
  | zero => exact fun _ h => absurd h (Nat.not_lt_zero k)
  | succ n ih =>
    intro hn hkn
    unfold stores
    by_cases he : k = n
    · subst he
      have e : (ix3 0 ⟨128 * (k / 8) + r.val, by omega⟩ ⟨128 * (k % 8) + l.val, by omega⟩ : S1x512x1024.Idx)
          = (Rect.unit (s := S1x512x1024) ![0, 128 * (k / 8), 128 * (k % 8)] ![1, 128, 128] (tile_inb (k / 8) (k % 8) (by omega) (by omega))).emb (ix3 0 r l) :=
        funext fun b => Fin.ext (by
          match b with
          | ⟨0, _⟩ => rfl
          | ⟨1, _⟩ => show 128 * (k / 8) + r.val = 128 * (k / 8) + 1 * r.val; omega
          | ⟨2, _⟩ => show 128 * (k % 8) + l.val = 128 * (k % 8) + 1 * l.val; omega)
      rw [e, View.canon_cons_emb]
    · rw [View.canon_cons_of_not_mem _ _ (by
        rw [Rect.mem_set_unit]
        intro h
        have h1 := h 1
        have h2 := h 2
        change 128 * (n / 8) ≤ 128 * (k / 8) + r.val ∧ 128 * (k / 8) + r.val < 128 * (n / 8) + 128 at h1
        change 128 * (n % 8) ≤ 128 * (k % 8) + l.val ∧ 128 * (k % 8) + l.val < 128 * (n % 8) + 128 at h2
        omega)]
      exact ih (by omega) (by omega)

set_option maxHeartbeats 8000000 in
/-- What the body leaves: the 32 tiles. -/
theorem out_eq (c : Dev nD) (i : grid0.Coords) (arg2 : Memref sig .tc .vmem S8x512 .f32) (harg2 : arg2.IsWhole) (arg3 : Memref sig .tc .vmem S1x512x1024 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x128x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S1x128x256 .bf16) (harg10 : arg10.IsWhole) (arg11 : Memref sig .tc .vmem S1x128x256 .bf16) (harg11 : arg11.IsWhole) (arg12 : Memref sig .tc .vmem S1x128x256 .bf16) (harg12 : arg12.IsWhole) (arg13 : Memref sig .tc .vmem S1x128x256 .bf16) (harg13 : arg13.IsWhole) (arg14 : Memref sig .tc .vmem S1x512x1024 .bf16) (harg14 : arg14.IsWhole) (arg15 : Memref sig .tc .vmem S16x256x512 .f32) (harg15 : arg15.IsWhole)
    (x0 : Vec Ideal S8x512 .f32) (x1 : Vec Ideal S1x512x1024 .bf16) (x2 : Vec Ideal S1x128x256 .bf16) (x3 : Vec Ideal S1x128x256 .bf16) (x4 : Vec Ideal S1x128x256 .bf16) (x5 : Vec Ideal S1x128x256 .bf16) (x6 : Vec Ideal S1x128x256 .bf16) (x7 : Vec Ideal S1x128x256 .bf16) (x8 : Vec Ideal S1x128x256 .bf16) (x9 : Vec Ideal S1x128x256 .bf16) (x10 : Vec Ideal S1x128x256 .bf16) (x11 : Vec Ideal S1x128x256 .bf16) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 = View.canon (stores (tileAt i x0 x1 x2 x3 x4 x5 x6 x7 x8 x9 x10 x11) 32 (le_refl _)) := by
  have hcov := cover0_A_12 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11
  unfold out0_A_12
  rw [View.read_writes_eq_canon _ _ _ hcov]
  clear hcov
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1x128x256) hz3, View.readCov_cons_toLoadRect]
  simp (disch := decide) only [View.readCov_skip, View.readCov_cons_toLoadRect]
  rfl

end Cert.Band

end
-- ==== Proof.Band.Tile.lean ====
/-
  The tiles of the output block, read at a row and a lane: the softmax over the 256 keys of the row's own block and the one
  before it.
-/
module

public import proofs.«01_k».proof.Proof.Band.Block

@[expose] public section

noncomputable section

open Idealize.ShloMosaic

namespace Cert.Band

open Cert.Kernel4Ideal Cert.Kernel4Ideal.Gen

theorem qTile_apply (x1 : Vec Ideal S1x512x1024 .bf16) (s w : ℕ) (hs : s < 4) (hw : w < 8) (r l : Fin 128) :
    qTile x1 s w hs hw (ix3 0 r l) = x1 (ix3 0 ⟨128 * s + r.val, by omega⟩ ⟨128 * w + l.val, by omega⟩) :=
  View.ld_unit_apply_of x1 _ _ (tile_inb s w hs hw) (ix3 0 r l) (ix3 0 ⟨128 * s + r.val, by omega⟩ ⟨128 * w + l.val, by omega⟩) fun i => by
    match i with
    | ⟨0, _⟩ => rfl
    | ⟨1, _⟩ => rfl
    | ⟨2, _⟩ => rfl

theorem sinks_apply (x0 : Vec Ideal S8x512 .f32) (a : ℕ) (ha : a < 4) (x : Fin 512) :
    View.ld x0 (Rect.unit (s := S8x512) ![a, 0] ![1, 512] (row_inb a ha)) (ix2 0 x) = x0 (ix2 ⟨a, by omega⟩ x) :=
  View.ld_unit_apply_of x0 _ _ (row_inb a ha) (ix2 0 x) (ix2 ⟨a, by omega⟩ x) fun i => by
    match i with
    | ⟨0, _⟩ => rfl
    | ⟨1, _⟩ => exact (Nat.zero_add _).symm

/-- The queries of one group, at a lane and a query of column `c`. -/
theorem group_apply (x1 : Vec Ideal S1x512x1024 .bf16) (s g c : ℕ) (hs : s < 4) (hg : g < 2) (hc : c < 4) (l r : Fin 128) :
    queries (qTile x1 s (4 * g) hs (by omega)) (qTile x1 s (4 * g + 1) hs (by omega)) (qTile x1 s (4 * g + 2) hs (by omega))
        (qTile x1 s (4 * g + 3) hs (by omega)) (ix2 l ⟨128 * c + r.val, by omega⟩)
      = x1 (ix3 0 ⟨128 * s + r.val, by omega⟩ ⟨128 * (4 * g + c) + l.val, by omega⟩) := by
  rw [queries_apply]
  simp only [qTile_apply]
  have key : ∀ (y : Fin 512) (z : Fin 1024), y.val = 128 * s + r.val → z.val = 128 * (4 * g + c) + l.val →
      x1 (ix3 0 y z) = x1 (ix3 0 ⟨128 * s + r.val, by omega⟩ ⟨128 * (4 * g + c) + l.val, by omega⟩) := fun y z hy hz =>
    (congrArg₂ (fun a b => x1 (ix3 0 a b)) (Fin.ext hy : y = ⟨128 * s + r.val, by omega⟩) (Fin.ext hz : z = ⟨128 * (4 * g + c) + l.val, by omega⟩) :)
  split
  · exact key _ _ (by show 128 * s + (128 * c + r.val) = _; omega) (by show 128 * (4 * g) + l.val = _; omega)
  · split
    · exact key _ _ (by show 128 * s + (128 * c + r.val - 128) = _; omega) (by show 128 * (4 * g + 1) + l.val = _; omega)
    · split
      · exact key _ _ (by show 128 * s + (128 * c + r.val - 256) = _; omega) (by show 128 * (4 * g + 2) + l.val = _; omega)
      · exact key _ _ (by show 128 * s + (128 * c + r.val - 384) = _; omega) (by show 128 * (4 * g + 3) + l.val = _; omega)

theorem keys_apply (K : FVec Ideal S256x256 .bf16) (g : ℕ) (hg : g < 2) (k : Fin 256) (l : Fin 128) :
    extractStridedSlice S256x128 ![0, 128 * g] (extf (F := Ideal) .f32 K bitsLt_bf16_f32) (key_slices g hg) (ix2 k l)
      = K (ix2 k ⟨128 * g + l.val, by omega⟩) :=
  extractStridedSlice_apply _ _ _ _ (ix2 k ⟨128 * g + l.val, by omega⟩) fun b => by
    match b with
    | ⟨0, _⟩ => exact (Nat.zero_add _).symm
    | ⟨1, _⟩ => rfl

theorem vals_apply (V : FVec Ideal S256x256 .bf16) (g : ℕ) (hg : g < 2) (l : Fin 128) (k : Fin 256) :
    extractStridedSlice S128x256 ![128 * g, 0] (transpose S256x256 [1, 0] V transposes_S256x256_p1_0_S256x256) (val_slices g hg) (ix2 l k)
      = V (ix2 k ⟨128 * g + l.val, by omega⟩) := by
  refine (extractStridedSlice_apply _ _ _ _ (ix2 (⟨128 * g + l.val, by omega⟩ : Fin 256) k) fun b => ?_).trans ?_
  · match b with
    | ⟨0, _⟩ => rfl
    | ⟨1, _⟩ => exact (Nat.zero_add _).symm
  · generalize (⟨128 * g + l.val, by omega⟩ : Fin 256) = z
    pointwise

/-- One copy's attention, at a lane and a query of column `c`. -/
theorem copyOf_apply (x0 : Vec Ideal S8x512 .f32) (x1 : Vec Ideal S1x512x1024 .bf16) (msk keep : IVec S256x128 1) (ka kb va vb : Vec Ideal S1x128x256 .bf16)
    (s g a c par : ℕ) (hs : s < 4) (hg : g < 2) (ha : a < 4) (hc : c < 4) (hp : par < 2)
    (hk : ∀ (k : Fin 256) (l : Fin 128), keep (ix2 k l) = 1#1 ↔ l.val / 64 = par) (l r : Fin 128) :
    copyOf x0 x1 msk keep ka kb va vb s g a hs hg ha (ix2 l ⟨128 * c + r.val, by omega⟩)
      = soft (fun k => if msk (ix2 k r) = 1#1 then
            ∑ d : Fin 64, rows ka kb (ix2 k ⟨128 * g + 64 * par + d.val, by omega⟩)
              * x1 (ix3 0 ⟨128 * s + r.val, by omega⟩ ⟨128 * (4 * g + c) + 64 * par + d.val, by omega⟩) else ⊥)
          (x0 (ix2 ⟨a, by omega⟩ ⟨128 * c + r.val, by omega⟩)) fun k => rows va vb (ix2 k ⟨128 * g + l.val, by omega⟩) := by
  unfold copyOf
  rw [mean_apply]
  simp only [scores_apply, prods_apply, group_apply x1 s g c hs hg hc]
  have et := sinks_apply x0 a ha ⟨128 * c + r.val, by omega⟩
  have ev : (fun k : Fin 256 => extractStridedSlice S128x256 ![128 * g, 0] (transpose S256x256 [1, 0] (rows va vb) transposes_S256x256_p1_0_S256x256)
      (val_slices g hg) (ix2 l k)) = fun k => rows va vb (ix2 k ⟨128 * g + l.val, by omega⟩) := funext fun k => vals_apply _ g hg l k
  refine Eq.trans ?_ (congrArg₂ (soft _) et ev)
  congr 1
  funext k
  have er : (⟨(128 * c + r.val) % 128, by omega⟩ : Fin 128) = r := Fin.ext (show (128 * c + r.val) % 128 = r.val by omega)
  rw [er]
  refine if_congr Iff.rfl ?_ rfl
  rw [half_sum par hp _ fun l hl => by rw [if_neg (fun h => hl ((hk k l).mp h)), zero_mul]]
  refine Finset.sum_congr rfl fun d _ => ?_
  rw [if_pos ((hk k _).mpr (show (64 * par + d.val) / 64 = par by omega))]
  refine congrArg₂ (· * ·) ((keys_apply _ g hg k _).trans ?_) ?_
  · exact congrArg (fun z => rows ka kb (ix2 k z)) (Fin.ext (show 128 * g + (64 * par + d.val) = 128 * g + 64 * par + d.val by omega))
  · exact congrArg (fun z => x1 (ix3 0 _ z)) (Fin.ext (show 128 * (4 * g + c) + (64 * par + d.val) = 128 * (4 * g + c) + 64 * par + d.val by omega))

/-- The tile at a row and a lane. -/
theorem outTile_apply (x0 : Vec Ideal S8x512 .f32) (x1 : Vec Ideal S1x512x1024 .bf16) (msk : IVec S256x128 1) (ka kb va vb : Vec Ideal S1x128x256 .bf16)
    (s g c : ℕ) (hs : s < 4) (hg : g < 2) (hc : c < 4) (r l : Fin 128) :
    outTile x0 x1 msk ka kb va vb s g c hs hg hc (ix3 0 r l)
      = soft (fun k => if msk (ix2 k r) = 1#1 then
            ∑ d : Fin 64, rows ka kb (ix2 k ⟨128 * g + 64 * (l.val / 64) + d.val, by omega⟩)
              * x1 (ix3 0 ⟨128 * s + r.val, by omega⟩ ⟨128 * (4 * g + c) + 64 * (l.val / 64) + d.val, by omega⟩) else ⊥)
          (x0 (ix2 ⟨2 * g + l.val / 64, by omega⟩ ⟨128 * c + r.val, by omega⟩)) fun k => rows va vb (ix2 k ⟨128 * g + l.val, by omega⟩) := by
  unfold outTile
  rw [tile_apply _ _ _ _ r l ⟨128 * c + r.val, by omega⟩ rfl]
  by_cases hl : l.val < 64
  · have h0 : l.val / 64 = 0 := by omega
    rw [if_pos hl, copyOf_apply x0 x1 msk low ka kb va vb s g (2 * g) c 0 hs hg (by omega) hc (by omega)
      (fun k l => (low_apply k l).trans (by omega))]
    simp only [h0]
    rfl
  · have h1 : l.val / 64 = 1 := by omega
    rw [if_neg hl, copyOf_apply x0 x1 msk high ka kb va vb s g (2 * g + 1) c 1 hs hg (by omega) hc (by omega)
      (fun k l => (high_apply k l).trans (by omega))]
    simp only [h1]

/-- A query sees the 128 keys up to its own place, and of these the keys that exist. -/
def sees (n r k : ℕ) : Prop := (k ≤ r + 128 ∧ r < k) ∧ (0 < n ∨ 128 ≤ k)

instance (n r k : ℕ) : Decidable (sees n r k) := inferInstanceAs (Decidable ((k ≤ r + 128 ∧ r < k) ∧ (0 < n ∨ 128 ≤ k)))

theorem andi_iff : ∀ x y : BitVec 1, IntOp.andi x y = 1#1 ↔ x = 1#1 ∧ y = 1#1 := by decide
theorem ori_iff : ∀ x y : BitVec 1, IntOp.ori x y = 1#1 ↔ x = 1#1 ∨ y = 1#1 := by decide

/-- The window's two comparisons. -/
theorem window_iff (r : Fin 128) (k : Fin 256) :
    IntOp.andi (IntOp.cmpi .sge (IntOp.subi (IntOp.addi (BitVec.ofNat 32 r.val) 128#32) (BitVec.ofNat 32 k.val)) 0#32)
      (IntOp.cmpi .slt (IntOp.subi (IntOp.addi (BitVec.ofNat 32 r.val) 128#32) (BitVec.ofNat 32 k.val)) 128#32) = 1#1 ↔ k.val ≤ r.val + 128 ∧ r.val < k.val := by
  revert r k
  decide +kernel

theorem ge128 : ∀ k : Fin 256, IntOp.cmpi .sge (BitVec.ofNat 32 k.val) 128#32 = 1#1 ↔ 128 ≤ k.val := by decide +kernel
theorem ge0 : ∀ k : Fin 256, IntOp.cmpi .sge (BitVec.ofNat 32 k.val) 0#32 = 1#1 := by decide +kernel

theorem pay2_apply (k : Fin 256) (r : Fin 128) : k0_pay2 (ix2 k r) = 1#1 ↔ k.val ≤ r.val + 128 ∧ r.val < k.val := by
  rw [← window_iff]
  unfold k0_pay2
  pointwise

theorem pay5_apply (i : grid0.Coords) (k : Fin 256) (r : Fin 128) :
    k0_pay5 i (ix2 k r) = 1#1 ↔ (k.val ≤ r.val + 128 ∧ r.val < k.val) ∧ (0 < (i 1).val ∨ 128 ≤ k.val) := by
  rw [← pay2_apply]
  have h1 : (i 1).val < 32 := (i 1).isLt
  unfold k0_pay5
  generalize (i 1).val = n at h1 ⊢
  have e : Scalar.select (Scalar.cmpi .sgt (BitVec.ofNat 32 n) 0#32) 0#32 128#32 = if 0 < n then 0#32 else 128#32 := by
    revert n
    decide +kernel
  generalize k0_pay2 = M
  dsimp only
  rw [e]
  pointwise
  rw [andi_iff]
  refine and_congr Iff.rfl ?_
  by_cases hn : 0 < n
  · simp only [hn, if_true, true_or, ge0]
  · simp only [hn, if_false, false_or, ge128]

/-- The mask of block `s` of the point. -/
theorem maskOf_apply (i : grid0.Coords) (s : ℕ) (k : Fin 256) (r : Fin 128) :
    maskOf i s (ix2 k r) = 1#1 ↔ sees (4 * (i 1).val + s) r.val k.val := by
  unfold sees
  cases s with
  | zero => exact (pay5_apply i k r).trans (and_congr Iff.rfl (or_congr (by omega) Iff.rfl))
  | succ s => exact (pay2_apply k r).trans ⟨fun h => ⟨h, Or.inl (by omega)⟩, fun h => h.1⟩

end Cert.Band

end
-- ==== Proof.Band.Array.lean ====
/-
  The kernel's result array after the run: each row and lane is `att` of the arguments. Grid point `t` stages 512 rows of
  one sequence of the queries, and of the keys and the values the four blocks of 128 rows that these rows are and the one
  before them; and the sinks as rows, one value per column of queries.
-/
module

public import proofs.«01_k».proof.Proof.Band.Tile
public import proofs.«01_k».proof.Proof.Gen.Kernel4Ideal.Value
public import Idealize.ShloMosaic.Lib.KernelVsHost
public import Idealize.ShloMosaic.Lib.StableHlo.Run

@[expose] public section

noncomputable section

open Idealize.ShloMosaic Idealize.ShloMosaic.TcCoe Idealize.SL.Sem
open Idealize.ShloMosaic.Pipeline (Dat)

namespace Cert.Band

open Cert.Kernel4Ideal Cert.Kernel4Ideal.Gen

variable (m : (ℓ : Loc nD τ sig) → Buf (Elt Ideal) ℓ)

/-- The base-two logarithm of e, as the kernel and the reference write it. -/
def log2e : EReal := Ideal.ofBits .f32 0x3FB8AA3B#32

/-- The place in the sequence of key `k` of a query of block `n`; the keys before the sequence are not read. -/
def place (n k : ℕ) : Fin 16384 := ⟨min (128 * n + k - 128) 16383, by omega⟩

/-- A query's score for a key: −∞ where the query does not see it. -/
def score (q : S2x16384x1024.Idx → EReal) (k : S2x16384x256.Idx → EReal) (b : Fin 2) (p : Fin 16384) (h : Fin 16) (x : Fin 256) : EReal :=
  if sees (p.val / 128) (p.val % 128) x.val then
    ∑ d : Fin 64, q (ix3 b p ⟨64 * h.val + d.val, by omega⟩) * k (ix3 b (place (p.val / 128) x.val) ⟨128 * (h.val / 8) + 64 * (h.val % 2) + d.val, by omega⟩)
  else ⊥

/-- The sink of head `h`, in base two. -/
def sink (t : S16.Idx → EReal) (h : Fin 16) : EReal := t (ix1 h) * log2e

/-- The attention of head `h` at lane `d`. -/
def att (q : S2x16384x1024.Idx → EReal) (k v : S2x16384x256.Idx → EReal) (t : S16.Idx → EReal) (b : Fin 2) (p : Fin 16384) (h : Fin 16) (d : Fin 64) : EReal :=
  soft (score q k b p h) (sink t h) fun x => v (ix3 b (place (p.val / 128) x.val) ⟨128 * (h.val / 8) + 64 * (h.val % 2) + d.val, by omega⟩)

/-- The kernel's result. -/
def result (c : Dev nD) : Buf (Elt Ideal) ((c : Thread nD τ).loc main_v8) := fun (i : S2x16384x1024.Idx) =>
  att (m ((c : Thread nD τ).loc main_arg0)) (m ((c : Thread nD τ).loc main_arg1)) (m ((c : Thread nD τ).loc main_arg2)) (m ((c : Thread nD τ).loc main_arg3))
    (i 0) (i 1) ⟨(i 2).val / 64, by have h : (i 2).val < 1024 := (i 2).isLt; omega⟩ ⟨(i 2).val % 64, by omega⟩

/-! ## The rows of sinks -/

/-- The sinks times `log2e`, as rows. -/
theorem rows_of_sinks (y : S16.Idx → EReal) (z : S_.Idx → EReal) (a : Fin 4) (x : Fin 512) :
    pad S8x512 ![0, 0] ![4, 0] ![0, 0] (shapeCast S4x512 (broadcastInDim S4x4x128 ![0, 1] bcast_S4x4_S4x4x128_0_1 (shapeCast S4x4
      (transpose S2x2x4 [0, 2, 1] (shapeCast S2x4x2 y shapeCasts_S16_S2x4x2) transposes_S2x4x2_S2x2x4_0_2_1) shapeCasts_S2x2x4_S4x4)) shapeCasts_S4x4x128_S4x512)
      z pads_S4x512_S8x512_040_000 h_S_ (ix2 ⟨a.val, by omega⟩ x)
      = y (ix1 ⟨8 * (a.val / 2) + 2 * (x.val / 128) + a.val % 2, by omega⟩) := by
  rw [pad_apply_of_inside _ _ _ _ _ _ _ _ (ix2 a x) fun b => by
    match b with
    | ⟨0, _⟩ => show a.val = 0 + a.val * (0 + 1); omega
    | ⟨1, _⟩ => show x.val = 0 + x.val * (0 + 1); omega]
  have e : (⟨8 * (a.val / 2) + 2 * (x.val / 128) + a.val % 2, by omega⟩ : Fin 16) = ⟨a.val / 2 * 8 + x.val / 128 * 2 + a.val % 2, by omega⟩ :=
    Fin.ext (by show 8 * (a.val / 2) + 2 * (x.val / 128) + a.val % 2 = a.val / 2 * 8 + x.val / 128 * 2 + a.val % 2; omega)
  rw [e]
  pointwise

theorem V_sinks (c : Dev nD) (a : Fin 4) (x : Fin 512) : (V m c main_v7 : S8x512.Idx → EReal) (ix2 ⟨a.val, by omega⟩ x)
    = sink (m ((c : Thread nD τ).loc main_arg3)) ⟨8 * (a.val / 2) + 2 * (x.val / 128) + a.val % 2, by omega⟩ := by
  have e : (V m c main_v7 : S8x512.Idx → EReal)
      = pad S8x512 ![0, 0] ![4, 0] ![0, 0] (shapeCast S4x512 (broadcastInDim S4x4x128 ![0, 1] bcast_S4x4_S4x4x128_0_1 (shapeCast S4x4
        (transpose S2x2x4 [0, 2, 1] (shapeCast S2x4x2 (mulf (F := Ideal) (φ := .f32) (m ((c : Thread nD τ).loc main_arg3)) (broadcastInDim S16 ![] bcast_S_S16 (constant (F := Ideal) S_ .f32 0x3FB8AA3B#32))) shapeCasts_S16_S2x4x2) transposes_S2x4x2_S2x2x4_0_2_1) shapeCasts_S2x2x4_S4x4)) shapeCasts_S4x4x128_S4x512)
        (sitofp (F := Ideal) .f32 (constantI S_ 32 0#32)) pads_S4x512_S8x512_040_000 h_S_ := by
    unfold V
    simp only [hostOps0, hostOps0_1, List.flatten_cons, List.flatten_nil, List.append_nil, List.cons_append, List.nil_append]
    after_results_simp
    rfl
  rw [e]
  exact rows_of_sinks _ _ a x

/-! ## The index maps, over the 64 points -/

theorem at_grid : ∀ t : Fin cfg0.N, (grid0.coords t 0).val = t.val / 32 ∧ (grid0.coords t 1).val = t.val % 32 :=
  (by decide +kernel : ∀ t : Fin grid0.N, (grid0.coords t 0).val = t.val / 32 ∧ (grid0.coords t 1).val = t.val % 32)
theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem idx1 : ∀ t : Fin cfg0.N, win0_1.index t (0 : Fin 3) = t.val / 32 ∧ win0_1.index t (1 : Fin 3) = t.val % 32 ∧ win0_1.index t (2 : Fin 3) = 0 :=
  (by decide +kernel : ∀ t : Fin grid0.N, win0_1.index t (0 : Fin 3) = t.val / 32 ∧ win0_1.index t (1 : Fin 3) = t.val % 32 ∧ win0_1.index t (2 : Fin 3) = 0)
theorem idx12 : ∀ t : Fin cfg0.N, win0_12.index t (0 : Fin 3) = t.val / 32 ∧ win0_12.index t (1 : Fin 3) = t.val % 32 ∧ win0_12.index t (2 : Fin 3) = 0 :=
  (by decide +kernel : ∀ t : Fin grid0.N, win0_12.index t (0 : Fin 3) = t.val / 32 ∧ win0_12.index t (1 : Fin 3) = t.val % 32 ∧ win0_12.index t (2 : Fin 3) = 0)
theorem idx2 : ∀ t : Fin cfg0.N, win0_2.index t (0 : Fin 3) = t.val / 32 ∧ win0_2.index t (1 : Fin 3) = 4 * (t.val % 32) - 1 ∧ win0_2.index t (2 : Fin 3) = 0 :=
  (by decide +kernel : ∀ t : Fin grid0.N, win0_2.index t (0 : Fin 3) = t.val / 32 ∧ win0_2.index t (1 : Fin 3) = 4 * (t.val % 32) - 1 ∧ win0_2.index t (2 : Fin 3) = 0)
theorem idx3 : ∀ t : Fin cfg0.N, win0_3.index t (0 : Fin 3) = t.val / 32 ∧ win0_3.index t (1 : Fin 3) = 4 * (t.val % 32) + 0 ∧ win0_3.index t (2 : Fin 3) = 0 :=
  (by decide +kernel : ∀ t : Fin grid0.N, win0_3.index t (0 : Fin 3) = t.val / 32 ∧ win0_3.index t (1 : Fin 3) = 4 * (t.val % 32) + 0 ∧ win0_3.index t (2 : Fin 3) = 0)
theorem idx4 : ∀ t : Fin cfg0.N, win0_4.index t (0 : Fin 3) = t.val / 32 ∧ win0_4.index t (1 : Fin 3) = 4 * (t.val % 32) + 1 ∧ win0_4.index t (2 : Fin 3) = 0 :=
  (by decide +kernel : ∀ t : Fin grid0.N, win0_4.index t (0 : Fin 3) = t.val / 32 ∧ win0_4.index t (1 : Fin 3) = 4 * (t.val % 32) + 1 ∧ win0_4.index t (2 : Fin 3) = 0)
theorem idx5 : ∀ t : Fin cfg0.N, win0_5.index t (0 : Fin 3) = t.val / 32 ∧ win0_5.index t (1 : Fin 3) = 4 * (t.val % 32) + 2 ∧ win0_5.index t (2 : Fin 3) = 0 :=
  (by decide +kernel : ∀ t : Fin grid0.N, win0_5.index t (0 : Fin 3) = t.val / 32 ∧ win0_5.index t (1 : Fin 3) = 4 * (t.val % 32) + 2 ∧ win0_5.index t (2 : Fin 3) = 0)
theorem idx6 : ∀ t : Fin cfg0.N, win0_6.index t (0 : Fin 3) = t.val / 32 ∧ win0_6.index t (1 : Fin 3) = 4 * (t.val % 32) + 3 ∧ win0_6.index t (2 : Fin 3) = 0 :=
  (by decide +kernel : ∀ t : Fin grid0.N, win0_6.index t (0 : Fin 3) = t.val / 32 ∧ win0_6.index t (1 : Fin 3) = 4 * (t.val % 32) + 3 ∧ win0_6.index t (2 : Fin 3) = 0)
theorem idx7 : ∀ t : Fin cfg0.N, win0_7.index t (0 : Fin 3) = t.val / 32 ∧ win0_7.index t (1 : Fin 3) = 4 * (t.val % 32) - 1 ∧ win0_7.index t (2 : Fin 3) = 0 :=
  (by decide +kernel : ∀ t : Fin grid0.N, win0_7.index t (0 : Fin 3) = t.val / 32 ∧ win0_7.index t (1 : Fin 3) = 4 * (t.val % 32) - 1 ∧ win0_7.index t (2 : Fin 3) = 0)
theorem idx8 : ∀ t : Fin cfg0.N, win0_8.index t (0 : Fin 3) = t.val / 32 ∧ win0_8.index t (1 : Fin 3) = 4 * (t.val % 32) + 0 ∧ win0_8.index t (2 : Fin 3) = 0 :=
  (by decide +kernel : ∀ t : Fin grid0.N, win0_8.index t (0 : Fin 3) = t.val / 32 ∧ win0_8.index t (1 : Fin 3) = 4 * (t.val % 32) + 0 ∧ win0_8.index t (2 : Fin 3) = 0)
theorem idx9 : ∀ t : Fin cfg0.N, win0_9.index t (0 : Fin 3) = t.val / 32 ∧ win0_9.index t (1 : Fin 3) = 4 * (t.val % 32) + 1 ∧ win0_9.index t (2 : Fin 3) = 0 :=
  (by decide +kernel : ∀ t : Fin grid0.N, win0_9.index t (0 : Fin 3) = t.val / 32 ∧ win0_9.index t (1 : Fin 3) = 4 * (t.val % 32) + 1 ∧ win0_9.index t (2 : Fin 3) = 0)
theorem idx10 : ∀ t : Fin cfg0.N, win0_10.index t (0 : Fin 3) = t.val / 32 ∧ win0_10.index t (1 : Fin 3) = 4 * (t.val % 32) + 2 ∧ win0_10.index t (2 : Fin 3) = 0 :=
  (by decide +kernel : ∀ t : Fin grid0.N, win0_10.index t (0 : Fin 3) = t.val / 32 ∧ win0_10.index t (1 : Fin 3) = 4 * (t.val % 32) + 2 ∧ win0_10.index t (2 : Fin 3) = 0)
theorem idx11 : ∀ t : Fin cfg0.N, win0_11.index t (0 : Fin 3) = t.val / 32 ∧ win0_11.index t (1 : Fin 3) = 4 * (t.val % 32) + 3 ∧ win0_11.index t (2 : Fin 3) = 0 :=
  (by decide +kernel : ∀ t : Fin grid0.N, win0_11.index t (0 : Fin 3) = t.val / 32 ∧ win0_11.index t (1 : Fin 3) = 4 * (t.val % 32) + 3 ∧ win0_11.index t (2 : Fin 3) = 0)

/-! ## The blocks -/

/-- The sequence of point `t`. -/
def seq (t : Fin cfg0.N) : Fin 2 := ⟨t.val / 32, by have h : t.val < 64 := lt_of_lt_of_eq t.isLt N_0; omega⟩

/-- Row `r` of point `t`'s block, as a row of its sequence. -/
def tok (t : Fin cfg0.N) (r : Fin 512) : Fin 16384 := ⟨512 * (t.val % 32) + r.val, by omega⟩

theorem blk0 (c : Dev nD) (t : Fin cfg0.N) (a : Fin 4) (x : Fin 512) : (iblk m c 0 t : S8x512.Idx → EReal) (ix2 ⟨a.val, by omega⟩ x)
    = sink (m ((c : Thread nD τ).loc main_arg3)) ⟨8 * (a.val / 2) + 2 * (x.val / 128) + a.val % 2, by omega⟩ := by
  unfold iblk
  rw [View.read_apply]
  refine Eq.trans (congrArg (V m c main_v7 : S8x512.Idx → EReal) (funext fun b => Fin.ext ?_)) (V_sinks m c a x)
  match b with
  | ⟨0, _⟩ => show win0_0.index t 0 * 8 + 1 * a.val = a.val; rw [(idx0 t).1]; omega
  | ⟨1, _⟩ => show win0_0.index t 1 * 512 + 1 * x.val = x.val; rw [(idx0 t).2]; omega

theorem blk1 (c : Dev nD) (t : Fin cfg0.N) (r : Fin 512) (j : Fin 1024) : (iblk m c 1 t : S1x512x1024.Idx → EReal) (ix3 0 r j)
    = (m ((c : Thread nD τ).loc main_arg0) : S2x16384x1024.Idx → EReal) (ix3 (seq t) (tok t r) j) := by
  unfold iblk
  rw [View.read_apply]
  show V m c main_arg0 _ = m (c.tc.loc main_arg0) _
  rw [V_main_arg0]
  refine congrArg (m ((c : Thread nD τ).loc main_arg0)) (funext fun a => Fin.ext ?_)
  match a with
  | ⟨0, _⟩ => show win0_1.index t 0 * 1 + 1 * 0 = t.val / 32; rw [(idx1 t).1]; omega
  | ⟨1, _⟩ => show win0_1.index t 1 * 512 + 1 * r.val = 512 * (t.val % 32) + r.val; rw [(idx1 t).2.1]; omega
  | ⟨2, _⟩ => show win0_1.index t 2 * 1024 + 1 * j.val = j.val; rw [(idx1 t).2.2]; omega

theorem blk2 (c : Dev nD) (t : Fin cfg0.N) (r : Fin 128) (j : Fin 256) (p : Fin 16384) (h : p.val + 128 = 128 * (4 * (t.val % 32) + 0) + r.val) :
    (iblk m c 2 t : S1x128x256.Idx → EReal) (ix3 0 r j) = (m ((c : Thread nD τ).loc main_arg1) : S2x16384x256.Idx → EReal) (ix3 (seq t) p j) := by
  unfold iblk
  rw [View.read_apply]
  show V m c main_arg1 _ = m (c.tc.loc main_arg1) _
  rw [V_main_arg1]
  refine congrArg (m ((c : Thread nD τ).loc main_arg1)) (funext fun a => Fin.ext ?_)
  match a with
  | ⟨0, _⟩ => show win0_2.index t 0 * 1 + 1 * 0 = t.val / 32; rw [(idx2 t).1]; omega
  | ⟨1, _⟩ => show win0_2.index t 1 * 128 + 1 * r.val = p.val; rw [(idx2 t).2.1]; omega
  | ⟨2, _⟩ => show win0_2.index t 2 * 256 + 1 * j.val = j.val; rw [(idx2 t).2.2]; omega

theorem blk3 (c : Dev nD) (t : Fin cfg0.N) (r : Fin 128) (j : Fin 256) (p : Fin 16384) (h : p.val + 128 = 128 * (4 * (t.val % 32) + 1) + r.val) :
    (iblk m c 3 t : S1x128x256.Idx → EReal) (ix3 0 r j) = (m ((c : Thread nD τ).loc main_arg1) : S2x16384x256.Idx → EReal) (ix3 (seq t) p j) := by
  unfold iblk
  rw [View.read_apply]
  show V m c main_arg1 _ = m (c.tc.loc main_arg1) _
  rw [V_main_arg1]
  refine congrArg (m ((c : Thread nD τ).loc main_arg1)) (funext fun a => Fin.ext ?_)
  match a with
  | ⟨0, _⟩ => show win0_3.index t 0 * 1 + 1 * 0 = t.val / 32; rw [(idx3 t).1]; omega
  | ⟨1, _⟩ => show win0_3.index t 1 * 128 + 1 * r.val = p.val; rw [(idx3 t).2.1]; omega
  | ⟨2, _⟩ => show win0_3.index t 2 * 256 + 1 * j.val = j.val; rw [(idx3 t).2.2]; omega

theorem blk4 (c : Dev nD) (t : Fin cfg0.N) (r : Fin 128) (j : Fin 256) (p : Fin 16384) (h : p.val + 128 = 128 * (4 * (t.val % 32) + 2) + r.val) :
    (iblk m c 4 t : S1x128x256.Idx → EReal) (ix3 0 r j) = (m ((c : Thread nD τ).loc main_arg1) : S2x16384x256.Idx → EReal) (ix3 (seq t) p j) := by
  unfold iblk
  rw [View.read_apply]
  show V m c main_arg1 _ = m (c.tc.loc main_arg1) _
  rw [V_main_arg1]
  refine congrArg (m ((c : Thread nD τ).loc main_arg1)) (funext fun a => Fin.ext ?_)
  match a with
  | ⟨0, _⟩ => show win0_4.index t 0 * 1 + 1 * 0 = t.val / 32; rw [(idx4 t).1]; omega
  | ⟨1, _⟩ => show win0_4.index t 1 * 128 + 1 * r.val = p.val; rw [(idx4 t).2.1]; omega
  | ⟨2, _⟩ => show win0_4.index t 2 * 256 + 1 * j.val = j.val; rw [(idx4 t).2.2]; omega

theorem blk5 (c : Dev nD) (t : Fin cfg0.N) (r : Fin 128) (j : Fin 256) (p : Fin 16384) (h : p.val + 128 = 128 * (4 * (t.val % 32) + 3) + r.val) :
    (iblk m c 5 t : S1x128x256.Idx → EReal) (ix3 0 r j) = (m ((c : Thread nD τ).loc main_arg1) : S2x16384x256.Idx → EReal) (ix3 (seq t) p j) := by
  unfold iblk
  rw [View.read_apply]
  show V m c main_arg1 _ = m (c.tc.loc main_arg1) _
  rw [V_main_arg1]
  refine congrArg (m ((c : Thread nD τ).loc main_arg1)) (funext fun a => Fin.ext ?_)
  match a with
  | ⟨0, _⟩ => show win0_5.index t 0 * 1 + 1 * 0 = t.val / 32; rw [(idx5 t).1]; omega
  | ⟨1, _⟩ => show win0_5.index t 1 * 128 + 1 * r.val = p.val; rw [(idx5 t).2.1]; omega
  | ⟨2, _⟩ => show win0_5.index t 2 * 256 + 1 * j.val = j.val; rw [(idx5 t).2.2]; omega

theorem blk6 (c : Dev nD) (t : Fin cfg0.N) (r : Fin 128) (j : Fin 256) (p : Fin 16384) (h : p.val + 128 = 128 * (4 * (t.val % 32) + 4) + r.val) :
    (iblk m c 6 t : S1x128x256.Idx → EReal) (ix3 0 r j) = (m ((c : Thread nD τ).loc main_arg1) : S2x16384x256.Idx → EReal) (ix3 (seq t) p j) := by
  unfold iblk
  rw [View.read_apply]
  show V m c main_arg1 _ = m (c.tc.loc main_arg1) _
  rw [V_main_arg1]
  refine congrArg (m ((c : Thread nD τ).loc main_arg1)) (funext fun a => Fin.ext ?_)
  match a with
  | ⟨0, _⟩ => show win0_6.index t 0 * 1 + 1 * 0 = t.val / 32; rw [(idx6 t).1]; omega
  | ⟨1, _⟩ => show win0_6.index t 1 * 128 + 1 * r.val = p.val; rw [(idx6 t).2.1]; omega
  | ⟨2, _⟩ => show win0_6.index t 2 * 256 + 1 * j.val = j.val; rw [(idx6 t).2.2]; omega

/-- The staged keys by number. -/
theorem pick_keys (c : Dev nD) (t : Fin cfg0.N) (s : ℕ) (hs : s < 5) (r : Fin 128) (j : Fin 256) (p : Fin 16384)
    (h : p.val + 128 = 128 * (4 * (t.val % 32) + s) + r.val) :
    pick (iblk m c 2 t) (iblk m c 3 t) (iblk m c 4 t) (iblk m c 5 t) (iblk m c 6 t) s (ix3 0 r j) = (m ((c : Thread nD τ).loc main_arg1) : S2x16384x256.Idx → EReal) (ix3 (seq t) p j) := by
  match s, hs, h with
  | 0, _, h => exact blk2 m c t r j p h
  | 1, _, h => exact blk3 m c t r j p h
  | 2, _, h => exact blk4 m c t r j p h
  | 3, _, h => exact blk5 m c t r j p h
  | 4, _, h => exact blk6 m c t r j p h

/-- The two blocks of keys of block `s` of the point, where they are in the sequence. -/
theorem band_keys (c : Dev nD) (t : Fin cfg0.N) (s : ℕ) (hs : s < 4) (k : Fin 256) (j : Fin 256)
    (h : 0 < 4 * (t.val % 32) + s ∨ 128 ≤ k.val) :
    rows (pick (iblk m c 2 t) (iblk m c 3 t) (iblk m c 4 t) (iblk m c 5 t) (iblk m c 6 t) s) (pick (iblk m c 2 t) (iblk m c 3 t) (iblk m c 4 t) (iblk m c 5 t) (iblk m c 6 t) (s + 1)) (ix2 k j)
      = (m ((c : Thread nD τ).loc main_arg1) : S2x16384x256.Idx → EReal) (ix3 (seq t) (place (4 * (t.val % 32) + s) k.val) j) := by
  have hp : (place (4 * (t.val % 32) + s) k.val).val + 128 = 128 * (4 * (t.val % 32) + s) + k.val := by
    show min (128 * (4 * (t.val % 32) + s) + k.val - 128) 16383 + 128 = _
    omega
  rw [rows_apply]
  split
  · exact pick_keys m c t s (by omega) _ j _ hp
  · exact pick_keys m c t (s + 1) (by omega) _ j _ (by show _ = 128 * (4 * (t.val % 32) + (s + 1)) + (k.val - 128); omega)

theorem blk7 (c : Dev nD) (t : Fin cfg0.N) (r : Fin 128) (j : Fin 256) (p : Fin 16384) (h : p.val + 128 = 128 * (4 * (t.val % 32) + 0) + r.val) :
    (iblk m c 7 t : S1x128x256.Idx → EReal) (ix3 0 r j) = (m ((c : Thread nD τ).loc main_arg2) : S2x16384x256.Idx → EReal) (ix3 (seq t) p j) := by
  unfold iblk
  rw [View.read_apply]
  show V m c main_arg2 _ = m (c.tc.loc main_arg2) _
  rw [V_main_arg2]
  refine congrArg (m ((c : Thread nD τ).loc main_arg2)) (funext fun a => Fin.ext ?_)
  match a with
  | ⟨0, _⟩ => show win0_7.index t 0 * 1 + 1 * 0 = t.val / 32; rw [(idx7 t).1]; omega
  | ⟨1, _⟩ => show win0_7.index t 1 * 128 + 1 * r.val = p.val; rw [(idx7 t).2.1]; omega
  | ⟨2, _⟩ => show win0_7.index t 2 * 256 + 1 * j.val = j.val; rw [(idx7 t).2.2]; omega

theorem blk8 (c : Dev nD) (t : Fin cfg0.N) (r : Fin 128) (j : Fin 256) (p : Fin 16384) (h : p.val + 128 = 128 * (4 * (t.val % 32) + 1) + r.val) :
    (iblk m c 8 t : S1x128x256.Idx → EReal) (ix3 0 r j) = (m ((c : Thread nD τ).loc main_arg2) : S2x16384x256.Idx → EReal) (ix3 (seq t) p j) := by
  unfold iblk
  rw [View.read_apply]
  show V m c main_arg2 _ = m (c.tc.loc main_arg2) _
  rw [V_main_arg2]
  refine congrArg (m ((c : Thread nD τ).loc main_arg2)) (funext fun a => Fin.ext ?_)
  match a with
  | ⟨0, _⟩ => show win0_8.index t 0 * 1 + 1 * 0 = t.val / 32; rw [(idx8 t).1]; omega
  | ⟨1, _⟩ => show win0_8.index t 1 * 128 + 1 * r.val = p.val; rw [(idx8 t).2.1]; omega
  | ⟨2, _⟩ => show win0_8.index t 2 * 256 + 1 * j.val = j.val; rw [(idx8 t).2.2]; omega

theorem blk9 (c : Dev nD) (t : Fin cfg0.N) (r : Fin 128) (j : Fin 256) (p : Fin 16384) (h : p.val + 128 = 128 * (4 * (t.val % 32) + 2) + r.val) :
    (iblk m c 9 t : S1x128x256.Idx → EReal) (ix3 0 r j) = (m ((c : Thread nD τ).loc main_arg2) : S2x16384x256.Idx → EReal) (ix3 (seq t) p j) := by
  unfold iblk
  rw [View.read_apply]
  show V m c main_arg2 _ = m (c.tc.loc main_arg2) _
  rw [V_main_arg2]
  refine congrArg (m ((c : Thread nD τ).loc main_arg2)) (funext fun a => Fin.ext ?_)
  match a with
  | ⟨0, _⟩ => show win0_9.index t 0 * 1 + 1 * 0 = t.val / 32; rw [(idx9 t).1]; omega
  | ⟨1, _⟩ => show win0_9.index t 1 * 128 + 1 * r.val = p.val; rw [(idx9 t).2.1]; omega
  | ⟨2, _⟩ => show win0_9.index t 2 * 256 + 1 * j.val = j.val; rw [(idx9 t).2.2]; omega

theorem blk10 (c : Dev nD) (t : Fin cfg0.N) (r : Fin 128) (j : Fin 256) (p : Fin 16384) (h : p.val + 128 = 128 * (4 * (t.val % 32) + 3) + r.val) :
    (iblk m c 10 t : S1x128x256.Idx → EReal) (ix3 0 r j) = (m ((c : Thread nD τ).loc main_arg2) : S2x16384x256.Idx → EReal) (ix3 (seq t) p j) := by
  unfold iblk
  rw [View.read_apply]
  show V m c main_arg2 _ = m (c.tc.loc main_arg2) _
  rw [V_main_arg2]
  refine congrArg (m ((c : Thread nD τ).loc main_arg2)) (funext fun a => Fin.ext ?_)
  match a with
  | ⟨0, _⟩ => show win0_10.index t 0 * 1 + 1 * 0 = t.val / 32; rw [(idx10 t).1]; omega
  | ⟨1, _⟩ => show win0_10.index t 1 * 128 + 1 * r.val = p.val; rw [(idx10 t).2.1]; omega
  | ⟨2, _⟩ => show win0_10.index t 2 * 256 + 1 * j.val = j.val; rw [(idx10 t).2.2]; omega

theorem blk11 (c : Dev nD) (t : Fin cfg0.N) (r : Fin 128) (j : Fin 256) (p : Fin 16384) (h : p.val + 128 = 128 * (4 * (t.val % 32) + 4) + r.val) :
    (iblk m c 11 t : S1x128x256.Idx → EReal) (ix3 0 r j) = (m ((c : Thread nD τ).loc main_arg2) : S2x16384x256.Idx → EReal) (ix3 (seq t) p j) := by
  unfold iblk
  rw [View.read_apply]
  show V m c main_arg2 _ = m (c.tc.loc main_arg2) _
  rw [V_main_arg2]
  refine congrArg (m ((c : Thread nD τ).loc main_arg2)) (funext fun a => Fin.ext ?_)
  match a with
  | ⟨0, _⟩ => show win0_11.index t 0 * 1 + 1 * 0 = t.val / 32; rw [(idx11 t).1]; omega
  | ⟨1, _⟩ => show win0_11.index t 1 * 128 + 1 * r.val = p.val; rw [(idx11 t).2.1]; omega
  | ⟨2, _⟩ => show win0_11.index t 2 * 256 + 1 * j.val = j.val; rw [(idx11 t).2.2]; omega

/-- The staged values by number. -/
theorem pick_values (c : Dev nD) (t : Fin cfg0.N) (s : ℕ) (hs : s < 5) (r : Fin 128) (j : Fin 256) (p : Fin 16384)
    (h : p.val + 128 = 128 * (4 * (t.val % 32) + s) + r.val) :
    pick (iblk m c 7 t) (iblk m c 8 t) (iblk m c 9 t) (iblk m c 10 t) (iblk m c 11 t) s (ix3 0 r j) = (m ((c : Thread nD τ).loc main_arg2) : S2x16384x256.Idx → EReal) (ix3 (seq t) p j) := by
  match s, hs, h with
  | 0, _, h => exact blk7 m c t r j p h
  | 1, _, h => exact blk8 m c t r j p h
  | 2, _, h => exact blk9 m c t r j p h
  | 3, _, h => exact blk10 m c t r j p h
  | 4, _, h => exact blk11 m c t r j p h

/-- The two blocks of values of block `s` of the point, where they are in the sequence. -/
theorem band_values (c : Dev nD) (t : Fin cfg0.N) (s : ℕ) (hs : s < 4) (k : Fin 256) (j : Fin 256)
    (h : 0 < 4 * (t.val % 32) + s ∨ 128 ≤ k.val) :
    rows (pick (iblk m c 7 t) (iblk m c 8 t) (iblk m c 9 t) (iblk m c 10 t) (iblk m c 11 t) s) (pick (iblk m c 7 t) (iblk m c 8 t) (iblk m c 9 t) (iblk m c 10 t) (iblk m c 11 t) (s + 1)) (ix2 k j)
      = (m ((c : Thread nD τ).loc main_arg2) : S2x16384x256.Idx → EReal) (ix3 (seq t) (place (4 * (t.val % 32) + s) k.val) j) := by
  have hp : (place (4 * (t.val % 32) + s) k.val).val + 128 = 128 * (4 * (t.val % 32) + s) + k.val := by
    show min (128 * (4 * (t.val % 32) + s) + k.val - 128) 16383 + 128 = _
    omega
  rw [rows_apply]
  split
  · exact pick_values m c t s (by omega) _ j _ hp
  · exact pick_values m c t (s + 1) (by omega) _ j _ (by show _ = 128 * (4 * (t.val % 32) + (s + 1)) + (k.val - 128); omega)

/-! ## The result array -/

/-- A tile of point `t`, at a row and a lane. -/
theorem tile_eq (c : Dev nD) (t : Fin cfg0.N) (n : ℕ) (hn : n < 32) (r l : Fin 128) :
    tileAt (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) n hn (ix3 0 r l)
      = result m c (ix3 (seq t) (tok t ⟨128 * (n / 8) + r.val, by omega⟩) ⟨128 * (n % 8) + l.val, by omega⟩) := by
  have hb : (tok t ⟨128 * (n / 8) + r.val, by omega⟩).val = 128 * (4 * (t.val % 32) + n / 8) + r.val := by
    show 512 * (t.val % 32) + (128 * (n / 8) + r.val) = _
    omega
  have hn8 : n % 8 = 4 * (n / 4 % 2) + n % 4 := by omega
  have hg := (at_grid t).2
  unfold tileAt
  rw [outTile_apply]
  show _ = att _ _ _ _ (seq t) (tok t ⟨128 * (n / 8) + r.val, by omega⟩) ⟨(128 * (n % 8) + l.val) / 64, by omega⟩ ⟨(128 * (n % 8) + l.val) % 64, by omega⟩
  unfold att
  have hdiv : (tok t ⟨128 * (n / 8) + r.val, by omega⟩).val / 128 = 4 * (t.val % 32) + n / 8 := by omega
  have hmod : (tok t ⟨128 * (n / 8) + r.val, by omega⟩).val % 128 = r.val := by omega
  have hs : (fun k : Fin 256 => if maskOf (grid0.coords t) (n / 8) (ix2 k r) = 1#1 then
        ∑ d : Fin 64, rows (pick (iblk m c 2 t) (iblk m c 3 t) (iblk m c 4 t) (iblk m c 5 t) (iblk m c 6 t) (n / 8)) (pick (iblk m c 2 t) (iblk m c 3 t) (iblk m c 4 t) (iblk m c 5 t) (iblk m c 6 t) (n / 8 + 1)) (ix2 k ⟨128 * (n / 4 % 2) + 64 * (l.val / 64) + d.val, by omega⟩)
          * (iblk m c 1 t : S1x512x1024.Idx → EReal) (ix3 0 ⟨128 * (n / 8) + r.val, by omega⟩ ⟨128 * (4 * (n / 4 % 2) + n % 4) + 64 * (l.val / 64) + d.val, by omega⟩) else (⊥ : EReal))
      = score (m ((c : Thread nD τ).loc main_arg0)) (m ((c : Thread nD τ).loc main_arg1)) (seq t) (tok t ⟨128 * (n / 8) + r.val, by omega⟩) ⟨(128 * (n % 8) + l.val) / 64, by omega⟩ := by
    funext k
    unfold score
    rw [hdiv, hmod]
    have hm : maskOf (grid0.coords t) (n / 8) (ix2 k r) = 1#1 ↔ sees (4 * (t.val % 32) + n / 8) r.val k.val := by
      rw [maskOf_apply, hg]
    by_cases hsee : sees (4 * (t.val % 32) + n / 8) r.val k.val
    · rw [if_pos hsee, if_pos (hm.mpr hsee)]
      refine Finset.sum_congr rfl fun d _ => ?_
      rw [band_keys m c t (n / 8) (by omega) k _ hsee.2, mul_comm]
      have e1 := blk1 m c t ⟨128 * (n / 8) + r.val, by omega⟩ ⟨128 * (4 * (n / 4 % 2) + n % 4) + 64 * (l.val / 64) + d.val, by omega⟩
      refine congrArg₂ (· * ·) (e1.trans ?_) ?_
      · exact congrArg (fun z => (m ((c : Thread nD τ).loc main_arg0) : S2x16384x1024.Idx → EReal) (ix3 (seq t) (tok t ⟨128 * (n / 8) + r.val, by omega⟩) z))
          (Fin.ext (show 128 * (4 * (n / 4 % 2) + n % 4) + 64 * (l.val / 64) + d.val = 64 * ((128 * (n % 8) + l.val) / 64) + d.val by omega))
      · exact congrArg (fun z => (m ((c : Thread nD τ).loc main_arg1) : S2x16384x256.Idx → EReal) (ix3 (seq t) (place (4 * (t.val % 32) + n / 8) k.val) z))
          (Fin.ext (show 128 * (n / 4 % 2) + 64 * (l.val / 64) + d.val = 128 * ((128 * (n % 8) + l.val) / 64 / 8) + 64 * ((128 * (n % 8) + l.val) / 64 % 2) + d.val by omega))
    · rw [if_neg hsee, if_neg fun h => hsee (hm.mp h)]
  have ht : (iblk m c 0 t : S8x512.Idx → EReal) (ix2 ⟨2 * (n / 4 % 2) + l.val / 64, by omega⟩ ⟨128 * (n % 4) + r.val, by omega⟩)
      = sink (m ((c : Thread nD τ).loc main_arg3)) ⟨(128 * (n % 8) + l.val) / 64, by omega⟩ := by
    refine (blk0 m c t ⟨2 * (n / 4 % 2) + l.val / 64, by omega⟩ ⟨128 * (n % 4) + r.val, by omega⟩).trans ?_
    refine congrArg (sink (m ((c : Thread nD τ).loc main_arg3))) (Fin.ext ?_)
    show 8 * ((2 * (n / 4 % 2) + l.val / 64) / 2) + 2 * ((128 * (n % 4) + r.val) / 128) + (2 * (n / 4 % 2) + l.val / 64) % 2 = (128 * (n % 8) + l.val) / 64
    omega
  refine (congrArg₂ (fun a b => soft a b _) hs ht).trans ?_
  refine soft_congr _ _ _ _ fun k hk => ?_
  have hsee : sees (4 * (t.val % 32) + n / 8) r.val k.val := by
    by_contra hc
    refine hk ?_
    unfold score
    rw [hdiv, hmod, if_neg hc]
  rw [band_values m c t (n / 8) (by omega) k _ hsee.2, hdiv]
  exact congrArg (fun z => (m ((c : Thread nD τ).loc main_arg2) : S2x16384x256.Idx → EReal) (ix3 (seq t) (place (4 * (t.val % 32) + n / 8) k.val) z))
    (Fin.ext (show 128 * (n / 4 % 2) + l.val = 128 * ((128 * (n % 8) + l.val) / 64 / 8) + 64 * ((128 * (n % 8) + l.val) / 64 % 2) + (128 * (n % 8) + l.val) % 64 by omega))

/-- What the body leaves at row `r`, lane `j` of the output block at point `t`. -/
theorem outsAt_apply (c : Dev nD) (t : Fin cfg0.N) (r : Fin 512) (j : Fin 1024) :
    outsAt0 m c t (ix3 0 r j) = result m c (ix3 (seq t) (tok t r) j) := by
  unfold outsAt0
  rw [out_eq]
  have e := (stores_apply (tileAt (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) ⟨r.val % 128, by omega⟩ ⟨j.val % 128, by omega⟩ (8 * (r.val / 128) + j.val / 128) (by omega) 32 (le_refl _) (by omega)).trans
    (tile_eq m c t (8 * (r.val / 128) + j.val / 128) (by omega) ⟨r.val % 128, by omega⟩ ⟨j.val % 128, by omega⟩)
  have er : (⟨128 * ((8 * (r.val / 128) + j.val / 128) / 8) + r.val % 128, by omega⟩ : Fin 512) = r := Fin.ext (by show 128 * ((8 * (r.val / 128) + j.val / 128) / 8) + r.val % 128 = r.val; omega)
  have ej : (⟨128 * ((8 * (r.val / 128) + j.val / 128) % 8) + j.val % 128, by omega⟩ : Fin 1024) = j := Fin.ext (by show 128 * ((8 * (r.val / 128) + j.val / 128) % 8) + j.val % 128 = j.val; omega)
  dsimp only at e
  rw [er, ej] at e
  exact e

/-- The write-back of point `t` is the result's block there. -/
theorem flushed_eq (c : Dev nD) (t : Fin cfg0.N) :
    (dats m 0 c).flushed 12 t = ((cfg0.win 12).blk t).view.read (Elt Ideal) (result m c) := by
  rw [Value.flushed12]
  funext y
  rw [View.read_apply]
  have hy : (y : S1x512x1024.Idx) = ix3 0 (y 1 : Fin 512) (y 2 : Fin 1024) := funext fun a => by
    match a with
    | ⟨0, _⟩ => exact Fin.ext (by have h : (y 0).val < 1 := (y 0).isLt; show (y 0).val = 0; omega)
    | ⟨1, _⟩ => rfl
    | ⟨2, _⟩ => rfl
  refine Eq.trans (congrArg (outsAt0 m c t) hy) ((outsAt_apply m c t (y 1) (y 2)).trans ?_)
  refine congrArg (result m c) (funext fun a => Fin.ext ?_)
  match a with
  | ⟨0, _⟩ => show t.val / 32 = win0_12.index t 0 * 1 + 1 * (y 0).val; rw [(idx12 t).1]; have h : (y 0).val < 1 := (y 0).isLt; omega
  | ⟨1, _⟩ => show 512 * (t.val % 32) + (y 1).val = win0_12.index t 1 * 512 + 1 * (y 1).val; rw [(idx12 t).2.1]; omega
  | ⟨2, _⟩ => show (y 2).val = win0_12.index t 2 * 1024 + 1 * (y 2).val; rw [(idx12 t).2.2]; omega

theorem flush_all : ∀ t : Fin cfg0.N, (cfg0.win 12).flush t = true :=
  (by decide +kernel : ∀ t : Fin grid0.N, win0_12.flush t = true)

/-- So the result array after the run is `result`. -/
theorem final (c : Dev nD) : (dats m 0 c).arrAt 12 cfg0.N = result m c :=
  (dats m 0 c).arrAt_eq_of_cover 12 (result m c) (fun t _ => flushed_eq m c t) fun i => by
    have h0 : (i 0 : Nat) < 2 := (i 0).isLt
    have h1 : (i 1 : Nat) < 16384 := (i 1).isLt
    have h2 : (i 2 : Nat) < 1024 := (i 2).isLt
    have ht : 32 * (i 0 : Nat) + (i 1 : Nat) / 512 < cfg0.N := lt_of_lt_of_eq (by omega) N_0.symm
    refine ⟨⟨32 * (i 0 : Nat) + (i 1 : Nat) / 512, ht⟩, flush_all _, ?_⟩
    show i ∈ ((View.whole main_v8).slice (win0_12.rect ⟨32 * (i 0 : Nat) + (i 1 : Nat) / 512, ht⟩)).set
    rw [View.set_slice_whole, Rect.mem_set_unit]
    intro a
    match a with
    | ⟨0, _⟩ => show win0_12.index ⟨32 * (i 0 : Nat) + (i 1 : Nat) / 512, ht⟩ 0 * 1 ≤ (i 0 : Nat) ∧ (i 0 : Nat) < win0_12.index ⟨32 * (i 0 : Nat) + (i 1 : Nat) / 512, ht⟩ 0 * 1 + 1
                rw [(idx12 _).1]; show (32 * (i 0 : Nat) + (i 1 : Nat) / 512) / 32 * 1 ≤ (i 0 : Nat) ∧ (i 0 : Nat) < (32 * (i 0 : Nat) + (i 1 : Nat) / 512) / 32 * 1 + 1; omega
    | ⟨1, _⟩ => show win0_12.index ⟨32 * (i 0 : Nat) + (i 1 : Nat) / 512, ht⟩ 1 * 512 ≤ (i 1 : Nat) ∧ (i 1 : Nat) < win0_12.index ⟨32 * (i 0 : Nat) + (i 1 : Nat) / 512, ht⟩ 1 * 512 + 512
                rw [(idx12 _).2.1]; show (32 * (i 0 : Nat) + (i 1 : Nat) / 512) % 32 * 512 ≤ (i 1 : Nat) ∧ (i 1 : Nat) < (32 * (i 0 : Nat) + (i 1 : Nat) / 512) % 32 * 512 + 512; omega
    | ⟨2, _⟩ => show win0_12.index ⟨32 * (i 0 : Nat) + (i 1 : Nat) / 512, ht⟩ 2 * 1024 ≤ (i 2 : Nat) ∧ (i 2 : Nat) < win0_12.index ⟨32 * (i 0 : Nat) + (i 1 : Nat) / 512, ht⟩ 2 * 1024 + 1024
                rw [(idx12 _).2.2]; omega

end Cert.Band

end
-- ==== Proof.Band.RefScore.lean ====
/-
  The reference's scores read at an element: each head's own copies of the keys and the values by block, the two blocks of
  keys a block of queries sees, the mask and the masked scores.
-/
module

public import proofs.«01_k».proof.Proof.Gen.Reference4Ideal.Read
public import proofs.«01_k».proof.Proof.Band.Array
public import Idealize.ShloMosaic.Lib.Pointwise

@[expose] public section

noncomputable section

open Idealize.ShloMosaic

namespace Cert.Band.Ref

open Cert.Reference4Ideal Cert.Reference4Ideal.Gen Cert.Reference4Ideal.Read

variable (x0 : (⟨S2x16384x1024, .bf16⟩ : BufTy).Contents (Elt Ideal)) (x1 x2 : (⟨S2x16384x256, .bf16⟩ : BufTy).Contents (Elt Ideal))

/-- The column of head `h`'s group, lane `d`. -/
def col (h : Fin 16) (d : Fin 64) : Fin 256 := ⟨128 * (h.val / 8) + 64 * (h.val % 2) + d.val, by omega⟩

/-- The keys by block, each head with its own copy. -/
theorem v3_apply (b : Fin 2) (n r : Fin 128) (h : Fin 16) (d : Fin 64) :
    val_main_v3 (F := Ideal) x1 (ix5 b n r h d) = x1 (ix3 b ⟨128 * n.val + r.val, by omega⟩ (col h d)) := by
  unfold val_main_v3 val_main_v2 val_main_v1 val_main_v0
  pointwise
  exact congrArg₂ (fun a c => x1 (ix3 b a c)) (Fin.ext (show (b.val * 16384 + n.val * 128 + r.val) % 16384 = 128 * n.val + r.val by omega))
    (Fin.ext (show h.val / 8 * 128 + h.val % 2 * 64 + d.val = 128 * (h.val / 8) + 64 * (h.val % 2) + d.val by omega))

theorem v12_apply (b : Fin 2) (n r : Fin 128) (h : Fin 16) (d : Fin 64) :
    val_main_v12 (F := Ideal) x2 (ix5 b n r h d) = x2 (ix3 b ⟨128 * n.val + r.val, by omega⟩ (col h d)) :=
  v3_apply x2 b n r h d

/-- The two blocks of keys a block of queries sees, where they are in the sequence. -/
theorem v8_apply (b : Fin 2) (n : Fin 128) (k : Fin 256) (h : Fin 16) (d : Fin 64) (hk : 0 < n.val ∨ 128 ≤ k.val) :
    val_main_v8 (F := Ideal) x1 (ix5 b n k h d) = x1 (ix3 b (place n.val k.val) (col h d)) := by
  have e := v3_apply x1
  unfold val_main_v8 val_main_v7 val_main_v6
  generalize val_main_v3 (F := Ideal) x1 = y at e
  generalize val_main_v5 (F := Ideal) = z
  pointwise
  split
  · split
    · omega
    · rw [e]
      refine congrArg (fun a => x1 (ix3 b a (col h d))) (Fin.ext ?_)
      show 128 * (n.val - 1) + k.val = min (128 * n.val + k.val - 128) 16383
      omega
  · rw [e]
    refine congrArg (fun a => x1 (ix3 b a (col h d))) (Fin.ext ?_)
    show 128 * n.val + (k.val - 128) = min (128 * n.val + k.val - 128) 16383
    omega

theorem v17_apply (b : Fin 2) (n : Fin 128) (k : Fin 256) (h : Fin 16) (d : Fin 64) (hk : 0 < n.val ∨ 128 ≤ k.val) :
    val_main_v17 (F := Ideal) x2 (ix5 b n k h d) = x2 (ix3 b (place n.val k.val) (col h d)) :=
  v8_apply x2 b n k h d hk

/-- The queries by block. -/
theorem v18_apply (b : Fin 2) (n r : Fin 128) (h : Fin 16) (d : Fin 64) :
    val_main_v18 (F := Ideal) x0 (ix5 b n r h d) = x0 (ix3 b ⟨128 * n.val + r.val, by omega⟩ ⟨64 * h.val + d.val, by omega⟩) := by
  unfold val_main_v18
  pointwise
  exact congrArg₂ (fun a c => x0 (ix3 b a c)) (Fin.ext (show n.val * 128 + r.val = 128 * n.val + r.val by omega))
    (Fin.ext (show h.val * 64 + d.val = 64 * h.val + d.val by omega))

theorem later : ∀ n : Fin 128, IntOp.cmpi .sgt (BitVec.ofNat 32 n.val) 0#32 = 1#1 ↔ 0 < n.val := by decide +kernel

/-- The mask. -/
theorem v47_apply (n r : Fin 128) (k : Fin 256) : val_main_v47 (F := Ideal) (ix3 n r k) = 1#1 ↔ sees n.val r.val k.val := by
  unfold val_main_v47 val_main_v46 val_main_v45 val_main_v44 val_main_v43 val_main_v42 val_main_v41 val_main_v40 val_main_v39 val_main_v38 val_main_v37
    val_main_v36 val_main_v35 val_main_v34 val_main_v33 val_main_v32 val_main_v31 val_main_v30 val_main_v29 val_main_v28 val_main_v27 val_main_v26
    val_main_v25 val_main_v24 val_main_v23 val_main_v22 val_main_v21 val_main_v20 val_main_c val_main_c_1 val_main_c_2 val_main_c_3 val_main_c_4
  pointwise
  rw [andi_iff, window_iff, ori_iff, ge128, later]
  rfl

/-- A row of the sequence by block. -/
def row (n r : Fin 128) : Fin 16384 := ⟨128 * n.val + r.val, by omega⟩

/-- The masked scores. -/
theorem v48_apply (b : Fin 2) (h : Fin 16) (n r : Fin 128) (k : Fin 256) :
    val_main_v48 (F := Ideal) x0 x1 (ix5 b h n r k) = score x0 x1 b (row n r) h k := by
  have e : val_main_v48 (F := Ideal) x0 x1 (ix5 b h n r k)
      = if val_main_v47 (F := Ideal) (ix3 n r k) = 1#1 then val_main_v19 (F := Ideal) x0 x1 (ix5 b h n r k) else (⊥ : EReal) := by
    unfold val_main_v48 val_main_call0_v1 val_main_call0_v2 val_main_call0_v0 val_main_cst_5
    generalize val_main_v19 (F := Ideal) x0 x1 = y
    generalize val_main_v47 (F := Ideal) = z
    pointwise
    exact if_congr Iff.rfl rfl bot_bits
  have hn : (row n r).val / 128 = n.val := by show (128 * n.val + r.val) / 128 = n.val; omega
  have hr : (row n r).val % 128 = r.val := by show (128 * n.val + r.val) % 128 = r.val; omega
  unfold score
  rw [hn, hr, e]
  by_cases hs : sees n.val r.val k.val
  · rw [if_pos hs, if_pos ((v47_apply n r k).mpr hs), val_main_v19_apply]
    refine Finset.sum_congr rfl fun d _ => ?_
    have e1 : lidx_main_v19 (ix5 b h n r k) d = ix5 b n r h d := by
      funext a
      match a with
      | ⟨0, _⟩ => rfl
      | ⟨1, _⟩ => rfl
      | ⟨2, _⟩ => rfl
      | ⟨3, _⟩ => rfl
      | ⟨4, _⟩ => rfl
    have e2 : ridx_main_v19 (ix5 b h n r k) d = ix5 b n k h d := by
      funext a
      match a with
      | ⟨0, _⟩ => rfl
      | ⟨1, _⟩ => rfl
      | ⟨2, _⟩ => rfl
      | ⟨3, _⟩ => rfl
      | ⟨4, _⟩ => rfl
    rw [e1, e2, v18_apply, v8_apply x1 b n k h d hs.2]
    rfl
  · rw [if_neg hs, if_neg fun hc => hs ((v47_apply n r k).mp hc)]

end Cert.Band.Ref

end
-- ==== Proof.Band.Ref.lean ====
/-
  The reference's result read at an element: the weighted mean of the values over the two blocks of keys, each weight divided
  first; on good arguments it is `att`.
-/
module

public import proofs.«01_k».proof.Proof.Band.RefScore
public import proofs.«01_k».proof.Proof.Flash.RefResult
public import proofs.«01_k».proof.Proof.Flash.RefMax

@[expose] public section

noncomputable section

open Idealize.ShloMosaic

namespace Cert.Band.Ref

open Cert.Reference4Ideal Cert.Reference4Ideal.Gen Cert.Reference4Ideal.Read
open Cert.Flash.Ref (log_two)

variable (x0 : (⟨S2x16384x1024, .bf16⟩ : BufTy).Contents (Elt Ideal)) (x1 x2 : (⟨S2x16384x256, .bf16⟩ : BufTy).Contents (Elt Ideal))
  (x3 : (⟨S16, .f32⟩ : BufTy).Contents (Elt Ideal))

/-- The exponential of a multiple of the logarithm of two is a power of two. -/
theorem exp_log_two (x : EReal) : Ideal.exp (x * (Real.log 2 : EReal)) = Ideal.exp2 x := by
  have hl : 0 < Real.log 2 := Real.log_pos one_lt_two
  induction x using EReal.rec with
  | bot => rw [EReal.bot_mul_coe_of_pos hl]; rfl
  | top => rw [EReal.top_mul_coe_of_pos hl]; rfl
  | coe r =>
    rw [← EReal.coe_mul, Ideal.exp2_coe]
    show ((Real.exp (r * Real.log 2) : ℝ) : EReal) = _
    rw [mul_comm]
    exact congrArg _ (Real.rpow_def_of_pos two_pos r).symm

/-- The sinks. -/
theorem v51_apply (h : Fin 16) : val_main_v51 (F := Ideal) x3 (ix5 0 h 0 0 0) = sink x3 h := by
  unfold val_main_v51 val_main_v50 val_main_v49 val_main_cst_6
  pointwise
  rfl

theorem idx53 (b : Fin 2) (h : Fin 16) (n r : Fin 128) : idx_main_v53 (ix5 b h n r 0) = ix4 b h n r := funext fun a => Fin.ext (by match a with | ⟨0, _⟩ => rfl | ⟨1, _⟩ => rfl | ⟨2, _⟩ => rfl | ⟨3, _⟩ => rfl)
theorem idx63 (b : Fin 2) (h : Fin 16) (n r : Fin 128) : idx_main_v63 (ix5 b h n r 0) = ix4 b h n r := funext fun a => Fin.ext (by match a with | ⟨0, _⟩ => rfl | ⟨1, _⟩ => rfl | ⟨2, _⟩ => rfl | ⟨3, _⟩ => rfl)
theorem idx54 (b : Fin 2) (h : Fin 16) (n r : Fin 128) : idx_main_v54 (ix5 b h n r 0) = ix5 0 h 0 0 0 := funext fun a => Fin.ext (by match a with | ⟨0, _⟩ => rfl | ⟨1, _⟩ => rfl | ⟨2, _⟩ => rfl | ⟨3, _⟩ => rfl | ⟨4, _⟩ => rfl)
theorem idx64 (b : Fin 2) (h : Fin 16) (n r : Fin 128) : idx_main_v64 (ix5 b h n r 0) = ix5 0 h 0 0 0 := funext fun a => Fin.ext (by match a with | ⟨0, _⟩ => rfl | ⟨1, _⟩ => rfl | ⟨2, _⟩ => rfl | ⟨3, _⟩ => rfl | ⟨4, _⟩ => rfl)
theorem idx57 (b : Fin 2) (h : Fin 16) (n r : Fin 128) (k : Fin 256) : idx_main_v57 (ix5 b h n r k) = ix5 b h n r 0 := funext fun a => Fin.ext (by match a with | ⟨0, _⟩ => rfl | ⟨1, _⟩ => rfl | ⟨2, _⟩ => rfl | ⟨3, _⟩ => rfl | ⟨4, _⟩ => rfl)
theorem idx70 (b : Fin 2) (h : Fin 16) (n r : Fin 128) (k : Fin 256) : idx_main_v70 (ix5 b h n r k) = ix5 b h n r 0 := funext fun a => Fin.ext (by match a with | ⟨0, _⟩ => rfl | ⟨1, _⟩ => rfl | ⟨2, _⟩ => rfl | ⟨3, _⟩ => rfl | ⟨4, _⟩ => rfl)
theorem idx62 (b : Fin 2) (h : Fin 16) (n r : Fin 128) (k : Fin 256) : idx_main_v62 (ix4 b h n r) k = ix5 b h n r k := funext fun a => Fin.ext (by match a with | ⟨0, _⟩ => rfl | ⟨1, _⟩ => rfl | ⟨2, _⟩ => rfl | ⟨3, _⟩ => rfl | ⟨4, _⟩ => rfl)

/-- The reference's logarithm of two. -/
theorem v56_apply (i : S_.Idx) : val_main_v56 (F := Ideal) i = (Real.log 2 : EReal) := log_two

/-- The greatest score. -/
theorem v52_apply (b : Fin 2) (h : Fin 16) (n r : Fin 128) :
    val_main_v52 (F := Ideal) x0 x1 (ix4 b h n r) = Finset.univ.fold max (⊥ : EReal) (score x0 x1 b (row n r) h) := by
  have es := v48_apply x0 x1 b h n r
  unfold val_main_v52
  generalize val_main_v48 (F := Ideal) x0 x1 = y at es
  rw [Host.reduce_eq_fold_single (FloatOps.maximumf (F := Ideal) (φ := .f32)) (h := by decide), val_main_cst_7_apply, Cert.Flash.Ref.low]
  rw [show (y ∘ (by decide : S2x16x128x128x256.Reduces [4] S2x16x128x128).lift (ix4 b h n r)) = score x0 x1 b (row n r) h from
    funext fun k => (congrArg y (funext fun a => Fin.ext (by match a with | ⟨0, _⟩ => rfl | ⟨1, _⟩ => rfl | ⟨2, _⟩ => rfl | ⟨3, _⟩ => rfl | ⟨4, _⟩ => rfl))).trans (es k)]
  rfl

/-- What the exponentials are taken off. -/
theorem v55_apply (b : Fin 2) (h : Fin 16) (n r : Fin 128) :
    val_main_v55 (F := Ideal) x0 x1 x3 (ix5 b h n r 0) = top (score x0 x1 b (row n r) h) (sink x3 h) := by
  rw [val_main_v55_apply, val_main_v53_apply, val_main_v54_apply, idx53, idx54, v52_apply, v51_apply]
  rfl

/-- The weights before their division. -/
theorem v61_apply (b : Fin 2) (h : Fin 16) (n r : Fin 128) (k : Fin 256) :
    val_main_v61 (F := Ideal) x0 x1 x3 (ix5 b h n r k) = wt (score x0 x1 b (row n r) h) (sink x3 h) k := by
  rw [val_main_v61_apply, val_main_v60_apply, val_main_v58_apply, val_main_v57_apply, val_main_v59_apply, v56_apply, idx57, v48_apply, v55_apply]
  exact exp_log_two _

/-- The divisor. -/
theorem v69_apply (b : Fin 2) (h : Fin 16) (n r : Fin 128) :
    val_main_v69 (F := Ideal) x0 x1 x3 (ix5 b h n r 0) = den (score x0 x1 b (row n r) h) (sink x3 h) := by
  have e2 : val_main_v62 (F := Ideal) x0 x1 x3 (ix4 b h n r) = ∑ k, wt (score x0 x1 b (row n r) h) (sink x3 h) k := by
    rw [val_main_v62_apply]
    have z : val_main_cst_9 (F := Ideal) (Shape.Idx.first h_S_) = (0 : EReal) := Ideal.ofBits_zero_f32
    rw [z, zero_add]
    exact Finset.sum_congr rfl fun k _ => by rw [idx62, v61_apply]
  rw [val_main_v69_apply, val_main_v63_apply, val_main_v68_apply, val_main_v67_apply, val_main_v65_apply, val_main_v64_apply, val_main_v66_apply, v56_apply,
    idx63, idx64, e2, v51_apply, v55_apply]
  exact congrArg (fun z : EReal => _ + z) (exp_log_two _)

/-- The weights. -/
theorem v72_apply (b : Fin 2) (h : Fin 16) (n r : Fin 128) (k : Fin 256) :
    val_main_v72 (F := Ideal) x0 x1 x3 (ix5 b h n r k)
      = Ideal.div (wt (score x0 x1 b (row n r) h) (sink x3 h) k) (den (score x0 x1 b (row n r) h) (sink x3 h)) := by
  rw [val_main_v72_apply, val_main_v71_apply, val_main_v70_apply, idx70, v61_apply, v69_apply]
  rfl

/-- The reference's result is the weighted mean, each weight divided first. -/
theorem v76_apply (b : Fin 2) (n r : Fin 128) (h : Fin 16) (d : Fin 64) :
    val_main_v76 (F := Ideal) x0 x1 x2 x3 (ix3 b (row n r) ⟨64 * h.val + d.val, by omega⟩)
      = softEach (score x0 x1 b (row n r) h) (sink x3 h) fun k => val_main_v17 (F := Ideal) x2 (ix5 b n k h d) := by
  have e : val_main_v76 (F := Ideal) x0 x1 x2 x3 (ix3 b (row n r) ⟨64 * h.val + d.val, by omega⟩)
      = val_main_v73 (F := Ideal) x0 x1 x2 x3 (ix5 b n h d r) := by
    rw [val_main_v76_apply, val_main_v75_apply, val_main_v74_apply]
    refine congrArg (val_main_v73 (F := Ideal) x0 x1 x2 x3) (funext fun a => Fin.ext ?_)
    have hb := b.isLt
    match a with
    | ⟨0, _⟩ => show ((b.val * 16384 + (128 * n.val + r.val)) * 1024 + (64 * h.val + d.val)) / 16777216 = b.val; omega
    | ⟨1, _⟩ => show ((b.val * 16384 + (128 * n.val + r.val)) * 1024 + (64 * h.val + d.val)) / 131072 % 128 = n.val; omega
    | ⟨2, _⟩ => show ((b.val * 16384 + (128 * n.val + r.val)) * 1024 + (64 * h.val + d.val)) / 64 % 16 = h.val; omega
    | ⟨3, _⟩ => show ((b.val * 16384 + (128 * n.val + r.val)) * 1024 + (64 * h.val + d.val)) % 64 = d.val; omega
    | ⟨4, _⟩ => show ((b.val * 16384 + (128 * n.val + r.val)) * 1024 + (64 * h.val + d.val)) / 1024 % 128 = r.val; omega
  rw [e, val_main_v73_apply]
  unfold softEach
  refine Finset.sum_congr rfl fun k _ => ?_
  have e1 : lidx_main_v73 (ix5 b n h d r) k = ix5 b n k h d := by
    funext a
    match a with
    | ⟨0, _⟩ => rfl
    | ⟨1, _⟩ => rfl
    | ⟨2, _⟩ => rfl
    | ⟨3, _⟩ => rfl
    | ⟨4, _⟩ => rfl
  have e2 : ridx_main_v73 (ix5 b n h d r) k = ix5 b h n r k := by
    funext a
    match a with
    | ⟨0, _⟩ => rfl
    | ⟨1, _⟩ => rfl
    | ⟨2, _⟩ => rfl
    | ⟨3, _⟩ => rfl
    | ⟨4, _⟩ => rfl
  rw [e1, e2, v72_apply]

/-! ## With numbers for queries and keys, and no sink infinite above -/

theorem log2e_pos : ∃ r : ℝ, 0 < r ∧ log2e = r := by
  refine ⟨_, ?_, show log2e = ((12102203 / 8388608 : ℝ) : EReal) from ?_⟩
  · norm_num
  · unfold log2e
    simp [Ideal.ofBits, Ideal.ieee]
    rw [← EReal.coe_mul]
    norm_num

variable {x0 x1 x3}

theorem sink_ne_top (hs : ∀ h, (x3 (ix1 h) : EReal) ≠ ⊤) (h : Fin 16) : sink x3 h ≠ ⊤ := by
  obtain ⟨r, hr, e⟩ := log2e_pos
  unfold sink
  rw [e]
  have h0 := hs h
  generalize (x3 (ix1 h) : EReal) = y at h0 ⊢
  induction y using EReal.rec with
  | bot => rw [EReal.bot_mul_coe_of_pos hr]; exact bot_ne_top
  | top => exact absurd rfl h0
  | coe y => rw [← EReal.coe_mul]; exact EReal.coe_ne_top _

theorem score_cases (hq : ∀ b p j, ∃ y : ℝ, (x0 (ix3 b p j) : EReal) = y) (hk : ∀ b p j, ∃ y : ℝ, (x1 (ix3 b p j) : EReal) = y)
    (b : Fin 2) (p : Fin 16384) (h : Fin 16) (k : Fin 256) :
    score x0 x1 b p h k ≠ ⊤ ∧ (sees (p.val / 128) (p.val % 128) k.val → score x0 x1 b p h k ≠ ⊥) := by
  choose q hq using hq
  choose kk hk using hk
  unfold score
  split
  · rename_i hs
    have e : (∑ d : Fin 64, x0 (ix3 b p ⟨64 * h.val + d.val, by omega⟩) * x1 (ix3 b (place (p.val / 128) k.val) ⟨128 * (h.val / 8) + 64 * (h.val % 2) + d.val, by omega⟩) : EReal)
        = ((∑ d : Fin 64, q b p ⟨64 * h.val + d.val, by omega⟩ * kk b (place (p.val / 128) k.val) ⟨128 * (h.val / 8) + 64 * (h.val % 2) + d.val, by omega⟩ : ℝ) : EReal) := by
      rw [← Flash.sum_coe]
      exact Finset.sum_congr rfl fun d _ => by rw [hq, hk, EReal.coe_mul]
    rw [e]
    exact ⟨EReal.coe_ne_top _, fun _ => EReal.coe_ne_bot _⟩
  · rename_i hs
    exact ⟨bot_ne_top, fun h => absurd h hs⟩

/-- The reference's result is `att`. -/
theorem att_eq (hq : ∀ b p j, ∃ y : ℝ, (x0 (ix3 b p j) : EReal) = y) (hk : ∀ b p j, ∃ y : ℝ, (x1 (ix3 b p j) : EReal) = y)
    (hs : ∀ h, (x3 (ix1 h) : EReal) ≠ ⊤) (b : Fin 2) (n r : Fin 128) (h : Fin 16) (d : Fin 64) :
    val_main_v76 (F := Ideal) x0 x1 x2 x3 (ix3 b (row n r) ⟨64 * h.val + d.val, by omega⟩) = att x0 x1 x2 x3 b (row n r) h d := by
  have hn : (row n r).val / 128 = n.val := by show (128 * n.val + r.val) / 128 = n.val; omega
  have hr : (row n r).val % 128 = r.val := by show (128 * n.val + r.val) % 128 = r.val; omega
  have hself : sees ((row n r).val / 128) ((row n r).val % 128) (⟨r.val + 128, by omega⟩ : Fin 256).val := by
    rw [hn, hr]
    exact ⟨⟨le_refl _, by show r.val < r.val + 128; omega⟩, Or.inr (by show 128 ≤ r.val + 128; omega)⟩
  rw [v76_apply, softEach_eq _ _ (fun k => (score_cases hq hk b (row n r) h k).1) (sink_ne_top hs h) _ ((score_cases hq hk b (row n r) h ⟨r.val + 128, by omega⟩).2 hself)]
  unfold att
  refine soft_congr _ _ _ _ fun k hb => ?_
  have hsee : sees n.val r.val k.val := by
    by_contra hc
    refine hb ?_
    unfold score
    rw [hn, hr, if_neg hc]
  rw [v17_apply x2 b n k h d hsee.2, hn]
  rfl

end Cert.Band.Ref

end
-- ==== Proof.Band.Claims.lean ====
/-
  The claims about the windowed attention call: the frames of the program, of its reading over the extended reals and of
  the reference; that the idealized program keeps the named constant; and the value claim.
-/
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Reference4Ideal
public import proofs.«01_k».proof.Proof.Gen.Reference4Ideal.Run
public import proofs.«01_k».proof.Proof.Gen.Pre_window_inputs
public import proofs.«01_k».proof.Proof.Band.Pre
public import proofs.«01_k».proof.Proof.Band.Ref
public import Idealize.ShloMosaic.Lib.Quiescent

@[expose] public section

noncomputable section

open Idealize.ShloMosaic Idealize.ShloMosaic.TcCoe Idealize.SL.Sem

namespace Cert.Band

/-- The program terminates with its arguments unchanged and nothing in flight. -/
theorem frame_p : Cert.quiescent_Kernel4 (hKernel4 := Cert.Kernel4.Gen.facts) (hPre_window_inputs := Cert.Pre_window_inputs.Gen.facts) :=
  fun m ρ _ => Cert.Kernel4.Gen.frame m ρ

/-- The same over the extended reals. -/
theorem frame_pi : Cert.quiescent_Kernel4Ideal (hKernel4Ideal := Cert.Kernel4Ideal.Gen.facts) (hPre_window_inputs := Cert.Pre_window_inputs.Gen.facts) :=
  fun m ρ _ => Cert.Kernel4Ideal.Gen.frame m ρ

/-- The reference terminates with its arguments unchanged; it has no semaphore. -/
theorem frame_ri : Cert.quiescent_Reference4Ideal (hReference4Ideal := Cert.Reference4Ideal.Gen.facts) (hPre_window_inputs := Cert.Pre_window_inputs.Gen.facts) :=
  fun m ρ _ =>
    (θ_run Cert.Reference4Ideal.defs _ _).mono (fun r h => ⟨fun c => (h c).2, sem_eq_zero_of_no_sems (by decide) r.2⟩)
      (Cert.Reference4Ideal.Value.run (F := Ideal) m ρ)

/-- The idealized program keeps the program's text but for the mask's constant, which is −∞. -/
theorem preserved : Cert.preserves_Kernel4_Kernel4Ideal :=
  IdealRules.named_const.statement Cert.Kernel4Ideal.κ "mask" .f32 0xF149F2CA#32 ⊥ rfl

/-- The value claim: on equal good arguments the kernel's result is the reference's, element by element. -/
theorem value : Cert.algebraic_Kernel4Ideal_Reference4Ideal (hKernel4Ideal := Cert.Kernel4Ideal.Gen.facts)
    (hReference4Ideal := Cert.Reference4Ideal.Gen.facts) (hPre_window_inputs := Cert.Pre_window_inputs.Gen.facts) := by
  intro m ρ m' ρ' hpre hagree
  refine ⟨fun c => result m c, ?_, ?_⟩
  · refine (θ_run Cert.Kernel4Ideal.defs _ _).mono (fun r h c => ⟨(h c).1.trans (final m c), (h c).2⟩)
      (Cert.Kernel4Ideal.Value.run_blocks (F := Ideal) m ρ)
  · refine (θ_run Cert.Reference4Ideal.defs _ _).mono (fun r h c => ⟨(h c).1.trans ?_, (h c).2⟩)
      (Cert.Reference4Ideal.Value.run (F := Ideal) m' ρ')
    obtain ⟨a0, a1, a2, a3⟩ := hagree c
    rw [Cert.Reference4Ideal.Read.val_main_v76_eq, a0, a1, a2, a3]
    funext i
    have h1 : (i 1).val < 16384 := (i 1).isLt
    have h2 : (i 2).val < 1024 := (i 2).isLt
    have hi : (i : Cert.Reference4Ideal.S2x16384x1024.Idx) = ix3 (i 0 : Fin 2) (Ref.row ⟨(i 1).val / 128, by omega⟩ ⟨(i 1).val % 128, by omega⟩)
        (⟨64 * (⟨(i 2).val / 64, by omega⟩ : Fin 16).val + (⟨(i 2).val % 64, by omega⟩ : Fin 64).val, by show 64 * ((i 2).val / 64) + (i 2).val % 64 < 1024; omega⟩ : Fin 1024) := funext fun a => by
      match a with
      | ⟨0, _⟩ => rfl
      | ⟨1, _⟩ => exact Fin.ext (by show (i 1).val = 128 * ((i 1).val / 128) + (i 1).val % 128; omega)
      | ⟨2, _⟩ => exact Fin.ext (by show (i 2).val = 64 * ((i 2).val / 64) + (i 2).val % 64; omega)
    have hr : Ref.row ⟨(i 1).val / 128, by omega⟩ ⟨(i 1).val % 128, by omega⟩ = (i 1 : Fin 16384) :=
      Fin.ext (by show 128 * ((i 1).val / 128) + (i 1).val % 128 = (i 1).val; omega)
    refine (congrArg _ hi).trans ((Ref.att_eq _ (Pre.queries (hpre c)) (Pre.keys (hpre c)) (Pre.sinks (hpre c)) (i 0) ⟨(i 1).val / 128, by omega⟩ ⟨(i 1).val % 128, by omega⟩
      ⟨(i 2).val / 64, by omega⟩ ⟨(i 2).val % 64, by omega⟩).trans ?_)
    rw [hr]
    rfl

end Cert.Band

end
-- ==== Proof.lean ====
/-
  The certificate: the claims about the flash attention's call of layer 0, about the call that ends each layer (the output
  projection with the feed-forward part), and about the projection and the windowed attention of layer 1.
-/
module

public import proofs.«01_k».proof.Defs
public import proofs.«01_k».proof.Proof.Flash.Claims
public import proofs.«01_k».proof.Proof.Mlp.Claims
public import proofs.«01_k».proof.Proof.Rope.Claims
public import proofs.«01_k».proof.Proof.Band.Claims

@[expose] public section

noncomputable section

/-- All the claims, with the facts each program's generated modules prove. -/
theorem Cert.Proof.claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_attention_inputs.Gen.facts, Cert.Pre_window_inputs.Gen.facts,
    Cert.Flash.frame_p, Cert.Flash.frame_pi, Cert.Flash.frame_ri,
    Cert.Mlp.frame_p, Cert.Mlp.frame_pi, Cert.Mlp.frame_ri,
    Cert.Rope.frame_p, Cert.Rope.frame_pi, Cert.Rope.frame_ri,
    Cert.Band.frame_p, Cert.Band.frame_pi, Cert.Band.frame_ri,
    Cert.Flash.preserved, Cert.Flash.value, trivial, Cert.Mlp.value, trivial, Cert.Rope.value,
    Cert.Band.preserved, Cert.Band.value⟩

end
